-- ==== Defs.lean ====
def Pre_Kernel [hPre_plan_ok : Cert.Pre_plan_ok.Facts] (m : (ℓ : Loc Cert.Kernel.nD Cert.Kernel.τ Cert.Kernel.sig) → Buf (Elt Bits) ℓ) : Prop :=
  ∀ c : Dev Cert.Kernel.nD,
    (Cert.Pre_plan_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).1 = (fun _ => 1#1)
    ∧ (Cert.Pre_plan_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.1 = (fun _ => 1#1)
    ∧ (Cert.Pre_plan_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.1 = (fun _ => 1#1)
    ∧ (Cert.Pre_plan_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.1 = (fun _ => 1#1)
    ∧ (Cert.Pre_plan_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.2 = (fun _ => 1#1)

def Pre_KernelIdeal [hPre_plan_ok : Cert.Pre_plan_ok.Facts] (m : (ℓ : Loc Cert.KernelIdeal.nD Cert.KernelIdeal.τ Cert.KernelIdeal.sig) → Buf (Elt Ideal) ℓ) : Prop :=
  ∀ c : Dev Cert.KernelIdeal.nD,
    (Cert.Pre_plan_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_plan_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_plan_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_plan_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_plan_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal [hPre_plan_ok : Cert.Pre_plan_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plan_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_plan_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_plan_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_plan_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_plan_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_plan_ok6 : Cert.Pre_plan_ok6.Facts] (m : (ℓ : Loc Cert.Kernel6.nD Cert.Kernel6.τ Cert.Kernel6.sig) → Buf (Elt Bits) ℓ) : Prop :=
  ∀ c : Dev Cert.Kernel6.nD,
    (Cert.Pre_plan_ok6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).1 = (fun _ => 1#1)
    ∧ (Cert.Pre_plan_ok6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).2.1 = (fun _ => 1#1)
    ∧ (Cert.Pre_plan_ok6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).2.2.1 = (fun _ => 1#1)
    ∧ (Cert.Pre_plan_ok6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).2.2.2.1 = (fun _ => 1#1)
    ∧ (Cert.Pre_plan_ok6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).2.2.2.2 = (fun _ => 1#1)

def Pre_Kernel6Ideal [hPre_plan_ok6 : Cert.Pre_plan_ok6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_plan_ok6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).1 = (fun _ => 1#1)
    ∧ (Cert.Pre_plan_ok6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.1 = (fun _ => 1#1)
    ∧ (Cert.Pre_plan_ok6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.1 = (fun _ => 1#1)
    ∧ (Cert.Pre_plan_ok6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.1 = (fun _ => 1#1)
    ∧ (Cert.Pre_plan_ok6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2 = (fun _ => 1#1)

def Pre_Reference6Ideal [hPre_plan_ok6 : Cert.Pre_plan_ok6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_plan_ok6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).1 = (fun _ => 1#1)
    ∧ (Cert.Pre_plan_ok6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.1 = (fun _ => 1#1)
    ∧ (Cert.Pre_plan_ok6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.1 = (fun _ => 1#1)
    ∧ (Cert.Pre_plan_ok6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.1 = (fun _ => 1#1)
    ∧ (Cert.Pre_plan_ok6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] [hPre_plan_ok : Cert.Pre_plan_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_plan_ok : Cert.Pre_plan_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_plan_ok : Cert.Pre_plan_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] [hPre_plan_ok6 : Cert.Pre_plan_ok6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] [hPre_plan_ok6 : Cert.Pre_plan_ok6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] [hPre_plan_ok6 : Cert.Pre_plan_ok6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_on_rows_with_a_token [hKernelIdeal : Cert.KernelIdeal.Facts] [hReferenceIdeal : Cert.ReferenceIdeal.Facts] [hPre_plan_ok : Cert.Pre_plan_ok.Facts] [hOn_rows_with_a_token : Cert.On_rows_with_a_token.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![49152, 1024]⟩ : Shape).Idx, (Cert.On_rows_with_a_token.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![49152, 1024]⟩ : Shape).Idx, (Cert.On_rows_with_a_token.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.ReferenceIdeal.nD Cert.ReferenceIdeal.τ).loc Cert.ReferenceIdeal.main_v18) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_on_rows_with_a_token6 [hKernel6Ideal : Cert.Kernel6Ideal.Facts] [hReference6Ideal : Cert.Reference6Ideal.Facts] [hPre_plan_ok6 : Cert.Pre_plan_ok6.Facts] [hOn_rows_with_a_token6 : Cert.On_rows_with_a_token6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![49152, 1024]⟩ : Shape).Idx, (Cert.On_rows_with_a_token6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) i = 1#1 → r.2.mem ((c.tc : Thread Cert.Kernel6Ideal.nD Cert.Kernel6Ideal.τ).loc Cert.Kernel6Ideal.main_v0) i = v0 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![49152, 1024]⟩ : Shape).Idx, (Cert.On_rows_with_a_token6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) i = 1#1 → r.2.mem ((c.tc : Thread Cert.Reference6Ideal.nD Cert.Reference6Ideal.τ).loc Cert.Reference6Ideal.main_v19) i = v0 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v22_0)) (v1 : (c : Dev Cert.Kernel7Ideal.nD) → Buf (Elt Ideal) ((c.tc : Thread Cert.Kernel7Ideal.nD Cert.Kernel7Ideal.τ).loc Cert.Kernel7Ideal.main_v22_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22_0) = v0 c
          ∧ r.2.mem ((c.tc : Thread Cert.Kernel7Ideal.nD Cert.Kernel7Ideal.τ).loc Cert.Kernel7Ideal.main_v22_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v20) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_plan_ok : Cert.Pre_plan_ok.Facts) (hPre_plan_ok6 : Cert.Pre_plan_ok6.Facts) (hOn_rows_with_a_token : Cert.On_rows_with_a_token.Facts) (hOn_rows_with_a_token6 : Cert.On_rows_with_a_token6.Facts),
    quiescent_Kernel (hKernel := hKernel) (hPre_plan_ok := hPre_plan_ok)
    ∧ quiescent_KernelIdeal (hKernelIdeal := hKernelIdeal) (hPre_plan_ok := hPre_plan_ok)
    ∧ quiescent_ReferenceIdeal (hReferenceIdeal := hReferenceIdeal) (hPre_plan_ok := hPre_plan_ok)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_plan_ok6 := hPre_plan_ok6)
    ∧ quiescent_Kernel6Ideal (hKernel6Ideal := hKernel6Ideal) (hPre_plan_ok6 := hPre_plan_ok6)
    ∧ quiescent_Reference6Ideal (hReference6Ideal := hReference6Ideal) (hPre_plan_ok6 := hPre_plan_ok6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_on_rows_with_a_token (hKernelIdeal := hKernelIdeal) (hReferenceIdeal := hReferenceIdeal) (hPre_plan_ok := hPre_plan_ok) (hOn_rows_with_a_token := hOn_rows_with_a_token)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_rows_with_a_token6 (hKernel6Ideal := hKernel6Ideal) (hReference6Ideal := hReference6Ideal) (hPre_plan_ok6 := hPre_plan_ok6) (hOn_rows_with_a_token6 := hOn_rows_with_a_token6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== On_rows_with_a_token.lean ====
abbrev S96 : Shape := ⟨1, ![96]⟩
abbrev S1 : Shape := ⟨1, ![1]⟩
abbrev S786432x128 : Shape := ⟨2, ![786432, 128]⟩
abbrev S32x4096x1024 : Shape := ⟨3, ![32, 4096, 1024]⟩
abbrev S512 : Shape := ⟨1, ![512]⟩
abbrev S1x512 : Shape := ⟨2, ![1, 512]⟩
abbrev S96x1 : Shape := ⟨2, ![96, 1]⟩
abbrev S96x512 : Shape := ⟨2, ![96, 512]⟩
abbrev S49152x1 : Shape := ⟨2, ![49152, 1]⟩
abbrev S49152x1024 : Shape := ⟨2, ![49152, 1024]⟩

class Facts : Prop where
  bcast_S512_S1x512_1 : S512.BroadcastsInDim S1x512 (![1] : Fin 1 → Fin S1x512.rank)
  bcast_S96_S96x1_0 : S96.BroadcastsInDim S96x1 (![0] : Fin 1 → Fin S96x1.rank)
  bcast_S1x512_S96x512_0_1 : S1x512.BroadcastsInDim S96x512 (![0, 1] : Fin 2 → Fin S96x512.rank)
  bcast_S96x1_S96x512_0_1 : S96x1.BroadcastsInDim S96x512 (![0, 1] : Fin 2 → Fin S96x512.rank)
  shapeCasts_S96x512_S49152x1 : S96x512.ShapeCasts S49152x1
  bcast_S49152x1_S49152x1024_0_1 : S49152x1.BroadcastsInDim S49152x1024 (![0, 1] : Fin 2 → Fin S49152x1024.rank)

variable [Facts]

def fn {F : FTy → Type} [FloatOps F] (main_arg0 : IVec S96 32) (main_arg1 : IVec S96 32) (main_arg2 : IVec S96 32) (main_arg3 : IVec S96 32) (main_arg4 : IVec S1 32) (main_arg5 : IVec S96 32) (main_arg6 : IVec S786432x128 32) (main_arg7 : FVec F S32x4096x1024 .f32) : IVec S49152x1024 1 :=
  let main_v0 : IVec S512 32 := iotaInDim S512 32 0
  let main_v1 : IVec S1x512 32 := broadcastInDim S1x512 ![1] bcast_S512_S1x512_1 main_v0
  let main_v2 : IVec S96x1 32 := broadcastInDim S96x1 ![0] bcast_S96_S96x1_0 main_arg5
  let main_v3 : IVec S96x512 32 := broadcastInDim S96x512 ![0, 1] bcast_S1x512_S96x512_0_1 main_v1
  let main_v4 : IVec S96x512 32 := broadcastInDim S96x512 ![0, 1] bcast_S96x1_S96x512_0_1 main_v2
  let main_v5 : IVec S96x512 1 := cmpi .slt main_v3 main_v4
  let main_v6 : IVec S49152x1 1 := shapeCast S49152x1 main_v5 shapeCasts_S96x512_S49152x1
  let main_v7 : IVec S49152x1024 1 := broadcastInDim S49152x1024 ![0, 1] bcast_S49152x1_S49152x1024_0_1 main_v6
  main_v7
-- ==== On_rows_with_a_token6.lean ====
abbrev S96 : Shape := ⟨1, ![96]⟩
abbrev S1 : Shape := ⟨1, ![1]⟩
abbrev S786432x128 : Shape := ⟨2, ![786432, 128]⟩
abbrev S32x4096x1024 : Shape := ⟨3, ![32, 4096, 1024]⟩
abbrev S49152x1024 : Shape := ⟨2, ![49152, 1024]⟩
abbrev S512 : Shape := ⟨1, ![512]⟩
abbrev S1x512 : Shape := ⟨2, ![1, 512]⟩
abbrev S96x1 : Shape := ⟨2, ![96, 1]⟩
abbrev S96x512 : Shape := ⟨2, ![96, 512]⟩
abbrev S49152x1 : Shape := ⟨2, ![49152, 1]⟩

class Facts : Prop where
  bcast_S512_S1x512_1 : S512.BroadcastsInDim S1x512 (![1] : Fin 1 → Fin S1x512.rank)
  bcast_S96_S96x1_0 : S96.BroadcastsInDim S96x1 (![0] : Fin 1 → Fin S96x1.rank)
  bcast_S1x512_S96x512_0_1 : S1x512.BroadcastsInDim S96x512 (![0, 1] : Fin 2 → Fin S96x512.rank)
  bcast_S96x1_S96x512_0_1 : S96x1.BroadcastsInDim S96x512 (![0, 1] : Fin 2 → Fin S96x512.rank)
  shapeCasts_S96x512_S49152x1 : S96x512.ShapeCasts S49152x1
  bcast_S49152x1_S49152x1024_0_1 : S49152x1.BroadcastsInDim S49152x1024 (![0, 1] : Fin 2 → Fin S49152x1024.rank)

variable [Facts]

def fn {F : FTy → Type} [FloatOps F] (main_arg0 : IVec S96 32) (main_arg1 : IVec S96 32) (main_arg2 : IVec S96 32) (main_arg3 : IVec S96 32) (main_arg4 : IVec S1 32) (main_arg5 : IVec S96 32) (main_arg6 : IVec S786432x128 32) (main_arg7 : FVec F S32x4096x1024 .f32) (main_arg8 : FVec F S49152x1024 .bf16) : IVec S49152x1024 1 :=
  let main_v0 : IVec S512 32 := iotaInDim S512 32 0
  let main_v1 : IVec S1x512 32 := broadcastInDim S1x512 ![1] bcast_S512_S1x512_1 main_v0
  let main_v2 : IVec S96x1 32 := broadcastInDim S96x1 ![0] bcast_S96_S96x1_0 main_arg5
  let main_v3 : IVec S96x512 32 := broadcastInDim S96x512 ![0, 1] bcast_S1x512_S96x512_0_1 main_v1
  let main_v4 : IVec S96x512 32 := broadcastInDim S96x512 ![0, 1] bcast_S96x1_S96x512_0_1 main_v2
  let main_v5 : IVec S96x512 1 := cmpi .slt main_v3 main_v4
  let main_v6 : IVec S49152x1 1 := shapeCast S49152x1 main_v5 shapeCasts_S96x512_S49152x1
  let main_v7 : IVec S49152x1024 1 := broadcastInDim S49152x1024 ![0, 1] bcast_S49152x1_S49152x1024_0_1 main_v6
  main_v7
-- ==== Pre_plan_ok.lean ====
abbrev S96 : Shape := ⟨1, ![96]⟩
abbrev S1 : Shape := ⟨1, ![1]⟩
abbrev S786432x128 : Shape := ⟨2, ![786432, 128]⟩
abbrev S32x4096x1024 : Shape := ⟨3, ![32, 4096, 1024]⟩
abbrev S_ : Shape := ⟨0, ![]⟩
abbrev S95 : Shape := ⟨1, ![95]⟩

class Facts : Prop where
  bcast_S_S96 : S_.BroadcastsInDim S96 (![] : Fin 0 → Fin S96.rank)
  bcast_S1_S96_0 : S1.BroadcastsInDim S96 (![0] : Fin 1 → Fin S96.rank)
  slices_S96_S95_1 : S96.Slices ![1] S95
  bcast_S_S95 : S_.BroadcastsInDim S95 (![] : Fin 0 → Fin S95.rank)
  slices_S96_S95_0 : S96.Slices ![0] S95
  slices_S96_S1_0 : S96.Slices ![0] S1
  bcast_S_S1 : S_.BroadcastsInDim S1 (![] : Fin 0 → Fin S1.rank)
  slices_S96_S1_95 : S96.Slices ![95] S1

variable [Facts]

def fn_where {F : FTy → Type} [FloatOps F] (arg0 : IVec S95 1) (arg1 : IVec S95 1) (arg2 : IVec S95 1) : IVec S95 1 :=
  let v0 : IVec S95 1 := select arg0 arg1 arg2
  v0

def fn_part3 {F : FTy → Type} [FloatOps F] (main_arg1 : IVec S96 32) (main_arg2 : IVec S96 32) (main_arg3 : IVec S96 32) (main_arg4 : IVec S1 32) (main_v35 : IVec S96 1) (main_v38 : IVec S95 1) (main_v47 : IVec S95 1) (main_v58 : IVec S95 1) : IVec S96 1 × IVec S95 1 × IVec S1 1 × IVec S1 1 × IVec S1 1 :=
  let main_v59 : IVec S95 1 := fn_where (F := F) main_v38 main_v47 main_v58
  let main_v60 : IVec S1 32 := (extractStridedSlice S1 ![0] · slices_S96_S1_0) main_arg1
  let main_c_12 : IVec S_ 32 := constantI S_ 32 1#32
  let main_v61 : IVec S1 32 := broadcastInDim S1 ![] bcast_S_S1 main_c_12
  let main_v62 : IVec S1 1 := cmpi .eq main_v60 main_v61
  let main_v63 : IVec S1 32 := (extractStridedSlice S1 ![0] · slices_S96_S1_0) main_arg2
  let main_c_13 : IVec S_ 32 := constantI S_ 32 0#32
  let main_v64 : IVec S1 32 := broadcastInDim S1 ![] bcast_S_S1 main_c_13
  let main_v65 : IVec S1 1 := cmpi .eq main_v63 main_v64
  let main_v66 : IVec S1 1 := andi main_v62 main_v65
  let main_v67 : IVec S1 32 := (extractStridedSlice S1 ![95] · slices_S96_S1_95) main_arg3
  let main_c_14 : IVec S_ 32 := constantI S_ 32 4294967295#32
  let main_v68 : IVec S1 32 := broadcastInDim S1 ![] bcast_S_S1 main_c_14
  let main_v69 : IVec S1 1 := cmpi .eq main_v67 main_v68
  let main_c_15 : IVec S_ 32 := constantI S_ 32 1#32
  let main_v70 : IVec S1 32 := broadcastInDim S1 ![] bcast_S_S1 main_c_15
  let main_v71 : IVec S1 1 := cmpi .sge main_arg4 main_v70
  let main_c_16 : IVec S_ 32 := constantI S_ 32 96#32
  let main_v72 : IVec S1 32 := broadcastInDim S1 ![] bcast_S_S1 main_c_16
  let main_v73 : IVec S1 1 := cmpi .sle main_arg4 main_v72
  let main_v74 : IVec S1 1 := andi main_v71 main_v73
  (main_v35, main_v59, main_v66, main_v69, main_v74)

def fn_part2 {F : FTy → Type} [FloatOps F] (main_arg0 : IVec S96 32) (main_arg1 : IVec S96 32) (main_arg2 : IVec S96 32) (main_arg3 : IVec S96 32) (main_arg4 : IVec S1 32) (main_v35 : IVec S96 1) (main_v36 : IVec S95 32) : IVec S96 1 × IVec S95 1 × IVec S1 1 × IVec S1 1 × IVec S1 1 :=
  let main_c_10 : IVec S_ 32 := constantI S_ 32 1#32
  let main_v37 : IVec S95 32 := broadcastInDim S95 ![] bcast_S_S95 main_c_10
  let main_v38 : IVec S95 1 := cmpi .eq main_v36 main_v37
  let main_v39 : IVec S95 32 := (extractStridedSlice S95 ![1] · slices_S96_S95_1) main_arg0
  let main_v40 : IVec S95 32 := (extractStridedSlice S95 ![0] · slices_S96_S95_0) main_arg3
  let main_v41 : IVec S95 1 := cmpi .eq main_v39 main_v40
  let main_v42 : IVec S95 32 := (extractStridedSlice S95 ![1] · slices_S96_S95_1) main_arg2
  let main_v43 : IVec S95 32 := (extractStridedSlice S95 ![0] · slices_S96_S95_0) main_arg2
  let main_c_11 : IVec S_ 32 := constantI S_ 32 1#32
  let main_v44 : IVec S95 32 := broadcastInDim S95 ![] bcast_S_S95 main_c_11
  let main_v45 : IVec S95 32 := subi main_v44 main_v43
  let main_v46 : IVec S95 1 := cmpi .eq main_v42 main_v45
  let main_v47 : IVec S95 1 := andi main_v41 main_v46
  let main_v48 : IVec S95 32 := (extractStridedSlice S95 ![1] · slices_S96_S95_1) main_arg0
  let main_v49 : IVec S95 32 := (extractStridedSlice S95 ![0] · slices_S96_S95_0) main_arg0
  let main_v50 : IVec S95 1 := cmpi .eq main_v48 main_v49
  let main_v51 : IVec S95 32 := (extractStridedSlice S95 ![1] · slices_S96_S95_1) main_arg2
  let main_v52 : IVec S95 32 := (extractStridedSlice S95 ![0] · slices_S96_S95_0) main_arg2
  let main_v53 : IVec S95 1 := cmpi .eq main_v51 main_v52
  let main_v54 : IVec S95 1 := andi main_v50 main_v53
  let main_v55 : IVec S95 32 := (extractStridedSlice S95 ![1] · slices_S96_S95_1) main_arg3
  let main_v56 : IVec S95 32 := (extractStridedSlice S95 ![0] · slices_S96_S95_0) main_arg3
  let main_v57 : IVec S95 1 := cmpi .eq main_v55 main_v56
  let main_v58 : IVec S95 1 := andi main_v54 main_v57
  fn_part3 (F := F) main_arg1 main_arg2 main_arg3 main_arg4 main_v35 main_v38 main_v47 main_v58

def fn_part1 {F : FTy → Type} [FloatOps F] (main_arg0 : IVec S96 32) (main_arg1 : IVec S96 32) (main_arg2 : IVec S96 32) (main_arg3 : IVec S96 32) (main_arg4 : IVec S1 32) (main_arg5 : IVec S96 32) (main_v0 : IVec S96 32) (main_v17 : IVec S96 1) : IVec S96 1 × IVec S95 1 × IVec S1 1 × IVec S1 1 × IVec S1 1 :=
  let main_c_5 : IVec S_ 32 := constantI S_ 32 4294967295#32
  let main_v18 : IVec S96 32 := broadcastInDim S96 ![] bcast_S_S96 main_c_5
  let main_v19 : IVec S96 1 := cmpi .sge main_arg3 main_v18
  let main_v20 : IVec S96 1 := andi main_v17 main_v19
  let main_c_6 : IVec S_ 32 := constantI S_ 32 32#32
  let main_v21 : IVec S96 32 := broadcastInDim S96 ![] bcast_S_S96 main_c_6
  let main_v22 : IVec S96 1 := cmpi .slt main_arg3 main_v21
  let main_v23 : IVec S96 1 := andi main_v20 main_v22
  let main_c_7 : IVec S_ 32 := constantI S_ 32 0#32
  let main_v24 : IVec S96 32 := broadcastInDim S96 ![] bcast_S_S96 main_c_7
  let main_v25 : IVec S96 1 := cmpi .sge main_arg5 main_v24
  let main_v26 : IVec S96 1 := andi main_v23 main_v25
  let main_c_8 : IVec S_ 32 := constantI S_ 32 512#32
  let main_v27 : IVec S96 32 := broadcastInDim S96 ![] bcast_S_S96 main_c_8
  let main_v28 : IVec S96 1 := cmpi .sle main_arg5 main_v27
  let main_v29 : IVec S96 1 := andi main_v26 main_v28
  let main_v30 : IVec S96 32 := broadcastInDim S96 ![0] bcast_S1_S96_0 main_arg4
  let main_v31 : IVec S96 1 := cmpi .slt main_v0 main_v30
  let main_c_9 : IVec S_ 32 := constantI S_ 32 0#32
  let main_v32 : IVec S96 32 := broadcastInDim S96 ![] bcast_S_S96 main_c_9
  let main_v33 : IVec S96 1 := cmpi .eq main_arg5 main_v32
  let main_v34 : IVec S96 1 := ori main_v31 main_v33
  let main_v35 : IVec S96 1 := andi main_v29 main_v34
  let main_v36 : IVec S95 32 := (extractStridedSlice S95 ![1] · slices_S96_S95_1) main_arg1
  fn_part2 (F := F) main_arg0 main_arg1 main_arg2 main_arg3 main_arg4 main_v35 main_v36

def fn {F : FTy → Type} [FloatOps F] (main_arg0 : IVec S96 32) (main_arg1 : IVec S96 32) (main_arg2 : IVec S96 32) (main_arg3 : IVec S96 32) (main_arg4 : IVec S1 32) (main_arg5 : IVec S96 32) (main_arg6 : IVec S786432x128 32) (main_arg7 : FVec F S32x4096x1024 .f32) : IVec S96 1 × IVec S95 1 × IVec S1 1 × IVec S1 1 × IVec S1 1 :=
  let main_v0 : IVec S96 32 := iotaInDim S96 32 0
  let main_c : IVec S_ 32 := constantI S_ 32 0#32
  let main_v1 : IVec S96 32 := broadcastInDim S96 ![] bcast_S_S96 main_c
  let main_v2 : IVec S96 1 := cmpi .sge main_arg0 main_v1
  let main_c_0 : IVec S_ 32 := constantI S_ 32 32#32
  let main_v3 : IVec S96 32 := broadcastInDim S96 ![] bcast_S_S96 main_c_0
  let main_v4 : IVec S96 1 := cmpi .slt main_arg0 main_v3
  let main_v5 : IVec S96 1 := andi main_v2 main_v4
  let main_c_1 : IVec S_ 32 := constantI S_ 32 0#32
  let main_v6 : IVec S96 32 := broadcastInDim S96 ![] bcast_S_S96 main_c_1
  let main_v7 : IVec S96 1 := cmpi .eq main_arg1 main_v6
  let main_c_2 : IVec S_ 32 := constantI S_ 32 1#32
  let main_v8 : IVec S96 32 := broadcastInDim S96 ![] bcast_S_S96 main_c_2
  let main_v9 : IVec S96 1 := cmpi .eq main_arg1 main_v8
  let main_v10 : IVec S96 1 := ori main_v7 main_v9
  let main_v11 : IVec S96 1 := andi main_v5 main_v10
  let main_c_3 : IVec S_ 32 := constantI S_ 32 0#32
  let main_v12 : IVec S96 32 := broadcastInDim S96 ![] bcast_S_S96 main_c_3
  let main_v13 : IVec S96 1 := cmpi .eq main_arg2 main_v12
  let main_c_4 : IVec S_ 32 := constantI S_ 32 1#32
  let main_v14 : IVec S96 32 := broadcastInDim S96 ![] bcast_S_S96 main_c_4
  let main_v15 : IVec S96 1 := cmpi .eq main_arg2 main_v14
  let main_v16 : IVec S96 1 := ori main_v13 main_v15
  let main_v17 : IVec S96 1 := andi main_v11 main_v16
  fn_part1 (F := F) main_arg0 main_arg1 main_arg2 main_arg3 main_arg4 main_arg5 main_v0 main_v17
-- ==== Pre_plan_ok6.lean ====
abbrev S96 : Shape := ⟨1, ![96]⟩
abbrev S1 : Shape := ⟨1, ![1]⟩
abbrev S786432x128 : Shape := ⟨2, ![786432, 128]⟩
abbrev S32x4096x1024 : Shape := ⟨3, ![32, 4096, 1024]⟩
abbrev S49152x1024 : Shape := ⟨2, ![49152, 1024]⟩
abbrev S_ : Shape := ⟨0, ![]⟩
abbrev S95 : Shape := ⟨1, ![95]⟩

class Facts : Prop where
  bcast_S_S96 : S_.BroadcastsInDim S96 (![] : Fin 0 → Fin S96.rank)
  bcast_S1_S96_0 : S1.BroadcastsInDim S96 (![0] : Fin 1 → Fin S96.rank)
  slices_S96_S95_1 : S96.Slices ![1] S95
  bcast_S_S95 : S_.BroadcastsInDim S95 (![] : Fin 0 → Fin S95.rank)
  slices_S96_S95_0 : S96.Slices ![0] S95
  slices_S96_S1_0 : S96.Slices ![0] S1
  bcast_S_S1 : S_.BroadcastsInDim S1 (![] : Fin 0 → Fin S1.rank)
  slices_S96_S1_95 : S96.Slices ![95] S1

variable [Facts]

def fn_where {F : FTy → Type} [FloatOps F] (arg0 : IVec S95 1) (arg1 : IVec S95 1) (arg2 : IVec S95 1) : IVec S95 1 :=
  let v0 : IVec S95 1 := select arg0 arg1 arg2
  v0

def fn_part3 {F : FTy → Type} [FloatOps F] (main_arg1 : IVec S96 32) (main_arg2 : IVec S96 32) (main_arg3 : IVec S96 32) (main_arg4 : IVec S1 32) (main_v35 : IVec S96 1) (main_v38 : IVec S95 1) (main_v47 : IVec S95 1) (main_v58 : IVec S95 1) : IVec S96 1 × IVec S95 1 × IVec S1 1 × IVec S1 1 × IVec S1 1 :=
  let main_v59 : IVec S95 1 := fn_where (F := F) main_v38 main_v47 main_v58
  let main_v60 : IVec S1 32 := (extractStridedSlice S1 ![0] · slices_S96_S1_0) main_arg1
  let main_c_12 : IVec S_ 32 := constantI S_ 32 1#32
  let main_v61 : IVec S1 32 := broadcastInDim S1 ![] bcast_S_S1 main_c_12
  let main_v62 : IVec S1 1 := cmpi .eq main_v60 main_v61
  let main_v63 : IVec S1 32 := (extractStridedSlice S1 ![0] · slices_S96_S1_0) main_arg2
  let main_c_13 : IVec S_ 32 := constantI S_ 32 0#32
  let main_v64 : IVec S1 32 := broadcastInDim S1 ![] bcast_S_S1 main_c_13
  let main_v65 : IVec S1 1 := cmpi .eq main_v63 main_v64
  let main_v66 : IVec S1 1 := andi main_v62 main_v65
  let main_v67 : IVec S1 32 := (extractStridedSlice S1 ![95] · slices_S96_S1_95) main_arg3
  let main_c_14 : IVec S_ 32 := constantI S_ 32 4294967295#32
  let main_v68 : IVec S1 32 := broadcastInDim S1 ![] bcast_S_S1 main_c_14
  let main_v69 : IVec S1 1 := cmpi .eq main_v67 main_v68
  let main_c_15 : IVec S_ 32 := constantI S_ 32 1#32
  let main_v70 : IVec S1 32 := broadcastInDim S1 ![] bcast_S_S1 main_c_15
  let main_v71 : IVec S1 1 := cmpi .sge main_arg4 main_v70
  let main_c_16 : IVec S_ 32 := constantI S_ 32 96#32
  let main_v72 : IVec S1 32 := broadcastInDim S1 ![] bcast_S_S1 main_c_16
  let main_v73 : IVec S1 1 := cmpi .sle main_arg4 main_v72
  let main_v74 : IVec S1 1 := andi main_v71 main_v73
  (main_v35, main_v59, main_v66, main_v69, main_v74)

def fn_part2 {F : FTy → Type} [FloatOps F] (main_arg0 : IVec S96 32) (main_arg1 : IVec S96 32) (main_arg2 : IVec S96 32) (main_arg3 : IVec S96 32) (main_arg4 : IVec S1 32) (main_v35 : IVec S96 1) (main_v36 : IVec S95 32) : IVec S96 1 × IVec S95 1 × IVec S1 1 × IVec S1 1 × IVec S1 1 :=
  let main_c_10 : IVec S_ 32 := constantI S_ 32 1#32
  let main_v37 : IVec S95 32 := broadcastInDim S95 ![] bcast_S_S95 main_c_10
  let main_v38 : IVec S95 1 := cmpi .eq main_v36 main_v37
  let main_v39 : IVec S95 32 := (extractStridedSlice S95 ![1] · slices_S96_S95_1) main_arg0
  let main_v40 : IVec S95 32 := (extractStridedSlice S95 ![0] · slices_S96_S95_0) main_arg3
  let main_v41 : IVec S95 1 := cmpi .eq main_v39 main_v40
  let main_v42 : IVec S95 32 := (extractStridedSlice S95 ![1] · slices_S96_S95_1) main_arg2
  let main_v43 : IVec S95 32 := (extractStridedSlice S95 ![0] · slices_S96_S95_0) main_arg2
  let main_c_11 : IVec S_ 32 := constantI S_ 32 1#32
  let main_v44 : IVec S95 32 := broadcastInDim S95 ![] bcast_S_S95 main_c_11
  let main_v45 : IVec S95 32 := subi main_v44 main_v43
  let main_v46 : IVec S95 1 := cmpi .eq main_v42 main_v45
  let main_v47 : IVec S95 1 := andi main_v41 main_v46
  let main_v48 : IVec S95 32 := (extractStridedSlice S95 ![1] · slices_S96_S95_1) main_arg0
  let main_v49 : IVec S95 32 := (extractStridedSlice S95 ![0] · slices_S96_S95_0) main_arg0
  let main_v50 : IVec S95 1 := cmpi .eq main_v48 main_v49
  let main_v51 : IVec S95 32 := (extractStridedSlice S95 ![1] · slices_S96_S95_1) main_arg2
  let main_v52 : IVec S95 32 := (extractStridedSlice S95 ![0] · slices_S96_S95_0) main_arg2
  let main_v53 : IVec S95 1 := cmpi .eq main_v51 main_v52
  let main_v54 : IVec S95 1 := andi main_v50 main_v53
  let main_v55 : IVec S95 32 := (extractStridedSlice S95 ![1] · slices_S96_S95_1) main_arg3
  let main_v56 : IVec S95 32 := (extractStridedSlice S95 ![0] · slices_S96_S95_0) main_arg3
  let main_v57 : IVec S95 1 := cmpi .eq main_v55 main_v56
  let main_v58 : IVec S95 1 := andi main_v54 main_v57
  fn_part3 (F := F) main_arg1 main_arg2 main_arg3 main_arg4 main_v35 main_v38 main_v47 main_v58

def fn_part1 {F : FTy → Type} [FloatOps F] (main_arg0 : IVec S96 32) (main_arg1 : IVec S96 32) (main_arg2 : IVec S96 32) (main_arg3 : IVec S96 32) (main_arg4 : IVec S1 32) (main_arg5 : IVec S96 32) (main_v0 : IVec S96 32) (main_v17 : IVec S96 1) : IVec S96 1 × IVec S95 1 × IVec S1 1 × IVec S1 1 × IVec S1 1 :=
  let main_c_5 : IVec S_ 32 := constantI S_ 32 4294967295#32
  let main_v18 : IVec S96 32 := broadcastInDim S96 ![] bcast_S_S96 main_c_5
  let main_v19 : IVec S96 1 := cmpi .sge main_arg3 main_v18
  let main_v20 : IVec S96 1 := andi main_v17 main_v19
  let main_c_6 : IVec S_ 32 := constantI S_ 32 32#32
  let main_v21 : IVec S96 32 := broadcastInDim S96 ![] bcast_S_S96 main_c_6
  let main_v22 : IVec S96 1 := cmpi .slt main_arg3 main_v21
  let main_v23 : IVec S96 1 := andi main_v20 main_v22
  let main_c_7 : IVec S_ 32 := constantI S_ 32 0#32
  let main_v24 : IVec S96 32 := broadcastInDim S96 ![] bcast_S_S96 main_c_7
  let main_v25 : IVec S96 1 := cmpi .sge main_arg5 main_v24
  let main_v26 : IVec S96 1 := andi main_v23 main_v25
  let main_c_8 : IVec S_ 32 := constantI S_ 32 512#32
  let main_v27 : IVec S96 32 := broadcastInDim S96 ![] bcast_S_S96 main_c_8
  let main_v28 : IVec S96 1 := cmpi .sle main_arg5 main_v27
  let main_v29 : IVec S96 1 := andi main_v26 main_v28
  let main_v30 : IVec S96 32 := broadcastInDim S96 ![0] bcast_S1_S96_0 main_arg4
  let main_v31 : IVec S96 1 := cmpi .slt main_v0 main_v30
  let main_c_9 : IVec S_ 32 := constantI S_ 32 0#32
  let main_v32 : IVec S96 32 := broadcastInDim S96 ![] bcast_S_S96 main_c_9
  let main_v33 : IVec S96 1 := cmpi .eq main_arg5 main_v32
  let main_v34 : IVec S96 1 := ori main_v31 main_v33
  let main_v35 : IVec S96 1 := andi main_v29 main_v34
  let main_v36 : IVec S95 32 := (extractStridedSlice S95 ![1] · slices_S96_S95_1) main_arg1
  fn_part2 (F := F) main_arg0 main_arg1 main_arg2 main_arg3 main_arg4 main_v35 main_v36

def fn {F : FTy → Type} [FloatOps F] (main_arg0 : IVec S96 32) (main_arg1 : IVec S96 32) (main_arg2 : IVec S96 32) (main_arg3 : IVec S96 32) (main_arg4 : IVec S1 32) (main_arg5 : IVec S96 32) (main_arg6 : IVec S786432x128 32) (main_arg7 : FVec F S32x4096x1024 .f32) (main_arg8 : FVec F S49152x1024 .bf16) : IVec S96 1 × IVec S95 1 × IVec S1 1 × IVec S1 1 × IVec S1 1 :=
  let main_v0 : IVec S96 32 := iotaInDim S96 32 0
  let main_c : IVec S_ 32 := constantI S_ 32 0#32
  let main_v1 : IVec S96 32 := broadcastInDim S96 ![] bcast_S_S96 main_c
  let main_v2 : IVec S96 1 := cmpi .sge main_arg0 main_v1
  let main_c_0 : IVec S_ 32 := constantI S_ 32 32#32
  let main_v3 : IVec S96 32 := broadcastInDim S96 ![] bcast_S_S96 main_c_0
  let main_v4 : IVec S96 1 := cmpi .slt main_arg0 main_v3
  let main_v5 : IVec S96 1 := andi main_v2 main_v4
  let main_c_1 : IVec S_ 32 := constantI S_ 32 0#32
  let main_v6 : IVec S96 32 := broadcastInDim S96 ![] bcast_S_S96 main_c_1
  let main_v7 : IVec S96 1 := cmpi .eq main_arg1 main_v6
  let main_c_2 : IVec S_ 32 := constantI S_ 32 1#32
  let main_v8 : IVec S96 32 := broadcastInDim S96 ![] bcast_S_S96 main_c_2
  let main_v9 : IVec S96 1 := cmpi .eq main_arg1 main_v8
  let main_v10 : IVec S96 1 := ori main_v7 main_v9
  let main_v11 : IVec S96 1 := andi main_v5 main_v10
  let main_c_3 : IVec S_ 32 := constantI S_ 32 0#32
  let main_v12 : IVec S96 32 := broadcastInDim S96 ![] bcast_S_S96 main_c_3
  let main_v13 : IVec S96 1 := cmpi .eq main_arg2 main_v12
  let main_c_4 : IVec S_ 32 := constantI S_ 32 1#32
  let main_v14 : IVec S96 32 := broadcastInDim S96 ![] bcast_S_S96 main_c_4
  let main_v15 : IVec S96 1 := cmpi .eq main_arg2 main_v14
  let main_v16 : IVec S96 1 := ori main_v13 main_v15
  let main_v17 : IVec S96 1 := andi main_v11 main_v16
  fn_part1 (F := F) main_arg0 main_arg1 main_arg2 main_arg3 main_arg4 main_arg5 main_v0 main_v17
-- ==== Kernel.lean ====
abbrev S96 : Shape := ⟨1, ![96]⟩
abbrev S1 : Shape := ⟨1, ![1]⟩
abbrev S786432x128 : Shape := ⟨2, ![786432, 128]⟩
abbrev S32x4096x1024 : Shape := ⟨3, ![32, 4096, 1024]⟩
abbrev S49152x1024 : Shape := ⟨2, ![49152, 1024]⟩
abbrev S8192x128 : Shape := ⟨2, ![8192, 128]⟩
abbrev S512x1024 : Shape := ⟨2, ![512, 1024]⟩
abbrev S2x4096x1024 : Shape := ⟨3, ![2, 4096, 1024]⟩
abbrev S2 : Shape := ⟨1, ![2]⟩
abbrev S_ : Shape := ⟨0, ![]⟩
abbrev S1x4096x1024 : Shape := ⟨3, ![1, 4096, 1024]⟩
abbrev S4096x1024 : Shape := ⟨2, ![4096, 1024]⟩
abbrev S128x128 : Shape := ⟨2, ![128, 128]⟩
abbrev S128x2048 : Shape := ⟨2, ![128, 2048]⟩
abbrev S2048x256 : Shape := ⟨2, ![2048, 256]⟩
abbrev S128x256 : Shape := ⟨2, ![128, 256]⟩
abbrev S384x1024 : Shape := ⟨2, ![384, 1024]⟩
abbrev S256x128 : Shape := ⟨2, ![256, 128]⟩
abbrev S256x2048 : Shape := ⟨2, ![256, 2048]⟩
abbrev S256x256 : Shape := ⟨2, ![256, 256]⟩
abbrev S256x1024 : Shape := ⟨2, ![256, 1024]⟩
abbrev S384x128 : Shape := ⟨2, ![384, 128]⟩
abbrev S384x2048 : Shape := ⟨2, ![384, 2048]⟩
abbrev S384x256 : Shape := ⟨2, ![384, 256]⟩
abbrev S128x1024 : Shape := ⟨2, ![128, 1024]⟩
abbrev S512x128 : Shape := ⟨2, ![512, 128]⟩
abbrev S512x2048 : Shape := ⟨2, ![512, 2048]⟩
abbrev S512x256 : Shape := ⟨2, ![512, 256]⟩

abbrev nBuf : Space → Nat
  | .hbm => 3
  | .vmem => 5
  | .smem => 6
  | _ => 0

abbrev bufTy : (tb : Table) → Fin (tcTables nBuf tb) → BufTy
  | .hbm, ⟨0, _⟩ => ⟨S786432x128, .i32⟩
  | .hbm, ⟨1, _⟩ => ⟨S32x4096x1024, .f32⟩
  | .hbm, ⟨2, _⟩ => ⟨S49152x1024, .bf16⟩
  | .local _ .vmem, ⟨0, _⟩ => ⟨S8192x128, .i32⟩
  | .local _ .vmem, ⟨1, _⟩ => ⟨S8192x128, .i32⟩
  | .local _ .vmem, ⟨2, _⟩ => ⟨S512x1024, .bf16⟩
  | .local _ .vmem, ⟨3, _⟩ => ⟨S512x1024, .bf16⟩
  | .local _ .vmem, ⟨4, _⟩ => ⟨S2x4096x1024, .f32⟩
  | .local _ .smem, ⟨0, _⟩ => ⟨S96, .i32⟩
  | .local _ .smem, ⟨1, _⟩ => ⟨S96, .i32⟩
  | .local _ .smem, ⟨2, _⟩ => ⟨S96, .i32⟩
  | .local _ .smem, ⟨3, _⟩ => ⟨S96, .i32⟩
  | .local _ .smem, ⟨4, _⟩ => ⟨S1, .i32⟩
  | .local _ .smem, ⟨5, _⟩ => ⟨S96, .i32⟩
  | _, _ => ⟨S786432x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg6 : Ref sig .tc := ⟨.hbm, 0, rfl⟩
abbrev main_arg7 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![96], ![false]⟩

abbrev pre0 : Pipeline.Prefetch sig := ⟨6, ![main_arg0.idx, main_arg1.idx, main_arg2.idx, main_arg3.idx, main_arg4.idx, main_arg5.idx], fun | 0 => main_arg0.names | 1 => main_arg1.names | 2 => main_arg2.names | 3 => main_arg3.names | 4 => main_arg4.names | 5 => main_arg5.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off2 (v44 : BitVec 32) : Fin 3 → Nat :=
  let c0_i32_19 : BitVec 32 := 0#32
  let c0_i32_20 : BitVec 32 := 0#32
  ![v44.toNat, 0, 0]

def k0_chk1 (i : grid0.Coords) (v44 : BitVec 32) : Prop :=
  (∀ (k0_h1 : k0_cond1 i = 1#1), ∀ a, (k0_off2 v44) a + S1x4096x1024.size a ≤ S32x4096x1024.size a)
theorem k0_off2_inb : ∀ (i : grid0.Coords) (v44 : BitVec 32) (k0_hw1 : k0_chk1 i v44), ∀ (k0_h1 : k0_cond1 i = 1#1), ∀ a, (k0_off2 v44) a + S1x4096x1024.size a ≤ S32x4096x1024.size a := fun i v44 k0_hw1 k0_h1 => k0_hw1 k0_h1

def k0_off3 (i : grid0.Coords) : Fin 1 → Nat :=
  let arg0 : BitVec 32 := BitVec.ofNat 32 (i 0).val
  let v44 : Index := Scalar.indexCast arg0
  ![v44.toNat]
def k0_off4 (v1 : BitVec 32) : Fin 1 → Nat :=
  let c1_i32_15 : BitVec 32 := 1#32
  let v46 : BitVec 32 := Scalar.subi c1_i32_15 v1
  ![v46.toNat]
def k0_cond2 (v6 : BitVec 32) (v9 : BitVec 32) : BitVec 1 :=
  let c1_i32 : BitVec 32 := 1#32
  let v7 : BitVec 1 := Scalar.cmpi .eq v6 c1_i32
  let c0_i32_1 : BitVec 32 := 0#32
  let v10 : BitVec 1 := Scalar.cmpi .sge v9 c0_i32_1
  let v11 : BitVec 1 := Scalar.andi v7 v10
  let v12 : BitVec 32 := Scalar.extui v11
  let c0_i32_2 : BitVec 32 := 0#32
  let v13 : BitVec 1 := Scalar.cmpi .ne v12 c0_i32_2
  v13

def k0_off5 (v1 : BitVec 32) : Fin 3 → Nat :=
  let c1_i32_15 : BitVec 32 := 1#32
  let v46 : BitVec 32 := Scalar.subi c1_i32_15 v1
  let c0_i32_16 : BitVec 32 := 0#32
  let c0_i32_17 : BitVec 32 := 0#32
  ![v46.toNat, 0, 0]

def k0_chk2 (v1 : BitVec 32) (v6 : BitVec 32) (v9 : BitVec 32) : Prop :=
  (∀ (k0_h2 : k0_cond2 v6 v9 = 1#1), ∀ a, (k0_off4 v1) a + S1.size a ≤ S2.size a) ∧
  (∀ (k0_h2 : k0_cond2 v6 v9 = 1#1), ∀ a, (k0_off5 v1) a + S1x4096x1024.size a ≤ S2x4096x1024.size a)
theorem k0_off4_inb : ∀ (v1 : BitVec 32) (v6 : BitVec 32) (v9 : BitVec 32) (k0_hw2 : k0_chk2 v1 v6 v9), ∀ (k0_h2 : k0_cond2 v6 v9 = 1#1), ∀ a, (k0_off4 v1) a + S1.size a ≤ S2.size a := fun v1 v6 v9 k0_hw2 k0_h2 => k0_hw2.1 k0_h2
theorem k0_off5_inb : ∀ (v1 : BitVec 32) (v6 : BitVec 32) (v9 : BitVec 32) (k0_hw2 : k0_chk2 v1 v6 v9), ∀ (k0_h2 : k0_cond2 v6 v9 = 1#1), ∀ a, (k0_off5 v1) a + S1x4096x1024.size a ≤ S2x4096x1024.size a := fun v1 v6 v9 k0_hw2 k0_h2 => k0_hw2.2 k0_h2

def k0_off6 (v45 : BitVec 32) : Fin 3 → Nat :=
  let c0_i32_18 : BitVec 32 := 0#32
  let c0_i32_19 : BitVec 32 := 0#32
  ![v45.toNat, 0, 0]

def k0_chk3 (v6 : BitVec 32) (v9 : BitVec 32) (v45 : BitVec 32) : Prop :=
  (∀ (k0_h2 : k0_cond2 v6 v9 = 1#1), ∀ a, (k0_off6 v45) a + S1x4096x1024.size a ≤ S32x4096x1024.size a)
theorem k0_off6_inb : ∀ (v6 : BitVec 32) (v9 : BitVec 32) (v45 : BitVec 32) (k0_hw3 : k0_chk3 v6 v9 v45), ∀ (k0_h2 : k0_cond2 v6 v9 = 1#1), ∀ a, (k0_off6 v45) a + S1x4096x1024.size a ≤ S32x4096x1024.size a := fun v6 v9 v45 k0_hw3 k0_h2 => k0_hw3 k0_h2

def k0_off7 (i : grid0.Coords) : Fin 1 → Nat :=
  let arg0 : BitVec 32 := BitVec.ofNat 32 (i 0).val
  let v14 : Index := Scalar.indexCast arg0
  ![v14.toNat]
def k0_off8 (i : grid0.Coords) : Fin 1 → Nat :=
  let arg0 : BitVec 32 := BitVec.ofNat 32 (i 0).val
  let v44 : Index := Scalar.indexCast arg0
  ![v44.toNat]
def k0_off9 (v1 : BitVec 32) : Fin 1 → Nat :=
  ![v1.toNat]
def k0_cond3 (v15 : BitVec 32) : BitVec 1 :=
  let c1_i32_3 : BitVec 32 := 1#32
  let v16 : BitVec 1 := Scalar.cmpi .eq v15 c1_i32_3
  let v17 : BitVec 32 := Scalar.extui v16
  let c0_i32_4 : BitVec 32 := 0#32
  let v18 : BitVec 1 := Scalar.cmpi .ne v17 c0_i32_4
  v18

def k0_off10 (v1 : BitVec 32) : Fin 3 → Nat :=
  let c0_i32_15 : BitVec 32 := 0#32
  let c0_i32_16 : BitVec 32 := 0#32
  ![v1.toNat, 0, 0]

def k0_chk4 (v1 : BitVec 32) (v15 : BitVec 32) : Prop :=
  (∀ (k0_h3 : k0_cond3 v15 = 1#1), ∀ a, (k0_off9 v1) a + S1.size a ≤ S2.size a) ∧
  (∀ (k0_h3 : k0_cond3 v15 = 1#1), ∀ a, (k0_off10 v1) a + S1x4096x1024.size a ≤ S2x4096x1024.size a)
theorem k0_off9_inb : ∀ (v1 : BitVec 32) (v15 : BitVec 32) (k0_hw4 : k0_chk4 v1 v15), ∀ (k0_h3 : k0_cond3 v15 = 1#1), ∀ a, (k0_off9 v1) a + S1.size a ≤ S2.size a := fun v1 v15 k0_hw4 k0_h3 => k0_hw4.1 k0_h3
theorem k0_off10_inb : ∀ (v1 : BitVec 32) (v15 : BitVec 32) (k0_hw4 : k0_chk4 v1 v15), ∀ (k0_h3 : k0_cond3 v15 = 1#1), ∀ a, (k0_off10 v1) a + S1x4096x1024.size a ≤ S2x4096x1024.size a := fun v1 v15 k0_hw4 k0_h3 => k0_hw4.2 k0_h3

def k0_off11 (v45 : BitVec 32) : Fin 3 → Nat :=
  let c0_i32_17 : BitVec 32 := 0#32
  let c0_i32_18 : BitVec 32 := 0#32
  ![v45.toNat, 0, 0]

def k0_chk5 (v15 : BitVec 32) (v45 : BitVec 32) : Prop :=
  (∀ (k0_h3 : k0_cond3 v15 = 1#1), ∀ a, (k0_off11 v45) a + S1x4096x1024.size a ≤ S32x4096x1024.size a)
theorem k0_off11_inb : ∀ (v15 : BitVec 32) (v45 : BitVec 32) (k0_hw5 : k0_chk5 v15 v45), ∀ (k0_h3 : k0_cond3 v15 = 1#1), ∀ a, (k0_off11 v45) a + S1x4096x1024.size a ≤ S32x4096x1024.size a := fun v15 v45 k0_hw5 k0_h3 => k0_hw5 k0_h3

def k0_off12 (i : grid0.Coords) : Fin 1 → Nat :=
  let arg0 : BitVec 32 := BitVec.ofNat 32 (i 0).val
  let v19 : Index := Scalar.indexCast arg0
  ![v19.toNat]
def k0_off13 (v1 : BitVec 32) : Fin 3 → Nat :=
  let c0_i32_31 : BitVec 32 := 0#32
  let c0_i32_32 : BitVec 32 := 0#32
  ![v1.toNat, 0, 0]
def k0_cond4 (v20 : BitVec 32) : BitVec 1 :=
  let c0_i32_5 : BitVec 32 := 0#32
  let v21 : BitVec 1 := Scalar.cmpi .sgt v20 c0_i32_5
  let c128_i32 : BitVec 32 := 128#32
  let v22 : BitVec 1 := Scalar.cmpi .sle v20 c128_i32
  let v23 : BitVec 1 := Scalar.andi v21 v22
  let v24 : BitVec 32 := Scalar.extui v23
  let c0_i32_6 : BitVec 32 := 0#32
  let v25 : BitVec 1 := Scalar.cmpi .ne v24 c0_i32_6
  v25

def k0_off14 (v1 : BitVec 32) : Fin 3 → Nat :=
  let c0_i32_31 : BitVec 32 := 0#32
  let c0_i32_32 : BitVec 32 := 0#32
  ![v1.toNat, 0, 0]
def k0_cond5 (v20 : BitVec 32) : BitVec 1 :=
  let c128_i32_7 : BitVec 32 := 128#32
  let v26 : BitVec 1 := Scalar.cmpi .sgt v20 c128_i32_7
  let c256_i32 : BitVec 32 := 256#32
  let v27 : BitVec 1 := Scalar.cmpi .sle v20 c256_i32
  let v28 : BitVec 1 := Scalar.andi v26 v27
  let v29 : BitVec 32 := Scalar.extui v28
  let c0_i32_8 : BitVec 32 := 0#32
  let v30 : BitVec 1 := Scalar.cmpi .ne v29 c0_i32_8
  v30

def k0_off15 (v1 : BitVec 32) : Fin 3 → Nat :=
  let c0_i32_31 : BitVec 32 := 0#32
  let c0_i32_32 : BitVec 32 := 0#32
  ![v1.toNat, 0, 0]
def k0_cond6 (v20 : BitVec 32) : BitVec 1 :=
  let c256_i32_9 : BitVec 32 := 256#32
  let v31 : BitVec 1 := Scalar.cmpi .sgt v20 c256_i32_9
  let c384_i32 : BitVec 32 := 384#32
  let v32 : BitVec 1 := Scalar.cmpi .sle v20 c384_i32
  let v33 : BitVec 1 := Scalar.andi v31 v32
  let v34 : BitVec 32 := Scalar.extui v33
  let c0_i32_10 : BitVec 32 := 0#32
  let v35 : BitVec 1 := Scalar.cmpi .ne v34 c0_i32_10
  v35

def k0_off16 (v1 : BitVec 32) : Fin 3 → Nat :=
  let c0_i32_31 : BitVec 32 := 0#32
  let c0_i32_32 : BitVec 32 := 0#32
  ![v1.toNat, 0, 0]
def k0_cond7 (v20 : BitVec 32) : BitVec 1 :=
  let c384_i32_11 : BitVec 32 := 384#32
  let v36 : BitVec 1 := Scalar.cmpi .sgt v20 c384_i32_11
  let c512_i32 : BitVec 32 := 512#32
  let v37 : BitVec 1 := Scalar.cmpi .sle v20 c512_i32
  let v38 : BitVec 1 := Scalar.andi v36 v37
  let v39 : BitVec 32 := Scalar.extui v38
  let c0_i32_12 : BitVec 32 := 0#32
  let v40 : BitVec 1 := Scalar.cmpi .ne v39 c0_i32_12
  v40

def k0_chk6 (v1 : BitVec 32) (v20 : BitVec 32) : Prop :=
  (∀ (k0_h4 : k0_cond4 v20 = 1#1), ∀ a, (k0_off13 v1) a + S1x4096x1024.size a ≤ S2x4096x1024.size a) ∧
  (∀ (k0_h5 : k0_cond5 v20 = 1#1), ∀ a, (k0_off14 v1) a + S1x4096x1024.size a ≤ S2x4096x1024.size a) ∧
  (∀ (k0_h6 : k0_cond6 v20 = 1#1), ∀ a, (k0_off15 v1) a + S1x4096x1024.size a ≤ S2x4096x1024.size a) ∧
  (∀ (k0_h7 : k0_cond7 v20 = 1#1), ∀ a, (k0_off16 v1) a + S1x4096x1024.size a ≤ S2x4096x1024.size a)
theorem k0_off13_inb : ∀ (v1 : BitVec 32) (v20 : BitVec 32) (k0_hw6 : k0_chk6 v1 v20), ∀ (k0_h4 : k0_cond4 v20 = 1#1), ∀ a, (k0_off13 v1) a + S1x4096x1024.size a ≤ S2x4096x1024.size a := fun v1 v20 k0_hw6 k0_h4 => k0_hw6.1 k0_h4
theorem k0_off14_inb : ∀ (v1 : BitVec 32) (v20 : BitVec 32) (k0_hw6 : k0_chk6 v1 v20), ∀ (k0_h5 : k0_cond5 v20 = 1#1), ∀ a, (k0_off14 v1) a + S1x4096x1024.size a ≤ S2x4096x1024.size a := fun v1 v20 k0_hw6 k0_h5 => k0_hw6.2.1 k0_h5
theorem k0_off15_inb : ∀ (v1 : BitVec 32) (v20 : BitVec 32) (k0_hw6 : k0_chk6 v1 v20), ∀ (k0_h6 : k0_cond6 v20 = 1#1), ∀ a, (k0_off15 v1) a + S1x4096x1024.size a ≤ S2x4096x1024.size a := fun v1 v20 k0_hw6 k0_h6 => k0_hw6.2.2.1 k0_h6
theorem k0_off16_inb : ∀ (v1 : BitVec 32) (v20 : BitVec 32) (k0_hw6 : k0_chk6 v1 v20), ∀ (k0_h7 : k0_cond7 v20 = 1#1), ∀ a, (k0_off16 v1) a + S1x4096x1024.size a ≤ S2x4096x1024.size a := fun v1 v20 k0_hw6 k0_h7 => k0_hw6.2.2.2 k0_h7

def k0_cond8 (v20 : BitVec 32) : BitVec 1 :=
  let c0_i32_13 : BitVec 32 := 0#32
  let v41 : BitVec 1 := Scalar.cmpi .eq v20 c0_i32_13
  let v42 : BitVec 32 := Scalar.extui v41
  let c0_i32_14 : BitVec 32 := 0#32
  let v43 : BitVec 1 := Scalar.cmpi .ne v42 c0_i32_14
  v43

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 4 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S96 : Shape := ⟨1, ![96]⟩
abbrev S1 : Shape := ⟨1, ![1]⟩
abbrev S786432x128 : Shape := ⟨2, ![786432, 128]⟩
abbrev S32x4096x1024 : Shape := ⟨3, ![32, 4096, 1024]⟩
abbrev S786432x128x2 : Shape := ⟨3, ![786432, 128, 2]⟩
abbrev S96x512x2048x2 : Shape := ⟨4, ![96, 512, 2048, 2]⟩
abbrev S96x512x2048x1 : Shape := ⟨4, ![96, 512, 2048, 1]⟩
abbrev S96x512x2048 : Shape := ⟨3, ![96, 512, 2048]⟩
abbrev S96x512x4096 : Shape := ⟨3, ![96, 512, 4096]⟩
abbrev S_ : Shape := ⟨0, ![]⟩
abbrev S96x1 : Shape := ⟨2, ![96, 1]⟩
abbrev S96x4096x1024 : Shape := ⟨3, ![96, 4096, 1024]⟩
abbrev S96x512x1024 : Shape := ⟨3, ![96, 512, 1024]⟩
abbrev S49152x1024 : Shape := ⟨2, ![49152, 1024]⟩

abbrev nBuf : Space → Nat
  | .hbm => 37
  | .vmem => 0
  | .smem => 0
  | _ => 0

abbrev bufTy : (tb : Table) → Fin (tcTables nBuf tb) → BufTy
  | .hbm, ⟨0, _⟩ => ⟨S96, .i32⟩
  | .hbm, ⟨1, _⟩ => ⟨S96, .i32⟩
  | .hbm, ⟨2, _⟩ => ⟨S96, .i32⟩
  | .hbm, ⟨3, _⟩ => ⟨S96, .i32⟩
  | .hbm, ⟨4, _⟩ => ⟨S1, .i32⟩
  | .hbm, ⟨5, _⟩ => ⟨S96, .i32⟩
  | .hbm, ⟨6, _⟩ => ⟨S786432x128, .i32⟩
  | .hbm, ⟨7, _⟩ => ⟨S32x4096x1024, .f32⟩
  | .hbm, ⟨8, _⟩ => ⟨S786432x128x2, .bf16⟩
  | .hbm, ⟨9, _⟩ => ⟨S96x512x2048x2, .bf16⟩
  | .hbm, ⟨10, _⟩ => ⟨S96x512x2048x2, .f32⟩
  | .hbm, ⟨11, _⟩ => ⟨S96x512x2048x1, .f32⟩
  | .hbm, ⟨12, _⟩ => ⟨S96x512x2048, .f32⟩
  | .hbm, ⟨13, _⟩ => ⟨S96x512x2048x1, .f32⟩
  | .hbm, ⟨14, _⟩ => ⟨S96x512x2048, .f32⟩
  | .hbm, ⟨15, _⟩ => ⟨S96x512x4096, .f32⟩
  | .hbm, ⟨16, _⟩ => ⟨S_, .i32⟩
  | .hbm, ⟨17, _⟩ => ⟨S96, .i32⟩
  | .hbm, ⟨18, _⟩ => ⟨S96, .i1⟩
  | .hbm, ⟨19, _⟩ => ⟨S_, .i32⟩
  | .hbm, ⟨20, _⟩ => ⟨S96, .i32⟩
  | .hbm, ⟨21, _⟩ => ⟨S96, .i32⟩
  | .hbm, ⟨22, _⟩ => ⟨S96, .i32⟩
  | .hbm, ⟨23, _⟩ => ⟨S96x1, .i32⟩
  | .hbm, ⟨24, _⟩ => ⟨S96x4096x1024, .f32⟩
  | .hbm, ⟨25, _⟩ => ⟨S96x512x1024, .f32⟩
  | .hbm, ⟨26, _⟩ => ⟨S96x512x1024, .f32⟩
  | .hbm, ⟨27, _⟩ => ⟨S96x512x1024, .f32⟩
  | .hbm, ⟨28, _⟩ => ⟨S_, .f32⟩
  | .hbm, ⟨29, _⟩ => ⟨S96x512x1024, .f32⟩
  | .hbm, ⟨30, _⟩ => ⟨S96x512x1024, .f32⟩
  | .hbm, ⟨31, _⟩ => ⟨S_, .f32⟩
  | .hbm, ⟨32, _⟩ => ⟨S96x512x1024, .f32⟩
  | .hbm, ⟨33, _⟩ => ⟨S96x512x1024, .f32⟩
  | .hbm, ⟨34, _⟩ => ⟨S96x512x1024, .f32⟩
  | .hbm, ⟨35, _⟩ => ⟨S49152x1024, .f32⟩
  | .hbm, ⟨36, _⟩ => ⟨S49152x1024, .bf16⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== Kernel2.lean ====
abbrev S16384x4096 : Shape := ⟨2, ![16384, 4096]⟩
abbrev S16384x2048 : Shape := ⟨2, ![16384, 2048]⟩
abbrev S4096x15360 : Shape := ⟨2, ![4096, 15360]⟩
abbrev S2048x4096 : Shape := ⟨2, ![2048, 4096]⟩
abbrev S512x4096 : Shape := ⟨2, ![512, 4096]⟩
abbrev S512x2048 : Shape := ⟨2, ![512, 2048]⟩
abbrev S4096x512 : Shape := ⟨2, ![4096, 512]⟩
abbrev S2048x512 : Shape := ⟨2, ![2048, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x2048, .bf16⟩
  | .hbm, ⟨3, _⟩ => ⟨S4096x15360, .f32⟩
  | .hbm, ⟨4, _⟩ => ⟨S2048x4096, .f32⟩
  | .hbm, ⟨5, _⟩ => ⟨S2048x4096, .f32⟩
  | .hbm, ⟨6, _⟩ => ⟨S4096x15360, .bf16⟩
  | .hbm, ⟨7, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S512x512, .bf16⟩
  | .local _ .vmem, ⟨15, _⟩ => ⟨S512x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16384x4096 : Shape := ⟨2, ![16384, 4096]⟩
abbrev S16384x2048 : Shape := ⟨2, ![16384, 2048]⟩
abbrev S4096x15360 : Shape := ⟨2, ![4096, 15360]⟩
abbrev S2048x4096 : Shape := ⟨2, ![2048, 4096]⟩
abbrev S16384x15360 : Shape := ⟨2, ![16384, 15360]⟩
abbrev S16384x8192 : Shape := ⟨2, ![16384, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x2048, .bf16⟩
  | .hbm, ⟨3, _⟩ => ⟨S4096x15360, .f32⟩
  | .hbm, ⟨4, _⟩ => ⟨S2048x4096, .f32⟩
  | .hbm, ⟨5, _⟩ => ⟨S2048x4096, .f32⟩
  | .hbm, ⟨6, _⟩ => ⟨S16384x15360, .f32⟩
  | .hbm, ⟨7, _⟩ => ⟨S16384x8192, .f32⟩
  | .hbm, ⟨8, _⟩ => ⟨S16384x8192, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | .hbm, ⟨13, _⟩ => ⟨S_, .f32⟩
  | .hbm, ⟨14, _⟩ => ⟨S16384x8192, .f32⟩
  | .hbm, ⟨15, _⟩ => ⟨S16384x8192, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel3.lean ====
abbrev S4x4096x4096 : Shape := ⟨3, ![4, 4096, 4096]⟩
abbrev S4096x4096 : Shape := ⟨2, ![4096, 4096]⟩
abbrev S4x1x4096 : Shape := ⟨3, ![4, 1, 4096]⟩
abbrev S1x1024x4096 : Shape := ⟨3, ![1, 1024, 4096]⟩
abbrev S4096x1024 : Shape := ⟨2, ![4096, 1024]⟩
abbrev S1x1024x1024 : Shape := ⟨3, ![1, 1024, 1024]⟩
abbrev S1x1x1024 : Shape := ⟨3, ![1, 1, 1024]⟩
abbrev S1024x4096 : Shape := ⟨2, ![1024, 4096]⟩
abbrev S1024x1024 : Shape := ⟨2, ![1024, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x4096, .bf16⟩
  | .hbm, ⟨1, _⟩ => ⟨S4096x4096, .f32⟩
  | .hbm, ⟨2, _⟩ => ⟨S4x4096x4096, .f32⟩
  | .hbm, ⟨3, _⟩ => ⟨S4x1x4096, .f32⟩
  | .hbm, ⟨4, _⟩ => ⟨S4096x4096, .bf16⟩
  | .hbm, ⟨5, _⟩ => ⟨S4x4096x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference3Ideal.lean ====
abbrev S4x4096x4096 : Shape := ⟨3, ![4, 4096, 4096]⟩
abbrev S4096x4096 : Shape := ⟨2, ![4096, 4096]⟩
abbrev S4x1x4096 : Shape := ⟨3, ![4, 1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4096x4096, .f32⟩
  | .hbm, ⟨2, _⟩ => ⟨S4x4096x4096, .f32⟩
  | .hbm, ⟨3, _⟩ => ⟨S4x1x4096, .f32⟩
  | .hbm, ⟨4, _⟩ => ⟨S4x4096x4096, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel4.lean ====
abbrev S16384x4096 : Shape := ⟨2, ![16384, 4096]⟩
abbrev S4096x15360 : Shape := ⟨2, ![4096, 15360]⟩
abbrev S16384x2048 : Shape := ⟨2, ![16384, 2048]⟩
abbrev S1024x4096 : Shape := ⟨2, ![1024, 4096]⟩
abbrev S4096x512 : Shape := ⟨2, ![4096, 512]⟩
abbrev S1024x512 : Shape := ⟨2, ![1024, 512]⟩
abbrev S512x4096 : Shape := ⟨2, ![512, 4096]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x15360, .f32⟩
  | .hbm, ⟨2, _⟩ => ⟨S4096x15360, .bf16⟩
  | .hbm, ⟨3, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x4096 : Shape := ⟨2, ![16384, 4096]⟩
abbrev S4096x15360 : Shape := ⟨2, ![4096, 15360]⟩
abbrev S16384x15360 : Shape := ⟨2, ![16384, 15360]⟩
abbrev S16384x2048 : Shape := ⟨2, ![16384, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x15360, .f32⟩
  | .hbm, ⟨2, _⟩ => ⟨S16384x15360, .f32⟩
  | .hbm, ⟨3, _⟩ => ⟨S16384x4096, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel5.lean ====
abbrev S4x4096x4096 : Shape := ⟨3, ![4, 4096, 4096]⟩
abbrev S4096x15360 : Shape := ⟨2, ![4096, 15360]⟩
abbrev S128 : Shape := ⟨1, ![128]⟩
abbrev S4096x2x32 : Shape := ⟨3, ![4096, 2, 32]⟩
abbrev S4096x1x32 : Shape := ⟨3, ![4096, 1, 32]⟩
abbrev S4096x32 : Shape := ⟨2, ![4096, 32]⟩
abbrev S4096x128 : Shape := ⟨2, ![4096, 128]⟩
abbrev S1x128 : Shape := ⟨2, ![1, 128]⟩
abbrev S4x16x4096x128 : Shape := ⟨4, ![4, 16, 4096, 128]⟩
abbrev S1x1024x4096 : Shape := ⟨3, ![1, 1024, 4096]⟩
abbrev S4096x1024 : Shape := ⟨2, ![4096, 1024]⟩
abbrev S1024x128 : Shape := ⟨2, ![1024, 128]⟩
abbrev S1x8x1024x128 : Shape := ⟨4, ![1, 8, 1024, 128]⟩
abbrev S1x256x4096 : Shape := ⟨3, ![1, 256, 4096]⟩
abbrev S256x4096 : Shape := ⟨2, ![256, 4096]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x1x256x128 : Shape := ⟨4, ![1, 1, 256, 128]⟩

abbrev nBuf : Space → Nat
  | .hbm => 28
  | .vmem => 11
  | .smem => 0
  | _ => 0

abbrev bufTy : (tb : Table) → Fin (tcTables nBuf tb) → BufTy
  | .hbm, ⟨0, _⟩ => ⟨S4x4096x4096, .bf16⟩
  | .hbm, ⟨1, _⟩ => ⟨S4096x15360, .f32⟩
  | .hbm, ⟨2, _⟩ => ⟨S128, .f32⟩
  | .hbm, ⟨3, _⟩ => ⟨S4096x2x32, .f32⟩
  | .hbm, ⟨4, _⟩ => ⟨S4096x2x32, .f32⟩
  | .hbm, ⟨5, _⟩ => ⟨S4096x1x32, .f32⟩
  | .hbm, ⟨6, _⟩ => ⟨S4096x32, .f32⟩
  | .hbm, ⟨7, _⟩ => ⟨S4096x1x32, .f32⟩
  | .hbm, ⟨8, _⟩ => ⟨S4096x32, .f32⟩
  | .hbm, ⟨9, _⟩ => ⟨S4096x1x32, .f32⟩
  | .hbm, ⟨10, _⟩ => ⟨S4096x32, .f32⟩
  | .hbm, ⟨11, _⟩ => ⟨S4096x1x32, .f32⟩
  | .hbm, ⟨12, _⟩ => ⟨S4096x32, .f32⟩
  | .hbm, ⟨13, _⟩ => ⟨S4096x128, .f32⟩
  | .hbm, ⟨14, _⟩ => ⟨S4096x1x32, .f32⟩
  | .hbm, ⟨15, _⟩ => ⟨S4096x32, .f32⟩
  | .hbm, ⟨16, _⟩ => ⟨S4096x32, .f32⟩
  | .hbm, ⟨17, _⟩ => ⟨S4096x1x32, .f32⟩
  | .hbm, ⟨18, _⟩ => ⟨S4096x32, .f32⟩
  | .hbm, ⟨19, _⟩ => ⟨S4096x1x32, .f32⟩
  | .hbm, ⟨20, _⟩ => ⟨S4096x32, .f32⟩
  | .hbm, ⟨21, _⟩ => ⟨S4096x32, .f32⟩
  | .hbm, ⟨22, _⟩ => ⟨S4096x1x32, .f32⟩
  | .hbm, ⟨23, _⟩ => ⟨S4096x32, .f32⟩
  | .hbm, ⟨24, _⟩ => ⟨S4096x128, .f32⟩
  | .hbm, ⟨25, _⟩ => ⟨S4096x15360, .bf16⟩
  | .hbm, ⟨26, _⟩ => ⟨S1x128, .f32⟩
  | .hbm, ⟨27, _⟩ => ⟨S4x16x4096x128, .bf16⟩
  | .local _ .vmem, ⟨0, _⟩ => ⟨S1x1024x4096, .bf16⟩
  | .local _ .vmem, ⟨1, _⟩ => ⟨S1x1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x8x1024x128, .bf16⟩
  | .local _ .vmem, ⟨10, _⟩ => ⟨S1x8x1024x128, .bf16⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x8x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S4x4096x4096 : Shape := ⟨3, ![4, 4096, 4096]⟩
abbrev S4096x15360 : Shape := ⟨2, ![4096, 15360]⟩
abbrev S128 : Shape := ⟨1, ![128]⟩
abbrev S4096x2x32 : Shape := ⟨3, ![4096, 2, 32]⟩
abbrev S4x4096x15360 : Shape := ⟨3, ![4, 4096, 15360]⟩
abbrev S4x4096x2048 : Shape := ⟨3, ![4, 4096, 2048]⟩
abbrev S4x4096x16x128 : Shape := ⟨4, ![4, 4096, 16, 128]⟩
abbrev S_ : Shape := ⟨0, ![]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩
abbrev S4x4096x16x2x2x32 : Shape := ⟨6, ![4, 4096, 16, 2, 2, 32]⟩
abbrev S4x4096x16x2x1x32 : Shape := ⟨6, ![4, 4096, 16, 2, 1, 32]⟩
abbrev S4x4096x16x2x32 : Shape := ⟨5, ![4, 4096, 16, 2, 32]⟩
abbrev S1x4096x1x2x32 : Shape := ⟨5, ![1, 4096, 1, 2, 32]⟩
abbrev S4x16x4096x128 : Shape := ⟨4, ![4, 16, 4096, 128]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4096x15360, .f32⟩
  | .hbm, ⟨2, _⟩ => ⟨S128, .f32⟩
  | .hbm, ⟨3, _⟩ => ⟨S4096x2x32, .f32⟩
  | .hbm, ⟨4, _⟩ => ⟨S4096x2x32, .f32⟩
  | .hbm, ⟨5, _⟩ => ⟨S4x4096x15360, .f32⟩
  | .hbm, ⟨6, _⟩ => ⟨S4x4096x2048, .f32⟩
  | .hbm, ⟨7, _⟩ => ⟨S4x4096x16x128, .f32⟩
  | .hbm, ⟨8, _⟩ => ⟨S4x4096x16x128, .f32⟩
  | .hbm, ⟨9, _⟩ => ⟨S_, .f32⟩
  | .hbm, ⟨10, _⟩ => ⟨S4x4096x16, .f32⟩
  | .hbm, ⟨11, _⟩ => ⟨S4x4096x16x1, .f32⟩
  | .hbm, ⟨12, _⟩ => ⟨S_, .f32⟩
  | .hbm, ⟨13, _⟩ => ⟨S4x4096x16x1, .f32⟩
  | .hbm, ⟨14, _⟩ => ⟨S4x4096x16x1, .f32⟩
  | .hbm, ⟨15, _⟩ => ⟨S_, .f32⟩
  | .hbm, ⟨16, _⟩ => ⟨S4x4096x16x1, .f32⟩
  | .hbm, ⟨17, _⟩ => ⟨S4x4096x16x1, .f32⟩
  | .hbm, ⟨18, _⟩ => ⟨S4x4096x16x1, .f32⟩
  | .hbm, ⟨19, _⟩ => ⟨S4x4096x16x128, .f32⟩
  | .hbm, ⟨20, _⟩ => ⟨S4x4096x16x128, .f32⟩
  | .hbm, ⟨21, _⟩ => ⟨S1x1x1x128, .f32⟩
  | .hbm, ⟨22, _⟩ => ⟨S4x4096x16x128, .f32⟩
  | .hbm, ⟨23, _⟩ => ⟨S4x4096x16x128, .f32⟩
  | .hbm, ⟨24, _⟩ => ⟨S4x4096x16x2x2x32, .f32⟩
  | .hbm, ⟨25, _⟩ => ⟨S4x4096x16x2x1x32, .f32⟩
  | .hbm, ⟨26, _⟩ => ⟨S4x4096x16x2x32, .f32⟩
  | .hbm, ⟨27, _⟩ => ⟨S4x4096x16x2x1x32, .f32⟩
  | .hbm, ⟨28, _⟩ => ⟨S4x4096x16x2x32, .f32⟩
  | .hbm, ⟨29, _⟩ => ⟨S1x4096x1x2x32, .f32⟩
  | .hbm, ⟨30, _⟩ => ⟨S1x4096x1x2x32, .f32⟩
  | .hbm, ⟨31, _⟩ => ⟨S4x4096x16x2x32, .f32⟩
  | .hbm, ⟨32, _⟩ => ⟨S4x4096x16x2x32, .f32⟩
  | .hbm, ⟨33, _⟩ => ⟨S4x4096x16x2x32, .f32⟩
  | .hbm, ⟨34, _⟩ => ⟨S4x4096x16x2x32, .f32⟩
  | .hbm, ⟨35, _⟩ => ⟨S4x4096x16x2x32, .f32⟩
  | .hbm, ⟨36, _⟩ => ⟨S4x4096x16x2x32, .f32⟩
  | .hbm, ⟨37, _⟩ => ⟨S4x4096x16x2x32, .f32⟩
  | .hbm, ⟨38, _⟩ => ⟨S4x4096x16x2x32, .f32⟩
  | .hbm, ⟨39, _⟩ => ⟨S4x4096x16x2x32, .f32⟩
  | .hbm, ⟨40, _⟩ => ⟨S4x4096x16x2x32, .f32⟩
  | .hbm, ⟨41, _⟩ => ⟨S4x4096x16x2x1x32, .f32⟩
  | .hbm, ⟨42, _⟩ => ⟨S4x4096x16x2x1x32, .f32⟩
  | .hbm, ⟨43, _⟩ => ⟨S4x4096x16x2x2x32, .f32⟩
  | .hbm, ⟨44, _⟩ => ⟨S4x4096x16x128, .f32⟩
  | .hbm, ⟨45, _⟩ => ⟨S_, .f32⟩
  | .hbm, ⟨46, _⟩ => ⟨S4x4096x16x128, .f32⟩
  | .hbm, ⟨47, _⟩ => ⟨S4x4096x16x128, .f32⟩
  | .hbm, ⟨48, _⟩ => ⟨S4x16x4096x128, .f32⟩
  | .hbm, ⟨49, _⟩ => ⟨S4x16x4096x128, .bf16⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Kernel6.lean ====
abbrev S96 : Shape := ⟨1, ![96]⟩
abbrev S1 : Shape := ⟨1, ![1]⟩
abbrev S786432x128 : Shape := ⟨2, ![786432, 128]⟩
abbrev S32x4096x1024 : Shape := ⟨3, ![32, 4096, 1024]⟩
abbrev S49152x1024 : Shape := ⟨2, ![49152, 1024]⟩
abbrev S8192x128 : Shape := ⟨2, ![8192, 128]⟩
abbrev S512x1024 : Shape := ⟨2, ![512, 1024]⟩
abbrev S2x4096x1024 : Shape := ⟨3, ![2, 4096, 1024]⟩
abbrev S2 : Shape := ⟨1, ![2]⟩
abbrev S_ : Shape := ⟨0, ![]⟩
abbrev S1x4096x1024 : Shape := ⟨3, ![1, 4096, 1024]⟩
abbrev S4096x1024 : Shape := ⟨2, ![4096, 1024]⟩
abbrev S128x128 : Shape := ⟨2, ![128, 128]⟩
abbrev S128x2048 : Shape := ⟨2, ![128, 2048]⟩
abbrev S2048x256 : Shape := ⟨2, ![2048, 256]⟩
abbrev S128x256 : Shape := ⟨2, ![128, 256]⟩
abbrev S384x1024 : Shape := ⟨2, ![384, 1024]⟩
abbrev S256x128 : Shape := ⟨2, ![256, 128]⟩
abbrev S256x2048 : Shape := ⟨2, ![256, 2048]⟩
abbrev S256x256 : Shape := ⟨2, ![256, 256]⟩
abbrev S256x1024 : Shape := ⟨2, ![256, 1024]⟩
abbrev S384x128 : Shape := ⟨2, ![384, 128]⟩
abbrev S384x2048 : Shape := ⟨2, ![384, 2048]⟩
abbrev S384x256 : Shape := ⟨2, ![384, 256]⟩
abbrev S128x1024 : Shape := ⟨2, ![128, 1024]⟩
abbrev S512x128 : Shape := ⟨2, ![512, 128]⟩
abbrev S512x2048 : Shape := ⟨2, ![512, 2048]⟩
abbrev S512x256 : Shape := ⟨2, ![512, 256]⟩

abbrev nBuf : Space → Nat
  | .hbm => 4
  | .vmem => 7
  | .smem => 6
  | _ => 0

abbrev bufTy : (tb : Table) → Fin (tcTables nBuf tb) → BufTy
  | .hbm, ⟨0, _⟩ => ⟨S786432x128, .i32⟩
  | .hbm, ⟨1, _⟩ => ⟨S32x4096x1024, .f32⟩
  | .hbm, ⟨2, _⟩ => ⟨S49152x1024, .bf16⟩
  | .hbm, ⟨3, _⟩ => ⟨S49152x1024, .bf16⟩
  | .local _ .vmem, ⟨0, _⟩ => ⟨S8192x128, .i32⟩
  | .local _ .vmem, ⟨1, _⟩ => ⟨S8192x128, .i32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2x4096x1024, .f32⟩
  | .local _ .smem, ⟨0, _⟩ => ⟨S96, .i32⟩
  | .local _ .smem, ⟨1, _⟩ => ⟨S96, .i32⟩
  | .local _ .smem, ⟨2, _⟩ => ⟨S96, .i32⟩
  | .local _ .smem, ⟨3, _⟩ => ⟨S96, .i32⟩
  | .local _ .smem, ⟨4, _⟩ => ⟨S1, .i32⟩
  | .local _ .smem, ⟨5, _⟩ => ⟨S96, .i32⟩
  | _, _ => ⟨S786432x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg6 : Ref sig .tc := ⟨.hbm, 0, rfl⟩
abbrev main_arg7 : Ref sig .tc := ⟨.hbm, 1, rfl⟩
abbrev main_arg8 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![96], ![false]⟩

abbrev pre0 : Pipeline.Prefetch sig := ⟨6, ![main_arg0.idx, main_arg1.idx, main_arg2.idx, main_arg3.idx, main_arg4.idx, main_arg5.idx], fun | 0 => main_arg0.names | 1 => main_arg1.names | 2 => main_arg2.names | 3 => main_arg3.names | 4 => main_arg4.names | 5 => main_arg5.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off2 (v44 : BitVec 32) : Fin 3 → Nat :=
  let c0_i32_19 : BitVec 32 := 0#32
  let c0_i32_20 : BitVec 32 := 0#32
  ![v44.toNat, 0, 0]

def k0_chk1 (i : grid0.Coords) (v44 : BitVec 32) : Prop :=
  (∀ (k0_h1 : k0_cond1 i = 1#1), ∀ a, (k0_off2 v44) a + S1x4096x1024.size a ≤ S32x4096x1024.size a)
theorem k0_off2_inb : ∀ (i : grid0.Coords) (v44 : BitVec 32) (k0_hw1 : k0_chk1 i v44), ∀ (k0_h1 : k0_cond1 i = 1#1), ∀ a, (k0_off2 v44) a + S1x4096x1024.size a ≤ S32x4096x1024.size a := fun i v44 k0_hw1 k0_h1 => k0_hw1 k0_h1

def k0_off3 (i : grid0.Coords) : Fin 1 → Nat :=
  let arg0 : BitVec 32 := BitVec.ofNat 32 (i 0).val
  let v44 : Index := Scalar.indexCast arg0
  ![v44.toNat]
def k0_off4 (v1 : BitVec 32) : Fin 1 → Nat :=
  let c1_i32_15 : BitVec 32 := 1#32
  let v46 : BitVec 32 := Scalar.subi c1_i32_15 v1
  ![v46.toNat]
def k0_cond2 (v6 : BitVec 32) (v9 : BitVec 32) : BitVec 1 :=
  let c1_i32 : BitVec 32 := 1#32
  let v7 : BitVec 1 := Scalar.cmpi .eq v6 c1_i32
  let c0_i32_1 : BitVec 32 := 0#32
  let v10 : BitVec 1 := Scalar.cmpi .sge v9 c0_i32_1
  let v11 : BitVec 1 := Scalar.andi v7 v10
  let v12 : BitVec 32 := Scalar.extui v11
  let c0_i32_2 : BitVec 32 := 0#32
  let v13 : BitVec 1 := Scalar.cmpi .ne v12 c0_i32_2
  v13

def k0_off5 (v1 : BitVec 32) : Fin 3 → Nat :=
  let c1_i32_15 : BitVec 32 := 1#32
  let v46 : BitVec 32 := Scalar.subi c1_i32_15 v1
  let c0_i32_16 : BitVec 32 := 0#32
  let c0_i32_17 : BitVec 32 := 0#32
  ![v46.toNat, 0, 0]

def k0_chk2 (v1 : BitVec 32) (v6 : BitVec 32) (v9 : BitVec 32) : Prop :=
  (∀ (k0_h2 : k0_cond2 v6 v9 = 1#1), ∀ a, (k0_off4 v1) a + S1.size a ≤ S2.size a) ∧
  (∀ (k0_h2 : k0_cond2 v6 v9 = 1#1), ∀ a, (k0_off5 v1) a + S1x4096x1024.size a ≤ S2x4096x1024.size a)
theorem k0_off4_inb : ∀ (v1 : BitVec 32) (v6 : BitVec 32) (v9 : BitVec 32) (k0_hw2 : k0_chk2 v1 v6 v9), ∀ (k0_h2 : k0_cond2 v6 v9 = 1#1), ∀ a, (k0_off4 v1) a + S1.size a ≤ S2.size a := fun v1 v6 v9 k0_hw2 k0_h2 => k0_hw2.1 k0_h2
theorem k0_off5_inb : ∀ (v1 : BitVec 32) (v6 : BitVec 32) (v9 : BitVec 32) (k0_hw2 : k0_chk2 v1 v6 v9), ∀ (k0_h2 : k0_cond2 v6 v9 = 1#1), ∀ a, (k0_off5 v1) a + S1x4096x1024.size a ≤ S2x4096x1024.size a := fun v1 v6 v9 k0_hw2 k0_h2 => k0_hw2.2 k0_h2

def k0_off6 (v45 : BitVec 32) : Fin 3 → Nat :=
  let c0_i32_18 : BitVec 32 := 0#32
  let c0_i32_19 : BitVec 32 := 0#32
  ![v45.toNat, 0, 0]

def k0_chk3 (v6 : BitVec 32) (v9 : BitVec 32) (v45 : BitVec 32) : Prop :=
  (∀ (k0_h2 : k0_cond2 v6 v9 = 1#1), ∀ a, (k0_off6 v45) a + S1x4096x1024.size a ≤ S32x4096x1024.size a)
theorem k0_off6_inb : ∀ (v6 : BitVec 32) (v9 : BitVec 32) (v45 : BitVec 32) (k0_hw3 : k0_chk3 v6 v9 v45), ∀ (k0_h2 : k0_cond2 v6 v9 = 1#1), ∀ a, (k0_off6 v45) a + S1x4096x1024.size a ≤ S32x4096x1024.size a := fun v6 v9 v45 k0_hw3 k0_h2 => k0_hw3 k0_h2

def k0_off7 (i : grid0.Coords) : Fin 1 → Nat :=
  let arg0 : BitVec 32 := BitVec.ofNat 32 (i 0).val
  let v14 : Index := Scalar.indexCast arg0
  ![v14.toNat]
def k0_off8 (i : grid0.Coords) : Fin 1 → Nat :=
  let arg0 : BitVec 32 := BitVec.ofNat 32 (i 0).val
  let v44 : Index := Scalar.indexCast arg0
  ![v44.toNat]
def k0_off9 (v1 : BitVec 32) : Fin 1 → Nat :=
  ![v1.toNat]
def k0_cond3 (v15 : BitVec 32) : BitVec 1 :=
  let c1_i32_3 : BitVec 32 := 1#32
  let v16 : BitVec 1 := Scalar.cmpi .eq v15 c1_i32_3
  let v17 : BitVec 32 := Scalar.extui v16
  let c0_i32_4 : BitVec 32 := 0#32
  let v18 : BitVec 1 := Scalar.cmpi .ne v17 c0_i32_4
  v18

def k0_off10 (v1 : BitVec 32) : Fin 3 → Nat :=
  let c0_i32_15 : BitVec 32 := 0#32
  let c0_i32_16 : BitVec 32 := 0#32
  ![v1.toNat, 0, 0]

def k0_chk4 (v1 : BitVec 32) (v15 : BitVec 32) : Prop :=
  (∀ (k0_h3 : k0_cond3 v15 = 1#1), ∀ a, (k0_off9 v1) a + S1.size a ≤ S2.size a) ∧
  (∀ (k0_h3 : k0_cond3 v15 = 1#1), ∀ a, (k0_off10 v1) a + S1x4096x1024.size a ≤ S2x4096x1024.size a)
theorem k0_off9_inb : ∀ (v1 : BitVec 32) (v15 : BitVec 32) (k0_hw4 : k0_chk4 v1 v15), ∀ (k0_h3 : k0_cond3 v15 = 1#1), ∀ a, (k0_off9 v1) a + S1.size a ≤ S2.size a := fun v1 v15 k0_hw4 k0_h3 => k0_hw4.1 k0_h3
theorem k0_off10_inb : ∀ (v1 : BitVec 32) (v15 : BitVec 32) (k0_hw4 : k0_chk4 v1 v15), ∀ (k0_h3 : k0_cond3 v15 = 1#1), ∀ a, (k0_off10 v1) a + S1x4096x1024.size a ≤ S2x4096x1024.size a := fun v1 v15 k0_hw4 k0_h3 => k0_hw4.2 k0_h3

def k0_off11 (v45 : BitVec 32) : Fin 3 → Nat :=
  let c0_i32_17 : BitVec 32 := 0#32
  let c0_i32_18 : BitVec 32 := 0#32
  ![v45.toNat, 0, 0]

def k0_chk5 (v15 : BitVec 32) (v45 : BitVec 32) : Prop :=
  (∀ (k0_h3 : k0_cond3 v15 = 1#1), ∀ a, (k0_off11 v45) a + S1x4096x1024.size a ≤ S32x4096x1024.size a)
theorem k0_off11_inb : ∀ (v15 : BitVec 32) (v45 : BitVec 32) (k0_hw5 : k0_chk5 v15 v45), ∀ (k0_h3 : k0_cond3 v15 = 1#1), ∀ a, (k0_off11 v45) a + S1x4096x1024.size a ≤ S32x4096x1024.size a := fun v15 v45 k0_hw5 k0_h3 => k0_hw5 k0_h3

def k0_off12 (i : grid0.Coords) : Fin 1 → Nat :=
  let arg0 : BitVec 32 := BitVec.ofNat 32 (i 0).val
  let v19 : Index := Scalar.indexCast arg0
  ![v19.toNat]
def k0_off13 (v1 : BitVec 32) : Fin 3 → Nat :=
  let c0_i32_31 : BitVec 32 := 0#32
  let c0_i32_32 : BitVec 32 := 0#32
  ![v1.toNat, 0, 0]
def k0_cond4 (v20 : BitVec 32) : BitVec 1 :=
  let c0_i32_5 : BitVec 32 := 0#32
  let v21 : BitVec 1 := Scalar.cmpi .sgt v20 c0_i32_5
  let c128_i32 : BitVec 32 := 128#32
  let v22 : BitVec 1 := Scalar.cmpi .sle v20 c128_i32
  let v23 : BitVec 1 := Scalar.andi v21 v22
  let v24 : BitVec 32 := Scalar.extui v23
  let c0_i32_6 : BitVec 32 := 0#32
  let v25 : BitVec 1 := Scalar.cmpi .ne v24 c0_i32_6
  v25

def k0_off14 (v1 : BitVec 32) : Fin 3 → Nat :=
  let c0_i32_31 : BitVec 32 := 0#32
  let c0_i32_32 : BitVec 32 := 0#32
  ![v1.toNat, 0, 0]
def k0_cond5 (v20 : BitVec 32) : BitVec 1 :=
  let c128_i32_7 : BitVec 32 := 128#32
  let v26 : BitVec 1 := Scalar.cmpi .sgt v20 c128_i32_7
  let c256_i32 : BitVec 32 := 256#32
  let v27 : BitVec 1 := Scalar.cmpi .sle v20 c256_i32
  let v28 : BitVec 1 := Scalar.andi v26 v27
  let v29 : BitVec 32 := Scalar.extui v28
  let c0_i32_8 : BitVec 32 := 0#32
  let v30 : BitVec 1 := Scalar.cmpi .ne v29 c0_i32_8
  v30

def k0_off15 (v1 : BitVec 32) : Fin 3 → Nat :=
  let c0_i32_31 : BitVec 32 := 0#32
  let c0_i32_32 : BitVec 32 := 0#32
  ![v1.toNat, 0, 0]
def k0_cond6 (v20 : BitVec 32) : BitVec 1 :=
  let c256_i32_9 : BitVec 32 := 256#32
  let v31 : BitVec 1 := Scalar.cmpi .sgt v20 c256_i32_9
  let c384_i32 : BitVec 32 := 384#32
  let v32 : BitVec 1 := Scalar.cmpi .sle v20 c384_i32
  let v33 : BitVec 1 := Scalar.andi v31 v32
  let v34 : BitVec 32 := Scalar.extui v33
  let c0_i32_10 : BitVec 32 := 0#32
  let v35 : BitVec 1 := Scalar.cmpi .ne v34 c0_i32_10
  v35

def k0_off16 (v1 : BitVec 32) : Fin 3 → Nat :=
  let c0_i32_31 : BitVec 32 := 0#32
  let c0_i32_32 : BitVec 32 := 0#32
  ![v1.toNat, 0, 0]
def k0_cond7 (v20 : BitVec 32) : BitVec 1 :=
  let c384_i32_11 : BitVec 32 := 384#32
  let v36 : BitVec 1 := Scalar.cmpi .sgt v20 c384_i32_11
  let c512_i32 : BitVec 32 := 512#32
  let v37 : BitVec 1 := Scalar.cmpi .sle v20 c512_i32
  let v38 : BitVec 1 := Scalar.andi v36 v37
  let v39 : BitVec 32 := Scalar.extui v38
  let c0_i32_12 : BitVec 32 := 0#32
  let v40 : BitVec 1 := Scalar.cmpi .ne v39 c0_i32_12
  v40

def k0_chk6 (v1 : BitVec 32) (v20 : BitVec 32) : Prop :=
  (∀ (k0_h4 : k0_cond4 v20 = 1#1), ∀ a, (k0_off13 v1) a + S1x4096x1024.size a ≤ S2x4096x1024.size a) ∧
  (∀ (k0_h5 : k0_cond5 v20 = 1#1), ∀ a, (k0_off14 v1) a + S1x4096x1024.size a ≤ S2x4096x1024.size a) ∧
  (∀ (k0_h6 : k0_cond6 v20 = 1#1), ∀ a, (k0_off15 v1) a + S1x4096x1024.size a ≤ S2x4096x1024.size a) ∧
  (∀ (k0_h7 : k0_cond7 v20 = 1#1), ∀ a, (k0_off16 v1) a + S1x4096x1024.size a ≤ S2x4096x1024.size a)
theorem k0_off13_inb : ∀ (v1 : BitVec 32) (v20 : BitVec 32) (k0_hw6 : k0_chk6 v1 v20), ∀ (k0_h4 : k0_cond4 v20 = 1#1), ∀ a, (k0_off13 v1) a + S1x4096x1024.size a ≤ S2x4096x1024.size a := fun v1 v20 k0_hw6 k0_h4 => k0_hw6.1 k0_h4
theorem k0_off14_inb : ∀ (v1 : BitVec 32) (v20 : BitVec 32) (k0_hw6 : k0_chk6 v1 v20), ∀ (k0_h5 : k0_cond5 v20 = 1#1), ∀ a, (k0_off14 v1) a + S1x4096x1024.size a ≤ S2x4096x1024.size a := fun v1 v20 k0_hw6 k0_h5 => k0_hw6.2.1 k0_h5
theorem k0_off15_inb : ∀ (v1 : BitVec 32) (v20 : BitVec 32) (k0_hw6 : k0_chk6 v1 v20), ∀ (k0_h6 : k0_cond6 v20 = 1#1), ∀ a, (k0_off15 v1) a + S1x4096x1024.size a ≤ S2x4096x1024.size a := fun v1 v20 k0_hw6 k0_h6 => k0_hw6.2.2.1 k0_h6
theorem k0_off16_inb : ∀ (v1 : BitVec 32) (v20 : BitVec 32) (k0_hw6 : k0_chk6 v1 v20), ∀ (k0_h7 : k0_cond7 v20 = 1#1), ∀ a, (k0_off16 v1) a + S1x4096x1024.size a ≤ S2x4096x1024.size a := fun v1 v20 k0_hw6 k0_h7 => k0_hw6.2.2.2 k0_h7

def k0_cond8 (v20 : BitVec 32) : BitVec 1 :=
  let c0_i32_13 : BitVec 32 := 0#32
  let v41 : BitVec 1 := Scalar.cmpi .eq v20 c0_i32_13
  let v42 : BitVec 32 := Scalar.extui v41
  let c0_i32_14 : BitVec 32 := 0#32
  let v43 : BitVec 1 := Scalar.cmpi .ne v42 c0_i32_14
  v43

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 4 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 4 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S96 : Shape := ⟨1, ![96]⟩
abbrev S1 : Shape := ⟨1, ![1]⟩
abbrev S786432x128 : Shape := ⟨2, ![786432, 128]⟩
abbrev S32x4096x1024 : Shape := ⟨3, ![32, 4096, 1024]⟩
abbrev S49152x1024 : Shape := ⟨2, ![49152, 1024]⟩
abbrev S786432x128x2 : Shape := ⟨3, ![786432, 128, 2]⟩
abbrev S96x512x2048x2 : Shape := ⟨4, ![96, 512, 2048, 2]⟩
abbrev S96x512x2048x1 : Shape := ⟨4, ![96, 512, 2048, 1]⟩
abbrev S96x512x2048 : Shape := ⟨3, ![96, 512, 2048]⟩
abbrev S96x512x4096 : Shape := ⟨3, ![96, 512, 4096]⟩
abbrev S_ : Shape := ⟨0, ![]⟩
abbrev S96x1 : Shape := ⟨2, ![96, 1]⟩
abbrev S96x4096x1024 : Shape := ⟨3, ![96, 4096, 1024]⟩
abbrev S96x512x1024 : Shape := ⟨3, ![96, 512, 1024]⟩

abbrev nBuf : Space → Nat
  | .hbm => 31
  | .vmem => 0
  | .smem => 0
  | _ => 0

abbrev bufTy : (tb : Table) → Fin (tcTables nBuf tb) → BufTy
  | .hbm, ⟨0, _⟩ => ⟨S96, .i32⟩
  | .hbm, ⟨1, _⟩ => ⟨S96, .i32⟩
  | .hbm, ⟨2, _⟩ => ⟨S96, .i32⟩
  | .hbm, ⟨3, _⟩ => ⟨S96, .i32⟩
  | .hbm, ⟨4, _⟩ => ⟨S1, .i32⟩
  | .hbm, ⟨5, _⟩ => ⟨S96, .i32⟩
  | .hbm, ⟨6, _⟩ => ⟨S786432x128, .i32⟩
  | .hbm, ⟨7, _⟩ => ⟨S32x4096x1024, .f32⟩
  | .hbm, ⟨8, _⟩ => ⟨S49152x1024, .bf16⟩
  | .hbm, ⟨9, _⟩ => ⟨S786432x128x2, .bf16⟩
  | .hbm, ⟨10, _⟩ => ⟨S96x512x2048x2, .bf16⟩
  | .hbm, ⟨11, _⟩ => ⟨S96x512x2048x2, .f32⟩
  | .hbm, ⟨12, _⟩ => ⟨S96x512x2048x1, .f32⟩
  | .hbm, ⟨13, _⟩ => ⟨S96x512x2048, .f32⟩
  | .hbm, ⟨14, _⟩ => ⟨S96x512x2048x1, .f32⟩
  | .hbm, ⟨15, _⟩ => ⟨S96x512x2048, .f32⟩
  | .hbm, ⟨16, _⟩ => ⟨S96x512x4096, .f32⟩
  | .hbm, ⟨17, _⟩ => ⟨S_, .i32⟩
  | .hbm, ⟨18, _⟩ => ⟨S96, .i32⟩
  | .hbm, ⟨19, _⟩ => ⟨S96, .i1⟩
  | .hbm, ⟨20, _⟩ => ⟨S_, .i32⟩
  | .hbm, ⟨21, _⟩ => ⟨S96, .i32⟩
  | .hbm, ⟨22, _⟩ => ⟨S96, .i32⟩
  | .hbm, ⟨23, _⟩ => ⟨S96, .i32⟩
  | .hbm, ⟨24, _⟩ => ⟨S96x1, .i32⟩
  | .hbm, ⟨25, _⟩ => ⟨S96x4096x1024, .f32⟩
  | .hbm, ⟨26, _⟩ => ⟨S96x512x1024, .f32⟩
  | .hbm, ⟨27, _⟩ => ⟨S49152x1024, .f32⟩
  | .hbm, ⟨28, _⟩ => ⟨S49152x1024, .f32⟩
  | .hbm, ⟨29, _⟩ => ⟨S49152x1024, .f32⟩
  | .hbm, ⟨30, _⟩ => ⟨S49152x1024, .bf16⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel7.lean ====
abbrev S4x4096x4096 : Shape := ⟨3, ![4, 4096, 4096]⟩
abbrev S4096x15360 : Shape := ⟨2, ![4096, 15360]⟩
abbrev S128 : Shape := ⟨1, ![128]⟩
abbrev S4096x2x32 : Shape := ⟨3, ![4096, 2, 32]⟩
abbrev S4096x1x32 : Shape := ⟨3, ![4096, 1, 32]⟩
abbrev S4096x32 : Shape := ⟨2, ![4096, 32]⟩
abbrev S4096x128 : Shape := ⟨2, ![4096, 128]⟩
abbrev S1x128 : Shape := ⟨2, ![1, 128]⟩
abbrev S4x4096x512 : Shape := ⟨3, ![4, 4096, 512]⟩
abbrev S1x1024x4096 : Shape := ⟨3, ![1, 1024, 4096]⟩
abbrev S4096x512 : Shape := ⟨2, ![4096, 512]⟩
abbrev S1024x128 : Shape := ⟨2, ![1024, 128]⟩
abbrev S1x1024x512 : Shape := ⟨3, ![1, 1024, 512]⟩
abbrev S1x512x4096 : Shape := ⟨3, ![1, 512, 4096]⟩
abbrev S512x4096 : Shape := ⟨2, ![512, 4096]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S1x512x512 : Shape := ⟨3, ![1, 512, 512]⟩

abbrev nBuf : Space → Nat
  | .hbm => 29
  | .vmem => 13
  | .smem => 0
  | _ => 0

abbrev bufTy : (tb : Table) → Fin (tcTables nBuf tb) → BufTy
  | .hbm, ⟨0, _⟩ => ⟨S4x4096x4096, .bf16⟩
  | .hbm, ⟨1, _⟩ => ⟨S4096x15360, .f32⟩
  | .hbm, ⟨2, _⟩ => ⟨S128, .f32⟩
  | .hbm, ⟨3, _⟩ => ⟨S4096x2x32, .f32⟩
  | .hbm, ⟨4, _⟩ => ⟨S4096x2x32, .f32⟩
  | .hbm, ⟨5, _⟩ => ⟨S4096x1x32, .f32⟩
  | .hbm, ⟨6, _⟩ => ⟨S4096x32, .f32⟩
  | .hbm, ⟨7, _⟩ => ⟨S4096x1x32, .f32⟩
  | .hbm, ⟨8, _⟩ => ⟨S4096x32, .f32⟩
  | .hbm, ⟨9, _⟩ => ⟨S4096x1x32, .f32⟩
  | .hbm, ⟨10, _⟩ => ⟨S4096x32, .f32⟩
  | .hbm, ⟨11, _⟩ => ⟨S4096x1x32, .f32⟩
  | .hbm, ⟨12, _⟩ => ⟨S4096x32, .f32⟩
  | .hbm, ⟨13, _⟩ => ⟨S4096x128, .f32⟩
  | .hbm, ⟨14, _⟩ => ⟨S4096x1x32, .f32⟩
  | .hbm, ⟨15, _⟩ => ⟨S4096x32, .f32⟩
  | .hbm, ⟨16, _⟩ => ⟨S4096x32, .f32⟩
  | .hbm, ⟨17, _⟩ => ⟨S4096x1x32, .f32⟩
  | .hbm, ⟨18, _⟩ => ⟨S4096x32, .f32⟩
  | .hbm, ⟨19, _⟩ => ⟨S4096x1x32, .f32⟩
  | .hbm, ⟨20, _⟩ => ⟨S4096x32, .f32⟩
  | .hbm, ⟨21, _⟩ => ⟨S4096x32, .f32⟩
  | .hbm, ⟨22, _⟩ => ⟨S4096x1x32, .f32⟩
  | .hbm, ⟨23, _⟩ => ⟨S4096x32, .f32⟩
  | .hbm, ⟨24, _⟩ => ⟨S4096x128, .f32⟩
  | .hbm, ⟨25, _⟩ => ⟨S4096x15360, .bf16⟩
  | .hbm, ⟨26, _⟩ => ⟨S1x128, .f32⟩
  | .hbm, ⟨27, _⟩ => ⟨S4x4096x512, .bf16⟩
  | .hbm, ⟨28, _⟩ => ⟨S4x4096x512, .bf16⟩
  | .local _ .vmem, ⟨0, _⟩ => ⟨S1x1024x4096, .bf16⟩
  | .local _ .vmem, ⟨1, _⟩ => ⟨S1x1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S4x4096x4096 : Shape := ⟨3, ![4, 4096, 4096]⟩
abbrev S4096x15360 : Shape := ⟨2, ![4096, 15360]⟩
abbrev S128 : Shape := ⟨1, ![128]⟩
abbrev S4096x2x32 : Shape := ⟨3, ![4096, 2, 32]⟩
abbrev S4x4096x15360 : Shape := ⟨3, ![4, 4096, 15360]⟩
abbrev S4x4096x512 : Shape := ⟨3, ![4, 4096, 512]⟩
abbrev S4x4096x4x128 : Shape := ⟨4, ![4, 4096, 4, 128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4096x4x2x2x32 : Shape := ⟨6, ![4, 4096, 4, 2, 2, 32]⟩
abbrev S4x4096x4x2x1x32 : Shape := ⟨6, ![4, 4096, 4, 2, 1, 32]⟩
abbrev S4x4096x4x2x32 : Shape := ⟨5, ![4, 4096, 4, 2, 32]⟩
abbrev S1x4096x1x2x32 : Shape := ⟨5, ![1, 4096, 1, 2, 32]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4096x15360, .f32⟩
  | .hbm, ⟨2, _⟩ => ⟨S128, .f32⟩
  | .hbm, ⟨3, _⟩ => ⟨S4096x2x32, .f32⟩
  | .hbm, ⟨4, _⟩ => ⟨S4096x2x32, .f32⟩
  | .hbm, ⟨5, _⟩ => ⟨S4x4096x15360, .f32⟩
  | .hbm, ⟨6, _⟩ => ⟨S4x4096x512, .f32⟩
  | .hbm, ⟨7, _⟩ => ⟨S4x4096x4x128, .f32⟩
  | .hbm, ⟨8, _⟩ => ⟨S4x4096x4x128, .f32⟩
  | .hbm, ⟨9, _⟩ => ⟨S_, .f32⟩
  | .hbm, ⟨10, _⟩ => ⟨S4x4096x4, .f32⟩
  | .hbm, ⟨11, _⟩ => ⟨S4x4096x4x1, .f32⟩
  | .hbm, ⟨12, _⟩ => ⟨S_, .f32⟩
  | .hbm, ⟨13, _⟩ => ⟨S4x4096x4x1, .f32⟩
  | .hbm, ⟨14, _⟩ => ⟨S4x4096x4x1, .f32⟩
  | .hbm, ⟨15, _⟩ => ⟨S_, .f32⟩
  | .hbm, ⟨16, _⟩ => ⟨S4x4096x4x1, .f32⟩
  | .hbm, ⟨17, _⟩ => ⟨S4x4096x4x1, .f32⟩
  | .hbm, ⟨18, _⟩ => ⟨S4x4096x4x1, .f32⟩
  | .hbm, ⟨19, _⟩ => ⟨S4x4096x4x128, .f32⟩
  | .hbm, ⟨20, _⟩ => ⟨S4x4096x4x128, .f32⟩
  | .hbm, ⟨21, _⟩ => ⟨S1x1x1x128, .f32⟩
  | .hbm, ⟨22, _⟩ => ⟨S4x4096x4x128, .f32⟩
  | .hbm, ⟨23, _⟩ => ⟨S4x4096x4x128, .f32⟩
  | .hbm, ⟨24, _⟩ => ⟨S4x4096x4x2x2x32, .f32⟩
  | .hbm, ⟨25, _⟩ => ⟨S4x4096x4x2x1x32, .f32⟩
  | .hbm, ⟨26, _⟩ => ⟨S4x4096x4x2x32, .f32⟩
  | .hbm, ⟨27, _⟩ => ⟨S4x4096x4x2x1x32, .f32⟩
  | .hbm, ⟨28, _⟩ => ⟨S4x4096x4x2x32, .f32⟩
  | .hbm, ⟨29, _⟩ => ⟨S1x4096x1x2x32, .f32⟩
  | .hbm, ⟨30, _⟩ => ⟨S1x4096x1x2x32, .f32⟩
  | .hbm, ⟨31, _⟩ => ⟨S4x4096x4x2x32, .f32⟩
  | .hbm, ⟨32, _⟩ => ⟨S4x4096x4x2x32, .f32⟩
  | .hbm, ⟨33, _⟩ => ⟨S4x4096x4x2x32, .f32⟩
  | .hbm, ⟨34, _⟩ => ⟨S4x4096x4x2x32, .f32⟩
  | .hbm, ⟨35, _⟩ => ⟨S4x4096x4x2x32, .f32⟩
  | .hbm, ⟨36, _⟩ => ⟨S4x4096x4x2x32, .f32⟩
  | .hbm, ⟨37, _⟩ => ⟨S4x4096x4x2x32, .f32⟩
  | .hbm, ⟨38, _⟩ => ⟨S4x4096x4x2x32, .f32⟩
  | .hbm, ⟨39, _⟩ => ⟨S4x4096x4x2x32, .f32⟩
  | .hbm, ⟨40, _⟩ => ⟨S4x4096x4x2x32, .f32⟩
  | .hbm, ⟨41, _⟩ => ⟨S4x4096x4x2x1x32, .f32⟩
  | .hbm, ⟨42, _⟩ => ⟨S4x4096x4x2x1x32, .f32⟩
  | .hbm, ⟨43, _⟩ => ⟨S4x4096x4x2x2x32, .f32⟩
  | .hbm, ⟨44, _⟩ => ⟨S4x4096x512, .f32⟩
  | .hbm, ⟨45, _⟩ => ⟨S4x4096x512, .bf16⟩
  | .hbm, ⟨46, _⟩ => ⟨S4x4096x512, .f32⟩
  | .hbm, ⟨47, _⟩ => ⟨S4x4096x512, .bf16⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel8.lean ====
abbrev S4x256x4096 : Shape := ⟨3, ![4, 256, 4096]⟩
abbrev S4096x15360 : Shape := ⟨2, ![4096, 15360]⟩
abbrev S128 : Shape := ⟨1, ![128]⟩
abbrev S1x128 : Shape := ⟨2, ![1, 128]⟩
abbrev S4x256x512 : Shape := ⟨3, ![4, 256, 512]⟩
abbrev S1x256x4096 : Shape := ⟨3, ![1, 256, 4096]⟩
abbrev S4096x512 : Shape := ⟨2, ![4096, 512]⟩
abbrev S1x256x512 : Shape := ⟨3, ![1, 256, 512]⟩
abbrev S256x4096 : Shape := ⟨2, ![256, 4096]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 7
  | .vmem => 9
  | .smem => 0
  | _ => 0

abbrev bufTy : (tb : Table) → Fin (tcTables nBuf tb) → BufTy
  | .hbm, ⟨0, _⟩ => ⟨S4x256x4096, .bf16⟩
  | .hbm, ⟨1, _⟩ => ⟨S4096x15360, .f32⟩
  | .hbm, ⟨2, _⟩ => ⟨S128, .f32⟩
  | .hbm, ⟨3, _⟩ => ⟨S4096x15360, .bf16⟩
  | .hbm, ⟨4, _⟩ => ⟨S1x128, .f32⟩
  | .hbm, ⟨5, _⟩ => ⟨S4x256x512, .bf16⟩
  | .hbm, ⟨6, _⟩ => ⟨S4x256x512, .bf16⟩
  | .local _ .vmem, ⟨0, _⟩ => ⟨S1x256x4096, .bf16⟩
  | .local _ .vmem, ⟨1, _⟩ => ⟨S1x256x4096, .bf16⟩
  | .local _ .vmem, ⟨2, _⟩ => ⟨S4096x512, .bf16⟩
  | .local _ .vmem, ⟨3, _⟩ => ⟨S4096x512, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | _, _ => ⟨S4x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S4x256x4096 : Shape := ⟨3, ![4, 256, 4096]⟩
abbrev S4096x15360 : Shape := ⟨2, ![4096, 15360]⟩
abbrev S128 : Shape := ⟨1, ![128]⟩
abbrev S4096x1024 : Shape := ⟨2, ![4096, 1024]⟩
abbrev S4x256x1024 : Shape := ⟨3, ![4, 256, 1024]⟩
abbrev S4x256x512 : Shape := ⟨3, ![4, 256, 512]⟩
abbrev S4x256x4x128 : Shape := ⟨4, ![4, 256, 4, 128]⟩
abbrev S_ : Shape := ⟨0, ![]⟩
abbrev S4x256x4 : Shape := ⟨3, ![4, 256, 4]⟩
abbrev S4x256x4x1 : Shape := ⟨4, ![4, 256, 4, 1]⟩
abbrev S1x1x1x128 : Shape := ⟨4, ![1, 1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S4x256x4096, .bf16⟩
  | .hbm, ⟨1, _⟩ => ⟨S4096x15360, .f32⟩
  | .hbm, ⟨2, _⟩ => ⟨S128, .f32⟩
  | .hbm, ⟨3, _⟩ => ⟨S4096x1024, .f32⟩
  | .hbm, ⟨4, _⟩ => ⟨S4x256x1024, .f32⟩
  | .hbm, ⟨5, _⟩ => ⟨S4x256x512, .f32⟩
  | .hbm, ⟨6, _⟩ => ⟨S4x256x4x128, .f32⟩
  | .hbm, ⟨7, _⟩ => ⟨S4x256x4x128, .f32⟩
  | .hbm, ⟨8, _⟩ => ⟨S_, .f32⟩
  | .hbm, ⟨9, _⟩ => ⟨S4x256x4, .f32⟩
  | .hbm, ⟨10, _⟩ => ⟨S4x256x4x1, .f32⟩
  | .hbm, ⟨11, _⟩ => ⟨S_, .f32⟩
  | .hbm, ⟨12, _⟩ => ⟨S4x256x4x1, .f32⟩
  | .hbm, ⟨13, _⟩ => ⟨S4x256x4x1, .f32⟩
  | .hbm, ⟨14, _⟩ => ⟨S_, .f32⟩
  | .hbm, ⟨15, _⟩ => ⟨S4x256x4x1, .f32⟩
  | .hbm, ⟨16, _⟩ => ⟨S4x256x4x1, .f32⟩
  | .hbm, ⟨17, _⟩ => ⟨S4x256x4x1, .f32⟩
  | .hbm, ⟨18, _⟩ => ⟨S4x256x4x128, .f32⟩
  | .hbm, ⟨19, _⟩ => ⟨S4x256x4x128, .f32⟩
  | .hbm, ⟨20, _⟩ => ⟨S1x1x1x128, .f32⟩
  | .hbm, ⟨21, _⟩ => ⟨S4x256x4x128, .f32⟩
  | .hbm, ⟨22, _⟩ => ⟨S4x256x4x128, .f32⟩
  | .hbm, ⟨23, _⟩ => ⟨S4x256x512, .f32⟩
  | .hbm, ⟨24, _⟩ => ⟨S4x256x512, .bf16⟩
  | .hbm, ⟨25, _⟩ => ⟨S4x256x512, .f32⟩
  | .hbm, ⟨26, _⟩ => ⟨S4x256x512, .bf16⟩
  | _, _ => ⟨S4x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel9.lean ====
abbrev S4x4096x4096 : Shape := ⟨3, ![4, 4096, 4096]⟩
abbrev S4096 : Shape := ⟨1, ![4096]⟩
abbrev S4x1x4096 : Shape := ⟨3, ![4, 1, 4096]⟩
abbrev S1x4096 : Shape := ⟨2, ![1, 4096]⟩
abbrev S1x512x4096 : Shape := ⟨3, ![1, 512, 4096]⟩
abbrev S1x1x4096 : Shape := ⟨3, ![1, 1, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S1x4096, .f32⟩
  | .hbm, ⟨5, _⟩ => ⟨S4x4096x4096, .bf16⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x512x4096, .bf16⟩
  | .local _ .vmem, ⟨8, _⟩ => ⟨S1x512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S4x4096x4096 : Shape := ⟨3, ![4, 4096, 4096]⟩
abbrev S4096 : Shape := ⟨1, ![4096]⟩
abbrev S4x1x4096 : Shape := ⟨3, ![4, 1, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S1x1x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x1x4096, .f32⟩
  | .hbm, ⟨22, _⟩ => ⟨S4x1x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.GateDma.lean ====
module
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp
public import proofs.«01_k».proof.Proof.Gen.KernelIdeal
public import proofs.«01_k».proof.Proof.Gen.KernelIdeal.Launch
public import proofs.«01_k».proof.Proof.Gen.KernelIdeal.Skeleton

/-!
The weight pipeline of `expert_gate`: an expert's weights are copied into one of two slots while the other slot
is read. This module names the three states a slot can be in (free, filling, holding an expert) and proves the three
conditional steps a grid point takes before it computes: the first copy, the copy of the following expert, the wait.
-/

@[expose] public noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (Pipeline.UD sig nD τ) ℕ
local notation "EC" => (countersEmb (U := Pipeline.UD sig nD τ) : UEmb Counters 𝕄)

/-! ## The slots, their semaphores and the experts' weights as views -/

/-- The offsets of slot (or expert) number `v`. -/
abbrev offW (v : BitVec 32) : Fin 3 → ℕ := ![v.toNat, 0, 0]
/-- The offset of semaphore number `v`. -/
abbrev offS (v : BitVec 32) : Fin 1 → ℕ := ![v.toNat]

theorem slot_inb {v : BitVec 32} (hv : v.toNat < 2) : ∀ a, offW v a + S1x4096x1024.size a ≤ S2x4096x1024.size a := by
  intro a; fin_cases a <;> simp [offW, S1x4096x1024, S2x4096x1024] <;> omega
theorem expert_inb {e : BitVec 32} (he : e.toNat < 32) : ∀ a, offW e a + S1x4096x1024.size a ≤ S32x4096x1024.size a := by
  intro a; fin_cases a <;> simp [offW, S1x4096x1024, S32x4096x1024] <;> omega
theorem sem_inb {v : BitVec 32} (hv : v.toNat < 2) : ∀ a, offS v a + S1.size a ≤ S2.size a := by
  intro a; fin_cases a; simp [offS, S1, S2]; omega

/-- Slot `v` of the scratch as the body names it. -/
abbrev slotM (o : Fin 3 → ℕ) (h : ∀ a, o a + S1x4096x1024.size a ≤ S2x4096x1024.size a) : Memref sig .tc .vmem S4096x1024 .f32 :=
  ((Memref.whole cc0_scratch0).slice (Rect.unit (s := S2x4096x1024) o S1x4096x1024.size h) (fun _ => rfl)).squeeze S4096x1024 squeezes_S1x4096x1024_S4096x1024
/-- Expert `e`'s weights as the body names them. -/
abbrev wM (o : Fin 3 → ℕ) (h : ∀ a, o a + S1x4096x1024.size a ≤ S32x4096x1024.size a) : Memref sig .tc .hbm S4096x1024 .f32 :=
  ((Memref.whole main_arg7).slice (Rect.unit (s := S32x4096x1024) o S1x4096x1024.size h) (fun _ => rfl)).squeeze S4096x1024 squeezes_S1x4096x1024_S4096x1024
/-- The semaphore of slot `v`. -/
abbrev semS (o : Fin 1 → ℕ) (h : ∀ a, o a + S1.size a ≤ S2.size a) : DmaSem sig :=
  ((cc0_scratch1.slice (Rect.unit (s := S2) o S1.size h)).squeeze S_ squeezes_S1_S_).sem

/-- The weights' buffer on core `c` and its contents' type. -/
abbrev wLoc (c : Dev nD) : Loc nD τ sig := (Memref.whole main_arg7).view.loc (c : Thread nD τ)
abbrev WBuf (F : FTy → Type) [FloatOps F] (c : Dev nD) : Type := Buf (Elt F) (wLoc c)

/-- The half of the weights' share that goes with slot `v`: slot 0 reads at the left half, slot 1 at the right. -/
def shr (v : BitVec 32) : PosShare TreeShare := if v = 0#32 then fullShare.left else fullShare.right

/-- Expert `e`'s weights. -/
def wdat (c : Dev nD) (W : WBuf F c) (e : BitVec 32) (he : e.toNat < 32) : S4096x1024.Idx → Elt F .f32 :=
  (wM (offW e) (expert_inb he)).view.read (Elt F) W

/-- Slot `v` is free: its contents are anything, its semaphore is at zero and its half of the weights is at hand. -/
def Free (c : Dev nD) (W : WBuf F c) (v : BitVec 32) (hv : v.toNat < 2) : sProp 𝕄 :=
  iprop((∃ f, (slotM (offW v) (slot_inb hv)).view.loc (c : Thread nD τ) ↦[(slotM (offW v) (slot_inb hv)).view.set]{fullShare} f)
    ∗ semVal ((c : Thread nD τ), .dma (semS (offS v) (sem_inb hv))) 0 ∗ wLoc c ↦{shr v} W)
/-- Slot `v` is filling with expert `e`'s weights. -/
def Fly (c : Dev nD) (W : WBuf F c) (v : BitVec 32) (hv : v.toNat < 2) (e : BitVec 32) (he : e.toNat < 32) : sProp 𝕄 :=
  iprop(Transfers.Flight EC (c : Thread nD τ) (.dma (semS (offS v) (sem_inb hv))) () ((slotM (offW v) (slot_inb hv)).view.amount (.dma (semS (offS v) (sem_inb hv))))
      iprop(owns (c : Thread nD τ) (slotM (offW v) (slot_inb hv)) fullShare (wdat c W e he)
        ∗ wLoc c ↦[(wM (offW e) (expert_inb he)).view.set]{shr v} W)
    ∗ wLoc c ↦[Finset.univ \ (wM (offW e) (expert_inb he)).view.set]{shr v} W)
/-- Slot `v` holds expert `e`'s weights. -/
def Cur (c : Dev nD) (W : WBuf F c) (v : BitVec 32) (hv : v.toNat < 2) (e : BitVec 32) (he : e.toNat < 32) : sProp 𝕄 :=
  iprop(owns (c : Thread nD τ) (slotM (offW v) (slot_inb hv)) fullShare (wdat c W e he)
    ∗ semVal ((c : Thread nD τ), .dma (semS (offS v) (sem_inb hv))) 0 ∗ wLoc c ↦{shr v} W)

/-- A slot whose weights are no longer needed is free. -/
theorem Cur_free (c : Dev nD) (W : WBuf F c) (v : BitVec 32) (hv : v.toNat < 2) (e : BitVec 32) (he : e.toNat < 32) :
    Cur c W v hv e he ⊢ Free c W v hv := by
  unfold Cur Free owns
  iintro ⟨⟨%f, %hf, H⟩, Hs, Hw⟩
  isplitl [H]; · iexists f; iexact H
  isplitl [Hs]; · iexact Hs
  iexact Hw

variable {α : Type}

/-- Starting the copy of expert `e` into the free slot `v`. -/
theorem wp_start (c : Dev nD) (Q : α → sProp 𝕄) (W : WBuf F c) (v : BitVec 32) (hv : v.toNat < 2) (e : BitVec 32) (he : e.toNat < 32)
    {hsrc : (wM (offW e) (expert_inb he)).view.WordExact} {hdst : (slotM (offW v) (slot_inb hv)).view.WordExact}
    {hsem : DmaTarget.Typed (nD := nD) (τ := τ) (p := .tc) .hbm (.dma (semS (offS v) (sem_inb hv))) (.here (slotM (offW v) (slot_inb hv)))}
    (k : PUnit → Prog (TpuEff nD τ sig (Elt F) Λ₀ .tc) α) :
    Free c W v hv ⊢ iprop((Fly c W v hv e he -∗ wp frame (wpE (defs₀ (F := F)) Variants.none (c : Thread nD τ) none) Set.univ (k ⟨⟩) Q)
      -∗ wp frame (wpE (defs₀ (F := F)) Variants.none (c : Thread nD τ) none) Set.univ
          (.op (.enqueueDma (wM (offW e) (expert_inb he)) (.here (slotM (offW v) (slot_inb hv))) (.dma (semS (offS v) (sem_inb hv))) hsrc hdst hsem) k) Q) := by
  unfold Free Fly
  iintro ⟨⟨%fd, Hd⟩, Hs, Hw⟩ Hk
  ihave Hw' := (pointsTo_split_subset (Finset.subset_univ (wM (offW e) (expert_inb he)).view.set)).1 $$ Hw
  icases Hw' with ⟨Hw1, Hw2⟩
  iapply (Transfers.wp_dmaLocal EC Variants.none (c : Thread nD τ) none () _ rfl (View.amount_pos _ _ (by decide)) (Finset.Subset.refl _)) $$ [Hd Hs Hw1]
  · isplitl [Hw1]; · iexact Hw1
    isplitl [Hd]; · iexact Hd
    iexact Hs
  iintro Hf
  iapply Hk
  isplitl [Hf]
  · iapply (Transfers.Flight_mono EC (c : Thread nD τ) ?_) $$ Hf
    iintro ⟨H1, H2⟩
    isplitl [H1]
    · ihave H1' := (owns_intro (c : Thread nD τ) (slotM (offW v) (slot_inb hv)) fullShare _) $$ H1
      rw [View.read_write_univ]; iexact H1'
    iexact H2
  iexact Hw2

/-- Waiting for the copy into slot `v`. -/
theorem wp_arrive (c : Dev nD) (Q : α → sProp 𝕄) (W : WBuf F c) (v : BitVec 32) (hv : v.toNat < 2) (e : BitVec 32) (he : e.toNat < 32)
    {hsrc : (wM (offW e) (expert_inb he)).view.WordExact} {hdst : (slotM (offW v) (slot_inb hv)).view.WordExact}
    (k : PUnit → Prog (TpuEff nD τ sig (Elt F) Λ₀ .tc) α) (O : Waits sig Unit) :
    iprop(Fly c W v hv e he ∗ owes (c : Thread nD τ) 0 O)
    ⊢ iprop((iprop(Cur c W v hv e he ∗ owes (c : Thread nD τ) 0 (insert (SemLoc.dma (semS (offS v) (sem_inb hv)), ()) O)) -∗ wp frame (wpE (defs₀ (F := F)) Variants.none (c : Thread nD τ) none) Set.univ (k ⟨⟩) Q)
      -∗ wp frame (wpE (defs₀ (F := F)) Variants.none (c : Thread nD τ) none) Set.univ
          (.op (.waitDma2 (semS (offS v) (sem_inb hv)) (wM (offW e) (expert_inb he)) (slotM (offW v) (slot_inb hv)) hsrc hdst) k) Q) := by
  unfold Fly Cur
  iintro ⟨⟨Hf, Hw⟩, Ho⟩ Hk
  iapply (Transfers.wp_waitLocal EC Variants.none (c : Thread nD τ) none () rfl) $$ [Hf Ho]
  · isplitl [Hf]; · iexact Hf
    iexact Ho
  iintro ⟨⟨Hd, Hw1⟩, Hs, Ho⟩
  iapply Hk
  isplitr [Ho]
  · isplitl [Hd]; · iexact Hd
    isplitl [Hs]; · iexact Hs
    iapply (pointsTo_split_subset (Finset.subset_univ (wM (offW e) (expert_inb he)).view.set)).2
    isplitl [Hw1]; · iexact Hw1
    iexact Hw
  iexact Ho

/-! ## The tables -/

/-- A table's buffer and its points-to at the half share the body holds it at. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

/-- Reading the word `w` of a table. -/
theorem wp_word (c : Dev nD) (Q : α → sProp 𝕄) {M : Memref sig .tc .smem S96 .i32} (T : Buf (Elt F) (M.view.loc (c : Thread nD τ))) {r : Rect S96}
    {h1 : r.shape.numel = 1} {hp : EltTy.i32.packing = 1} {w : BitVec 32}
    (hw : (M.access r).read (Elt F) T (Shape.Idx.first (h1.symm ▸ Nat.one_pos)) = w)
    (k : BitVec 32 → Prog (TpuEff nD τ sig (Elt F) Λ₀ .tc) α) :
    tbPt c M T ⊢ iprop((tbPt c M T -∗ wp frame (wpE (defs₀ (F := F)) Variants.none (c : Thread nD τ) none) Set.univ (k w) Q)
      -∗ wp frame (wpE (defs₀ (F := F)) Variants.none (c : Thread nD τ) none) Set.univ ((smemLoad M r h1 hp : Prog (TpuEff nD τ sig (Elt F) Λ₀ .tc) _) >>= k) Q) := by
  subst hw
  rw [wp_bind]
  unfold smemLoad
  iintro H Hk
  iapply (wp_smemLoadElt (m := M) (r := r) (f := T) (q := fullShare.right) (S := Finset.univ) Variants.none (c : Thread nD τ) none Set.univ (Finset.subset_univ _)) $$ H
  iintro H
  rw [wp_ret]
  imodintro
  iapply Hk
  iexact H

/-- The first copy: at the first point expert `e`'s weights start towards slot 0. -/
theorem wp_if1 (c : Dev nD) (Q : α → sProp 𝕄) (W : WBuf F c) (i : grid0.Coords) (hi : k0_cond1 i = 1#1) (T : Buf (Elt F) ((Memref.whole main_arg0).view.loc (c : Thread nD τ)))
    (e : BitVec 32) (he : e.toNat < 32)
    (hw : ((Memref.whole main_arg0).access (Rect.unit (s := S96) ![0] S1.size inb_S96_S1_0)).read (Elt F) T (Shape.Idx.first (numel1_S1.symm ▸ Nat.one_pos)) = e)
    (k : PUnit → Prog (TpuEff nD τ sig (Elt F) Λ₀ .tc) α) :
    iprop(tbPt c (Memref.whole main_arg0) T ∗ Free c W 0#32 (by decide)) ⊢
      iprop((iprop(tbPt c (Memref.whole main_arg0) T ∗ Fly c W 0#32 (by decide) e he) -∗ wp frame (wpE (defs₀ (F := F)) Variants.none (c : Thread nD τ) none) Set.univ (k ⟨⟩) Q)
      -∗ wp frame (wpE (defs₀ (F := F)) Variants.none (c : Thread nD τ) none) Set.univ
        (if k0_h1 : k0_cond1 i = 1#1 then do
          let v44 : Elt F .i32 ← smemLoad (Memref.whole main_arg0) (Rect.unit (s := S96) ![0] S1.size inb_S96_S1_0) numel1_S1 rfl
          have k0_hw1 : k0_chk1 i v44 := (← Prog.lift (TpuEff.assume (k0_chk1 i v44) (k0_chk1.dec i v44))).down
          let v45 : DmaSems sig S1 := cc0_scratch1.slice (Rect.unit (s := S2) ![0] S1.size inb_S2_S1_0)
          let v46 : DmaSems sig S_ := v45.squeeze S_ squeezes_S1_S_
          let v47 : Memref sig .tc .vmem S1x4096x1024 .f32 := (Memref.whole cc0_scratch0).slice (Rect.unit (s := S2x4096x1024) ![0, 0, 0] S1x4096x1024.size inb_S2x4096x1024_S1x4096x1024_0_0_0) (fun _ => rfl)
          let v48 : Memref sig .tc .vmem S4096x1024 .f32 := v47.squeeze S4096x1024 squeezes_S1x4096x1024_S4096x1024
          let v49 : Memref sig .tc .hbm S1x4096x1024 .f32 := (Memref.whole main_arg7).slice (Rect.unit (s := S32x4096x1024) (k0_off2 v44) S1x4096x1024.size (k0_off2_inb i v44 k0_hw1 k0_h1)) (fun _ => rfl)
          let v50 : Memref sig .tc .hbm S4096x1024 .f32 := v49.squeeze S4096x1024 squeezes_S1x4096x1024_S4096x1024
          Prog.lift (.enqueueDma v50 (.here v48) (.dma v46.sem) ((View.wordExact_bits rfl).reshape _ _) ((View.wordExact_bits rfl).reshape _ _) ⟨Or.inl rfl, trivial⟩)
          k PUnit.unit
        else k PUnit.unit) Q) := by
  rw [dif_pos hi]
  iintro ⟨HT, HF⟩ Hk
  iapply (wp_word c Q T hw) $$ HT
  iintro HT
  iapply (wp_assume Variants.none (c : Thread nD τ) none Set.univ (fun _ => expert_inb he))
  iapply (wp_start c Q W 0#32 _ e he) $$ HF
  iintro HF
  iapply Hk
  isplitl [HT]; · iexact HT
  iexact HF

/-- The following expert's copy: on a first block whose next expert is `e`, its weights start towards the other slot. -/
theorem wp_if2 (c : Dev nD) (Q : α → sProp 𝕄) (W : WBuf F c) (i : grid0.Coords) (v1 v6 v9 : BitVec 32) (hi : k0_cond2 v6 v9 = 1#1)
    (k0_hw2 : k0_chk2 v1 v6 v9) (hv : (Scalar.subi 1#32 v1).toNat < 2) (T : Buf (Elt F) ((Memref.whole main_arg3).view.loc (c : Thread nD τ)))
    (e : BitVec 32) (he : e.toNat < 32)
    (hw : ((Memref.whole main_arg3).access (Rect.unit (s := S96) (k0_off3 i) S1.size (k0_off3_inb i))).read (Elt F) T (Shape.Idx.first (numel1_S1.symm ▸ Nat.one_pos)) = e)
    (k : PUnit → Prog (TpuEff nD τ sig (Elt F) Λ₀ .tc) α) :
    iprop(tbPt c (Memref.whole main_arg3) T ∗ Free c W (Scalar.subi 1#32 v1) hv) ⊢
      iprop((iprop(tbPt c (Memref.whole main_arg3) T ∗ Fly c W (Scalar.subi 1#32 v1) hv e he) -∗ wp frame (wpE (defs₀ (F := F)) Variants.none (c : Thread nD τ) none) Set.univ (k ⟨⟩) Q)
      -∗ wp frame (wpE (defs₀ (F := F)) Variants.none (c : Thread nD τ) none) Set.univ
        (if k0_h2 : k0_cond2 v6 v9 = 1#1 then do
          let v45 : Elt F .i32 ← smemLoad (Memref.whole main_arg3) (Rect.unit (s := S96) (k0_off3 i) S1.size (k0_off3_inb i)) numel1_S1 rfl
          have k0_hw3 : k0_chk3 v6 v9 v45 := (← Prog.lift (TpuEff.assume (k0_chk3 v6 v9 v45) (k0_chk3.dec v6 v9 v45))).down
          let v47 : DmaSems sig S1 := cc0_scratch1.slice (Rect.unit (s := S2) (k0_off4 v1) S1.size (k0_off4_inb v1 v6 v9 k0_hw2 k0_h2))
          let v48 : DmaSems sig S_ := v47.squeeze S_ squeezes_S1_S_
          let v49 : Memref sig .tc .vmem S1x4096x1024 .f32 := (Memref.whole cc0_scratch0).slice (Rect.unit (s := S2x4096x1024) (k0_off5 v1) S1x4096x1024.size (k0_off5_inb v1 v6 v9 k0_hw2 k0_h2)) (fun _ => rfl)
          let v50 : Memref sig .tc .vmem S4096x1024 .f32 := v49.squeeze S4096x1024 squeezes_S1x4096x1024_S4096x1024
          let v51 : Memref sig .tc .hbm S1x4096x1024 .f32 := (Memref.whole main_arg7).slice (Rect.unit (s := S32x4096x1024) (k0_off6 v45) S1x4096x1024.size (k0_off6_inb v6 v9 v45 k0_hw3 k0_h2)) (fun _ => rfl)
          let v52 : Memref sig .tc .hbm S4096x1024 .f32 := v51.squeeze S4096x1024 squeezes_S1x4096x1024_S4096x1024
          Prog.lift (.enqueueDma v52 (.here v50) (.dma v48.sem) ((View.wordExact_bits rfl).reshape _ _) ((View.wordExact_bits rfl).reshape _ _) ⟨Or.inl rfl, trivial⟩)
          k PUnit.unit
        else k PUnit.unit) Q) := by
  rw [dif_pos hi]
  iintro ⟨HT, HF⟩ Hk
  iapply (wp_word c Q T hw) $$ HT
  iintro HT
  iapply (wp_assume Variants.none (c : Thread nD τ) none Set.univ (fun _ => expert_inb he))
  iapply (wp_start c Q W (Scalar.subi 1#32 v1) hv e he) $$ HF
  iintro HF
  iapply Hk
  isplitl [HT]; · iexact HT
  iexact HF

/-- The wait: on a first block the copy of its expert `e` into slot `v1` has arrived. -/
theorem wp_if3 (c : Dev nD) (Q : α → sProp 𝕄) (W : WBuf F c) (i : grid0.Coords) (v1 v15 : BitVec 32) (hi : k0_cond3 v15 = 1#1)
    (k0_hw4 : k0_chk4 v1 v15) (hv : v1.toNat < 2) (T : Buf (Elt F) ((Memref.whole main_arg0).view.loc (c : Thread nD τ)))
    (e : BitVec 32) (he : e.toNat < 32) (O : Waits sig Unit)
    (hw : ((Memref.whole main_arg0).access (Rect.unit (s := S96) (k0_off8 i) S1.size (k0_off8_inb i))).read (Elt F) T (Shape.Idx.first (numel1_S1.symm ▸ Nat.one_pos)) = e)
    (k : PUnit → Prog (TpuEff nD τ sig (Elt F) Λ₀ .tc) α) :
    iprop(tbPt c (Memref.whole main_arg0) T ∗ Fly c W v1 hv e he ∗ owes (c : Thread nD τ) 0 O) ⊢
      iprop((iprop(tbPt c (Memref.whole main_arg0) T ∗ Cur c W v1 hv e he ∗ owes (c : Thread nD τ) 0 (insert (SemLoc.dma (semS (offS v1) (sem_inb hv)), ()) O)) -∗ wp frame (wpE (defs₀ (F := F)) Variants.none (c : Thread nD τ) none) Set.univ (k ⟨⟩) Q)
      -∗ wp frame (wpE (defs₀ (F := F)) Variants.none (c : Thread nD τ) none) Set.univ
        (if k0_h3 : k0_cond3 v15 = 1#1 then do
          let v45 : Elt F .i32 ← smemLoad (Memref.whole main_arg0) (Rect.unit (s := S96) (k0_off8 i) S1.size (k0_off8_inb i)) numel1_S1 rfl
          have k0_hw5 : k0_chk5 v15 v45 := (← Prog.lift (TpuEff.assume (k0_chk5 v15 v45) (k0_chk5.dec v15 v45))).down
          let v46 : DmaSems sig S1 := cc0_scratch1.slice (Rect.unit (s := S2) (k0_off9 v1) S1.size (k0_off9_inb v1 v15 k0_hw4 k0_h3))
          let v47 : DmaSems sig S_ := v46.squeeze S_ squeezes_S1_S_
          let v48 : Memref sig .tc .vmem S1x4096x1024 .f32 := (Memref.whole cc0_scratch0).slice (Rect.unit (s := S2x4096x1024) (k0_off10 v1) S1x4096x1024.size (k0_off10_inb v1 v15 k0_hw4 k0_h3)) (fun _ => rfl)
          let v49 : Memref sig .tc .vmem S4096x1024 .f32 := v48.squeeze S4096x1024 squeezes_S1x4096x1024_S4096x1024
          let v50 : Memref sig .tc .hbm S1x4096x1024 .f32 := (Memref.whole main_arg7).slice (Rect.unit (s := S32x4096x1024) (k0_off11 v45) S1x4096x1024.size (k0_off11_inb v15 v45 k0_hw5 k0_h3)) (fun _ => rfl)
          let v51 : Memref sig .tc .hbm S4096x1024 .f32 := v50.squeeze S4096x1024 squeezes_S1x4096x1024_S4096x1024
          Prog.lift (.waitDma2 v47.sem v51 v49 ((View.wordExact_bits rfl).reshape _ _) ((View.wordExact_bits rfl).reshape _ _))
          k PUnit.unit
        else k PUnit.unit) Q) := by
  rw [dif_pos hi]
  iintro ⟨HT, HF, Ho⟩ Hk
  iapply (wp_word c Q T hw) $$ HT
  iintro HT
  iapply (wp_assume Variants.none (c : Thread nD τ) none Set.univ (fun _ => expert_inb he))
  iapply (wp_arrive c Q W v1 hv e he) $$ [HF Ho]
  · isplitl [HF]; · iexact HF
    iexact Ho
  iintro ⟨HF, Ho⟩
  iapply Hk
  isplitl [HT]; · iexact HT
  isplitl [HF]; · iexact HF
  iexact Ho

end Cert.KernelIdeal.Hand
-- ==== Proof.GateTail.lean ====
module
public import proofs.«01_k».proof.Proof.GateDma

/-!
The part of `expert_gate`'s body that computes, as a program of its own.
-/

@[expose] public noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (Pipeline.UD sig nD τ) ℕ

set_option maxHeartbeats 4000000 in
/-- What a grid point does once its expert's weights are in slot `v1`: by its number of tokens `v20`, the product
over its first 128 or 256 rows and zeros below them (the larger blocks are the caller's). -/
def tail (i : grid0.Coords) (arg1 : Memref sig .tc .smem S96 .i32) (harg1 : arg1.IsWhole) (arg2 : Memref sig .tc .smem S96 .i32) (harg2 : arg2.IsWhole) (arg3 : Memref sig .tc .smem S96 .i32) (harg3 : arg3.IsWhole) (arg4 : Memref sig .tc .smem S96 .i32) (harg4 : arg4.IsWhole) (arg5 : Memref sig .tc .smem S1 .i32) (harg5 : arg5.IsWhole) (arg6 : Memref sig .tc .smem S96 .i32) (harg6 : arg6.IsWhole) (arg7 : Memref sig .tc .vmem S8192x128 .i32) (harg7 : arg7.IsWhole) (arg8 : Memref sig .tc .hbm S32x4096x1024 .f32) (harg8 : arg8.IsWhole) (arg9 : Memref sig .tc .vmem S512x1024 .bf16) (harg9 : arg9.IsWhole) (arg10 : Memref sig .tc .vmem S2x4096x1024 .f32) (harg10 : arg10.IsWhole) (arg11 : DmaSems sig S2) (v1 v20 : BitVec 32) (k0_hw6 : k0_chk6 v1 v20) :
    Prog (TpuEff nD τ sig (Elt F) Λ₀ .tc) (Σ' (v1 : Elt F .i32) (v20 : Elt F .i32) (k0_hw6 : k0_chk6 v1 v20) (v34 : BitVec 32), BitVec 32) := do
  if k0_h4 : k0_cond4 v20 = 1#1 then do
    let ⟨v45, v46, v48, v49, v51, v52, v54, v55, v57, v58, v60, v61, v63, v64, v66, v67, v69, v70, v72, v73, v75, v76, v78, v79⟩ : Σ' (v45 : FVec F S128x128 .f32) (v46 : FVec F S128x128 .f32) (v48 : FVec F S128x128 .f32) (v49 : FVec F S128x128 .f32) (v51 : FVec F S128x128 .f32) (v52 : FVec F S128x128 .f32) (v54 : FVec F S128x128 .f32) (v55 : FVec F S128x128 .f32) (v57 : FVec F S128x128 .f32) (v58 : FVec F S128x128 .f32) (v60 : FVec F S128x128 .f32) (v61 : FVec F S128x128 .f32) (v63 : FVec F S128x128 .f32) (v64 : FVec F S128x128 .f32) (v66 : FVec F S128x128 .f32) (v67 : FVec F S128x128 .f32) (v69 : FVec F S128x128 .f32) (v70 : FVec F S128x128 .f32) (v72 : FVec F S128x128 .f32) (v73 : FVec F S128x128 .f32) (v75 : FVec F S128x128 .f32) (v76 : FVec F S128x128 .f32) (v78 : FVec F S128x128 .f32), FVec F S128x128 .f32 ← k0_part1 i arg1 harg1 arg2 harg2 arg3 harg3 arg4 harg4 arg5 harg5 arg6 harg6 arg7 harg7 arg8 harg8 arg9 harg9 arg10 harg10 arg11
    let ⟨v108, v125⟩ : Σ' (v108 : FVec F S128x2048 .bf16), FVec F S128x2048 .bf16 ← k0_part2 i arg1 harg1 arg2 harg2 arg3 harg3 arg4 harg4 arg5 harg5 arg6 harg6 arg7 harg7 arg8 harg8 arg9 harg9 arg10 harg10 arg11 v1 v20 k0_hw6 k0_h4 v45 v46 v48 v49 v51 v52 v54 v55 v57 v58 v60 v61 v63 v64 v66 v67 v69 v70 v72 v73 v75 v76 v78 v79
    let ⟨v157, v162, cst_55⟩ : Σ' (v157 : FVec F S128x256 .f32) (v162 : FVec F S128x256 .f32), F .f32 ← k0_part3 i arg1 harg1 arg2 harg2 arg3 harg3 arg4 harg4 arg5 harg5 arg6 harg6 arg7 harg7 arg8 harg8 arg9 harg9 arg10 harg10 arg11 v1 v20 k0_hw6 k0_h4 v108 v125
    let v193 : FVec F S128x256 .f32 ← k0_part4 i arg1 harg1 arg2 harg2 arg3 harg3 arg4 harg4 arg5 harg5 arg6 harg6 arg7 harg7 arg8 harg8 arg9 harg9 arg10 harg10 arg11 v1 v20 k0_hw6 k0_h4 v108 v125 v157 v162 cst_55
    let v194 : Memref sig .tc .vmem S1x4096x1024 .f32 := arg10.slice (Rect.unit (s := S2x4096x1024) (k0_off13 v1) S1x4096x1024.size (k0_off13_inb v1 v20 k0_hw6 k0_h4)) (fun _ => rfl)
    let v195 : Memref sig .tc .vmem S4096x1024 .f32 := v194.squeeze S4096x1024 squeezes_S1x4096x1024_S4096x1024
    let v196 : Vec F S2048x256 .f32 ← Prog.lift (.load v195 (Rect.unit (s := S4096x1024) ![2048, 768] S2048x256.size inb_S4096x1024_S2048x256_2048_768).toLoadRect (View.loadsAt_vmem h_S2048x256))
    let v209 : Vec F S128x256 .bf16 ← Prog.lift (.load arg9 (Rect.unit (s := S512x1024) ![0, 768] S128x256.size inb_S512x1024_S128x256_0_768).toLoadRect (View.loadsAt_vmem h_S128x256))
    Prog.lift (.store arg9 (Rect.unit (s := S512x1024) ![0, 768] S128x256.size inb_S512x1024_S128x256_0_768) (k0_pay133 v125 v193 v196) Finset.univ (View.stores_vmem h_S128x256 (harg9.storeExact_slice rfl _ packedbf16_S512x1024_S128x256_0_768) (fun _ => rfl)) (.inl rfl))
    let v211 : Vec F S384x1024 .bf16 ← Prog.lift (.load arg9 (Rect.unit (s := S512x1024) ![128, 0] S384x1024.size inb_S512x1024_S384x1024_128_0).toLoadRect (View.loadsAt_vmem h_S384x1024))
    Prog.lift (.store arg9 (Rect.unit (s := S512x1024) ![128, 0] S384x1024.size inb_S512x1024_S384x1024_128_0) (k0_pay134 (F := F)) Finset.univ (View.stores_vmem h_S384x1024 (harg9.storeExact_slice rfl _ packedbf16_S512x1024_S384x1024_128_0) (fun _ => rfl)) (.inl rfl))
    pure ⟨⟩
  else do
    pure ⟨⟩
  if k0_h5 : k0_cond5 v20 = 1#1 then do
    let ⟨v45, v46, v48, v49, v51, v52, v54, v55, v57, v58, v60, v61, v63, v64, v66, v67, v69, v70, v72, v73, v75, v76, v78, v79⟩ : Σ' (v45 : FVec F S256x128 .f32) (v46 : FVec F S256x128 .f32) (v48 : FVec F S256x128 .f32) (v49 : FVec F S256x128 .f32) (v51 : FVec F S256x128 .f32) (v52 : FVec F S256x128 .f32) (v54 : FVec F S256x128 .f32) (v55 : FVec F S256x128 .f32) (v57 : FVec F S256x128 .f32) (v58 : FVec F S256x128 .f32) (v60 : FVec F S256x128 .f32) (v61 : FVec F S256x128 .f32) (v63 : FVec F S256x128 .f32) (v64 : FVec F S256x128 .f32) (v66 : FVec F S256x128 .f32) (v67 : FVec F S256x128 .f32) (v69 : FVec F S256x128 .f32) (v70 : FVec F S256x128 .f32) (v72 : FVec F S256x128 .f32) (v73 : FVec F S256x128 .f32) (v75 : FVec F S256x128 .f32) (v76 : FVec F S256x128 .f32) (v78 : FVec F S256x128 .f32), FVec F S256x128 .f32 ← k0_part5 i arg1 harg1 arg2 harg2 arg3 harg3 arg4 harg4 arg5 harg5 arg6 harg6 arg7 harg7 arg8 harg8 arg9 harg9 arg10 harg10 arg11
    let ⟨v108, v125⟩ : Σ' (v108 : FVec F S256x2048 .bf16), FVec F S256x2048 .bf16 ← k0_part6 i arg1 harg1 arg2 harg2 arg3 harg3 arg4 harg4 arg5 harg5 arg6 harg6 arg7 harg7 arg8 harg8 arg9 harg9 arg10 harg10 arg11 v1 v20 k0_hw6 k0_h5 v45 v46 v48 v49 v51 v52 v54 v55 v57 v58 v60 v61 v63 v64 v66 v67 v69 v70 v72 v73 v75 v76 v78 v79
    let ⟨v157, v162, cst_55⟩ : Σ' (v157 : FVec F S256x256 .f32) (v162 : FVec F S256x256 .f32), F .f32 ← k0_part7 i arg1 harg1 arg2 harg2 arg3 harg3 arg4 harg4 arg5 harg5 arg6 harg6 arg7 harg7 arg8 harg8 arg9 harg9 arg10 harg10 arg11 v1 v20 k0_hw6 k0_h5 v108 v125
    let v193 : FVec F S256x256 .f32 ← k0_part8 i arg1 harg1 arg2 harg2 arg3 harg3 arg4 harg4 arg5 harg5 arg6 harg6 arg7 harg7 arg8 harg8 arg9 harg9 arg10 harg10 arg11 v1 v20 k0_hw6 k0_h5 v108 v125 v157 v162 cst_55
    let v194 : Memref sig .tc .vmem S1x4096x1024 .f32 := arg10.slice (Rect.unit (s := S2x4096x1024) (k0_off14 v1) S1x4096x1024.size (k0_off14_inb v1 v20 k0_hw6 k0_h5)) (fun _ => rfl)
    let v195 : Memref sig .tc .vmem S4096x1024 .f32 := v194.squeeze S4096x1024 squeezes_S1x4096x1024_S4096x1024
    let v196 : Vec F S2048x256 .f32 ← Prog.lift (.load v195 (Rect.unit (s := S4096x1024) ![2048, 768] S2048x256.size inb_S4096x1024_S2048x256_2048_768).toLoadRect (View.loadsAt_vmem h_S2048x256))
    let v209 : Vec F S256x256 .bf16 ← Prog.lift (.load arg9 (Rect.unit (s := S512x1024) ![0, 768] S256x256.size inb_S512x1024_S256x256_0_768).toLoadRect (View.loadsAt_vmem h_S256x256))
    Prog.lift (.store arg9 (Rect.unit (s := S512x1024) ![0, 768] S256x256.size inb_S512x1024_S256x256_0_768) (k0_pay135 v125 v193 v196) Finset.univ (View.stores_vmem h_S256x256 (harg9.storeExact_slice rfl _ packedbf16_S512x1024_S256x256_0_768) (fun _ => rfl)) (.inl rfl))
    let v211 : Vec F S256x1024 .bf16 ← Prog.lift (.load arg9 (Rect.unit (s := S512x1024) ![256, 0] S256x1024.size inb_S512x1024_S256x1024_256_0).toLoadRect (View.loadsAt_vmem h_S256x1024))
    Prog.lift (.store arg9 (Rect.unit (s := S512x1024) ![256, 0] S256x1024.size inb_S512x1024_S256x1024_256_0) (k0_pay136 (F := F)) Finset.univ (View.stores_vmem h_S256x1024 (harg9.storeExact_slice rfl _ packedbf16_S512x1024_S256x1024_256_0) (fun _ => rfl)) (.inl rfl))
    pure ⟨⟩
  else do
    pure ⟨⟩
  let v31 : BitVec 1 := Scalar.cmpi .sgt v20 256#32
  let v32 : BitVec 1 := Scalar.cmpi .sle v20 384#32
  let v33 : BitVec 1 := Scalar.andi v31 v32
  let v34 : BitVec 32 := Scalar.extui v33
  pure ⟨v1, v20, k0_hw6, v34, 0#32⟩

set_option maxHeartbeats 4000000 in
/-- The computing part of the body: `tail`, then the products over 384 and 512 rows and the zero block. -/
def comp (i : grid0.Coords) (arg1 : Memref sig .tc .smem S96 .i32) (harg1 : arg1.IsWhole) (arg2 : Memref sig .tc .smem S96 .i32) (harg2 : arg2.IsWhole) (arg3 : Memref sig .tc .smem S96 .i32) (harg3 : arg3.IsWhole) (arg4 : Memref sig .tc .smem S96 .i32) (harg4 : arg4.IsWhole) (arg5 : Memref sig .tc .smem S1 .i32) (harg5 : arg5.IsWhole) (arg6 : Memref sig .tc .smem S96 .i32) (harg6 : arg6.IsWhole) (arg7 : Memref sig .tc .vmem S8192x128 .i32) (harg7 : arg7.IsWhole) (arg8 : Memref sig .tc .hbm S32x4096x1024 .f32) (harg8 : arg8.IsWhole) (arg9 : Memref sig .tc .vmem S512x1024 .bf16) (harg9 : arg9.IsWhole) (arg10 : Memref sig .tc .vmem S2x4096x1024 .f32) (harg10 : arg10.IsWhole) (arg11 : DmaSems sig S2) (v1' v20' : BitVec 32) (k0_hw6' : k0_chk6 v1' v20') :
    Prog (TpuEff nD τ sig (Elt F) Λ₀ .tc) PUnit := do
  let ⟨v1, v20, k0_hw6, v34, c0_i32_10⟩ : Σ' (v1 : Elt F .i32) (v20 : Elt F .i32) (k0_hw6 : k0_chk6 v1 v20) (v34 : BitVec 32), BitVec 32 ← tail i arg1 harg1 arg2 harg2 arg3 harg3 arg4 harg4 arg5 harg5 arg6 harg6 arg7 harg7 arg8 harg8 arg9 harg9 arg10 harg10 arg11 v1' v20' k0_hw6'
  if k0_h6 : k0_cond6 v20 = 1#1 then do
    let ⟨v45, v46, v48, v49, v51, v52, v54, v55, v57, v58, v60, v61, v63, v64, v66, v67, v69, v70, v72, v73, v75, v76, v78, v79⟩ : Σ' (v45 : FVec F S384x128 .f32) (v46 : FVec F S384x128 .f32) (v48 : FVec F S384x128 .f32) (v49 : FVec F S384x128 .f32) (v51 : FVec F S384x128 .f32) (v52 : FVec F S384x128 .f32) (v54 : FVec F S384x128 .f32) (v55 : FVec F S384x128 .f32) (v57 : FVec F S384x128 .f32) (v58 : FVec F S384x128 .f32) (v60 : FVec F S384x128 .f32) (v61 : FVec F S384x128 .f32) (v63 : FVec F S384x128 .f32) (v64 : FVec F S384x128 .f32) (v66 : FVec F S384x128 .f32) (v67 : FVec F S384x128 .f32) (v69 : FVec F S384x128 .f32) (v70 : FVec F S384x128 .f32) (v72 : FVec F S384x128 .f32) (v73 : FVec F S384x128 .f32) (v75 : FVec F S384x128 .f32) (v76 : FVec F S384x128 .f32) (v78 : FVec F S384x128 .f32), FVec F S384x128 .f32 ← k0_part9 i arg1 harg1 arg2 harg2 arg3 harg3 arg4 harg4 arg5 harg5 arg6 harg6 arg7 harg7 arg8 harg8 arg9 harg9 arg10 harg10 arg11
    let ⟨v108, v125⟩ : Σ' (v108 : FVec F S384x2048 .bf16), FVec F S384x2048 .bf16 ← k0_part10 i arg1 harg1 arg2 harg2 arg3 harg3 arg4 harg4 arg5 harg5 arg6 harg6 arg7 harg7 arg8 harg8 arg9 harg9 arg10 harg10 arg11 v1 v20 k0_hw6 k0_h6 v45 v46 v48 v49 v51 v52 v54 v55 v57 v58 v60 v61 v63 v64 v66 v67 v69 v70 v72 v73 v75 v76 v78 v79
    let ⟨v157, v162, cst_55⟩ : Σ' (v157 : FVec F S384x256 .f32) (v162 : FVec F S384x256 .f32), F .f32 ← k0_part11 i arg1 harg1 arg2 harg2 arg3 harg3 arg4 harg4 arg5 harg5 arg6 harg6 arg7 harg7 arg8 harg8 arg9 harg9 arg10 harg10 arg11 v1 v20 k0_hw6 k0_h6 v108 v125
    let v193 : FVec F S384x256 .f32 ← k0_part12 i arg1 harg1 arg2 harg2 arg3 harg3 arg4 harg4 arg5 harg5 arg6 harg6 arg7 harg7 arg8 harg8 arg9 harg9 arg10 harg10 arg11 v1 v20 k0_hw6 k0_h6 v108 v125 v157 v162 cst_55
    let v194 : Memref sig .tc .vmem S1x4096x1024 .f32 := arg10.slice (Rect.unit (s := S2x4096x1024) (k0_off15 v1) S1x4096x1024.size (k0_off15_inb v1 v20 k0_hw6 k0_h6)) (fun _ => rfl)
    let v195 : Memref sig .tc .vmem S4096x1024 .f32 := v194.squeeze S4096x1024 squeezes_S1x4096x1024_S4096x1024
    let v196 : Vec F S2048x256 .f32 ← Prog.lift (.load v195 (Rect.unit (s := S4096x1024) ![2048, 768] S2048x256.size inb_S4096x1024_S2048x256_2048_768).toLoadRect (View.loadsAt_vmem h_S2048x256))
    let v209 : Vec F S384x256 .bf16 ← Prog.lift (.load arg9 (Rect.unit (s := S512x1024) ![0, 768] S384x256.size inb_S512x1024_S384x256_0_768).toLoadRect (View.loadsAt_vmem h_S384x256))
    Prog.lift (.store arg9 (Rect.unit (s := S512x1024) ![0, 768] S384x256.size inb_S512x1024_S384x256_0_768) (k0_pay1 v125 v193 v196) Finset.univ (View.stores_vmem h_S384x256 (harg9.storeExact_slice rfl _ packedbf16_S512x1024_S384x256_0_768) (fun _ => rfl)) (.inl rfl))
    let v211 : Vec F S128x1024 .bf16 ← Prog.lift (.load arg9 (Rect.unit (s := S512x1024) ![384, 0] S128x1024.size inb_S512x1024_S128x1024_384_0).toLoadRect (View.loadsAt_vmem h_S128x1024))
    Prog.lift (.store arg9 (Rect.unit (s := S512x1024) ![384, 0] S128x1024.size inb_S512x1024_S128x1024_384_0) (k0_pay2 (F := F)) Finset.univ (View.stores_vmem h_S128x1024 (harg9.storeExact_slice rfl _ packedbf16_S512x1024_S128x1024_384_0) (fun _ => rfl)) (.inl rfl))
    pure ⟨⟩
  else do
    pure ⟨⟩
  if k0_h7 : k0_cond7 v20 = 1#1 then do
    let ⟨v45, v46, v48, v49, v51, v52, v54, v55, v57, v58, v60, v61, v63, v64, v66, v67, v69, v70, v72, v73, v75, v76, v78, v79⟩ : Σ' (v45 : FVec F S512x128 .f32) (v46 : FVec F S512x128 .f32) (v48 : FVec F S512x128 .f32) (v49 : FVec F S512x128 .f32) (v51 : FVec F S512x128 .f32) (v52 : FVec F S512x128 .f32) (v54 : FVec F S512x128 .f32) (v55 : FVec F S512x128 .f32) (v57 : FVec F S512x128 .f32) (v58 : FVec F S512x128 .f32) (v60 : FVec F S512x128 .f32) (v61 : FVec F S512x128 .f32) (v63 : FVec F S512x128 .f32) (v64 : FVec F S512x128 .f32) (v66 : FVec F S512x128 .f32) (v67 : FVec F S512x128 .f32) (v69 : FVec F S512x128 .f32) (v70 : FVec F S512x128 .f32) (v72 : FVec F S512x128 .f32) (v73 : FVec F S512x128 .f32) (v75 : FVec F S512x128 .f32) (v76 : FVec F S512x128 .f32) (v78 : FVec F S512x128 .f32), FVec F S512x128 .f32 ← k0_part13 i arg1 harg1 arg2 harg2 arg3 harg3 arg4 harg4 arg5 harg5 arg6 harg6 arg7 harg7 arg8 harg8 arg9 harg9 arg10 harg10 arg11
    let ⟨v108, v125⟩ : Σ' (v108 : FVec F S512x2048 .bf16), FVec F S512x2048 .bf16 ← k0_part14 i arg1 harg1 arg2 harg2 arg3 harg3 arg4 harg4 arg5 harg5 arg6 harg6 arg7 harg7 arg8 harg8 arg9 harg9 arg10 harg10 arg11 v1 v20 k0_hw6 k0_h7 v45 v46 v48 v49 v51 v52 v54 v55 v57 v58 v60 v61 v63 v64 v66 v67 v69 v70 v72 v73 v75 v76 v78 v79
    let ⟨v157, v162, cst_55⟩ : Σ' (v157 : FVec F S512x256 .f32) (v162 : FVec F S512x256 .f32), F .f32 ← k0_part15 i arg1 harg1 arg2 harg2 arg3 harg3 arg4 harg4 arg5 harg5 arg6 harg6 arg7 harg7 arg8 harg8 arg9 harg9 arg10 harg10 arg11 v1 v20 k0_hw6 k0_h7 v108 v125
    let v193 : FVec F S512x256 .f32 ← k0_part16 i arg1 harg1 arg2 harg2 arg3 harg3 arg4 harg4 arg5 harg5 arg6 harg6 arg7 harg7 arg8 harg8 arg9 harg9 arg10 harg10 arg11 v1 v20 k0_hw6 k0_h7 v108 v125 v157 v162 cst_55
    let v194 : Memref sig .tc .vmem S1x4096x1024 .f32 := arg10.slice (Rect.unit (s := S2x4096x1024) (k0_off16 v1) S1x4096x1024.size (k0_off16_inb v1 v20 k0_hw6 k0_h7)) (fun _ => rfl)
    let v195 : Memref sig .tc .vmem S4096x1024 .f32 := v194.squeeze S4096x1024 squeezes_S1x4096x1024_S4096x1024
    let v196 : Vec F S2048x256 .f32 ← Prog.lift (.load v195 (Rect.unit (s := S4096x1024) ![2048, 768] S2048x256.size inb_S4096x1024_S2048x256_2048_768).toLoadRect (View.loadsAt_vmem h_S2048x256))
    let v209 : Vec F S512x256 .bf16 ← Prog.lift (.load arg9 (Rect.unit (s := S512x1024) ![0, 768] S512x256.size inb_S512x1024_S512x256_0_768).toLoadRect (View.loadsAt_vmem h_S512x256))
    Prog.lift (.store arg9 (Rect.unit (s := S512x1024) ![0, 768] S512x256.size inb_S512x1024_S512x256_0_768) (k0_pay3 v125 v193 v196) Finset.univ (View.stores_vmem h_S512x256 (harg9.storeExact_slice rfl _ packedbf16_S512x1024_S512x256_0_768) (fun _ => rfl)) (.inl rfl))
    pure ⟨⟩
  else do
    pure ⟨⟩
  if k0_h8 : k0_cond8 v20 = 1#1 then do
    let v45 : Vec F S512x1024 .bf16 ← Prog.lift (.load arg9 (Rect.unit (s := S512x1024) ![0, 0] S512x1024.size inb_S512x1024_S512x1024_0_0).toLoadRect (View.loadsAt_vmem h_S512x1024))
    Prog.lift (.store arg9 (Rect.unit (s := S512x1024) ![0, 0] S512x1024.size inb_S512x1024_S512x1024_0_0) (k0_pay4 (F := F)) Finset.univ (View.stores_vmem h_S512x1024 (harg9.storeExact_slice rfl _ packedbf16_S512x1024_S512x1024_0_0) (fun _ => rfl)) (.inl rfl))
    pure ⟨⟩
  else do
    pure ⟨⟩
  pure ⟨⟩

set_option maxRecDepth 65536 in
set_option maxHeartbeats 4000000 in
/-- The first part of the body is its conditional copies and its wait, then the part that computes. -/
theorem part17_eq (i : grid0.Coords) (arg1 : Memref sig .tc .smem S96 .i32) (harg1 : arg1.IsWhole) (arg2 : Memref sig .tc .smem S96 .i32) (harg2 : arg2.IsWhole) (arg3 : Memref sig .tc .smem S96 .i32) (harg3 : arg3.IsWhole) (arg4 : Memref sig .tc .smem S96 .i32) (harg4 : arg4.IsWhole) (arg5 : Memref sig .tc .smem S1 .i32) (harg5 : arg5.IsWhole) (arg6 : Memref sig .tc .smem S96 .i32) (harg6 : arg6.IsWhole) (arg7 : Memref sig .tc .vmem S8192x128 .i32) (harg7 : arg7.IsWhole) (arg8 : Memref sig .tc .hbm S32x4096x1024 .f32) (harg8 : arg8.IsWhole) (arg9 : Memref sig .tc .vmem S512x1024 .bf16) (harg9 : arg9.IsWhole) (arg10 : Memref sig .tc .vmem S2x4096x1024 .f32) (harg10 : arg10.IsWhole) (arg11 : DmaSems sig S2) :
    k0_part17 (F := F) i arg1 harg1 arg2 harg2 arg3 harg3 arg4 harg4 arg5 harg5 arg6 harg6 arg7 harg7 arg8 harg8 arg9 harg9 arg10 harg10 arg11 = (do
      let v1 : Elt F .i32 ← smemLoad arg3 (Rect.unit (s := S96) (k0_off1 i) S1.size (k0_off1_inb i)) numel1_S1 rfl
      if k0_h1 : k0_cond1 i = 1#1 then do
        let v44 : Elt F .i32 ← smemLoad arg1 (Rect.unit (s := S96) ![0] S1.size inb_S96_S1_0) numel1_S1 rfl
        have k0_hw1 : k0_chk1 i v44 := (← Prog.lift (TpuEff.assume (k0_chk1 i v44) (k0_chk1.dec i v44))).down
        let v45 : DmaSems sig S1 := arg11.slice (Rect.unit (s := S2) ![0] S1.size inb_S2_S1_0)
        let v46 : DmaSems sig S_ := v45.squeeze S_ squeezes_S1_S_
        let v47 : Memref sig .tc .vmem S1x4096x1024 .f32 := arg10.slice (Rect.unit (s := S2x4096x1024) ![0, 0, 0] S1x4096x1024.size inb_S2x4096x1024_S1x4096x1024_0_0_0) (fun _ => rfl)
        let v48 : Memref sig .tc .vmem S4096x1024 .f32 := v47.squeeze S4096x1024 squeezes_S1x4096x1024_S4096x1024
        let v49 : Memref sig .tc .hbm S1x4096x1024 .f32 := arg8.slice (Rect.unit (s := S32x4096x1024) (k0_off2 v44) S1x4096x1024.size (k0_off2_inb i v44 k0_hw1 k0_h1)) (fun _ => rfl)
        let v50 : Memref sig .tc .hbm S4096x1024 .f32 := v49.squeeze S4096x1024 squeezes_S1x4096x1024_S4096x1024
        Prog.lift (.enqueueDma v50 (.here v48) (.dma v46.sem) ((View.wordExact_bits rfl).reshape _ _) ((View.wordExact_bits rfl).reshape _ _) ⟨Or.inl rfl, trivial⟩)
        pure ⟨⟩
      else do
        pure ⟨⟩
      let v6 : Elt F .i32 ← smemLoad arg2 (Rect.unit (s := S96) (k0_off1 i) S1.size (k0_off1_inb i)) numel1_S1 rfl
      let v9 : Elt F .i32 ← smemLoad arg4 (Rect.unit (s := S96) (k0_off1 i) S1.size (k0_off1_inb i)) numel1_S1 rfl
      have k0_hw2 : k0_chk2 v1 v6 v9 := (← Prog.lift (TpuEff.assume (k0_chk2 v1 v6 v9) (k0_chk2.dec v1 v6 v9))).down
      if k0_h2 : k0_cond2 v6 v9 = 1#1 then do
        let v45 : Elt F .i32 ← smemLoad arg4 (Rect.unit (s := S96) (k0_off3 i) S1.size (k0_off3_inb i)) numel1_S1 rfl
        have k0_hw3 : k0_chk3 v6 v9 v45 := (← Prog.lift (TpuEff.assume (k0_chk3 v6 v9 v45) (k0_chk3.dec v6 v9 v45))).down
        let v47 : DmaSems sig S1 := arg11.slice (Rect.unit (s := S2) (k0_off4 v1) S1.size (k0_off4_inb v1 v6 v9 k0_hw2 k0_h2))
        let v48 : DmaSems sig S_ := v47.squeeze S_ squeezes_S1_S_
        let v49 : Memref sig .tc .vmem S1x4096x1024 .f32 := arg10.slice (Rect.unit (s := S2x4096x1024) (k0_off5 v1) S1x4096x1024.size (k0_off5_inb v1 v6 v9 k0_hw2 k0_h2)) (fun _ => rfl)
        let v50 : Memref sig .tc .vmem S4096x1024 .f32 := v49.squeeze S4096x1024 squeezes_S1x4096x1024_S4096x1024
        let v51 : Memref sig .tc .hbm S1x4096x1024 .f32 := arg8.slice (Rect.unit (s := S32x4096x1024) (k0_off6 v45) S1x4096x1024.size (k0_off6_inb v6 v9 v45 k0_hw3 k0_h2)) (fun _ => rfl)
        let v52 : Memref sig .tc .hbm S4096x1024 .f32 := v51.squeeze S4096x1024 squeezes_S1x4096x1024_S4096x1024
        Prog.lift (.enqueueDma v52 (.here v50) (.dma v48.sem) ((View.wordExact_bits rfl).reshape _ _) ((View.wordExact_bits rfl).reshape _ _) ⟨Or.inl rfl, trivial⟩)
        pure ⟨⟩
      else do
        pure ⟨⟩
      let v15 : Elt F .i32 ← smemLoad arg2 (Rect.unit (s := S96) (k0_off7 i) S1.size (k0_off7_inb i)) numel1_S1 rfl
      have k0_hw4 : k0_chk4 v1 v15 := (← Prog.lift (TpuEff.assume (k0_chk4 v1 v15) (k0_chk4.dec v1 v15))).down
      if k0_h3 : k0_cond3 v15 = 1#1 then do
        let v45 : Elt F .i32 ← smemLoad arg1 (Rect.unit (s := S96) (k0_off8 i) S1.size (k0_off8_inb i)) numel1_S1 rfl
        have k0_hw5 : k0_chk5 v15 v45 := (← Prog.lift (TpuEff.assume (k0_chk5 v15 v45) (k0_chk5.dec v15 v45))).down
        let v46 : DmaSems sig S1 := arg11.slice (Rect.unit (s := S2) (k0_off9 v1) S1.size (k0_off9_inb v1 v15 k0_hw4 k0_h3))
        let v47 : DmaSems sig S_ := v46.squeeze S_ squeezes_S1_S_
        let v48 : Memref sig .tc .vmem S1x4096x1024 .f32 := arg10.slice (Rect.unit (s := S2x4096x1024) (k0_off10 v1) S1x4096x1024.size (k0_off10_inb v1 v15 k0_hw4 k0_h3)) (fun _ => rfl)
        let v49 : Memref sig .tc .vmem S4096x1024 .f32 := v48.squeeze S4096x1024 squeezes_S1x4096x1024_S4096x1024
        let v50 : Memref sig .tc .hbm S1x4096x1024 .f32 := arg8.slice (Rect.unit (s := S32x4096x1024) (k0_off11 v45) S1x4096x1024.size (k0_off11_inb v15 v45 k0_hw5 k0_h3)) (fun _ => rfl)
        let v51 : Memref sig .tc .hbm S4096x1024 .f32 := v50.squeeze S4096x1024 squeezes_S1x4096x1024_S4096x1024
        Prog.lift (.waitDma2 v47.sem v51 v49 ((View.wordExact_bits rfl).reshape _ _) ((View.wordExact_bits rfl).reshape _ _))
        pure ⟨⟩
      else do
        pure ⟨⟩
      let v20 : Elt F .i32 ← smemLoad arg6 (Rect.unit (s := S96) (k0_off12 i) S1.size (k0_off12_inb i)) numel1_S1 rfl
      have k0_hw6 : k0_chk6 v1 v20 := (← Prog.lift (TpuEff.assume (k0_chk6 v1 v20) (k0_chk6.dec v1 v20))).down
      tail i arg1 harg1 arg2 harg2 arg3 harg3 arg4 harg4 arg5 harg5 arg6 harg6 arg7 harg7 arg8 harg8 arg9 harg9 arg10 harg10 arg11 v1 v20 k0_hw6) := rfl

end Cert.KernelIdeal.Hand
-- ==== Proof.GateHead.lean ====
module
public import proofs.«01_k».proof.Proof.GateTail

/-!
One grid point of `expert_gate` up to its computation: from the slots' state the previous point left, through the
copies and the wait, to slot `s` holding this point's expert and the other slot free or filling.
-/

@[expose] public noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (Pipeline.UD sig nD τ) ℕ

/-! ## The conditions the body computes, as facts of the words -/

/-- The first-point condition. -/
theorem cond1_iff (i : grid0.Coords) : k0_cond1 i = 1#1 ↔ (i 0).val = 0 := by
  have key : ∀ n : Fin 96, Scalar.cmpi .ne (Scalar.extui (Scalar.cmpi .eq (BitVec.ofNat 32 n.val) 0#32) : BitVec 32) 0#32 = 1#1 ↔ n.val = 0 := by decide
  exact key ⟨(i 0).val, (i 0).isLt⟩
/-- The condition of the following expert's copy. -/
theorem cond2_iff (fi x : BitVec 32) (hf : fi = 0#32 ∨ fi = 1#32) (hx : x = 4294967295#32 ∨ x.toNat < 32) :
    k0_cond2 fi x = 1#1 ↔ fi = 1#32 ∧ x.toNat < 32 := by
  have key : ∀ y : Fin 32, (k0_cond2 0#32 (BitVec.ofNat 32 y.val) = 0#1) ∧ (k0_cond2 1#32 (BitVec.ofNat 32 y.val) = 1#1) := by decide
  rcases hx with rfl | hx
  · rcases hf with rfl | rfl <;> decide
  · have e : x = BitVec.ofNat 32 (⟨x.toNat, hx⟩ : Fin 32).val := by simp
    have k := key ⟨x.toNat, hx⟩
    rw [← e] at k
    rcases hf with rfl | rfl
    · rw [k.1]; simp
    · rw [k.2]; simp [hx]
/-- The condition of the wait. -/
theorem cond3_iff (fi : BitVec 32) (hf : fi = 0#32 ∨ fi = 1#32) : k0_cond3 fi = 1#1 ↔ fi = 1#32 := by
  rcases hf with rfl | rfl <;> decide

/-! ## The slots' states around a grid point -/

/-- The other slot: filling with the following expert `x`, if there is one, and free if not. -/
def Nxt (c : Dev nD) (W : WBuf F c) (v : BitVec 32) (hv : v.toNat < 2) (x : BitVec 32) : sProp 𝕄 :=
  if h : x.toNat < 32 then Fly c W v hv x h else Free c W v hv

/-- The slots before the body's second step: on a first block its expert's copy is on its way and the other slot is free. -/
def SA (c : Dev nD) (W : WBuf F c) (s : BitVec 32) (hs : s.toNat < 2) (hs' : (Scalar.subi 1#32 s).toNat < 2) (e : BitVec 32) (he : e.toNat < 32)
    (x fi : BitVec 32) : sProp 𝕄 :=
  if fi = 1#32 then iprop(Fly c W s hs e he ∗ Free c W (Scalar.subi 1#32 s) hs') else iprop(Cur c W s hs e he ∗ Nxt c W (Scalar.subi 1#32 s) hs' x)

/-- The slots before a grid point: both free at the first. -/
def S0 (c : Dev nD) (W : WBuf F c) (i : grid0.Coords) (s : BitVec 32) (hs : s.toNat < 2) (hs' : (Scalar.subi 1#32 s).toNat < 2) (e : BitVec 32)
    (he : e.toNat < 32) (x fi : BitVec 32) : sProp 𝕄 :=
  if (i 0).val = 0 then iprop(Free c W 0#32 (by decide) ∗ Free c W 1#32 (by decide)) else SA c W s hs hs' e he x fi

theorem Free_congr (c : Dev nD) (W : WBuf F c) {v v' : BitVec 32} (h : v = v') (hv : v.toNat < 2) (hv' : v'.toNat < 2) :
    Free c W v hv = Free c W v' hv' := by subst h; rfl
theorem Fly_congr (c : Dev nD) (W : WBuf F c) {v v' e e' : BitVec 32} (h : v = v') (h' : e = e') (hv : v.toNat < 2) (hv' : v'.toNat < 2)
    (he : e.toNat < 32) (he' : e'.toNat < 32) : Fly c W v hv e he = Fly c W v' hv' e' he' := by subst h h'; rfl
theorem Cur_congr (c : Dev nD) (W : WBuf F c) {v v' e e' : BitVec 32} (h : v = v') (h' : e = e') (hv : v.toNat < 2) (hv' : v'.toNat < 2)
    (he : e.toNat < 32) (he' : e'.toNat < 32) : Cur c W v hv e he = Cur c W v' hv' e' he' := by subst h h'; rfl
theorem Nxt_congr (c : Dev nD) (W : WBuf F c) {v v' x x' : BitVec 32} (h : v = v') (h' : x = x') (hv : v.toNat < 2) (hv' : v'.toNat < 2) :
    Nxt c W v hv x = Nxt c W v' hv' x' := by subst h h'; rfl

/-- Word `n` of a table, read as the body reads it, at any offsets naming it. -/
abbrev rd (c : Dev nD) (M : Memref sig .tc .smem S96 .i32) (T : Buf (Elt F) (M.view.loc (c : Thread nD τ))) (off : Fin 1 → ℕ) (h : ∀ a, off a + S1.size a ≤ S96.size a) : BitVec 32 :=
  (M.access (Rect.unit (s := S96) off S1.size h)).read (Elt F) T (Shape.Idx.first (numel1_S1.symm ▸ Nat.one_pos))

/-- The first conditional copy, both ways. -/
theorem wp_if1' {α : Type} (c : Dev nD) (Q : α → sProp 𝕄) (W : WBuf F c) (i : grid0.Coords) (T0 : Buf (Elt F) ((Memref.whole main_arg0).view.loc (c : Thread nD τ)))
    (e fi s x : BitVec 32) (he : e.toNat < 32) (hfi : fi = 0#32 ∨ fi = 1#32) (hs : s.toNat < 2) (hs' : (Scalar.subi 1#32 s).toNat < 2) (h00 : (i 0).val = 0 → s = 0#32 ∧ fi = 1#32)
    (r0 : (i 0).val = 0 → rd c (Memref.whole main_arg0) T0 ![0] inb_S96_S1_0 = e)
    (k : PUnit → Prog (TpuEff nD τ sig (Elt F) Λ₀ .tc) α) :
    iprop(tbPt c (Memref.whole main_arg0) T0 ∗ S0 c W i s hs hs' e he x fi) ⊢
      iprop((iprop(tbPt c (Memref.whole main_arg0) T0 ∗ SA c W s hs hs' e he x fi) -∗ wp frame (wpE (defs₀ (F := F)) Variants.none (c : Thread nD τ) none) Set.univ (k ⟨⟩) Q)
      -∗ wp frame (wpE (defs₀ (F := F)) Variants.none (c : Thread nD τ) none) Set.univ
        (if k0_h1 : k0_cond1 i = 1#1 then do
          let v44 : Elt F .i32 ← smemLoad (Memref.whole main_arg0) (Rect.unit (s := S96) ![0] S1.size inb_S96_S1_0) numel1_S1 rfl
          have k0_hw1 : k0_chk1 i v44 := (← Prog.lift (TpuEff.assume (k0_chk1 i v44) (k0_chk1.dec i v44))).down
          let v45 : DmaSems sig S1 := cc0_scratch1.slice (Rect.unit (s := S2) ![0] S1.size inb_S2_S1_0)
          let v46 : DmaSems sig S_ := v45.squeeze S_ squeezes_S1_S_
          let v47 : Memref sig .tc .vmem S1x4096x1024 .f32 := (Memref.whole cc0_scratch0).slice (Rect.unit (s := S2x4096x1024) ![0, 0, 0] S1x4096x1024.size inb_S2x4096x1024_S1x4096x1024_0_0_0) (fun _ => rfl)
          let v48 : Memref sig .tc .vmem S4096x1024 .f32 := v47.squeeze S4096x1024 squeezes_S1x4096x1024_S4096x1024
          let v49 : Memref sig .tc .hbm S1x4096x1024 .f32 := (Memref.whole main_arg7).slice (Rect.unit (s := S32x4096x1024) (k0_off2 v44) S1x4096x1024.size (k0_off2_inb i v44 k0_hw1 k0_h1)) (fun _ => rfl)
          let v50 : Memref sig .tc .hbm S4096x1024 .f32 := v49.squeeze S4096x1024 squeezes_S1x4096x1024_S4096x1024
          Prog.lift (.enqueueDma v50 (.here v48) (.dma v46.sem) ((View.wordExact_bits rfl).reshape _ _) ((View.wordExact_bits rfl).reshape _ _) ⟨Or.inl rfl, trivial⟩)
          k PUnit.unit
        else k PUnit.unit) Q) := by
  unfold S0
  by_cases h : (i 0).val = 0
  · rw [if_pos h]
    obtain ⟨rfl, rfl⟩ := h00 h
    iintro ⟨H0, HF, HG⟩ Hk
    iapply (wp_if1 c Q W i ((cond1_iff i).2 h) T0 e he (r0 h) k) $$ [H0 HF]
    · isplitl [H0]; · iexact H0
      iexact HF
    iintro ⟨H0, HF⟩
    iapply Hk
    isplitl [H0]; · iexact H0
    unfold SA
    rw [if_pos rfl]
    isplitl [HF]; · iexact HF
    iexact HG
  · rw [if_neg h, dif_neg (fun h' => h ((cond1_iff i).1 h'))]
    iintro H Hk
    iapply Hk
    iexact H

/-- The slots before the wait. -/
def SB (c : Dev nD) (W : WBuf F c) (s : BitVec 32) (hs : s.toNat < 2) (hs' : (Scalar.subi 1#32 s).toNat < 2) (e : BitVec 32) (he : e.toNat < 32)
    (x fi : BitVec 32) : sProp 𝕄 :=
  if fi = 1#32 then iprop(Fly c W s hs e he ∗ Nxt c W (Scalar.subi 1#32 s) hs' x) else iprop(Cur c W s hs e he ∗ Nxt c W (Scalar.subi 1#32 s) hs' x)

/-- The following expert's copy, both ways. -/
theorem wp_if2' {α : Type} (c : Dev nD) (Q : α → sProp 𝕄) (W : WBuf F c) (i : grid0.Coords) (T3 : Buf (Elt F) ((Memref.whole main_arg3).view.loc (c : Thread nD τ)))
    (e fi s x : BitVec 32) (he : e.toNat < 32) (hfi : fi = 0#32 ∨ fi = 1#32) (hs : s.toNat < 2) (hs' : (Scalar.subi 1#32 s).toNat < 2) (hx : x = 4294967295#32 ∨ x.toNat < 32)
    (r3 : rd c (Memref.whole main_arg3) T3 (k0_off3 i) (k0_off3_inb i) = x) {k0_hw2 : k0_chk2 s fi x}
    (k : PUnit → Prog (TpuEff nD τ sig (Elt F) Λ₀ .tc) α) :
    iprop(tbPt c (Memref.whole main_arg3) T3 ∗ SA c W s hs hs' e he x fi) ⊢
      iprop((iprop(tbPt c (Memref.whole main_arg3) T3 ∗ SB c W s hs hs' e he x fi) -∗ wp frame (wpE (defs₀ (F := F)) Variants.none (c : Thread nD τ) none) Set.univ (k ⟨⟩) Q)
      -∗ wp frame (wpE (defs₀ (F := F)) Variants.none (c : Thread nD τ) none) Set.univ
        (if k0_h2 : k0_cond2 fi x = 1#1 then do
          let v45 : Elt F .i32 ← smemLoad (Memref.whole main_arg3) (Rect.unit (s := S96) (k0_off3 i) S1.size (k0_off3_inb i)) numel1_S1 rfl
          have k0_hw3 : k0_chk3 fi x v45 := (← Prog.lift (TpuEff.assume (k0_chk3 fi x v45) (k0_chk3.dec fi x v45))).down
          let v47 : DmaSems sig S1 := cc0_scratch1.slice (Rect.unit (s := S2) (k0_off4 s) S1.size (k0_off4_inb s fi x k0_hw2 k0_h2))
          let v48 : DmaSems sig S_ := v47.squeeze S_ squeezes_S1_S_
          let v49 : Memref sig .tc .vmem S1x4096x1024 .f32 := (Memref.whole cc0_scratch0).slice (Rect.unit (s := S2x4096x1024) (k0_off5 s) S1x4096x1024.size (k0_off5_inb s fi x k0_hw2 k0_h2)) (fun _ => rfl)
          let v50 : Memref sig .tc .vmem S4096x1024 .f32 := v49.squeeze S4096x1024 squeezes_S1x4096x1024_S4096x1024
          let v51 : Memref sig .tc .hbm S1x4096x1024 .f32 := (Memref.whole main_arg7).slice (Rect.unit (s := S32x4096x1024) (k0_off6 v45) S1x4096x1024.size (k0_off6_inb fi x v45 k0_hw3 k0_h2)) (fun _ => rfl)
          let v52 : Memref sig .tc .hbm S4096x1024 .f32 := v51.squeeze S4096x1024 squeezes_S1x4096x1024_S4096x1024
          Prog.lift (.enqueueDma v52 (.here v50) (.dma v48.sem) ((View.wordExact_bits rfl).reshape _ _) ((View.wordExact_bits rfl).reshape _ _) ⟨Or.inl rfl, trivial⟩)
          k PUnit.unit
        else k PUnit.unit) Q) := by
  unfold SA SB
  by_cases h : k0_cond2 fi x = 1#1
  · obtain ⟨rfl, hx'⟩ := (cond2_iff fi x hfi hx).1 h
    rw [if_pos rfl, if_pos rfl]
    iintro ⟨H0, HF, HG⟩ Hk
    iapply (wp_if2 c Q W i s 1#32 x h k0_hw2 hs' T3 x hx' r3 k) $$ [H0 HG]
    · isplitl [H0]; · iexact H0
      iexact HG
    iintro ⟨H0, HG⟩
    iapply Hk
    isplitl [H0]; · iexact H0
    isplitl [HF]; · iexact HF
    unfold Nxt
    rw [dif_pos hx']
    iexact HG
  · rw [dif_neg h]
    by_cases hf : fi = 1#32
    · have hx' : ¬ x.toNat < 32 := fun h' => h ((cond2_iff fi x hfi hx).2 ⟨hf, h'⟩)
      unfold Nxt
      rw [if_pos hf, if_pos hf, dif_neg hx']
      iintro H Hk
      iapply Hk
      iexact H
    · rw [if_neg hf, if_neg hf]
      iintro H Hk
      iapply Hk
      iexact H

/-- The wait, both ways. -/
theorem wp_if3' {α : Type} (c : Dev nD) (Q : α → sProp 𝕄) (W : WBuf F c) (i : grid0.Coords) (T0 : Buf (Elt F) ((Memref.whole main_arg0).view.loc (c : Thread nD τ)))
    (e fi s x : BitVec 32) (he : e.toNat < 32) (hfi : fi = 0#32 ∨ fi = 1#32) (hs : s.toNat < 2) (hs' : (Scalar.subi 1#32 s).toNat < 2) (r0 : rd c (Memref.whole main_arg0) T0 (k0_off8 i) (k0_off8_inb i) = e) (O : Waits sig Unit) {k0_hw4 : k0_chk4 s fi}
    (k : PUnit → Prog (TpuEff nD τ sig (Elt F) Λ₀ .tc) α) :
    iprop(tbPt c (Memref.whole main_arg0) T0 ∗ SB c W s hs hs' e he x fi ∗ owes (c : Thread nD τ) 0 O) ⊢
      iprop((iprop(tbPt c (Memref.whole main_arg0) T0 ∗ Cur c W s hs e he ∗ Nxt c W (Scalar.subi 1#32 s) hs' x ∗ (∃ O', owes (c : Thread nD τ) 0 O')) -∗ wp frame (wpE (defs₀ (F := F)) Variants.none (c : Thread nD τ) none) Set.univ (k ⟨⟩) Q)
      -∗ wp frame (wpE (defs₀ (F := F)) Variants.none (c : Thread nD τ) none) Set.univ
        (if k0_h3 : k0_cond3 fi = 1#1 then do
          let v45 : Elt F .i32 ← smemLoad (Memref.whole main_arg0) (Rect.unit (s := S96) (k0_off8 i) S1.size (k0_off8_inb i)) numel1_S1 rfl
          have k0_hw5 : k0_chk5 fi v45 := (← Prog.lift (TpuEff.assume (k0_chk5 fi v45) (k0_chk5.dec fi v45))).down
          let v46 : DmaSems sig S1 := cc0_scratch1.slice (Rect.unit (s := S2) (k0_off9 s) S1.size (k0_off9_inb s fi k0_hw4 k0_h3))
          let v47 : DmaSems sig S_ := v46.squeeze S_ squeezes_S1_S_
          let v48 : Memref sig .tc .vmem S1x4096x1024 .f32 := (Memref.whole cc0_scratch0).slice (Rect.unit (s := S2x4096x1024) (k0_off10 s) S1x4096x1024.size (k0_off10_inb s fi k0_hw4 k0_h3)) (fun _ => rfl)
          let v49 : Memref sig .tc .vmem S4096x1024 .f32 := v48.squeeze S4096x1024 squeezes_S1x4096x1024_S4096x1024
          let v50 : Memref sig .tc .hbm S1x4096x1024 .f32 := (Memref.whole main_arg7).slice (Rect.unit (s := S32x4096x1024) (k0_off11 v45) S1x4096x1024.size (k0_off11_inb fi v45 k0_hw5 k0_h3)) (fun _ => rfl)
          let v51 : Memref sig .tc .hbm S4096x1024 .f32 := v50.squeeze S4096x1024 squeezes_S1x4096x1024_S4096x1024
          Prog.lift (.waitDma2 v47.sem v51 v49 ((View.wordExact_bits rfl).reshape _ _) ((View.wordExact_bits rfl).reshape _ _))
          k PUnit.unit
        else k PUnit.unit) Q) := by
  unfold SB
  by_cases hf : fi = 1#32
  · rw [if_pos hf]
    iintro ⟨H0, ⟨HF, HG⟩, Ho⟩ Hk
    iapply (wp_if3 c Q W i s fi ((cond3_iff fi hfi).2 hf) k0_hw4 hs T0 e he O r0 k) $$ [H0 HF Ho]
    · isplitl [H0]; · iexact H0
      isplitl [HF]; · iexact HF
      iexact Ho
    iintro ⟨H0, HF, Ho⟩
    iapply Hk
    isplitl [H0]; · iexact H0
    isplitl [HF]; · iexact HF
    isplitl [HG]; · iexact HG
    iexists _
    iexact Ho
  · rw [if_neg hf, dif_neg (fun h => hf ((cond3_iff fi hfi).1 h))]
    iintro ⟨H0, ⟨HF, HG⟩, Ho⟩ Hk
    iapply Hk
    isplitl [H0]; · iexact H0
    isplitl [HF]; · iexact HF
    isplitl [HG]; · iexact HG
    iexists _
    iexact Ho

/-- The body, from the slots' state before the point to its computation. -/
theorem wp_body (c : Dev nD) (Q : PUnit → sProp 𝕄) (W : WBuf F c) (i : grid0.Coords)
    (T0 : Buf (Elt F) ((Memref.whole main_arg0).view.loc (c : Thread nD τ))) (T1 : Buf (Elt F) ((Memref.whole main_arg1).view.loc (c : Thread nD τ)))
    (T2 : Buf (Elt F) ((Memref.whole main_arg2).view.loc (c : Thread nD τ))) (T3 : Buf (Elt F) ((Memref.whole main_arg3).view.loc (c : Thread nD τ)))
    (T5 : Buf (Elt F) ((Memref.whole main_arg5).view.loc (c : Thread nD τ)))
    (e fi s x n : BitVec 32) (he : e.toNat < 32) (hfi : fi = 0#32 ∨ fi = 1#32) (hs : s.toNat < 2) (hs' : (Scalar.subi 1#32 s).toNat < 2) (hx : x = 4294967295#32 ∨ x.toNat < 32)
    (h00 : (i 0).val = 0 → s = 0#32 ∧ fi = 1#32)
    (r0 : (i 0).val = 0 → rd c (Memref.whole main_arg0) T0 ![0] inb_S96_S1_0 = e) (r0' : rd c (Memref.whole main_arg0) T0 (k0_off8 i) (k0_off8_inb i) = e)
    (r1 : rd c (Memref.whole main_arg1) T1 (k0_off1 i) (k0_off1_inb i) = fi) (r1' : rd c (Memref.whole main_arg1) T1 (k0_off7 i) (k0_off7_inb i) = fi)
    (r2 : rd c (Memref.whole main_arg2) T2 (k0_off1 i) (k0_off1_inb i) = s)
    (r3 : rd c (Memref.whole main_arg3) T3 (k0_off1 i) (k0_off1_inb i) = x) (r3' : rd c (Memref.whole main_arg3) T3 (k0_off3 i) (k0_off3_inb i) = x)
    (r5 : rd c (Memref.whole main_arg5) T5 (k0_off12 i) (k0_off12_inb i) = n) (hw6 : k0_chk6 s n)
    (arg7 : Memref sig .tc .vmem S8192x128 .i32) (harg7 : arg7.IsWhole) (arg9 : Memref sig .tc .vmem S512x1024 .bf16) (harg9 : arg9.IsWhole)
    (O : Waits sig Unit) :
    iprop(tbPt c (Memref.whole main_arg0) T0 ∗ tbPt c (Memref.whole main_arg1) T1 ∗ tbPt c (Memref.whole main_arg2) T2 ∗ tbPt c (Memref.whole main_arg3) T3
        ∗ tbPt c (Memref.whole main_arg5) T5 ∗ S0 c W i s hs hs' e he x fi ∗ owes (c : Thread nD τ) 0 O) ⊢
      iprop((iprop(tbPt c (Memref.whole main_arg0) T0 ∗ tbPt c (Memref.whole main_arg1) T1 ∗ tbPt c (Memref.whole main_arg2) T2 ∗ tbPt c (Memref.whole main_arg3) T3
        ∗ tbPt c (Memref.whole main_arg5) T5 ∗ Cur c W s hs e he ∗ Nxt c W (Scalar.subi 1#32 s) hs' x ∗ (∃ O', owes (c : Thread nD τ) 0 O'))
        -∗ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 (Memref.whole cc0_scratch0) (Memref.isWhole_whole _) cc0_scratch1 s n hw6) Q)
      -∗ wp frame (wpE (defs₀ (F := F)) Variants.none (c : Thread nD τ) none) Set.univ
          (cc0_expert_gate i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 (Memref.whole cc0_scratch0) (Memref.isWhole_whole _) cc0_scratch1) Q) := by
  unfold comp
  rw [cc0_expert_gate_eq_skeleton]
  unfold cc0_expert_gate_skel
  rw [wp_bind, wp_bind, part17_eq]
  generalize hK : (fun a => wp (M := 𝕄) frame (wpE (defs₀ (F := F)) Variants.none (c : Thread nD τ) none) Set.univ _ Q) = K
  clear hK
  iintro ⟨H0, H1, H2, H3, H5, HS, Ho⟩ Hk
  iapply (wp_word c K T2 r2) $$ H2
  iintro H2
  try dsimp (config := { beta := false, proj := false, eta := false, iota := false, zeta := true }) only
  generalize hk1 : (fun _ : PUnit => (_ : Prog (TpuEff nD τ sig (Elt F) Λ₀ .tc) _)) = k1
  iapply (wp_if1' c K W i T0 e fi s x he hfi hs hs' h00 r0 k1) $$ [H0 HS]
  · isplitl [H0]; · iexact H0
    iexact HS
  iintro ⟨H0, HS⟩
  subst hk1
  iapply (wp_word c K T1 r1) $$ H1
  iintro H1
  iapply (wp_word c K T3 r3) $$ H3
  iintro H3
  iapply (wp_assume Variants.none (c : Thread nD τ) none Set.univ (⟨fun _ => sem_inb hs', fun _ => slot_inb hs'⟩ : k0_chk2 s fi x))
  try dsimp (config := { beta := false, proj := false, eta := false, iota := false, zeta := true }) only
  generalize hk2 : (fun _ : PUnit => (_ : Prog (TpuEff nD τ sig (Elt F) Λ₀ .tc) _)) = k2
  iapply (wp_if2' (k0_hw2 := ⟨fun _ => sem_inb hs', fun _ => slot_inb hs'⟩) c K W i T3 e fi s x he hfi hs hs' hx r3' k2) $$ [H3 HS]
  · isplitl [H3]; · iexact H3
    iexact HS
  iintro ⟨H3, HS⟩
  subst hk2
  iapply (wp_word c K T1 r1') $$ H1
  iintro H1
  iapply (wp_assume Variants.none (c : Thread nD τ) none Set.univ (⟨fun _ => sem_inb hs, fun _ => slot_inb hs⟩ : k0_chk4 s fi))
  try dsimp (config := { beta := false, proj := false, eta := false, iota := false, zeta := true }) only
  generalize hk3 : (fun _ : PUnit => (_ : Prog (TpuEff nD τ sig (Elt F) Λ₀ .tc) _)) = k3
  iapply (wp_if3' (k0_hw4 := ⟨fun _ => sem_inb hs, fun _ => slot_inb hs⟩) c K W i T0 e fi s x he hfi hs hs' r0' O k3) $$ [H0 HS Ho]
  · isplitl [H0]; · iexact H0
    isplitl [HS]; · iexact HS
    iexact Ho
  iintro ⟨H0, HC, HN, Ho⟩
  subst hk3
  iapply (wp_word c K T5 r5) $$ H5
  iintro H5
  iapply (wp_assume Variants.none (c : Thread nD τ) none Set.univ hw6)
  iapply Hk
  isplitl [H0]; · iexact H0
  isplitl [H1]; · iexact H1
  isplitl [H2]; · iexact H2
  isplitl [H3]; · iexact H3
  isplitl [H5]; · iexact H5
  isplitl [HC]; · iexact HC
  isplitl [HN]; · iexact HN
  iexact Ho

end Cert.KernelIdeal.Hand
-- ==== Proof.GateRun.lean ====
module
public import proofs.«01_k».proof.Proof.GateTail

/-!
The part of `expert_gate` that computes, run branch by branch: for every number of rows the body distinguishes, what
it leaves in the output block as a function of the token block `X` and of the weights `D` in the slot it reads.
-/

@[expose] public noncomputable section
set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (Pipeline.UD sig nD τ) ℕ

/-- The words of the token block that one strided load takes. -/
abbrev ldl (X : Vec F S8192x128 .i32) (r : LoadRect S8192x128) : r.shape.Idx → Elt F .i32 := fun q => X (r.idx q)

/-- The low halves of the words of the first 128 rows' tokens, side by side. -/
def lo128 (X : Vec F S8192x128 .i32) : FVec F S128x2048 .bf16 :=
  k0_pay29 (k0_pay5 (ldl X (⟨![0, 0], S128x128.size, ![16, 1], inb_S8192x128_S128x128_0_0_s_16_1⟩ : LoadRect S8192x128))) (k0_pay7 (ldl X (⟨![1, 0], S128x128.size, ![16, 1], inb_S8192x128_S128x128_1_0_s_16_1⟩ : LoadRect S8192x128))) (k0_pay9 (ldl X (⟨![2, 0], S128x128.size, ![16, 1], inb_S8192x128_S128x128_2_0_s_16_1⟩ : LoadRect S8192x128))) (k0_pay11 (ldl X (⟨![3, 0], S128x128.size, ![16, 1], inb_S8192x128_S128x128_3_0_s_16_1⟩ : LoadRect S8192x128))) (k0_pay13 (ldl X (⟨![4, 0], S128x128.size, ![16, 1], inb_S8192x128_S128x128_4_0_s_16_1⟩ : LoadRect S8192x128))) (k0_pay15 (ldl X (⟨![5, 0], S128x128.size, ![16, 1], inb_S8192x128_S128x128_5_0_s_16_1⟩ : LoadRect S8192x128))) (k0_pay17 (ldl X (⟨![6, 0], S128x128.size, ![16, 1], inb_S8192x128_S128x128_6_0_s_16_1⟩ : LoadRect S8192x128))) (k0_pay19 (ldl X (⟨![7, 0], S128x128.size, ![16, 1], inb_S8192x128_S128x128_7_0_s_16_1⟩ : LoadRect S8192x128))) (k0_pay21 (ldl X (⟨![8, 0], S128x128.size, ![16, 1], inb_S8192x128_S128x128_8_0_s_16_1⟩ : LoadRect S8192x128))) (k0_pay23 (ldl X (⟨![9, 0], S128x128.size, ![16, 1], inb_S8192x128_S128x128_9_0_s_16_1⟩ : LoadRect S8192x128))) (k0_pay25 (ldl X (⟨![10, 0], S128x128.size, ![16, 1], inb_S8192x128_S128x128_10_0_s_16_1⟩ : LoadRect S8192x128))) (k0_pay27 (ldl X (⟨![11, 0], S128x128.size, ![16, 1], inb_S8192x128_S128x128_11_0_s_16_1⟩ : LoadRect S8192x128))) (ldl X (⟨![12, 0], S128x128.size, ![16, 1], inb_S8192x128_S128x128_12_0_s_16_1⟩ : LoadRect S8192x128)) (ldl X (⟨![13, 0], S128x128.size, ![16, 1], inb_S8192x128_S128x128_13_0_s_16_1⟩ : LoadRect S8192x128)) (ldl X (⟨![14, 0], S128x128.size, ![16, 1], inb_S8192x128_S128x128_14_0_s_16_1⟩ : LoadRect S8192x128)) (ldl X (⟨![15, 0], S128x128.size, ![16, 1], inb_S8192x128_S128x128_15_0_s_16_1⟩ : LoadRect S8192x128))

/-- The high halves of the words of the first 128 rows' tokens, side by side. -/
def hi128 (X : Vec F S8192x128 .i32) : FVec F S128x2048 .bf16 :=
  k0_pay30 (k0_pay6 (ldl X (⟨![0, 0], S128x128.size, ![16, 1], inb_S8192x128_S128x128_0_0_s_16_1⟩ : LoadRect S8192x128))) (k0_pay8 (ldl X (⟨![1, 0], S128x128.size, ![16, 1], inb_S8192x128_S128x128_1_0_s_16_1⟩ : LoadRect S8192x128))) (k0_pay10 (ldl X (⟨![2, 0], S128x128.size, ![16, 1], inb_S8192x128_S128x128_2_0_s_16_1⟩ : LoadRect S8192x128))) (k0_pay12 (ldl X (⟨![3, 0], S128x128.size, ![16, 1], inb_S8192x128_S128x128_3_0_s_16_1⟩ : LoadRect S8192x128))) (k0_pay14 (ldl X (⟨![4, 0], S128x128.size, ![16, 1], inb_S8192x128_S128x128_4_0_s_16_1⟩ : LoadRect S8192x128))) (k0_pay16 (ldl X (⟨![5, 0], S128x128.size, ![16, 1], inb_S8192x128_S128x128_5_0_s_16_1⟩ : LoadRect S8192x128))) (k0_pay18 (ldl X (⟨![6, 0], S128x128.size, ![16, 1], inb_S8192x128_S128x128_6_0_s_16_1⟩ : LoadRect S8192x128))) (k0_pay20 (ldl X (⟨![7, 0], S128x128.size, ![16, 1], inb_S8192x128_S128x128_7_0_s_16_1⟩ : LoadRect S8192x128))) (k0_pay22 (ldl X (⟨![8, 0], S128x128.size, ![16, 1], inb_S8192x128_S128x128_8_0_s_16_1⟩ : LoadRect S8192x128))) (k0_pay24 (ldl X (⟨![9, 0], S128x128.size, ![16, 1], inb_S8192x128_S128x128_9_0_s_16_1⟩ : LoadRect S8192x128))) (k0_pay26 (ldl X (⟨![10, 0], S128x128.size, ![16, 1], inb_S8192x128_S128x128_10_0_s_16_1⟩ : LoadRect S8192x128))) (k0_pay28 (ldl X (⟨![11, 0], S128x128.size, ![16, 1], inb_S8192x128_S128x128_11_0_s_16_1⟩ : LoadRect S8192x128))) (ldl X (⟨![12, 0], S128x128.size, ![16, 1], inb_S8192x128_S128x128_12_0_s_16_1⟩ : LoadRect S8192x128)) (ldl X (⟨![13, 0], S128x128.size, ![16, 1], inb_S8192x128_S128x128_13_0_s_16_1⟩ : LoadRect S8192x128)) (ldl X (⟨![14, 0], S128x128.size, ![16, 1], inb_S8192x128_S128x128_14_0_s_16_1⟩ : LoadRect S8192x128)) (ldl X (⟨![15, 0], S128x128.size, ![16, 1], inb_S8192x128_S128x128_15_0_s_16_1⟩ : LoadRect S8192x128))

/-- The output block of a block whose tokens fill the first 128 rows: the gate of those rows, 256 columns at a
time, and zeros below them. -/
def out128 (X : Vec F S8192x128 .i32) (D : Vec F S4096x1024 .f32) : Vec F S512x1024 .bf16 := View.canon [
    ⟨Rect.unit (s := S512x1024) ![128, 0] S384x1024.size inb_S512x1024_S384x1024_128_0, k0_pay134 (F := F)⟩,
    ⟨Rect.unit (s := S512x1024) ![0, 768] S128x256.size inb_S512x1024_S128x256_0_768, k0_pay133 (hi128 X) (k0_pay36 (lo128 X) (View.ld D (Rect.unit (s := S4096x1024) ![0, 768] S2048x256.size inb_S4096x1024_S2048x256_0_768))) (View.ld D (Rect.unit (s := S4096x1024) ![2048, 768] S2048x256.size inb_S4096x1024_S2048x256_2048_768))⟩,
    ⟨Rect.unit (s := S512x1024) ![0, 512] S128x256.size inb_S512x1024_S128x256_0_512, k0_pay35 (lo128 X) (hi128 X) (View.ld D (Rect.unit (s := S4096x1024) ![0, 512] S2048x256.size inb_S4096x1024_S2048x256_0_512)) (View.ld D (Rect.unit (s := S4096x1024) ![2048, 512] S2048x256.size inb_S4096x1024_S2048x256_2048_512))⟩,
    ⟨Rect.unit (s := S512x1024) ![0, 256] S128x256.size inb_S512x1024_S128x256_0_256, k0_pay34 (k0_pay32 (lo128 X) (hi128 X) (View.ld D (Rect.unit (s := S4096x1024) ![0, 256] S2048x256.size inb_S4096x1024_S2048x256_0_256)) (View.ld D (Rect.unit (s := S4096x1024) ![2048, 256] S2048x256.size inb_S4096x1024_S2048x256_2048_256))) (k0_pay33 (lo128 X) (hi128 X) (View.ld D (Rect.unit (s := S4096x1024) ![0, 256] S2048x256.size inb_S4096x1024_S2048x256_0_256)) (View.ld D (Rect.unit (s := S4096x1024) ![2048, 256] S2048x256.size inb_S4096x1024_S2048x256_2048_256))) (Scalar.ofBits .f32 0x3F800000#32 : F .f32)⟩,
    ⟨Rect.unit (s := S512x1024) ![0, 0] S128x256.size inb_S512x1024_S128x256_0_0, k0_pay31 (lo128 X) (hi128 X) (View.ld D (Rect.unit (s := S4096x1024) ![0, 0] S2048x256.size inb_S4096x1024_S2048x256_0_0)) (View.ld D (Rect.unit (s := S4096x1024) ![2048, 0] S2048x256.size inb_S4096x1024_S2048x256_2048_0))⟩]

/-- The pieces written for 128 rows fill the block. -/
theorem cover128 (w0 : (Shape.mk 2 ![384, 1024]).Idx → Elt F .bf16) (w1 : (Shape.mk 2 ![128, 256]).Idx → Elt F .bf16) (w2 : (Shape.mk 2 ![128, 256]).Idx → Elt F .bf16) (w3 : (Shape.mk 2 ![128, 256]).Idx → Elt F .bf16) (w4 : (Shape.mk 2 ![128, 256]).Idx → Elt F .bf16) :
    ∀ y : S512x1024.Idx, ∃ p ∈ ([⟨Rect.unit (s := S512x1024) ![128, 0] S384x1024.size inb_S512x1024_S384x1024_128_0, w0⟩, ⟨Rect.unit (s := S512x1024) ![0, 768] S128x256.size inb_S512x1024_S128x256_0_768, w1⟩, ⟨Rect.unit (s := S512x1024) ![0, 512] S128x256.size inb_S512x1024_S128x256_0_512, w2⟩, ⟨Rect.unit (s := S512x1024) ![0, 256] S128x256.size inb_S512x1024_S128x256_0_256, w3⟩, ⟨Rect.unit (s := S512x1024) ![0, 0] S128x256.size inb_S512x1024_S128x256_0_0, w4⟩] : List (View.Piece (Elt F) S512x1024 .bf16)), y ∈ p.1.set :=
  View.cover_of_tiledBy _ ![128, 256] (by sl_kernel_rfl)

/-- The low halves of the words of the first 256 rows' tokens, side by side. -/
def lo256 (X : Vec F S8192x128 .i32) : FVec F S256x2048 .bf16 :=
  k0_pay61 (k0_pay37 (ldl X (⟨![0, 0], S256x128.size, ![16, 1], inb_S8192x128_S256x128_0_0_s_16_1⟩ : LoadRect S8192x128))) (k0_pay39 (ldl X (⟨![1, 0], S256x128.size, ![16, 1], inb_S8192x128_S256x128_1_0_s_16_1⟩ : LoadRect S8192x128))) (k0_pay41 (ldl X (⟨![2, 0], S256x128.size, ![16, 1], inb_S8192x128_S256x128_2_0_s_16_1⟩ : LoadRect S8192x128))) (k0_pay43 (ldl X (⟨![3, 0], S256x128.size, ![16, 1], inb_S8192x128_S256x128_3_0_s_16_1⟩ : LoadRect S8192x128))) (k0_pay45 (ldl X (⟨![4, 0], S256x128.size, ![16, 1], inb_S8192x128_S256x128_4_0_s_16_1⟩ : LoadRect S8192x128))) (k0_pay47 (ldl X (⟨![5, 0], S256x128.size, ![16, 1], inb_S8192x128_S256x128_5_0_s_16_1⟩ : LoadRect S8192x128))) (k0_pay49 (ldl X (⟨![6, 0], S256x128.size, ![16, 1], inb_S8192x128_S256x128_6_0_s_16_1⟩ : LoadRect S8192x128))) (k0_pay51 (ldl X (⟨![7, 0], S256x128.size, ![16, 1], inb_S8192x128_S256x128_7_0_s_16_1⟩ : LoadRect S8192x128))) (k0_pay53 (ldl X (⟨![8, 0], S256x128.size, ![16, 1], inb_S8192x128_S256x128_8_0_s_16_1⟩ : LoadRect S8192x128))) (k0_pay55 (ldl X (⟨![9, 0], S256x128.size, ![16, 1], inb_S8192x128_S256x128_9_0_s_16_1⟩ : LoadRect S8192x128))) (k0_pay57 (ldl X (⟨![10, 0], S256x128.size, ![16, 1], inb_S8192x128_S256x128_10_0_s_16_1⟩ : LoadRect S8192x128))) (k0_pay59 (ldl X (⟨![11, 0], S256x128.size, ![16, 1], inb_S8192x128_S256x128_11_0_s_16_1⟩ : LoadRect S8192x128))) (ldl X (⟨![12, 0], S256x128.size, ![16, 1], inb_S8192x128_S256x128_12_0_s_16_1⟩ : LoadRect S8192x128)) (ldl X (⟨![13, 0], S256x128.size, ![16, 1], inb_S8192x128_S256x128_13_0_s_16_1⟩ : LoadRect S8192x128)) (ldl X (⟨![14, 0], S256x128.size, ![16, 1], inb_S8192x128_S256x128_14_0_s_16_1⟩ : LoadRect S8192x128)) (ldl X (⟨![15, 0], S256x128.size, ![16, 1], inb_S8192x128_S256x128_15_0_s_16_1⟩ : LoadRect S8192x128))

/-- The high halves of the words of the first 256 rows' tokens, side by side. -/
def hi256 (X : Vec F S8192x128 .i32) : FVec F S256x2048 .bf16 :=
  k0_pay62 (k0_pay38 (ldl X (⟨![0, 0], S256x128.size, ![16, 1], inb_S8192x128_S256x128_0_0_s_16_1⟩ : LoadRect S8192x128))) (k0_pay40 (ldl X (⟨![1, 0], S256x128.size, ![16, 1], inb_S8192x128_S256x128_1_0_s_16_1⟩ : LoadRect S8192x128))) (k0_pay42 (ldl X (⟨![2, 0], S256x128.size, ![16, 1], inb_S8192x128_S256x128_2_0_s_16_1⟩ : LoadRect S8192x128))) (k0_pay44 (ldl X (⟨![3, 0], S256x128.size, ![16, 1], inb_S8192x128_S256x128_3_0_s_16_1⟩ : LoadRect S8192x128))) (k0_pay46 (ldl X (⟨![4, 0], S256x128.size, ![16, 1], inb_S8192x128_S256x128_4_0_s_16_1⟩ : LoadRect S8192x128))) (k0_pay48 (ldl X (⟨![5, 0], S256x128.size, ![16, 1], inb_S8192x128_S256x128_5_0_s_16_1⟩ : LoadRect S8192x128))) (k0_pay50 (ldl X (⟨![6, 0], S256x128.size, ![16, 1], inb_S8192x128_S256x128_6_0_s_16_1⟩ : LoadRect S8192x128))) (k0_pay52 (ldl X (⟨![7, 0], S256x128.size, ![16, 1], inb_S8192x128_S256x128_7_0_s_16_1⟩ : LoadRect S8192x128))) (k0_pay54 (ldl X (⟨![8, 0], S256x128.size, ![16, 1], inb_S8192x128_S256x128_8_0_s_16_1⟩ : LoadRect S8192x128))) (k0_pay56 (ldl X (⟨![9, 0], S256x128.size, ![16, 1], inb_S8192x128_S256x128_9_0_s_16_1⟩ : LoadRect S8192x128))) (k0_pay58 (ldl X (⟨![10, 0], S256x128.size, ![16, 1], inb_S8192x128_S256x128_10_0_s_16_1⟩ : LoadRect S8192x128))) (k0_pay60 (ldl X (⟨![11, 0], S256x128.size, ![16, 1], inb_S8192x128_S256x128_11_0_s_16_1⟩ : LoadRect S8192x128))) (ldl X (⟨![12, 0], S256x128.size, ![16, 1], inb_S8192x128_S256x128_12_0_s_16_1⟩ : LoadRect S8192x128)) (ldl X (⟨![13, 0], S256x128.size, ![16, 1], inb_S8192x128_S256x128_13_0_s_16_1⟩ : LoadRect S8192x128)) (ldl X (⟨![14, 0], S256x128.size, ![16, 1], inb_S8192x128_S256x128_14_0_s_16_1⟩ : LoadRect S8192x128)) (ldl X (⟨![15, 0], S256x128.size, ![16, 1], inb_S8192x128_S256x128_15_0_s_16_1⟩ : LoadRect S8192x128))

/-- The output block of a block whose tokens fill the first 256 rows: the gate of those rows, 256 columns at a
time, and zeros below them. -/
def out256 (X : Vec F S8192x128 .i32) (D : Vec F S4096x1024 .f32) : Vec F S512x1024 .bf16 := View.canon [
    ⟨Rect.unit (s := S512x1024) ![256, 0] S256x1024.size inb_S512x1024_S256x1024_256_0, k0_pay136 (F := F)⟩,
    ⟨Rect.unit (s := S512x1024) ![0, 768] S256x256.size inb_S512x1024_S256x256_0_768, k0_pay135 (hi256 X) (k0_pay68 (lo256 X) (View.ld D (Rect.unit (s := S4096x1024) ![0, 768] S2048x256.size inb_S4096x1024_S2048x256_0_768))) (View.ld D (Rect.unit (s := S4096x1024) ![2048, 768] S2048x256.size inb_S4096x1024_S2048x256_2048_768))⟩,
    ⟨Rect.unit (s := S512x1024) ![0, 512] S256x256.size inb_S512x1024_S256x256_0_512, k0_pay67 (lo256 X) (hi256 X) (View.ld D (Rect.unit (s := S4096x1024) ![0, 512] S2048x256.size inb_S4096x1024_S2048x256_0_512)) (View.ld D (Rect.unit (s := S4096x1024) ![2048, 512] S2048x256.size inb_S4096x1024_S2048x256_2048_512))⟩,
    ⟨Rect.unit (s := S512x1024) ![0, 256] S256x256.size inb_S512x1024_S256x256_0_256, k0_pay66 (k0_pay64 (lo256 X) (hi256 X) (View.ld D (Rect.unit (s := S4096x1024) ![0, 256] S2048x256.size inb_S4096x1024_S2048x256_0_256)) (View.ld D (Rect.unit (s := S4096x1024) ![2048, 256] S2048x256.size inb_S4096x1024_S2048x256_2048_256))) (k0_pay65 (lo256 X) (hi256 X) (View.ld D (Rect.unit (s := S4096x1024) ![0, 256] S2048x256.size inb_S4096x1024_S2048x256_0_256)) (View.ld D (Rect.unit (s := S4096x1024) ![2048, 256] S2048x256.size inb_S4096x1024_S2048x256_2048_256))) (Scalar.ofBits .f32 0x3F800000#32 : F .f32)⟩,
    ⟨Rect.unit (s := S512x1024) ![0, 0] S256x256.size inb_S512x1024_S256x256_0_0, k0_pay63 (lo256 X) (hi256 X) (View.ld D (Rect.unit (s := S4096x1024) ![0, 0] S2048x256.size inb_S4096x1024_S2048x256_0_0)) (View.ld D (Rect.unit (s := S4096x1024) ![2048, 0] S2048x256.size inb_S4096x1024_S2048x256_2048_0))⟩]

/-- The pieces written for 256 rows fill the block. -/
theorem cover256 (w0 : (Shape.mk 2 ![256, 1024]).Idx → Elt F .bf16) (w1 : (Shape.mk 2 ![256, 256]).Idx → Elt F .bf16) (w2 : (Shape.mk 2 ![256, 256]).Idx → Elt F .bf16) (w3 : (Shape.mk 2 ![256, 256]).Idx → Elt F .bf16) (w4 : (Shape.mk 2 ![256, 256]).Idx → Elt F .bf16) :
    ∀ y : S512x1024.Idx, ∃ p ∈ ([⟨Rect.unit (s := S512x1024) ![256, 0] S256x1024.size inb_S512x1024_S256x1024_256_0, w0⟩, ⟨Rect.unit (s := S512x1024) ![0, 768] S256x256.size inb_S512x1024_S256x256_0_768, w1⟩, ⟨Rect.unit (s := S512x1024) ![0, 512] S256x256.size inb_S512x1024_S256x256_0_512, w2⟩, ⟨Rect.unit (s := S512x1024) ![0, 256] S256x256.size inb_S512x1024_S256x256_0_256, w3⟩, ⟨Rect.unit (s := S512x1024) ![0, 0] S256x256.size inb_S512x1024_S256x256_0_0, w4⟩] : List (View.Piece (Elt F) S512x1024 .bf16)), y ∈ p.1.set :=
  View.cover_of_tiledBy _ ![256, 256] (by sl_kernel_rfl)

/-- The low halves of the words of the first 384 rows' tokens, side by side. -/
def lo384 (X : Vec F S8192x128 .i32) : FVec F S384x2048 .bf16 :=
  k0_pay93 (k0_pay69 (ldl X (⟨![0, 0], S384x128.size, ![16, 1], inb_S8192x128_S384x128_0_0_s_16_1⟩ : LoadRect S8192x128))) (k0_pay71 (ldl X (⟨![1, 0], S384x128.size, ![16, 1], inb_S8192x128_S384x128_1_0_s_16_1⟩ : LoadRect S8192x128))) (k0_pay73 (ldl X (⟨![2, 0], S384x128.size, ![16, 1], inb_S8192x128_S384x128_2_0_s_16_1⟩ : LoadRect S8192x128))) (k0_pay75 (ldl X (⟨![3, 0], S384x128.size, ![16, 1], inb_S8192x128_S384x128_3_0_s_16_1⟩ : LoadRect S8192x128))) (k0_pay77 (ldl X (⟨![4, 0], S384x128.size, ![16, 1], inb_S8192x128_S384x128_4_0_s_16_1⟩ : LoadRect S8192x128))) (k0_pay79 (ldl X (⟨![5, 0], S384x128.size, ![16, 1], inb_S8192x128_S384x128_5_0_s_16_1⟩ : LoadRect S8192x128))) (k0_pay81 (ldl X (⟨![6, 0], S384x128.size, ![16, 1], inb_S8192x128_S384x128_6_0_s_16_1⟩ : LoadRect S8192x128))) (k0_pay83 (ldl X (⟨![7, 0], S384x128.size, ![16, 1], inb_S8192x128_S384x128_7_0_s_16_1⟩ : LoadRect S8192x128))) (k0_pay85 (ldl X (⟨![8, 0], S384x128.size, ![16, 1], inb_S8192x128_S384x128_8_0_s_16_1⟩ : LoadRect S8192x128))) (k0_pay87 (ldl X (⟨![9, 0], S384x128.size, ![16, 1], inb_S8192x128_S384x128_9_0_s_16_1⟩ : LoadRect S8192x128))) (k0_pay89 (ldl X (⟨![10, 0], S384x128.size, ![16, 1], inb_S8192x128_S384x128_10_0_s_16_1⟩ : LoadRect S8192x128))) (k0_pay91 (ldl X (⟨![11, 0], S384x128.size, ![16, 1], inb_S8192x128_S384x128_11_0_s_16_1⟩ : LoadRect S8192x128))) (ldl X (⟨![12, 0], S384x128.size, ![16, 1], inb_S8192x128_S384x128_12_0_s_16_1⟩ : LoadRect S8192x128)) (ldl X (⟨![13, 0], S384x128.size, ![16, 1], inb_S8192x128_S384x128_13_0_s_16_1⟩ : LoadRect S8192x128)) (ldl X (⟨![14, 0], S384x128.size, ![16, 1], inb_S8192x128_S384x128_14_0_s_16_1⟩ : LoadRect S8192x128)) (ldl X (⟨![15, 0], S384x128.size, ![16, 1], inb_S8192x128_S384x128_15_0_s_16_1⟩ : LoadRect S8192x128))

/-- The high halves of the words of the first 384 rows' tokens, side by side. -/
def hi384 (X : Vec F S8192x128 .i32) : FVec F S384x2048 .bf16 :=
  k0_pay94 (k0_pay70 (ldl X (⟨![0, 0], S384x128.size, ![16, 1], inb_S8192x128_S384x128_0_0_s_16_1⟩ : LoadRect S8192x128))) (k0_pay72 (ldl X (⟨![1, 0], S384x128.size, ![16, 1], inb_S8192x128_S384x128_1_0_s_16_1⟩ : LoadRect S8192x128))) (k0_pay74 (ldl X (⟨![2, 0], S384x128.size, ![16, 1], inb_S8192x128_S384x128_2_0_s_16_1⟩ : LoadRect S8192x128))) (k0_pay76 (ldl X (⟨![3, 0], S384x128.size, ![16, 1], inb_S8192x128_S384x128_3_0_s_16_1⟩ : LoadRect S8192x128))) (k0_pay78 (ldl X (⟨![4, 0], S384x128.size, ![16, 1], inb_S8192x128_S384x128_4_0_s_16_1⟩ : LoadRect S8192x128))) (k0_pay80 (ldl X (⟨![5, 0], S384x128.size, ![16, 1], inb_S8192x128_S384x128_5_0_s_16_1⟩ : LoadRect S8192x128))) (k0_pay82 (ldl X (⟨![6, 0], S384x128.size, ![16, 1], inb_S8192x128_S384x128_6_0_s_16_1⟩ : LoadRect S8192x128))) (k0_pay84 (ldl X (⟨![7, 0], S384x128.size, ![16, 1], inb_S8192x128_S384x128_7_0_s_16_1⟩ : LoadRect S8192x128))) (k0_pay86 (ldl X (⟨![8, 0], S384x128.size, ![16, 1], inb_S8192x128_S384x128_8_0_s_16_1⟩ : LoadRect S8192x128))) (k0_pay88 (ldl X (⟨![9, 0], S384x128.size, ![16, 1], inb_S8192x128_S384x128_9_0_s_16_1⟩ : LoadRect S8192x128))) (k0_pay90 (ldl X (⟨![10, 0], S384x128.size, ![16, 1], inb_S8192x128_S384x128_10_0_s_16_1⟩ : LoadRect S8192x128))) (k0_pay92 (ldl X (⟨![11, 0], S384x128.size, ![16, 1], inb_S8192x128_S384x128_11_0_s_16_1⟩ : LoadRect S8192x128))) (ldl X (⟨![12, 0], S384x128.size, ![16, 1], inb_S8192x128_S384x128_12_0_s_16_1⟩ : LoadRect S8192x128)) (ldl X (⟨![13, 0], S384x128.size, ![16, 1], inb_S8192x128_S384x128_13_0_s_16_1⟩ : LoadRect S8192x128)) (ldl X (⟨![14, 0], S384x128.size, ![16, 1], inb_S8192x128_S384x128_14_0_s_16_1⟩ : LoadRect S8192x128)) (ldl X (⟨![15, 0], S384x128.size, ![16, 1], inb_S8192x128_S384x128_15_0_s_16_1⟩ : LoadRect S8192x128))

/-- The output block of a block whose tokens fill the first 384 rows: the gate of those rows, 256 columns at a
time, and zeros below them. -/
def out384 (X : Vec F S8192x128 .i32) (D : Vec F S4096x1024 .f32) : Vec F S512x1024 .bf16 := View.canon [
    ⟨Rect.unit (s := S512x1024) ![384, 0] S128x1024.size inb_S512x1024_S128x1024_384_0, k0_pay2 (F := F)⟩,
    ⟨Rect.unit (s := S512x1024) ![0, 768] S384x256.size inb_S512x1024_S384x256_0_768, k0_pay1 (hi384 X) (k0_pay100 (lo384 X) (View.ld D (Rect.unit (s := S4096x1024) ![0, 768] S2048x256.size inb_S4096x1024_S2048x256_0_768))) (View.ld D (Rect.unit (s := S4096x1024) ![2048, 768] S2048x256.size inb_S4096x1024_S2048x256_2048_768))⟩,
    ⟨Rect.unit (s := S512x1024) ![0, 512] S384x256.size inb_S512x1024_S384x256_0_512, k0_pay99 (lo384 X) (hi384 X) (View.ld D (Rect.unit (s := S4096x1024) ![0, 512] S2048x256.size inb_S4096x1024_S2048x256_0_512)) (View.ld D (Rect.unit (s := S4096x1024) ![2048, 512] S2048x256.size inb_S4096x1024_S2048x256_2048_512))⟩,
    ⟨Rect.unit (s := S512x1024) ![0, 256] S384x256.size inb_S512x1024_S384x256_0_256, k0_pay98 (k0_pay96 (lo384 X) (hi384 X) (View.ld D (Rect.unit (s := S4096x1024) ![0, 256] S2048x256.size inb_S4096x1024_S2048x256_0_256)) (View.ld D (Rect.unit (s := S4096x1024) ![2048, 256] S2048x256.size inb_S4096x1024_S2048x256_2048_256))) (k0_pay97 (lo384 X) (hi384 X) (View.ld D (Rect.unit (s := S4096x1024) ![0, 256] S2048x256.size inb_S4096x1024_S2048x256_0_256)) (View.ld D (Rect.unit (s := S4096x1024) ![2048, 256] S2048x256.size inb_S4096x1024_S2048x256_2048_256))) (Scalar.ofBits .f32 0x3F800000#32 : F .f32)⟩,
    ⟨Rect.unit (s := S512x1024) ![0, 0] S384x256.size inb_S512x1024_S384x256_0_0, k0_pay95 (lo384 X) (hi384 X) (View.ld D (Rect.unit (s := S4096x1024) ![0, 0] S2048x256.size inb_S4096x1024_S2048x256_0_0)) (View.ld D (Rect.unit (s := S4096x1024) ![2048, 0] S2048x256.size inb_S4096x1024_S2048x256_2048_0))⟩]

/-- The pieces written for 384 rows fill the block. -/
theorem cover384 (w0 : (Shape.mk 2 ![128, 1024]).Idx → Elt F .bf16) (w1 : (Shape.mk 2 ![384, 256]).Idx → Elt F .bf16) (w2 : (Shape.mk 2 ![384, 256]).Idx → Elt F .bf16) (w3 : (Shape.mk 2 ![384, 256]).Idx → Elt F .bf16) (w4 : (Shape.mk 2 ![384, 256]).Idx → Elt F .bf16) :
    ∀ y : S512x1024.Idx, ∃ p ∈ ([⟨Rect.unit (s := S512x1024) ![384, 0] S128x1024.size inb_S512x1024_S128x1024_384_0, w0⟩, ⟨Rect.unit (s := S512x1024) ![0, 768] S384x256.size inb_S512x1024_S384x256_0_768, w1⟩, ⟨Rect.unit (s := S512x1024) ![0, 512] S384x256.size inb_S512x1024_S384x256_0_512, w2⟩, ⟨Rect.unit (s := S512x1024) ![0, 256] S384x256.size inb_S512x1024_S384x256_0_256, w3⟩, ⟨Rect.unit (s := S512x1024) ![0, 0] S384x256.size inb_S512x1024_S384x256_0_0, w4⟩] : List (View.Piece (Elt F) S512x1024 .bf16)), y ∈ p.1.set :=
  View.cover_of_tiledBy _ ![128, 256] (by sl_kernel_rfl)

/-- The low halves of the words of the first 512 rows' tokens, side by side. -/
def lo512 (X : Vec F S8192x128 .i32) : FVec F S512x2048 .bf16 :=
  k0_pay125 (k0_pay101 (ldl X (⟨![0, 0], S512x128.size, ![16, 1], inb_S8192x128_S512x128_0_0_s_16_1⟩ : LoadRect S8192x128))) (k0_pay103 (ldl X (⟨![1, 0], S512x128.size, ![16, 1], inb_S8192x128_S512x128_1_0_s_16_1⟩ : LoadRect S8192x128))) (k0_pay105 (ldl X (⟨![2, 0], S512x128.size, ![16, 1], inb_S8192x128_S512x128_2_0_s_16_1⟩ : LoadRect S8192x128))) (k0_pay107 (ldl X (⟨![3, 0], S512x128.size, ![16, 1], inb_S8192x128_S512x128_3_0_s_16_1⟩ : LoadRect S8192x128))) (k0_pay109 (ldl X (⟨![4, 0], S512x128.size, ![16, 1], inb_S8192x128_S512x128_4_0_s_16_1⟩ : LoadRect S8192x128))) (k0_pay111 (ldl X (⟨![5, 0], S512x128.size, ![16, 1], inb_S8192x128_S512x128_5_0_s_16_1⟩ : LoadRect S8192x128))) (k0_pay113 (ldl X (⟨![6, 0], S512x128.size, ![16, 1], inb_S8192x128_S512x128_6_0_s_16_1⟩ : LoadRect S8192x128))) (k0_pay115 (ldl X (⟨![7, 0], S512x128.size, ![16, 1], inb_S8192x128_S512x128_7_0_s_16_1⟩ : LoadRect S8192x128))) (k0_pay117 (ldl X (⟨![8, 0], S512x128.size, ![16, 1], inb_S8192x128_S512x128_8_0_s_16_1⟩ : LoadRect S8192x128))) (k0_pay119 (ldl X (⟨![9, 0], S512x128.size, ![16, 1], inb_S8192x128_S512x128_9_0_s_16_1⟩ : LoadRect S8192x128))) (k0_pay121 (ldl X (⟨![10, 0], S512x128.size, ![16, 1], inb_S8192x128_S512x128_10_0_s_16_1⟩ : LoadRect S8192x128))) (k0_pay123 (ldl X (⟨![11, 0], S512x128.size, ![16, 1], inb_S8192x128_S512x128_11_0_s_16_1⟩ : LoadRect S8192x128))) (ldl X (⟨![12, 0], S512x128.size, ![16, 1], inb_S8192x128_S512x128_12_0_s_16_1⟩ : LoadRect S8192x128)) (ldl X (⟨![13, 0], S512x128.size, ![16, 1], inb_S8192x128_S512x128_13_0_s_16_1⟩ : LoadRect S8192x128)) (ldl X (⟨![14, 0], S512x128.size, ![16, 1], inb_S8192x128_S512x128_14_0_s_16_1⟩ : LoadRect S8192x128)) (ldl X (⟨![15, 0], S512x128.size, ![16, 1], inb_S8192x128_S512x128_15_0_s_16_1⟩ : LoadRect S8192x128))

/-- The high halves of the words of the first 512 rows' tokens, side by side. -/
def hi512 (X : Vec F S8192x128 .i32) : FVec F S512x2048 .bf16 :=
  k0_pay126 (k0_pay102 (ldl X (⟨![0, 0], S512x128.size, ![16, 1], inb_S8192x128_S512x128_0_0_s_16_1⟩ : LoadRect S8192x128))) (k0_pay104 (ldl X (⟨![1, 0], S512x128.size, ![16, 1], inb_S8192x128_S512x128_1_0_s_16_1⟩ : LoadRect S8192x128))) (k0_pay106 (ldl X (⟨![2, 0], S512x128.size, ![16, 1], inb_S8192x128_S512x128_2_0_s_16_1⟩ : LoadRect S8192x128))) (k0_pay108 (ldl X (⟨![3, 0], S512x128.size, ![16, 1], inb_S8192x128_S512x128_3_0_s_16_1⟩ : LoadRect S8192x128))) (k0_pay110 (ldl X (⟨![4, 0], S512x128.size, ![16, 1], inb_S8192x128_S512x128_4_0_s_16_1⟩ : LoadRect S8192x128))) (k0_pay112 (ldl X (⟨![5, 0], S512x128.size, ![16, 1], inb_S8192x128_S512x128_5_0_s_16_1⟩ : LoadRect S8192x128))) (k0_pay114 (ldl X (⟨![6, 0], S512x128.size, ![16, 1], inb_S8192x128_S512x128_6_0_s_16_1⟩ : LoadRect S8192x128))) (k0_pay116 (ldl X (⟨![7, 0], S512x128.size, ![16, 1], inb_S8192x128_S512x128_7_0_s_16_1⟩ : LoadRect S8192x128))) (k0_pay118 (ldl X (⟨![8, 0], S512x128.size, ![16, 1], inb_S8192x128_S512x128_8_0_s_16_1⟩ : LoadRect S8192x128))) (k0_pay120 (ldl X (⟨![9, 0], S512x128.size, ![16, 1], inb_S8192x128_S512x128_9_0_s_16_1⟩ : LoadRect S8192x128))) (k0_pay122 (ldl X (⟨![10, 0], S512x128.size, ![16, 1], inb_S8192x128_S512x128_10_0_s_16_1⟩ : LoadRect S8192x128))) (k0_pay124 (ldl X (⟨![11, 0], S512x128.size, ![16, 1], inb_S8192x128_S512x128_11_0_s_16_1⟩ : LoadRect S8192x128))) (ldl X (⟨![12, 0], S512x128.size, ![16, 1], inb_S8192x128_S512x128_12_0_s_16_1⟩ : LoadRect S8192x128)) (ldl X (⟨![13, 0], S512x128.size, ![16, 1], inb_S8192x128_S512x128_13_0_s_16_1⟩ : LoadRect S8192x128)) (ldl X (⟨![14, 0], S512x128.size, ![16, 1], inb_S8192x128_S512x128_14_0_s_16_1⟩ : LoadRect S8192x128)) (ldl X (⟨![15, 0], S512x128.size, ![16, 1], inb_S8192x128_S512x128_15_0_s_16_1⟩ : LoadRect S8192x128))

/-- The output block of a block whose tokens fill the first 512 rows: the gate of those rows, 256 columns at a
time. -/
def out512 (X : Vec F S8192x128 .i32) (D : Vec F S4096x1024 .f32) : Vec F S512x1024 .bf16 := View.canon [
    ⟨Rect.unit (s := S512x1024) ![0, 768] S512x256.size inb_S512x1024_S512x256_0_768, k0_pay3 (hi512 X) (k0_pay132 (lo512 X) (View.ld D (Rect.unit (s := S4096x1024) ![0, 768] S2048x256.size inb_S4096x1024_S2048x256_0_768))) (View.ld D (Rect.unit (s := S4096x1024) ![2048, 768] S2048x256.size inb_S4096x1024_S2048x256_2048_768))⟩,
    ⟨Rect.unit (s := S512x1024) ![0, 512] S512x256.size inb_S512x1024_S512x256_0_512, k0_pay131 (lo512 X) (hi512 X) (View.ld D (Rect.unit (s := S4096x1024) ![0, 512] S2048x256.size inb_S4096x1024_S2048x256_0_512)) (View.ld D (Rect.unit (s := S4096x1024) ![2048, 512] S2048x256.size inb_S4096x1024_S2048x256_2048_512))⟩,
    ⟨Rect.unit (s := S512x1024) ![0, 256] S512x256.size inb_S512x1024_S512x256_0_256, k0_pay130 (k0_pay128 (lo512 X) (hi512 X) (View.ld D (Rect.unit (s := S4096x1024) ![0, 256] S2048x256.size inb_S4096x1024_S2048x256_0_256)) (View.ld D (Rect.unit (s := S4096x1024) ![2048, 256] S2048x256.size inb_S4096x1024_S2048x256_2048_256))) (k0_pay129 (lo512 X) (hi512 X) (View.ld D (Rect.unit (s := S4096x1024) ![0, 256] S2048x256.size inb_S4096x1024_S2048x256_0_256)) (View.ld D (Rect.unit (s := S4096x1024) ![2048, 256] S2048x256.size inb_S4096x1024_S2048x256_2048_256))) (Scalar.ofBits .f32 0x3F800000#32 : F .f32)⟩,
    ⟨Rect.unit (s := S512x1024) ![0, 0] S512x256.size inb_S512x1024_S512x256_0_0, k0_pay127 (lo512 X) (hi512 X) (View.ld D (Rect.unit (s := S4096x1024) ![0, 0] S2048x256.size inb_S4096x1024_S2048x256_0_0)) (View.ld D (Rect.unit (s := S4096x1024) ![2048, 0] S2048x256.size inb_S4096x1024_S2048x256_2048_0))⟩]

/-- The pieces written for 512 rows fill the block. -/
theorem cover512 (w0 : (Shape.mk 2 ![512, 256]).Idx → Elt F .bf16) (w1 : (Shape.mk 2 ![512, 256]).Idx → Elt F .bf16) (w2 : (Shape.mk 2 ![512, 256]).Idx → Elt F .bf16) (w3 : (Shape.mk 2 ![512, 256]).Idx → Elt F .bf16) :
    ∀ y : S512x1024.Idx, ∃ p ∈ ([⟨Rect.unit (s := S512x1024) ![0, 768] S512x256.size inb_S512x1024_S512x256_0_768, w0⟩, ⟨Rect.unit (s := S512x1024) ![0, 512] S512x256.size inb_S512x1024_S512x256_0_512, w1⟩, ⟨Rect.unit (s := S512x1024) ![0, 256] S512x256.size inb_S512x1024_S512x256_0_256, w2⟩, ⟨Rect.unit (s := S512x1024) ![0, 0] S512x256.size inb_S512x1024_S512x256_0_0, w3⟩] : List (View.Piece (Elt F) S512x1024 .bf16)), y ∈ p.1.set :=
  View.cover_of_tiledBy _ ![512, 256] (by sl_kernel_rfl)

/-- The output block of a block without tokens. -/
def out0 : Vec F S512x1024 .bf16 := View.canon [⟨Rect.unit (s := S512x1024) ![0, 0] S512x1024.size inb_S512x1024_S512x1024_0_0, k0_pay4 (F := F)⟩]

/-- The one piece written for no rows fills the block. -/
theorem cover0 (w0 : (Shape.mk 2 ![512, 1024]).Idx → Elt F .bf16) :
    ∀ y : S512x1024.Idx, ∃ p ∈ ([⟨Rect.unit (s := S512x1024) ![0, 0] S512x1024.size inb_S512x1024_S512x1024_0_0, w0⟩] : List (View.Piece (Elt F) S512x1024 .bf16)), y ∈ p.1.set :=
  View.cover_of_tiledBy _ ![512, 1024] (by sl_kernel_rfl)

set_option maxHeartbeats 4000000 in
/-- The branch of blocks with tokens in the first 128 rows. -/
theorem run128 (c : Dev nD) (i : grid0.Coords) (s n : BitVec 32) (hw6 : k0_chk6 s n)
    (h4 : k0_cond4 n = 1#1) (h5 : ¬ k0_cond5 n = 1#1) (h6 : ¬ k0_cond6 n = 1#1) (h7 : ¬ k0_cond7 n = 1#1) (h8 : ¬ k0_cond8 n = 1#1)
    (arg7 : Memref sig .tc .vmem S8192x128 .i32) (harg7 : arg7.IsWhole) (arg9 : Memref sig .tc .vmem S512x1024 .bf16) (harg9 : arg9.IsWhole)
    (X : Vec F S8192x128 .i32) (D : Vec F S4096x1024 .f32) (K : PUnit → sProp 𝕄) :
    iprop(owns (c : Thread nD τ) arg7 fullShare X ∗ owns (c : Thread nD τ) (slotM (k0_off13 s) (hw6.1 h4)) fullShare D ∗ (∃ d, owns (c : Thread nD τ) arg9 fullShare d)
      ∗ (iprop(owns (c : Thread nD τ) arg7 fullShare X ∗ owns (c : Thread nD τ) (slotM (k0_off13 s) (hw6.1 h4)) fullShare D ∗ owns (c : Thread nD τ) arg9 fullShare (out128 X D)) -∗ K ⟨⟩))
      ⊢ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 (Memref.whole cc0_scratch0) (Memref.isWhole_whole _) cc0_scratch1 s n hw6) K := by
  unfold comp tail
  simp only [k0_part1_eq_skeleton, k0_part2_eq_skeleton, k0_part3_eq_skeleton, k0_part4_eq_skeleton]
  unfold owns
  iintro ⟨⟨%f7, %hf7, H7⟩, ⟨%fs, %hfs, Hs⟩, ⟨%d, %f9, -, H9⟩, Hk⟩
  subst hf7 hfs
  sl_exec
  sl_step
  iapply Hk
  isplitl [H7]
  · iexists f7
    isplitr
    · ipureintro; rfl
    · iexact H7
  isplitl [Hs]
  · iexists fs
    isplitr
    · ipureintro; rfl
    · iexact Hs
  iexists _
  isplitr
  swap
  · iexact H9
  ipureintro
  exact View.read_writes_eq_canon _ _ _ (cover128 _ _ _ _ _)

set_option maxHeartbeats 4000000 in
/-- The branch of blocks with tokens in the first 256 rows. -/
theorem run256 (c : Dev nD) (i : grid0.Coords) (s n : BitVec 32) (hw6 : k0_chk6 s n)
    (h4 : ¬ k0_cond4 n = 1#1) (h5 : k0_cond5 n = 1#1) (h6 : ¬ k0_cond6 n = 1#1) (h7 : ¬ k0_cond7 n = 1#1) (h8 : ¬ k0_cond8 n = 1#1)
    (arg7 : Memref sig .tc .vmem S8192x128 .i32) (harg7 : arg7.IsWhole) (arg9 : Memref sig .tc .vmem S512x1024 .bf16) (harg9 : arg9.IsWhole)
    (X : Vec F S8192x128 .i32) (D : Vec F S4096x1024 .f32) (K : PUnit → sProp 𝕄) :
    iprop(owns (c : Thread nD τ) arg7 fullShare X ∗ owns (c : Thread nD τ) (slotM (k0_off14 s) (hw6.2.1 h5)) fullShare D ∗ (∃ d, owns (c : Thread nD τ) arg9 fullShare d)
      ∗ (iprop(owns (c : Thread nD τ) arg7 fullShare X ∗ owns (c : Thread nD τ) (slotM (k0_off14 s) (hw6.2.1 h5)) fullShare D ∗ owns (c : Thread nD τ) arg9 fullShare (out256 X D)) -∗ K ⟨⟩))
      ⊢ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 (Memref.whole cc0_scratch0) (Memref.isWhole_whole _) cc0_scratch1 s n hw6) K := by
  unfold comp tail
  simp only [k0_part5_eq_skeleton, k0_part6_eq_skeleton, k0_part7_eq_skeleton, k0_part8_eq_skeleton]
  unfold owns
  iintro ⟨⟨%f7, %hf7, H7⟩, ⟨%fs, %hfs, Hs⟩, ⟨%d, %f9, -, H9⟩, Hk⟩
  subst hf7 hfs
  sl_exec
  sl_step
  iapply Hk
  isplitl [H7]
  · iexists f7
    isplitr
    · ipureintro; rfl
    · iexact H7
  isplitl [Hs]
  · iexists fs
    isplitr
    · ipureintro; rfl
    · iexact Hs
  iexists _
  isplitr
  swap
  · iexact H9
  ipureintro
  exact View.read_writes_eq_canon _ _ _ (cover256 _ _ _ _ _)

set_option maxHeartbeats 4000000 in
/-- The branch of blocks with tokens in the first 384 rows. -/
theorem run384 (c : Dev nD) (i : grid0.Coords) (s n : BitVec 32) (hw6 : k0_chk6 s n)
    (h4 : ¬ k0_cond4 n = 1#1) (h5 : ¬ k0_cond5 n = 1#1) (h6 : k0_cond6 n = 1#1) (h7 : ¬ k0_cond7 n = 1#1) (h8 : ¬ k0_cond8 n = 1#1)
    (arg7 : Memref sig .tc .vmem S8192x128 .i32) (harg7 : arg7.IsWhole) (arg9 : Memref sig .tc .vmem S512x1024 .bf16) (harg9 : arg9.IsWhole)
    (X : Vec F S8192x128 .i32) (D : Vec F S4096x1024 .f32) (K : PUnit → sProp 𝕄) :
    iprop(owns (c : Thread nD τ) arg7 fullShare X ∗ owns (c : Thread nD τ) (slotM (k0_off15 s) (hw6.2.2.1 h6)) fullShare D ∗ (∃ d, owns (c : Thread nD τ) arg9 fullShare d)
      ∗ (iprop(owns (c : Thread nD τ) arg7 fullShare X ∗ owns (c : Thread nD τ) (slotM (k0_off15 s) (hw6.2.2.1 h6)) fullShare D ∗ owns (c : Thread nD τ) arg9 fullShare (out384 X D)) -∗ K ⟨⟩))
      ⊢ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 (Memref.whole cc0_scratch0) (Memref.isWhole_whole _) cc0_scratch1 s n hw6) K := by
  unfold comp tail
  simp only [k0_part9_eq_skeleton, k0_part10_eq_skeleton, k0_part11_eq_skeleton, k0_part12_eq_skeleton]
  unfold owns
  iintro ⟨⟨%f7, %hf7, H7⟩, ⟨%fs, %hfs, Hs⟩, ⟨%d, %f9, -, H9⟩, Hk⟩
  subst hf7 hfs
  sl_exec
  sl_step
  iapply Hk
  isplitl [H7]
  · iexists f7
    isplitr
    · ipureintro; rfl
    · iexact H7
  isplitl [Hs]
  · iexists fs
    isplitr
    · ipureintro; rfl
    · iexact Hs
  iexists _
  isplitr
  swap
  · iexact H9
  ipureintro
  exact View.read_writes_eq_canon _ _ _ (cover384 _ _ _ _ _)

set_option maxHeartbeats 4000000 in
/-- The branch of blocks with tokens in the first 512 rows. -/
theorem run512 (c : Dev nD) (i : grid0.Coords) (s n : BitVec 32) (hw6 : k0_chk6 s n)
    (h4 : ¬ k0_cond4 n = 1#1) (h5 : ¬ k0_cond5 n = 1#1) (h6 : ¬ k0_cond6 n = 1#1) (h7 : k0_cond7 n = 1#1) (h8 : ¬ k0_cond8 n = 1#1)
    (arg7 : Memref sig .tc .vmem S8192x128 .i32) (harg7 : arg7.IsWhole) (arg9 : Memref sig .tc .vmem S512x1024 .bf16) (harg9 : arg9.IsWhole)
    (X : Vec F S8192x128 .i32) (D : Vec F S4096x1024 .f32) (K : PUnit → sProp 𝕄) :
    iprop(owns (c : Thread nD τ) arg7 fullShare X ∗ owns (c : Thread nD τ) (slotM (k0_off16 s) (hw6.2.2.2 h7)) fullShare D ∗ (∃ d, owns (c : Thread nD τ) arg9 fullShare d)
      ∗ (iprop(owns (c : Thread nD τ) arg7 fullShare X ∗ owns (c : Thread nD τ) (slotM (k0_off16 s) (hw6.2.2.2 h7)) fullShare D ∗ owns (c : Thread nD τ) arg9 fullShare (out512 X D)) -∗ K ⟨⟩))
      ⊢ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 (Memref.whole cc0_scratch0) (Memref.isWhole_whole _) cc0_scratch1 s n hw6) K := by
  unfold comp tail
  simp only [k0_part13_eq_skeleton, k0_part14_eq_skeleton, k0_part15_eq_skeleton, k0_part16_eq_skeleton]
  unfold owns
  iintro ⟨⟨%f7, %hf7, H7⟩, ⟨%fs, %hfs, Hs⟩, ⟨%d, %f9, -, H9⟩, Hk⟩
  subst hf7 hfs
  sl_exec
  sl_step
  iapply Hk
  isplitl [H7]
  · iexists f7
    isplitr
    · ipureintro; rfl
    · iexact H7
  isplitl [Hs]
  · iexists fs
    isplitr
    · ipureintro; rfl
    · iexact Hs
  iexists _
  isplitr
  swap
  · iexact H9
  ipureintro
  exact View.read_writes_eq_canon _ _ _ (cover512 _ _ _ _)

set_option maxHeartbeats 4000000 in
/-- The branch of blocks without tokens. -/
theorem run0 (c : Dev nD) (i : grid0.Coords) (s n : BitVec 32) (hw6 : k0_chk6 s n)
    (h4 : ¬ k0_cond4 n = 1#1) (h5 : ¬ k0_cond5 n = 1#1) (h6 : ¬ k0_cond6 n = 1#1) (h7 : ¬ k0_cond7 n = 1#1) (h8 : k0_cond8 n = 1#1)
    (arg7 : Memref sig .tc .vmem S8192x128 .i32) (harg7 : arg7.IsWhole) (arg9 : Memref sig .tc .vmem S512x1024 .bf16) (harg9 : arg9.IsWhole)
    (X : Vec F S8192x128 .i32) (K : PUnit → sProp 𝕄) :
    iprop(owns (c : Thread nD τ) arg7 fullShare X ∗ (∃ d, owns (c : Thread nD τ) arg9 fullShare d)
      ∗ (iprop(owns (c : Thread nD τ) arg7 fullShare X ∗ owns (c : Thread nD τ) arg9 fullShare (out0)) -∗ K ⟨⟩))
      ⊢ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 (Memref.whole cc0_scratch0) (Memref.isWhole_whole _) cc0_scratch1 s n hw6) K := by
  unfold comp tail
  unfold owns
  iintro ⟨⟨%f7, %hf7, H7⟩, ⟨%d, %f9, -, H9⟩, Hk⟩
  subst hf7
  sl_exec
  sl_step
  iapply Hk
  isplitl [H7]
  · iexists f7
    isplitr
    · ipureintro; rfl
    · iexact H7
  iexists _
  isplitr
  swap
  · iexact H9
  ipureintro
  exact View.read_writes_eq_canon _ _ _ (cover0 _)

end Cert.KernelIdeal.Hand
-- ==== Proof.GatePlan.lean ====
module
public import proofs.«01_k».proof.Pre_plan_ok
public import proofs.«01_k».proof.Proof.Gen.Pre_plan_ok
public import Idealize.ShloMosaic.Lib.StableHlo.Predicate

/-!
The block plan that `expert_gate` takes: what the precondition `plan_ok` says of its six tables, word by word.
-/

@[expose] public noncomputable section

namespace Cert.GatePlan

open Idealize.ShloMosaic
open Cert.Pre_plan_ok

/-- Word `t` of a table of 96 words. -/
def wd (T : S96.Idx → BitVec 32) (t : Fin 96) : BitVec 32 := T (Shape.Idx.ofFin t)

/-- The plan's properties: `B` the blocks' experts, `Fi` the blocks that are first of their expert, `Sl` the slots,
    `Nx` the experts that follow, `nu` the number of used blocks, `Nv` the blocks' valid rows. -/
structure PlanOK (B Fi Sl Nx Nv : Fin 96 → BitVec 32) (nu : BitVec 32) : Prop where
  b : ∀ t, (B t).toNat < 32
  fi : ∀ t, Fi t = 0#32 ∨ Fi t = 1#32
  sl : ∀ t, (Sl t).toNat < 2
  nx : ∀ t, Nx t = 4294967295#32 ∨ (Nx t).toNat < 32
  nv : ∀ t, (Nv t).toNat ≤ 512
  used : ∀ t, t.val < nu.toNat ∨ Nv t = 0#32
  first : ∀ (t : ℕ) (h : t + 1 < 96), Fi ⟨t + 1, h⟩ = 1#32 → B ⟨t + 1, h⟩ = Nx ⟨t, by omega⟩ ∧ Sl ⟨t + 1, h⟩ = 1#32 - Sl ⟨t, by omega⟩
  same : ∀ (t : ℕ) (h : t + 1 < 96), Fi ⟨t + 1, h⟩ = 0#32 → B ⟨t + 1, h⟩ = B ⟨t, by omega⟩ ∧ Sl ⟨t + 1, h⟩ = Sl ⟨t, by omega⟩ ∧ Nx ⟨t + 1, h⟩ = Nx ⟨t, by omega⟩
  fi0 : Fi 0 = 1#32
  sl0 : Sl 0 = 0#32
  last : Nx 95 = 4294967295#32
  nu1 : 1 ≤ nu.toNat
  nu96 : nu.toNat ≤ 96

theorem and1 (a b : BitVec 1) : IntOp.andi a b = 1#1 ↔ a = 1#1 ∧ b = 1#1 := by
  revert a b; decide
theorem or1 (a b : BitVec 1) : IntOp.ori a b = 1#1 ↔ a = 1#1 ∨ b = 1#1 := by
  revert a b; decide
theorem sge1 (a b : BitVec 32) : IntOp.cmpi .sge a b = 1#1 ↔ b.toInt ≤ a.toInt := by
  simp [IntOp.cmpi, StableHlo.Predicate.ofBool_eq_one_iff, BitVec.sle_iff_toInt_le]
theorem sle1 (a b : BitVec 32) : IntOp.cmpi .sle a b = 1#1 ↔ a.toInt ≤ b.toInt := by
  simp [IntOp.cmpi, StableHlo.Predicate.ofBool_eq_one_iff, BitVec.sle_iff_toInt_le]
theorem slt1 (a b : BitVec 32) : IntOp.cmpi .slt a b = 1#1 ↔ a.toInt < b.toInt := by
  simp [IntOp.cmpi, StableHlo.Predicate.ofBool_eq_one_iff, BitVec.slt_iff_toInt_lt]

theorem slice95 (k : ℕ) (hk : k ≤ 1) (T : S96.Idx → BitVec 32) (h : S96.Slices ![k] S95) (t : Fin 95) :
    extractStridedSlice S95 ![k] T h (Shape.Idx.ofFin t) = wd T ⟨k + t.val, by omega⟩ := by
  unfold extractStridedSlice wd
  congr 1; funext a
  obtain rfl : a = 0 := Subsingleton.elim _ _
  rfl
theorem slice1 (k : ℕ) (hk : k ≤ 95) (T : S96.Idx → BitVec 32) (h : S96.Slices ![k] S1) :
    extractStridedSlice S1 ![k] T h (Shape.Idx.ofFin (0 : Fin 1)) = wd T ⟨k, by omega⟩ := by
  unfold extractStridedSlice wd
  congr 1; funext a
  obtain rfl : a = 0 := Subsingleton.elim _ _
  rfl
theorem bcast0 {t : Shape} (b : BitVec 32) (dims : Fin S_.rank → Fin t.rank) (h : S_.BroadcastsInDim t dims) (i : t.Idx) :
    broadcastInDim t dims h (constantI S_ 32 b) i = b := rfl
theorem bcast1 (T : S1.Idx → BitVec 32) (dims : Fin S1.rank → Fin S96.rank) (h : S1.BroadcastsInDim S96 dims) (i : S96.Idx) :
    broadcastInDim S96 dims h T i = T (Shape.Idx.ofFin (0 : Fin 1)) := by
  unfold broadcastInDim
  congr 1; funext a
  obtain rfl : a = 0 := Subsingleton.elim _ _
  apply Fin.ext; rfl

theorem nat_of_range {x : BitVec 32} {k : ℕ} (h0 : 0 ≤ x.toInt) (h1 : x.toInt < k) : x.toNat < k := by
  rw [BitVec.toInt_eq_toNat_cond] at h0 h1; split at h0 <;> simp_all <;> omega

variable {F : FTy → Type} [FloatOps F]

/-- What `plan_ok` being all ones says of the tables. -/
theorem plan_of (be first slot nxt : IVec S96 32) (nu : IVec S1 32) (nv : IVec S96 32) (xs : IVec S786432x128 32) (w : FVec F S32x4096x1024 .f32)
    (h1 : (fn (F := F) be first slot nxt nu nv xs w).1 = fun _ => 1#1) (h2 : (fn (F := F) be first slot nxt nu nv xs w).2.1 = fun _ => 1#1)
    (h3 : (fn (F := F) be first slot nxt nu nv xs w).2.2.1 = fun _ => 1#1) (h4 : (fn (F := F) be first slot nxt nu nv xs w).2.2.2.1 = fun _ => 1#1)
    (h5 : (fn (F := F) be first slot nxt nu nv xs w).2.2.2.2 = fun _ => 1#1) :
    PlanOK (wd be) (wd first) (wd slot) (wd nxt) (wd nv) (nu (Shape.Idx.ofFin (0 : Fin 1))) := by
  have e3 := congrFun h3 (Shape.Idx.ofFin (0 : Fin 1))
  have e4 := congrFun h4 (Shape.Idx.ofFin (0 : Fin 1))
  have e5 := congrFun h5 (Shape.Idx.ofFin (0 : Fin 1))
  have e1 : ∀ t : Fin 96, _ := fun t => congrFun h1 (Shape.Idx.ofFin t)
  have e2 : ∀ t : Fin 95, _ := fun t => congrFun h2 (Shape.Idx.ofFin t)
  clear h1 h2 h3 h4 h5
  simp only [fn, fn_part1, fn_part2, fn_part3, fn_where, andi, ori, cmpi, subi, IntOp.subi, select, Scalar.select, and1, or1, sge1, sle1, slt1, StableHlo.Predicate.cmpi_eq_iff,
    slice95 1 (by omega), slice95 0 (by omega), slice1 0 (by omega), slice1 95 (by omega), bcast0, bcast1, StableHlo.Predicate.iota_apply] at e1 e2 e3 e4 e5
  have c0 : (0#32).toInt = 0 := by decide
  have c1 : (1#32).toInt = 1 := by decide
  have c32 : (32#32).toInt = 32 := by decide
  have c96 : (96#32).toInt = 96 := by decide
  have c512 : (512#32).toInt = 512 := by decide
  have cm : (4294967295#32).toInt = -1 := by decide
  simp only [c0, c32, cm, c512] at e1
  rw [c1, c96] at e5
  have hnu := nat_of_range (x := nu (Shape.Idx.ofFin (0 : Fin 1))) (k := 97) (by omega) (by omega)
  have hnu' : (nu (Shape.Idx.ofFin (0 : Fin 1))).toInt = (nu (Shape.Idx.ofFin (0 : Fin 1))).toNat :=
    StableHlo.Predicate.toInt_eq_toNat_of_lt (by omega)
  have e1' : ∀ t, (0 ≤ (wd be t).toInt ∧ (wd be t).toInt < 32) ∧ (wd first t = 0#32 ∨ wd first t = 1#32) ∧ (wd slot t = 0#32 ∨ wd slot t = 1#32)
      ∧ (-1 ≤ (wd nxt t).toInt ∧ (wd nxt t).toInt < 32) ∧ (0 ≤ (wd nv t).toInt ∧ (wd nv t).toInt ≤ 512)
      ∧ ((BitVec.ofNat 32 t.val).toInt < (nu (Shape.Idx.ofFin (0 : Fin 1))).toInt ∨ wd nv t = 0#32) := fun t => by
    have := e1 t; unfold wd; tauto
  clear e1
  refine ⟨fun t => nat_of_range (e1' t).1.1 (e1' t).1.2, fun t => (e1' t).2.1, fun t => ?_, fun t => ?_, fun t => ?_, fun t => ?_,
    fun t h hf => ?_, fun t h hf => ?_, e3.1, e3.2, e4, by omega, by omega⟩
  · rcases (e1' t).2.2.1 with h | h <;> rw [h] <;> decide
  · by_cases h : (wd nxt t).toInt = -1
    · exact Or.inl (BitVec.eq_of_toInt_eq (h.trans cm.symm))
    · exact Or.inr (nat_of_range (by have := (e1' t).2.2.2.1.1; omega) (e1' t).2.2.2.1.2)
  · have := nat_of_range (x := wd nv t) (k := 513) (e1' t).2.2.2.2.1.1 (by have := (e1' t).2.2.2.2.1.2; omega)
    omega
  · refine (e1' t).2.2.2.2.2.imp_left fun h => ?_
    rw [StableHlo.Predicate.toInt_ofNat_small _ (by omega), hnu'] at h
    omega
  · have := e2 ⟨t, by omega⟩
    have hi : (⟨1 + t, by omega⟩ : Fin 96) = ⟨t + 1, h⟩ := Fin.ext (Nat.add_comm _ _)
    have hj : (⟨0 + t, by omega⟩ : Fin 96) = ⟨t, by omega⟩ := Fin.ext (Nat.zero_add _)
    simp only [hi, hj] at this
    rw [if_pos ?_, and1, StableHlo.Predicate.cmpi_eq_iff, StableHlo.Predicate.cmpi_eq_iff] at this
    · exact this
    · exact StableHlo.Predicate.cmpi_eq_iff.mpr hf
  · have := e2 ⟨t, by omega⟩
    have hi : (⟨1 + t, by omega⟩ : Fin 96) = ⟨t + 1, h⟩ := Fin.ext (Nat.add_comm _ _)
    have hj : (⟨0 + t, by omega⟩ : Fin 96) = ⟨t, by omega⟩ := Fin.ext (Nat.zero_add _)
    simp only [hi, hj] at this
    rw [if_neg ?_, and1, and1, StableHlo.Predicate.cmpi_eq_iff, StableHlo.Predicate.cmpi_eq_iff, StableHlo.Predicate.cmpi_eq_iff] at this
    · exact ⟨this.1.1, this.1.2, this.2⟩
    · intro h'
      have := StableHlo.Predicate.cmpi_eq_iff.mp h'
      rw [hf] at this; exact absurd this (by decide)

end Cert.GatePlan
-- ==== Proof.GateState.lean ====
module
public import proofs.«01_k».proof.Proof.GateHead
public import proofs.«01_k».proof.Proof.GateRun
public import proofs.«01_k».proof.Proof.GatePlan

/-!
The state of `expert_gate`'s two weight slots between grid points: before the first both are free, after point `t`
the slot of block `t` holds its expert and the other is filling with the following expert, if there is one.
-/

@[expose] public noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.GatePlan (PlanOK wd)

variable {F : FTy → Type} [FloatOps F]
local notation "𝕄" => MT nD τ sig Unit (Elt F) ℕ (Pipeline.UD sig nD τ) ℕ

/-! ## The plan's words at neighbouring points -/

theorem two_cases {v : BitVec 32} (hv : v.toNat < 2) : v = 0#32 ∨ v = 1#32 := by
  have : v.toNat = 0 ∨ v.toNat = 1 := by omega
  exact this.imp (fun h => BitVec.eq_of_toNat_eq h) (fun h => BitVec.eq_of_toNat_eq h)
theorem other_lt {v : BitVec 32} (hv : v.toNat < 2) : (Scalar.subi 1#32 v).toNat < 2 := by
  rcases two_cases hv with rfl | rfl <;> decide
theorem other_other {v : BitVec 32} (hv : v.toNat < 2) : Scalar.subi 1#32 (Scalar.subi 1#32 v) = v := by
  rcases two_cases hv with rfl | rfl <;> decide

variable {B Fi Sl Nx Nv : Fin 96 → BitVec 32} {nu : BitVec 32} (P : PlanOK B Fi Sl Nx Nv nu)

/-- The point before `k` (of 96). -/
def pr (k : ℕ) : Fin 96 := ⟨min (k - 1) 95, by omega⟩
theorem pr_succ (t : Fin 96) : pr (t.val + 1) = t := Fin.ext (by unfold pr; have := t.isLt; simp; omega)

/-- The slots before point `k`. -/
def St (c : Dev nD) (W : WBuf F c) (k : ℕ) : sProp 𝕄 :=
  if k = 0 then iprop(Free c W 0#32 (by decide) ∗ Free c W 1#32 (by decide))
  else iprop(Cur c W (Sl (pr k)) (P.sl _) (B (pr k)) (P.b _) ∗ Nxt c W (Scalar.subi 1#32 (Sl (pr k))) (other_lt (P.sl _)) (Nx (pr k)))

/-- After point `t`. -/
theorem St_succ (c : Dev nD) (W : WBuf F c) (t : Fin 96) :
    St P c W (t.val + 1) = iprop(Cur c W (Sl t) (P.sl t) (B t) (P.b t) ∗ Nxt c W (Scalar.subi 1#32 (Sl t)) (other_lt (P.sl t)) (Nx t)) := by
  unfold St; rw [if_neg (Nat.succ_ne_zero _)]; simp only [pr_succ]

/-- The slots before point `t` are what its body expects. -/
theorem St_S0 (c : Dev nD) (W : WBuf F c) (i : grid0.Coords) (t : Fin 96) (hi : (i 0).val = t.val) :
    St P c W t.val ⊢ S0 c W i (Sl t) (P.sl t) (other_lt (P.sl t)) (B t) (P.b t) (Nx t) (Fi t) := by
  obtain ⟨t, ht⟩ := t
  cases t with
  | zero => unfold St S0; rw [if_pos rfl, if_pos hi]
  | succ k =>
    have hk : pr (k + 1) = ⟨k, by omega⟩ := pr_succ ⟨k, by omega⟩
    unfold St S0 SA
    rw [if_neg (Nat.succ_ne_zero _), if_neg (by rw [hi]; exact Nat.succ_ne_zero _)]
    rcases P.fi ⟨k + 1, ht⟩ with hf | hf
    · obtain ⟨e1, e2, e3⟩ := P.same k ht hf
      rw [if_neg (by rw [hf]; decide)]
      iintro ⟨H1, H2⟩
      isplitl [H1]
      · rw [Cur_congr c W (e2.trans (congrArg Sl hk.symm)) (e1.trans (congrArg B hk.symm)) _ (P.sl _) _ (P.b _)]; iexact H1
      · rw [Nxt_congr c W (congrArg (Scalar.subi 1#32) (e2.trans (congrArg Sl hk.symm))) (e3.trans (congrArg Nx hk.symm)) _ (other_lt (P.sl _))]; iexact H2
    · obtain ⟨e1, e2⟩ := P.first k ht hf
      rw [if_pos hf]
      have hx : (Nx (pr (k + 1))).toNat < 32 := by rw [hk, ← e1]; exact P.b _
      unfold Nxt
      rw [dif_pos hx]
      have e2' : Sl ⟨k + 1, ht⟩ = Scalar.subi 1#32 (Sl (pr (k + 1))) := e2.trans (by rw [hk]; rfl)
      iintro ⟨H1, H2⟩
      isplitl [H2]
      · rw [Fly_congr c W e2' (e1.trans (congrArg Nx hk.symm)) _ (other_lt (P.sl _)) _ hx]; iexact H2
      · ihave H := (Cur_free c W _ _ _ _) $$ H1
        rw [Free_congr c W (show Scalar.subi 1#32 (Sl ⟨k + 1, ht⟩) = Sl (pr (k + 1)) by rw [e2', other_other (P.sl _)]) _ (P.sl _)]
        iexact H

/-- After the last point both slots are free. -/
theorem St_end (c : Dev nD) (W : WBuf F c) :
    St P c W 96 ⊢ iprop(Free c W 0#32 (by decide) ∗ Free c W 1#32 (by decide)) := by
  have h96 : St P c W 96 = _ := St_succ P c W 95
  rw [h96]
  unfold Nxt
  rw [dif_neg (by rw [P.last]; decide)]
  rcases two_cases (P.sl 95) with h | h
  · iintro ⟨H1, H2⟩
    ihave H := (Cur_free c W _ _ _ _) $$ H1
    isplitl [H]
    · rw [Free_congr c W h.symm _ (P.sl 95)]; iexact H
    · rw [Free_congr c W (show (1#32 : BitVec 32) = Scalar.subi 1#32 (Sl 95) by rw [h]; decide) _ (other_lt (P.sl 95))]; iexact H2
  · iintro ⟨H1, H2⟩
    ihave H := (Cur_free c W _ _ _ _) $$ H1
    isplitl [H2]
    · rw [Free_congr c W (show (0#32 : BitVec 32) = Scalar.subi 1#32 (Sl 95) by rw [h]; decide) _ (other_lt (P.sl 95))]; iexact H2
    · rw [Free_congr c W h.symm _ (P.sl 95)]; iexact H

/-! ## The scratch as two slots, the weights' share as two halves -/

theorem slotOff_inb (j : Fin 2) : ∀ a, (![j.val, 0, 0] : Fin 3 → ℕ) a + S1x4096x1024.size a ≤ S2x4096x1024.size a := by
  have := j.isLt; intro a; fin_cases a <;> simp [S1x4096x1024, S2x4096x1024] <;> omega
/-- The scratch's elements in slot `j`. -/
abbrev slotSet (j : Fin 2) : Finset S2x4096x1024.Idx := (Rect.unit (s := S2x4096x1024) ![j.val, 0, 0] S1x4096x1024.size (slotOff_inb j)).set
theorem slotM_set (o : Fin 3 → ℕ) (h : ∀ a, o a + S1x4096x1024.size a ≤ S2x4096x1024.size a) :
    (slotM o h).view.set = (Rect.unit (s := S2x4096x1024) o S1x4096x1024.size h).set := by
  simp only [slotM, Memref.view_squeeze, View.set_reshape]; exact View.set_slice_whole _ _
theorem slots_disjoint (j j' : Fin 2) (hj : j ≠ j') : Disjoint (slotSet j) (slotSet j') :=
  Ring.lead_disjoint (s := S2x4096x1024) (0 : Fin 3) 1 (fun j : Fin 2 => (![j.val, 0, 0] : Fin 3 → Nat)) S1x4096x1024.size slotOff_inb (fun j => by simp) rfl j j' hj
theorem slots_cover : Finset.univ.biUnion slotSet = Finset.univ :=
  Ring.lead_cover (s := S2x4096x1024) (0 : Fin 3) 1 (fun j : Fin 2 => (![j.val, 0, 0] : Fin 3 → Nat)) S1x4096x1024.size slotOff_inb (fun j => by simp)
    (fun j a ha => by fin_cases a <;> first | exact absurd rfl ha | rfl) rfl (fun a ha => by fin_cases a <;> first | exact absurd rfl ha | rfl) rfl

/-- Slot `v` held at contents `f`. -/
abbrev slotP (c : Dev nD) (v : BitVec 32) (hv : v.toNat < 2) (f : Buf (Elt F) ((c : Thread nD τ).loc cc0_scratch0)) : sProp 𝕄 :=
  (slotM (offW v) (slot_inb hv)).view.loc (c : Thread nD τ) ↦[(slotM (offW v) (slot_inb hv)).view.set]{fullShare} f
theorem slotP_eq0 (c : Dev nD) (f) : slotP (F := F) c 0#32 (by decide) f = (((c : Thread nD τ).loc cc0_scratch0) ↦[slotSet 0]{fullShare} f : sProp 𝕄) := by
  unfold slotP; rw [slotM_set]; rfl
theorem slotP_eq1 (c : Dev nD) (f) : slotP (F := F) c 1#32 (by decide) f = (((c : Thread nD τ).loc cc0_scratch0) ↦[slotSet 1]{fullShare} f : sProp 𝕄) := by
  unfold slotP; rw [slotM_set]; rfl
theorem slots_in (c : Dev nD) : iprop(∃ f : Buf (Elt F) ((c : Thread nD τ).loc cc0_scratch0), ((c : Thread nD τ).loc cc0_scratch0) ↦{fullShare} f)
    ⊢ (iprop((∃ f, slotP c 0#32 (by decide) f) ∗ ∃ f, slotP c 1#32 (by decide) f) : sProp 𝕄) :=
  Ring.slots2_split (U := Pipeline.UD sig nD τ) (ℓ := (c : Thread nD τ).loc cc0_scratch0) (q := fullShare) slotSet slots_disjoint slots_cover
    (slotP c 0#32 (by decide)) (slotP c 1#32 (by decide)) (slotP_eq0 c) (slotP_eq1 c)
theorem slots_out (c : Dev nD) : (iprop((∃ f, slotP c 0#32 (by decide) f) ∗ ∃ f, slotP c 1#32 (by decide) f) : sProp 𝕄)
    ⊢ iprop(∃ f : Buf (Elt F) ((c : Thread nD τ).loc cc0_scratch0), ((c : Thread nD τ).loc cc0_scratch0) ↦{fullShare} f) :=
  Ring.slots2_join (U := Pipeline.UD sig nD τ) (ℓ := (c : Thread nD τ).loc cc0_scratch0) (q := fullShare) slotSet slots_disjoint slots_cover
    (slotP c 0#32 (by decide)) (slotP c 1#32 (by decide)) (slotP_eq0 c) (slotP_eq1 c)

theorem sem0 : SemLoc.dma (semS (offS 0#32) (sem_inb (by decide))) = (SemLoc.dma 4 : SemLoc sig) := by decide
theorem sem1 : SemLoc.dma (semS (offS 1#32) (sem_inb (by decide))) = (SemLoc.dma 5 : SemLoc sig) := by decide

/-- The scratch, its two semaphores at zero and the weights: both slots free. -/
theorem free_in (c : Dev nD) (W : WBuf F c) :
    iprop((∃ f : Buf (Elt F) ((c : Thread nD τ).loc cc0_scratch0), ((c : Thread nD τ).loc cc0_scratch0) ↦{fullShare} f)
      ∗ (semVal ((c : Thread nD τ), SemLoc.dma 4) 0 ∗ semVal ((c : Thread nD τ), SemLoc.dma 5) 0) ∗ wLoc c ↦{fullShare} W)
    ⊢ (iprop(Free c W 0#32 (by decide) ∗ Free c W 1#32 (by decide)) : sProp 𝕄) := by
  unfold Free
  rw [sem0, sem1, show shr 0#32 = fullShare.left from rfl, show shr 1#32 = fullShare.right from rfl]
  iintro ⟨Hs, ⟨H4, H5⟩, Hw⟩
  ihave Hs' := (slots_in c) $$ Hs
  icases Hs' with ⟨Hs0, Hs1⟩
  icases Hw with ⟨Hw0, Hw1⟩
  isplitl [Hs0 H4 Hw0]
  · isplitl [Hs0]; · iexact Hs0
    isplitl [H4]; · iexact H4
    iexact Hw0
  isplitl [Hs1]; · iexact Hs1
  isplitl [H5]; · iexact H5
  iexact Hw1

/-- And back. -/
theorem free_out (c : Dev nD) (W : WBuf F c) :
    (iprop(Free c W 0#32 (by decide) ∗ Free c W 1#32 (by decide)) : sProp 𝕄) ⊢
    iprop((∃ f : Buf (Elt F) ((c : Thread nD τ).loc cc0_scratch0), ((c : Thread nD τ).loc cc0_scratch0) ↦{fullShare} f)
      ∗ (semVal ((c : Thread nD τ), SemLoc.dma 4) 0 ∗ semVal ((c : Thread nD τ), SemLoc.dma 5) 0) ∗ wLoc c ↦{fullShare} W) := by
  unfold Free
  rw [sem0, sem1, show shr 0#32 = fullShare.left from rfl, show shr 1#32 = fullShare.right from rfl]
  iintro ⟨⟨Hs0, H4, Hw0⟩, ⟨Hs1, H5, Hw1⟩⟩
  isplitl [Hs0 Hs1]
  · iapply (slots_out c)
    isplitl [Hs0]; · iexact Hs0
    iexact Hs1
  isplitl [H4 H5]
  · isplitl [H4]; · iexact H4
    iexact H5
  icombine Hw0 Hw1 as Hw
  iexact Hw

end Cert.KernelIdeal.Hand
-- ==== Proof.GateBody.lean ====
module
public import proofs.«01_k».proof.Proof.GateState
public import Idealize.ShloMosaic.Lib.Claim

/-!
The frame of `expert_gate`: under the plan's properties every grid point's body runs, and so does the whole call,
leaving its arguments as they were and in each block of the result what `outv` says.
-/

@[expose] public noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.GatePlan (PlanOK wd)

variable {F : FTy → Type} [FloatOps F]
local notation "𝕄" => MT nD τ sig Unit (Elt F) ℕ (Pipeline.UD sig nD τ) ℕ

/-! ## A block's computation, by its number of valid rows -/

theorem conds (n : BitVec 32) (hn : n.toNat ≤ 512) :
    (k0_cond4 n = 1#1 ↔ 0 < n.toNat ∧ n.toNat ≤ 128) ∧ (k0_cond5 n = 1#1 ↔ 128 < n.toNat ∧ n.toNat ≤ 256)
    ∧ (k0_cond6 n = 1#1 ↔ 256 < n.toNat ∧ n.toNat ≤ 384) ∧ (k0_cond7 n = 1#1 ↔ 384 < n.toNat) ∧ (k0_cond8 n = 1#1 ↔ n.toNat = 0) := by
  obtain ⟨k, hk, rfl⟩ : ∃ k : ℕ, k < 513 ∧ n = BitVec.ofNat 32 k := ⟨n.toNat, by omega, by simp⟩
  have key : ∀ k : Fin 513, (k0_cond4 (BitVec.ofNat 32 k.val) = 1#1 ↔ 0 < k.val ∧ k.val ≤ 128) ∧ (k0_cond5 (BitVec.ofNat 32 k.val) = 1#1 ↔ 128 < k.val ∧ k.val ≤ 256)
    ∧ (k0_cond6 (BitVec.ofNat 32 k.val) = 1#1 ↔ 256 < k.val ∧ k.val ≤ 384) ∧ (k0_cond7 (BitVec.ofNat 32 k.val) = 1#1 ↔ 384 < k.val) ∧ (k0_cond8 (BitVec.ofNat 32 k.val) = 1#1 ↔ k.val = 0) := by
    decide +kernel
  have e : (BitVec.ofNat 32 k).toNat = k := by rw [BitVec.toNat_ofNat]; omega
  rw [e]; exact key ⟨k, hk⟩

/-- What a block of the result holds after its point: `n` valid rows, rounded up to a multiple of 128, computed from the
    block `X` of packed rows and the expert's weights `D`; zeros after them. -/
def outv (n : BitVec 32) (X : Vec F S8192x128 .i32) (D : Vec F S4096x1024 .f32) : Vec F S512x1024 .bf16 :=
  if n.toNat = 0 then out0 else if n.toNat ≤ 128 then out128 X D else if n.toNat ≤ 256 then out256 X D else if n.toNat ≤ 384 then out384 X D else out512 X D

theorem chk6 (s n : BitVec 32) (hs : s.toNat < 2) : k0_chk6 s n :=
  ⟨fun _ => slot_inb hs, fun _ => slot_inb hs, fun _ => slot_inb hs, fun _ => slot_inb hs⟩

/-- The computation of a block, for every number of valid rows. -/
theorem run_any (c : Dev nD) (i : grid0.Coords) (s n : BitVec 32) (hs : s.toNat < 2) (hn : n.toNat ≤ 512)
    (arg7 : Memref sig .tc .vmem S8192x128 .i32) (harg7 : arg7.IsWhole) (arg9 : Memref sig .tc .vmem S512x1024 .bf16) (harg9 : arg9.IsWhole)
    (X : Vec F S8192x128 .i32) (D : Vec F S4096x1024 .f32) (K : PUnit → sProp 𝕄) :
    iprop(owns (c : Thread nD τ) arg7 fullShare X ∗ owns (c : Thread nD τ) (slotM (offW s) (slot_inb hs)) fullShare D ∗ (∃ d, owns (c : Thread nD τ) arg9 fullShare d)
      ∗ (iprop(owns (c : Thread nD τ) arg7 fullShare X ∗ owns (c : Thread nD τ) (slotM (offW s) (slot_inb hs)) fullShare D ∗ owns (c : Thread nD τ) arg9 fullShare (outv n X D)) -∗ K ⟨⟩))
      ⊢ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 (Memref.whole cc0_scratch0) (Memref.isWhole_whole _) cc0_scratch1 s n (chk6 s n hs)) K := by
  obtain ⟨c4, c5, c6, c7, c8⟩ := conds n hn
  unfold outv
  by_cases h8 : n.toNat = 0
  · rw [if_pos h8]
    refine BIBase.Entails.trans ?_ (run0 c i s n (chk6 s n hs) (by rw [c4]; omega) (by rw [c5]; omega) (by rw [c6]; omega) (by rw [c7]; omega) (c8.mpr h8) arg7 harg7 arg9 harg9 X K)
    iintro ⟨HX, HD, HO, Hk⟩
    isplitl [HX]; · iexact HX
    isplitl [HO]; · iexact HO
    iintro ⟨HX, HO⟩
    iapply Hk
    isplitl [HX]; · iexact HX
    isplitl [HD]; · iexact HD
    iexact HO
  rw [if_neg h8]
  by_cases h4 : n.toNat ≤ 128
  · rw [if_pos h4]
    exact run128 c i s n (chk6 s n hs) (c4.mpr ⟨by omega, h4⟩) (by rw [c5]; omega) (by rw [c6]; omega) (by rw [c7]; omega) (by rw [c8]; omega) arg7 harg7 arg9 harg9 X D K
  rw [if_neg h4]
  by_cases h5 : n.toNat ≤ 256
  · rw [if_pos h5]
    exact run256 c i s n (chk6 s n hs) (by rw [c4]; omega) (c5.mpr ⟨by omega, h5⟩) (by rw [c6]; omega) (by rw [c7]; omega) (by rw [c8]; omega) arg7 harg7 arg9 harg9 X D K
  rw [if_neg h5]
  by_cases h6 : n.toNat ≤ 384
  · rw [if_pos h6]
    exact run384 c i s n (chk6 s n hs) (by rw [c4]; omega) (by rw [c5]; omega) (c6.mpr ⟨by omega, h6⟩) (by rw [c7]; omega) (by rw [c8]; omega) arg7 harg7 arg9 harg9 X D K
  rw [if_neg h6]
  exact run512 c i s n (chk6 s n hs) (by rw [c4]; omega) (by rw [c5]; omega) (by rw [c6]; omega) (c7.mpr (by omega)) (by rw [c8]; omega) arg7 harg7 arg9 harg9 X D K

/-! ## The tables' words as the body reads them -/

theorem first_val (h : 0 < S1.numel) (a : Fin 1) : ((Shape.Idx.first h : S1.Idx) a).val = 0 := by
  obtain rfl : a = 0 := Subsingleton.elim _ _
  have := ((Shape.Idx.first h : S1.Idx) 0).isLt
  have h1 : S1.size 0 = 1 := rfl
  omega
theorem idx96_ext {x y : S96.Idx} (h : (x 0).val = (y 0).val) : x = y := by
  funext a
  obtain rfl : a = 0 := Subsingleton.elim _ _
  exact Fin.ext h

theorem rd0 (c : Dev nD) (T : Buf (Elt F) ((Memref.whole main_arg0).view.loc (c : Thread nD τ))) (off : Fin 1 → ℕ) (h) (t : Fin 96) (ht : off 0 = t.val) :
    rd c (Memref.whole main_arg0) T off h = wd T t := by
  refine congrArg T (idx96_ext ?_)
  show off 0 + 1 * ((Shape.Idx.first _ : S1.Idx) 0).val = t.val
  rw [ht, first_val]; rfl
theorem rd1 (c : Dev nD) (T : Buf (Elt F) ((Memref.whole main_arg1).view.loc (c : Thread nD τ))) (off : Fin 1 → ℕ) (h) (t : Fin 96) (ht : off 0 = t.val) :
    rd c (Memref.whole main_arg1) T off h = wd T t := by
  refine congrArg T (idx96_ext ?_)
  show off 0 + 1 * ((Shape.Idx.first _ : S1.Idx) 0).val = t.val
  rw [ht, first_val]; rfl
theorem rd2 (c : Dev nD) (T : Buf (Elt F) ((Memref.whole main_arg2).view.loc (c : Thread nD τ))) (off : Fin 1 → ℕ) (h) (t : Fin 96) (ht : off 0 = t.val) :
    rd c (Memref.whole main_arg2) T off h = wd T t := by
  refine congrArg T (idx96_ext ?_)
  show off 0 + 1 * ((Shape.Idx.first _ : S1.Idx) 0).val = t.val
  rw [ht, first_val]; rfl
theorem rd3 (c : Dev nD) (T : Buf (Elt F) ((Memref.whole main_arg3).view.loc (c : Thread nD τ))) (off : Fin 1 → ℕ) (h) (t : Fin 96) (ht : off 0 = t.val) :
    rd c (Memref.whole main_arg3) T off h = wd T t := by
  refine congrArg T (idx96_ext ?_)
  show off 0 + 1 * ((Shape.Idx.first _ : S1.Idx) 0).val = t.val
  rw [ht, first_val]; rfl
theorem rd5 (c : Dev nD) (T : Buf (Elt F) ((Memref.whole main_arg5).view.loc (c : Thread nD τ))) (off : Fin 1 → ℕ) (h) (t : Fin 96) (ht : off 0 = t.val) :
    rd c (Memref.whole main_arg5) T off h = wd T t := by
  refine congrArg T (idx96_ext ?_)
  show off 0 + 1 * ((Shape.Idx.first _ : S1.Idx) 0).val = t.val
  rw [ht, first_val]; rfl

theorem coord0 (i : grid0.Coords) : (BitVec.ofNat 32 (i 0).val).toNat = (i 0).val := by
  have h : (i 0).val < 96 := (i 0).isLt
  rw [BitVec.toNat_ofNat]; omega
theorem off1_0 (i : grid0.Coords) : k0_off1 i 0 = (i 0).val := coord0 i
theorem off3_0 (i : grid0.Coords) : k0_off3 i 0 = (i 0).val := coord0 i
theorem off7_0 (i : grid0.Coords) : k0_off7 i 0 = (i 0).val := coord0 i
theorem off8_0 (i : grid0.Coords) : k0_off8 i 0 = (i 0).val := coord0 i
theorem off12_0 (i : grid0.Coords) : k0_off12 i 0 = (i 0).val := coord0 i
theorem coords_val : ∀ t : Fin grid0.N, (grid0.coords t 0).val = t.val := by decide +kernel

end Cert.KernelIdeal.Hand
-- ==== Proof.GateFrame.lean ====
module
public import proofs.«01_k».proof.Proof.GateBody

/-!
The launch of `expert_gate`: its pipeline's proof data, the body obligation and the run of the whole call, for any
memory whose tables are a plan.
-/

@[expose] public noncomputable section
set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.GatePlan (PlanOK wd)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The region's entry -/

/-- A buffer as launched: no host operation precedes the call. -/
abbrev V (c : Dev nD) (b : Ref sig .tc) : Buf (Elt F) ((c : Thread nD τ).loc b) := m ((c : Thread nD τ).loc b)
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main main_chain

/-- The tables' contents. -/
def tbl : pre0.Contents (Elt F) := fun j => V m (0 : Dev nD) (pre0.ref j)
theorem V_pre (c : Dev nD) (j : Fin 6) : V m c (pre0.ref j) = tbl m j := by
  obtain rfl : c = 0 := Subsingleton.elim _ _; rfl

/-- The tables in memory are a plan. -/
abbrev Plan (c : Dev nD) : Prop :=
  PlanOK (wd (V m c main_arg0)) (wd (V m c main_arg1)) (wd (V m c main_arg2)) (wd (V m c main_arg3)) (wd (V m c main_arg5)) (V m c main_arg4 (Shape.Idx.ofFin (0 : Fin 1)))

/-- The block of packed rows a point reads: its own, or the last used one's. -/
theorem transform0 (i : grid0.Coords) : cc0_transform_0 inb_S1_S1_0 numel1_S1 (tbl m) i
    = ![(Scalar.minsi (BitVec.ofNat 32 (i 0).val) (Scalar.subi (V m (0 : Dev nD) main_arg4 (Shape.Idx.ofFin (0 : Fin 1))) 1#32)).toNat, 0] := by
  have h : (tbl m).at 4 (Rect.unit (s := S1) ![0] S1.size inb_S1_S1_0) numel1_S1 = V m (0 : Dev nD) main_arg4 (Shape.Idx.ofFin (0 : Fin 1)) := by
    show V m (0 : Dev nD) main_arg4 _ = _
    refine congrArg _ ?_
    funext a
    obtain rfl : a = (0 : Fin 1) := Subsingleton.elim (α := Fin 1) _ _
    apply Fin.ext
    have h1 : S1.size 0 = 1 := rfl
    exact (Nat.lt_one_iff.mp (lt_of_lt_of_eq (Fin.isLt _) h1)).trans rfl
  unfold cc0_transform_0
  rw [h]; rfl

theorem min_lt {a n : BitVec 32} (ha : a.toNat < 96) (h1 : 1 ≤ n.toNat) (h2 : n.toNat ≤ 96) :
    (Scalar.minsi a (Scalar.subi n 1#32)).toNat = min a.toNat (n.toNat - 1) := by
  have hs : (Scalar.subi n 1#32).toNat = n.toNat - 1 := by
    show (n - 1#32).toNat = _
    rw [BitVec.toNat_sub]; simp; omega
  have hk : a.slt (Scalar.subi n 1#32) = true ↔ a.toNat < n.toNat - 1 := by
    have := StableHlo.Predicate.slt_bool_iff_toNat (a := a) (b := Scalar.subi n 1#32) (by omega) (by rw [hs]; omega)
    rw [hs] at this
    rw [← this]
    cases a.slt (Scalar.subi n 1#32) <;> decide
  show (if a.slt (Scalar.subi n 1#32) then a else Scalar.subi n 1#32).toNat = _
  by_cases h : a.toNat < n.toNat - 1
  · rw [if_pos (hk.mpr h)]; omega
  · rw [if_neg (fun h' => h (hk.mp h')), hs]; omega

variable (P : ∀ c : Dev nD, Plan m c)
include P

/-- Every block of packed rows lies inside the array. -/
theorem ok_of_plan : ok0 (F := F) (tbl m) := by
  intro i
  refine ⟨fun a => ?_, Or.inl rfl⟩
  rw [transform0]
  have hi : (i 0).val < 96 := (i 0).isLt
  have h := min_lt (a := BitVec.ofNat 32 (i 0).val) (by rw [coord0]; exact hi) (P 0).nu1 (P 0).nu96
  have : (Scalar.minsi (BitVec.ofNat 32 (i 0).val) (Scalar.subi (V m (0 : Dev nD) main_arg4 (Shape.Idx.ofFin (0 : Fin 1))) 1#32)).toNat < 96 := by
    rw [h, coord0]; omega
  have key : ∀ x : ℕ, x < 96 → ∀ a : Fin 2, ((![x, 0] : Fin 2 → ℕ) a + 1) * S8192x128.size a ≤ S786432x128.size a := by
    intro x hx a
    obtain rfl | rfl : a = 0 ∨ a = 1 := by omega
    · show (x + 1) * 8192 ≤ 786432
      omega
    · show (0 + 1) * 128 ≤ 128
      omega
  exact key _ this a

abbrev adm : (pcfg0 (F := F)).Adm := ⟨tbl m, ok_of_plan m P⟩
abbrev cfgM : Pipeline.Cfg sig Λ₀ := cfg0 (adm m P)

omit P in
theorem PhiT0_eq (c : Dev nD) : (Pipeline.ΦT pre0 (tbl m) c : sProp 𝕄) = iprop(tbPt c (Memref.whole main_arg0) (tbl m 0) ∗ tbPt c (Memref.whole main_arg1) (tbl m 1)
    ∗ tbPt c (Memref.whole main_arg2) (tbl m 2) ∗ tbPt c (Memref.whole main_arg3) (tbl m 3) ∗ tbPt c (Memref.whole main_arg4) (tbl m 4) ∗ tbPt c (Memref.whole main_arg5) (tbl m 5)) := by
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

/-! ## The call's own semaphores and the weights -/

omit P in
theorem ownSemFacts0 : Pipeline.OwnSemFacts spec0 (fun j : Fin 2 => (![SemLoc.dma 4, SemLoc.dma 5] : Fin 2 → SemLoc sig) j) := by decide
abbrev osem0 : Fin 2 → SemLoc sig := fun j => (![SemLoc.dma 4, SemLoc.dma 5] : Fin 2 → SemLoc sig) j
omit P in
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
def H0 : Finset (Ref sig .tc) := {main_arg7}
omit P in
theorem H0_sub : H0 ⊆ Pipeline.restRefsP sig pre0 spec0 := by decide
omit P in
theorem hbmPts0_eq (c : Dev nD) :
    (bigSep H0 (fun b => ((c : Thread nD τ).loc b) ↦{fullShare} V m c b) : sProp 𝕄) = iprop(wLoc c ↦{fullShare} V m c main_arg7) := by
  rw [BI.bigSep_eq_bigSepL_of_eq [main_arg7] (by decide) (by decide)]; rfl
omit P in
theorem PhiD0_eq (c : Dev nD) : (Pipeline.ΦD osem0 spec0 H0 (V m) c : sProp 𝕄)
    = iprop((∃ f : Buf (Elt F) ((c : Thread nD τ).loc cc0_scratch0), ((c : Thread nD τ).loc cc0_scratch0) ↦{fullShare} f) ∗ (∃ r, prngReg c r)
      ∗ (semVal ((c : Thread nD τ), SemLoc.dma 4) 0 ∗ semVal ((c : Thread nD τ), SemLoc.dma 5) 0) ∗ wLoc c ↦{fullShare} V m c main_arg7) := by
  rw [Pipeline.ΦD_eq, scopedRest0_eq, ownSems00_eq, hbmPts0_eq]

/-! ## The proof data -/

/-- Window `w`'s block at point `t`. -/
def iblk (c : Dev nD) (w : Fin (cfgM m P).W) (t : Fin (cfgM m P).N) : (((cfgM m P).win w).xblock ((cfgM m P).grid.coords t)).Idx → Elt F ((cfgM m P).win w).elt :=
  (((cfgM m P).win w).blk t).view.read (Elt F) (V m c (Pipeline.arrRef spec0 w))

/-- A point of the grid as a block's number. -/
abbrev pt (t : Fin (cfgM m P).N) : Fin 96 := ⟨t.val, lt_of_lt_of_eq t.isLt N_0⟩

/-- What the result's buffer holds after point `t`. -/
def outAt (c : Dev nD) (t : Fin (cfgM m P).N) : Vec F S512x1024 .bf16 :=
  outv (wd (V m c main_arg5) (pt m P t)) (iblk m P c 0 t) (wdat c (V m c main_arg7) (wd (V m c main_arg0) (pt m P t)) ((P c).b _))

/-- The invariant before point `k`: the slots' state, the tables and the generator register. -/
def Phi (c : Dev nD) (k : ℕ) : sProp 𝕄 :=
  iprop(St (P c) c (V m c main_arg7) k ∗ Pipeline.ΦT pre0 (tbl m) c ∗ (∃ r, prngReg c r))

def dats (_ : Fin 1) (c : Dev nD) : Dat τ (Elt F) Unit ℕ (Pipeline.UD sig nD τ) ℕ (cfgM m P) c where
  A w := V m c (Pipeline.arrRef spec0 w)
  after w t := match w with
    | ⟨0, _⟩ => iblk m P c 0 t
    | ⟨1, _⟩ => outAt m P c t
  Φ k := Phi m P c k.val
  q _ := fullShare
  owed _ := 0

theorem A_eq (c : Dev nD) (w : Fin (cfgM m P).W) : (dats m P 0 c).A w = V m c (Pipeline.arrRef spec0 w) := by
  dsimp only [dats]
theorem after0_0 (c : Dev nD) (t : Fin (cfgM m P).N) : (dats m P 0 c).after 0 t = iblk m P c 0 t := rfl
theorem after0_1 (c : Dev nD) (t : Fin (cfgM m P).N) : (dats m P 0 c).after 1 t = outAt m P c t := rfl
theorem before0_0 (c : Dev nD) (t : Fin (cfgM m P).N) (d) : (dats m P 0 c).before 0 t d = iblk m P c 0 t :=
  ((dats m P 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-! ## The body obligation -/

abbrev st0_0 (t : Fin (cfgM m P).N) := ((cfgM m P).win 0).stage ((cfgM m P).slots t 0)
abbrev st0_1 (t : Fin (cfgM m P).N) := ((cfgM m P).win 1).stage ((cfgM m P).slots t 1)
abbrev bodyAt0 (t : Fin (cfgM m P).N) : Prog (TpuEff nD τ sig (Elt F) Λ₀ .tc) PUnit :=
  cc0_expert_gate (grid0.coords t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _)
    (spec0_0.stage ((cfgM m P).slots t 0)) (hstage0_0 (((cfgM m P).slots t 0).cast nbuf0_0)) (Memref.whole main_arg7) (Memref.isWhole_whole _)
    (spec0_1.stage ((cfgM m P).slots t 1)) (hstage0_1 (((cfgM m P).slots t 1).cast nbuf0_1)) (Memref.whole cc0_scratch0) (Memref.isWhole_whole _) cc0_scratch1

def bodyPre (c : Dev nD) (t : Fin (cfgM m P).N) : sProp 𝕄 :=
  iprop((dats m P 0 c).Φ t.castSucc ∗ (dats m P 0 c).owesAt () t.castSucc
    ∗ (∃ d, owns (c : Thread nD τ) (st0_0 m P t) fullShare ((dats m P 0 c).before 0 t d))
    ∗ (∃ d, owns (c : Thread nD τ) (st0_1 m P t) fullShare ((dats m P 0 c).before 1 t d)))
def bodyPost (c : Dev nD) (t : Fin (cfgM m P).N) : sProp 𝕄 :=
  iprop((dats m P 0 c).Φ t.succ ∗ (dats m P 0 c).owesAt () t.succ
    ∗ owns (c : Thread nD τ) (st0_0 m P t) fullShare ((dats m P 0 c).after 0 t)
    ∗ owns (c : Thread nD τ) (st0_1 m P t) fullShare ((dats m P 0 c).after 1 t))

theorem sound_body (c : Dev nD) (t : Fin (cfgM m P).N) :
    bodyPre m P c t ⊢ wp frame (wpE (defs₀ (F := F)) Variants.none c none) Set.univ (bodyAt0 m P t) (fun _ => bodyPost m P c t) := by
  obtain rfl : c = 0 := Subsingleton.elim _ _
  have hi : ((grid0.coords t) 0).val = (pt m P t).val := coords_val t
  unfold bodyPre bodyPost bodyAt0
  simp only [before0_0]
  rw [show (dats m P 0 0).Φ t.succ = Phi m P 0 (t.val + 1) from rfl, show (dats m P 0 0).Φ t.castSucc = Phi m P 0 (pt m P t).val from rfl, after0_0, after0_1]
  unfold Dat.owesAt Pipeline.owesWithin
  rw [show (dats m P 0 0).owed t.castSucc = 0 from rfl, show (dats m P 0 0).owed t.succ = 0 from rfl]
  unfold Phi
  rw [PhiT0_eq, show St (P 0) 0 (V m 0 main_arg7) (t.val + 1) = _ from St_succ (P 0) 0 (V m 0 main_arg7) (pt m P t)]
  unfold outAt
  iintro ⟨⟨HS, ⟨HT0, HT1, HT2, HT3, HT4, HT5⟩, Hg⟩, ⟨%O, -, HO⟩, ⟨%d0, H0⟩, ⟨%d1, H1⟩⟩
  ihave HS := (St_S0 (P 0) 0 (V m 0 main_arg7) (grid0.coords t) (pt m P t) hi) $$ HS
  iapply (wp_body (0 : Dev nD) _ (V m 0 main_arg7) (grid0.coords t) (tbl m 0) (tbl m 1) (tbl m 2) (tbl m 3) (tbl m 5)
    (wd (V m 0 main_arg0) (pt m P t)) (wd (V m 0 main_arg1) (pt m P t)) (wd (V m 0 main_arg2) (pt m P t)) (wd (V m 0 main_arg3) (pt m P t)) (wd (V m 0 main_arg5) (pt m P t))
    ((P 0).b _) ((P 0).fi _) ((P 0).sl _) (other_lt ((P 0).sl _)) ((P 0).nx _)
    (fun h => by
      have h0 : pt m P t = 0 := Fin.ext (hi.symm.trans h)
      rw [h0]; exact ⟨(P 0).sl0, (P 0).fi0⟩)
    (fun h => by
      have h0 : pt m P t = 0 := Fin.ext (hi.symm.trans h)
      rw [h0]; exact rd0 0 _ _ _ 0 rfl)
    (rd0 0 _ _ _ _ ((off8_0 _).trans hi)) (rd1 0 _ _ _ _ ((off1_0 _).trans hi)) (rd1 0 _ _ _ _ ((off7_0 _).trans hi)) (rd2 0 _ _ _ _ ((off1_0 _).trans hi))
    (rd3 0 _ _ _ _ ((off1_0 _).trans hi)) (rd3 0 _ _ _ _ ((off3_0 _).trans hi)) (rd5 0 _ _ _ _ ((off12_0 _).trans hi))
    (chk6 _ _ ((P 0).sl _)) _ _ _ _ O) $$ [HT0 HT1 HT2 HT3 HT5 HS HO]
  · isplitl [HT0]; · iexact HT0
    isplitl [HT1]; · iexact HT1
    isplitl [HT2]; · iexact HT2
    isplitl [HT3]; · iexact HT3
    isplitl [HT5]; · iexact HT5
    isplitl [HS]; · iexact HS
    iexact HO
  iintro ⟨HT0, HT1, HT2, HT3, HT5, HC, HN, ⟨%O', HO⟩⟩
  iapply (run_any (0 : Dev nD) (grid0.coords t) _ _ ((P 0).sl (pt m P t)) ((P 0).nv (pt m P t)) _ _ _ _ (iblk m P 0 0 t)
    (wdat (0 : Dev nD) (V m 0 main_arg7) (wd (V m 0 main_arg0) (pt m P t)) ((P 0).b _)) _)
  unfold Cur
  icases HC with ⟨HD, Hq, Hw⟩
  isplitl [H0]; · iexact H0
  isplitl [HD]; · iexact HD
  isplitl [H1]; · iexists _; iexact H1
  iintro ⟨H0, HD, H1⟩
  isplitl [HD Hq Hw HN HT0 HT1 HT2 HT3 HT4 HT5 Hg]
  · isplitl [HD Hq Hw HN]
    · isplitl [HD Hq Hw]
      · isplitl [HD]; · iexact HD
        isplitl [Hq]; · iexact Hq
        iexact Hw
      iexact HN
    isplitl [HT0 HT1 HT2 HT3 HT4 HT5]
    · isplitl [HT0]; · iexact HT0
      isplitl [HT1]; · iexact HT1
      isplitl [HT2]; · iexact HT2
      isplitl [HT3]; · iexact HT3
      isplitl [HT4]; · iexact HT4
      iexact HT5
    iexact Hg
  isplitl [HO]
  · iexists O'; isplitr; · ipureintro; exact fun _ _ => Or.inl trivial
    iexact HO
  isplitl [H0]; · iexact H0
  iexact H1

theorem defs₀_row (t : Fin (cfgM m P).N) :
    defs₀ (F := F) .tc (cfgM m P).body ((cfgM m P).bodyArgs t ((cfgM m P).slots t)) = bodyAt0 m P t := by
  unfold defs₀; rw [Defs.onTc_tc]

omit P in
theorem idle_of (pf : pre0.Contents (Elt F)) (i : grid0.Coords) (x : BitVec 32) (hx : pf.atD 5 (k0_off12 i) = x) :
    idle0 pf 1 i = (!(k0_cond4 x == 1#1) && !(k0_cond5 x == 1#1) && !(k0_cond6 x == 1#1) && !(k0_cond7 x == 1#1) && !(k0_cond8 x == 1#1)) := by
  subst hx; rfl
/-- The result's block is stored at every point: exactly one of the five cases runs. -/
theorem never_idle (t : Fin (cfgM m P).N) : (cfgM m P).idle 1 ((cfgM m P).grid.coords t) = false := by
  have hc : (k0_off12 (grid0.coords t)) 0 = t.val := (off12_0 (grid0.coords t)).trans (coords_val t)
  have hl : t.val < 96 := lt_of_lt_of_eq t.isLt N_0
  have hin : ∀ a : Fin 1, (k0_off12 (grid0.coords t)) a + 1 ≤ S96.size a := by
    intro a
    obtain rfl : a = 0 := Subsingleton.elim _ _
    rw [hc]; exact hl
  have hw : (tbl m).atD 5 (k0_off12 (grid0.coords t)) = wd (V m (0 : Dev nD) main_arg5) (pt m P t) :=
    (dif_pos hin).trans (congrArg (V m (0 : Dev nD) main_arg5) (idx96_ext hc))
  refine (idle_of (tbl m) (grid0.coords t) _ hw).trans ?_
  obtain ⟨c4, c5, c6, c7, c8⟩ := conds _ ((P 0).nv (pt m P t))
  have : (k0_cond4 (wd (V m (0 : Dev nD) main_arg5) (pt m P t)) = 1#1) ∨ (k0_cond5 (wd (V m (0 : Dev nD) main_arg5) (pt m P t)) = 1#1)
      ∨ (k0_cond6 (wd (V m (0 : Dev nD) main_arg5) (pt m P t)) = 1#1) ∨ (k0_cond7 (wd (V m (0 : Dev nD) main_arg5) (pt m P t)) = 1#1)
      ∨ (k0_cond8 (wd (V m (0 : Dev nD) main_arg5) (pt m P t)) = 1#1) := by
    rw [c4, c5, c6, c7, c8]; omega
  rcases this with h | h | h | h | h <;> simp [h]

theorem body_obligation (c : Dev nD) : BodyObligation (dats (F := F) m P 0 c) (defs₀ (F := F)) Variants.none () Set.univ := fun t => by
  rw [bigSep_W0, bigSep_W0, defs₀_row]
  have hn := never_idle m P t
  exact triple_restated (sound_body m P c t) rfl .rfl fun _ => by
    show _ ⊢ iprop(_ ∗ _ ∗ _ ∗ (match (false : Bool) with
      | true => iprop(∃ X, owns (c : Thread nD τ) (st0_1 m P t) fullShare X)
      | false => match (cfgM m P).idle 1 ((cfgM m P).grid.coords t) with
        | true => _
        | false => _))
    rw [hn]; exact .rfl

/-! ## The run -/

set_option backward.isDefEq.respectTransparency.types false in
set_option maxHeartbeats 800000 in
theorem run_main : θ_run defs (onTc (τ := τ) (main (F := F))) (s₀ m ρ)
    (fun r => Pipeline.FramePost (Pipeline.pin pcfgs (fun _ => adm m P)) (dats m P) 0 (V m) r ∧ r.2.sem = fun _ => 0) :=
  Pipeline.θ_run_frameP_dma (Q' := _) pcfgs (fun _ => adm m P) (dats m P) (0 : Fin 1) launch0 osem0 defs₀ Variants.none ownSemFacts0 H0 H0_sub m ρ main
    (hbody := fun c => (body_obligation m P c).loose) (hshare := fun c => (dats m P 0 c).share_full fun _ => rfl)
    (howed := fun _ _ => rfl) (V := V m) (hmain := hmain m Variants.none) (hA := A_eq m P) (hpf := V_pre m)
    (hin := fun c => by
      change _ ⊢ Phi m P c 0
      rw [PhiD0_eq]; unfold Phi St; rw [if_pos rfl]
      iintro ⟨⟨HS, Hg, Hq, Hw⟩, HT⟩
      isplitl [HS Hq Hw]
      · iapply (free_in c _)
        isplitl [HS]; · iexact HS
        isplitl [Hq]; · iexact Hq
        iexact Hw
      isplitl [HT]; · iexact HT
      iexact Hg)
    (hout := fun c => by
      change Phi m P c 96 ⊢ _
      rw [PhiD0_eq]; unfold Phi
      iintro ⟨HS, HT, Hg⟩
      ihave HS := (St_end (P c) c (V m c main_arg7)) $$ HS
      ihave HS := (free_out c _) $$ HS
      icases HS with ⟨HS, Hq, Hw⟩
      isplitl [HS]; · iexact HS
      isplitl [Hg]; · iexact Hg
      isplitl [Hq]; · iexact Hq
      iexact Hw)

end Cert.KernelIdeal.Hand
-- ==== Proof.GateClaim.lean ====
module
public import proofs.«01_k».proof.Defs
public import proofs.«01_k».proof.Proof.GateFrame
public import proofs.«01_k».proof.Proof.Gen.Pre_plan_ok
public import proofs.«01_k».proof.Proof.Gen.Kernel

/-!
The frames of `expert_gate`: under a plan the call runs to its end, leaves its arguments as they were and its
semaphores at zero. The kernel's text and its ideal's are the same, so the run is written once over any float.
-/

@[expose] public noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

/-- Under a plan the call ends with its arguments unchanged and every semaphore at zero. -/
theorem frame_of_plan (m : (ℓ : Loc nD τ sig) → Buf (Elt F) ℓ) (ρ : Dev nD → PrngReg) (P : ∀ c : Dev nD, Plan m c) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    ⟨(h.1 c).2 main_arg0 (Pipeline.mem_restRefs_of main_arg0 (by decide) (show ∀ w : Fin 2, (spec0 w).arr.view.ref ≠ main_arg0 from by decide)),
     (h.1 c).2 main_arg1 (Pipeline.mem_restRefs_of main_arg1 (by decide) (show ∀ w : Fin 2, (spec0 w).arr.view.ref ≠ main_arg1 from by decide)),
     (h.1 c).2 main_arg2 (Pipeline.mem_restRefs_of main_arg2 (by decide) (show ∀ w : Fin 2, (spec0 w).arr.view.ref ≠ main_arg2 from by decide)),
     (h.1 c).2 main_arg3 (Pipeline.mem_restRefs_of main_arg3 (by decide) (show ∀ w : Fin 2, (spec0 w).arr.view.ref ≠ main_arg3 from by decide)),
     (h.1 c).2 main_arg4 (Pipeline.mem_restRefs_of main_arg4 (by decide) (show ∀ w : Fin 2, (spec0 w).arr.view.ref ≠ main_arg4 from by decide)),
     (h.1 c).2 main_arg5 (Pipeline.mem_restRefs_of main_arg5 (by decide) (show ∀ w : Fin 2, (spec0 w).arr.view.ref ≠ main_arg5 from by decide)),
     ((h.1 c).1 0).trans (((dats m P 0 c).arrAt_in 0 rfl _).trans (A_eq m P c 0)),
     (h.1 c).2 main_arg7 (Pipeline.mem_restRefs_of main_arg7 (by decide) (show ∀ w : Fin 2, (spec0 w).arr.view.ref ≠ main_arg7 from by decide))⟩, h.2⟩) (run_main m ρ P)

end Cert.KernelIdeal.Hand

namespace Cert.Proof

open Idealize.ShloMosaic Idealize.ShloMosaic.Tactic Idealize.SL.Sem
open Cert.KernelIdeal.Hand

/-- The precondition makes the tables a plan. -/
theorem plan_ideal (m : (ℓ : Loc Cert.KernelIdeal.nD Cert.KernelIdeal.τ Cert.KernelIdeal.sig) → Buf (Elt Ideal) ℓ)
    (h : Cert.Pre_KernelIdeal m) (c : Dev Cert.KernelIdeal.nD) : Plan m c :=
  Cert.GatePlan.plan_of _ _ _ _ _ _ _ _ (h c).1 (h c).2.1 (h c).2.2.1 (h c).2.2.2.1 (h c).2.2.2.2

theorem plan_bits (m : (ℓ : Loc Cert.Kernel.nD Cert.Kernel.τ Cert.Kernel.sig) → Buf (Elt Bits) ℓ)
    (h : Cert.Pre_Kernel m) (c : Dev Cert.Kernel.nD) : Plan (F := Bits) m c :=
  Cert.GatePlan.plan_of _ _ _ _ _ _ _ _ (h c).1 (h c).2.1 (h c).2.2.1 (h c).2.2.2.1 (h c).2.2.2.2

/-- The frame of the ideal kernel. -/
theorem frame_KernelIdeal : Cert.quiescent_KernelIdeal := fun m ρ h =>
  frame_of_plan m ρ (plan_ideal m h)

/-- The kernel and its ideal have the same runs. -/
theorem runs_same (m : (ℓ : Loc Cert.Kernel.nD Cert.Kernel.τ Cert.Kernel.sig) → Buf (Elt Bits) ℓ) (ρ : Dev Cert.Kernel.nD → PrngReg)
    (Q : PUnit × MemSt Cert.Kernel.nD Cert.Kernel.τ Cert.Kernel.sig (Elt Bits) → Prop) :
    θ_run (Cert.KernelIdeal.defs (F := Bits)) (onTc (τ := Cert.KernelIdeal.τ) (Cert.KernelIdeal.main (F := Bits))) ⟨m, fun _ => 0, ρ⟩ Q
      = θ_run (Cert.Kernel.defs (F := Bits)) (onTc (τ := Cert.Kernel.τ) (Cert.Kernel.main (F := Bits))) ⟨m, fun _ => 0, ρ⟩ Q := by
  sl_kernel_rfl

/-- The frame of the kernel as it runs on the machine's floats. -/
theorem frame_Kernel : Cert.quiescent_Kernel := fun m ρ h =>
  Eq.mp (runs_same m ρ _) (frame_of_plan (F := Bits) m ρ (plan_bits m h))

end Cert.Proof
-- ==== Proof.Logistic.lean ====
module
public import Idealize.ShloMosaic.Lib.Pointwise

/-! The logistic function on the extended reals, written as both sides of the claims compute it. -/

@[expose] public noncomputable section

namespace Cert.Proof

open Idealize.ShloMosaic

/-- One over one plus the exponential of the negated argument. -/
def sg (y : EReal) : EReal := Ideal.div 1 (1 + Ideal.exp (-y))

end Cert.Proof
-- ==== Proof.Merge.lean ====
module
public import proofs.«01_k».proof.Proof.Gen.Kernel2Ideal.Value
public import proofs.«01_k».proof.Proof.Gen.Reference2Ideal.Run
public import proofs.«01_k».proof.Proof.Gen.Kernel2.Frame
public import proofs.«01_k».proof.Proof.Logistic
public import proofs.«01_k».proof.Defs

/-!
The value of the merge of the two branches: every entry of the kernel's result is the first gate times the product of the
attention row plus the second gate times the product of the convolution row, each gate the logistic function of the row's
product with a column of the joint weights, which is what the reference computes.
-/

@[expose] public noncomputable section
set_option maxRecDepth 16384

namespace Cert.Kernel2Ideal.Merge

open Cert.Kernel2Ideal Cert.Kernel2Ideal.Gen Cert.Kernel2Ideal.Value Cert.Proof Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The column of the joint weights at an offset. -/
def at_ (o : ℕ) (q : Fin 4096) (h : o + 4096 ≤ 15360) : Fin 15360 := ⟨o + q.val, by omega⟩

/-- The merge, entry by entry. -/
def G (h : Vec Ideal S16384x4096 .bf16) (p u : Vec Ideal S16384x2048 .bf16) (w : Vec Ideal S4096x15360 .f32) (wa wc : Vec Ideal S2048x4096 .f32) :
    Vec Ideal S16384x4096 .bf16 :=
  fun i => sg (∑ k : Fin 4096, h (ix2 (i 0) k) * w (ix2 k (at_ 7168 (i 1) (by decide)))) * (∑ k : Fin 2048, p (ix2 (i 0) k) * wa (ix2 k (i 1)))
    + sg (∑ k : Fin 4096, h (ix2 (i 0) k) * w (ix2 k (at_ 11264 (i 1) (by decide)))) * (∑ k : Fin 2048, u (ix2 (i 0) k) * wc (ix2 k (i 1)))

/-- What the body stores, entry by entry. -/
theorem pay (h : Vec Ideal S512x4096 .bf16) (b d : Vec Ideal S4096x512 .bf16) (p u : Vec Ideal S512x2048 .bf16) (wa wc : Vec Ideal S2048x512 .f32) (r c : Fin 512) :
    k0_pay1 (F := Ideal) h b d p wa u wc (ix2 r c) = sg (∑ k : Fin 4096, h (ix2 r k) * b (ix2 k c)) * (∑ k : Fin 2048, p (ix2 r k) * wa (ix2 k c))
      + sg (∑ k : Fin 4096, h (ix2 r k) * d (ix2 k c)) * (∑ k : Fin 2048, u (ix2 r k) * wc (ix2 k c)) := by
  unfold sg
  simp only [← zero_sub (∑ k : Fin 4096, _)]
  pointwise [k0_pay1]

theorem out_eq (h : Vec Ideal S512x4096 .bf16) (p u : Vec Ideal S512x2048 .bf16) (b d : Vec Ideal S4096x512 .bf16) (wa wc : Vec Ideal S2048x512 .f32) :
    out0_7 h p u b d wa wc = k0_pay1 h b d p wa u wc := by
  unfold out0_7
  have z2 : (![0, 0] : Fin 2 → ℕ) = fun _ => 0 := by decide
  rw [View.canon_unit_zero z2, View.ld_unit_zero z2, View.ld_unit_zero z2, View.ld_unit_zero z2, View.ld_unit_zero z2, View.ld_unit_zero z2, View.ld_unit_zero z2, View.ld_unit_zero z2]

/-- Where the windows' blocks lie. -/
theorem index_facts : ∀ t : Fin grid0.N,
    win0_0.index t 0 = win0_7.index t 0 ∧ win0_0.index t 1 = 0
    ∧ win0_1.index t 0 = win0_7.index t 0 ∧ win0_1.index t 1 = 0
    ∧ win0_2.index t 0 = win0_7.index t 0 ∧ win0_2.index t 1 = 0
    ∧ win0_3.index t 0 = 0 ∧ win0_3.index t 1 = 14 + win0_7.index t 1
    ∧ win0_4.index t 0 = 0 ∧ win0_4.index t 1 = 22 + win0_7.index t 1
    ∧ win0_5.index t 0 = 0 ∧ win0_5.index t 1 = win0_7.index t 1
    ∧ win0_6.index t 0 = 0 ∧ win0_6.index t 1 = win0_7.index t 1 := by decide +kernel
theorem index_onto : ∀ (i : Fin 32) (j : Fin 8), ∃ t : Fin grid0.N, win0_7.index t 0 = i.val ∧ win0_7.index t 1 = j.val := by decide +kernel
theorem flush_all : ∀ t : Fin grid0.N, win0_7.flush t = true := by decide +kernel

/-- What a point writes back is its block of the merge of the arrays as the region finds them. -/
theorem flushed_eq (c : Dev nD) (t : Fin cfg0.N) :
    (dats m 0 c).flushed 7 t = ((cfg0.win 7).blk t).view.read (Elt Ideal) (G (V m c main_arg0) (V m c main_arg1) (V m c main_arg2) (V m c main_v0) (V m c main_arg4) (V m c main_arg5)) := by
  rw [flushed7, out_eq]
  obtain ⟨e00, e01, e10, e11, e20, e21, e30, e31, e40, e41, e50, e51, e60, e61⟩ := index_facts t
  funext j
  show k0_pay1 (iblk m c 0 t) (iblk m c 3 t) (iblk m c 4 t) (iblk m c 1 t) (iblk m c 5 t) (iblk m c 2 t) (iblk m c 6 t) j = G _ _ _ _ _ _ (((cfg0.win 7).blk t).view.emb j)
  obtain ⟨r, q, rfl⟩ : ∃ (r q : Fin 512), j = ix2 r q := ⟨j 0, j 1, ValueIdx.eq_ix2 j⟩
  refine (pay _ _ _ _ _ _ _ r q).trans ?_
  unfold G
  refine congrArg₂ (· + ·) (congrArg₂ (· * ·) (congrArg sg (Finset.sum_congr rfl fun k _ => congrArg₂ (· * ·) ?_ ?_)) (Finset.sum_congr rfl fun k _ => congrArg₂ (· * ·) ?_ ?_)) (congrArg₂ (· * ·) (congrArg sg (Finset.sum_congr rfl fun k _ => congrArg₂ (· * ·) ?_ ?_)) (Finset.sum_congr rfl fun k _ => congrArg₂ (· * ·) ?_ ?_))
  · refine congrArg (V m c main_arg0) (funext fun a => Fin.ext ?_)
    match a with
    | ⟨0, _⟩ => show win0_0.index t 0 * 512 + 1 * r.val = win0_7.index t 0 * 512 + 1 * r.val; rw [e00]
    | ⟨1, _⟩ => show win0_0.index t 1 * 4096 + 1 * k.val = k.val; rw [e01]; omega
  · refine congrArg (V m c main_v0) (funext fun a => Fin.ext ?_)
    match a with
    | ⟨0, _⟩ => show win0_3.index t 0 * 4096 + 1 * k.val = k.val; rw [e30]; omega
    | ⟨1, _⟩ => show win0_3.index t 1 * 512 + 1 * q.val = 7168 + (win0_7.index t 1 * 512 + 1 * q.val); rw [e31]; omega
  · refine congrArg (V m c main_arg1) (funext fun a => Fin.ext ?_)
    match a with
    | ⟨0, _⟩ => show win0_1.index t 0 * 512 + 1 * r.val = win0_7.index t 0 * 512 + 1 * r.val; rw [e10]
    | ⟨1, _⟩ => show win0_1.index t 1 * 2048 + 1 * k.val = k.val; rw [e11]; omega
  · refine congrArg (V m c main_arg4) (funext fun a => Fin.ext ?_)
    match a with
    | ⟨0, _⟩ => show win0_5.index t 0 * 2048 + 1 * k.val = k.val; rw [e50]; omega
    | ⟨1, _⟩ => show win0_5.index t 1 * 512 + 1 * q.val = win0_7.index t 1 * 512 + 1 * q.val; rw [e51]
  · refine congrArg (V m c main_arg0) (funext fun a => Fin.ext ?_)
    match a with
    | ⟨0, _⟩ => show win0_0.index t 0 * 512 + 1 * r.val = win0_7.index t 0 * 512 + 1 * r.val; rw [e00]
    | ⟨1, _⟩ => show win0_0.index t 1 * 4096 + 1 * k.val = k.val; rw [e01]; omega
  · refine congrArg (V m c main_v0) (funext fun a => Fin.ext ?_)
    match a with
    | ⟨0, _⟩ => show win0_4.index t 0 * 4096 + 1 * k.val = k.val; rw [e40]; omega
    | ⟨1, _⟩ => show win0_4.index t 1 * 512 + 1 * q.val = 11264 + (win0_7.index t 1 * 512 + 1 * q.val); rw [e41]; omega
  · refine congrArg (V m c main_arg2) (funext fun a => Fin.ext ?_)
    match a with
    | ⟨0, _⟩ => show win0_2.index t 0 * 512 + 1 * r.val = win0_7.index t 0 * 512 + 1 * r.val; rw [e20]
    | ⟨1, _⟩ => show win0_2.index t 1 * 2048 + 1 * k.val = k.val; rw [e21]; omega
  · refine congrArg (V m c main_arg5) (funext fun a => Fin.ext ?_)
    match a with
    | ⟨0, _⟩ => show win0_6.index t 0 * 2048 + 1 * k.val = k.val; rw [e60]; omega
    | ⟨1, _⟩ => show win0_6.index t 1 * 512 + 1 * q.val = win0_7.index t 1 * 512 + 1 * q.val; rw [e61]

/-- Every entry of the result lies in some point's block. -/
theorem covered (i : S16384x4096.Idx) : ∃ t : Fin cfg0.N, (cfg0.win 7).flush t = true ∧ i ∈ ((cfg0.win 7).blk t).view.set := by
  obtain ⟨r, q, rfl⟩ : ∃ (r : Fin 16384) (q : Fin 4096), i = ix2 r q := ⟨i 0, i 1, ValueIdx.eq_ix2 i⟩
  obtain ⟨t, h0, h1⟩ := index_onto ⟨r.val / 512, by omega⟩ ⟨q.val / 512, by omega⟩
  refine ⟨t, flush_all t, ?_⟩
  have h := ((cfg0.win 7).blk t).view.emb_mem_set (ix2 (⟨r.val % 512, by omega⟩ : Fin 512) (⟨q.val % 512, by omega⟩ : Fin 512))
  have e : ((cfg0.win 7).blk t).view.emb (ix2 (⟨r.val % 512, by omega⟩ : Fin 512) (⟨q.val % 512, by omega⟩ : Fin 512)) = ix2 r q := by
    funext a; apply Fin.ext
    match a with
    | ⟨0, _⟩ => show win0_7.index t 0 * 512 + 1 * (r.val % 512) = r.val; simp only at h0; omega
    | ⟨1, _⟩ => show win0_7.index t 1 * 512 + 1 * (q.val % 512) = q.val; simp only at h1; omega
  rwa [e] at h

/-- The host rounds the joint weights, which at the ideal instance changes nothing. -/
theorem weights (c : Dev nD) : V m c main_v0 = m ((c : Thread nD τ).loc main_arg3) := by
  show StableHlo.after hostOps0 (fun b => m (c, b)) main_v0 = _
  unfold hostOps0
  after_results
  rfl

/-- The result of the kernel: the merge of its arguments. -/
theorem final (c : Dev nD) : (dats m 0 c).arrAt 7 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G (V m c main_arg0) (V m c main_arg1) (V m c main_arg2) (V m c main_v0) (V m c main_arg4) (V m c main_arg5)) (fun t _ => flushed_eq m c t) covered).trans
    (by rw [weights, V_main_arg0, V_main_arg1, V_main_arg2, V_main_arg4, V_main_arg5])

end Cert.Kernel2Ideal.Merge

namespace Cert.Reference2Ideal.Merge

open Cert.Reference2Ideal Cert.Reference2Ideal.Gen Idealize.ShloMosaic
open Cert.Reference2Ideal.Facts

/-- The reference's result, entry by entry. -/
theorem ref_eq (h : FVec Ideal S16384x4096 .bf16) (p u : FVec Ideal S16384x2048 .bf16) (w : FVec Ideal S4096x15360 .f32) (wa wc : FVec Ideal S2048x4096 .f32) :
    (truncf .bf16 (addf (mulf (extractStridedSlice S16384x4096 ![0, 0] (Host.divf (broadcastInDim S16384x8192 ![] bcast_S_S16384x8192 (constant S_ .f32 0x3F800000#32)) (addf (broadcastInDim S16384x8192 ![] bcast_S_S16384x8192 (constant S_ .f32 0x3F800000#32)) (Host.exp (Host.negf (extractStridedSlice S16384x8192 ![0, 7168] (Host.dotGeneral dot_S16384x4096_S4096x15360_S16384x15360_1_0_0_1_n_n none h w) slices_S16384x15360_S16384x8192_0_7168))))) slices_S16384x8192_S16384x4096_0_0) (Host.dotGeneral dot_S16384x2048_S2048x4096_S16384x4096_1_0_0_1_n_n none p wa)) (mulf (extractStridedSlice S16384x4096 ![0, 4096] (Host.divf (broadcastInDim S16384x8192 ![] bcast_S_S16384x8192 (constant S_ .f32 0x3F800000#32)) (addf (broadcastInDim S16384x8192 ![] bcast_S_S16384x8192 (constant S_ .f32 0x3F800000#32)) (Host.exp (Host.negf (extractStridedSlice S16384x8192 ![0, 7168] (Host.dotGeneral dot_S16384x4096_S4096x15360_S16384x15360_1_0_0_1_n_n none h w) slices_S16384x15360_S16384x8192_0_7168))))) slices_S16384x8192_S16384x4096_0_4096) (Host.dotGeneral dot_S16384x2048_S2048x4096_S16384x4096_1_0_0_1_n_n none u wc))) bitsLt_bf16_f32 : FVec Ideal S16384x4096 .bf16) = Cert.Kernel2Ideal.Merge.G h p u w wa wc := by
  funext i
  obtain ⟨r, q, rfl⟩ : ∃ (r : Fin 16384) (q : Fin 4096), i = ix2 r q := ⟨i 0, i 1, ValueIdx.eq_ix2 i⟩
  have e0 : Cert.Kernel2Ideal.Merge.at_ 7168 q (by decide) = (⟨7168 + q.val, by omega⟩ : Fin 15360) := rfl
  have e1 : Cert.Kernel2Ideal.Merge.at_ 11264 q (by decide) = (⟨7168 + (4096 + q.val), by omega⟩ : Fin 15360) :=
    Fin.ext (by show 11264 + q.val = 7168 + (4096 + q.val); omega)
  show _ = Cert.Proof.sg (∑ k : Fin 4096, h (ix2 r k) * w (ix2 k (Cert.Kernel2Ideal.Merge.at_ 7168 q (by decide)))) * (∑ k : Fin 2048, p (ix2 r k) * wa (ix2 k q))
    + Cert.Proof.sg (∑ k : Fin 4096, h (ix2 r k) * w (ix2 k (Cert.Kernel2Ideal.Merge.at_ 11264 q (by decide)))) * (∑ k : Fin 2048, u (ix2 r k) * wc (ix2 k q))
  rw [e0, e1]
  unfold Cert.Proof.sg
  pointwise

end Cert.Reference2Ideal.Merge

namespace Cert.Proof

open Idealize.ShloMosaic Idealize.ShloMosaic.TcCoe Idealize.SL.Sem

theorem frame_Reference2Ideal : Cert.quiescent_Reference2Ideal (hReference2Ideal := Cert.Reference2Ideal.Gen.facts) :=
  fun m g _ => (θ_run Cert.Reference2Ideal.defs _ _).mono (fun r h => ⟨fun c => (h c).2, sem_eq_zero_of_no_sems (by decide) r.2⟩) (Cert.Reference2Ideal.Value.run m g)

/-- From equal arguments the kernel and the reference leave the same result, at the ideal instance. -/
theorem algebraic2 : Cert.algebraic_Kernel2Ideal_Reference2Ideal (hKernel2Ideal := Cert.Kernel2Ideal.Gen.facts) (hReference2Ideal := Cert.Reference2Ideal.Gen.facts) := by
  intro m g m' g' _ e
  refine ⟨_, (θ_run Cert.Kernel2Ideal.defs _ _).mono (fun _ h c => ⟨(h c).1.trans (Cert.Kernel2Ideal.Merge.final m c), (h c).2⟩) (Cert.Kernel2Ideal.Value.run_blocks m g), ?_⟩
  refine (θ_run Cert.Reference2Ideal.defs _ _).mono (fun _ h c => ⟨(h c).1.trans ?_, (h c).2⟩) (Cert.Reference2Ideal.Value.run m' g')
  obtain ⟨e0, e1, e2, e3, e4, e5⟩ := e c
  rw [e0, e1, e2, e3, e4, e5]
  exact Cert.Reference2Ideal.Merge.ref_eq _ _ _ _ _ _

end Cert.Proof
-- ==== Proof.OutProj.lean ====
module
public import proofs.«01_k».proof.Proof.Gen.Kernel3Ideal.Value
public import proofs.«01_k».proof.Proof.Gen.Reference3Ideal.Run
public import proofs.«01_k».proof.Proof.Gen.Kernel3.Frame
public import proofs.«01_k».proof.Defs
public import Idealize.ShloMosaic.Lib.Pointwise

/-!
The value of the output projection: every entry of the kernel's result is the residual plus the gate times the product
of the merged row and the weights' column, which is what the reference computes.
-/

@[expose] public noncomputable section
set_option maxRecDepth 16384

namespace Cert.Kernel3Ideal.OutProj

open Cert.Kernel3Ideal Cert.Kernel3Ideal.Gen Cert.Kernel3Ideal.Value Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The projection, entry by entry. -/
def G (a : Vec Ideal S4x4096x4096 .bf16) (w : Vec Ideal S4096x4096 .f32) (x : Vec Ideal S4x4096x4096 .f32) (g : Vec Ideal S4x1x4096 .f32) :
    Vec Ideal S4x4096x4096 .f32 :=
  fun i => x i + g (ix3 (i 0) (0 : Fin 1) (i 2)) * ∑ k : Fin 4096, a (ix3 (i 0) (i 1) k) * w (ix2 k (i 2))

/-- What the body stores, entry by entry. -/
theorem pay (a : Vec Ideal S1x1024x4096 .bf16) (b : Vec Ideal S4096x1024 .bf16) (x : Vec Ideal S1x1024x1024 .f32) (g : Vec Ideal S1x1x1024 .f32)
    (z : Fin 1) (r c : Fin 1024) :
    k0_pay1 (F := Ideal) a b x g (ix3 z r c) = x (ix3 z r c) + g (ix3 z (0 : Fin 1) c) * ∑ k : Fin 4096, a (ix3 z r k) * b (ix2 k c) := by
  obtain rfl : z = 0 := Subsingleton.elim _ _
  pointwise [k0_pay1]

theorem out_eq (a : Vec Ideal S1x1024x4096 .bf16) (b : Vec Ideal S4096x1024 .bf16) (x : Vec Ideal S1x1024x1024 .f32) (g : Vec Ideal S1x1x1024 .f32) :
    out0_4 a b x g = k0_pay1 a b x g := by
  unfold out0_4
  have z3 : (![0, 0, 0] : Fin 3 → ℕ) = fun _ => 0 := by decide
  have z2 : (![0, 0] : Fin 2 → ℕ) = fun _ => 0 := by decide
  rw [View.canon_unit_zero z3, View.ld_unit_zero z3, View.ld_unit_zero z2, View.ld_unit_zero z3, View.ld_unit_zero z3]

/-- Where the windows' blocks lie. -/
theorem index_facts : ∀ t : Fin grid0.N,
    win0_0.index t 0 = win0_4.index t 0 ∧ win0_0.index t 1 = win0_4.index t 1 ∧ win0_0.index t 2 = 0
    ∧ win0_1.index t 0 = 0 ∧ win0_1.index t 1 = win0_4.index t 2
    ∧ win0_2.index t 0 = win0_4.index t 0 ∧ win0_2.index t 1 = win0_4.index t 1 ∧ win0_2.index t 2 = win0_4.index t 2
    ∧ win0_3.index t 0 = win0_4.index t 0 ∧ win0_3.index t 1 = 0 ∧ win0_3.index t 2 = win0_4.index t 2 := by decide +kernel
theorem index_onto : ∀ (b i j : Fin 4), ∃ t : Fin grid0.N, win0_4.index t 0 = b.val ∧ win0_4.index t 1 = i.val ∧ win0_4.index t 2 = j.val := by decide +kernel
theorem flush_all : ∀ t : Fin grid0.N, win0_4.flush t = true := by decide +kernel

/-- What a point writes back is its block of the projection of the arrays as the region finds them. -/
theorem flushed_eq (c : Dev nD) (t : Fin cfg0.N) :
    (dats m 0 c).flushed 4 t = ((cfg0.win 4).blk t).view.read (Elt Ideal) (G (V m c main_arg0) (V m c main_v0) (V m c main_arg2) (V m c main_arg3)) := by
  rw [flushed4, out_eq]
  obtain ⟨e00, e01, e02, e10, e11, e20, e21, e22, e30, e31, e32⟩ := index_facts t
  funext j
  show k0_pay1 (iblk m c 0 t) (iblk m c 1 t) (iblk m c 2 t) (iblk m c 3 t) j = G _ _ _ _ (((cfg0.win 4).blk t).view.emb j)
  obtain ⟨z, r, q, rfl⟩ : ∃ (z : Fin 1) (r q : Fin 1024), j = ix3 z r q := ⟨j 0, j 1, j 2, ValueIdx.eq_ix3 j⟩
  refine (pay _ _ _ _ z r q).trans ?_
  have hz : z.val = 0 := by omega
  unfold G
  refine congrArg₂ (· + ·) ?_ (congrArg₂ (· * ·) ?_ (Finset.sum_congr rfl fun k _ => congrArg₂ (· * ·) ?_ ?_))
  · refine congrArg (V m c main_arg2) (funext fun a => Fin.ext ?_)
    match a with
    | ⟨0, _⟩ => show win0_2.index t 0 * 1 + 1 * z.val = win0_4.index t 0 * 1 + 1 * z.val; rw [e20]
    | ⟨1, _⟩ => show win0_2.index t 1 * 1024 + 1 * r.val = win0_4.index t 1 * 1024 + 1 * r.val; rw [e21]
    | ⟨2, _⟩ => show win0_2.index t 2 * 1024 + 1 * q.val = win0_4.index t 2 * 1024 + 1 * q.val; rw [e22]
  · refine congrArg (V m c main_arg3) (funext fun a => Fin.ext ?_)
    match a with
    | ⟨0, _⟩ => show win0_3.index t 0 * 1 + 1 * z.val = win0_4.index t 0 * 1 + 1 * z.val; rw [e30]
    | ⟨1, _⟩ => show win0_3.index t 1 * 1 + 1 * 0 = 0; rw [e31]
    | ⟨2, _⟩ => show win0_3.index t 2 * 1024 + 1 * q.val = win0_4.index t 2 * 1024 + 1 * q.val; rw [e32]
  · refine congrArg (V m c main_arg0) (funext fun a => Fin.ext ?_)
    match a with
    | ⟨0, _⟩ => show win0_0.index t 0 * 1 + 1 * z.val = win0_4.index t 0 * 1 + 1 * z.val; rw [e00]
    | ⟨1, _⟩ => show win0_0.index t 1 * 1024 + 1 * r.val = win0_4.index t 1 * 1024 + 1 * r.val; rw [e01]
    | ⟨2, _⟩ => show win0_0.index t 2 * 4096 + 1 * k.val = k.val; rw [e02]; omega
  · refine congrArg (V m c main_v0) (funext fun a => Fin.ext ?_)
    match a with
    | ⟨0, _⟩ => show win0_1.index t 0 * 4096 + 1 * k.val = k.val; rw [e10]; omega
    | ⟨1, _⟩ => show win0_1.index t 1 * 1024 + 1 * q.val = win0_4.index t 2 * 1024 + 1 * q.val; rw [e11]

/-- Every entry of the result lies in some point's block. -/
theorem covered (i : S4x4096x4096.Idx) : ∃ t : Fin cfg0.N, (cfg0.win 4).flush t = true ∧ i ∈ ((cfg0.win 4).blk t).view.set := by
  obtain ⟨b, r, q, rfl⟩ : ∃ (b : Fin 4) (r q : Fin 4096), i = ix3 b r q := ⟨i 0, i 1, i 2, ValueIdx.eq_ix3 i⟩
  obtain ⟨t, h0, h1, h2⟩ := index_onto b ⟨r.val / 1024, by omega⟩ ⟨q.val / 1024, by omega⟩
  refine ⟨t, flush_all t, ?_⟩
  have h := ((cfg0.win 4).blk t).view.emb_mem_set (ix3 (0 : Fin 1) (⟨r.val % 1024, by omega⟩ : Fin 1024) (⟨q.val % 1024, by omega⟩ : Fin 1024))
  have e : ((cfg0.win 4).blk t).view.emb (ix3 (0 : Fin 1) (⟨r.val % 1024, by omega⟩ : Fin 1024) (⟨q.val % 1024, by omega⟩ : Fin 1024)) = ix3 b r q := by
    funext a; apply Fin.ext
    match a with
    | ⟨0, _⟩ => show win0_4.index t 0 * 1 + 1 * 0 = b.val; omega
    | ⟨1, _⟩ => show win0_4.index t 1 * 1024 + 1 * (r.val % 1024) = r.val; simp only at h1; omega
    | ⟨2, _⟩ => show win0_4.index t 2 * 1024 + 1 * (q.val % 1024) = q.val; simp only at h2; omega
  rwa [e] at h

/-- The host rounds the weights, which at the ideal instance changes nothing. -/
theorem weights (c : Dev nD) : V m c main_v0 = m ((c : Thread nD τ).loc main_arg1) := by
  show StableHlo.after hostOps0 (fun b => m (c, b)) main_v0 = _
  unfold hostOps0
  after_results
  rfl

/-- The result of the kernel: the projection of its arguments. -/
theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) :=
  ((dats m 0 c).arrAt_eq_of_cover 4 (G (V m c main_arg0) (V m c main_v0) (V m c main_arg2) (V m c main_arg3)) (fun t _ => flushed_eq m c t) covered).trans
    (by rw [weights, V_main_arg0, V_main_arg2, V_main_arg3])

end Cert.Kernel3Ideal.OutProj

namespace Cert.Reference3Ideal.OutProj

open Cert.Reference3Ideal Cert.Reference3Ideal.Gen Idealize.ShloMosaic
open Cert.Reference3Ideal.Facts

/-- The reference's result, entry by entry. -/
theorem ref_eq (a : FVec Ideal S4x4096x4096 .bf16) (w : FVec Ideal S4096x4096 .f32) (x : FVec Ideal S4x4096x4096 .f32) (g : FVec Ideal S4x1x4096 .f32) :
    (addf x (mulf (broadcastInDim S4x4096x4096 ![0, 1, 2] bcast_S4x1x4096_S4x4096x4096_0_1_2 g)
      (Host.dotGeneral dot_S4x4096x4096_S4096x4096_S4x4096x4096_2_0_01_1_n_n none a w)) : FVec Ideal S4x4096x4096 .f32) = Cert.Kernel3Ideal.OutProj.G a w x g := by
  funext i
  obtain ⟨b, r, q, rfl⟩ : ∃ (b : Fin 4) (r q : Fin 4096), i = ix3 b r q := ⟨i 0, i 1, i 2, ValueIdx.eq_ix3 i⟩
  unfold Cert.Kernel3Ideal.OutProj.G
  pointwise

end Cert.Reference3Ideal.OutProj

namespace Cert.Proof

open Idealize.ShloMosaic Idealize.ShloMosaic.TcCoe Idealize.SL.Sem

theorem frame_Reference3Ideal : Cert.quiescent_Reference3Ideal (hReference3Ideal := Cert.Reference3Ideal.Gen.facts) :=
  fun m g _ => (θ_run Cert.Reference3Ideal.defs _ _).mono (fun r h => ⟨fun c => (h c).2, sem_eq_zero_of_no_sems (by decide) r.2⟩) (Cert.Reference3Ideal.Value.run m g)

/-- From equal arguments the kernel and the reference leave the same projection, at the ideal instance. -/
theorem algebraic3 : Cert.algebraic_Kernel3Ideal_Reference3Ideal (hKernel3Ideal := Cert.Kernel3Ideal.Gen.facts) (hReference3Ideal := Cert.Reference3Ideal.Gen.facts) := by
  intro m g m' g' _ e
  refine ⟨_, (θ_run Cert.Kernel3Ideal.defs _ _).mono (fun _ h c => ⟨(h c).1.trans (Cert.Kernel3Ideal.OutProj.final m c), (h c).2⟩) (Cert.Kernel3Ideal.Value.run_blocks m g), ?_⟩
  refine (θ_run Cert.Reference3Ideal.defs _ _).mono (fun _ h c => ⟨(h c).1.trans ?_, (h c).2⟩) (Cert.Reference3Ideal.Value.run m' g')
  obtain ⟨e0, e1, e2, e3⟩ := e c
  rw [e0, e1, e2, e3]
  exact Cert.Reference3Ideal.OutProj.ref_eq _ _ _ _

end Cert.Proof
-- ==== Proof.Glu.lean ====
module
public import proofs.«01_k».proof.Proof.Gen.Kernel4Ideal.Value
public import proofs.«01_k».proof.Proof.Gen.Reference4Ideal.Run
public import proofs.«01_k».proof.Proof.Gen.Kernel4.Frame
public import proofs.«01_k».proof.Proof.Logistic
public import proofs.«01_k».proof.Defs

/-!
The value of the gated projection: every entry of the kernel's result is the row's product with a column of the first
half times the logistic function of its product with the same column of the second half, which is what the reference computes.
-/

@[expose] public noncomputable section
set_option maxRecDepth 16384

namespace Cert.Kernel4Ideal.Glu

open Cert.Kernel4Ideal Cert.Kernel4Ideal.Gen Cert.Kernel4Ideal.Value Cert.Proof Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The gated projection, entry by entry. -/
def G (a : Vec Ideal S16384x4096 .bf16) (w : Vec Ideal S4096x15360 .f32) : Vec Ideal S16384x2048 .bf16 :=
  fun i => (∑ k : Fin 4096, a (ix2 (i 0) k) * w (ix2 k (⟨3072 + (i 1).val, by have h : (i 1).val < 2048 := (i 1).isLt; omega⟩ : Fin 15360)))
    * sg (∑ k : Fin 4096, a (ix2 (i 0) k) * w (ix2 k (⟨5120 + (i 1).val, by have h : (i 1).val < 2048 := (i 1).isLt; omega⟩ : Fin 15360)))

/-- One block of it. -/
def E (x : Vec Ideal S1024x4096 .bf16) (b d : Vec Ideal S4096x512 .bf16) : Vec Ideal S1024x512 .bf16 :=
  fun j => (∑ k : Fin 4096, x (ix2 (j 0) k) * b (ix2 k (j 1))) * sg (∑ k : Fin 4096, x (ix2 (j 0) k) * d (ix2 k (j 1)))

/-- What the body stores in the upper half of the block, entry by entry. -/
theorem pay_lo (a : Vec Ideal S512x4096 .bf16) (b d : Vec Ideal S4096x512 .bf16) (r c : Fin 512) :
    k0_pay2 (F := Ideal) a b a d (ix2 r c) = (∑ k : Fin 4096, a (ix2 r k) * b (ix2 k c)) * sg (∑ k : Fin 4096, a (ix2 r k) * d (ix2 k c)) := by
  unfold sg
  rw [← zero_sub]
  pointwise [k0_pay2]

/-- What the body stores in the lower half, entry by entry. -/
theorem pay_hi (a : Vec Ideal S512x4096 .bf16) (b d : Vec Ideal S4096x512 .bf16) (r c : Fin 512) :
    k0_pay1 (F := Ideal) (k0_pay3 a b) (k0_pay4 a d) k0_pay5 (ix2 r c) = (∑ k : Fin 4096, a (ix2 r k) * b (ix2 k c)) * sg (∑ k : Fin 4096, a (ix2 r k) * d (ix2 k c)) := by
  unfold sg
  rw [← zero_sub]
  pointwise [k0_pay1, k0_pay3, k0_pay4, k0_pay5]

/-- The body's two stores together are the block. -/
theorem out_eq (x : Vec Ideal S1024x4096 .bf16) (b d : Vec Ideal S4096x512 .bf16) : out0_3 x b d = E x b d := by
  funext y
  unfold out0_3
  have z2 : (![0, 0] : Fin 2 → ℕ) = fun _ => 0 := by decide
  rw [View.ld_unit_zero z2, View.ld_unit_zero z2]
  refine View.canon_apply_of_pieces (E x b d) _ ?_ y (cover0_3 _ _ y)
  intro p hp j
  rcases List.mem_cons.1 hp with rfl | hp
  · obtain ⟨r, q, rfl⟩ : ∃ (r q : Fin 512), j = ix2 r q := ⟨j 0, j 1, ValueIdx.eq_ix2 j⟩
    refine (pay_hi _ _ _ r q).trans ?_
    unfold E
    refine congrArg₂ (· * ·) (Finset.sum_congr rfl fun k _ => congrArg₂ (· * ·) ?_ ?_) (congrArg sg (Finset.sum_congr rfl fun k _ => congrArg₂ (· * ·) ?_ ?_))
    · refine congrArg x (funext fun a => Fin.ext ?_)
      match a with
      | ⟨0, _⟩ => rfl
      | ⟨1, _⟩ => show 0 + 1 * k.val = k.val; omega
    · refine congrArg b (funext fun a => Fin.ext ?_)
      match a with
      | ⟨0, _⟩ => rfl
      | ⟨1, _⟩ => show q.val = 0 + 1 * q.val; omega
    · refine congrArg x (funext fun a => Fin.ext ?_)
      match a with
      | ⟨0, _⟩ => rfl
      | ⟨1, _⟩ => show 0 + 1 * k.val = k.val; omega
    · refine congrArg d (funext fun a => Fin.ext ?_)
      match a with
      | ⟨0, _⟩ => rfl
      | ⟨1, _⟩ => show q.val = 0 + 1 * q.val; omega
  · obtain rfl := List.mem_singleton.1 hp
    obtain ⟨r, q, rfl⟩ : ∃ (r q : Fin 512), j = ix2 r q := ⟨j 0, j 1, ValueIdx.eq_ix2 j⟩
    refine (pay_lo _ _ _ r q).trans ?_
    unfold E
    refine congrArg₂ (· * ·) (Finset.sum_congr rfl fun k _ => congrArg₂ (· * ·) ?_ ?_) (congrArg sg (Finset.sum_congr rfl fun k _ => congrArg₂ (· * ·) ?_ ?_))
    · refine congrArg x (funext fun a => Fin.ext ?_)
      match a with
      | ⟨0, _⟩ => rfl
      | ⟨1, _⟩ => show 0 + 1 * k.val = k.val; omega
    · refine congrArg b (funext fun a => Fin.ext ?_)
      match a with
      | ⟨0, _⟩ => rfl
      | ⟨1, _⟩ => show q.val = 0 + 1 * q.val; omega
    · refine congrArg x (funext fun a => Fin.ext ?_)
      match a with
      | ⟨0, _⟩ => rfl
      | ⟨1, _⟩ => show 0 + 1 * k.val = k.val; omega
    · refine congrArg d (funext fun a => Fin.ext ?_)
      match a with
      | ⟨0, _⟩ => rfl
      | ⟨1, _⟩ => show q.val = 0 + 1 * q.val; omega

/-- Where the windows' blocks lie. -/
theorem index_facts : ∀ t : Fin grid0.N,
    win0_0.index t 0 = win0_3.index t 0 ∧ win0_0.index t 1 = 0
    ∧ win0_1.index t 0 = 0 ∧ win0_1.index t 1 = 6 + win0_3.index t 1
    ∧ win0_2.index t 0 = 0 ∧ win0_2.index t 1 = 10 + win0_3.index t 1 := by decide +kernel
theorem index_onto : ∀ (i : Fin 16) (j : Fin 4), ∃ t : Fin grid0.N, win0_3.index t 0 = i.val ∧ win0_3.index t 1 = j.val := by decide +kernel
theorem flush_all : ∀ t : Fin grid0.N, win0_3.flush t = true := by decide +kernel

/-- What a point writes back is its block of the gated projection of the arrays as the region finds them. -/
theorem flushed_eq (c : Dev nD) (t : Fin cfg0.N) :
    (dats m 0 c).flushed 3 t = ((cfg0.win 3).blk t).view.read (Elt Ideal) (G (V m c main_arg0) (V m c main_v0)) := by
  rw [flushed3, out_eq]
  obtain ⟨e00, e01, e10, e11, e20, e21⟩ := index_facts t
  funext j
  show E (iblk m c 0 t) (iblk m c 1 t) (iblk m c 2 t) j = G _ _ (((cfg0.win 3).blk t).view.emb j)
  obtain ⟨r, q, rfl⟩ : ∃ (r : Fin 1024) (q : Fin 512), j = ix2 r q := ⟨j 0, j 1, ValueIdx.eq_ix2 j⟩
  unfold G E
  refine congrArg₂ (· * ·) (Finset.sum_congr rfl fun k _ => congrArg₂ (· * ·) ?_ ?_) (congrArg sg (Finset.sum_congr rfl fun k _ => congrArg₂ (· * ·) ?_ ?_))
  · refine congrArg (V m c main_arg0) (funext fun a => Fin.ext ?_)
    match a with
    | ⟨0, _⟩ => show win0_0.index t 0 * 1024 + 1 * r.val = win0_3.index t 0 * 1024 + 1 * r.val; rw [e00]
    | ⟨1, _⟩ => show win0_0.index t 1 * 4096 + 1 * k.val = k.val; rw [e01]; omega
  · refine congrArg (V m c main_v0) (funext fun a => Fin.ext ?_)
    match a with
    | ⟨0, _⟩ => show win0_1.index t 0 * 4096 + 1 * k.val = k.val; rw [e10]; omega
    | ⟨1, _⟩ => show win0_1.index t 1 * 512 + 1 * q.val = 3072 + (win0_3.index t 1 * 512 + 1 * q.val); rw [e11]; omega
  · refine congrArg (V m c main_arg0) (funext fun a => Fin.ext ?_)
    match a with
    | ⟨0, _⟩ => show win0_0.index t 0 * 1024 + 1 * r.val = win0_3.index t 0 * 1024 + 1 * r.val; rw [e00]
    | ⟨1, _⟩ => show win0_0.index t 1 * 4096 + 1 * k.val = k.val; rw [e01]; omega
  · refine congrArg (V m c main_v0) (funext fun a => Fin.ext ?_)
    match a with
    | ⟨0, _⟩ => show win0_2.index t 0 * 4096 + 1 * k.val = k.val; rw [e20]; omega
    | ⟨1, _⟩ => show win0_2.index t 1 * 512 + 1 * q.val = 5120 + (win0_3.index t 1 * 512 + 1 * q.val); rw [e21]; omega

/-- Every entry of the result lies in some point's block. -/
theorem covered (i : S16384x2048.Idx) : ∃ t : Fin cfg0.N, (cfg0.win 3).flush t = true ∧ i ∈ ((cfg0.win 3).blk t).view.set := by
  obtain ⟨r, q, rfl⟩ : ∃ (r : Fin 16384) (q : Fin 2048), i = ix2 r q := ⟨i 0, i 1, ValueIdx.eq_ix2 i⟩
  obtain ⟨t, h0, h1⟩ := index_onto ⟨r.val / 1024, by omega⟩ ⟨q.val / 512, by omega⟩
  refine ⟨t, flush_all t, ?_⟩
  have h := ((cfg0.win 3).blk t).view.emb_mem_set (ix2 (⟨r.val % 1024, by omega⟩ : Fin 1024) (⟨q.val % 512, by omega⟩ : Fin 512))
  have e : ((cfg0.win 3).blk t).view.emb (ix2 (⟨r.val % 1024, by omega⟩ : Fin 1024) (⟨q.val % 512, by omega⟩ : Fin 512)) = ix2 r q := by
    funext a; apply Fin.ext
    match a with
    | ⟨0, _⟩ => show win0_3.index t 0 * 1024 + 1 * (r.val % 1024) = r.val; simp only at h0; omega
    | ⟨1, _⟩ => show win0_3.index t 1 * 512 + 1 * (q.val % 512) = q.val; simp only at h1; omega
  rwa [e] at h

/-- The host rounds the joint weights, which at the ideal instance changes nothing. -/
theorem weights (c : Dev nD) : V m c main_v0 = m ((c : Thread nD τ).loc main_arg1) := by
  show StableHlo.after hostOps0 (fun b => m (c, b)) main_v0 = _
  unfold hostOps0
  after_results
  rfl

/-- The result of the kernel: the gated projection of its arguments. -/
theorem final (c : Dev nD) : (dats m 0 c).arrAt 3 cfg0.N = G (m ((c : Thread nD τ).loc main_arg0)) (m ((c : Thread nD τ).loc main_arg1)) :=
  ((dats m 0 c).arrAt_eq_of_cover 3 (G (V m c main_arg0) (V m c main_v0)) (fun t _ => flushed_eq m c t) covered).trans
    (by rw [weights, V_main_arg0])

end Cert.Kernel4Ideal.Glu

namespace Cert.Reference4Ideal.Glu

open Cert.Reference4Ideal Cert.Reference4Ideal.Gen Idealize.ShloMosaic
open Cert.Reference4Ideal.Facts

/-- The reference's result, entry by entry. -/
theorem ref_eq (a : FVec Ideal S16384x4096 .bf16) (w : FVec Ideal S4096x15360 .f32) :
    (truncf .bf16 (mulf (extractStridedSlice S16384x2048 ![0, 0] (extractStridedSlice S16384x4096 ![0, 3072] (Host.dotGeneral dot_S16384x4096_S4096x15360_S16384x15360_1_0_0_1_n_n none a w) slices_S16384x15360_S16384x4096_0_3072) slices_S16384x4096_S16384x2048_0_0) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 2048] (extractStridedSlice S16384x4096 ![0, 3072] (Host.dotGeneral dot_S16384x4096_S4096x15360_S16384x15360_1_0_0_1_n_n none a w) slices_S16384x15360_S16384x4096_0_3072) slices_S16384x4096_S16384x2048_0_2048)))))) bitsLt_bf16_f32 : FVec Ideal S16384x2048 .bf16) = Cert.Kernel4Ideal.Glu.G a w := by
  funext i
  obtain ⟨r, q, rfl⟩ : ∃ (r : Fin 16384) (q : Fin 2048), i = ix2 r q := ⟨i 0, i 1, ValueIdx.eq_ix2 i⟩
  have e : ∀ k : Fin 4096, (ix2 k (⟨5120 + q.val, by omega⟩ : Fin 15360) : S4096x15360.Idx) = ix2 k (⟨3072 + (2048 + q.val), by omega⟩ : Fin 15360) :=
    fun k => congrArg (ix2 k) (Fin.ext (by show 5120 + q.val = 3072 + (2048 + q.val); omega))
  show _ = (∑ k : Fin 4096, a (ix2 r k) * w (ix2 k (⟨3072 + q.val, by omega⟩ : Fin 15360)))
    * Cert.Proof.sg (∑ k : Fin 4096, a (ix2 r k) * w (ix2 k (⟨5120 + q.val, by omega⟩ : Fin 15360)))
  simp only [e]
  unfold Cert.Proof.sg
  pointwise

end Cert.Reference4Ideal.Glu

namespace Cert.Proof

open Idealize.ShloMosaic Idealize.ShloMosaic.TcCoe Idealize.SL.Sem

theorem frame_Reference4Ideal : Cert.quiescent_Reference4Ideal (hReference4Ideal := Cert.Reference4Ideal.Gen.facts) :=
  fun m g _ => (θ_run Cert.Reference4Ideal.defs _ _).mono (fun r h => ⟨fun c => (h c).2, sem_eq_zero_of_no_sems (by decide) r.2⟩) (Cert.Reference4Ideal.Value.run m g)

/-- From equal arguments the kernel and the reference leave the same result, at the ideal instance. -/
theorem algebraic4 : Cert.algebraic_Kernel4Ideal_Reference4Ideal (hKernel4Ideal := Cert.Kernel4Ideal.Gen.facts) (hReference4Ideal := Cert.Reference4Ideal.Gen.facts) := by
  intro m g m' g' _ e
  refine ⟨_, (θ_run Cert.Kernel4Ideal.defs _ _).mono (fun _ h c => ⟨(h c).1.trans (Cert.Kernel4Ideal.Glu.final m c), (h c).2⟩) (Cert.Kernel4Ideal.Value.run_blocks m g), ?_⟩
  refine (θ_run Cert.Reference4Ideal.defs _ _).mono (fun _ h c => ⟨(h c).1.trans ?_, (h c).2⟩) (Cert.Reference4Ideal.Value.run m' g')
  obtain ⟨e0, e1⟩ := e c
  rw [e0, e1]
  exact Cert.Reference4Ideal.Glu.ref_eq _ _

end Cert.Proof
-- ==== Proof.GateHalf.lean ====
module
public import proofs.«01_k».proof.Proof.GateBody
public import proofs.«01_k».proof.Proof.Logistic
public import Idealize.ShloMosaic.Lib.Pointwise

/-!
The tokens' words as numbers. A token's 4096 entries are stored as 2048 words of two 16-bit halves, 16 rows of 128 words a
token; `expert_gate` takes the words of one lane of 128 at a time, splits each into its halves and puts the lanes side by
side. Entry `k` of the low (high) halves of row `r` is the low (high) half of word `k % 128` of row `16 r + k / 128`.
-/

@[expose] public noncomputable section
set_option maxRecDepth 16384

namespace Cert.KernelIdeal.Hand

open Idealize.ShloMosaic Idealize.ShloMosaic.TcCoe Idealize.ShloMosaic.Tactic
open Cert.KernelIdeal Cert.KernelIdeal.Gen

/-- The low (`i = 0`) or high (`i = 1`) half of a word, as a number. -/
def half (i : ℕ) (w : BitVec 32) : EReal := FloatOps.ofBits (F := Ideal) .bf16 (w.extractLsb' (i * 16) 16)

/-- A strided load that starts at one of a token's 16 rows of words stays inside the block. -/
theorem lane_inb128 (j : Fin 16) : ∀ a : Fin 2, S128x128.size a = 0 ∨ (![j.val, 0] : Fin 2 → ℕ) a + (![16, 1] : Fin 2 → ℕ) a * (S128x128.size a - 1) < S8192x128.size a := by
  intro a; right; fin_cases a <;> simp [S128x128, S8192x128] <;> omega

/-- The halves of one lane of the first 128 tokens' words. -/
def lane128 (i : ℕ) (X : Vec Ideal S8192x128 .i32) (j : Fin 16) : S128x128.Idx → EReal :=
  fun q => half i (X ((⟨![j.val, 0], S128x128.size, ![16, 1], lane_inb128 j⟩ : LoadRect S8192x128).idx q))

theorem lo128_eq (X : Vec Ideal S8192x128 .i32) :
    lo128 X = concatenate S128x2048 1 (List.ofFn fun j : Fin 16 => (⟨S128x128, lane128 0 X j⟩ : (s : Shape) × (s.Idx → EReal)))
      concatenates_S128x128_S128x128_S128x128_S128x128_S128x128_S128x128_S128x128_S128x128_S128x128_S128x128_S128x128_S128x128_S128x128_S128x128_S128x128_S128x128_S128x2048_d1 := by sl_kernel_rfl

theorem lo128_apply (X : Vec Ideal S8192x128 .i32) (r : Fin 128) (k : Fin 2048) :
    lo128 X (ix2 r k) = half 0 (X (ix2 (⟨16 * r.val + k.val / 128, by omega⟩ : Fin 8192) (⟨k.val % 128, by omega⟩ : Fin 128))) := by
  rw [lo128_eq]
  refine (concatenate_ofFn_apply (t := S128x2048) (s₁ := S128x128) 1 (fun j : Fin 16 => lane128 0 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 0 (X z)) (funext fun a => Fin.ext ?_)
    match a with
    | ⟨0, _⟩ => show k.val / 128 + 16 * r.val = 16 * r.val + k.val / 128; omega
    | ⟨1, _⟩ => show 0 + 1 * (k.val % 128) = k.val % 128; omega

theorem hi128_eq (X : Vec Ideal S8192x128 .i32) :
    hi128 X = concatenate S128x2048 1 (List.ofFn fun j : Fin 16 => (⟨S128x128, lane128 1 X j⟩ : (s : Shape) × (s.Idx → EReal)))
      concatenates_S128x128_S128x128_S128x128_S128x128_S128x128_S128x128_S128x128_S128x128_S128x128_S128x128_S128x128_S128x128_S128x128_S128x128_S128x128_S128x128_S128x2048_d1 := by sl_kernel_rfl

theorem hi128_apply (X : Vec Ideal S8192x128 .i32) (r : Fin 128) (k : Fin 2048) :
    hi128 X (ix2 r k) = half 1 (X (ix2 (⟨16 * r.val + k.val / 128, by omega⟩ : Fin 8192) (⟨k.val % 128, by omega⟩ : Fin 128))) := by
  rw [hi128_eq]
  refine (concatenate_ofFn_apply (t := S128x2048) (s₁ := S128x128) 1 (fun j : Fin 16 => lane128 1 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 1 (X z)) (funext fun a => Fin.ext ?_)
    match a with
    | ⟨0, _⟩ => show k.val / 128 + 16 * r.val = 16 * r.val + k.val / 128; omega
    | ⟨1, _⟩ => show 0 + 1 * (k.val % 128) = k.val % 128; omega

/-- A strided load that starts at one of a token's 16 rows of words stays inside the block. -/
theorem lane_inb256 (j : Fin 16) : ∀ a : Fin 2, S256x128.size a = 0 ∨ (![j.val, 0] : Fin 2 → ℕ) a + (![16, 1] : Fin 2 → ℕ) a * (S256x128.size a - 1) < S8192x128.size a := by
  intro a; right; fin_cases a <;> simp [S256x128, S8192x128] <;> omega

/-- The halves of one lane of the first 256 tokens' words. -/
def lane256 (i : ℕ) (X : Vec Ideal S8192x128 .i32) (j : Fin 16) : S256x128.Idx → EReal :=
  fun q => half i (X ((⟨![j.val, 0], S256x128.size, ![16, 1], lane_inb256 j⟩ : LoadRect S8192x128).idx q))

theorem lo256_eq (X : Vec Ideal S8192x128 .i32) :
    lo256 X = concatenate S256x2048 1 (List.ofFn fun j : Fin 16 => (⟨S256x128, lane256 0 X j⟩ : (s : Shape) × (s.Idx → EReal)))
      concatenates_S256x128_S256x128_S256x128_S256x128_S256x128_S256x128_S256x128_S256x128_S256x128_S256x128_S256x128_S256x128_S256x128_S256x128_S256x128_S256x128_S256x2048_d1 := by sl_kernel_rfl

theorem lo256_apply (X : Vec Ideal S8192x128 .i32) (r : Fin 256) (k : Fin 2048) :
    lo256 X (ix2 r k) = half 0 (X (ix2 (⟨16 * r.val + k.val / 128, by omega⟩ : Fin 8192) (⟨k.val % 128, by omega⟩ : Fin 128))) := by
  rw [lo256_eq]
  refine (concatenate_ofFn_apply (t := S256x2048) (s₁ := S256x128) 1 (fun j : Fin 16 => lane256 0 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 0 (X z)) (funext fun a => Fin.ext ?_)
    match a with
    | ⟨0, _⟩ => show k.val / 128 + 16 * r.val = 16 * r.val + k.val / 128; omega
    | ⟨1, _⟩ => show 0 + 1 * (k.val % 128) = k.val % 128; omega

theorem hi256_eq (X : Vec Ideal S8192x128 .i32) :
    hi256 X = concatenate S256x2048 1 (List.ofFn fun j : Fin 16 => (⟨S256x128, lane256 1 X j⟩ : (s : Shape) × (s.Idx → EReal)))
      concatenates_S256x128_S256x128_S256x128_S256x128_S256x128_S256x128_S256x128_S256x128_S256x128_S256x128_S256x128_S256x128_S256x128_S256x128_S256x128_S256x128_S256x2048_d1 := by sl_kernel_rfl

theorem hi256_apply (X : Vec Ideal S8192x128 .i32) (r : Fin 256) (k : Fin 2048) :
    hi256 X (ix2 r k) = half 1 (X (ix2 (⟨16 * r.val + k.val / 128, by omega⟩ : Fin 8192) (⟨k.val % 128, by omega⟩ : Fin 128))) := by
  rw [hi256_eq]
  refine (concatenate_ofFn_apply (t := S256x2048) (s₁ := S256x128) 1 (fun j : Fin 16 => lane256 1 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 1 (X z)) (funext fun a => Fin.ext ?_)
    match a with
    | ⟨0, _⟩ => show k.val / 128 + 16 * r.val = 16 * r.val + k.val / 128; omega
    | ⟨1, _⟩ => show 0 + 1 * (k.val % 128) = k.val % 128; omega

/-- A strided load that starts at one of a token's 16 rows of words stays inside the block. -/
theorem lane_inb384 (j : Fin 16) : ∀ a : Fin 2, S384x128.size a = 0 ∨ (![j.val, 0] : Fin 2 → ℕ) a + (![16, 1] : Fin 2 → ℕ) a * (S384x128.size a - 1) < S8192x128.size a := by
  intro a; right; fin_cases a <;> simp [S384x128, S8192x128] <;> omega

/-- The halves of one lane of the first 384 tokens' words. -/
def lane384 (i : ℕ) (X : Vec Ideal S8192x128 .i32) (j : Fin 16) : S384x128.Idx → EReal :=
  fun q => half i (X ((⟨![j.val, 0], S384x128.size, ![16, 1], lane_inb384 j⟩ : LoadRect S8192x128).idx q))

theorem lo384_eq (X : Vec Ideal S8192x128 .i32) :
    lo384 X = concatenate S384x2048 1 (List.ofFn fun j : Fin 16 => (⟨S384x128, lane384 0 X j⟩ : (s : Shape) × (s.Idx → EReal)))
      concatenates_S384x128_S384x128_S384x128_S384x128_S384x128_S384x128_S384x128_S384x128_S384x128_S384x128_S384x128_S384x128_S384x128_S384x128_S384x128_S384x128_S384x2048_d1 := by sl_kernel_rfl

theorem lo384_apply (X : Vec Ideal S8192x128 .i32) (r : Fin 384) (k : Fin 2048) :
    lo384 X (ix2 r k) = half 0 (X (ix2 (⟨16 * r.val + k.val / 128, by omega⟩ : Fin 8192) (⟨k.val % 128, by omega⟩ : Fin 128))) := by
  rw [lo384_eq]
  refine (concatenate_ofFn_apply (t := S384x2048) (s₁ := S384x128) 1 (fun j : Fin 16 => lane384 0 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 0 (X z)) (funext fun a => Fin.ext ?_)
    match a with
    | ⟨0, _⟩ => show k.val / 128 + 16 * r.val = 16 * r.val + k.val / 128; omega
    | ⟨1, _⟩ => show 0 + 1 * (k.val % 128) = k.val % 128; omega

theorem hi384_eq (X : Vec Ideal S8192x128 .i32) :
    hi384 X = concatenate S384x2048 1 (List.ofFn fun j : Fin 16 => (⟨S384x128, lane384 1 X j⟩ : (s : Shape) × (s.Idx → EReal)))
      concatenates_S384x128_S384x128_S384x128_S384x128_S384x128_S384x128_S384x128_S384x128_S384x128_S384x128_S384x128_S384x128_S384x128_S384x128_S384x128_S384x128_S384x2048_d1 := by sl_kernel_rfl

theorem hi384_apply (X : Vec Ideal S8192x128 .i32) (r : Fin 384) (k : Fin 2048) :
    hi384 X (ix2 r k) = half 1 (X (ix2 (⟨16 * r.val + k.val / 128, by omega⟩ : Fin 8192) (⟨k.val % 128, by omega⟩ : Fin 128))) := by
  rw [hi384_eq]
  refine (concatenate_ofFn_apply (t := S384x2048) (s₁ := S384x128) 1 (fun j : Fin 16 => lane384 1 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 1 (X z)) (funext fun a => Fin.ext ?_)
    match a with
    | ⟨0, _⟩ => show k.val / 128 + 16 * r.val = 16 * r.val + k.val / 128; omega
    | ⟨1, _⟩ => show 0 + 1 * (k.val % 128) = k.val % 128; omega

/-- A strided load that starts at one of a token's 16 rows of words stays inside the block. -/
theorem lane_inb512 (j : Fin 16) : ∀ a : Fin 2, S512x128.size a = 0 ∨ (![j.val, 0] : Fin 2 → ℕ) a + (![16, 1] : Fin 2 → ℕ) a * (S512x128.size a - 1) < S8192x128.size a := by
  intro a; right; fin_cases a <;> simp [S512x128, S8192x128] <;> omega

/-- The halves of one lane of the first 512 tokens' words. -/
def lane512 (i : ℕ) (X : Vec Ideal S8192x128 .i32) (j : Fin 16) : S512x128.Idx → EReal :=
  fun q => half i (X ((⟨![j.val, 0], S512x128.size, ![16, 1], lane_inb512 j⟩ : LoadRect S8192x128).idx q))

theorem lo512_eq (X : Vec Ideal S8192x128 .i32) :
    lo512 X = concatenate S512x2048 1 (List.ofFn fun j : Fin 16 => (⟨S512x128, lane512 0 X j⟩ : (s : Shape) × (s.Idx → EReal)))
      concatenates_S512x128_S512x128_S512x128_S512x128_S512x128_S512x128_S512x128_S512x128_S512x128_S512x128_S512x128_S512x128_S512x128_S512x128_S512x128_S512x128_S512x2048_d1 := by sl_kernel_rfl

theorem lo512_apply (X : Vec Ideal S8192x128 .i32) (r : Fin 512) (k : Fin 2048) :
    lo512 X (ix2 r k) = half 0 (X (ix2 (⟨16 * r.val + k.val / 128, by omega⟩ : Fin 8192) (⟨k.val % 128, by omega⟩ : Fin 128))) := by
  rw [lo512_eq]
  refine (concatenate_ofFn_apply (t := S512x2048) (s₁ := S512x128) 1 (fun j : Fin 16 => lane512 0 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 0 (X z)) (funext fun a => Fin.ext ?_)
    match a with
    | ⟨0, _⟩ => show k.val / 128 + 16 * r.val = 16 * r.val + k.val / 128; omega
    | ⟨1, _⟩ => show 0 + 1 * (k.val % 128) = k.val % 128; omega

theorem hi512_eq (X : Vec Ideal S8192x128 .i32) :
    hi512 X = concatenate S512x2048 1 (List.ofFn fun j : Fin 16 => (⟨S512x128, lane512 1 X j⟩ : (s : Shape) × (s.Idx → EReal)))
      concatenates_S512x128_S512x128_S512x128_S512x128_S512x128_S512x128_S512x128_S512x128_S512x128_S512x128_S512x128_S512x128_S512x128_S512x128_S512x128_S512x128_S512x2048_d1 := by sl_kernel_rfl

theorem hi512_apply (X : Vec Ideal S8192x128 .i32) (r : Fin 512) (k : Fin 2048) :
    hi512 X (ix2 r k) = half 1 (X (ix2 (⟨16 * r.val + k.val / 128, by omega⟩ : Fin 8192) (⟨k.val % 128, by omega⟩ : Fin 128))) := by
  rw [hi512_eq]
  refine (concatenate_ofFn_apply (t := S512x2048) (s₁ := S512x128) 1 (fun j : Fin 16 => lane512 1 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 1 (X z)) (funext fun a => Fin.ext ?_)
    match a with
    | ⟨0, _⟩ => show k.val / 128 + 16 * r.val = 16 * r.val + k.val / 128; omega
    | ⟨1, _⟩ => show 0 + 1 * (k.val % 128) = k.val % 128; omega

end Cert.KernelIdeal.Hand

end
-- ==== Proof.GateTile.lean ====
module
public import proofs.«01_k».proof.Proof.GateHalf

/-!
What `expert_gate`'s body leaves in the output block, entry by entry: in a row below the number of rows the branch
computes, the product of the row's 4096 entries with a column of the expert's weights, times the logistic function of that
product. The kernel takes the product in two halves, the low halves of the words with the first 2048 rows of the weights
and the high halves with the last 2048.
-/

@[expose] public noncomputable section
set_option maxRecDepth 16384

namespace Cert.KernelIdeal.Hand

open Idealize.ShloMosaic Idealize.ShloMosaic.TcCoe Idealize.ShloMosaic.Tactic
open Cert.KernelIdeal Cert.KernelIdeal.Gen Cert.Proof
open scoped BigOperators

/-- A number times its logistic function. -/
def slu (y : EReal) : EReal := y * sg y

/-- The gate of row `r` at column `q`, from the block of words and the expert's weights. -/
def gateAt (X : Vec Ideal S8192x128 .i32) (D : Vec Ideal S4096x1024 .f32) (r : Fin 512) (q : Fin 1024) : EReal :=
  slu ((∑ k : Fin 2048, half 0 (X (ix2 (⟨16 * r.val + k.val / 128, by omega⟩ : Fin 8192) (⟨k.val % 128, by omega⟩ : Fin 128))) * D (ix2 (⟨k.val, by omega⟩ : Fin 4096) q))
    + ∑ k : Fin 2048, half 1 (X (ix2 (⟨16 * r.val + k.val / 128, by omega⟩ : Fin 8192) (⟨k.val % 128, by omega⟩ : Fin 128))) * D (ix2 (⟨2048 + k.val, by omega⟩ : Fin 4096) q))

/-- The gate in the first `R` rows, zero below them. -/
def gateTo (R : ℕ) (X : Vec Ideal S8192x128 .i32) (D : Vec Ideal S4096x1024 .f32) : Vec Ideal S512x1024 .bf16 :=
  fun y => if (y 0).val < R then gateAt X D (y 0) (y 1) else (0 : EReal)

theorem tile128_0 (lo hi : FVec Ideal S128x2048 .bf16) (A B : Vec Ideal S2048x256 .f32) (r : Fin 128) (q : Fin 256) :
    (k0_pay31 lo hi A B) (ix2 r q) = slu ((∑ k : Fin 2048, lo (ix2 r k) * A (ix2 k q)) + ∑ k : Fin 2048, hi (ix2 r k) * B (ix2 k q)) := by
  unfold slu sg
  rw [← zero_sub]
  pointwise [k0_pay31]

theorem tile128_1 (lo hi : FVec Ideal S128x2048 .bf16) (A B : Vec Ideal S2048x256 .f32) (r : Fin 128) (q : Fin 256) :
    (k0_pay34 (k0_pay32 lo hi A B) (k0_pay33 lo hi A B) (Scalar.ofBits .f32 0x3F800000#32 : Ideal .f32)) (ix2 r q) = slu ((∑ k : Fin 2048, lo (ix2 r k) * A (ix2 k q)) + ∑ k : Fin 2048, hi (ix2 r k) * B (ix2 k q)) := by
  unfold slu sg
  rw [← zero_sub]
  pointwise [k0_pay34, k0_pay32, k0_pay33]

theorem tile128_2 (lo hi : FVec Ideal S128x2048 .bf16) (A B : Vec Ideal S2048x256 .f32) (r : Fin 128) (q : Fin 256) :
    (k0_pay35 lo hi A B) (ix2 r q) = slu ((∑ k : Fin 2048, lo (ix2 r k) * A (ix2 k q)) + ∑ k : Fin 2048, hi (ix2 r k) * B (ix2 k q)) := by
  unfold slu sg
  rw [← zero_sub]
  pointwise [k0_pay35]

theorem tile128_3 (lo hi : FVec Ideal S128x2048 .bf16) (A B : Vec Ideal S2048x256 .f32) (r : Fin 128) (q : Fin 256) :
    (k0_pay133 hi (k0_pay36 lo A) B) (ix2 r q) = slu ((∑ k : Fin 2048, lo (ix2 r k) * A (ix2 k q)) + ∑ k : Fin 2048, hi (ix2 r k) * B (ix2 k q)) := by
  unfold slu sg
  rw [← zero_sub]
  pointwise [k0_pay133, k0_pay36]

theorem zero128 (j : S384x1024.Idx) : k0_pay134 (F := Ideal) j = (0 : EReal) := by
  pointwise [k0_pay134]

theorem piece128_0 (X : Vec Ideal S8192x128 .i32) (D : Vec Ideal S4096x1024 .f32) (j : S128x256.Idx) :
    (k0_pay31 (lo128 X) (hi128 X) (View.ld D (Rect.unit (s := S4096x1024) ![0, 0] S2048x256.size inb_S4096x1024_S2048x256_0_0)) (View.ld D (Rect.unit (s := S4096x1024) ![2048, 0] S2048x256.size inb_S4096x1024_S2048x256_2048_0))) j
      = gateTo 128 X D ((Rect.unit (s := S512x1024) ![0, 0] S128x256.size inb_S512x1024_S128x256_0_0).emb j) := by
  obtain ⟨r, q, rfl⟩ : ∃ (r : Fin 128) (q : Fin 256), j = ix2 r q := ⟨j 0, j 1, ValueIdx.eq_ix2 j⟩
  have e : (Rect.unit (s := S512x1024) ![0, 0] S128x256.size inb_S512x1024_S128x256_0_0).emb (ix2 r q) = ix2 (⟨r.val, by omega⟩ : Fin 512) (⟨0 + q.val, by omega⟩ : Fin 1024) := by
    funext a; apply Fin.ext
    match a with
    | ⟨0, _⟩ => show 0 + 1 * r.val = r.val; omega
    | ⟨1, _⟩ => show 0 + 1 * q.val = 0 + q.val; omega
  rw [e, tile128_0]
  refine Eq.trans ?_ (if_pos (show r.val < 128 from r.isLt)).symm
  unfold gateAt
  refine congrArg slu (congrArg₂ (· + ·) (Finset.sum_congr rfl fun k _ => congrArg₂ (· * ·) (lo128_apply X r k) ?_) (Finset.sum_congr rfl fun k _ => congrArg₂ (· * ·) (hi128_apply X r k) ?_))
  · refine congrArg D (funext fun a => Fin.ext ?_)
    match a with
    | ⟨0, _⟩ => show 0 + 1 * k.val = k.val; omega
    | ⟨1, _⟩ => show 0 + 1 * q.val = 0 + q.val; omega
  · refine congrArg D (funext fun a => Fin.ext ?_)
    match a with
    | ⟨0, _⟩ => show 2048 + 1 * k.val = 2048 + k.val; omega
    | ⟨1, _⟩ => show 0 + 1 * q.val = 0 + q.val; omega

theorem piece128_1 (X : Vec Ideal S8192x128 .i32) (D : Vec Ideal S4096x1024 .f32) (j : S128x256.Idx) :
    (k0_pay34 (k0_pay32 (lo128 X) (hi128 X) (View.ld D (Rect.unit (s := S4096x1024) ![0, 256] S2048x256.size inb_S4096x1024_S2048x256_0_256)) (View.ld D (Rect.unit (s := S4096x1024) ![2048, 256] S2048x256.size inb_S4096x1024_S2048x256_2048_256))) (k0_pay33 (lo128 X) (hi128 X) (View.ld D (Rect.unit (s := S4096x1024) ![0, 256] S2048x256.size inb_S4096x1024_S2048x256_0_256)) (View.ld D (Rect.unit (s := S4096x1024) ![2048, 256] S2048x256.size inb_S4096x1024_S2048x256_2048_256))) (Scalar.ofBits .f32 0x3F800000#32 : Ideal .f32)) j
      = gateTo 128 X D ((Rect.unit (s := S512x1024) ![0, 256] S128x256.size inb_S512x1024_S128x256_0_256).emb j) := by
  obtain ⟨r, q, rfl⟩ : ∃ (r : Fin 128) (q : Fin 256), j = ix2 r q := ⟨j 0, j 1, ValueIdx.eq_ix2 j⟩
  have e : (Rect.unit (s := S512x1024) ![0, 256] S128x256.size inb_S512x1024_S128x256_0_256).emb (ix2 r q) = ix2 (⟨r.val, by omega⟩ : Fin 512) (⟨256 + q.val, by omega⟩ : Fin 1024) := by
    funext a; apply Fin.ext
    match a with
    | ⟨0, _⟩ => show 0 + 1 * r.val = r.val; omega
    | ⟨1, _⟩ => show 256 + 1 * q.val = 256 + q.val; omega
  rw [e, tile128_1]
  refine Eq.trans ?_ (if_pos (show r.val < 128 from r.isLt)).symm
  unfold gateAt
  refine congrArg slu (congrArg₂ (· + ·) (Finset.sum_congr rfl fun k _ => congrArg₂ (· * ·) (lo128_apply X r k) ?_) (Finset.sum_congr rfl fun k _ => congrArg₂ (· * ·) (hi128_apply X r k) ?_))
  · refine congrArg D (funext fun a => Fin.ext ?_)
    match a with
    | ⟨0, _⟩ => show 0 + 1 * k.val = k.val; omega
    | ⟨1, _⟩ => show 256 + 1 * q.val = 256 + q.val; omega
  · refine congrArg D (funext fun a => Fin.ext ?_)
    match a with
    | ⟨0, _⟩ => show 2048 + 1 * k.val = 2048 + k.val; omega
    | ⟨1, _⟩ => show 256 + 1 * q.val = 256 + q.val; omega

theorem piece128_2 (X : Vec Ideal S8192x128 .i32) (D : Vec Ideal S4096x1024 .f32) (j : S128x256.Idx) :
    (k0_pay35 (lo128 X) (hi128 X) (View.ld D (Rect.unit (s := S4096x1024) ![0, 512] S2048x256.size inb_S4096x1024_S2048x256_0_512)) (View.ld D (Rect.unit (s := S4096x1024) ![2048, 512] S2048x256.size inb_S4096x1024_S2048x256_2048_512))) j
      = gateTo 128 X D ((Rect.unit (s := S512x1024) ![0, 512] S128x256.size inb_S512x1024_S128x256_0_512).emb j) := by
  obtain ⟨r, q, rfl⟩ : ∃ (r : Fin 128) (q : Fin 256), j = ix2 r q := ⟨j 0, j 1, ValueIdx.eq_ix2 j⟩
  have e : (Rect.unit (s := S512x1024) ![0, 512] S128x256.size inb_S512x1024_S128x256_0_512).emb (ix2 r q) = ix2 (⟨r.val, by omega⟩ : Fin 512) (⟨512 + q.val, by omega⟩ : Fin 1024) := by
    funext a; apply Fin.ext
    match a with
    | ⟨0, _⟩ => show 0 + 1 * r.val = r.val; omega
    | ⟨1, _⟩ => show 512 + 1 * q.val = 512 + q.val; omega
  rw [e, tile128_2]
  refine Eq.trans ?_ (if_pos (show r.val < 128 from r.isLt)).symm
  unfold gateAt
  refine congrArg slu (congrArg₂ (· + ·) (Finset.sum_congr rfl fun k _ => congrArg₂ (· * ·) (lo128_apply X r k) ?_) (Finset.sum_congr rfl fun k _ => congrArg₂ (· * ·) (hi128_apply X r k) ?_))
  · refine congrArg D (funext fun a => Fin.ext ?_)
    match a with
    | ⟨0, _⟩ => show 0 + 1 * k.val = k.val; omega
    | ⟨1, _⟩ => show 512 + 1 * q.val = 512 + q.val; omega
  · refine congrArg D (funext fun a => Fin.ext ?_)
    match a with
    | ⟨0, _⟩ => show 2048 + 1 * k.val = 2048 + k.val; omega
    | ⟨1, _⟩ => show 512 + 1 * q.val = 512 + q.val; omega

theorem piece128_3 (X : Vec Ideal S8192x128 .i32) (D : Vec Ideal S4096x1024 .f32) (j : S128x256.Idx) :
    (k0_pay133 (hi128 X) (k0_pay36 (lo128 X) (View.ld D (Rect.unit (s := S4096x1024) ![0, 768] S2048x256.size inb_S4096x1024_S2048x256_0_768))) (View.ld D (Rect.unit (s := S4096x1024) ![2048, 768] S2048x256.size inb_S4096x1024_S2048x256_2048_768))) j
      = gateTo 128 X D ((Rect.unit (s := S512x1024) ![0, 768] S128x256.size inb_S512x1024_S128x256_0_768).emb j) := by
  obtain ⟨r, q, rfl⟩ : ∃ (r : Fin 128) (q : Fin 256), j = ix2 r q := ⟨j 0, j 1, ValueIdx.eq_ix2 j⟩
  have e : (Rect.unit (s := S512x1024) ![0, 768] S128x256.size inb_S512x1024_S128x256_0_768).emb (ix2 r q) = ix2 (⟨r.val, by omega⟩ : Fin 512) (⟨768 + q.val, by omega⟩ : Fin 1024) := by
    funext a; apply Fin.ext
    match a with
    | ⟨0, _⟩ => show 0 + 1 * r.val = r.val; omega
    | ⟨1, _⟩ => show 768 + 1 * q.val = 768 + q.val; omega
  rw [e, tile128_3]
  refine Eq.trans ?_ (if_pos (show r.val < 128 from r.isLt)).symm
  unfold gateAt
  refine congrArg slu (congrArg₂ (· + ·) (Finset.sum_congr rfl fun k _ => congrArg₂ (· * ·) (lo128_apply X r k) ?_) (Finset.sum_congr rfl fun k _ => congrArg₂ (· * ·) (hi128_apply X r k) ?_))
  · refine congrArg D (funext fun a => Fin.ext ?_)
    match a with
    | ⟨0, _⟩ => show 0 + 1 * k.val = k.val; omega
    | ⟨1, _⟩ => show 768 + 1 * q.val = 768 + q.val; omega
  · refine congrArg D (funext fun a => Fin.ext ?_)
    match a with
    | ⟨0, _⟩ => show 2048 + 1 * k.val = 2048 + k.val; omega
    | ⟨1, _⟩ => show 768 + 1 * q.val = 768 + q.val; omega

/-- What the branch for 128 rows leaves in the output block. -/
theorem out128_eq (X : Vec Ideal S8192x128 .i32) (D : Vec Ideal S4096x1024 .f32) : out128 X D = gateTo 128 X D := by
  funext y
  refine View.canon_apply_of_pieces (Val := Elt Ideal) (e := .bf16) (gateTo 128 X D) _ ?_ y (cover128 _ _ _ _ _ y)
  intro p hp
  rcases List.mem_cons.1 hp with rfl | hp
  · intro j
    refine (zero128 j).trans (if_neg ?_).symm
    show ¬ (128 + 1 * (j 0).val < 128); omega
  rcases List.mem_cons.1 hp with rfl | hp
  · exact piece128_3 X D
  rcases List.mem_cons.1 hp with rfl | hp
  · exact piece128_2 X D
  rcases List.mem_cons.1 hp with rfl | hp
  · exact piece128_1 X D
  obtain rfl := List.mem_singleton.1 hp
  exact piece128_0 X D

theorem tile256_0 (lo hi : FVec Ideal S256x2048 .bf16) (A B : Vec Ideal S2048x256 .f32) (r : Fin 256) (q : Fin 256) :
    (k0_pay63 lo hi A B) (ix2 r q) = slu ((∑ k : Fin 2048, lo (ix2 r k) * A (ix2 k q)) + ∑ k : Fin 2048, hi (ix2 r k) * B (ix2 k q)) := by
  unfold slu sg
  rw [← zero_sub]
  pointwise [k0_pay63]

theorem tile256_1 (lo hi : FVec Ideal S256x2048 .bf16) (A B : Vec Ideal S2048x256 .f32) (r : Fin 256) (q : Fin 256) :
    (k0_pay66 (k0_pay64 lo hi A B) (k0_pay65 lo hi A B) (Scalar.ofBits .f32 0x3F800000#32 : Ideal .f32)) (ix2 r q) = slu ((∑ k : Fin 2048, lo (ix2 r k) * A (ix2 k q)) + ∑ k : Fin 2048, hi (ix2 r k) * B (ix2 k q)) := by
  unfold slu sg
  rw [← zero_sub]
  pointwise [k0_pay66, k0_pay64, k0_pay65]

theorem tile256_2 (lo hi : FVec Ideal S256x2048 .bf16) (A B : Vec Ideal S2048x256 .f32) (r : Fin 256) (q : Fin 256) :
    (k0_pay67 lo hi A B) (ix2 r q) = slu ((∑ k : Fin 2048, lo (ix2 r k) * A (ix2 k q)) + ∑ k : Fin 2048, hi (ix2 r k) * B (ix2 k q)) := by
  unfold slu sg
  rw [← zero_sub]
  pointwise [k0_pay67]

theorem tile256_3 (lo hi : FVec Ideal S256x2048 .bf16) (A B : Vec Ideal S2048x256 .f32) (r : Fin 256) (q : Fin 256) :
    (k0_pay135 hi (k0_pay68 lo A) B) (ix2 r q) = slu ((∑ k : Fin 2048, lo (ix2 r k) * A (ix2 k q)) + ∑ k : Fin 2048, hi (ix2 r k) * B (ix2 k q)) := by
  unfold slu sg
  rw [← zero_sub]
  pointwise [k0_pay135, k0_pay68]

theorem zero256 (j : S256x1024.Idx) : k0_pay136 (F := Ideal) j = (0 : EReal) := by
  pointwise [k0_pay136]

theorem piece256_0 (X : Vec Ideal S8192x128 .i32) (D : Vec Ideal S4096x1024 .f32) (j : S256x256.Idx) :
    (k0_pay63 (lo256 X) (hi256 X) (View.ld D (Rect.unit (s := S4096x1024) ![0, 0] S2048x256.size inb_S4096x1024_S2048x256_0_0)) (View.ld D (Rect.unit (s := S4096x1024) ![2048, 0] S2048x256.size inb_S4096x1024_S2048x256_2048_0))) j
      = gateTo 256 X D ((Rect.unit (s := S512x1024) ![0, 0] S256x256.size inb_S512x1024_S256x256_0_0).emb j) := by
  obtain ⟨r, q, rfl⟩ : ∃ (r : Fin 256) (q : Fin 256), j = ix2 r q := ⟨j 0, j 1, ValueIdx.eq_ix2 j⟩
  have e : (Rect.unit (s := S512x1024) ![0, 0] S256x256.size inb_S512x1024_S256x256_0_0).emb (ix2 r q) = ix2 (⟨r.val, by omega⟩ : Fin 512) (⟨0 + q.val, by omega⟩ : Fin 1024) := by
    funext a; apply Fin.ext
    match a with
    | ⟨0, _⟩ => show 0 + 1 * r.val = r.val; omega
    | ⟨1, _⟩ => show 0 + 1 * q.val = 0 + q.val; omega
  rw [e, tile256_0]
  refine Eq.trans ?_ (if_pos (show r.val < 256 from r.isLt)).symm
  unfold gateAt
  refine congrArg slu (congrArg₂ (· + ·) (Finset.sum_congr rfl fun k _ => congrArg₂ (· * ·) (lo256_apply X r k) ?_) (Finset.sum_congr rfl fun k _ => congrArg₂ (· * ·) (hi256_apply X r k) ?_))
  · refine congrArg D (funext fun a => Fin.ext ?_)
    match a with
    | ⟨0, _⟩ => show 0 + 1 * k.val = k.val; omega
    | ⟨1, _⟩ => show 0 + 1 * q.val = 0 + q.val; omega
  · refine congrArg D (funext fun a => Fin.ext ?_)
    match a with
    | ⟨0, _⟩ => show 2048 + 1 * k.val = 2048 + k.val; omega
    | ⟨1, _⟩ => show 0 + 1 * q.val = 0 + q.val; omega

theorem piece256_1 (X : Vec Ideal S8192x128 .i32) (D : Vec Ideal S4096x1024 .f32) (j : S256x256.Idx) :
    (k0_pay66 (k0_pay64 (lo256 X) (hi256 X) (View.ld D (Rect.unit (s := S4096x1024) ![0, 256] S2048x256.size inb_S4096x1024_S2048x256_0_256)) (View.ld D (Rect.unit (s := S4096x1024) ![2048, 256] S2048x256.size inb_S4096x1024_S2048x256_2048_256))) (k0_pay65 (lo256 X) (hi256 X) (View.ld D (Rect.unit (s := S4096x1024) ![0, 256] S2048x256.size inb_S4096x1024_S2048x256_0_256)) (View.ld D (Rect.unit (s := S4096x1024) ![2048, 256] S2048x256.size inb_S4096x1024_S2048x256_2048_256))) (Scalar.ofBits .f32 0x3F800000#32 : Ideal .f32)) j
      = gateTo 256 X D ((Rect.unit (s := S512x1024) ![0, 256] S256x256.size inb_S512x1024_S256x256_0_256).emb j) := by
  obtain ⟨r, q, rfl⟩ : ∃ (r : Fin 256) (q : Fin 256), j = ix2 r q := ⟨j 0, j 1, ValueIdx.eq_ix2 j⟩
  have e : (Rect.unit (s := S512x1024) ![0, 256] S256x256.size inb_S512x1024_S256x256_0_256).emb (ix2 r q) = ix2 (⟨r.val, by omega⟩ : Fin 512) (⟨256 + q.val, by omega⟩ : Fin 1024) := by
    funext a; apply Fin.ext
    match a with
    | ⟨0, _⟩ => show 0 + 1 * r.val = r.val; omega
    | ⟨1, _⟩ => show 256 + 1 * q.val = 256 + q.val; omega
  rw [e, tile256_1]
  refine Eq.trans ?_ (if_pos (show r.val < 256 from r.isLt)).symm
  unfold gateAt
  refine congrArg slu (congrArg₂ (· + ·) (Finset.sum_congr rfl fun k _ => congrArg₂ (· * ·) (lo256_apply X r k) ?_) (Finset.sum_congr rfl fun k _ => congrArg₂ (· * ·) (hi256_apply X r k) ?_))
  · refine congrArg D (funext fun a => Fin.ext ?_)
    match a with
    | ⟨0, _⟩ => show 0 + 1 * k.val = k.val; omega
    | ⟨1, _⟩ => show 256 + 1 * q.val = 256 + q.val; omega
  · refine congrArg D (funext fun a => Fin.ext ?_)
    match a with
    | ⟨0, _⟩ => show 2048 + 1 * k.val = 2048 + k.val; omega
    | ⟨1, _⟩ => show 256 + 1 * q.val = 256 + q.val; omega

theorem piece256_2 (X : Vec Ideal S8192x128 .i32) (D : Vec Ideal S4096x1024 .f32) (j : S256x256.Idx) :
    (k0_pay67 (lo256 X) (hi256 X) (View.ld D (Rect.unit (s := S4096x1024) ![0, 512] S2048x256.size inb_S4096x1024_S2048x256_0_512)) (View.ld D (Rect.unit (s := S4096x1024) ![2048, 512] S2048x256.size inb_S4096x1024_S2048x256_2048_512))) j
      = gateTo 256 X D ((Rect.unit (s := S512x1024) ![0, 512] S256x256.size inb_S512x1024_S256x256_0_512).emb j) := by
  obtain ⟨r, q, rfl⟩ : ∃ (r : Fin 256) (q : Fin 256), j = ix2 r q := ⟨j 0, j 1, ValueIdx.eq_ix2 j⟩
  have e : (Rect.unit (s := S512x1024) ![0, 512] S256x256.size inb_S512x1024_S256x256_0_512).emb (ix2 r q) = ix2 (⟨r.val, by omega⟩ : Fin 512) (⟨512 + q.val, by omega⟩ : Fin 1024) := by
    funext a; apply Fin.ext
    match a with
    | ⟨0, _⟩ => show 0 + 1 * r.val = r.val; omega
    | ⟨1, _⟩ => show 512 + 1 * q.val = 512 + q.val; omega
  rw [e, tile256_2]
  refine Eq.trans ?_ (if_pos (show r.val < 256 from r.isLt)).symm
  unfold gateAt
  refine congrArg slu (congrArg₂ (· + ·) (Finset.sum_congr rfl fun k _ => congrArg₂ (· * ·) (lo256_apply X r k) ?_) (Finset.sum_congr rfl fun k _ => congrArg₂ (· * ·) (hi256_apply X r k) ?_))
  · refine congrArg D (funext fun a => Fin.ext ?_)
    match a with
    | ⟨0, _⟩ => show 0 + 1 * k.val = k.val; omega
    | ⟨1, _⟩ => show 512 + 1 * q.val = 512 + q.val; omega
  · refine congrArg D (funext fun a => Fin.ext ?_)
    match a with
    | ⟨0, _⟩ => show 2048 + 1 * k.val = 2048 + k.val; omega
    | ⟨1, _⟩ => show 512 + 1 * q.val = 512 + q.val; omega

theorem piece256_3 (X : Vec Ideal S8192x128 .i32) (D : Vec Ideal S4096x1024 .f32) (j : S256x256.Idx) :
    (k0_pay135 (hi256 X) (k0_pay68 (lo256 X) (View.ld D (Rect.unit (s := S4096x1024) ![0, 768] S2048x256.size inb_S4096x1024_S2048x256_0_768))) (View.ld D (Rect.unit (s := S4096x1024) ![2048, 768] S2048x256.size inb_S4096x1024_S2048x256_2048_768))) j
      = gateTo 256 X D ((Rect.unit (s := S512x1024) ![0, 768] S256x256.size inb_S512x1024_S256x256_0_768).emb j) := by
  obtain ⟨r, q, rfl⟩ : ∃ (r : Fin 256) (q : Fin 256), j = ix2 r q := ⟨j 0, j 1, ValueIdx.eq_ix2 j⟩
  have e : (Rect.unit (s := S512x1024) ![0, 768] S256x256.size inb_S512x1024_S256x256_0_768).emb (ix2 r q) = ix2 (⟨r.val, by omega⟩ : Fin 512) (⟨768 + q.val, by omega⟩ : Fin 1024) := by
    funext a; apply Fin.ext
    match a with
    | ⟨0, _⟩ => show 0 + 1 * r.val = r.val; omega
    | ⟨1, _⟩ => show 768 + 1 * q.val = 768 + q.val; omega
  rw [e, tile256_3]
  refine Eq.trans ?_ (if_pos (show r.val < 256 from r.isLt)).symm
  unfold gateAt
  refine congrArg slu (congrArg₂ (· + ·) (Finset.sum_congr rfl fun k _ => congrArg₂ (· * ·) (lo256_apply X r k) ?_) (Finset.sum_congr rfl fun k _ => congrArg₂ (· * ·) (hi256_apply X r k) ?_))
  · refine congrArg D (funext fun a => Fin.ext ?_)
    match a with
    | ⟨0, _⟩ => show 0 + 1 * k.val = k.val; omega
    | ⟨1, _⟩ => show 768 + 1 * q.val = 768 + q.val; omega
  · refine congrArg D (funext fun a => Fin.ext ?_)
    match a with
    | ⟨0, _⟩ => show 2048 + 1 * k.val = 2048 + k.val; omega
    | ⟨1, _⟩ => show 768 + 1 * q.val = 768 + q.val; omega

/-- What the branch for 256 rows leaves in the output block. -/
theorem out256_eq (X : Vec Ideal S8192x128 .i32) (D : Vec Ideal S4096x1024 .f32) : out256 X D = gateTo 256 X D := by
  funext y
  refine View.canon_apply_of_pieces (Val := Elt Ideal) (e := .bf16) (gateTo 256 X D) _ ?_ y (cover256 _ _ _ _ _ y)
  intro p hp
  rcases List.mem_cons.1 hp with rfl | hp
  · intro j
    refine (zero256 j).trans (if_neg ?_).symm
    show ¬ (256 + 1 * (j 0).val < 256); omega
  rcases List.mem_cons.1 hp with rfl | hp
  · exact piece256_3 X D
  rcases List.mem_cons.1 hp with rfl | hp
  · exact piece256_2 X D
  rcases List.mem_cons.1 hp with rfl | hp
  · exact piece256_1 X D
  obtain rfl := List.mem_singleton.1 hp
  exact piece256_0 X D

theorem tile384_0 (lo hi : FVec Ideal S384x2048 .bf16) (A B : Vec Ideal S2048x256 .f32) (r : Fin 384) (q : Fin 256) :
    (k0_pay95 lo hi A B) (ix2 r q) = slu ((∑ k : Fin 2048, lo (ix2 r k) * A (ix2 k q)) + ∑ k : Fin 2048, hi (ix2 r k) * B (ix2 k q)) := by
  unfold slu sg
  rw [← zero_sub]
  pointwise [k0_pay95]

theorem tile384_1 (lo hi : FVec Ideal S384x2048 .bf16) (A B : Vec Ideal S2048x256 .f32) (r : Fin 384) (q : Fin 256) :
    (k0_pay98 (k0_pay96 lo hi A B) (k0_pay97 lo hi A B) (Scalar.ofBits .f32 0x3F800000#32 : Ideal .f32)) (ix2 r q) = slu ((∑ k : Fin 2048, lo (ix2 r k) * A (ix2 k q)) + ∑ k : Fin 2048, hi (ix2 r k) * B (ix2 k q)) := by
  unfold slu sg
  rw [← zero_sub]
  pointwise [k0_pay98, k0_pay96, k0_pay97]

theorem tile384_2 (lo hi : FVec Ideal S384x2048 .bf16) (A B : Vec Ideal S2048x256 .f32) (r : Fin 384) (q : Fin 256) :
    (k0_pay99 lo hi A B) (ix2 r q) = slu ((∑ k : Fin 2048, lo (ix2 r k) * A (ix2 k q)) + ∑ k : Fin 2048, hi (ix2 r k) * B (ix2 k q)) := by
  unfold slu sg
  rw [← zero_sub]
  pointwise [k0_pay99]

theorem tile384_3 (lo hi : FVec Ideal S384x2048 .bf16) (A B : Vec Ideal S2048x256 .f32) (r : Fin 384) (q : Fin 256) :
    (k0_pay1 hi (k0_pay100 lo A) B) (ix2 r q) = slu ((∑ k : Fin 2048, lo (ix2 r k) * A (ix2 k q)) + ∑ k : Fin 2048, hi (ix2 r k) * B (ix2 k q)) := by
  unfold slu sg
  rw [← zero_sub]
  pointwise [k0_pay1, k0_pay100]

theorem zero384 (j : S128x1024.Idx) : k0_pay2 (F := Ideal) j = (0 : EReal) := by
  pointwise [k0_pay2]

theorem piece384_0 (X : Vec Ideal S8192x128 .i32) (D : Vec Ideal S4096x1024 .f32) (j : S384x256.Idx) :
    (k0_pay95 (lo384 X) (hi384 X) (View.ld D (Rect.unit (s := S4096x1024) ![0, 0] S2048x256.size inb_S4096x1024_S2048x256_0_0)) (View.ld D (Rect.unit (s := S4096x1024) ![2048, 0] S2048x256.size inb_S4096x1024_S2048x256_2048_0))) j
      = gateTo 384 X D ((Rect.unit (s := S512x1024) ![0, 0] S384x256.size inb_S512x1024_S384x256_0_0).emb j) := by
  obtain ⟨r, q, rfl⟩ : ∃ (r : Fin 384) (q : Fin 256), j = ix2 r q := ⟨j 0, j 1, ValueIdx.eq_ix2 j⟩
  have e : (Rect.unit (s := S512x1024) ![0, 0] S384x256.size inb_S512x1024_S384x256_0_0).emb (ix2 r q) = ix2 (⟨r.val, by omega⟩ : Fin 512) (⟨0 + q.val, by omega⟩ : Fin 1024) := by
    funext a; apply Fin.ext
    match a with
    | ⟨0, _⟩ => show 0 + 1 * r.val = r.val; omega
    | ⟨1, _⟩ => show 0 + 1 * q.val = 0 + q.val; omega
  rw [e, tile384_0]
  refine Eq.trans ?_ (if_pos (show r.val < 384 from r.isLt)).symm
  unfold gateAt
  refine congrArg slu (congrArg₂ (· + ·) (Finset.sum_congr rfl fun k _ => congrArg₂ (· * ·) (lo384_apply X r k) ?_) (Finset.sum_congr rfl fun k _ => congrArg₂ (· * ·) (hi384_apply X r k) ?_))
  · refine congrArg D (funext fun a => Fin.ext ?_)
    match a with
    | ⟨0, _⟩ => show 0 + 1 * k.val = k.val; omega
    | ⟨1, _⟩ => show 0 + 1 * q.val = 0 + q.val; omega
  · refine congrArg D (funext fun a => Fin.ext ?_)
    match a with
    | ⟨0, _⟩ => show 2048 + 1 * k.val = 2048 + k.val; omega
    | ⟨1, _⟩ => show 0 + 1 * q.val = 0 + q.val; omega

theorem piece384_1 (X : Vec Ideal S8192x128 .i32) (D : Vec Ideal S4096x1024 .f32) (j : S384x256.Idx) :
    (k0_pay98 (k0_pay96 (lo384 X) (hi384 X) (View.ld D (Rect.unit (s := S4096x1024) ![0, 256] S2048x256.size inb_S4096x1024_S2048x256_0_256)) (View.ld D (Rect.unit (s := S4096x1024) ![2048, 256] S2048x256.size inb_S4096x1024_S2048x256_2048_256))) (k0_pay97 (lo384 X) (hi384 X) (View.ld D (Rect.unit (s := S4096x1024) ![0, 256] S2048x256.size inb_S4096x1024_S2048x256_0_256)) (View.ld D (Rect.unit (s := S4096x1024) ![2048, 256] S2048x256.size inb_S4096x1024_S2048x256_2048_256))) (Scalar.ofBits .f32 0x3F800000#32 : Ideal .f32)) j
      = gateTo 384 X D ((Rect.unit (s := S512x1024) ![0, 256] S384x256.size inb_S512x1024_S384x256_0_256).emb j) := by
  obtain ⟨r, q, rfl⟩ : ∃ (r : Fin 384) (q : Fin 256), j = ix2 r q := ⟨j 0, j 1, ValueIdx.eq_ix2 j⟩
  have e : (Rect.unit (s := S512x1024) ![0, 256] S384x256.size inb_S512x1024_S384x256_0_256).emb (ix2 r q) = ix2 (⟨r.val, by omega⟩ : Fin 512) (⟨256 + q.val, by omega⟩ : Fin 1024) := by
    funext a; apply Fin.ext
    match a with
    | ⟨0, _⟩ => show 0 + 1 * r.val = r.val; omega
    | ⟨1, _⟩ => show 256 + 1 * q.val = 256 + q.val; omega
  rw [e, tile384_1]
  refine Eq.trans ?_ (if_pos (show r.val < 384 from r.isLt)).symm
  unfold gateAt
  refine congrArg slu (congrArg₂ (· + ·) (Finset.sum_congr rfl fun k _ => congrArg₂ (· * ·) (lo384_apply X r k) ?_) (Finset.sum_congr rfl fun k _ => congrArg₂ (· * ·) (hi384_apply X r k) ?_))
  · refine congrArg D (funext fun a => Fin.ext ?_)
    match a with
    | ⟨0, _⟩ => show 0 + 1 * k.val = k.val; omega
    | ⟨1, _⟩ => show 256 + 1 * q.val = 256 + q.val; omega
  · refine congrArg D (funext fun a => Fin.ext ?_)
    match a with
    | ⟨0, _⟩ => show 2048 + 1 * k.val = 2048 + k.val; omega
    | ⟨1, _⟩ => show 256 + 1 * q.val = 256 + q.val; omega

theorem piece384_2 (X : Vec Ideal S8192x128 .i32) (D : Vec Ideal S4096x1024 .f32) (j : S384x256.Idx) :
    (k0_pay99 (lo384 X) (hi384 X) (View.ld D (Rect.unit (s := S4096x1024) ![0, 512] S2048x256.size inb_S4096x1024_S2048x256_0_512)) (View.ld D (Rect.unit (s := S4096x1024) ![2048, 512] S2048x256.size inb_S4096x1024_S2048x256_2048_512))) j
      = gateTo 384 X D ((Rect.unit (s := S512x1024) ![0, 512] S384x256.size inb_S512x1024_S384x256_0_512).emb j) := by
  obtain ⟨r, q, rfl⟩ : ∃ (r : Fin 384) (q : Fin 256), j = ix2 r q := ⟨j 0, j 1, ValueIdx.eq_ix2 j⟩
  have e : (Rect.unit (s := S512x1024) ![0, 512] S384x256.size inb_S512x1024_S384x256_0_512).emb (ix2 r q) = ix2 (⟨r.val, by omega⟩ : Fin 512) (⟨512 + q.val, by omega⟩ : Fin 1024) := by
    funext a; apply Fin.ext
    match a with
    | ⟨0, _⟩ => show 0 + 1 * r.val = r.val; omega
    | ⟨1, _⟩ => show 512 + 1 * q.val = 512 + q.val; omega
  rw [e, tile384_2]
  refine Eq.trans ?_ (if_pos (show r.val < 384 from r.isLt)).symm
  unfold gateAt
  refine congrArg slu (congrArg₂ (· + ·) (Finset.sum_congr rfl fun k _ => congrArg₂ (· * ·) (lo384_apply X r k) ?_) (Finset.sum_congr rfl fun k _ => congrArg₂ (· * ·) (hi384_apply X r k) ?_))
  · refine congrArg D (funext fun a => Fin.ext ?_)
    match a with
    | ⟨0, _⟩ => show 0 + 1 * k.val = k.val; omega
    | ⟨1, _⟩ => show 512 + 1 * q.val = 512 + q.val; omega
  · refine congrArg D (funext fun a => Fin.ext ?_)
    match a with
    | ⟨0, _⟩ => show 2048 + 1 * k.val = 2048 + k.val; omega
    | ⟨1, _⟩ => show 512 + 1 * q.val = 512 + q.val; omega

theorem piece384_3 (X : Vec Ideal S8192x128 .i32) (D : Vec Ideal S4096x1024 .f32) (j : S384x256.Idx) :
    (k0_pay1 (hi384 X) (k0_pay100 (lo384 X) (View.ld D (Rect.unit (s := S4096x1024) ![0, 768] S2048x256.size inb_S4096x1024_S2048x256_0_768))) (View.ld D (Rect.unit (s := S4096x1024) ![2048, 768] S2048x256.size inb_S4096x1024_S2048x256_2048_768))) j
      = gateTo 384 X D ((Rect.unit (s := S512x1024) ![0, 768] S384x256.size inb_S512x1024_S384x256_0_768).emb j) := by
  obtain ⟨r, q, rfl⟩ : ∃ (r : Fin 384) (q : Fin 256), j = ix2 r q := ⟨j 0, j 1, ValueIdx.eq_ix2 j⟩
  have e : (Rect.unit (s := S512x1024) ![0, 768] S384x256.size inb_S512x1024_S384x256_0_768).emb (ix2 r q) = ix2 (⟨r.val, by omega⟩ : Fin 512) (⟨768 + q.val, by omega⟩ : Fin 1024) := by
    funext a; apply Fin.ext
    match a with
    | ⟨0, _⟩ => show 0 + 1 * r.val = r.val; omega
    | ⟨1, _⟩ => show 768 + 1 * q.val = 768 + q.val; omega
  rw [e, tile384_3]
  refine Eq.trans ?_ (if_pos (show r.val < 384 from r.isLt)).symm
  unfold gateAt
  refine congrArg slu (congrArg₂ (· + ·) (Finset.sum_congr rfl fun k _ => congrArg₂ (· * ·) (lo384_apply X r k) ?_) (Finset.sum_congr rfl fun k _ => congrArg₂ (· * ·) (hi384_apply X r k) ?_))
  · refine congrArg D (funext fun a => Fin.ext ?_)
    match a with
    | ⟨0, _⟩ => show 0 + 1 * k.val = k.val; omega
    | ⟨1, _⟩ => show 768 + 1 * q.val = 768 + q.val; omega
  · refine congrArg D (funext fun a => Fin.ext ?_)
    match a with
    | ⟨0, _⟩ => show 2048 + 1 * k.val = 2048 + k.val; omega
    | ⟨1, _⟩ => show 768 + 1 * q.val = 768 + q.val; omega

/-- What the branch for 384 rows leaves in the output block. -/
theorem out384_eq (X : Vec Ideal S8192x128 .i32) (D : Vec Ideal S4096x1024 .f32) : out384 X D = gateTo 384 X D := by
  funext y
  refine View.canon_apply_of_pieces (Val := Elt Ideal) (e := .bf16) (gateTo 384 X D) _ ?_ y (cover384 _ _ _ _ _ y)
  intro p hp
  rcases List.mem_cons.1 hp with rfl | hp
  · intro j
    refine (zero384 j).trans (if_neg ?_).symm
    show ¬ (384 + 1 * (j 0).val < 384); omega
  rcases List.mem_cons.1 hp with rfl | hp
  · exact piece384_3 X D
  rcases List.mem_cons.1 hp with rfl | hp
  · exact piece384_2 X D
  rcases List.mem_cons.1 hp with rfl | hp
  · exact piece384_1 X D
  obtain rfl := List.mem_singleton.1 hp
  exact piece384_0 X D

theorem tile512_0 (lo hi : FVec Ideal S512x2048 .bf16) (A B : Vec Ideal S2048x256 .f32) (r : Fin 512) (q : Fin 256) :
    (k0_pay127 lo hi A B) (ix2 r q) = slu ((∑ k : Fin 2048, lo (ix2 r k) * A (ix2 k q)) + ∑ k : Fin 2048, hi (ix2 r k) * B (ix2 k q)) := by
  unfold slu sg
  rw [← zero_sub]
  pointwise [k0_pay127]

theorem tile512_1 (lo hi : FVec Ideal S512x2048 .bf16) (A B : Vec Ideal S2048x256 .f32) (r : Fin 512) (q : Fin 256) :
    (k0_pay130 (k0_pay128 lo hi A B) (k0_pay129 lo hi A B) (Scalar.ofBits .f32 0x3F800000#32 : Ideal .f32)) (ix2 r q) = slu ((∑ k : Fin 2048, lo (ix2 r k) * A (ix2 k q)) + ∑ k : Fin 2048, hi (ix2 r k) * B (ix2 k q)) := by
  unfold slu sg
  rw [← zero_sub]
  pointwise [k0_pay130, k0_pay128, k0_pay129]

theorem tile512_2 (lo hi : FVec Ideal S512x2048 .bf16) (A B : Vec Ideal S2048x256 .f32) (r : Fin 512) (q : Fin 256) :
    (k0_pay131 lo hi A B) (ix2 r q) = slu ((∑ k : Fin 2048, lo (ix2 r k) * A (ix2 k q)) + ∑ k : Fin 2048, hi (ix2 r k) * B (ix2 k q)) := by
  unfold slu sg
  rw [← zero_sub]
  pointwise [k0_pay131]

theorem tile512_3 (lo hi : FVec Ideal S512x2048 .bf16) (A B : Vec Ideal S2048x256 .f32) (r : Fin 512) (q : Fin 256) :
    (k0_pay3 hi (k0_pay132 lo A) B) (ix2 r q) = slu ((∑ k : Fin 2048, lo (ix2 r k) * A (ix2 k q)) + ∑ k : Fin 2048, hi (ix2 r k) * B (ix2 k q)) := by
  unfold slu sg
  rw [← zero_sub]
  pointwise [k0_pay3, k0_pay132]

theorem piece512_0 (X : Vec Ideal S8192x128 .i32) (D : Vec Ideal S4096x1024 .f32) (j : S512x256.Idx) :
    (k0_pay127 (lo512 X) (hi512 X) (View.ld D (Rect.unit (s := S4096x1024) ![0, 0] S2048x256.size inb_S4096x1024_S2048x256_0_0)) (View.ld D (Rect.unit (s := S4096x1024) ![2048, 0] S2048x256.size inb_S4096x1024_S2048x256_2048_0))) j
      = gateTo 512 X D ((Rect.unit (s := S512x1024) ![0, 0] S512x256.size inb_S512x1024_S512x256_0_0).emb j) := by
  obtain ⟨r, q, rfl⟩ : ∃ (r : Fin 512) (q : Fin 256), j = ix2 r q := ⟨j 0, j 1, ValueIdx.eq_ix2 j⟩
  have e : (Rect.unit (s := S512x1024) ![0, 0] S512x256.size inb_S512x1024_S512x256_0_0).emb (ix2 r q) = ix2 (⟨r.val, by omega⟩ : Fin 512) (⟨0 + q.val, by omega⟩ : Fin 1024) := by
    funext a; apply Fin.ext
    match a with
    | ⟨0, _⟩ => show 0 + 1 * r.val = r.val; omega
    | ⟨1, _⟩ => show 0 + 1 * q.val = 0 + q.val; omega
  rw [e, tile512_0]
  refine Eq.trans ?_ (if_pos (show r.val < 512 from r.isLt)).symm
  unfold gateAt
  refine congrArg slu (congrArg₂ (· + ·) (Finset.sum_congr rfl fun k _ => congrArg₂ (· * ·) (lo512_apply X r k) ?_) (Finset.sum_congr rfl fun k _ => congrArg₂ (· * ·) (hi512_apply X r k) ?_))
  · refine congrArg D (funext fun a => Fin.ext ?_)
    match a with
    | ⟨0, _⟩ => show 0 + 1 * k.val = k.val; omega
    | ⟨1, _⟩ => show 0 + 1 * q.val = 0 + q.val; omega
  · refine congrArg D (funext fun a => Fin.ext ?_)
    match a with
    | ⟨0, _⟩ => show 2048 + 1 * k.val = 2048 + k.val; omega
    | ⟨1, _⟩ => show 0 + 1 * q.val = 0 + q.val; omega

theorem piece512_1 (X : Vec Ideal S8192x128 .i32) (D : Vec Ideal S4096x1024 .f32) (j : S512x256.Idx) :
    (k0_pay130 (k0_pay128 (lo512 X) (hi512 X) (View.ld D (Rect.unit (s := S4096x1024) ![0, 256] S2048x256.size inb_S4096x1024_S2048x256_0_256)) (View.ld D (Rect.unit (s := S4096x1024) ![2048, 256] S2048x256.size inb_S4096x1024_S2048x256_2048_256))) (k0_pay129 (lo512 X) (hi512 X) (View.ld D (Rect.unit (s := S4096x1024) ![0, 256] S2048x256.size inb_S4096x1024_S2048x256_0_256)) (View.ld D (Rect.unit (s := S4096x1024) ![2048, 256] S2048x256.size inb_S4096x1024_S2048x256_2048_256))) (Scalar.ofBits .f32 0x3F800000#32 : Ideal .f32)) j
      = gateTo 512 X D ((Rect.unit (s := S512x1024) ![0, 256] S512x256.size inb_S512x1024_S512x256_0_256).emb j) := by
  obtain ⟨r, q, rfl⟩ : ∃ (r : Fin 512) (q : Fin 256), j = ix2 r q := ⟨j 0, j 1, ValueIdx.eq_ix2 j⟩
  have e : (Rect.unit (s := S512x1024) ![0, 256] S512x256.size inb_S512x1024_S512x256_0_256).emb (ix2 r q) = ix2 (⟨r.val, by omega⟩ : Fin 512) (⟨256 + q.val, by omega⟩ : Fin 1024) := by
    funext a; apply Fin.ext
    match a with
    | ⟨0, _⟩ => show 0 + 1 * r.val = r.val; omega
    | ⟨1, _⟩ => show 256 + 1 * q.val = 256 + q.val; omega
  rw [e, tile512_1]
  refine Eq.trans ?_ (if_pos (show r.val < 512 from r.isLt)).symm
  unfold gateAt
  refine congrArg slu (congrArg₂ (· + ·) (Finset.sum_congr rfl fun k _ => congrArg₂ (· * ·) (lo512_apply X r k) ?_) (Finset.sum_congr rfl fun k _ => congrArg₂ (· * ·) (hi512_apply X r k) ?_))
  · refine congrArg D (funext fun a => Fin.ext ?_)
    match a with
    | ⟨0, _⟩ => show 0 + 1 * k.val = k.val; omega
    | ⟨1, _⟩ => show 256 + 1 * q.val = 256 + q.val; omega
  · refine congrArg D (funext fun a => Fin.ext ?_)
    match a with
    | ⟨0, _⟩ => show 2048 + 1 * k.val = 2048 + k.val; omega
    | ⟨1, _⟩ => show 256 + 1 * q.val = 256 + q.val; omega

theorem piece512_2 (X : Vec Ideal S8192x128 .i32) (D : Vec Ideal S4096x1024 .f32) (j : S512x256.Idx) :
    (k0_pay131 (lo512 X) (hi512 X) (View.ld D (Rect.unit (s := S4096x1024) ![0, 512] S2048x256.size inb_S4096x1024_S2048x256_0_512)) (View.ld D (Rect.unit (s := S4096x1024) ![2048, 512] S2048x256.size inb_S4096x1024_S2048x256_2048_512))) j
      = gateTo 512 X D ((Rect.unit (s := S512x1024) ![0, 512] S512x256.size inb_S512x1024_S512x256_0_512).emb j) := by
  obtain ⟨r, q, rfl⟩ : ∃ (r : Fin 512) (q : Fin 256), j = ix2 r q := ⟨j 0, j 1, ValueIdx.eq_ix2 j⟩
  have e : (Rect.unit (s := S512x1024) ![0, 512] S512x256.size inb_S512x1024_S512x256_0_512).emb (ix2 r q) = ix2 (⟨r.val, by omega⟩ : Fin 512) (⟨512 + q.val, by omega⟩ : Fin 1024) := by
    funext a; apply Fin.ext
    match a with
    | ⟨0, _⟩ => show 0 + 1 * r.val = r.val; omega
    | ⟨1, _⟩ => show 512 + 1 * q.val = 512 + q.val; omega
  rw [e, tile512_2]
  refine Eq.trans ?_ (if_pos (show r.val < 512 from r.isLt)).symm
  unfold gateAt
  refine congrArg slu (congrArg₂ (· + ·) (Finset.sum_congr rfl fun k _ => congrArg₂ (· * ·) (lo512_apply X r k) ?_) (Finset.sum_congr rfl fun k _ => congrArg₂ (· * ·) (hi512_apply X r k) ?_))
  · refine congrArg D (funext fun a => Fin.ext ?_)
    match a with
    | ⟨0, _⟩ => show 0 + 1 * k.val = k.val; omega
    | ⟨1, _⟩ => show 512 + 1 * q.val = 512 + q.val; omega
  · refine congrArg D (funext fun a => Fin.ext ?_)
    match a with
    | ⟨0, _⟩ => show 2048 + 1 * k.val = 2048 + k.val; omega
    | ⟨1, _⟩ => show 512 + 1 * q.val = 512 + q.val; omega

theorem piece512_3 (X : Vec Ideal S8192x128 .i32) (D : Vec Ideal S4096x1024 .f32) (j : S512x256.Idx) :
    (k0_pay3 (hi512 X) (k0_pay132 (lo512 X) (View.ld D (Rect.unit (s := S4096x1024) ![0, 768] S2048x256.size inb_S4096x1024_S2048x256_0_768))) (View.ld D (Rect.unit (s := S4096x1024) ![2048, 768] S2048x256.size inb_S4096x1024_S2048x256_2048_768))) j
      = gateTo 512 X D ((Rect.unit (s := S512x1024) ![0, 768] S512x256.size inb_S512x1024_S512x256_0_768).emb j) := by
  obtain ⟨r, q, rfl⟩ : ∃ (r : Fin 512) (q : Fin 256), j = ix2 r q := ⟨j 0, j 1, ValueIdx.eq_ix2 j⟩
  have e : (Rect.unit (s := S512x1024) ![0, 768] S512x256.size inb_S512x1024_S512x256_0_768).emb (ix2 r q) = ix2 (⟨r.val, by omega⟩ : Fin 512) (⟨768 + q.val, by omega⟩ : Fin 1024) := by
    funext a; apply Fin.ext
    match a with
    | ⟨0, _⟩ => show 0 + 1 * r.val = r.val; omega
    | ⟨1, _⟩ => show 768 + 1 * q.val = 768 + q.val; omega
  rw [e, tile512_3]
  refine Eq.trans ?_ (if_pos (show r.val < 512 from r.isLt)).symm
  unfold gateAt
  refine congrArg slu (congrArg₂ (· + ·) (Finset.sum_congr rfl fun k _ => congrArg₂ (· * ·) (lo512_apply X r k) ?_) (Finset.sum_congr rfl fun k _ => congrArg₂ (· * ·) (hi512_apply X r k) ?_))
  · refine congrArg D (funext fun a => Fin.ext ?_)
    match a with
    | ⟨0, _⟩ => show 0 + 1 * k.val = k.val; omega
    | ⟨1, _⟩ => show 768 + 1 * q.val = 768 + q.val; omega
  · refine congrArg D (funext fun a => Fin.ext ?_)
    match a with
    | ⟨0, _⟩ => show 2048 + 1 * k.val = 2048 + k.val; omega
    | ⟨1, _⟩ => show 768 + 1 * q.val = 768 + q.val; omega

/-- What the branch for 512 rows leaves in the output block. -/
theorem out512_eq (X : Vec Ideal S8192x128 .i32) (D : Vec Ideal S4096x1024 .f32) : out512 X D = gateTo 512 X D := by
  funext y
  refine View.canon_apply_of_pieces (Val := Elt Ideal) (e := .bf16) (gateTo 512 X D) _ ?_ y (cover512 _ _ _ _ y)
  intro p hp
  rcases List.mem_cons.1 hp with rfl | hp
  · exact piece512_3 X D
  rcases List.mem_cons.1 hp with rfl | hp
  · exact piece512_2 X D
  rcases List.mem_cons.1 hp with rfl | hp
  · exact piece512_1 X D
  obtain rfl := List.mem_singleton.1 hp
  exact piece512_0 X D

/-- The output block in the rows that hold a token, whatever their number. -/
theorem outv_eq (n : BitVec 32) (X : Vec Ideal S8192x128 .i32) (D : Vec Ideal S4096x1024 .f32) (r : Fin 512) (q : Fin 1024) (h : r.val < n.toNat) :
    outv n X D (ix2 r q) = gateAt X D r q := by
  unfold outv
  rw [if_neg (by omega)]
  split_ifs
  · rw [out128_eq]; exact if_pos (show r.val < 128 by omega)
  · rw [out256_eq]; exact if_pos (show r.val < 256 by omega)
  · rw [out384_eq]; exact if_pos (show r.val < 384 by omega)
  · rw [out512_eq]; exact if_pos r.isLt

end Cert.KernelIdeal.Hand

end
-- ==== Proof.GateValue.lean ====
module
public import proofs.«01_k».proof.Proof.GateTile
public import proofs.«01_k».proof.Proof.GateClaim

/-!
What `expert_gate` leaves in its result: every row of a block that holds a token is the gate of that row with the weights
of the block's expert.
-/

@[expose] public noncomputable section
set_option maxRecDepth 16384

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.Proof Cert.GatePlan
open scoped BigOperators

/-- The gate of row `R` at column `q` with expert `e`'s weights, from the words of all rows and all experts' weights. -/
def gateRow (xs : Vec Ideal S786432x128 .i32) (w : Vec Ideal S32x4096x1024 .f32) (e : Fin 32) (R : Fin 49152) (q : Fin 1024) : EReal :=
  slu ((∑ k : Fin 2048, half 0 (xs (ix2 (⟨16 * R.val + k.val / 128, by omega⟩ : Fin 786432) (⟨k.val % 128, by omega⟩ : Fin 128))) * w (ix3 e (⟨k.val, by omega⟩ : Fin 4096) q))
    + ∑ k : Fin 2048, half 1 (xs (ix2 (⟨16 * R.val + k.val / 128, by omega⟩ : Fin 786432) (⟨k.val % 128, by omega⟩ : Fin 128))) * w (ix3 e (⟨2048 + k.val, by omega⟩ : Fin 4096) q))

variable (m : (ℓ : Loc nD τ sig) → Buf (Elt Ideal) ℓ) (P : ∀ c : Dev nD, Plan m c)

/-- The result's blocks follow one another down the rows. -/
theorem index1 (t : Fin (cfgM m P).N) : ((cfgM m P).win 1).index t = ![t.val, 0] := by
  have h : (BitVec.ofNat 32 (grid0.coords t 0).val).toNat = t.val := (coord0 _).trans (coords_val t)
  show (![(BitVec.ofNat 32 (grid0.coords t 0).val).toNat, 0] : Fin 2 → ℕ) = _
  rw [h]

/-- A block of words is the one of its point, or the last that holds a token. -/
theorem index0 (t : Fin (cfgM m P).N) : ((cfgM m P).win 0).index t = ![min t.val ((V m (0 : Dev nD) main_arg4 (Shape.Idx.ofFin (0 : Fin 1))).toNat - 1), 0] := by
  have hl : t.val < 96 := lt_of_lt_of_eq t.isLt N_0
  have h : (BitVec.ofNat 32 (grid0.coords t 0).val).toNat = t.val := (coord0 _).trans (coords_val t)
  refine (transform0 m (grid0.coords t)).trans ?_
  rw [min_lt (by rw [h]; exact hl) (P 0).nu1 (P 0).nu96, h]

/-- Every point writes its block back. -/
theorem flush1 (t : Fin (cfgM m P).N) : ((cfgM m P).win 1).flush t = true :=
  (by decide +kernel : ∀ t : Fin grid0.N, Window.flushOf grid0 true cc0_transform_2 t = true) t

/-- The block of a row. -/
def blockOf (i : S49152x1024.Idx) : Fin (cfgM m P).N := ⟨(i 0).val / 512, by
  have h : (i 0).val < 49152 := (i 0).isLt
  have : (cfgM m P).N = 96 := N_0
  omega⟩

/-- The result, block by block. -/
def blocks (c : Dev nD) : Vec Ideal S49152x1024 .bf16 :=
  fun i => outAt m P c (blockOf m P i) (ix2 (⟨(i 0).val % 512, by omega⟩ : Fin 512) (i 1))

theorem flushed_eq (c : Dev nD) (t : Fin (cfgM m P).N) :
    (dats m P 0 c).flushed 1 t = (((cfgM m P).win 1).blk t).view.read (Elt Ideal) (blocks m P c) := by
  have i0 : ((cfgM m P).win 1).index t (0 : Fin 2) = t.val := congrFun (index1 m P t) (0 : Fin 2)
  have i1 : ((cfgM m P).win 1).index t (1 : Fin 2) = 0 := congrFun (index1 m P t) (1 : Fin 2)
  funext j
  show outAt m P c t j = blocks m P c ((((cfgM m P).win 1).blk t).view.emb j)
  obtain ⟨r, q, rfl⟩ : ∃ (r : Fin 512) (q : Fin 1024), j = ix2 r q := ⟨j (0 : Fin 2), j (1 : Fin 2), ValueIdx.eq_ix2 j⟩
  have e : (((cfgM m P).win 1).blk t).view.emb (ix2 r q) = ix2 (⟨512 * t.val + r.val, by have := lt_of_lt_of_eq t.isLt N_0; omega⟩ : Fin 49152) q := by
    funext a; apply Fin.ext
    match a with
    | ⟨0, _⟩ => show ((cfgM m P).win 1).index t (0 : Fin 2) * 512 + 1 * r.val = 512 * t.val + r.val; rw [i0]; omega
    | ⟨1, _⟩ => show ((cfgM m P).win 1).index t (1 : Fin 2) * 1024 + 1 * q.val = q.val; rw [i1]; omega
  rw [e]
  have hb : blockOf m P (ix2 (⟨512 * t.val + r.val, by have := lt_of_lt_of_eq t.isLt N_0; omega⟩ : Fin 49152) q) = t :=
    Fin.ext (by show (512 * t.val + r.val) / 512 = t.val; omega)
  have hr : (⟨(512 * t.val + r.val) % 512, by omega⟩ : Fin 512) = r := Fin.ext (by show (512 * t.val + r.val) % 512 = r.val; omega)
  show _ = outAt m P c (blockOf m P (ix2 (⟨512 * t.val + r.val, _⟩ : Fin 49152) q)) (ix2 (⟨(512 * t.val + r.val) % 512, _⟩ : Fin 512) q)
  rw [hb, hr]

theorem covered (i : S49152x1024.Idx) : ∃ t : Fin (cfgM m P).N, ((cfgM m P).win 1).flush t = true ∧ i ∈ (((cfgM m P).win 1).blk t).view.set := by
  obtain ⟨r, q, rfl⟩ : ∃ (r : Fin 49152) (q : Fin 1024), i = ix2 r q := ⟨i 0, i 1, ValueIdx.eq_ix2 i⟩
  refine ⟨blockOf m P (ix2 r q), flush1 m P _, ?_⟩
  have i0 : ((cfgM m P).win 1).index (blockOf m P (ix2 r q)) (0 : Fin 2) = r.val / 512 := congrFun (index1 m P _) (0 : Fin 2)
  have i1 : ((cfgM m P).win 1).index (blockOf m P (ix2 r q)) (1 : Fin 2) = 0 := congrFun (index1 m P _) (1 : Fin 2)
  have h := (((cfgM m P).win 1).blk (blockOf m P (ix2 r q))).view.emb_mem_set (ix2 (⟨r.val % 512, by omega⟩ : Fin 512) q)
  have e : (((cfgM m P).win 1).blk (blockOf m P (ix2 r q))).view.emb (ix2 (⟨r.val % 512, by omega⟩ : Fin 512) q) = ix2 r q := by
    funext a; apply Fin.ext
    match a with
    | ⟨0, _⟩ => show ((cfgM m P).win 1).index _ (0 : Fin 2) * 512 + 1 * (r.val % 512) = r.val; rw [i0]; omega
    | ⟨1, _⟩ => show ((cfgM m P).win 1).index _ (1 : Fin 2) * 1024 + 1 * q.val = q.val; rw [i1]; omega
  rwa [e] at h

/-- The result after the run. -/
theorem final (c : Dev nD) : (dats m P 0 c).arrAt 1 (cfgM m P).N = blocks m P c :=
  (dats m P 0 c).arrAt_eq_of_cover 1 (blocks m P c) (fun t _ => flushed_eq m P c t) (covered m P)

/-- An expert's weights are its slice of all experts' weights. -/
theorem wdat_apply (c : Dev nD) (W : WBuf Ideal c) (e : BitVec 32) (he : e.toNat < 32) (k : Fin 4096) (q : Fin 1024) :
    wdat c W e he (ix2 k q) = (W : Vec Ideal S32x4096x1024 .f32) (ix3 ⟨e.toNat, he⟩ k q) := by
  have h1 : wdat c W e he (ix2 k q)
      = (W : Vec Ideal S32x4096x1024 .f32) ((Rect.unit (s := S32x4096x1024) (offW e) S1x4096x1024.size (expert_inb he)).emb
        (Shape.reshapeEquiv squeezes_S1x4096x1024_S4096x1024.numel_eq (ix2 k q))) := rfl
  have h2 : Shape.reshapeEquiv squeezes_S1x4096x1024_S4096x1024.numel_eq (ix2 k q) = (ix3 (0 : Fin 1) k q : S1x4096x1024.Idx) :=
    (Shape.reshapeEquiv_cons_one (n := 2) (d := ![4096, 1024]) squeezes_S1x4096x1024_S4096x1024.numel_eq (ix2 k q)).trans
      (funext fun a => by match a with | ⟨0, _⟩ => rfl | ⟨1, _⟩ => rfl | ⟨2, _⟩ => rfl)
  rw [h1, h2]
  refine congrArg (W : Vec Ideal S32x4096x1024 .f32) (funext fun a => Fin.ext ?_)
  match a with
  | ⟨0, _⟩ => show e.toNat + 1 * 0 = e.toNat; omega
  | ⟨1, _⟩ => show 0 + 1 * k.val = k.val; omega
  | ⟨2, _⟩ => show 0 + 1 * q.val = q.val; omega

/-- A row that holds a token ends as its gate. -/
theorem blocks_apply (c : Dev nD) (R : Fin 49152) (q : Fin 1024)
    (h : R.val % 512 < (wd (V m c main_arg5) ⟨R.val / 512, by omega⟩).toNat) :
    blocks m P c (ix2 R q) = gateRow (V m c main_arg6) (V m c main_arg7) ⟨(wd (V m c main_arg0) ⟨R.val / 512, by omega⟩).toNat, (P c).b _⟩ R q := by
  obtain rfl : c = 0 := Subsingleton.elim _ _
  have hu : R.val / 512 < (V m (0 : Dev nD) main_arg4 (Shape.Idx.ofFin (0 : Fin 1))).toNat := by
    rcases (P 0).used ⟨R.val / 512, by omega⟩ with hu | hu
    · exact hu
    · rw [hu] at h; exact absurd h (Nat.not_lt_zero _)
  have i0 : ((cfgM m P).win 0).index (blockOf m P (ix2 R q)) (0 : Fin 2) = R.val / 512 :=
    (congrFun (index0 m P _) (0 : Fin 2)).trans (show min (R.val / 512) _ = _ by omega)
  have i1 : ((cfgM m P).win 0).index (blockOf m P (ix2 R q)) (1 : Fin 2) = 0 := congrFun (index0 m P _) (1 : Fin 2)
  refine (outv_eq _ _ _ _ _ h).trans ?_
  unfold gateAt gateRow
  refine congrArg slu (congrArg₂ (· + ·) (Finset.sum_congr rfl fun k _ => congrArg₂ (· * ·) (congrArg (half 0) ?_) ?_) (Finset.sum_congr rfl fun k _ => congrArg₂ (· * ·) (congrArg (half 1) ?_) ?_))
  · refine congrArg (V m (0 : Dev nD) main_arg6) (funext fun a => Fin.ext ?_)
    match a with
    | ⟨0, _⟩ => show ((cfgM m P).win 0).index _ (0 : Fin 2) * 8192 + 1 * (16 * (R.val % 512) + k.val / 128) = 16 * R.val + k.val / 128; rw [i0]; omega
    | ⟨1, _⟩ => show ((cfgM m P).win 0).index _ (1 : Fin 2) * 128 + 1 * (k.val % 128) = k.val % 128; rw [i1]; omega
  · exact wdat_apply _ _ _ _ _ _
  · refine congrArg (V m (0 : Dev nD) main_arg6) (funext fun a => Fin.ext ?_)
    match a with
    | ⟨0, _⟩ => show ((cfgM m P).win 0).index _ (0 : Fin 2) * 8192 + 1 * (16 * (R.val % 512) + k.val / 128) = 16 * R.val + k.val / 128; rw [i0]; omega
    | ⟨1, _⟩ => show ((cfgM m P).win 0).index _ (1 : Fin 2) * 128 + 1 * (k.val % 128) = k.val % 128; rw [i1]; omega
  · exact wdat_apply _ _ _ _ _ _

end Cert.KernelIdeal.Hand

end
-- ==== Proof.GateRef.lean ====
module
public import proofs.«01_k».proof.Proof.GateValue
public import proofs.«01_k».proof.Proof.Gen.ReferenceIdeal.Run

/-!
The reference's gate, entry by entry: it is the same gate of every row with the weights of the block's expert.
-/

@[expose] public noncomputable section
set_option maxRecDepth 16384

namespace Cert.ReferenceIdeal.Gate

open Cert.ReferenceIdeal Cert.ReferenceIdeal.Gen Cert.ReferenceIdeal.Facts Idealize.ShloMosaic
open Cert.KernelIdeal.Hand (half gateRow slu)
open scoped BigOperators

/-- The low halves of the words. -/
theorem low (xs : IVec S786432x128 32) (b : Fin 96) (r : Fin 512) (k : Fin 2048) :
    (shapeCast S96x512x2048 (extractStridedSlice S96x512x2048x1 ![0, 0, 0, 0] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_0) shapeCasts_S96x512x2048x1_S96x512x2048) (ix3 b r k)
      = half 0 (xs (ix2 (⟨16 * (512 * b.val + r.val) + k.val / 128, by omega⟩ : Fin 786432) (⟨k.val % 128, by omega⟩ : Fin 128))) := by
  pointwise
  refine congrArg (half 0) (congrArg xs (funext fun a => Fin.ext ?_))
  match a with
  | ⟨0, _⟩ => show b.val * 8192 + r.val * 16 + k.val / 128 = 16 * (512 * b.val + r.val) + k.val / 128; omega
  | ⟨1, _⟩ => rfl

/-- The high halves of the words. -/
theorem high (xs : IVec S786432x128 32) (b : Fin 96) (r : Fin 512) (k : Fin 2048) :
    (shapeCast S96x512x2048 (extractStridedSlice S96x512x2048x1 ![0, 0, 0, 1] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_1) shapeCasts_S96x512x2048x1_S96x512x2048) (ix3 b r k)
      = half 1 (xs (ix2 (⟨16 * (512 * b.val + r.val) + k.val / 128, by omega⟩ : Fin 786432) (⟨k.val % 128, by omega⟩ : Fin 128))) := by
  pointwise
  refine congrArg (half 1) (congrArg xs (funext fun a => Fin.ext ?_))
  match a with
  | ⟨0, _⟩ => show b.val * 8192 + r.val * 16 + k.val / 128 = 16 * (512 * b.val + r.val) + k.val / 128; omega
  | ⟨1, _⟩ => rfl

/-- The weights of every block's expert. -/
theorem weights (w : FVec Ideal S32x4096x1024 .f32) (idx : IVec S96x1 32) (b : Fin 96) (k : Fin 4096) (q : Fin 1024) :
    Host.gather gather_S32x4096x1024_S96x1_S96x4096x1024_12_0_n_n_0_1_140961024 w idx (ix3 b k q)
      = w (ix3 ⟨min (idx (ix2 b (0 : Fin 1))).toInt.toNat 31, by omega⟩ k q) := by
  unfold Host.gather
  refine congrArg w (funext fun a => Fin.ext ?_)
  show (gather_S32x4096x1024_S96x1_S96x4096x1024_12_0_n_n_0_1_140961024).start (ix3 b k q) idx a + (gather_S32x4096x1024_S96x1_S96x4096x1024_12_0_n_n_0_1_140961024).batchCoord (ix3 b k q) a
    + (gather_S32x4096x1024_S96x1_S96x4096x1024_12_0_n_n_0_1_140961024).offCoord (ix3 b k q) a = _
  rw [GatherDims.batchCoord_eq_zero _ _ _ List.not_mem_nil]
  obtain rfl | rfl | rfl : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather_S32x4096x1024_S96x1_S96x4096x1024_12_0_n_n_0_1_140961024).startIndexMap from List.mem_singleton.mpr rfl)]
    refine congrArg (fun z => min (idx z).toInt.toNat 31) (funext fun c => Fin.ext ?_)
    match c with
    | ⟨0, _⟩ => rfl
    | ⟨1, _⟩ => rfl
  · unfold GatherDims.start GatherDims.offCoord
    rw [dif_neg (by decide), dif_pos (by decide)]
    show 0 + 0 + k.val = k.val; omega
  · unfold GatherDims.start GatherDims.offCoord
    rw [dif_neg (by decide), dif_pos (by decide)]
    show 0 + 0 + q.val = q.val; omega

/-- The rounded product of every row with the weights of its block's expert, times the logistic function of it. -/
theorem result (A : FVec Ideal S96x512x4096 .f32) (B : FVec Ideal S96x4096x1024 .f32) (R : Fin 49152) (q : Fin 1024) :
    (truncf .bf16 (shapeCast S49152x1024 (mulf (Host.dotGeneral dot_S96x512x4096_S96x4096x1024_S96x512x1024_2_1_1_2_0_0 none A B) (Host.divf (broadcastInDim S96x512x1024 ![] bcast_S_S96x512x1024 (constant S_ .f32 0x3F800000#32)) (addf (broadcastInDim S96x512x1024 ![] bcast_S_S96x512x1024 (constant S_ .f32 0x3F800000#32)) (Host.exp (Host.negf (Host.dotGeneral dot_S96x512x4096_S96x4096x1024_S96x512x1024_2_1_1_2_0_0 none A B)))))) shapeCasts_S96x512x1024_S49152x1024) bitsLt_bf16_f32 : FVec Ideal S49152x1024 .bf16) (ix2 R q)
      = slu (∑ k : Fin 4096, A (ix3 (⟨R.val / 512, by omega⟩ : Fin 96) (⟨R.val % 512, by omega⟩ : Fin 512) k) * B (ix3 (⟨R.val / 512, by omega⟩ : Fin 96) k q)) := by
  unfold slu Cert.Proof.sg
  pointwise

/-- Every token's row: the low halves, then the high halves. -/
theorem row_low (xs : IVec S786432x128 32) (b : Fin 96) (r : Fin 512) (k : Fin 2048) :
    (concatenate S96x512x4096 2 [⟨S96x512x2048, (shapeCast S96x512x2048 (extractStridedSlice S96x512x2048x1 ![0, 0, 0, 0] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_0) shapeCasts_S96x512x2048x1_S96x512x2048)⟩, ⟨S96x512x2048, (shapeCast S96x512x2048 (extractStridedSlice S96x512x2048x1 ![0, 0, 0, 1] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_1) shapeCasts_S96x512x2048x1_S96x512x2048)⟩] concatenates_S96x512x2048_S96x512x2048_S96x512x4096_d2) (ix3 b r (⟨k.val, by omega⟩ : Fin 4096))
      = half 0 (xs (ix2 (⟨16 * (512 * b.val + r.val) + k.val / 128, by omega⟩ : Fin 786432) (⟨k.val % 128, by omega⟩ : Fin 128))) := by
  refine (concatenate_pair_apply_left (t := S96x512x4096) (s₁ := S96x512x2048) (s₂ := S96x512x2048) 2 _ _ _ _ rfl (ix3 b r k) fun a => ?_).trans (low xs b r k)
  match a with
  | ⟨0, _⟩ => rfl
  | ⟨1, _⟩ => rfl
  | ⟨2, _⟩ => rfl

theorem row_high (xs : IVec S786432x128 32) (b : Fin 96) (r : Fin 512) (k : Fin 2048) :
    (concatenate S96x512x4096 2 [⟨S96x512x2048, (shapeCast S96x512x2048 (extractStridedSlice S96x512x2048x1 ![0, 0, 0, 0] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_0) shapeCasts_S96x512x2048x1_S96x512x2048)⟩, ⟨S96x512x2048, (shapeCast S96x512x2048 (extractStridedSlice S96x512x2048x1 ![0, 0, 0, 1] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_1) shapeCasts_S96x512x2048x1_S96x512x2048)⟩] concatenates_S96x512x2048_S96x512x2048_S96x512x4096_d2) (ix3 b r (⟨2048 + k.val, by omega⟩ : Fin 4096))
      = half 1 (xs (ix2 (⟨16 * (512 * b.val + r.val) + k.val / 128, by omega⟩ : Fin 786432) (⟨k.val % 128, by omega⟩ : Fin 128))) := by
  refine (concatenate_pair_apply_right (t := S96x512x4096) (s₁ := S96x512x2048) (s₂ := S96x512x2048) 2 _ _ _ _ rfl rfl (ix3 b r k) (fun a ha => ?_) ?_).trans (high xs b r k)
  · match a with
    | ⟨0, _⟩ => rfl
    | ⟨1, _⟩ => rfl
    | ⟨2, _⟩ => exact absurd rfl ha
  · exact Nat.add_comm k.val 2048

/-- The expert a block's weights are taken from: a number below 32 is not wrapped. -/
theorem expert (be : IVec S96 32) (b : Fin 96) (h : (be (Shape.Idx.ofFin b)).toNat < 32) :
    min ((broadcastInDim S96x1 ![0] bcast_S96_S96x1_0 (select (cmpi .slt be (broadcastInDim S96 ![] bcast_S_S96 (constantI S_ 32 0#32))) (addi be (broadcastInDim S96 ![] bcast_S_S96 (constantI S_ 32 32#32))) be)) (ix2 b (0 : Fin 1))).toInt.toNat 31 = (be (Shape.Idx.ofFin b)).toNat := by
  have e : (broadcastInDim S96x1 ![0] bcast_S96_S96x1_0 (select (cmpi .slt be (broadcastInDim S96 ![] bcast_S_S96 (constantI S_ 32 0#32))) (addi be (broadcastInDim S96 ![] bcast_S_S96 (constantI S_ 32 32#32))) be)) (ix2 b (0 : Fin 1)) = be (Shape.Idx.ofFin b) := by
    refine (broadcastInDim_apply _ _ _ _ (Shape.Idx.ofFin b) fun a => ?_).trans ?_
    · obtain rfl : a = (0 : Fin 1) := Subsingleton.elim (α := Fin 1) _ _
      rfl
    · show Scalar.select (IntOp.cmpi .slt (be (Shape.Idx.ofFin b)) 0#32) (be (Shape.Idx.ofFin b) + 32#32) (be (Shape.Idx.ofFin b)) = _
      have hn : IntOp.cmpi .slt (be (Shape.Idx.ofFin b)) 0#32 = 0#1 := by
        have h' : ¬ IntOp.cmpi .slt (be (Shape.Idx.ofFin b)) 0#32 = 1#1 := by
          rw [Cert.GatePlan.slt1, StableHlo.Predicate.toInt_eq_toNat_of_lt (by omega)]
          simp
        generalize IntOp.cmpi .slt (be (Shape.Idx.ofFin b)) 0#32 = z at h'
        revert z; decide
      rw [hn]; rfl
  rw [e, StableHlo.Predicate.toInt_eq_toNat_of_lt (by omega)]
  simp; omega

theorem ref_eq (be : IVec S96 32) (xs : IVec S786432x128 32) (w : FVec Ideal S32x4096x1024 .f32) (R : Fin 49152) (q : Fin 1024)
    (h : (be (Shape.Idx.ofFin (⟨R.val / 512, by omega⟩ : Fin 96))).toNat < 32) :
    (truncf .bf16 (shapeCast S49152x1024 (mulf (Host.dotGeneral dot_S96x512x4096_S96x4096x1024_S96x512x1024_2_1_1_2_0_0 none (concatenate S96x512x4096 2 [⟨S96x512x2048, (shapeCast S96x512x2048 (extractStridedSlice S96x512x2048x1 ![0, 0, 0, 0] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_0) shapeCasts_S96x512x2048x1_S96x512x2048)⟩, ⟨S96x512x2048, (shapeCast S96x512x2048 (extractStridedSlice S96x512x2048x1 ![0, 0, 0, 1] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_1) shapeCasts_S96x512x2048x1_S96x512x2048)⟩] concatenates_S96x512x2048_S96x512x2048_S96x512x4096_d2) (Host.gather gather_S32x4096x1024_S96x1_S96x4096x1024_12_0_n_n_0_1_140961024 w (broadcastInDim S96x1 ![0] bcast_S96_S96x1_0 (select (cmpi .slt be (broadcastInDim S96 ![] bcast_S_S96 (constantI S_ 32 0#32))) (addi be (broadcastInDim S96 ![] bcast_S_S96 (constantI S_ 32 32#32))) be)))) (Host.divf (broadcastInDim S96x512x1024 ![] bcast_S_S96x512x1024 (constant S_ .f32 0x3F800000#32)) (addf (broadcastInDim S96x512x1024 ![] bcast_S_S96x512x1024 (constant S_ .f32 0x3F800000#32)) (Host.exp (Host.negf (Host.dotGeneral dot_S96x512x4096_S96x4096x1024_S96x512x1024_2_1_1_2_0_0 none (concatenate S96x512x4096 2 [⟨S96x512x2048, (shapeCast S96x512x2048 (extractStridedSlice S96x512x2048x1 ![0, 0, 0, 0] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_0) shapeCasts_S96x512x2048x1_S96x512x2048)⟩, ⟨S96x512x2048, (shapeCast S96x512x2048 (extractStridedSlice S96x512x2048x1 ![0, 0, 0, 1] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_1) shapeCasts_S96x512x2048x1_S96x512x2048)⟩] concatenates_S96x512x2048_S96x512x2048_S96x512x4096_d2) (Host.gather gather_S32x4096x1024_S96x1_S96x4096x1024_12_0_n_n_0_1_140961024 w (broadcastInDim S96x1 ![0] bcast_S96_S96x1_0 (select (cmpi .slt be (broadcastInDim S96 ![] bcast_S_S96 (constantI S_ 32 0#32))) (addi be (broadcastInDim S96 ![] bcast_S_S96 (constantI S_ 32 32#32))) be))))))))) shapeCasts_S96x512x1024_S49152x1024) bitsLt_bf16_f32 : FVec Ideal S49152x1024 .bf16) (ix2 R q) = gateRow xs w ⟨(be (Shape.Idx.ofFin (⟨R.val / 512, by omega⟩ : Fin 96))).toNat, h⟩ R q := by
  refine (result _ _ R q).trans ?_
  unfold gateRow
  refine congrArg slu ?_
  refine (Fin.sum_univ_add (a := 2048) (b := 2048) _).trans ?_
  have e : 512 * (R.val / 512) + R.val % 512 = R.val := by omega
  refine congrArg₂ (· + ·) (Finset.sum_congr rfl fun k _ => congrArg₂ (· * ·) ?_ ?_) (Finset.sum_congr rfl fun k _ => congrArg₂ (· * ·) ?_ ?_)
  · refine (row_low xs _ _ k).trans ?_
    simp only [e]
  · refine (weights w _ _ _ q).trans ?_
    simp only [expert be _ h]
    rfl
  · refine (row_high xs _ _ k).trans ?_
    simp only [e]
  · refine (weights w _ _ _ q).trans ?_
    simp only [expert be _ h]
    rfl

end Cert.ReferenceIdeal.Gate

end
-- ==== Proof.GateAgree.lean ====
module
public import proofs.«01_k».proof.Proof.GateRef
public import proofs.«01_k».proof.Proof.Gen.On_rows_with_a_token
public import proofs.«01_k».proof.Defs

/-!
The kernel's `expert_gate` and the reference agree, at the ideal instance, in every row that holds a token.
-/

@[expose] public noncomputable section
set_option maxRecDepth 16384

namespace Cert.Proof

open Idealize.ShloMosaic Idealize.ShloMosaic.TcCoe Idealize.SL.Sem
open Cert.KernelIdeal.Hand

/-- A row is marked when its place in its block is below the block's number of tokens. -/
theorem marked (be fi sl nx : IVec Cert.On_rows_with_a_token.S96 32) (nu : IVec Cert.On_rows_with_a_token.S1 32) (nv : IVec Cert.On_rows_with_a_token.S96 32)
    (xs : IVec Cert.On_rows_with_a_token.S786432x128 32) (w : FVec Ideal Cert.On_rows_with_a_token.S32x4096x1024 .f32) (R : Fin 49152) (q : Fin 1024)
    (hv : (nv (Shape.Idx.ofFin (⟨R.val / 512, by omega⟩ : Fin 96))).toNat ≤ 512)
    (h : Cert.On_rows_with_a_token.fn (F := Ideal) be fi sl nx nu nv xs w (ix2 R q) = 1#1) :
    R.val % 512 < (nv (Shape.Idx.ofFin (⟨R.val / 512, by omega⟩ : Fin 96))).toNat := by
  have e : Cert.On_rows_with_a_token.fn (F := Ideal) be fi sl nx nu nv xs w (ix2 R q)
      = IntOp.cmpi .slt (BitVec.ofNat 32 (R.val % 512)) (nv (Shape.Idx.ofFin (⟨R.val / 512, by omega⟩ : Fin 96))) := by
    pointwise [Cert.On_rows_with_a_token.fn]
    refine congrArg (fun z => IntOp.cmpi .slt (BitVec.ofNat 32 (R.val % 512)) (nv z)) (funext fun a => ?_)
    obtain rfl : a = (0 : Fin 1) := Subsingleton.elim (α := Fin 1) _ _
    rfl
  rw [e, Cert.GatePlan.slt1] at h
  have h2 : (BitVec.ofNat 32 (R.val % 512)).toNat = R.val % 512 := by rw [BitVec.toNat_ofNat]; omega
  rw [StableHlo.Predicate.toInt_eq_toNat_of_lt (by rw [h2]; omega), StableHlo.Predicate.toInt_eq_toNat_of_lt (by omega), h2] at h
  exact_mod_cast h

/-- From equal arguments that are a plan the kernel and the reference leave the same numbers in every row that holds a token. -/
theorem algebraic1 : Cert.algebraic_KernelIdeal_ReferenceIdeal_on_rows_with_a_token (hKernelIdeal := Cert.KernelIdeal.Gen.facts)
    (hReferenceIdeal := Cert.ReferenceIdeal.Gen.facts) (hPre_plan_ok := Cert.Pre_plan_ok.Gen.facts) (hOn_rows_with_a_token := Cert.On_rows_with_a_token.Gen.facts) := by
  intro m g m' g' hp e
  have P := plan_ideal m hp
  refine ⟨fun c => blocks m P c, ?_, ?_⟩
  · exact (θ_run Cert.KernelIdeal.defs _ _).mono (fun r h c => ⟨fun i _ => congrFun (((h.1.1 c).1 1).trans (final m P c)) i, h.2.1 c⟩)
      (θ_run_and (run_main m g P) (frame_of_plan m g P))
  · refine (θ_run Cert.ReferenceIdeal.defs _ _).mono (fun r h c => ⟨fun i hi => (congrFun (h c).1 i).trans ?_, (h c).2⟩) (Cert.ReferenceIdeal.Value.run m' g')
    obtain ⟨e0, e1, e2, e3, e4, e5, e6, e7⟩ := e c
    obtain ⟨R, q, rfl⟩ : ∃ (R : Fin 49152) (q : Fin 1024), i = ix2 R q := ⟨i 0, i 1, ValueIdx.eq_ix2 i⟩
    rw [e0, e6, e7]
    refine (Cert.ReferenceIdeal.Gate.ref_eq _ _ _ R q ((P c).b _)).trans ?_
    exact (blocks_apply m P c R q (marked _ _ _ _ _ _ _ _ R q ((P c).nv _) hi)).symm

end Cert.Proof

end
-- ==== Proof.QueryHead.lean ====
module
public import proofs.«01_k».proof.Proof.Gen.Kernel5Ideal.Value
public import proofs.«01_k».proof.Defs
public import Idealize.ShloMosaic.Lib.Pointwise

/-!
One head of the query projection: 128 columns of a row's product are divided by the root of their mean square, scaled lane by
lane, turned by the row's angles, and scaled by a constant.
-/

@[expose] public noncomputable section
set_option maxRecDepth 16384

namespace Cert.Kernel5Ideal.Query

open Cert.Kernel5Ideal Cert.Kernel5Ideal.Gen Idealize.ShloMosaic Idealize.ShloMosaic.TcCoe Idealize.SL.Sem
open scoped BigOperators

/-- A head's row divided by the root of its mean square, each lane times its weight. -/
def nrm (a g : Fin 128 → EReal) (c : Fin 128) : EReal :=
  a c * Ideal.rsqrt (Ideal.div (∑ l, a l * a l) (Ideal.ofBits .f32 0x43000000#32) + Ideal.ofBits .f32 0x358637BD#32) * g c

/-- The lane that a lane is turned with: the one 32 further in the lower half of its 64 lanes, else the one 32 before. -/
def mate (c : Fin 128) : Fin 128 :=
  if c.val % 64 < 32 then ⟨(c.val + 32) % 128, by omega⟩ else ⟨(c.val + 96) % 128, by omega⟩

/-- A lane of the normed head, turned by the tables of cosines and signed sines, times the constant. -/
def turned (a g ct st : Fin 128 → EReal) (c : Fin 128) : EReal :=
  (nrm a g c * ct c + nrm a g (mate c) * st c) * Ideal.ofBits .f32 0x3E0293EE#32

/-- What the body computes of one head's columns, as the first store has it. -/
def head (a : FVec Ideal S256x128 .f32) (g : Vec Ideal S1x128 .f32) (ct st : Vec Ideal S256x128 .f32) : FVec Ideal S1x1x256x128 .bf16 :=
  have y : FVec Ideal S256x128 .f32 := mulf (mulf a (broadcastTo S256x128 (rsqrt (addf (divf (shapeCast S256x1 (multiReduction .add [1] S256 (mulf a a) 0x00000000#32 reduces_S256x128_S256 (.inl rfl) rfl) shapeCasts_S256_S256x1) (broadcast S256x1 (Scalar.ofBits .f32 0x43000000#32))) (broadcast S256x1 (Scalar.ofBits .f32 0x358637BD#32)))) broadcasts_S256x1_S256x128)) (broadcastTo S256x128 (shapeCast S1x128 g shapeCasts_S1x128_S1x128) broadcasts_S1x128_S256x128)
  k0_pay10 (k0_pay3 ct) (k0_pay4 st) y (Scalar.select (Scalar.cmpi .eq 64#32 0#32) 1#32 64#32) k0_pay6 k0_pay7 k0_pay8 k0_pay9

/-- The body's test of a lane, a comparison of its remainder by 64 with 32. -/
def test (c : Fin 128) : BitVec 1 :=
  have n : BitVec 32 := Scalar.select (Scalar.cmpi .eq 64#32 0#32) 1#32 64#32
  have q : BitVec 32 := IntOp.remsi ArithUnit.vector (BitVec.ofNat 32 c.val) n
  IntOp.cmpi .slt (Scalar.select (IntOp.andi (IntOp.xori (IntOp.cmpi .slt q 0#32) (Scalar.cmpi .slt n 0#32)) (IntOp.cmpi .ne q 0#32)) (IntOp.addi q n) q) 32#32

/-- The test holds of the lower halves. -/
theorem test_eq : ∀ c : Fin 128, test c = if c.val % 64 < 32 then 1#1 else 0#1 := by decide +kernel

/-- What the body computes of a head, entry by entry. -/
theorem head_apply (a : FVec Ideal S256x128 .f32) (g : Vec Ideal S1x128 .f32) (ct st : Vec Ideal S256x128 .f32) (r : Fin 256) (c : Fin 128) :
    head a g ct st (ix4 0 0 r c) = turned (fun l => a (ix2 r l)) (fun l => g (ix2 0 l)) (fun l => ct (ix2 r l)) (fun l => st (ix2 r l)) c := by
  unfold turned nrm
  pointwise [head, k0_pay10, k0_pay3, k0_pay4, k0_pay6, k0_pay7, k0_pay8, k0_pay9]
  show (_ + Scalar.select (test c) _ _ * _) * _ = _
  rw [test_eq c]
  unfold mate
  by_cases h : c.val % 64 < 32
  · have e : (⟨(c.val + 128 - 96) % 128, by omega⟩ : Fin 128) = ⟨(c.val + 32) % 128, by omega⟩ := Fin.ext (by show (c.val + 128 - 96) % 128 = _; congr 1)
    simp only [h, if_true, e]
    rfl
  · have e : (⟨(c.val + 128 - 32) % 128, by omega⟩ : Fin 128) = ⟨(c.val + 96) % 128, by omega⟩ := Fin.ext (by show (c.val + 128 - 32) % 128 = _; congr 1)
    simp only [h, if_false, e]
    rfl

end Cert.Kernel5Ideal.Query
-- ==== Proof.QueryTile.lean ====
module
public import proofs.«01_k».proof.Proof.QueryHead

/-!
The query projection's block: its thirty-two stores, one for each head and each quarter of the rows, are one function of the
block's rows, the weights' columns, the lanes' weights and the rows' angles.
-/

@[expose] public noncomputable section
set_option maxRecDepth 16384

namespace Cert.Kernel5Ideal.Query

open Cert.Kernel5Ideal Cert.Kernel5Ideal.Gen Idealize.ShloMosaic Idealize.ShloMosaic.TcCoe Idealize.SL.Sem
open scoped BigOperators

/-- A block of queries: head `j 1`, row `j 2`, lane `j 3`. -/
def E (x : Vec Ideal S1x1024x4096 .bf16) (w : Vec Ideal S4096x1024 .bf16) (g : Vec Ideal S1x128 .f32) (ct st : Vec Ideal S1024x128 .f32) :
    Vec Ideal S1x8x1024x128 .bf16 :=
  fun j => turned (fun l => ∑ k : Fin 4096, x (ix3 0 (j 2) k) * w (ix2 k (⟨128 * (j 1).val + l.val, by have h : (j 1).val < 8 := (j 1).isLt; omega⟩ : Fin 1024)))
    (fun l => g (ix2 0 l)) (fun l => ct (ix2 (j 2) l)) (fun l => st (ix2 (j 2) l)) (j 3)

/-- The product of a quarter's rows with the weights. -/
theorem acc_apply (v : Vec Ideal S1x256x4096 .bf16) (w : Vec Ideal S4096x1024 .bf16) (r : Fin 256) (n : Fin 1024) :
    k0_pay2 (F := Ideal) v w (ix2 r n) = ∑ k : Fin 4096, v (ix3 0 r k) * w (ix2 k n) := by
  pointwise [k0_pay2]

/-- One store: head `n` of the quarter of rows that begins at row `R`. -/
theorem store (x : Vec Ideal S1x1024x4096 .bf16) (w : Vec Ideal S4096x1024 .bf16) (g : Vec Ideal S1x128 .f32) (ct st : Vec Ideal S1024x128 .f32)
    (n R : ℕ) (hs : Shape.Slices S256x1024 ![0, 128 * n] S256x128) (hx : ∀ a, (![0, R, 0] : Fin 3 → Nat) a + S1x256x4096.size a ≤ S1x1024x4096.size a)
    (hw : ∀ a, (![0, 0] : Fin 2 → Nat) a + S4096x1024.size a ≤ S4096x1024.size a) (hg : ∀ a, (![0, 0] : Fin 2 → Nat) a + S1x128.size a ≤ S1x128.size a)
    (ht : ∀ a, (![R, 0] : Fin 2 → Nat) a + S256x128.size a ≤ S1024x128.size a)
    (ho : ∀ a, (![0, n, R, 0] : Fin 4 → Nat) a + S1x1x256x128.size a ≤ S1x8x1024x128.size a) (j : S1x1x256x128.Idx) :
    head (extractStridedSlice S256x128 ![0, 128 * n] (k0_pay2 (View.ld (Val := Elt Ideal) (e' := .bf16) x (Rect.unit (s := S1x1024x4096) ![0, R, 0] S1x256x4096.size hx)) (View.ld (Val := Elt Ideal) (e' := .bf16) w (Rect.unit (s := S4096x1024) ![0, 0] S4096x1024.size hw))) hs)
      (View.ld (Val := Elt Ideal) (e' := .f32) g (Rect.unit (s := S1x128) ![0, 0] S1x128.size hg))
      (View.ld (Val := Elt Ideal) (e' := .f32) ct (Rect.unit (s := S1024x128) ![R, 0] S256x128.size ht))
      (View.ld (Val := Elt Ideal) (e' := .f32) st (Rect.unit (s := S1024x128) ![R, 0] S256x128.size ht)) j
    = E x w g ct st ((Rect.unit (s := S1x8x1024x128) ![0, n, R, 0] S1x1x256x128.size ho).emb j) := by
  obtain ⟨r, c, rfl⟩ : ∃ (r : Fin 256) (c : Fin 128), j = ix4 0 0 r c := ⟨j 2, j 3, (ValueIdx.eq_ix4 j).trans (congrArg₂ (fun (p q : Fin 1) => (ix4 p q (j 2) (j 3) : S1x1x256x128.Idx)) (Subsingleton.elim _ _) (Subsingleton.elim _ _))⟩
  have hn : n < 8 := by have h : n + 1 ≤ 8 := ho 1; omega
  have hR : R + 256 ≤ 1024 := ho 2
  have he : (Rect.unit (s := S1x8x1024x128) ![0, n, R, 0] S1x1x256x128.size ho).emb (ix4 0 0 r c) = ix4 0 (⟨n, hn⟩ : Fin 8) (⟨R + r.val, by omega⟩ : Fin 1024) c := by
    funext a; apply Fin.ext
    match a with
    | ⟨0, _⟩ => rfl
    | ⟨1, _⟩ => show n + 1 * 0 = n; omega
    | ⟨2, _⟩ => show R + 1 * r.val = R + r.val; omega
    | ⟨3, _⟩ => show 0 + 1 * c.val = c.val; omega
  rw [he, head_apply]
  have h1 : ∀ l : Fin 128, extractStridedSlice S256x128 ![0, 128 * n] (k0_pay2 (F := Ideal) (View.ld (Val := Elt Ideal) (e' := .bf16) x (Rect.unit (s := S1x1024x4096) ![0, R, 0] S1x256x4096.size hx)) (View.ld (Val := Elt Ideal) (e' := .bf16) w (Rect.unit (s := S4096x1024) ![0, 0] S4096x1024.size hw))) hs (ix2 r l)
      = ∑ k : Fin 4096, x (ix3 0 (⟨R + r.val, by omega⟩ : Fin 1024) k) * w (ix2 k (⟨128 * n + l.val, by omega⟩ : Fin 1024)) := fun l => by
    refine (extractStridedSlice_apply _ _ hs _ (ix2 r (⟨128 * n + l.val, by omega⟩ : Fin 1024)) fun a => ?_).trans ?_
    · match a with
      | ⟨0, _⟩ => show r.val = 0 + r.val; omega
      | ⟨1, _⟩ => rfl
    · rw [acc_apply]
      refine Finset.sum_congr rfl fun k _ => congrArg₂ (· * ·) (congrArg x (funext fun a => Fin.ext ?_)) (congrArg w (funext fun a => Fin.ext ?_))
      · match a with
        | ⟨0, _⟩ => rfl
        | ⟨1, _⟩ => show R + 1 * r.val = R + r.val; omega
        | ⟨2, _⟩ => show 0 + 1 * k.val = k.val; omega
      · match a with
        | ⟨0, _⟩ => show 0 + 1 * k.val = k.val; omega
        | ⟨1, _⟩ => show 0 + 1 * (128 * n + l.val) = 128 * n + l.val; omega
  have h2 : ∀ l : Fin 128, View.ld (Val := Elt Ideal) (e' := .f32) g (Rect.unit (s := S1x128) ![0, 0] S1x128.size hg) (ix2 0 l) = g (ix2 0 l) := fun l =>
    congrArg g (funext fun a => Fin.ext (by
      match a with
      | ⟨0, _⟩ => rfl
      | ⟨1, _⟩ => show 0 + 1 * l.val = l.val; omega))
  have h3 : ∀ (t : Vec Ideal S1024x128 .f32) (l : Fin 128), View.ld (Val := Elt Ideal) (e' := .f32) t (Rect.unit (s := S1024x128) ![R, 0] S256x128.size ht) (ix2 r l) = t (ix2 (⟨R + r.val, by omega⟩ : Fin 1024) l) := fun t l =>
    congrArg t (funext fun a => Fin.ext (by
      match a with
      | ⟨0, _⟩ => show R + 1 * r.val = R + r.val; omega
      | ⟨1, _⟩ => show 0 + 1 * l.val = l.val; omega))
  rw [funext h1, funext h2, funext (h3 ct), funext (h3 st)]
  rfl

/-- The body's stores together are the block. -/
theorem out_eq (x : Vec Ideal S1x1024x4096 .bf16) (w : Vec Ideal S4096x1024 .bf16) (g : Vec Ideal S1x128 .f32) (ct st : Vec Ideal S1024x128 .f32) :
    out0_5 x w g ct st = E x w g ct st := by
  funext y
  unfold out0_5
  refine View.canon_apply_of_pieces (Val := Elt Ideal) (e := .bf16) (E x w g ct st) _ ?_ y (cover0_5 _ _ _ _ _ _ _ _ _ _ _ _ _ _ _ _ _ _ _ _ _ _ _ _ _ _ _ _ _ _ _ _ y)
  intro p hp j
  rcases List.mem_cons.1 hp with rfl | hp
  · exact store x w g ct st 7 768 slices_S256x1024_o0_896_S256x128 inb_S1x1024x4096_S1x256x4096_0_768_0 inb_S4096x1024_S4096x1024_0_0 inb_S1x128_S1x128_0_0 inb_S1024x128_S256x128_768_0 inb_S1x8x1024x128_S1x1x256x128_0_7_768_0 j
  rcases List.mem_cons.1 hp with rfl | hp
  · exact store x w g ct st 6 768 slices_S256x1024_o0_768_S256x128 inb_S1x1024x4096_S1x256x4096_0_768_0 inb_S4096x1024_S4096x1024_0_0 inb_S1x128_S1x128_0_0 inb_S1024x128_S256x128_768_0 inb_S1x8x1024x128_S1x1x256x128_0_6_768_0 j
  rcases List.mem_cons.1 hp with rfl | hp
  · exact store x w g ct st 5 768 slices_S256x1024_o0_640_S256x128 inb_S1x1024x4096_S1x256x4096_0_768_0 inb_S4096x1024_S4096x1024_0_0 inb_S1x128_S1x128_0_0 inb_S1024x128_S256x128_768_0 inb_S1x8x1024x128_S1x1x256x128_0_5_768_0 j
  rcases List.mem_cons.1 hp with rfl | hp
  · exact store x w g ct st 4 768 slices_S256x1024_o0_512_S256x128 inb_S1x1024x4096_S1x256x4096_0_768_0 inb_S4096x1024_S4096x1024_0_0 inb_S1x128_S1x128_0_0 inb_S1024x128_S256x128_768_0 inb_S1x8x1024x128_S1x1x256x128_0_4_768_0 j
  rcases List.mem_cons.1 hp with rfl | hp
  · exact store x w g ct st 3 768 slices_S256x1024_o0_384_S256x128 inb_S1x1024x4096_S1x256x4096_0_768_0 inb_S4096x1024_S4096x1024_0_0 inb_S1x128_S1x128_0_0 inb_S1024x128_S256x128_768_0 inb_S1x8x1024x128_S1x1x256x128_0_3_768_0 j
  rcases List.mem_cons.1 hp with rfl | hp
  · exact store x w g ct st 2 768 slices_S256x1024_o0_256_S256x128 inb_S1x1024x4096_S1x256x4096_0_768_0 inb_S4096x1024_S4096x1024_0_0 inb_S1x128_S1x128_0_0 inb_S1024x128_S256x128_768_0 inb_S1x8x1024x128_S1x1x256x128_0_2_768_0 j
  rcases List.mem_cons.1 hp with rfl | hp
  · exact store x w g ct st 1 768 slices_S256x1024_o0_128_S256x128 inb_S1x1024x4096_S1x256x4096_0_768_0 inb_S4096x1024_S4096x1024_0_0 inb_S1x128_S1x128_0_0 inb_S1024x128_S256x128_768_0 inb_S1x8x1024x128_S1x1x256x128_0_1_768_0 j
  rcases List.mem_cons.1 hp with rfl | hp
  · exact store x w g ct st 0 768 slices_S256x1024_o0_0_S256x128 inb_S1x1024x4096_S1x256x4096_0_768_0 inb_S4096x1024_S4096x1024_0_0 inb_S1x128_S1x128_0_0 inb_S1024x128_S256x128_768_0 inb_S1x8x1024x128_S1x1x256x128_0_0_768_0 j
  rcases List.mem_cons.1 hp with rfl | hp
  · exact store x w g ct st 7 512 slices_S256x1024_o0_896_S256x128 inb_S1x1024x4096_S1x256x4096_0_512_0 inb_S4096x1024_S4096x1024_0_0 inb_S1x128_S1x128_0_0 inb_S1024x128_S256x128_512_0 inb_S1x8x1024x128_S1x1x256x128_0_7_512_0 j
  rcases List.mem_cons.1 hp with rfl | hp
  · exact store x w g ct st 6 512 slices_S256x1024_o0_768_S256x128 inb_S1x1024x4096_S1x256x4096_0_512_0 inb_S4096x1024_S4096x1024_0_0 inb_S1x128_S1x128_0_0 inb_S1024x128_S256x128_512_0 inb_S1x8x1024x128_S1x1x256x128_0_6_512_0 j
  rcases List.mem_cons.1 hp with rfl | hp
  · exact store x w g ct st 5 512 slices_S256x1024_o0_640_S256x128 inb_S1x1024x4096_S1x256x4096_0_512_0 inb_S4096x1024_S4096x1024_0_0 inb_S1x128_S1x128_0_0 inb_S1024x128_S256x128_512_0 inb_S1x8x1024x128_S1x1x256x128_0_5_512_0 j
  rcases List.mem_cons.1 hp with rfl | hp
  · exact store x w g ct st 4 512 slices_S256x1024_o0_512_S256x128 inb_S1x1024x4096_S1x256x4096_0_512_0 inb_S4096x1024_S4096x1024_0_0 inb_S1x128_S1x128_0_0 inb_S1024x128_S256x128_512_0 inb_S1x8x1024x128_S1x1x256x128_0_4_512_0 j
  rcases List.mem_cons.1 hp with rfl | hp
  · exact store x w g ct st 3 512 slices_S256x1024_o0_384_S256x128 inb_S1x1024x4096_S1x256x4096_0_512_0 inb_S4096x1024_S4096x1024_0_0 inb_S1x128_S1x128_0_0 inb_S1024x128_S256x128_512_0 inb_S1x8x1024x128_S1x1x256x128_0_3_512_0 j
  rcases List.mem_cons.1 hp with rfl | hp
  · exact store x w g ct st 2 512 slices_S256x1024_o0_256_S256x128 inb_S1x1024x4096_S1x256x4096_0_512_0 inb_S4096x1024_S4096x1024_0_0 inb_S1x128_S1x128_0_0 inb_S1024x128_S256x128_512_0 inb_S1x8x1024x128_S1x1x256x128_0_2_512_0 j
  rcases List.mem_cons.1 hp with rfl | hp
  · exact store x w g ct st 1 512 slices_S256x1024_o0_128_S256x128 inb_S1x1024x4096_S1x256x4096_0_512_0 inb_S4096x1024_S4096x1024_0_0 inb_S1x128_S1x128_0_0 inb_S1024x128_S256x128_512_0 inb_S1x8x1024x128_S1x1x256x128_0_1_512_0 j
  rcases List.mem_cons.1 hp with rfl | hp
  · exact store x w g ct st 0 512 slices_S256x1024_o0_0_S256x128 inb_S1x1024x4096_S1x256x4096_0_512_0 inb_S4096x1024_S4096x1024_0_0 inb_S1x128_S1x128_0_0 inb_S1024x128_S256x128_512_0 inb_S1x8x1024x128_S1x1x256x128_0_0_512_0 j
  rcases List.mem_cons.1 hp with rfl | hp
  · exact store x w g ct st 7 256 slices_S256x1024_o0_896_S256x128 inb_S1x1024x4096_S1x256x4096_0_256_0 inb_S4096x1024_S4096x1024_0_0 inb_S1x128_S1x128_0_0 inb_S1024x128_S256x128_256_0 inb_S1x8x1024x128_S1x1x256x128_0_7_256_0 j
  rcases List.mem_cons.1 hp with rfl | hp
  · exact store x w g ct st 6 256 slices_S256x1024_o0_768_S256x128 inb_S1x1024x4096_S1x256x4096_0_256_0 inb_S4096x1024_S4096x1024_0_0 inb_S1x128_S1x128_0_0 inb_S1024x128_S256x128_256_0 inb_S1x8x1024x128_S1x1x256x128_0_6_256_0 j
  rcases List.mem_cons.1 hp with rfl | hp
  · exact store x w g ct st 5 256 slices_S256x1024_o0_640_S256x128 inb_S1x1024x4096_S1x256x4096_0_256_0 inb_S4096x1024_S4096x1024_0_0 inb_S1x128_S1x128_0_0 inb_S1024x128_S256x128_256_0 inb_S1x8x1024x128_S1x1x256x128_0_5_256_0 j
  rcases List.mem_cons.1 hp with rfl | hp
  · exact store x w g ct st 4 256 slices_S256x1024_o0_512_S256x128 inb_S1x1024x4096_S1x256x4096_0_256_0 inb_S4096x1024_S4096x1024_0_0 inb_S1x128_S1x128_0_0 inb_S1024x128_S256x128_256_0 inb_S1x8x1024x128_S1x1x256x128_0_4_256_0 j
  rcases List.mem_cons.1 hp with rfl | hp
  · exact store x w g ct st 3 256 slices_S256x1024_o0_384_S256x128 inb_S1x1024x4096_S1x256x4096_0_256_0 inb_S4096x1024_S4096x1024_0_0 inb_S1x128_S1x128_0_0 inb_S1024x128_S256x128_256_0 inb_S1x8x1024x128_S1x1x256x128_0_3_256_0 j
  rcases List.mem_cons.1 hp with rfl | hp
  · exact store x w g ct st 2 256 slices_S256x1024_o0_256_S256x128 inb_S1x1024x4096_S1x256x4096_0_256_0 inb_S4096x1024_S4096x1024_0_0 inb_S1x128_S1x128_0_0 inb_S1024x128_S256x128_256_0 inb_S1x8x1024x128_S1x1x256x128_0_2_256_0 j
  rcases List.mem_cons.1 hp with rfl | hp
  · exact store x w g ct st 1 256 slices_S256x1024_o0_128_S256x128 inb_S1x1024x4096_S1x256x4096_0_256_0 inb_S4096x1024_S4096x1024_0_0 inb_S1x128_S1x128_0_0 inb_S1024x128_S256x128_256_0 inb_S1x8x1024x128_S1x1x256x128_0_1_256_0 j
  rcases List.mem_cons.1 hp with rfl | hp
  · exact store x w g ct st 0 256 slices_S256x1024_o0_0_S256x128 inb_S1x1024x4096_S1x256x4096_0_256_0 inb_S4096x1024_S4096x1024_0_0 inb_S1x128_S1x128_0_0 inb_S1024x128_S256x128_256_0 inb_S1x8x1024x128_S1x1x256x128_0_0_256_0 j
  rcases List.mem_cons.1 hp with rfl | hp
  · exact store x w g ct st 7 0 slices_S256x1024_o0_896_S256x128 inb_S1x1024x4096_S1x256x4096_0_0_0 inb_S4096x1024_S4096x1024_0_0 inb_S1x128_S1x128_0_0 inb_S1024x128_S256x128_0_0 inb_S1x8x1024x128_S1x1x256x128_0_7_0_0 j
  rcases List.mem_cons.1 hp with rfl | hp
  · exact store x w g ct st 6 0 slices_S256x1024_o0_768_S256x128 inb_S1x1024x4096_S1x256x4096_0_0_0 inb_S4096x1024_S4096x1024_0_0 inb_S1x128_S1x128_0_0 inb_S1024x128_S256x128_0_0 inb_S1x8x1024x128_S1x1x256x128_0_6_0_0 j
  rcases List.mem_cons.1 hp with rfl | hp
  · exact store x w g ct st 5 0 slices_S256x1024_o0_640_S256x128 inb_S1x1024x4096_S1x256x4096_0_0_0 inb_S4096x1024_S4096x1024_0_0 inb_S1x128_S1x128_0_0 inb_S1024x128_S256x128_0_0 inb_S1x8x1024x128_S1x1x256x128_0_5_0_0 j
  rcases List.mem_cons.1 hp with rfl | hp
  · exact store x w g ct st 4 0 slices_S256x1024_o0_512_S256x128 inb_S1x1024x4096_S1x256x4096_0_0_0 inb_S4096x1024_S4096x1024_0_0 inb_S1x128_S1x128_0_0 inb_S1024x128_S256x128_0_0 inb_S1x8x1024x128_S1x1x256x128_0_4_0_0 j
  rcases List.mem_cons.1 hp with rfl | hp
  · exact store x w g ct st 3 0 slices_S256x1024_o0_384_S256x128 inb_S1x1024x4096_S1x256x4096_0_0_0 inb_S4096x1024_S4096x1024_0_0 inb_S1x128_S1x128_0_0 inb_S1024x128_S256x128_0_0 inb_S1x8x1024x128_S1x1x256x128_0_3_0_0 j
  rcases List.mem_cons.1 hp with rfl | hp
  · exact store x w g ct st 2 0 slices_S256x1024_o0_256_S256x128 inb_S1x1024x4096_S1x256x4096_0_0_0 inb_S4096x1024_S4096x1024_0_0 inb_S1x128_S1x128_0_0 inb_S1024x128_S256x128_0_0 inb_S1x8x1024x128_S1x1x256x128_0_2_0_0 j
  rcases List.mem_cons.1 hp with rfl | hp
  · exact store x w g ct st 1 0 slices_S256x1024_o0_128_S256x128 inb_S1x1024x4096_S1x256x4096_0_0_0 inb_S4096x1024_S4096x1024_0_0 inb_S1x128_S1x128_0_0 inb_S1024x128_S256x128_0_0 inb_S1x8x1024x128_S1x1x256x128_0_1_0_0 j
  obtain rfl := List.mem_singleton.1 hp
  exact store x w g ct st 0 0 slices_S256x1024_o0_0_S256x128 inb_S1x1024x4096_S1x256x4096_0_0_0 inb_S4096x1024_S4096x1024_0_0 inb_S1x128_S1x128_0_0 inb_S1024x128_S256x128_0_0 inb_S1x8x1024x128_S1x1x256x128_0_0_0_0 j

end Cert.Kernel5Ideal.Query
-- ==== Proof.Query.lean ====
module
public import proofs.«01_k».proof.Proof.QueryTile
public import proofs.«01_k».proof.Proof.Gen.Reference5Ideal.Run
public import proofs.«01_k».proof.Proof.Gen.Kernel5.Frame

/-!
The value of the query projection: every entry of the kernel's result is the head's row of products, normed, turned by the
row's angles and scaled, which is what the reference computes.
-/

@[expose] public noncomputable section
set_option maxRecDepth 16384

namespace Cert.Kernel5Ideal.Query

open Cert.Kernel5Ideal Cert.Kernel5Ideal.Gen Cert.Kernel5Ideal.Value Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Equal rows and tables turn to equal lanes. -/
theorem turned_congr {a a' g g' ct ct' st st' : Fin 128 → EReal} (ha : ∀ l, a l = a' l) (hg : ∀ l, g l = g' l) (hc : ∀ l, ct l = ct' l) (hs : ∀ l, st l = st' l)
    (q : Fin 128) : turned a g ct st q = turned a' g' ct' st' q := by
  rw [funext ha, funext hg, funext hc, funext hs]

/-- The queries from the rows, the joint weights, the lanes' weights and the tables of cosines and signed sines. -/
def G (x : Vec Ideal S4x4096x4096 .bf16) (w : Vec Ideal S4096x15360 .f32) (g : Vec Ideal S1x128 .f32) (ct st : Vec Ideal S4096x128 .f32) :
    Vec Ideal S4x16x4096x128 .bf16 :=
  fun i => turned (fun l => ∑ k : Fin 4096, x (ix3 (i 0) (i 2) k) * w (ix2 k (⟨128 * (i 1).val + l.val, by have h : (i 1).val < 16 := (i 1).isLt; omega⟩ : Fin 15360)))
    (fun l => g (ix2 0 l)) (fun l => ct (ix2 (i 2) l)) (fun l => st (ix2 (i 2) l)) (i 3)

/-- Where the windows' blocks lie. -/
theorem index_facts : ∀ t : Fin grid0.N,
    win0_0.index t 0 = win0_5.index t 0 ∧ win0_0.index t 1 = win0_5.index t 2 ∧ win0_0.index t 2 = 0
    ∧ win0_1.index t 0 = 0 ∧ win0_1.index t 1 = win0_5.index t 1
    ∧ win0_2.index t 0 = 0 ∧ win0_2.index t 1 = 0
    ∧ win0_3.index t 0 = win0_5.index t 2 ∧ win0_3.index t 1 = 0
    ∧ win0_4.index t 0 = win0_5.index t 2 ∧ win0_4.index t 1 = 0 ∧ win0_5.index t 3 = 0 ∧ win0_5.index t 1 < 2 := by decide +kernel
theorem index_onto : ∀ (b : Fin 4) (h : Fin 2) (i : Fin 4), ∃ t : Fin grid0.N, win0_5.index t 0 = b.val ∧ win0_5.index t 1 = h.val ∧ win0_5.index t 2 = i.val := by decide +kernel
theorem flush_all : ∀ t : Fin grid0.N, win0_5.flush t = true := by decide +kernel

/-- What a point writes back is its block of the queries of the arrays as the region finds them. -/
theorem flushed_eq (c : Dev nD) (t : Fin cfg0.N) :
    (dats m 0 c).flushed 5 t = ((cfg0.win 5).blk t).view.read (Elt Ideal) (G (V m c main_arg0) (V m c main_v20) (V m c main_v21) (V m c main_v8) (V m c main_v19)) := by
  rw [flushed5, out_eq]
  obtain ⟨e00, e01, e02, e10, e11, e20, e21, e30, e31, e40, e41, e53, hlt⟩ := index_facts t
  funext j
  show E (iblk m c 0 t) (iblk m c 1 t) (iblk m c 2 t) (iblk m c 3 t) (iblk m c 4 t) j = G _ _ _ _ _ (((cfg0.win 5).blk t).view.emb j)
  obtain ⟨b, n, r, q, rfl⟩ : ∃ (b : Fin 1) (n : Fin 8) (r : Fin 1024) (q : Fin 128), j = ix4 b n r q := ⟨j 0, j 1, j 2, j 3, ValueIdx.eq_ix4 j⟩
  have hq : (((cfg0.win 5).blk t).view.emb (ix4 b n r q)) 3 = q := Fin.ext (by show win0_5.index t 3 * 128 + 1 * q.val = q.val; rw [e53]; omega)
  unfold G E
  rw [hq]
  refine turned_congr (fun l => Finset.sum_congr rfl fun k _ => Ideal.mul_congr ?_ ?_) (fun l => ?_) (fun l => ?_) (fun l => ?_) q
  · refine congrArg (V m c main_arg0) (funext fun a => Fin.ext ?_)
    match a with
    | ⟨0, _⟩ => show win0_0.index t 0 * 1 + 1 * 0 = win0_5.index t 0 * 1 + 1 * b.val; rw [e00]; omega
    | ⟨1, _⟩ => show win0_0.index t 1 * 1024 + 1 * r.val = win0_5.index t 2 * 1024 + 1 * r.val; rw [e01]
    | ⟨2, _⟩ => show win0_0.index t 2 * 4096 + 1 * k.val = k.val; rw [e02]; omega
  · refine congrArg (V m c main_v20) (funext fun a => Fin.ext ?_)
    match a with
    | ⟨0, _⟩ => show win0_1.index t 0 * 4096 + 1 * k.val = k.val; rw [e10]; omega
    | ⟨1, _⟩ => show win0_1.index t 1 * 1024 + 1 * (128 * n.val + l.val) = 128 * (win0_5.index t 1 * 8 + 1 * n.val) + l.val; rw [e11]; omega
  · refine congrArg (V m c main_v21) (funext fun a => Fin.ext ?_)
    match a with
    | ⟨0, _⟩ => show win0_2.index t 0 * 1 + 1 * 0 = 0; rw [e20]
    | ⟨1, _⟩ => show win0_2.index t 1 * 128 + 1 * l.val = l.val; rw [e21]; omega
  · refine congrArg (V m c main_v8) (funext fun a => Fin.ext ?_)
    match a with
    | ⟨0, _⟩ => show win0_3.index t 0 * 1024 + 1 * r.val = win0_5.index t 2 * 1024 + 1 * r.val; rw [e30]
    | ⟨1, _⟩ => show win0_3.index t 1 * 128 + 1 * l.val = l.val; rw [e31]; omega
  · refine congrArg (V m c main_v19) (funext fun a => Fin.ext ?_)
    match a with
    | ⟨0, _⟩ => show win0_4.index t 0 * 1024 + 1 * r.val = win0_5.index t 2 * 1024 + 1 * r.val; rw [e40]
    | ⟨1, _⟩ => show win0_4.index t 1 * 128 + 1 * l.val = l.val; rw [e41]; omega

/-- Every entry of the result lies in some point's block. -/
theorem covered (i : S4x16x4096x128.Idx) : ∃ t : Fin cfg0.N, (cfg0.win 5).flush t = true ∧ i ∈ ((cfg0.win 5).blk t).view.set := by
  obtain ⟨b, n, r, q, rfl⟩ : ∃ (b : Fin 4) (n : Fin 16) (r : Fin 4096) (q : Fin 128), i = ix4 b n r q := ⟨i 0, i 1, i 2, i 3, ValueIdx.eq_ix4 i⟩
  obtain ⟨t, h0, h1, h2⟩ := index_onto b ⟨n.val / 8, by omega⟩ ⟨r.val / 1024, by omega⟩
  obtain ⟨_, _, _, _, _, _, _, _, _, _, _, h3, _⟩ := index_facts t
  refine ⟨t, flush_all t, ?_⟩
  have h := ((cfg0.win 5).blk t).view.emb_mem_set (ix4 (0 : Fin 1) (⟨n.val % 8, by omega⟩ : Fin 8) (⟨r.val % 1024, by omega⟩ : Fin 1024) q)
  have e : ((cfg0.win 5).blk t).view.emb (ix4 (0 : Fin 1) (⟨n.val % 8, by omega⟩ : Fin 8) (⟨r.val % 1024, by omega⟩ : Fin 1024) q) = ix4 b n r q := by
    funext a; apply Fin.ext
    match a with
    | ⟨0, _⟩ => show win0_5.index t 0 * 1 + 1 * 0 = b.val; omega
    | ⟨1, _⟩ => show win0_5.index t 1 * 8 + 1 * (n.val % 8) = n.val; simp only at h1; omega
    | ⟨2, _⟩ => show win0_5.index t 2 * 1024 + 1 * (r.val % 1024) = r.val; simp only at h2; omega
    | ⟨3, _⟩ => show win0_5.index t 3 * 128 + 1 * q.val = q.val; rw [h3]; omega
  rwa [e] at h

/-- The host rounds the joint weights, which at the ideal instance changes nothing. -/
theorem weights (c : Dev nD) : V m c main_v20 = m ((c : Thread nD τ).loc main_arg1) := by
  show StableHlo.after hostOps0 (fun b => m (c, b)) main_v20 = _
  unfold hostOps0
  after_results
  rfl

/-- The lanes' weights as a row. -/
theorem lanes (c : Dev nD) (l : Fin 128) : V m c main_v21 (ix2 0 l) = m ((c : Thread nD τ).loc main_arg2) (ix1 l) := by
  have e : V m c main_v21 = (shapeCast S1x128 (m ((c : Thread nD τ).loc main_arg2) : FVec Ideal S128 .f32) shapeCasts_S128_S1x128 : FVec Ideal S1x128 .f32) := by
    show StableHlo.after hostOps0 (fun b => m (c, b)) main_v21 = _
    unfold hostOps0
    after_results
    rfl
  rw [e]
  pointwise

/-- The axis of a lane: the row of the grid for the first 64, else the column. -/
def axisOf (l : Fin 128) : Fin 2 := ⟨l.val / 64, by omega⟩

/-- The frequency of a lane. -/
def freq (l : Fin 128) : Fin 32 := ⟨l.val % 32, by omega⟩

/-- One axis's 32 values. -/
def axis0 (x : FVec Ideal S4096x2x32 .f32) : FVec Ideal S4096x32 .f32 :=
  shapeCast S4096x32 (extractStridedSlice S4096x1x32 ![0, 0, 0] x slices_S4096x2x32_S4096x1x32_0_0_0) shapeCasts_S4096x1x32_S4096x32
def axis1 (x : FVec Ideal S4096x2x32 .f32) : FVec Ideal S4096x32 .f32 :=
  shapeCast S4096x32 (extractStridedSlice S4096x1x32 ![0, 1, 0] x slices_S4096x2x32_S4096x1x32_0_1_0) shapeCasts_S4096x1x32_S4096x32

/-- A table of 128 lanes from four of 32. -/
def table (p q u v : FVec Ideal S4096x32 .f32) : FVec Ideal S4096x128 .f32 :=
  concatenate S4096x128 1 [⟨S4096x32, p⟩, ⟨S4096x32, q⟩, ⟨S4096x32, u⟩, ⟨S4096x32, v⟩] concatenates_S4096x32_S4096x32_S4096x32_S4096x32_S4096x128_d1

theorem table_apply (p q u v : FVec Ideal S4096x32 .f32) (r : Fin 4096) (l : Fin 128) :
    table p q u v (ix2 r l) = if l.val / 64 = 0 then (if l.val % 64 < 32 then p (ix2 r (freq l)) else q (ix2 r (freq l)))
      else (if l.val % 64 < 32 then u (ix2 r (freq l)) else v (ix2 r (freq l))) := by
  unfold freq
  pointwise [table]
  have hl : l.val < 128 := l.isLt
  by_cases h0 : l.val < 32
  · refine (dif_pos h0).trans ?_
    refine Eq.trans (congrArg (fun k => p (ix2 r k)) (Fin.ext (by show l.val = l.val % 32; omega))) ((if_pos ?_).trans (if_pos ?_)).symm <;> omega
  refine (dif_neg h0).trans ?_
  by_cases h1 : l.val - 32 < 32
  · refine (dif_pos h1).trans ?_
    refine Eq.trans (congrArg (fun k => q (ix2 r k)) (Fin.ext (by show l.val - 32 = l.val % 32; omega))) ((if_pos ?_).trans (if_neg ?_)).symm <;> omega
  refine (dif_neg h1).trans ?_
  by_cases h2 : l.val - 32 - 32 < 32
  · refine (dif_pos h2).trans ?_
    refine Eq.trans (congrArg (fun k => u (ix2 r k)) (Fin.ext (by show l.val - 32 - 32 = l.val % 32; omega))) ((if_neg ?_).trans (if_pos ?_)).symm <;> omega
  refine (dif_neg h2).trans ?_
  refine Eq.trans (congrArg (fun k => v (ix2 r k)) (Fin.ext (by show l.val - 32 - 32 - 32 = l.val % 32; omega))) ((if_neg ?_).trans (if_neg ?_)).symm <;> omega

theorem axis0_apply (x : FVec Ideal S4096x2x32 .f32) (r : Fin 4096) (k : Fin 32) : axis0 x (ix2 r k) = x (ix3 r 0 k) := by
  pointwise [axis0]
theorem axis1_apply (x : FVec Ideal S4096x2x32 .f32) (r : Fin 4096) (k : Fin 32) : axis1 x (ix2 r k) = x (ix3 r 1 k) := by
  pointwise [axis1]

/-- The host's table of cosines: each axis's cosines twice. -/
theorem cosines (c : Dev nD) (r : Fin 4096) (l : Fin 128) :
    V m c main_v8 (ix2 r l) = m ((c : Thread nD τ).loc main_arg3) (ix3 r (axisOf l) (freq l)) := by
  have e : V m c main_v8 = table (axis0 (m ((c : Thread nD τ).loc main_arg3))) (axis0 (m ((c : Thread nD τ).loc main_arg3))) (axis1 (m ((c : Thread nD τ).loc main_arg3))) (axis1 (m ((c : Thread nD τ).loc main_arg3))) := by
    show StableHlo.after hostOps0 (fun b => m (c, b)) main_v8 = _
    unfold hostOps0
    after_results
    rfl
  rw [e, table_apply, axis0_apply, axis1_apply, ite_self, ite_self]
  by_cases h : l.val / 64 = 0
  · rw [if_pos h]; exact congrArg (fun a => m ((c : Thread nD τ).loc main_arg3) (ix3 r a (freq l))) (Fin.ext h.symm)
  · rw [if_neg h]; exact congrArg (fun a => m ((c : Thread nD τ).loc main_arg3) (ix3 r a (freq l))) (Fin.ext (by show 1 = l.val / 64; omega))

/-- The sine of a lane's angle, negated in the lower half of each axis's lanes. -/
def signed (x : FVec Ideal S4096x2x32 .f32) (r : Fin 4096) (l : Fin 128) : EReal :=
  if l.val % 64 < 32 then - x (ix3 r (axisOf l) (freq l)) else x (ix3 r (axisOf l) (freq l))

/-- The host's table of sines: each axis's sines twice, negated the first time. -/
theorem sines (c : Dev nD) (r : Fin 4096) (l : Fin 128) :
    V m c main_v19 (ix2 r l) = signed (m ((c : Thread nD τ).loc main_arg4)) r l := by
  unfold signed
  have e : V m c main_v19 = table (Host.negf (axis0 (m ((c : Thread nD τ).loc main_arg4)))) (axis0 (m ((c : Thread nD τ).loc main_arg4))) (Host.negf (axis1 (m ((c : Thread nD τ).loc main_arg4)))) (axis1 (m ((c : Thread nD τ).loc main_arg4))) := by
    show StableHlo.after hostOps0 (fun b => m (c, b)) main_v19 = _
    unfold hostOps0
    after_results
    rfl
  have hn : ∀ x : FVec Ideal S4096x32 .f32, ∀ j, (Host.negf x : FVec Ideal S4096x32 .f32) j = - (x j : EReal) := fun _ _ => rfl
  rw [e, table_apply, hn, hn, axis0_apply, axis1_apply]
  by_cases h : l.val / 64 = 0
  · rw [if_pos h, show axisOf l = 0 from Fin.ext h]
  · rw [if_neg h, show axisOf l = 1 from Fin.ext (by show l.val / 64 = 1; omega)]

/-- The queries from the rows, the joint weights, the lanes' weights, and the cosines and sines of the rows' angles. -/
def Q (x : Vec Ideal S4x4096x4096 .bf16) (w : Vec Ideal S4096x15360 .f32) (g : Vec Ideal S128 .f32) (cs sn : Vec Ideal S4096x2x32 .f32) :
    Vec Ideal S4x16x4096x128 .bf16 :=
  fun i => turned (fun l => ∑ k : Fin 4096, x (ix3 (i 0) (i 2) k) * w (ix2 k (⟨128 * (i 1).val + l.val, by have h : (i 1).val < 16 := (i 1).isLt; omega⟩ : Fin 15360)))
    (fun l => g (ix1 l)) (fun l => cs (ix3 (i 2) (axisOf l) (freq l))) (fun l => signed sn (i 2) l) (i 3)

/-- The result of the kernel: the queries of its arguments. -/
theorem final (c : Dev nD) : (dats m 0 c).arrAt 5 cfg0.N = Q (m ((c : Thread nD τ).loc main_arg0)) (m ((c : Thread nD τ).loc main_arg1))
    (m ((c : Thread nD τ).loc main_arg2)) (m ((c : Thread nD τ).loc main_arg3)) (m ((c : Thread nD τ).loc main_arg4)) :=
  ((dats m 0 c).arrAt_eq_of_cover 5 (G (V m c main_arg0) (V m c main_v20) (V m c main_v21) (V m c main_v8) (V m c main_v19)) (fun t _ => flushed_eq m c t) covered).trans
    (by
      rw [weights, V_main_arg0]
      funext i
      exact turned_congr (fun _ => rfl) (fun l => lanes m c l) (fun l => cosines m c (i 2) l) (fun l => sines m c (i 2) l) (i 3))

end Cert.Kernel5Ideal.Query
-- ==== Proof.QueryRef.lean ====
module
public import proofs.«01_k».proof.Proof.Query

/-!
The reference of the query projection, entry by entry, and the claims of this call.
-/

@[expose] public noncomputable section
set_option maxRecDepth 16384

namespace Cert.Reference5Ideal.Query

open Cert.Reference5Ideal Cert.Reference5Ideal.Gen Idealize.ShloMosaic
open Cert.Reference5Ideal.Facts
open Cert.Kernel5Ideal.Query (nrm mate axisOf freq signed turned turned_congr)
open scoped BigOperators

/-- The products, sixteen heads of 128 lanes to a row. -/
def prod (x : FVec Ideal S4x4096x4096 .bf16) (w : FVec Ideal S4096x15360 .f32) : FVec Ideal S4x4096x16x128 .f32 :=
  shapeCast _ (extractStridedSlice S4x4096x2048 ![0, 0, 0] (Host.dotGeneral dot_S4x4096x4096_S4096x15360_S4x4096x15360_2_0_01_1_n_n none x w) slices_S4x4096x15360_S4x4096x2048_0_0_0) shapeCasts_S4x4096x2048_S4x4096x16x128

theorem prod_apply (x : FVec Ideal S4x4096x4096 .bf16) (w : FVec Ideal S4096x15360 .f32) (b : Fin 4) (r : Fin 4096) (n : Fin 16) (l : Fin 128) :
    prod x w (ix4 b r n l) = ∑ k : Fin 4096, x (ix3 b r k) * w (ix2 k (⟨128 * n.val + l.val, by omega⟩ : Fin 15360)) := by
  have e : ∀ k : Fin 4096, (ix2 k (⟨128 * n.val + l.val, by omega⟩ : Fin 15360) : S4096x15360.Idx) = ix2 k (⟨n.val * 128 + l.val, by omega⟩ : Fin 15360) :=
    fun k => congrArg (ix2 k) (Fin.ext (by show 128 * n.val + l.val = n.val * 128 + l.val; omega))
  simp only [e]
  pointwise [prod]

/-- The heads normed. -/
def normed (a : FVec Ideal S4x4096x16x128 .f32) (g : FVec Ideal S128 .f32) : FVec Ideal S4x4096x16x128 .f32 :=
  mulf (mulf a (broadcastInDim S4x4096x16x128 ![0, 1, 2, 3] bcast_S4x4096x16x1_S4x4096x16x128_0_1_2_3 (Host.rsqrt (addf (Host.divf (broadcastInDim S4x4096x16x1 ![0, 1, 2] bcast_S4x4096x16_S4x4096x16x1_0_1_2 (Host.reduceAdd (mulf a a) (constant S_ .f32 0x00000000#32) reducesTo_S4x4096x16x128_S4x4096x16_d3 h_S_)) (broadcastInDim S4x4096x16x1 ![] bcast_S_S4x4096x16x1 (constant S_ .f32 0x43000000#32))) (broadcastInDim S4x4096x16x1 ![] bcast_S_S4x4096x16x1 (constant S_ .f32 0x358637BD#32)))))) (broadcastInDim S4x4096x16x128 ![0, 1, 2, 3] bcast_S1x1x1x128_S4x4096x16x128_0_1_2_3 (broadcastInDim S1x1x1x128 ![3] bcast_S128_S1x1x1x128_3 g))

theorem normed_apply (a : FVec Ideal S4x4096x16x128 .f32) (g : FVec Ideal S128 .f32) (b : Fin 4) (r : Fin 4096) (n : Fin 16) (l : Fin 128) :
    normed a g (ix4 b r n l) = nrm (fun l => a (ix4 b r n l)) (fun l => g (ix1 l)) l := by
  unfold nrm
  pointwise [normed]

/-- The lower and the upper half of each axis's lanes. -/
def lower (y : FVec Ideal S4x4096x16x128 .f32) : FVec Ideal S4x4096x16x2x32 .f32 :=
  shapeCast _ (extractStridedSlice S4x4096x16x2x1x32 ![0, 0, 0, 0, 0, 0] (shapeCast _ y shapeCasts_S4x4096x16x128_S4x4096x16x2x2x32) slices_S4x4096x16x2x2x32_S4x4096x16x2x1x32_0_0_0_0_0_0) shapeCasts_S4x4096x16x2x1x32_S4x4096x16x2x32
def upper (y : FVec Ideal S4x4096x16x128 .f32) : FVec Ideal S4x4096x16x2x32 .f32 :=
  shapeCast _ (extractStridedSlice S4x4096x16x2x1x32 ![0, 0, 0, 0, 1, 0] (shapeCast _ y shapeCasts_S4x4096x16x128_S4x4096x16x2x2x32) slices_S4x4096x16x2x2x32_S4x4096x16x2x1x32_0_0_0_0_1_0) shapeCasts_S4x4096x16x2x1x32_S4x4096x16x2x32

theorem lower_apply (y : FVec Ideal S4x4096x16x128 .f32) (b : Fin 4) (r : Fin 4096) (n : Fin 16) (a : Fin 2) (k : Fin 32) :
    lower y (ix5 b r n a k) = y (ix4 b r n (⟨64 * a.val + k.val, by omega⟩ : Fin 128)) := by
  pointwise [lower]
  exact congrArg (fun l => y (ix4 b r n l)) (Fin.ext (by show a.val * 64 + k.val = 64 * a.val + k.val; omega))
theorem upper_apply (y : FVec Ideal S4x4096x16x128 .f32) (b : Fin 4) (r : Fin 4096) (n : Fin 16) (a : Fin 2) (k : Fin 32) :
    upper y (ix5 b r n a k) = y (ix4 b r n (⟨64 * a.val + 32 + k.val, by omega⟩ : Fin 128)) := by
  pointwise [upper]
  exact congrArg (fun l => y (ix4 b r n l)) (Fin.ext (by show a.val * 64 + 32 + k.val = 64 * a.val + 32 + k.val; omega))

/-- A table over all rows and heads. -/
def angle (t : FVec Ideal S4096x2x32 .f32) : FVec Ideal S4x4096x16x2x32 .f32 :=
  broadcastInDim S4x4096x16x2x32 ![0, 1, 2, 3, 4] bcast_S1x4096x1x2x32_S4x4096x16x2x32_0_1_2_3_4 (broadcastInDim S1x4096x1x2x32 ![1, 3, 4] bcast_S4096x2x32_S1x4096x1x2x32_1_3_4 t)

theorem angle_apply (t : FVec Ideal S4096x2x32 .f32) (b : Fin 4) (r : Fin 4096) (n : Fin 16) (a : Fin 2) (k : Fin 32) :
    angle t (ix5 b r n a k) = t (ix3 r a k) := by
  pointwise [angle]

/-- The two halves side by side again. -/
def joined (u v : FVec Ideal S4x4096x16x2x32 .f32) : FVec Ideal S4x4096x16x128 .f32 :=
  shapeCast _ (concatenate S4x4096x16x2x2x32 4 [⟨S4x4096x16x2x1x32, (broadcastInDim S4x4096x16x2x1x32 ![0, 1, 2, 3, 5] bcast_S4x4096x16x2x32_S4x4096x16x2x1x32_0_1_2_3_5 u)⟩, ⟨S4x4096x16x2x1x32, (broadcastInDim S4x4096x16x2x1x32 ![0, 1, 2, 3, 5] bcast_S4x4096x16x2x32_S4x4096x16x2x1x32_0_1_2_3_5 v)⟩] concatenates_S4x4096x16x2x1x32_S4x4096x16x2x1x32_S4x4096x16x2x2x32_d4) shapeCasts_S4x4096x16x2x2x32_S4x4096x16x128

theorem joined_apply (u v : FVec Ideal S4x4096x16x2x32 .f32) (b : Fin 4) (r : Fin 4096) (n : Fin 16) (l : Fin 128) :
    joined u v (ix4 b r n l) = if l.val % 64 < 32 then u (ix5 b r n (axisOf l) (freq l)) else v (ix5 b r n (axisOf l) (freq l)) := by
  unfold axisOf freq
  pointwise [joined]
  by_cases h : l.val % 64 < 32
  · exact (dif_pos (by omega)).trans (if_pos h).symm
  · exact (dif_neg (by omega)).trans (if_neg h).symm

/-- The heads in front of the rows, times the constant. -/
def scaled (z : FVec Ideal S4x4096x16x128 .f32) : FVec Ideal S4x16x4096x128 .bf16 :=
  truncf .bf16 (transpose S4x16x4096x128 [0, 2, 1, 3] (mulf z (broadcastInDim S4x4096x16x128 ![] bcast_S_S4x4096x16x128 (constant S_ .f32 0x3E0293EE#32))) transposes_S4x4096x16x128_S4x16x4096x128_0_2_1_3) bitsLt_bf16_f32

theorem scaled_apply (z : FVec Ideal S4x4096x16x128 .f32) (b : Fin 4) (n : Fin 16) (r : Fin 4096) (c : Fin 128) :
    scaled z (ix4 b n r c) = z (ix4 b r n c) * Ideal.ofBits .f32 0x3E0293EE#32 := by
  pointwise [scaled]

/-- The two halves of the lanes turned. -/
def first (u v a s : FVec Ideal S4x4096x16x2x32 .f32) : FVec Ideal S4x4096x16x2x32 .f32 := subf (mulf u a) (mulf v s)
def second (u v a s : FVec Ideal S4x4096x16x2x32 .f32) : FVec Ideal S4x4096x16x2x32 .f32 := addf (mulf v a) (mulf u s)

theorem first_apply (u v a s : FVec Ideal S4x4096x16x2x32 .f32) (j : S4x4096x16x2x32.Idx) : first u v a s j = (u j * a j - v j * s j : EReal) := rfl
theorem second_apply (u v a s : FVec Ideal S4x4096x16x2x32 .f32) (j : S4x4096x16x2x32.Idx) : second u v a s j = (v j * a j + u j * s j : EReal) := rfl

/-- The lanes of the normed heads turned: the product with the lane's cosine and the product of the lane's mate with the signed sine. -/
theorem turned_apply (y : FVec Ideal S4x4096x16x128 .f32) (cs sn : FVec Ideal S4096x2x32 .f32) (b : Fin 4) (r : Fin 4096) (n : Fin 16) (c : Fin 128) :
    joined (first (lower y) (upper y) (angle cs) (angle sn)) (second (lower y) (upper y) (angle cs) (angle sn)) (ix4 b r n c)
      = (y (ix4 b r n c) * cs (ix3 r (axisOf c) (freq c)) + y (ix4 b r n (mate c)) * signed sn r c : EReal) := by
  rw [joined_apply, first_apply, second_apply, lower_apply, upper_apply, angle_apply, angle_apply]
  unfold signed
  by_cases h : c.val % 64 < 32
  · have e0 : (⟨64 * (axisOf c).val + (freq c).val, by omega⟩ : Fin 128) = c := Fin.ext (by show 64 * (c.val / 64) + c.val % 32 = c.val; omega)
    have e1 : (⟨64 * (axisOf c).val + 32 + (freq c).val, by omega⟩ : Fin 128) = mate c := by
      unfold mate
      rw [if_pos h]
      exact Fin.ext (by show 64 * (c.val / 64) + 32 + c.val % 32 = (c.val + 32) % 128; omega)
    rw [if_pos h, if_pos h, e0, e1]
    exact (sub_eq_add_neg _ _).trans (congrArg (fun t : EReal => _ + t) (mul_neg _ _).symm)
  · have e0 : (⟨64 * (axisOf c).val + (freq c).val, by omega⟩ : Fin 128) = mate c := by
      unfold mate
      rw [if_neg h]
      exact Fin.ext (by show 64 * (c.val / 64) + c.val % 32 = (c.val + 96) % 128; omega)
    have e1 : (⟨64 * (axisOf c).val + 32 + (freq c).val, by omega⟩ : Fin 128) = c := Fin.ext (by show 64 * (c.val / 64) + 32 + c.val % 32 = c.val; omega)
    rw [if_neg h, if_neg h, e0, e1]

/-- The reference's result. -/
def result (x : FVec Ideal S4x4096x4096 .bf16) (w : FVec Ideal S4096x15360 .f32) (g : FVec Ideal S128 .f32) (cs sn : FVec Ideal S4096x2x32 .f32) : FVec Ideal S4x16x4096x128 .bf16 :=
  have y : FVec Ideal S4x4096x16x128 .f32 := normed (prod x w) g
  scaled (joined (first (lower y) (upper y) (angle cs) (angle sn)) (second (lower y) (upper y) (angle cs) (angle sn)))

/-- The reference's result is the kernel's. -/
theorem ref_eq (x : FVec Ideal S4x4096x4096 .bf16) (w : FVec Ideal S4096x15360 .f32) (g : FVec Ideal S128 .f32) (cs sn : FVec Ideal S4096x2x32 .f32) :
    result x w g cs sn = Cert.Kernel5Ideal.Query.Q x w g cs sn := by
  funext i
  obtain ⟨b, n, r, c, rfl⟩ : ∃ (b : Fin 4) (n : Fin 16) (r : Fin 4096) (c : Fin 128), i = ix4 b n r c := ⟨i 0, i 1, i 2, i 3, ValueIdx.eq_ix4 i⟩
  refine (scaled_apply _ b n r c).trans ?_
  rw [turned_apply, normed_apply, normed_apply]
  show turned (fun l => prod x w (ix4 b r n l)) (fun l => g (ix1 l)) (fun l => cs (ix3 r (axisOf l) (freq l))) (fun l => signed sn r l) c
    = turned (fun l => ∑ k : Fin 4096, x (ix3 b r k) * w (ix2 k (⟨128 * n.val + l.val, by omega⟩ : Fin 15360))) (fun l => g (ix1 l))
      (fun l => cs (ix3 r (axisOf l) (freq l))) (fun l => signed sn r l) c
  exact turned_congr (fun l => prod_apply x w b r n l) (fun _ => rfl) (fun _ => rfl) (fun _ => rfl) c

end Cert.Reference5Ideal.Query

namespace Cert.Proof

open Idealize.ShloMosaic Idealize.ShloMosaic.TcCoe Idealize.SL.Sem

theorem frame_Reference5Ideal : Cert.quiescent_Reference5Ideal (hReference5Ideal := Cert.Reference5Ideal.Gen.facts) :=
  fun m g _ => (θ_run Cert.Reference5Ideal.defs _ _).mono (fun r h => ⟨fun c => (h c).2, sem_eq_zero_of_no_sems (by decide) r.2⟩) (Cert.Reference5Ideal.Value.run m g)

/-- From equal arguments the kernel and the reference leave the same result, at the ideal instance. -/
theorem algebraic5 : Cert.algebraic_Kernel5Ideal_Reference5Ideal (hKernel5Ideal := Cert.Kernel5Ideal.Gen.facts) (hReference5Ideal := Cert.Reference5Ideal.Gen.facts) := by
  intro m g m' g' _ e
  refine ⟨_, (θ_run Cert.Kernel5Ideal.defs _ _).mono (fun _ h c => ⟨(h c).1.trans (Cert.Kernel5Ideal.Query.final m c), (h c).2⟩) (Cert.Kernel5Ideal.Value.run_blocks m g), ?_⟩
  refine (θ_run Cert.Reference5Ideal.defs _ _).mono (fun _ h c => ⟨(h c).1.trans ?_, (h c).2⟩) (Cert.Reference5Ideal.Value.run m' g')
  obtain ⟨e0, e1, e2, e3, e4⟩ := e c
  refine Eq.trans ?_ (Cert.Reference5Ideal.Query.ref_eq _ _ _ _ _)
  rw [← e0, ← e1, ← e2, ← e3, ← e4]
  rfl

end Cert.Proof
-- ==== Proof.KeyTile.lean ====
module
public import proofs.«01_k».proof.Proof.Query
public import proofs.«01_k».proof.Proof.Gen.Kernel7Ideal.Value

/-!
The block of the projection to keys and values. A head of keys is normed and turned like a head of queries, without the constant
factor; the values are the products themselves.
-/

@[expose] public noncomputable section
set_option maxRecDepth 16384

namespace Cert.Kernel7Ideal.Keys

open Cert.Kernel7Ideal Cert.Kernel7Ideal.Gen Idealize.ShloMosaic Idealize.ShloMosaic.TcCoe Idealize.SL.Sem
open Cert.Kernel5Ideal.Query (nrm mate test test_eq)
open scoped BigOperators

/-- A lane of the normed head, turned by the tables of cosines and signed sines. -/
def rotated (a g ct st : Fin 128 → EReal) (c : Fin 128) : EReal :=
  nrm a g c * ct c + nrm a g (mate c) * st c

/-- Equal rows and tables turn to equal lanes. -/
theorem rotated_congr {a a' g g' ct ct' st st' : Fin 128 → EReal} {c c' : Fin 128} (ha : ∀ l, a l = a' l) (hg : ∀ l, g l = g' l) (hc : ∀ l, ct l = ct' l)
    (hs : ∀ l, st l = st' l) (h : c = c') : rotated a g ct st c = rotated a' g' ct' st' c' := by
  rw [funext ha, funext hg, funext hc, funext hs, h]

/-- What the body computes of one head's columns, as the first store has it. -/
def head (a : FVec Ideal S512x128 .f32) (g : Vec Ideal S1x128 .f32) (ct st : FVec Ideal S512x128 .f32) : FVec Ideal S1x512x128 .bf16 :=
  have y : FVec Ideal S512x128 .f32 := mulf (mulf a (broadcastTo S512x128 (rsqrt (addf (divf (shapeCast S512x1 (multiReduction .add [1] S512 (mulf a a) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128)) (broadcastTo S512x128 (shapeCast S1x128 g shapeCasts_S1x128_S1x128) broadcasts_S1x128_S512x128)
  k0_pay14 ct st y (Scalar.select (Scalar.cmpi .eq 64#32 0#32) 1#32 64#32) k0_pay10 k0_pay11 k0_pay12 k0_pay13

/-- What the body computes of a head, entry by entry. -/
theorem head_apply (a : FVec Ideal S512x128 .f32) (g : Vec Ideal S1x128 .f32) (ct st : FVec Ideal S512x128 .f32) (r : Fin 512) (c : Fin 128) :
    head a g ct st (ix3 0 r c) = rotated (fun l => a (ix2 r l)) (fun l => g (ix2 0 l)) (fun l => ct (ix2 r l)) (fun l => st (ix2 r l)) c := by
  unfold rotated nrm
  pointwise [head, k0_pay14, k0_pay10, k0_pay11, k0_pay12, k0_pay13]
  show _ + Scalar.select (test c) _ _ * _ = _
  rw [test_eq c]
  unfold mate
  by_cases h : c.val % 64 < 32
  · have e : (⟨(c.val + 128 - 96) % 128, by omega⟩ : Fin 128) = ⟨(c.val + 32) % 128, by omega⟩ := Fin.ext (by show (c.val + 128 - 96) % 128 = _; congr 1)
    simp only [h, if_true, e]
    rfl
  · have e : (⟨(c.val + 128 - 32) % 128, by omega⟩ : Fin 128) = ⟨(c.val + 96) % 128, by omega⟩ := Fin.ext (by show (c.val + 128 - 32) % 128 = _; congr 1)
    simp only [h, if_false, e]
    rfl

/-- The product of half a block's rows with the weights. -/
theorem acc_apply (v : Vec Ideal S1x512x4096 .bf16) (w : Vec Ideal S4096x512 .bf16) (r n : Fin 512) :
    k0_pay6 (F := Ideal) v w (ix2 r n) = ∑ k : Fin 4096, v (ix3 0 r k) * w (ix2 k n) := by
  pointwise [k0_pay6, k0_pay5]

/-- The values of half a block's rows. -/
theorem val_apply (v : Vec Ideal S1x512x4096 .bf16) (w : Vec Ideal S4096x512 .bf16) (r n : Fin 512) :
    k0_pay31 (F := Ideal) (k0_pay5 v) w (ix3 0 r n) = ∑ k : Fin 4096, v (ix3 0 r k) * w (ix2 k n) := by
  pointwise [k0_pay31, k0_pay5]

/-- A block of keys: row `j 1`, and in column `j 2` the lane and the head it lies in. -/
def E (x : Vec Ideal S1x1024x4096 .bf16) (w : Vec Ideal S4096x512 .bf16) (g : Vec Ideal S1x128 .f32) (ct st : Vec Ideal S1024x128 .f32) :
    Vec Ideal S1x1024x512 .bf16 :=
  fun j => rotated (fun l => ∑ k : Fin 4096, x (ix3 0 (j 1) k) * w (ix2 k (⟨128 * ((j 2).val / 128) + l.val, by have h : (j 2).val < 512 := (j 2).isLt; omega⟩ : Fin 512)))
    (fun l => g (ix2 0 l)) (fun l => ct (ix2 (j 1) l)) (fun l => st (ix2 (j 1) l)) ⟨(j 2).val % 128, Nat.mod_lt _ (by decide)⟩

/-- A block of values: row `j 1`, column `j 2`. -/
def W (x : Vec Ideal S1x1024x4096 .bf16) (w : Vec Ideal S4096x512 .bf16) : Vec Ideal S1x1024x512 .bf16 :=
  fun j => ∑ k : Fin 4096, x (ix3 0 (j 1) k) * w (ix2 k (j 2))

/-- An entry of half the rows' block is the entry of the block, `R` rows further. -/
theorem rows_ld (x : Vec Ideal S1x1024x4096 .bf16) (R : ℕ) (hx : ∀ a, (![0, R, 0] : Fin 3 → Nat) a + S1x512x4096.size a ≤ S1x1024x4096.size a)
    (r : Fin 512) (k : Fin 4096) (r' : Fin 1024) (h : r'.val = R + r.val) :
    View.ld (Val := Elt Ideal) (e' := .bf16) x (Rect.unit (s := S1x1024x4096) ![0, R, 0] S1x512x4096.size hx) (ix3 0 r k) = x (ix3 0 r' k) :=
  congrArg x (funext fun a => Fin.ext (by
    match a with
    | ⟨0, _⟩ => rfl
    | ⟨1, _⟩ => show R + 1 * r.val = r'.val; omega
    | ⟨2, _⟩ => show 0 + 1 * k.val = k.val; omega))

/-- The weights' block is loaded whole. -/
theorem weights_ld (w : Vec Ideal S4096x512 .bf16) (hw : ∀ a, (![0, 0] : Fin 2 → Nat) a + S4096x512.size a ≤ S4096x512.size a) (k : Fin 4096) (n : Fin 512) :
    View.ld (Val := Elt Ideal) (e' := .bf16) w (Rect.unit (s := S4096x512) ![0, 0] S4096x512.size hw) (ix2 k n) = w (ix2 k n) :=
  congrArg w (funext fun a => Fin.ext (by
    match a with
    | ⟨0, _⟩ => show 0 + 1 * k.val = k.val; omega
    | ⟨1, _⟩ => show 0 + 1 * n.val = n.val; omega))

/-- One store of keys: head `n` of the half of the rows that begins at row `R`. -/
theorem store (x : Vec Ideal S1x1024x4096 .bf16) (w : Vec Ideal S4096x512 .bf16) (g : Vec Ideal S1x128 .f32) (ct st : Vec Ideal S1024x128 .f32)
    (n R : ℕ) (hs : Shape.Slices S512x512 ![0, 128 * n] S512x128) (hr : Shape.Slices S1024x128 ![R, 0] S512x128)
    (hx : ∀ a, (![0, R, 0] : Fin 3 → Nat) a + S1x512x4096.size a ≤ S1x1024x4096.size a)
    (ho : ∀ a, (![0, R, 128 * n] : Fin 3 → Nat) a + S1x512x128.size a ≤ S1x1024x512.size a) (j : S1x512x128.Idx) :
    head (extractStridedSlice S512x128 ![0, 128 * n] (k0_pay6 (View.ld (Val := Elt Ideal) (e' := .bf16) x (Rect.unit (s := S1x1024x4096) ![0, R, 0] S1x512x4096.size hx)) (View.ld (Val := Elt Ideal) (e' := .bf16) w (Rect.unit (s := S4096x512) ![0, 0] S4096x512.size inb_S4096x512_S4096x512_0_0))) hs)
      (View.ld (Val := Elt Ideal) (e' := .f32) g (Rect.unit (s := S1x128) ![0, 0] S1x128.size inb_S1x128_S1x128_0_0))
      (extractStridedSlice S512x128 ![R, 0] (k0_pay3 (View.ld (Val := Elt Ideal) (e' := .f32) ct (Rect.unit (s := S1024x128) ![0, 0] S1024x128.size inb_S1024x128_S1024x128_0_0))) hr)
      (extractStridedSlice S512x128 ![R, 0] (k0_pay3 (View.ld (Val := Elt Ideal) (e' := .f32) st (Rect.unit (s := S1024x128) ![0, 0] S1024x128.size inb_S1024x128_S1024x128_0_0))) hr) j
    = E x w g ct st ((Rect.unit (s := S1x1024x512) ![0, R, 128 * n] S1x512x128.size ho).emb j) := by
  obtain ⟨r, c, rfl⟩ : ∃ (r : Fin 512) (c : Fin 128), j = ix3 0 r c := ⟨j 1, j 2, (ValueIdx.eq_ix3 j).trans (congrArg (fun (p : Fin 1) => (ix3 p (j 1) (j 2) : S1x512x128.Idx)) (Subsingleton.elim _ _))⟩
  have hn : 128 * n + 128 ≤ 512 := ho 2
  have hR : R + 512 ≤ 1024 := ho 1
  have he : (Rect.unit (s := S1x1024x512) ![0, R, 128 * n] S1x512x128.size ho).emb (ix3 0 r c) = ix3 0 (⟨R + r.val, by omega⟩ : Fin 1024) (⟨128 * n + c.val, by omega⟩ : Fin 512) := by
    funext a; apply Fin.ext
    match a with
    | ⟨0, _⟩ => rfl
    | ⟨1, _⟩ => show R + 1 * r.val = R + r.val; omega
    | ⟨2, _⟩ => show 128 * n + 1 * c.val = 128 * n + c.val; omega
  have ht : ∀ (t : Vec Ideal S1024x128 .f32) (l : Fin 128), extractStridedSlice S512x128 ![R, 0] (k0_pay3 (F := Ideal) (View.ld (Val := Elt Ideal) (e' := .f32) t (Rect.unit (s := S1024x128) ![0, 0] S1024x128.size inb_S1024x128_S1024x128_0_0))) hr (ix2 r l)
      = t (ix2 (⟨R + r.val, by omega⟩ : Fin 1024) l) := fun t l => by
    refine (extractStridedSlice_apply _ _ hr _ (ix2 (⟨R + r.val, by omega⟩ : Fin 1024) l) fun a => ?_).trans ?_
    · match a with
      | ⟨0, _⟩ => rfl
      | ⟨1, _⟩ => show l.val = 0 + l.val; omega
    · have e : ∀ (v : Vec Ideal S1024x128 .f32) (p : Fin 1024) (q : Fin 128), k0_pay3 (F := Ideal) v (ix2 p q) = v (ix2 p q) := fun v p q => by pointwise [k0_pay3]
      rw [e]
      refine congrArg t (funext fun a => Fin.ext ?_)
      match a with
      | ⟨0, _⟩ => show 0 + 1 * (R + r.val) = R + r.val; omega
      | ⟨1, _⟩ => show 0 + 1 * l.val = l.val; omega
  rw [he, head_apply]
  refine rotated_congr (fun l => ?_) (fun l => ?_) (fun l => ht ct l) (fun l => ht st l) (Fin.ext ?_)
  · refine (extractStridedSlice_apply _ _ hs _ (ix2 r (⟨128 * n + l.val, by omega⟩ : Fin 512)) fun a => ?_).trans ?_
    · match a with
      | ⟨0, _⟩ => show r.val = 0 + r.val; omega
      | ⟨1, _⟩ => rfl
    · rw [acc_apply]
      refine Finset.sum_congr rfl fun k _ => congrArg₂ (· * ·) (rows_ld x R hx r k _ rfl) ((weights_ld w _ k _).trans (congrArg (fun q => w (ix2 k q)) (Fin.ext ?_)))
      show 128 * n + l.val = 128 * ((128 * n + c.val) / 128) + l.val
      omega
  · refine congrArg g (funext fun a => Fin.ext ?_)
    match a with
    | ⟨0, _⟩ => rfl
    | ⟨1, _⟩ => show 0 + 1 * l.val = l.val; omega
  · show c.val = (128 * n + c.val) % 128
    omega

/-- One store of values: the half of the rows that begins at row `R`. -/
theorem store_val (x : Vec Ideal S1x1024x4096 .bf16) (w : Vec Ideal S4096x512 .bf16) (R : ℕ)
    (hx : ∀ a, (![0, R, 0] : Fin 3 → Nat) a + S1x512x4096.size a ≤ S1x1024x4096.size a)
    (ho : ∀ a, (![0, R, 0] : Fin 3 → Nat) a + S1x512x512.size a ≤ S1x1024x512.size a) (j : S1x512x512.Idx) :
    k0_pay31 (k0_pay5 (View.ld (Val := Elt Ideal) (e' := .bf16) x (Rect.unit (s := S1x1024x4096) ![0, R, 0] S1x512x4096.size hx))) (View.ld (Val := Elt Ideal) (e' := .bf16) w (Rect.unit (s := S4096x512) ![0, 0] S4096x512.size inb_S4096x512_S4096x512_0_0)) j
    = W x w ((Rect.unit (s := S1x1024x512) ![0, R, 0] S1x512x512.size ho).emb j) := by
  obtain ⟨r, n, rfl⟩ : ∃ (r n : Fin 512), j = ix3 0 r n := ⟨j 1, j 2, (ValueIdx.eq_ix3 j).trans (congrArg (fun (p : Fin 1) => (ix3 p (j 1) (j 2) : S1x512x512.Idx)) (Subsingleton.elim _ _))⟩
  have hR : R + 512 ≤ 1024 := ho 1
  have he : (Rect.unit (s := S1x1024x512) ![0, R, 0] S1x512x512.size ho).emb (ix3 0 r n) = ix3 0 (⟨R + r.val, by omega⟩ : Fin 1024) n := by
    funext a; apply Fin.ext
    match a with
    | ⟨0, _⟩ => rfl
    | ⟨1, _⟩ => show R + 1 * r.val = R + r.val; omega
    | ⟨2, _⟩ => show 0 + 1 * n.val = n.val; omega
  rw [he, val_apply]
  exact Finset.sum_congr rfl fun k _ => congrArg₂ (· * ·) (rows_ld x R hx r k _ rfl) (weights_ld w _ k n)

/-- The body's eight stores of keys together are the block. -/
theorem keys_eq (x : Vec Ideal S1x1024x4096 .bf16) (w v : Vec Ideal S4096x512 .bf16) (g : Vec Ideal S1x128 .f32) (ct st : Vec Ideal S1024x128 .f32) :
    out0_6 x w v g ct st = E x w g ct st := by
  funext y
  unfold out0_6
  refine View.canon_apply_of_pieces (Val := Elt Ideal) (e := .bf16) (E x w g ct st) _ ?_ y (cover0_6 _ _ _ _ _ _ _ _ y)
  intro p hp j
  rcases List.mem_cons.1 hp with rfl | hp
  · exact store x w g ct st 3 512 slices_S512x512_o0_384_S512x128 slices_S1024x128_o512_0_S512x128 inb_S1x1024x4096_S1x512x4096_0_512_0 inb_S1x1024x512_S1x512x128_0_512_384 j
  rcases List.mem_cons.1 hp with rfl | hp
  · exact store x w g ct st 2 512 slices_S512x512_o0_256_S512x128 slices_S1024x128_o512_0_S512x128 inb_S1x1024x4096_S1x512x4096_0_512_0 inb_S1x1024x512_S1x512x128_0_512_256 j
  rcases List.mem_cons.1 hp with rfl | hp
  · exact store x w g ct st 1 512 slices_S512x512_o0_128_S512x128 slices_S1024x128_o512_0_S512x128 inb_S1x1024x4096_S1x512x4096_0_512_0 inb_S1x1024x512_S1x512x128_0_512_128 j
  rcases List.mem_cons.1 hp with rfl | hp
  · exact store x w g ct st 0 512 slices_S512x512_o0_0_S512x128 slices_S1024x128_o512_0_S512x128 inb_S1x1024x4096_S1x512x4096_0_512_0 inb_S1x1024x512_S1x512x128_0_512_0 j
  rcases List.mem_cons.1 hp with rfl | hp
  · exact store x w g ct st 3 0 slices_S512x512_o0_384_S512x128 slices_S1024x128_o0_0_S512x128 inb_S1x1024x4096_S1x512x4096_0_0_0 inb_S1x1024x512_S1x512x128_0_0_384 j
  rcases List.mem_cons.1 hp with rfl | hp
  · exact store x w g ct st 2 0 slices_S512x512_o0_256_S512x128 slices_S1024x128_o0_0_S512x128 inb_S1x1024x4096_S1x512x4096_0_0_0 inb_S1x1024x512_S1x512x128_0_0_256 j
  rcases List.mem_cons.1 hp with rfl | hp
  · exact store x w g ct st 1 0 slices_S512x512_o0_128_S512x128 slices_S1024x128_o0_0_S512x128 inb_S1x1024x4096_S1x512x4096_0_0_0 inb_S1x1024x512_S1x512x128_0_0_128 j
  obtain rfl := List.mem_singleton.1 hp
  exact store x w g ct st 0 0 slices_S512x512_o0_0_S512x128 slices_S1024x128_o0_0_S512x128 inb_S1x1024x4096_S1x512x4096_0_0_0 inb_S1x1024x512_S1x512x128_0_0_0 j

/-- The body's two stores of values together are the block. -/
theorem values_eq (x : Vec Ideal S1x1024x4096 .bf16) (v w : Vec Ideal S4096x512 .bf16) (g : Vec Ideal S1x128 .f32) (ct st : Vec Ideal S1024x128 .f32) :
    out0_7 x v w g ct st = W x w := by
  funext y
  unfold out0_7
  refine View.canon_apply_of_pieces (Val := Elt Ideal) (e := .bf16) (W x w) _ ?_ y (cover0_7 _ _ y)
  intro p hp j
  rcases List.mem_cons.1 hp with rfl | hp
  · exact store_val x w 512 inb_S1x1024x4096_S1x512x4096_0_512_0 inb_S1x1024x512_S1x512x512_0_512_0 j
  obtain rfl := List.mem_singleton.1 hp
  exact store_val x w 0 inb_S1x1024x4096_S1x512x4096_0_0_0 inb_S1x1024x512_S1x512x512_0_0_0 j

end Cert.Kernel7Ideal.Keys
-- ==== Proof.Keys.lean ====
module
public import proofs.«01_k».proof.Proof.KeyTile

/-!
The two results of the projection to keys and values, each one function of the kernel's arguments.
-/

@[expose] public noncomputable section
set_option maxRecDepth 16384

namespace Cert.Kernel7Ideal.Keys

open Cert.Kernel7Ideal Cert.Kernel7Ideal.Gen Cert.Kernel7Ideal.Value Idealize.ShloMosaic Idealize.ShloMosaic.TcCoe Idealize.SL.Sem
open Idealize.ShloMosaic.Pipeline (Dat)
open Cert.Kernel5Ideal.Query (axisOf freq signed table axis0 axis1 table_apply axis0_apply axis1_apply)
open scoped BigOperators

variable (m : (ℓ : Loc nD τ sig) → Buf (Elt Ideal) ℓ) (ρ : Dev nD → PrngReg)

/-- The keys from the rows, the joint weights, the lanes' weights and the tables of cosines and signed sines. -/
def G (x : Vec Ideal S4x4096x4096 .bf16) (w : Vec Ideal S4096x15360 .f32) (g : Vec Ideal S1x128 .f32) (ct st : Vec Ideal S4096x128 .f32) :
    Vec Ideal S4x4096x512 .bf16 :=
  fun i => rotated (fun l => ∑ k : Fin 4096, x (ix3 (i 0) (i 1) k) * w (ix2 k (⟨2048 + 128 * ((i 2).val / 128) + l.val, by have h : (i 2).val < 512 := (i 2).isLt; omega⟩ : Fin 15360)))
    (fun l => g (ix2 0 l)) (fun l => ct (ix2 (i 1) l)) (fun l => st (ix2 (i 1) l)) ⟨(i 2).val % 128, Nat.mod_lt _ (by decide)⟩

/-- The values from the rows and the joint weights. -/
def Vals (x : Vec Ideal S4x4096x4096 .bf16) (w : Vec Ideal S4096x15360 .f32) : Vec Ideal S4x4096x512 .bf16 :=
  fun i => ∑ k : Fin 4096, x (ix3 (i 0) (i 1) k) * w (ix2 k (⟨2560 + (i 2).val, by have h : (i 2).val < 512 := (i 2).isLt; omega⟩ : Fin 15360))

/-- Where the windows' blocks lie. -/
theorem index_facts : ∀ t : Fin grid0.N,
    win0_0.index t 0 = win0_6.index t 0 ∧ win0_0.index t 1 = win0_6.index t 1 ∧ win0_0.index t 2 = 0
    ∧ win0_1.index t 0 = 0 ∧ win0_1.index t 1 = 4 ∧ win0_2.index t 0 = 0 ∧ win0_2.index t 1 = 5
    ∧ win0_3.index t 0 = 0 ∧ win0_3.index t 1 = 0
    ∧ win0_4.index t 0 = win0_6.index t 1 ∧ win0_4.index t 1 = 0 ∧ win0_5.index t 0 = win0_6.index t 1 ∧ win0_5.index t 1 = 0
    ∧ win0_6.index t 2 = 0 ∧ win0_7.index t 0 = win0_6.index t 0 ∧ win0_7.index t 1 = win0_6.index t 1 ∧ win0_7.index t 2 = 0 := by decide +kernel
theorem index_onto : ∀ (b i : Fin 4), ∃ t : Fin grid0.N, win0_6.index t 0 = b.val ∧ win0_6.index t 1 = i.val := by decide +kernel
theorem flush_all : ∀ t : Fin grid0.N, win0_6.flush t = true ∧ win0_7.flush t = true := by decide +kernel

/-- The rows' block at a point, entry by entry. -/
theorem rows_blk (c : Dev nD) (t : Fin cfg0.N) (r : Fin 1024) (k : Fin 4096) (b' : Fin 4) (r' : Fin 4096)
    (hb : b'.val = win0_6.index t 0) (hr : r'.val = win0_6.index t 1 * 1024 + r.val) : iblk m c 0 t (ix3 0 r k) = V m c main_arg0 (ix3 b' r' k) := by
  obtain ⟨e00, e01, e02, _⟩ := index_facts t
  refine congrArg (V m c main_arg0) (funext fun a => Fin.ext ?_)
  match a with
  | ⟨0, _⟩ => show win0_0.index t 0 * 1 + 1 * 0 = b'.val; omega
  | ⟨1, _⟩ => show win0_0.index t 1 * 1024 + 1 * r.val = r'.val; omega
  | ⟨2, _⟩ => show win0_0.index t 2 * 4096 + 1 * k.val = k.val; omega

/-- What a point writes back of the keys is its block of the keys of the arrays as the region finds them. -/
theorem flushed_keys (c : Dev nD) (t : Fin cfg0.N) :
    (dats m 0 c).flushed 6 t = ((cfg0.win 6).blk t).view.read (Elt Ideal) (G (V m c main_arg0) (V m c main_v20) (V m c main_v21) (V m c main_v8) (V m c main_v19)) := by
  rw [flushed6, keys_eq]
  obtain ⟨_, _, _, e10, e11, _, _, e30, e31, e40, e41, e50, e51, e62, _⟩ := index_facts t
  funext j
  show E (iblk m c 0 t) (iblk m c 1 t) (iblk m c 3 t) (iblk m c 4 t) (iblk m c 5 t) j = G _ _ _ _ _ (((cfg0.win 6).blk t).view.emb j)
  obtain ⟨b, r, q, rfl⟩ : ∃ (b : Fin 1) (r : Fin 1024) (q : Fin 512), j = ix3 b r q := ⟨j 0, j 1, j 2, ValueIdx.eq_ix3 j⟩
  have hq : ((((cfg0.win 6).blk t).view.emb (ix3 b r q)) 2).val = q.val := by show win0_6.index t 2 * 512 + 1 * q.val = q.val; omega
  have hr : ((((cfg0.win 6).blk t).view.emb (ix3 b r q)) 1).val = win0_6.index t 1 * 1024 + r.val := by show win0_6.index t 1 * 1024 + 1 * r.val = _; omega
  have hb : ((((cfg0.win 6).blk t).view.emb (ix3 b r q)) 0).val = win0_6.index t 0 := by show win0_6.index t 0 * 1 + 1 * b.val = _; omega
  unfold G E
  refine rotated_congr (fun l => Finset.sum_congr rfl fun k _ => Ideal.mul_congr (rows_blk m c t r k _ _ hb hr) ?_) (fun l => ?_) (fun l => ?_) (fun l => ?_) (Fin.ext ?_)
  · refine congrArg (V m c main_v20) (funext fun a => Fin.ext ?_)
    match a with
    | ⟨0, _⟩ => show win0_1.index t 0 * 4096 + 1 * k.val = k.val; omega
    | ⟨1, _⟩ =>
      show win0_1.index t 1 * 512 + 1 * (128 * (q.val / 128) + l.val) = 2048 + 128 * ((((cfg0.win 6).blk t).view.emb (ix3 b r q) 2).val / 128) + l.val
      rw [hq, e11]; omega
  · refine congrArg (V m c main_v21) (funext fun a => Fin.ext ?_)
    match a with
    | ⟨0, _⟩ => show win0_3.index t 0 * 1 + 1 * 0 = 0; omega
    | ⟨1, _⟩ => show win0_3.index t 1 * 128 + 1 * l.val = l.val; omega
  · refine congrArg (V m c main_v8) (funext fun a => Fin.ext ?_)
    match a with
    | ⟨0, _⟩ => show win0_4.index t 0 * 1024 + 1 * r.val = (((cfg0.win 6).blk t).view.emb (ix3 b r q) 1).val; rw [hr, e40]; omega
    | ⟨1, _⟩ => show win0_4.index t 1 * 128 + 1 * l.val = l.val; omega
  · refine congrArg (V m c main_v19) (funext fun a => Fin.ext ?_)
    match a with
    | ⟨0, _⟩ => show win0_5.index t 0 * 1024 + 1 * r.val = (((cfg0.win 6).blk t).view.emb (ix3 b r q) 1).val; rw [hr, e50]; omega
    | ⟨1, _⟩ => show win0_5.index t 1 * 128 + 1 * l.val = l.val; omega
  · show q.val % 128 = (((cfg0.win 6).blk t).view.emb (ix3 b r q) 2).val % 128
    rw [hq]

/-- What a point writes back of the values is its block of the values of the arrays as the region finds them. -/
theorem flushed_values (c : Dev nD) (t : Fin cfg0.N) :
    (dats m 0 c).flushed 7 t = ((cfg0.win 7).blk t).view.read (Elt Ideal) (Vals (V m c main_arg0) (V m c main_v20)) := by
  rw [flushed7, values_eq]
  obtain ⟨_, _, _, _, _, e20, e21, _, _, _, _, _, _, _, e70, e71, e72⟩ := index_facts t
  funext j
  show W (iblk m c 0 t) (iblk m c 2 t) j = Vals _ _ (((cfg0.win 7).blk t).view.emb j)
  obtain ⟨b, r, q, rfl⟩ : ∃ (b : Fin 1) (r : Fin 1024) (q : Fin 512), j = ix3 b r q := ⟨j 0, j 1, j 2, ValueIdx.eq_ix3 j⟩
  have hr : ((((cfg0.win 7).blk t).view.emb (ix3 b r q)) 1).val = win0_6.index t 1 * 1024 + r.val := by show win0_7.index t 1 * 1024 + 1 * r.val = _; omega
  have hb : ((((cfg0.win 7).blk t).view.emb (ix3 b r q)) 0).val = win0_6.index t 0 := by show win0_7.index t 0 * 1 + 1 * b.val = _; omega
  unfold Vals W
  refine Finset.sum_congr rfl fun k _ => Ideal.mul_congr (rows_blk m c t r k _ _ hb hr) ?_
  refine congrArg (V m c main_v20) (funext fun a => Fin.ext ?_)
  match a with
  | ⟨0, _⟩ => show win0_2.index t 0 * 4096 + 1 * k.val = k.val; omega
  | ⟨1, _⟩ => show win0_2.index t 1 * 512 + 1 * q.val = 2560 + (win0_7.index t 2 * 512 + 1 * q.val); omega

/-- Every entry of the keys and of the values lies in some point's block. -/
theorem covered_keys (i : S4x4096x512.Idx) : ∃ t : Fin cfg0.N, (cfg0.win 6).flush t = true ∧ i ∈ ((cfg0.win 6).blk t).view.set := by
  obtain ⟨b, r, q, rfl⟩ : ∃ (b : Fin 4) (r : Fin 4096) (q : Fin 512), i = ix3 b r q := ⟨i 0, i 1, i 2, ValueIdx.eq_ix3 i⟩
  obtain ⟨t, h0, h1⟩ := index_onto b ⟨r.val / 1024, by omega⟩
  obtain ⟨_, _, _, _, _, _, _, _, _, _, _, _, _, e62, _⟩ := index_facts t
  refine ⟨t, (flush_all t).1, ?_⟩
  have h := ((cfg0.win 6).blk t).view.emb_mem_set (ix3 (0 : Fin 1) (⟨r.val % 1024, by omega⟩ : Fin 1024) q)
  have e : ((cfg0.win 6).blk t).view.emb (ix3 (0 : Fin 1) (⟨r.val % 1024, by omega⟩ : Fin 1024) q) = ix3 b r q := by
    funext a; apply Fin.ext
    match a with
    | ⟨0, _⟩ => show win0_6.index t 0 * 1 + 1 * 0 = b.val; omega
    | ⟨1, _⟩ => show win0_6.index t 1 * 1024 + 1 * (r.val % 1024) = r.val; simp only at h1; omega
    | ⟨2, _⟩ => show win0_6.index t 2 * 512 + 1 * q.val = q.val; omega
  rwa [e] at h
theorem covered_values (i : S4x4096x512.Idx) : ∃ t : Fin cfg0.N, (cfg0.win 7).flush t = true ∧ i ∈ ((cfg0.win 7).blk t).view.set := by
  obtain ⟨b, r, q, rfl⟩ : ∃ (b : Fin 4) (r : Fin 4096) (q : Fin 512), i = ix3 b r q := ⟨i 0, i 1, i 2, ValueIdx.eq_ix3 i⟩
  obtain ⟨t, h0, h1⟩ := index_onto b ⟨r.val / 1024, by omega⟩
  obtain ⟨_, _, _, _, _, _, _, _, _, _, _, _, _, _, e70, e71, e72⟩ := index_facts t
  refine ⟨t, (flush_all t).2, ?_⟩
  have h := ((cfg0.win 7).blk t).view.emb_mem_set (ix3 (0 : Fin 1) (⟨r.val % 1024, by omega⟩ : Fin 1024) q)
  have e : ((cfg0.win 7).blk t).view.emb (ix3 (0 : Fin 1) (⟨r.val % 1024, by omega⟩ : Fin 1024) q) = ix3 b r q := by
    funext a; apply Fin.ext
    match a with
    | ⟨0, _⟩ => show win0_7.index t 0 * 1 + 1 * 0 = b.val; omega
    | ⟨1, _⟩ => show win0_7.index t 1 * 1024 + 1 * (r.val % 1024) = r.val; simp only at h1; omega
    | ⟨2, _⟩ => show win0_7.index t 2 * 512 + 1 * q.val = q.val; omega
  rwa [e] at h

/-- The host rounds the joint weights, which at the ideal instance changes nothing. -/
theorem weights (c : Dev nD) : V m c main_v20 = m ((c : Thread nD τ).loc main_arg1) := by
  show StableHlo.after hostOps0 (fun b => m (c, b)) main_v20 = _
  unfold hostOps0
  after_results
  rfl

/-- The lanes' weights as a row. -/
theorem lanes (c : Dev nD) (l : Fin 128) : V m c main_v21 (ix2 0 l) = m ((c : Thread nD τ).loc main_arg2) (ix1 l) := by
  have e : V m c main_v21 = (shapeCast S1x128 (m ((c : Thread nD τ).loc main_arg2) : FVec Ideal S128 .f32) shapeCasts_S128_S1x128 : FVec Ideal S1x128 .f32) := by
    show StableHlo.after hostOps0 (fun b => m (c, b)) main_v21 = _
    unfold hostOps0
    after_results
    rfl
  rw [e]
  pointwise

/-- The host's table of cosines: each axis's cosines twice. -/
theorem cosines (c : Dev nD) (r : Fin 4096) (l : Fin 128) :
    V m c main_v8 (ix2 r l) = m ((c : Thread nD τ).loc main_arg3) (ix3 r (axisOf l) (freq l)) := by
  have e : V m c main_v8 = table (axis0 (m ((c : Thread nD τ).loc main_arg3))) (axis0 (m ((c : Thread nD τ).loc main_arg3))) (axis1 (m ((c : Thread nD τ).loc main_arg3))) (axis1 (m ((c : Thread nD τ).loc main_arg3))) := by
    show StableHlo.after hostOps0 (fun b => m (c, b)) main_v8 = _
    unfold hostOps0
    after_results
    rfl
  rw [e, table_apply, axis0_apply, axis1_apply, ite_self, ite_self]
  by_cases h : l.val / 64 = 0
  · rw [if_pos h]; exact congrArg (fun a => m ((c : Thread nD τ).loc main_arg3) (ix3 r a (freq l))) (Fin.ext h.symm)
  · rw [if_neg h]; exact congrArg (fun a => m ((c : Thread nD τ).loc main_arg3) (ix3 r a (freq l))) (Fin.ext (by show 1 = l.val / 64; omega))

/-- The host's table of sines: each axis's sines twice, negated the first time. -/
theorem sines (c : Dev nD) (r : Fin 4096) (l : Fin 128) :
    V m c main_v19 (ix2 r l) = signed (m ((c : Thread nD τ).loc main_arg4)) r l := by
  unfold signed
  have e : V m c main_v19 = table (Host.negf (axis0 (m ((c : Thread nD τ).loc main_arg4)))) (axis0 (m ((c : Thread nD τ).loc main_arg4))) (Host.negf (axis1 (m ((c : Thread nD τ).loc main_arg4)))) (axis1 (m ((c : Thread nD τ).loc main_arg4))) := by
    show StableHlo.after hostOps0 (fun b => m (c, b)) main_v19 = _
    unfold hostOps0
    after_results
    rfl
  have hn : ∀ x : FVec Ideal S4096x32 .f32, ∀ j, (Host.negf x : FVec Ideal S4096x32 .f32) j = - (x j : EReal) := fun _ _ => rfl
  rw [e, table_apply, hn, hn, axis0_apply, axis1_apply]
  by_cases h : l.val / 64 = 0
  · rw [if_pos h, show axisOf l = 0 from Fin.ext h]
  · rw [if_neg h, show axisOf l = 1 from Fin.ext (by show l.val / 64 = 1; omega)]

/-- The keys from the rows, the joint weights, the lanes' weights, and the cosines and sines of the rows' angles. -/
def K (x : Vec Ideal S4x4096x4096 .bf16) (w : Vec Ideal S4096x15360 .f32) (g : Vec Ideal S128 .f32) (cs sn : Vec Ideal S4096x2x32 .f32) :
    Vec Ideal S4x4096x512 .bf16 :=
  fun i => rotated (fun l => ∑ k : Fin 4096, x (ix3 (i 0) (i 1) k) * w (ix2 k (⟨2048 + 128 * ((i 2).val / 128) + l.val, by have h : (i 2).val < 512 := (i 2).isLt; omega⟩ : Fin 15360)))
    (fun l => g (ix1 l)) (fun l => cs (ix3 (i 1) (axisOf l) (freq l))) (fun l => signed sn (i 1) l) ⟨(i 2).val % 128, Nat.mod_lt _ (by decide)⟩

/-- The first result of the kernel: the keys of its arguments. -/
theorem final_keys (c : Dev nD) : (dats m 0 c).arrAt 6 cfg0.N = K (m ((c : Thread nD τ).loc main_arg0)) (m ((c : Thread nD τ).loc main_arg1))
    (m ((c : Thread nD τ).loc main_arg2)) (m ((c : Thread nD τ).loc main_arg3)) (m ((c : Thread nD τ).loc main_arg4)) :=
  ((dats m 0 c).arrAt_eq_of_cover 6 (G (V m c main_arg0) (V m c main_v20) (V m c main_v21) (V m c main_v8) (V m c main_v19)) (fun t _ => flushed_keys m c t) covered_keys).trans
    (by
      rw [weights, V_main_arg0]
      funext i
      exact rotated_congr (fun _ => rfl) (fun l => lanes m c l) (fun l => cosines m c (i 1) l) (fun l => sines m c (i 1) l) rfl)

/-- The second result of the kernel: the values of its arguments. -/
theorem final_values (c : Dev nD) : (dats m 0 c).arrAt 7 cfg0.N = Vals (m ((c : Thread nD τ).loc main_arg0)) (m ((c : Thread nD τ).loc main_arg1)) :=
  ((dats m 0 c).arrAt_eq_of_cover 7 (Vals (V m c main_arg0) (V m c main_v20)) (fun t _ => flushed_values m c t) covered_values).trans
    (by rw [weights, V_main_arg0])

end Cert.Kernel7Ideal.Keys
-- ==== Proof.KeysRef.lean ====
module
public import proofs.«01_k».proof.Proof.Keys
public import proofs.«01_k».proof.Proof.Gen.Reference7Ideal.Run
public import proofs.«01_k».proof.Proof.Gen.Kernel7.Frame

/-!
The reference of the projection to keys and values, entry by entry, and the claims of this call.
-/

@[expose] public noncomputable section
set_option maxRecDepth 16384

namespace Cert.Reference7Ideal.Keys

open Cert.Reference7Ideal Cert.Reference7Ideal.Gen Idealize.ShloMosaic
open Cert.Reference7Ideal.Facts
open Cert.Kernel5Ideal.Query (nrm mate axisOf freq signed)
open Cert.Kernel7Ideal.Keys (rotated rotated_congr)
open scoped BigOperators

/-- The products, four heads of 128 lanes to a row. -/
def prod (x : FVec Ideal S4x4096x4096 .bf16) (w : FVec Ideal S4096x15360 .f32) : FVec Ideal S4x4096x4x128 .f32 :=
  shapeCast _ (extractStridedSlice S4x4096x512 ![0, 0, 2048] (Host.dotGeneral dot_S4x4096x4096_S4096x15360_S4x4096x15360_2_0_01_1_n_n none x w) slices_S4x4096x15360_S4x4096x512_0_0_2048) shapeCasts_S4x4096x512_S4x4096x4x128

theorem prod_apply (x : FVec Ideal S4x4096x4096 .bf16) (w : FVec Ideal S4096x15360 .f32) (b : Fin 4) (r : Fin 4096) (n : Fin 4) (l : Fin 128) :
    prod x w (ix4 b r n l) = ∑ k : Fin 4096, x (ix3 b r k) * w (ix2 k (⟨2048 + 128 * n.val + l.val, by omega⟩ : Fin 15360)) := by
  have e : ∀ k : Fin 4096, (ix2 k (⟨2048 + 128 * n.val + l.val, by omega⟩ : Fin 15360) : S4096x15360.Idx) = ix2 k (⟨2048 + (n.val * 128 + l.val), by omega⟩ : Fin 15360) :=
    fun k => congrArg (ix2 k) (Fin.ext (by show 2048 + 128 * n.val + l.val = 2048 + (n.val * 128 + l.val); omega))
  simp only [e]
  pointwise [prod]

/-- The heads normed. -/
def normed (a : FVec Ideal S4x4096x4x128 .f32) (g : FVec Ideal S128 .f32) : FVec Ideal S4x4096x4x128 .f32 :=
  mulf (mulf a (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf a a) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 g))

theorem normed_apply (a : FVec Ideal S4x4096x4x128 .f32) (g : FVec Ideal S128 .f32) (b : Fin 4) (r : Fin 4096) (n : Fin 4) (l : Fin 128) :
    normed a g (ix4 b r n l) = nrm (fun l => a (ix4 b r n l)) (fun l => g (ix1 l)) l := by
  unfold nrm
  pointwise [normed]

/-- The lower and the upper half of each axis's lanes. -/
def lower (y : FVec Ideal S4x4096x4x128 .f32) : FVec Ideal S4x4096x4x2x32 .f32 :=
  shapeCast _ (extractStridedSlice S4x4096x4x2x1x32 ![0, 0, 0, 0, 0, 0] (shapeCast _ y shapeCasts_S4x4096x4x128_S4x4096x4x2x2x32) slices_S4x4096x4x2x2x32_S4x4096x4x2x1x32_0_0_0_0_0_0) shapeCasts_S4x4096x4x2x1x32_S4x4096x4x2x32
def upper (y : FVec Ideal S4x4096x4x128 .f32) : FVec Ideal S4x4096x4x2x32 .f32 :=
  shapeCast _ (extractStridedSlice S4x4096x4x2x1x32 ![0, 0, 0, 0, 1, 0] (shapeCast _ y shapeCasts_S4x4096x4x128_S4x4096x4x2x2x32) slices_S4x4096x4x2x2x32_S4x4096x4x2x1x32_0_0_0_0_1_0) shapeCasts_S4x4096x4x2x1x32_S4x4096x4x2x32

theorem lower_apply (y : FVec Ideal S4x4096x4x128 .f32) (b : Fin 4) (r : Fin 4096) (n : Fin 4) (a : Fin 2) (k : Fin 32) :
    lower y (ix5 b r n a k) = y (ix4 b r n (⟨64 * a.val + k.val, by omega⟩ : Fin 128)) := by
  pointwise [lower]
  exact congrArg (fun l => y (ix4 b r n l)) (Fin.ext (by show a.val * 64 + k.val = 64 * a.val + k.val; omega))
theorem upper_apply (y : FVec Ideal S4x4096x4x128 .f32) (b : Fin 4) (r : Fin 4096) (n : Fin 4) (a : Fin 2) (k : Fin 32) :
    upper y (ix5 b r n a k) = y (ix4 b r n (⟨64 * a.val + 32 + k.val, by omega⟩ : Fin 128)) := by
  pointwise [upper]
  exact congrArg (fun l => y (ix4 b r n l)) (Fin.ext (by show a.val * 64 + 32 + k.val = 64 * a.val + 32 + k.val; omega))

/-- A table over all rows and heads. -/
def angle (t : FVec Ideal S4096x2x32 .f32) : FVec Ideal S4x4096x4x2x32 .f32 :=
  broadcastInDim S4x4096x4x2x32 ![0, 1, 2, 3, 4] bcast_S1x4096x1x2x32_S4x4096x4x2x32_0_1_2_3_4 (broadcastInDim S1x4096x1x2x32 ![1, 3, 4] bcast_S4096x2x32_S1x4096x1x2x32_1_3_4 t)

theorem angle_apply (t : FVec Ideal S4096x2x32 .f32) (b : Fin 4) (r : Fin 4096) (n : Fin 4) (a : Fin 2) (k : Fin 32) :
    angle t (ix5 b r n a k) = t (ix3 r a k) := by
  pointwise [angle]

/-- The two halves side by side again, the heads in one row. -/
def joined (u v : FVec Ideal S4x4096x4x2x32 .f32) : FVec Ideal S4x4096x512 .bf16 :=
  truncf .bf16 (shapeCast _ (concatenate S4x4096x4x2x2x32 4 [⟨S4x4096x4x2x1x32, (broadcastInDim S4x4096x4x2x1x32 ![0, 1, 2, 3, 5] bcast_S4x4096x4x2x32_S4x4096x4x2x1x32_0_1_2_3_5 u)⟩, ⟨S4x4096x4x2x1x32, (broadcastInDim S4x4096x4x2x1x32 ![0, 1, 2, 3, 5] bcast_S4x4096x4x2x32_S4x4096x4x2x1x32_0_1_2_3_5 v)⟩] concatenates_S4x4096x4x2x1x32_S4x4096x4x2x1x32_S4x4096x4x2x2x32_d4) shapeCasts_S4x4096x4x2x2x32_S4x4096x512) bitsLt_bf16_f32

/-- The head and the lane of a column. -/
def headOf (c : Fin 512) : Fin 4 := ⟨c.val / 128, by omega⟩
def laneOf (c : Fin 512) : Fin 128 := ⟨c.val % 128, Nat.mod_lt _ (by decide)⟩

theorem joined_apply (u v : FVec Ideal S4x4096x4x2x32 .f32) (b : Fin 4) (r : Fin 4096) (c : Fin 512) :
    joined u v (ix3 b r c) = if (laneOf c).val % 64 < 32 then u (ix5 b r (headOf c) (axisOf (laneOf c)) (freq (laneOf c))) else v (ix5 b r (headOf c) (axisOf (laneOf c)) (freq (laneOf c))) := by
  unfold axisOf freq headOf laneOf
  pointwise [joined]
  have e0 : (⟨c.val / 64 % 2, Nat.mod_lt _ (by decide)⟩ : Fin 2) = ⟨c.val % 128 / 64, by omega⟩ := Fin.ext (by show c.val / 64 % 2 = c.val % 128 / 64; omega)
  have e1 : (⟨c.val % 32, Nat.mod_lt _ (by decide)⟩ : Fin 32) = ⟨c.val % 128 % 32, Nat.mod_lt _ (by decide)⟩ := Fin.ext (by show c.val % 32 = c.val % 128 % 32; omega)
  by_cases h : c.val % 128 % 64 < 32
  · exact (dif_pos (by omega)).trans ((congrArg₂ (fun p q => u (ix5 b r _ p q)) e0 e1).trans (if_pos h).symm)
  · exact (dif_neg (by omega)).trans ((congrArg₂ (fun p q => v (ix5 b r _ p q)) e0 e1).trans (if_neg h).symm)

/-- The two halves of the lanes turned. -/
def first (u v a s : FVec Ideal S4x4096x4x2x32 .f32) : FVec Ideal S4x4096x4x2x32 .f32 := subf (mulf u a) (mulf v s)
def second (u v a s : FVec Ideal S4x4096x4x2x32 .f32) : FVec Ideal S4x4096x4x2x32 .f32 := addf (mulf v a) (mulf u s)

theorem first_apply (u v a s : FVec Ideal S4x4096x4x2x32 .f32) (j : S4x4096x4x2x32.Idx) : first u v a s j = (u j * a j - v j * s j : EReal) := rfl
theorem second_apply (u v a s : FVec Ideal S4x4096x4x2x32 .f32) (j : S4x4096x4x2x32.Idx) : second u v a s j = (v j * a j + u j * s j : EReal) := rfl

/-- The lanes of the normed heads turned: the product with the lane's cosine and the product of the lane's mate with the signed sine. -/
theorem turned_apply (y : FVec Ideal S4x4096x4x128 .f32) (cs sn : FVec Ideal S4096x2x32 .f32) (b : Fin 4) (r : Fin 4096) (q : Fin 512) :
    joined (first (lower y) (upper y) (angle cs) (angle sn)) (second (lower y) (upper y) (angle cs) (angle sn)) (ix3 b r q)
      = (y (ix4 b r (headOf q) (laneOf q)) * cs (ix3 r (axisOf (laneOf q)) (freq (laneOf q))) + y (ix4 b r (headOf q) (mate (laneOf q))) * signed sn r (laneOf q) : EReal) := by
  rw [joined_apply, first_apply, second_apply, lower_apply, upper_apply, angle_apply, angle_apply]
  generalize laneOf q = c
  unfold signed
  by_cases h : c.val % 64 < 32
  · have e0 : (⟨64 * (axisOf c).val + (freq c).val, by omega⟩ : Fin 128) = c := Fin.ext (by show 64 * (c.val / 64) + c.val % 32 = c.val; omega)
    have e1 : (⟨64 * (axisOf c).val + 32 + (freq c).val, by omega⟩ : Fin 128) = mate c := by
      unfold mate
      rw [if_pos h]
      exact Fin.ext (by show 64 * (c.val / 64) + 32 + c.val % 32 = (c.val + 32) % 128; omega)
    rw [if_pos h, if_pos h, e0, e1]
    exact (sub_eq_add_neg _ _).trans (congrArg (fun t : EReal => _ + t) (mul_neg _ _).symm)
  · have e0 : (⟨64 * (axisOf c).val + (freq c).val, by omega⟩ : Fin 128) = mate c := by
      unfold mate
      rw [if_neg h]
      exact Fin.ext (by show 64 * (c.val / 64) + c.val % 32 = (c.val + 96) % 128; omega)
    have e1 : (⟨64 * (axisOf c).val + 32 + (freq c).val, by omega⟩ : Fin 128) = c := Fin.ext (by show 64 * (c.val / 64) + 32 + c.val % 32 = c.val; omega)
    rw [if_neg h, if_neg h, e0, e1]

/-- The reference's keys. -/
def keys (x : FVec Ideal S4x4096x4096 .bf16) (w : FVec Ideal S4096x15360 .f32) (g : FVec Ideal S128 .f32) (cs sn : FVec Ideal S4096x2x32 .f32) : FVec Ideal S4x4096x512 .bf16 :=
  have y : FVec Ideal S4x4096x4x128 .f32 := normed (prod x w) g
  joined (first (lower y) (upper y) (angle cs) (angle sn)) (second (lower y) (upper y) (angle cs) (angle sn))

/-- The reference's values. -/
def vals (x : FVec Ideal S4x4096x4096 .bf16) (w : FVec Ideal S4096x15360 .f32) : FVec Ideal S4x4096x512 .bf16 :=
  truncf .bf16 (extractStridedSlice S4x4096x512 ![0, 0, 2560] (Host.dotGeneral dot_S4x4096x4096_S4096x15360_S4x4096x15360_2_0_01_1_n_n none x w) slices_S4x4096x15360_S4x4096x512_0_0_2560) bitsLt_bf16_f32

/-- The reference's keys are the kernel's. -/
theorem keys_eq (x : FVec Ideal S4x4096x4096 .bf16) (w : FVec Ideal S4096x15360 .f32) (g : FVec Ideal S128 .f32) (cs sn : FVec Ideal S4096x2x32 .f32) :
    keys x w g cs sn = Cert.Kernel7Ideal.Keys.K x w g cs sn := by
  funext i
  obtain ⟨b, r, q, rfl⟩ : ∃ (b : Fin 4) (r : Fin 4096) (q : Fin 512), i = ix3 b r q := ⟨i 0, i 1, i 2, ValueIdx.eq_ix3 i⟩
  refine (turned_apply _ cs sn b r q).trans ?_
  rw [normed_apply, normed_apply]
  show rotated (fun l => prod x w (ix4 b r (headOf q) l)) (fun l => g (ix1 l)) (fun l => cs (ix3 r (axisOf l) (freq l))) (fun l => signed sn r l) (laneOf q)
    = rotated (fun l => ∑ k : Fin 4096, x (ix3 b r k) * w (ix2 k (⟨2048 + 128 * (q.val / 128) + l.val, by omega⟩ : Fin 15360))) (fun l => g (ix1 l))
      (fun l => cs (ix3 r (axisOf l) (freq l))) (fun l => signed sn r l) (laneOf q)
  exact rotated_congr (fun l => prod_apply x w b r (headOf q) l) (fun _ => rfl) (fun _ => rfl) (fun _ => rfl) rfl

/-- The reference's values are the kernel's. -/
theorem vals_eq (x : FVec Ideal S4x4096x4096 .bf16) (w : FVec Ideal S4096x15360 .f32) : vals x w = Cert.Kernel7Ideal.Keys.Vals x w := by
  funext i
  obtain ⟨b, r, q, rfl⟩ : ∃ (b : Fin 4) (r : Fin 4096) (q : Fin 512), i = ix3 b r q := ⟨i 0, i 1, i 2, ValueIdx.eq_ix3 i⟩
  show vals x w (ix3 b r q) = ∑ k : Fin 4096, x (ix3 b r k) * w (ix2 k (⟨2560 + q.val, by omega⟩ : Fin 15360))
  pointwise [vals]

end Cert.Reference7Ideal.Keys

namespace Cert.Proof

open Idealize.ShloMosaic Idealize.ShloMosaic.TcCoe Idealize.SL.Sem

theorem frame_Reference7Ideal : Cert.quiescent_Reference7Ideal (hReference7Ideal := Cert.Reference7Ideal.Gen.facts) :=
  fun m g _ => (θ_run Cert.Reference7Ideal.defs _ _).mono (fun r h => ⟨fun c => (h c).2.2, sem_eq_zero_of_no_sems (by decide) r.2⟩) (Cert.Reference7Ideal.Value.run m g)

/-- From equal arguments the kernel and the reference leave the same keys and the same values, at the ideal instance. -/
theorem algebraic7 : Cert.algebraic_Kernel7Ideal_Reference7Ideal (hKernel7Ideal := Cert.Kernel7Ideal.Gen.facts) (hReference7Ideal := Cert.Reference7Ideal.Gen.facts) := by
  intro m g m' g' _ e
  refine ⟨_, _, (θ_run Cert.Kernel7Ideal.defs _ _).mono (fun _ h c => ⟨(h c).1.trans (Cert.Kernel7Ideal.Keys.final_keys m c), (h c).2.1.trans (Cert.Kernel7Ideal.Keys.final_values m c), (h c).2.2⟩)
      (Cert.Kernel7Ideal.Value.run_blocks m g), ?_⟩
  refine (θ_run Cert.Reference7Ideal.defs _ _).mono (fun _ h c => ⟨(h c).1.trans ?_, (h c).2.1.trans ?_, (h c).2.2⟩) (Cert.Reference7Ideal.Value.run m' g')
  · obtain ⟨e0, e1, e2, e3, e4⟩ := e c
    refine Eq.trans ?_ (Cert.Reference7Ideal.Keys.keys_eq _ _ _ _ _)
    rw [← e0, ← e1, ← e2, ← e3, ← e4]
    rfl
  · obtain ⟨e0, e1, _⟩ := e c
    refine Eq.trans ?_ (Cert.Reference7Ideal.Keys.vals_eq _ _)
    rw [← e0, ← e1]
    rfl

end Cert.Proof
-- ==== Proof.CtxKeys.lean ====
module
public import proofs.«01_k».proof.Proof.QueryHead
public import proofs.«01_k».proof.Proof.Gen.Kernel8Ideal.Value
public import proofs.«01_k».proof.Proof.Gen.Reference8Ideal.Run
public import proofs.«01_k».proof.Proof.Gen.Kernel8.Frame

/-!
The keys and values of the context: the heads of keys are normed and have no position, the values are the products themselves. The
kernel's two results, entry by entry, the reference's, and the claims of this call.
-/

@[expose] public noncomputable section
set_option maxRecDepth 16384

namespace Cert.Kernel8Ideal.CtxKeys

open Cert.Kernel8Ideal Cert.Kernel8Ideal.Gen Cert.Kernel8Ideal.Value Idealize.ShloMosaic Idealize.ShloMosaic.TcCoe Idealize.SL.Sem
open Idealize.ShloMosaic.Pipeline (Dat)
open Cert.Kernel5Ideal.Query (nrm)
open scoped BigOperators

variable (m : (ℓ : Loc nD τ sig) → Buf (Elt Ideal) ℓ) (ρ : Dev nD → PrngReg)

/-- Equal rows and weights norm to equal lanes. -/
theorem nrm_congr {a a' g g' : Fin 128 → EReal} {c c' : Fin 128} (ha : ∀ l, a l = a' l) (hg : ∀ l, g l = g' l) (h : c = c') : nrm a g c = nrm a' g' c' := by
  rw [funext ha, funext hg, h]

/-- What the body computes of one head's columns. -/
def head (a : FVec Ideal S256x128 .f32) (g : Vec Ideal S1x128 .f32) : FVec Ideal S1x256x128 .bf16 :=
  shapeCast S1x256x128 (truncf .bf16 (mulf (mulf a (broadcastTo S256x128 (rsqrt (addf (divf (shapeCast S256x1 (multiReduction .add [1] S256 (mulf a a) 0x00000000#32 reduces_S256x128_S256 (.inl rfl) rfl) shapeCasts_S256_S256x1) (broadcast S256x1 (Scalar.ofBits .f32 0x43000000#32))) (broadcast S256x1 (Scalar.ofBits .f32 0x358637BD#32)))) broadcasts_S256x1_S256x128)) (broadcastTo S256x128 (shapeCast S1x128 g shapeCasts_S1x128_S1x128) broadcasts_S1x128_S256x128)) bitsLt_bf16_f32) shapeCasts_S256x128_S1x256x128

theorem head_apply (a : FVec Ideal S256x128 .f32) (g : Vec Ideal S1x128 .f32) (r : Fin 256) (c : Fin 128) :
    head a g (ix3 0 r c) = nrm (fun l => a (ix2 r l)) (fun l => g (ix2 0 l)) c := by
  unfold nrm
  pointwise [head]

/-- The products of a block's rows with the keys' weights, and with the values'. -/
theorem acc_apply (x : Vec Ideal S1x256x4096 .bf16) (w : Vec Ideal S4096x512 .bf16) (r : Fin 256) (n : Fin 512) :
    k0_pay4 (F := Ideal) x w (ix2 r n) = ∑ k : Fin 4096, x (ix3 0 r k) * w (ix2 k n) := by
  pointwise [k0_pay4, k0_pay3]
theorem val_apply (x : Vec Ideal S1x256x4096 .bf16) (w : Vec Ideal S4096x512 .bf16) (z : Fin 1) (r : Fin 256) (n : Fin 512) :
    k0_pay2 (F := Ideal) (k0_pay3 x) w (ix3 z r n) = ∑ k : Fin 4096, x (ix3 0 r k) * w (ix2 k n) := by
  obtain rfl : z = 0 := Subsingleton.elim _ _
  pointwise [k0_pay2, k0_pay3]

/-- A block of keys: row `j 1`, and in column `j 2` the lane and the head it lies in. -/
def E (x : Vec Ideal S1x256x4096 .bf16) (w : Vec Ideal S4096x512 .bf16) (g : Vec Ideal S1x128 .f32) : Vec Ideal S1x256x512 .bf16 :=
  fun j => nrm (fun l => ∑ k : Fin 4096, x (ix3 0 (j 1) k) * w (ix2 k (⟨128 * ((j 2).val / 128) + l.val, by have h : (j 2).val < 512 := (j 2).isLt; omega⟩ : Fin 512)))
    (fun l => g (ix2 0 l)) ⟨(j 2).val % 128, Nat.mod_lt _ (by decide)⟩

/-- One store of keys: head `n`. -/
theorem store (x : Vec Ideal S1x256x4096 .bf16) (w : Vec Ideal S4096x512 .bf16) (g : Vec Ideal S1x128 .f32) (n : ℕ) (hs : Shape.Slices S256x512 ![0, 128 * n] S256x128)
    (ho : ∀ a, (![0, 0, 128 * n] : Fin 3 → Nat) a + S1x256x128.size a ≤ S1x256x512.size a) (j : S1x256x128.Idx) :
    head (extractStridedSlice S256x128 ![0, 128 * n] (k0_pay4 x w) hs) g j = E x w g ((Rect.unit (s := S1x256x512) ![0, 0, 128 * n] S1x256x128.size ho).emb j) := by
  obtain ⟨r, c, rfl⟩ : ∃ (r : Fin 256) (c : Fin 128), j = ix3 0 r c := ⟨j 1, j 2, (ValueIdx.eq_ix3 j).trans (congrArg (fun (p : Fin 1) => (ix3 p (j 1) (j 2) : S1x256x128.Idx)) (Subsingleton.elim _ _))⟩
  have hn : 128 * n + 128 ≤ 512 := ho 2
  have he : (Rect.unit (s := S1x256x512) ![0, 0, 128 * n] S1x256x128.size ho).emb (ix3 0 r c) = ix3 0 r (⟨128 * n + c.val, by omega⟩ : Fin 512) := by
    funext a; apply Fin.ext
    match a with
    | ⟨0, _⟩ => rfl
    | ⟨1, _⟩ => show 0 + 1 * r.val = r.val; omega
    | ⟨2, _⟩ => show 128 * n + 1 * c.val = 128 * n + c.val; omega
  rw [he, head_apply]
  refine nrm_congr (fun l => ?_) (fun _ => rfl) (Fin.ext (by show c.val = (128 * n + c.val) % 128; omega))
  refine (extractStridedSlice_apply _ _ hs _ (ix2 r (⟨128 * n + l.val, by omega⟩ : Fin 512)) fun a => ?_).trans ?_
  · match a with
    | ⟨0, _⟩ => show r.val = 0 + r.val; omega
    | ⟨1, _⟩ => rfl
  · rw [acc_apply]
    refine Finset.sum_congr rfl fun k _ => congrArg (fun q => x (ix3 0 r k) * w (ix2 k q)) (Fin.ext ?_)
    show 128 * n + l.val = 128 * ((128 * n + c.val) / 128) + l.val
    omega

/-- The body's four stores of keys together are the block. -/
theorem keys_eq (x : Vec Ideal S1x256x4096 .bf16) (w v : Vec Ideal S4096x512 .bf16) (g : Vec Ideal S1x128 .f32) : out0_4 x w v g = E x w g := by
  have z3 : (![0, 0, 0] : Fin 3 → ℕ) = fun _ => 0 := by decide
  have z2 : (![0, 0] : Fin 2 → ℕ) = fun _ => 0 := by decide
  funext y
  unfold_out out0_4
  rw [View.ld_unit_zero z3, View.ld_unit_zero z2, View.ld_unit_zero z2]
  refine View.canon_apply_of_pieces (Val := Elt Ideal) (e := .bf16) (E x w g) _ ?_ y (cover0_4 _ _ _ _ y)
  intro p hp j
  rcases List.mem_cons.1 hp with rfl | hp
  · exact store x w g 3 slices_S256x512_o0_384_S256x128 inb_S1x256x512_S1x256x128_0_0_384 j
  rcases List.mem_cons.1 hp with rfl | hp
  · exact store x w g 2 slices_S256x512_o0_256_S256x128 inb_S1x256x512_S1x256x128_0_0_256 j
  rcases List.mem_cons.1 hp with rfl | hp
  · exact store x w g 1 slices_S256x512_o0_128_S256x128 inb_S1x256x512_S1x256x128_0_0_128 j
  obtain rfl := List.mem_singleton.1 hp
  exact store x w g 0 slices_S256x512_o0_0_S256x128 inb_S1x256x512_S1x256x128_0_0_0 j

/-- The body's store of values. -/
theorem values_eq (x : Vec Ideal S1x256x4096 .bf16) (v w : Vec Ideal S4096x512 .bf16) (g : Vec Ideal S1x128 .f32) : out0_5 x v w g = k0_pay2 (k0_pay3 x) w := by
  unfold out0_5
  have z3 : (![0, 0, 0] : Fin 3 → ℕ) = fun _ => 0 := by decide
  have z2 : (![0, 0] : Fin 2 → ℕ) = fun _ => 0 := by decide
  rw [View.canon_unit_zero z3, View.ld_unit_zero z3, View.ld_unit_zero z2]

/-- The keys from the rows, the joint weights and the lanes' weights. -/
def K (x : Vec Ideal S4x256x4096 .bf16) (w : Vec Ideal S4096x15360 .f32) (g : Fin 128 → EReal) : Vec Ideal S4x256x512 .bf16 :=
  fun i => nrm (fun l => ∑ k : Fin 4096, x (ix3 (i 0) (i 1) k) * w (ix2 k (⟨2048 + 128 * ((i 2).val / 128) + l.val, by have h : (i 2).val < 512 := (i 2).isLt; omega⟩ : Fin 15360)))
    g ⟨(i 2).val % 128, Nat.mod_lt _ (by decide)⟩

/-- The values from the rows and the joint weights. -/
def Vals (x : Vec Ideal S4x256x4096 .bf16) (w : Vec Ideal S4096x15360 .f32) : Vec Ideal S4x256x512 .bf16 :=
  fun i => ∑ k : Fin 4096, x (ix3 (i 0) (i 1) k) * w (ix2 k (⟨2560 + (i 2).val, by have h : (i 2).val < 512 := (i 2).isLt; omega⟩ : Fin 15360))

/-- Where the windows' blocks lie. -/
theorem index_facts : ∀ t : Fin grid0.N,
    (win0_0.index t 0 = t.val ∧ win0_0.index t 1 = 0 ∧ win0_0.index t 2 = 0) ∧ (win0_1.index t 0 = 0 ∧ win0_1.index t 1 = 4)
    ∧ (win0_2.index t 0 = 0 ∧ win0_2.index t 1 = 5) ∧ (win0_3.index t 0 = 0 ∧ win0_3.index t 1 = 0)
    ∧ (win0_4.index t 0 = t.val ∧ win0_4.index t 1 = 0 ∧ win0_4.index t 2 = 0) ∧ (win0_5.index t 0 = t.val ∧ win0_5.index t 1 = 0 ∧ win0_5.index t 2 = 0) := by decide +kernel
theorem index_onto : ∀ b : Fin 4, ∃ t : Fin grid0.N, t.val = b.val := by decide +kernel
theorem flush_all : ∀ t : Fin grid0.N, win0_4.flush t = true ∧ win0_5.flush t = true := by decide +kernel

/-- The place in the result of an entry of a block of keys, and of a block of values. -/
theorem emb_keys (t : Fin cfg0.N) (b : Fin 1) (r : Fin 256) (q : Fin 512) (h : t.val < 4) :
    ((cfg0.win 4).blk t).view.emb (ix3 b r q) = ix3 (⟨t.val, h⟩ : Fin 4) r q := by
  obtain ⟨_, _, _, _, ⟨e0, e1, e2⟩, _⟩ := index_facts t
  funext a; apply Fin.ext
  match a with
  | ⟨0, _⟩ => show win0_4.index t 0 * 1 + 1 * b.val = t.val; omega
  | ⟨1, _⟩ => show win0_4.index t 1 * 256 + 1 * r.val = r.val; omega
  | ⟨2, _⟩ => show win0_4.index t 2 * 512 + 1 * q.val = q.val; omega
theorem emb_values (t : Fin cfg0.N) (b : Fin 1) (r : Fin 256) (q : Fin 512) (h : t.val < 4) :
    ((cfg0.win 5).blk t).view.emb (ix3 b r q) = ix3 (⟨t.val, h⟩ : Fin 4) r q := by
  obtain ⟨_, _, _, _, _, ⟨e0, e1, e2⟩⟩ := index_facts t
  funext a; apply Fin.ext
  match a with
  | ⟨0, _⟩ => show win0_5.index t 0 * 1 + 1 * b.val = t.val; omega
  | ⟨1, _⟩ => show win0_5.index t 1 * 256 + 1 * r.val = r.val; omega
  | ⟨2, _⟩ => show win0_5.index t 2 * 512 + 1 * q.val = q.val; omega

/-- The rows' block at a point, entry by entry. -/
theorem rows_blk (c : Dev nD) (t : Fin cfg0.N) (r : Fin 256) (k : Fin 4096) (h : t.val < 4) :
    iblk m c 0 t (ix3 0 r k) = V m c main_arg0 (ix3 (⟨t.val, h⟩ : Fin 4) r k) := by
  obtain ⟨⟨e0, e1, e2⟩, _⟩ := index_facts t
  refine congrArg (V m c main_arg0) (funext fun a => Fin.ext ?_)
  match a with
  | ⟨0, _⟩ => show win0_0.index t 0 * 1 + 1 * 0 = t.val; omega
  | ⟨1, _⟩ => show win0_0.index t 1 * 256 + 1 * r.val = r.val; omega
  | ⟨2, _⟩ => show win0_0.index t 2 * 4096 + 1 * k.val = k.val; omega

/-- What a point writes back of the keys is its block of the keys of the arrays as the region finds them. -/
theorem flushed_keys (c : Dev nD) (t : Fin cfg0.N) :
    (dats m 0 c).flushed 4 t = ((cfg0.win 4).blk t).view.read (Elt Ideal) (K (V m c main_arg0) (V m c main_v0) (fun l => V m c main_v1 (ix2 0 l))) := by
  rw [flushed4, keys_eq]
  obtain ⟨_, ⟨e10, e11⟩, _, ⟨e30, e31⟩, _⟩ := index_facts t
  have ht : t.val < 4 := t.isLt
  funext j
  show E (iblk m c 0 t) (iblk m c 1 t) (iblk m c 3 t) j = K (V m c main_arg0) (V m c main_v0) (fun l => V m c main_v1 (ix2 0 l)) (((cfg0.win 4).blk t).view.emb j)
  obtain ⟨b, r, q, rfl⟩ : ∃ (b : Fin 1) (r : Fin 256) (q : Fin 512), j = ix3 b r q := ⟨j 0, j 1, j 2, ValueIdx.eq_ix3 j⟩
  rw [emb_keys t b r q ht]
  refine nrm_congr (fun l => Finset.sum_congr rfl fun k _ => Ideal.mul_congr (rows_blk m c t r k ht) ?_) (fun l => ?_) rfl
  · refine congrArg (V m c main_v0) (funext fun a => Fin.ext ?_)
    match a with
    | ⟨0, _⟩ => show win0_1.index t 0 * 4096 + 1 * k.val = k.val; omega
    | ⟨1, _⟩ => show win0_1.index t 1 * 512 + 1 * (128 * (q.val / 128) + l.val) = 2048 + 128 * (q.val / 128) + l.val; omega
  · refine congrArg (V m c main_v1) (funext fun a => Fin.ext ?_)
    match a with
    | ⟨0, _⟩ => show win0_3.index t 0 * 1 + 1 * 0 = 0; omega
    | ⟨1, _⟩ => show win0_3.index t 1 * 128 + 1 * l.val = l.val; omega

/-- What a point writes back of the values is its block of the values of the arrays as the region finds them. -/
theorem flushed_values (c : Dev nD) (t : Fin cfg0.N) :
    (dats m 0 c).flushed 5 t = ((cfg0.win 5).blk t).view.read (Elt Ideal) (Vals (V m c main_arg0) (V m c main_v0)) := by
  rw [flushed5, values_eq]
  obtain ⟨_, _, ⟨e20, e21⟩, _⟩ := index_facts t
  have ht : t.val < 4 := t.isLt
  funext j
  show k0_pay2 (k0_pay3 (iblk m c 0 t)) (iblk m c 2 t) j = Vals _ _ (((cfg0.win 5).blk t).view.emb j)
  obtain ⟨b, r, q, rfl⟩ : ∃ (b : Fin 1) (r : Fin 256) (q : Fin 512), j = ix3 b r q := ⟨j 0, j 1, j 2, ValueIdx.eq_ix3 j⟩
  rw [emb_values t b r q ht]
  refine (val_apply _ _ b r q).trans (Finset.sum_congr rfl fun k _ => Ideal.mul_congr (rows_blk m c t r k ht) ?_)
  refine congrArg (V m c main_v0) (funext fun a => Fin.ext ?_)
  match a with
  | ⟨0, _⟩ => show win0_2.index t 0 * 4096 + 1 * k.val = k.val; omega
  | ⟨1, _⟩ => show win0_2.index t 1 * 512 + 1 * q.val = 2560 + q.val; omega

/-- Every entry of the keys and of the values lies in some point's block. -/
theorem covered_keys (i : S4x256x512.Idx) : ∃ t : Fin cfg0.N, (cfg0.win 4).flush t = true ∧ i ∈ ((cfg0.win 4).blk t).view.set := by
  obtain ⟨b, r, q, rfl⟩ : ∃ (b : Fin 4) (r : Fin 256) (q : Fin 512), i = ix3 b r q := ⟨i 0, i 1, i 2, ValueIdx.eq_ix3 i⟩
  obtain ⟨t, h⟩ := index_onto b
  have e := ((cfg0.win 4).blk t).view.emb_mem_set (ix3 (0 : Fin 1) r q)
  rw [emb_keys t 0 r q (h ▸ b.isLt), show (⟨t.val, h ▸ b.isLt⟩ : Fin 4) = b from Fin.ext h] at e
  exact ⟨t, (flush_all t).1, e⟩
theorem covered_values (i : S4x256x512.Idx) : ∃ t : Fin cfg0.N, (cfg0.win 5).flush t = true ∧ i ∈ ((cfg0.win 5).blk t).view.set := by
  obtain ⟨b, r, q, rfl⟩ : ∃ (b : Fin 4) (r : Fin 256) (q : Fin 512), i = ix3 b r q := ⟨i 0, i 1, i 2, ValueIdx.eq_ix3 i⟩
  obtain ⟨t, h⟩ := index_onto b
  have e := ((cfg0.win 5).blk t).view.emb_mem_set (ix3 (0 : Fin 1) r q)
  rw [emb_values t 0 r q (h ▸ b.isLt), show (⟨t.val, h ▸ b.isLt⟩ : Fin 4) = b from Fin.ext h] at e
  exact ⟨t, (flush_all t).2, e⟩

/-- The host rounds the joint weights, which at the ideal instance changes nothing. -/
theorem weights (c : Dev nD) : V m c main_v0 = m ((c : Thread nD τ).loc main_arg1) := by
  show StableHlo.after hostOps0 (fun b => m (c, b)) main_v0 = _
  unfold hostOps0
  after_results
  rfl

/-- The lanes' weights as a row. -/
theorem lanes (c : Dev nD) (l : Fin 128) : V m c main_v1 (ix2 0 l) = m ((c : Thread nD τ).loc main_arg2) (ix1 l) := by
  have e : V m c main_v1 = (shapeCast S1x128 (m ((c : Thread nD τ).loc main_arg2) : FVec Ideal S128 .f32) shapeCasts_S128_S1x128 : FVec Ideal S1x128 .f32) := by
    show StableHlo.after hostOps0 (fun b => m (c, b)) main_v1 = _
    unfold hostOps0
    after_results
    rfl
  rw [e]
  pointwise

/-- The results of the kernel: the keys and the values of its arguments. -/
theorem final_keys (c : Dev nD) : (dats m 0 c).arrAt 4 cfg0.N
    = K (m ((c : Thread nD τ).loc main_arg0)) (m ((c : Thread nD τ).loc main_arg1)) (fun l => m ((c : Thread nD τ).loc main_arg2) (ix1 l)) :=
  ((dats m 0 c).arrAt_eq_of_cover 4 (K (V m c main_arg0) (V m c main_v0) (fun l => V m c main_v1 (ix2 0 l))) (fun t _ => flushed_keys m c t) covered_keys).trans
    (by rw [weights, V_main_arg0, funext (lanes m c)])
theorem final_values (c : Dev nD) : (dats m 0 c).arrAt 5 cfg0.N = Vals (m ((c : Thread nD τ).loc main_arg0)) (m ((c : Thread nD τ).loc main_arg1)) :=
  ((dats m 0 c).arrAt_eq_of_cover 5 (Vals (V m c main_arg0) (V m c main_v0)) (fun t _ => flushed_values m c t) covered_values).trans
    (by rw [weights, V_main_arg0])

end Cert.Kernel8Ideal.CtxKeys

namespace Cert.Reference8Ideal.CtxKeys

open Cert.Reference8Ideal Cert.Reference8Ideal.Gen Idealize.ShloMosaic
open Cert.Reference8Ideal.Facts
open Cert.Kernel5Ideal.Query (nrm)
open Cert.Kernel8Ideal.CtxKeys (nrm_congr)
open scoped BigOperators

/-- The products of the rows with the columns of keys and values. -/
def dot (x : FVec Ideal S4x256x4096 .bf16) (w : FVec Ideal S4096x15360 .f32) : FVec Ideal S4x256x1024 .f32 :=
  Host.dotGeneral dot_S4x256x4096_S4096x1024_S4x256x1024_2_0_01_1_n_n none x (extractStridedSlice S4096x1024 ![0, 2048] w slices_S4096x15360_S4096x1024_0_2048)

theorem dot_apply (x : FVec Ideal S4x256x4096 .bf16) (w : FVec Ideal S4096x15360 .f32) (b : Fin 4) (r : Fin 256) (n : Fin 1024) :
    dot x w (ix3 b r n) = ∑ k : Fin 4096, x (ix3 b r k) * w (ix2 k (⟨2048 + n.val, by omega⟩ : Fin 15360)) := by
  pointwise [dot]

/-- Four heads of 128 lanes to a row. -/
def heads (p : FVec Ideal S4x256x1024 .f32) : FVec Ideal S4x256x4x128 .f32 :=
  shapeCast _ (extractStridedSlice S4x256x512 ![0, 0, 0] p slices_S4x256x1024_S4x256x512_0_0_0) shapeCasts_S4x256x512_S4x256x4x128

theorem heads_apply (p : FVec Ideal S4x256x1024 .f32) (b : Fin 4) (r : Fin 256) (n : Fin 4) (l : Fin 128) :
    heads p (ix4 b r n l) = p (ix3 b r (⟨128 * n.val + l.val, by omega⟩ : Fin 1024)) := by
  rw [show (⟨128 * n.val + l.val, by omega⟩ : Fin 1024) = ⟨n.val * 128 + l.val, by omega⟩ from Fin.ext (by show 128 * n.val + l.val = n.val * 128 + l.val; omega)]
  pointwise [heads]

/-- The heads normed, side by side in a row. -/
def keys (a : FVec Ideal S4x256x4x128 .f32) (g : FVec Ideal S128 .f32) : FVec Ideal S4x256x512 .bf16 :=
  truncf .bf16 (shapeCast _ (mulf (mulf a (broadcastInDim S4x256x4x128 ![0, 1, 2, 3] bcast_S4x256x4x1_S4x256x4x128_0_1_2_3 (Host.rsqrt (addf (Host.divf (broadcastInDim S4x256x4x1 ![0, 1, 2] bcast_S4x256x4_S4x256x4x1_0_1_2 (Host.reduceAdd (mulf a a) (constant S_ .f32 0x00000000#32) reducesTo_S4x256x4x128_S4x256x4_d3 h_S_)) (broadcastInDim S4x256x4x1 ![] bcast_S_S4x256x4x1 (constant S_ .f32 0x43000000#32))) (broadcastInDim S4x256x4x1 ![] bcast_S_S4x256x4x1 (constant S_ .f32 0x358637BD#32)))))) (broadcastInDim S4x256x4x128 ![0, 1, 2, 3] bcast_S1x1x1x128_S4x256x4x128_0_1_2_3 (broadcastInDim S1x1x1x128 ![3] bcast_S128_S1x1x1x128_3 g))) shapeCasts_S4x256x4x128_S4x256x512) bitsLt_bf16_f32

theorem keys_apply (a : FVec Ideal S4x256x4x128 .f32) (g : FVec Ideal S128 .f32) (b : Fin 4) (r : Fin 256) (c : Fin 512) :
    keys a g (ix3 b r c) = nrm (fun l => a (ix4 b r (⟨c.val / 128, by omega⟩ : Fin 4) l)) (fun l => g (ix1 l)) ⟨c.val % 128, Nat.mod_lt _ (by decide)⟩ := by
  unfold nrm
  pointwise [keys]

/-- The reference's keys and values are the kernel's. -/
theorem keys_eq (x : FVec Ideal S4x256x4096 .bf16) (w : FVec Ideal S4096x15360 .f32) (g : FVec Ideal S128 .f32) :
    keys (heads (dot x w)) g = Cert.Kernel8Ideal.CtxKeys.K x w (fun l => g (ix1 l)) := by
  funext i
  obtain ⟨b, r, q, rfl⟩ : ∃ (b : Fin 4) (r : Fin 256) (q : Fin 512), i = ix3 b r q := ⟨i 0, i 1, i 2, ValueIdx.eq_ix3 i⟩
  refine (keys_apply _ g b r q).trans (nrm_congr (fun l => ?_) (fun _ => rfl) rfl)
  rw [heads_apply, dot_apply]
  refine Finset.sum_congr rfl fun k _ => congrArg (fun n => x (ix3 b r k) * w (ix2 k n)) (Fin.ext ?_)
  show 2048 + (128 * (q.val / 128) + l.val) = 2048 + 128 * (q.val / 128) + l.val
  omega
theorem vals_eq (x : FVec Ideal S4x256x4096 .bf16) (w : FVec Ideal S4096x15360 .f32) :
    (truncf .bf16 (extractStridedSlice S4x256x512 ![0, 0, 512] (dot x w) slices_S4x256x1024_S4x256x512_0_0_512) bitsLt_bf16_f32 : FVec Ideal S4x256x512 .bf16) = Cert.Kernel8Ideal.CtxKeys.Vals x w := by
  funext i
  obtain ⟨b, r, q, rfl⟩ : ∃ (b : Fin 4) (r : Fin 256) (q : Fin 512), i = ix3 b r q := ⟨i 0, i 1, i 2, ValueIdx.eq_ix3 i⟩
  refine Eq.trans (b := dot x w (ix3 b r (⟨512 + q.val, by omega⟩ : Fin 1024))) (by pointwise) ?_
  rw [dot_apply]
  refine Finset.sum_congr rfl fun k _ => congrArg (fun n => x (ix3 b r k) * w (ix2 k n)) (Fin.ext ?_)
  show 2048 + (512 + q.val) = 2560 + q.val
  omega

end Cert.Reference8Ideal.CtxKeys

namespace Cert.Proof

open Idealize.ShloMosaic Idealize.ShloMosaic.TcCoe Idealize.SL.Sem

theorem frame_Reference8Ideal : Cert.quiescent_Reference8Ideal (hReference8Ideal := Cert.Reference8Ideal.Gen.facts) :=
  fun m g _ => (θ_run Cert.Reference8Ideal.defs _ _).mono (fun r h => ⟨fun c => (h c).2.2, sem_eq_zero_of_no_sems (by decide) r.2⟩) (Cert.Reference8Ideal.Value.run m g)

/-- From equal arguments the kernel and the reference leave the same keys and the same values, at the ideal instance. -/
theorem algebraic8 : Cert.algebraic_Kernel8Ideal_Reference8Ideal (hKernel8Ideal := Cert.Kernel8Ideal.Gen.facts) (hReference8Ideal := Cert.Reference8Ideal.Gen.facts) := by
  intro m g m' g' _ e
  refine ⟨_, _, (θ_run Cert.Kernel8Ideal.defs _ _).mono (fun _ h c => ⟨(h c).1.trans (Cert.Kernel8Ideal.CtxKeys.final_keys m c), (h c).2.1.trans (Cert.Kernel8Ideal.CtxKeys.final_values m c), (h c).2.2⟩)
      (Cert.Kernel8Ideal.Value.run_blocks m g), ?_⟩
  refine (θ_run Cert.Reference8Ideal.defs _ _).mono (fun _ h c => ⟨(h c).1.trans ?_, (h c).2.1.trans ?_, (h c).2.2⟩) (Cert.Reference8Ideal.Value.run m' g')
  · obtain ⟨e0, e1, e2⟩ := e c
    refine Eq.trans ?_ (Cert.Reference8Ideal.CtxKeys.keys_eq _ _ _)
    rw [← e0, ← e1, ← e2]
    rfl
  · obtain ⟨e0, e1, _⟩ := e c
    refine Eq.trans ?_ (Cert.Reference8Ideal.CtxKeys.vals_eq _ _)
    rw [← e0, ← e1]
    rfl

end Cert.Proof
-- ==== Proof.NormMod.lean ====
module
public import proofs.«01_k».proof.Proof.Gen.Kernel9Ideal.Value
public import proofs.«01_k».proof.Proof.Gen.Reference9Ideal.Run
public import proofs.«01_k».proof.Proof.Gen.Kernel9.Frame
public import proofs.«01_k».proof.Defs
public import Idealize.ShloMosaic.Lib.Pointwise
public import Idealize.ShloMosaic.Lib.ValueLayout

/-!
The value of the first norm: every entry of the kernel's result is the row's entry divided by the root of the row's mean square,
weighted, scaled and shifted, which is what the reference computes.
-/

@[expose] public noncomputable section
set_option maxRecDepth 16384

namespace Cert.Kernel9Ideal.NormMod

open Cert.Kernel9Ideal Cert.Kernel9Ideal.Gen Cert.Kernel9Ideal.Value Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- An entry of a row, normed by the row's root mean square, with its weight, scale and shift. -/
def entry (a : Fin 4096 → EReal) (g sc sh : EReal) (c : Fin 4096) : EReal :=
  a c * Ideal.rsqrt (Ideal.div (∑ k, a k * a k) (Ideal.ofBits .f32 0x45800000#32) + Ideal.ofBits .f32 0x358637BD#32) * g
    * (Ideal.ofBits .f32 0x3F800000#32 + sc) + sh

/-- Equal rows and numbers give equal entries. -/
theorem entry_congr {a a' : Fin 4096 → EReal} {g g' sc sc' sh sh' : EReal} (ha : ∀ k, a k = a' k) (hg : g = g') (hsc : sc = sc') (hsh : sh = sh') (c : Fin 4096) :
    entry a g sc sh c = entry a' g' sc' sh' c := by
  rw [funext ha, hg, hsc, hsh]

/-- The normed and modulated rows, from the rows, the weights, the scales and the shifts. -/
def G (x : Vec Ideal S4x4096x4096 .f32) (g : Fin 4096 → EReal) (sh sc : Vec Ideal S4x1x4096 .f32) : Vec Ideal S4x4096x4096 .bf16 :=
  fun i => entry (fun k => x (ix3 (i 0) (i 1) k)) (g (i 2)) (sc (ix3 (i 0) (0 : Fin 1) (i 2))) (sh (ix3 (i 0) (0 : Fin 1) (i 2))) (i 2)

/-- What the body stores, entry by entry. -/
theorem pay (x : Vec Ideal S1x512x4096 .f32) (g : Vec Ideal S1x4096 .f32) (sc sh : Vec Ideal S1x1x4096 .f32) (z : Fin 1) (r : Fin 512) (c : Fin 4096) :
    k0_pay1 (F := Ideal) x g sc sh (ix3 z r c) = entry (fun k => x (ix3 z r k)) (g (ix2 0 c)) (sc (ix3 z (0 : Fin 1) c)) (sh (ix3 z (0 : Fin 1) c)) c := by
  obtain rfl : z = 0 := Subsingleton.elim _ _
  unfold entry
  pointwise [k0_pay1]

theorem out_eq (x : Vec Ideal S1x512x4096 .f32) (g : Vec Ideal S1x4096 .f32) (sh sc : Vec Ideal S1x1x4096 .f32) :
    out0_4 x g sh sc = k0_pay1 x g sc sh := by
  unfold out0_4
  have z3 : (![0, 0, 0] : Fin 3 → ℕ) = fun _ => 0 := by decide
  have z2 : (![0, 0] : Fin 2 → ℕ) = fun _ => 0 := by decide
  rw [View.canon_unit_zero z3, View.ld_unit_zero z3, View.ld_unit_zero z2, View.ld_unit_zero z3, View.ld_unit_zero z3]

/-- Where the windows' blocks lie. -/
theorem index_facts : ∀ t : Fin grid0.N,
    win0_0.index t 0 = win0_4.index t 0 ∧ win0_0.index t 1 = win0_4.index t 1 ∧ win0_0.index t 2 = 0
    ∧ win0_1.index t 0 = 0 ∧ win0_1.index t 1 = 0
    ∧ win0_2.index t 0 = win0_4.index t 0 ∧ win0_2.index t 1 = 0 ∧ win0_2.index t 2 = 0
    ∧ win0_3.index t 0 = win0_4.index t 0 ∧ win0_3.index t 1 = 0 ∧ win0_3.index t 2 = 0 ∧ win0_4.index t 2 = 0 := by decide +kernel
theorem index_onto : ∀ (b : Fin 4) (i : Fin 8), ∃ t : Fin grid0.N, win0_4.index t 0 = b.val ∧ win0_4.index t 1 = i.val := by decide +kernel
theorem flush_all : ∀ t : Fin grid0.N, win0_4.flush t = true := by decide +kernel

/-- What a point writes back is its block of the result for the arrays as the region finds them. -/
theorem flushed_eq (c : Dev nD) (t : Fin cfg0.N) :
    (dats m 0 c).flushed 4 t = ((cfg0.win 4).blk t).view.read (Elt Ideal) (G (V m c main_arg0) (fun k => V m c main_v0 (ix2 0 k)) (V m c main_arg2) (V m c main_arg3)) := by
  rw [flushed4, out_eq]
  obtain ⟨e00, e01, e02, e10, e11, e20, e21, e22, e30, e31, e32, e42⟩ := index_facts t
  funext j
  show k0_pay1 (iblk m c 0 t) (iblk m c 1 t) (iblk m c 3 t) (iblk m c 2 t) j = G (V m c main_arg0) (fun k => V m c main_v0 (ix2 0 k)) (V m c main_arg2) (V m c main_arg3) (((cfg0.win 4).blk t).view.emb j)
  obtain ⟨z, r, q, rfl⟩ : ∃ (z : Fin 1) (r : Fin 512) (q : Fin 4096), j = ix3 z r q := ⟨j 0, j 1, j 2, ValueIdx.eq_ix3 j⟩
  refine (pay _ _ _ _ z r q).trans ?_
  have hq : (((cfg0.win 4).blk t).view.emb (ix3 z r q)) 2 = q := Fin.ext (by show win0_4.index t 2 * 4096 + 1 * q.val = q.val; omega)
  unfold G
  rw [hq]
  refine entry_congr (fun k => ?_) ?_ ?_ ?_ q
  · refine congrArg (V m c main_arg0) (funext fun a => Fin.ext ?_)
    match a with
    | ⟨0, _⟩ => show win0_0.index t 0 * 1 + 1 * z.val = win0_4.index t 0 * 1 + 1 * z.val; rw [e00]
    | ⟨1, _⟩ => show win0_0.index t 1 * 512 + 1 * r.val = win0_4.index t 1 * 512 + 1 * r.val; rw [e01]
    | ⟨2, _⟩ => show win0_0.index t 2 * 4096 + 1 * k.val = k.val; rw [e02]; omega
  · refine congrArg (V m c main_v0) (funext fun a => Fin.ext ?_)
    match a with
    | ⟨0, _⟩ => show win0_1.index t 0 * 1 + 1 * 0 = 0; omega
    | ⟨1, _⟩ => show win0_1.index t 1 * 4096 + 1 * q.val = q.val; omega
  · refine congrArg (V m c main_arg3) (funext fun a => Fin.ext ?_)
    match a with
    | ⟨0, _⟩ => show win0_3.index t 0 * 1 + 1 * z.val = win0_4.index t 0 * 1 + 1 * z.val; rw [e30]
    | ⟨1, _⟩ => show win0_3.index t 1 * 1 + 1 * 0 = 0; rw [e31]
    | ⟨2, _⟩ => show win0_3.index t 2 * 4096 + 1 * q.val = q.val; omega
  · refine congrArg (V m c main_arg2) (funext fun a => Fin.ext ?_)
    match a with
    | ⟨0, _⟩ => show win0_2.index t 0 * 1 + 1 * z.val = win0_4.index t 0 * 1 + 1 * z.val; rw [e20]
    | ⟨1, _⟩ => show win0_2.index t 1 * 1 + 1 * 0 = 0; rw [e21]
    | ⟨2, _⟩ => show win0_2.index t 2 * 4096 + 1 * q.val = q.val; omega

/-- Every entry of the result lies in some point's block. -/
theorem covered (i : S4x4096x4096.Idx) : ∃ t : Fin cfg0.N, (cfg0.win 4).flush t = true ∧ i ∈ ((cfg0.win 4).blk t).view.set := by
  obtain ⟨b, r, q, rfl⟩ : ∃ (b : Fin 4) (r q : Fin 4096), i = ix3 b r q := ⟨i 0, i 1, i 2, ValueIdx.eq_ix3 i⟩
  obtain ⟨t, h0, h1⟩ := index_onto b ⟨r.val / 512, by omega⟩
  obtain ⟨_, _, _, _, _, _, _, _, _, _, _, e42⟩ := index_facts t
  refine ⟨t, flush_all t, ?_⟩
  have h := ((cfg0.win 4).blk t).view.emb_mem_set (ix3 (0 : Fin 1) (⟨r.val % 512, by omega⟩ : Fin 512) q)
  have e : ((cfg0.win 4).blk t).view.emb (ix3 (0 : Fin 1) (⟨r.val % 512, by omega⟩ : Fin 512) q) = ix3 b r q := by
    funext a; apply Fin.ext
    match a with
    | ⟨0, _⟩ => show win0_4.index t 0 * 1 + 1 * 0 = b.val; omega
    | ⟨1, _⟩ => show win0_4.index t 1 * 512 + 1 * (r.val % 512) = r.val; simp only at h1; omega
    | ⟨2, _⟩ => show win0_4.index t 2 * 4096 + 1 * q.val = q.val; omega
  rwa [e] at h

/-- The weights as a row. -/
theorem weights (c : Dev nD) (k : Fin 4096) : V m c main_v0 (ix2 0 k) = m ((c : Thread nD τ).loc main_arg1) (ix1 k) := by
  have e : V m c main_v0 = (shapeCast S1x4096 (m ((c : Thread nD τ).loc main_arg1) : FVec Ideal S4096 .f32) shapeCasts_S4096_S1x4096 : FVec Ideal S1x4096 .f32) := by
    show StableHlo.after hostOps0 (fun b => m (c, b)) main_v0 = _
    unfold hostOps0
    after_results
    rfl
  rw [e]
  exact ValueIdx.shapeCast_a_1a_apply _ _ _ _

/-- The result of the kernel: the normed and modulated rows of its arguments. -/
theorem final (c : Dev nD) : (dats m 0 c).arrAt 4 cfg0.N
    = G (m ((c : Thread nD τ).loc main_arg0)) (fun k => m ((c : Thread nD τ).loc main_arg1) (ix1 k)) (m ((c : Thread nD τ).loc main_arg2)) (m ((c : Thread nD τ).loc main_arg3)) :=
  ((dats m 0 c).arrAt_eq_of_cover 4 (G (V m c main_arg0) (fun k => V m c main_v0 (ix2 0 k)) (V m c main_arg2) (V m c main_arg3)) (fun t _ => flushed_eq m c t) covered).trans
    (by rw [funext (weights m c), V_main_arg0, V_main_arg2, V_main_arg3])

end Cert.Kernel9Ideal.NormMod

namespace Cert.Reference9Ideal.NormMod

open Cert.Reference9Ideal Cert.Reference9Ideal.Gen Idealize.ShloMosaic
open Cert.Reference9Ideal.Facts

/-- The reference's result, entry by entry. -/
theorem ref_eq (x : FVec Ideal S4x4096x4096 .f32) (g : FVec Ideal S4096 .f32) (sh sc : FVec Ideal S4x1x4096 .f32) :
    (truncf .bf16 (addf (mulf (mulf (mulf x (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf x x) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 g)))
      (broadcastInDim S4x4096x4096 ![0, 1, 2] bcast_S4x1x4096_S4x4096x4096_0_1_2 (addf (broadcastInDim S4x1x4096 ![] bcast_S_S4x1x4096 (constant S_ .f32 0x3F800000#32)) sc))) (broadcastInDim S4x4096x4096 ![0, 1, 2] bcast_S4x1x4096_S4x4096x4096_0_1_2 sh)) bitsLt_bf16_f32 : FVec Ideal S4x4096x4096 .bf16)
      = Cert.Kernel9Ideal.NormMod.G x (fun k => g (ix1 k)) sh sc := by
  funext i
  obtain ⟨b, r, q, rfl⟩ : ∃ (b : Fin 4) (r q : Fin 4096), i = ix3 b r q := ⟨i 0, i 1, i 2, ValueIdx.eq_ix3 i⟩
  unfold Cert.Kernel9Ideal.NormMod.G Cert.Kernel9Ideal.NormMod.entry
  pointwise

end Cert.Reference9Ideal.NormMod

namespace Cert.Proof

open Idealize.ShloMosaic Idealize.ShloMosaic.TcCoe Idealize.SL.Sem

theorem frame_Reference9Ideal : Cert.quiescent_Reference9Ideal (hReference9Ideal := Cert.Reference9Ideal.Gen.facts) :=
  fun m g _ => (θ_run Cert.Reference9Ideal.defs _ _).mono (fun r h => ⟨fun c => (h c).2, sem_eq_zero_of_no_sems (by decide) r.2⟩) (Cert.Reference9Ideal.Value.run m g)

/-- From equal arguments the kernel and the reference leave the same rows, at the ideal instance. -/
theorem algebraic9 : Cert.algebraic_Kernel9Ideal_Reference9Ideal (hKernel9Ideal := Cert.Kernel9Ideal.Gen.facts) (hReference9Ideal := Cert.Reference9Ideal.Gen.facts) := by
  intro m g m' g' _ e
  refine ⟨_, (θ_run Cert.Kernel9Ideal.defs _ _).mono (fun _ h c => ⟨(h c).1.trans (Cert.Kernel9Ideal.NormMod.final m c), (h c).2⟩) (Cert.Kernel9Ideal.Value.run_blocks m g), ?_⟩
  refine (θ_run Cert.Reference9Ideal.defs _ _).mono (fun _ h c => ⟨(h c).1.trans ?_, (h c).2⟩) (Cert.Reference9Ideal.Value.run m' g')
  obtain ⟨e0, e1, e2, e3⟩ := e c
  rw [e0, e1, e2, e3]
  exact Cert.Reference9Ideal.NormMod.ref_eq _ _ _ _

end Cert.Proof
-- ==== Proof.UpDma.lean ====
module
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp
public import proofs.«01_k».proof.Proof.Gen.Kernel6Ideal
public import proofs.«01_k».proof.Proof.Gen.Kernel6Ideal.Launch
public import proofs.«01_k».proof.Proof.Gen.Kernel6Ideal.Skeleton

/-!
The weight pipeline of `expert_up`: an expert's weights are copied into one of two slots while the other slot
is read. This module names the three states a slot can be in (free, filling, holding an expert) and proves the three
conditional steps a grid point takes before it computes: the first copy, the copy of the following expert, the wait.
-/

@[expose] public noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]
local notation "𝕄" => MT nD τ sig Unit (Elt F) ℕ (Pipeline.UD sig nD τ) ℕ
local notation "EC" => (countersEmb (U := Pipeline.UD sig nD τ) : UEmb Counters 𝕄)

/-! ## The slots, their semaphores and the experts' weights as views -/

/-- The offsets of slot (or expert) number `v`. -/
abbrev offW (v : BitVec 32) : Fin 3 → ℕ := ![v.toNat, 0, 0]
/-- The offset of semaphore number `v`. -/
abbrev offS (v : BitVec 32) : Fin 1 → ℕ := ![v.toNat]

theorem slot_inb {v : BitVec 32} (hv : v.toNat < 2) : ∀ a, offW v a + S1x4096x1024.size a ≤ S2x4096x1024.size a := by
  intro a; fin_cases a <;> simp [offW, S1x4096x1024, S2x4096x1024] <;> omega
theorem expert_inb {e : BitVec 32} (he : e.toNat < 32) : ∀ a, offW e a + S1x4096x1024.size a ≤ S32x4096x1024.size a := by
  intro a; fin_cases a <;> simp [offW, S1x4096x1024, S32x4096x1024] <;> omega
theorem sem_inb {v : BitVec 32} (hv : v.toNat < 2) : ∀ a, offS v a + S1.size a ≤ S2.size a := by
  intro a; fin_cases a; simp [offS, S1, S2]; omega

/-- Slot `v` of the scratch as the body names it. -/
abbrev slotM (o : Fin 3 → ℕ) (h : ∀ a, o a + S1x4096x1024.size a ≤ S2x4096x1024.size a) : Memref sig .tc .vmem S4096x1024 .f32 :=
  ((Memref.whole cc0_scratch0).slice (Rect.unit (s := S2x4096x1024) o S1x4096x1024.size h) (fun _ => rfl)).squeeze S4096x1024 squeezes_S1x4096x1024_S4096x1024
/-- Expert `e`'s weights as the body names them. -/
abbrev wM (o : Fin 3 → ℕ) (h : ∀ a, o a + S1x4096x1024.size a ≤ S32x4096x1024.size a) : Memref sig .tc .hbm S4096x1024 .f32 :=
  ((Memref.whole main_arg7).slice (Rect.unit (s := S32x4096x1024) o S1x4096x1024.size h) (fun _ => rfl)).squeeze S4096x1024 squeezes_S1x4096x1024_S4096x1024
/-- The semaphore of slot `v`. -/
abbrev semS (o : Fin 1 → ℕ) (h : ∀ a, o a + S1.size a ≤ S2.size a) : DmaSem sig :=
  ((cc0_scratch1.slice (Rect.unit (s := S2) o S1.size h)).squeeze S_ squeezes_S1_S_).sem

/-- The weights' buffer on core `c` and its contents' type. -/
abbrev wLoc (c : Dev nD) : Loc nD τ sig := (Memref.whole main_arg7).view.loc (c : Thread nD τ)
abbrev WBuf (F : FTy → Type) [FloatOps F] (c : Dev nD) : Type := Buf (Elt F) (wLoc c)

/-- The half of the weights' share that goes with slot `v`: slot 0 reads at the left half, slot 1 at the right. -/
def shr (v : BitVec 32) : PosShare TreeShare := if v = 0#32 then fullShare.left else fullShare.right

/-- Expert `e`'s weights. -/
def wdat (c : Dev nD) (W : WBuf F c) (e : BitVec 32) (he : e.toNat < 32) : S4096x1024.Idx → Elt F .f32 :=
  (wM (offW e) (expert_inb he)).view.read (Elt F) W

/-- Slot `v` is free: its contents are anything, its semaphore is at zero and its half of the weights is at hand. -/
def Free (c : Dev nD) (W : WBuf F c) (v : BitVec 32) (hv : v.toNat < 2) : sProp 𝕄 :=
  iprop((∃ f, (slotM (offW v) (slot_inb hv)).view.loc (c : Thread nD τ) ↦[(slotM (offW v) (slot_inb hv)).view.set]{fullShare} f)
    ∗ semVal ((c : Thread nD τ), .dma (semS (offS v) (sem_inb hv))) 0 ∗ wLoc c ↦{shr v} W)
/-- Slot `v` is filling with expert `e`'s weights. -/
def Fly (c : Dev nD) (W : WBuf F c) (v : BitVec 32) (hv : v.toNat < 2) (e : BitVec 32) (he : e.toNat < 32) : sProp 𝕄 :=
  iprop(Transfers.Flight EC (c : Thread nD τ) (.dma (semS (offS v) (sem_inb hv))) () ((slotM (offW v) (slot_inb hv)).view.amount (.dma (semS (offS v) (sem_inb hv))))
      iprop(owns (c : Thread nD τ) (slotM (offW v) (slot_inb hv)) fullShare (wdat c W e he)
        ∗ wLoc c ↦[(wM (offW e) (expert_inb he)).view.set]{shr v} W)
    ∗ wLoc c ↦[Finset.univ \ (wM (offW e) (expert_inb he)).view.set]{shr v} W)
/-- Slot `v` holds expert `e`'s weights. -/
def Cur (c : Dev nD) (W : WBuf F c) (v : BitVec 32) (hv : v.toNat < 2) (e : BitVec 32) (he : e.toNat < 32) : sProp 𝕄 :=
  iprop(owns (c : Thread nD τ) (slotM (offW v) (slot_inb hv)) fullShare (wdat c W e he)
    ∗ semVal ((c : Thread nD τ), .dma (semS (offS v) (sem_inb hv))) 0 ∗ wLoc c ↦{shr v} W)

/-- A slot whose weights are no longer needed is free. -/
theorem Cur_free (c : Dev nD) (W : WBuf F c) (v : BitVec 32) (hv : v.toNat < 2) (e : BitVec 32) (he : e.toNat < 32) :
    Cur c W v hv e he ⊢ Free c W v hv := by
  unfold Cur Free owns
  iintro ⟨⟨%f, %hf, H⟩, Hs, Hw⟩
  isplitl [H]; · iexists f; iexact H
  isplitl [Hs]; · iexact Hs
  iexact Hw

variable {α : Type}

/-- Starting the copy of expert `e` into the free slot `v`. -/
theorem wp_start (c : Dev nD) (Q : α → sProp 𝕄) (W : WBuf F c) (v : BitVec 32) (hv : v.toNat < 2) (e : BitVec 32) (he : e.toNat < 32)
    {hsrc : (wM (offW e) (expert_inb he)).view.WordExact} {hdst : (slotM (offW v) (slot_inb hv)).view.WordExact}
    {hsem : DmaTarget.Typed (nD := nD) (τ := τ) (p := .tc) .hbm (.dma (semS (offS v) (sem_inb hv))) (.here (slotM (offW v) (slot_inb hv)))}
    (k : PUnit → Prog (TpuEff nD τ sig (Elt F) Λ₀ .tc) α) :
    Free c W v hv ⊢ iprop((Fly c W v hv e he -∗ wp frame (wpE (defs₀ (F := F)) Variants.none (c : Thread nD τ) none) Set.univ (k ⟨⟩) Q)
      -∗ wp frame (wpE (defs₀ (F := F)) Variants.none (c : Thread nD τ) none) Set.univ
          (.op (.enqueueDma (wM (offW e) (expert_inb he)) (.here (slotM (offW v) (slot_inb hv))) (.dma (semS (offS v) (sem_inb hv))) hsrc hdst hsem) k) Q) := by
  unfold Free Fly
  iintro ⟨⟨%fd, Hd⟩, Hs, Hw⟩ Hk
  ihave Hw' := (pointsTo_split_subset (Finset.subset_univ (wM (offW e) (expert_inb he)).view.set)).1 $$ Hw
  icases Hw' with ⟨Hw1, Hw2⟩
  iapply (Transfers.wp_dmaLocal EC Variants.none (c : Thread nD τ) none () _ rfl (View.amount_pos _ _ (by decide)) (Finset.Subset.refl _)) $$ [Hd Hs Hw1]
  · isplitl [Hw1]; · iexact Hw1
    isplitl [Hd]; · iexact Hd
    iexact Hs
  iintro Hf
  iapply Hk
  isplitl [Hf]
  · iapply (Transfers.Flight_mono EC (c : Thread nD τ) ?_) $$ Hf
    iintro ⟨H1, H2⟩
    isplitl [H1]
    · ihave H1' := (owns_intro (c : Thread nD τ) (slotM (offW v) (slot_inb hv)) fullShare _) $$ H1
      rw [View.read_write_univ]; iexact H1'
    iexact H2
  iexact Hw2

/-- Waiting for the copy into slot `v`. -/
theorem wp_arrive (c : Dev nD) (Q : α → sProp 𝕄) (W : WBuf F c) (v : BitVec 32) (hv : v.toNat < 2) (e : BitVec 32) (he : e.toNat < 32)
    {hsrc : (wM (offW e) (expert_inb he)).view.WordExact} {hdst : (slotM (offW v) (slot_inb hv)).view.WordExact}
    (k : PUnit → Prog (TpuEff nD τ sig (Elt F) Λ₀ .tc) α) (O : Waits sig Unit) :
    iprop(Fly c W v hv e he ∗ owes (c : Thread nD τ) 0 O)
    ⊢ iprop((iprop(Cur c W v hv e he ∗ owes (c : Thread nD τ) 0 (insert (SemLoc.dma (semS (offS v) (sem_inb hv)), ()) O)) -∗ wp frame (wpE (defs₀ (F := F)) Variants.none (c : Thread nD τ) none) Set.univ (k ⟨⟩) Q)
      -∗ wp frame (wpE (defs₀ (F := F)) Variants.none (c : Thread nD τ) none) Set.univ
          (.op (.waitDma2 (semS (offS v) (sem_inb hv)) (wM (offW e) (expert_inb he)) (slotM (offW v) (slot_inb hv)) hsrc hdst) k) Q) := by
  unfold Fly Cur
  iintro ⟨⟨Hf, Hw⟩, Ho⟩ Hk
  iapply (Transfers.wp_waitLocal EC Variants.none (c : Thread nD τ) none () rfl) $$ [Hf Ho]
  · isplitl [Hf]; · iexact Hf
    iexact Ho
  iintro ⟨⟨Hd, Hw1⟩, Hs, Ho⟩
  iapply Hk
  isplitr [Ho]
  · isplitl [Hd]; · iexact Hd
    isplitl [Hs]; · iexact Hs
    iapply (pointsTo_split_subset (Finset.subset_univ (wM (offW e) (expert_inb he)).view.set)).2
    isplitl [Hw1]; · iexact Hw1
    iexact Hw
  iexact Ho

/-! ## The tables -/

/-- A table's buffer and its points-to at the half share the body holds it at. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

/-- Reading the word `w` of a table. -/
theorem wp_word (c : Dev nD) (Q : α → sProp 𝕄) {M : Memref sig .tc .smem S96 .i32} (T : Buf (Elt F) (M.view.loc (c : Thread nD τ))) {r : Rect S96}
    {h1 : r.shape.numel = 1} {hp : EltTy.i32.packing = 1} {w : BitVec 32}
    (hw : (M.access r).read (Elt F) T (Shape.Idx.first (h1.symm ▸ Nat.one_pos)) = w)
    (k : BitVec 32 → Prog (TpuEff nD τ sig (Elt F) Λ₀ .tc) α) :
    tbPt c M T ⊢ iprop((tbPt c M T -∗ wp frame (wpE (defs₀ (F := F)) Variants.none (c : Thread nD τ) none) Set.univ (k w) Q)
      -∗ wp frame (wpE (defs₀ (F := F)) Variants.none (c : Thread nD τ) none) Set.univ ((smemLoad M r h1 hp : Prog (TpuEff nD τ sig (Elt F) Λ₀ .tc) _) >>= k) Q) := by
  subst hw
  rw [wp_bind]
  unfold smemLoad
  iintro H Hk
  iapply (wp_smemLoadElt (m := M) (r := r) (f := T) (q := fullShare.right) (S := Finset.univ) Variants.none (c : Thread nD τ) none Set.univ (Finset.subset_univ _)) $$ H
  iintro H
  rw [wp_ret]
  imodintro
  iapply Hk
  iexact H

/-- The first copy: at the first point expert `e`'s weights start towards slot 0. -/
theorem wp_if1 (c : Dev nD) (Q : α → sProp 𝕄) (W : WBuf F c) (i : grid0.Coords) (hi : k0_cond1 i = 1#1) (T : Buf (Elt F) ((Memref.whole main_arg0).view.loc (c : Thread nD τ)))
    (e : BitVec 32) (he : e.toNat < 32)
    (hw : ((Memref.whole main_arg0).access (Rect.unit (s := S96) ![0] S1.size inb_S96_S1_0)).read (Elt F) T (Shape.Idx.first (numel1_S1.symm ▸ Nat.one_pos)) = e)
    (k : PUnit → Prog (TpuEff nD τ sig (Elt F) Λ₀ .tc) α) :
    iprop(tbPt c (Memref.whole main_arg0) T ∗ Free c W 0#32 (by decide)) ⊢
      iprop((iprop(tbPt c (Memref.whole main_arg0) T ∗ Fly c W 0#32 (by decide) e he) -∗ wp frame (wpE (defs₀ (F := F)) Variants.none (c : Thread nD τ) none) Set.univ (k ⟨⟩) Q)
      -∗ wp frame (wpE (defs₀ (F := F)) Variants.none (c : Thread nD τ) none) Set.univ
        (if k0_h1 : k0_cond1 i = 1#1 then do
          let v44 : Elt F .i32 ← smemLoad (Memref.whole main_arg0) (Rect.unit (s := S96) ![0] S1.size inb_S96_S1_0) numel1_S1 rfl
          have k0_hw1 : k0_chk1 i v44 := (← Prog.lift (TpuEff.assume (k0_chk1 i v44) (k0_chk1.dec i v44))).down
          let v45 : DmaSems sig S1 := cc0_scratch1.slice (Rect.unit (s := S2) ![0] S1.size inb_S2_S1_0)
          let v46 : DmaSems sig S_ := v45.squeeze S_ squeezes_S1_S_
          let v47 : Memref sig .tc .vmem S1x4096x1024 .f32 := (Memref.whole cc0_scratch0).slice (Rect.unit (s := S2x4096x1024) ![0, 0, 0] S1x4096x1024.size inb_S2x4096x1024_S1x4096x1024_0_0_0) (fun _ => rfl)
          let v48 : Memref sig .tc .vmem S4096x1024 .f32 := v47.squeeze S4096x1024 squeezes_S1x4096x1024_S4096x1024
          let v49 : Memref sig .tc .hbm S1x4096x1024 .f32 := (Memref.whole main_arg7).slice (Rect.unit (s := S32x4096x1024) (k0_off2 v44) S1x4096x1024.size (k0_off2_inb i v44 k0_hw1 k0_h1)) (fun _ => rfl)
          let v50 : Memref sig .tc .hbm S4096x1024 .f32 := v49.squeeze S4096x1024 squeezes_S1x4096x1024_S4096x1024
          Prog.lift (.enqueueDma v50 (.here v48) (.dma v46.sem) ((View.wordExact_bits rfl).reshape _ _) ((View.wordExact_bits rfl).reshape _ _) ⟨Or.inl rfl, trivial⟩)
          k PUnit.unit
        else k PUnit.unit) Q) := by
  rw [dif_pos hi]
  iintro ⟨HT, HF⟩ Hk
  iapply (wp_word c Q T hw) $$ HT
  iintro HT
  iapply (wp_assume Variants.none (c : Thread nD τ) none Set.univ (fun _ => expert_inb he))
  iapply (wp_start c Q W 0#32 _ e he) $$ HF
  iintro HF
  iapply Hk
  isplitl [HT]; · iexact HT
  iexact HF

/-- The following expert's copy: on a first block whose next expert is `e`, its weights start towards the other slot. -/
theorem wp_if2 (c : Dev nD) (Q : α → sProp 𝕄) (W : WBuf F c) (i : grid0.Coords) (v1 v6 v9 : BitVec 32) (hi : k0_cond2 v6 v9 = 1#1)
    (k0_hw2 : k0_chk2 v1 v6 v9) (hv : (Scalar.subi 1#32 v1).toNat < 2) (T : Buf (Elt F) ((Memref.whole main_arg3).view.loc (c : Thread nD τ)))
    (e : BitVec 32) (he : e.toNat < 32)
    (hw : ((Memref.whole main_arg3).access (Rect.unit (s := S96) (k0_off3 i) S1.size (k0_off3_inb i))).read (Elt F) T (Shape.Idx.first (numel1_S1.symm ▸ Nat.one_pos)) = e)
    (k : PUnit → Prog (TpuEff nD τ sig (Elt F) Λ₀ .tc) α) :
    iprop(tbPt c (Memref.whole main_arg3) T ∗ Free c W (Scalar.subi 1#32 v1) hv) ⊢
      iprop((iprop(tbPt c (Memref.whole main_arg3) T ∗ Fly c W (Scalar.subi 1#32 v1) hv e he) -∗ wp frame (wpE (defs₀ (F := F)) Variants.none (c : Thread nD τ) none) Set.univ (k ⟨⟩) Q)
      -∗ wp frame (wpE (defs₀ (F := F)) Variants.none (c : Thread nD τ) none) Set.univ
        (if k0_h2 : k0_cond2 v6 v9 = 1#1 then do
          let v45 : Elt F .i32 ← smemLoad (Memref.whole main_arg3) (Rect.unit (s := S96) (k0_off3 i) S1.size (k0_off3_inb i)) numel1_S1 rfl
          have k0_hw3 : k0_chk3 v6 v9 v45 := (← Prog.lift (TpuEff.assume (k0_chk3 v6 v9 v45) (k0_chk3.dec v6 v9 v45))).down
          let v47 : DmaSems sig S1 := cc0_scratch1.slice (Rect.unit (s := S2) (k0_off4 v1) S1.size (k0_off4_inb v1 v6 v9 k0_hw2 k0_h2))
          let v48 : DmaSems sig S_ := v47.squeeze S_ squeezes_S1_S_
          let v49 : Memref sig .tc .vmem S1x4096x1024 .f32 := (Memref.whole cc0_scratch0).slice (Rect.unit (s := S2x4096x1024) (k0_off5 v1) S1x4096x1024.size (k0_off5_inb v1 v6 v9 k0_hw2 k0_h2)) (fun _ => rfl)
          let v50 : Memref sig .tc .vmem S4096x1024 .f32 := v49.squeeze S4096x1024 squeezes_S1x4096x1024_S4096x1024
          let v51 : Memref sig .tc .hbm S1x4096x1024 .f32 := (Memref.whole main_arg7).slice (Rect.unit (s := S32x4096x1024) (k0_off6 v45) S1x4096x1024.size (k0_off6_inb v6 v9 v45 k0_hw3 k0_h2)) (fun _ => rfl)
          let v52 : Memref sig .tc .hbm S4096x1024 .f32 := v51.squeeze S4096x1024 squeezes_S1x4096x1024_S4096x1024
          Prog.lift (.enqueueDma v52 (.here v50) (.dma v48.sem) ((View.wordExact_bits rfl).reshape _ _) ((View.wordExact_bits rfl).reshape _ _) ⟨Or.inl rfl, trivial⟩)
          k PUnit.unit
        else k PUnit.unit) Q) := by
  rw [dif_pos hi]
  iintro ⟨HT, HF⟩ Hk
  iapply (wp_word c Q T hw) $$ HT
  iintro HT
  iapply (wp_assume Variants.none (c : Thread nD τ) none Set.univ (fun _ => expert_inb he))
  iapply (wp_start c Q W (Scalar.subi 1#32 v1) hv e he) $$ HF
  iintro HF
  iapply Hk
  isplitl [HT]; · iexact HT
  iexact HF

/-- The wait: on a first block the copy of its expert `e` into slot `v1` has arrived. -/
theorem wp_if3 (c : Dev nD) (Q : α → sProp 𝕄) (W : WBuf F c) (i : grid0.Coords) (v1 v15 : BitVec 32) (hi : k0_cond3 v15 = 1#1)
    (k0_hw4 : k0_chk4 v1 v15) (hv : v1.toNat < 2) (T : Buf (Elt F) ((Memref.whole main_arg0).view.loc (c : Thread nD τ)))
    (e : BitVec 32) (he : e.toNat < 32) (O : Waits sig Unit)
    (hw : ((Memref.whole main_arg0).access (Rect.unit (s := S96) (k0_off8 i) S1.size (k0_off8_inb i))).read (Elt F) T (Shape.Idx.first (numel1_S1.symm ▸ Nat.one_pos)) = e)
    (k : PUnit → Prog (TpuEff nD τ sig (Elt F) Λ₀ .tc) α) :
    iprop(tbPt c (Memref.whole main_arg0) T ∗ Fly c W v1 hv e he ∗ owes (c : Thread nD τ) 0 O) ⊢
      iprop((iprop(tbPt c (Memref.whole main_arg0) T ∗ Cur c W v1 hv e he ∗ owes (c : Thread nD τ) 0 (insert (SemLoc.dma (semS (offS v1) (sem_inb hv)), ()) O)) -∗ wp frame (wpE (defs₀ (F := F)) Variants.none (c : Thread nD τ) none) Set.univ (k ⟨⟩) Q)
      -∗ wp frame (wpE (defs₀ (F := F)) Variants.none (c : Thread nD τ) none) Set.univ
        (if k0_h3 : k0_cond3 v15 = 1#1 then do
          let v45 : Elt F .i32 ← smemLoad (Memref.whole main_arg0) (Rect.unit (s := S96) (k0_off8 i) S1.size (k0_off8_inb i)) numel1_S1 rfl
          have k0_hw5 : k0_chk5 v15 v45 := (← Prog.lift (TpuEff.assume (k0_chk5 v15 v45) (k0_chk5.dec v15 v45))).down
          let v46 : DmaSems sig S1 := cc0_scratch1.slice (Rect.unit (s := S2) (k0_off9 v1) S1.size (k0_off9_inb v1 v15 k0_hw4 k0_h3))
          let v47 : DmaSems sig S_ := v46.squeeze S_ squeezes_S1_S_
          let v48 : Memref sig .tc .vmem S1x4096x1024 .f32 := (Memref.whole cc0_scratch0).slice (Rect.unit (s := S2x4096x1024) (k0_off10 v1) S1x4096x1024.size (k0_off10_inb v1 v15 k0_hw4 k0_h3)) (fun _ => rfl)
          let v49 : Memref sig .tc .vmem S4096x1024 .f32 := v48.squeeze S4096x1024 squeezes_S1x4096x1024_S4096x1024
          let v50 : Memref sig .tc .hbm S1x4096x1024 .f32 := (Memref.whole main_arg7).slice (Rect.unit (s := S32x4096x1024) (k0_off11 v45) S1x4096x1024.size (k0_off11_inb v15 v45 k0_hw5 k0_h3)) (fun _ => rfl)
          let v51 : Memref sig .tc .hbm S4096x1024 .f32 := v50.squeeze S4096x1024 squeezes_S1x4096x1024_S4096x1024
          Prog.lift (.waitDma2 v47.sem v51 v49 ((View.wordExact_bits rfl).reshape _ _) ((View.wordExact_bits rfl).reshape _ _))
          k PUnit.unit
        else k PUnit.unit) Q) := by
  rw [dif_pos hi]
  iintro ⟨HT, HF, Ho⟩ Hk
  iapply (wp_word c Q T hw) $$ HT
  iintro HT
  iapply (wp_assume Variants.none (c : Thread nD τ) none Set.univ (fun _ => expert_inb he))
  iapply (wp_arrive c Q W v1 hv e he) $$ [HF Ho]
  · isplitl [HF]; · iexact HF
    iexact Ho
  iintro ⟨HF, Ho⟩
  iapply Hk
  isplitl [HT]; · iexact HT
  isplitl [HF]; · iexact HF
  iexact Ho

end Cert.Kernel6Ideal.Hand
-- ==== Proof.UpTail.lean ====
module
public import proofs.«01_k».proof.Proof.UpDma

/-!
The part of `expert_up`'s body that computes, as a program of its own.
-/

@[expose] public noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]
local notation "𝕄" => MT nD τ sig Unit (Elt F) ℕ (Pipeline.UD sig nD τ) ℕ

set_option maxHeartbeats 4000000 in
/-- What a grid point does once its expert's weights are in slot `v1`: by its number of tokens `v20`, the product
over its first 128 or 256 rows and zeros below them (the larger blocks are the caller's). -/
def tail (i : grid0.Coords) (arg1 : Memref sig .tc .smem S96 .i32) (harg1 : arg1.IsWhole) (arg2 : Memref sig .tc .smem S96 .i32) (harg2 : arg2.IsWhole) (arg3 : Memref sig .tc .smem S96 .i32) (harg3 : arg3.IsWhole) (arg4 : Memref sig .tc .smem S96 .i32) (harg4 : arg4.IsWhole) (arg5 : Memref sig .tc .smem S1 .i32) (harg5 : arg5.IsWhole) (arg6 : Memref sig .tc .smem S96 .i32) (harg6 : arg6.IsWhole) (arg7 : Memref sig .tc .vmem S8192x128 .i32) (harg7 : arg7.IsWhole) (arg8 : Memref sig .tc .hbm S32x4096x1024 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S2x4096x1024 .f32) (harg11 : arg11.IsWhole) (arg12 : DmaSems sig S2) (v1 v20 : BitVec 32) (k0_hw6 : k0_chk6 v1 v20) :
    Prog (TpuEff nD τ sig (Elt F) Λ₀ .tc) (Σ' (v1 : Elt F .i32) (v20 : Elt F .i32) (k0_hw6 : k0_chk6 v1 v20) (v34 : BitVec 32), BitVec 32) := do
  if k0_h4 : k0_cond4 v20 = 1#1 then do
    let ⟨v45, v46, v48, v49, v51, v52, v54, v55, v57, v58, v60, v61, v63, v64, v66, v67, v69, v70, v72, v73, v75, v76, v78, v79⟩ : Σ' (v45 : FVec F S128x128 .f32) (v46 : FVec F S128x128 .f32) (v48 : FVec F S128x128 .f32) (v49 : FVec F S128x128 .f32) (v51 : FVec F S128x128 .f32) (v52 : FVec F S128x128 .f32) (v54 : FVec F S128x128 .f32) (v55 : FVec F S128x128 .f32) (v57 : FVec F S128x128 .f32) (v58 : FVec F S128x128 .f32) (v60 : FVec F S128x128 .f32) (v61 : FVec F S128x128 .f32) (v63 : FVec F S128x128 .f32) (v64 : FVec F S128x128 .f32) (v66 : FVec F S128x128 .f32) (v67 : FVec F S128x128 .f32) (v69 : FVec F S128x128 .f32) (v70 : FVec F S128x128 .f32) (v72 : FVec F S128x128 .f32) (v73 : FVec F S128x128 .f32) (v75 : FVec F S128x128 .f32) (v76 : FVec F S128x128 .f32) (v78 : FVec F S128x128 .f32), FVec F S128x128 .f32 ← k0_part1 i arg1 harg1 arg2 harg2 arg3 harg3 arg4 harg4 arg5 harg5 arg6 harg6 arg7 harg7 arg8 harg8 arg9 harg9 arg10 harg10 arg11 harg11 arg12
    let ⟨v108, v125⟩ : Σ' (v108 : FVec F S128x2048 .bf16), FVec F S128x2048 .bf16 ← k0_part2 i arg1 harg1 arg2 harg2 arg3 harg3 arg4 harg4 arg5 harg5 arg6 harg6 arg7 harg7 arg8 harg8 arg9 harg9 arg10 harg10 arg11 harg11 arg12 v1 v20 k0_hw6 k0_h4 v45 v46 v48 v49 v51 v52 v54 v55 v57 v58 v60 v61 v63 v64 v66 v67 v69 v70 v72 v73 v75 v76 v78 v79
    k0_part3 i arg1 harg1 arg2 harg2 arg3 harg3 arg4 harg4 arg5 harg5 arg6 harg6 arg7 harg7 arg8 harg8 arg9 harg9 arg10 harg10 arg11 harg11 arg12 v1 v20 k0_hw6 k0_h4 v108 v125
    let v190 : FVec F S384x1024 .bf16 ← k0_part4 i arg1 harg1 arg2 harg2 arg3 harg3 arg4 harg4 arg5 harg5 arg6 harg6 arg7 harg7 arg8 harg8 arg9 harg9 arg10 harg10 arg11 harg11 arg12 v1 v20 k0_hw6 k0_h4 v108 v125
    let v191 : Vec F S384x1024 .bf16 ← Prog.lift (.load arg10 (Rect.unit (s := S512x1024) ![128, 0] S384x1024.size inb_S512x1024_S384x1024_128_0).toLoadRect (View.loadsAt_vmem h_S384x1024))
    Prog.lift (.store arg10 (Rect.unit (s := S512x1024) ![128, 0] S384x1024.size inb_S512x1024_S384x1024_128_0) v190 Finset.univ (View.stores_vmem h_S384x1024 (harg10.storeExact_slice rfl _ packedbf16_S512x1024_S384x1024_128_0) (fun _ => rfl)) (.inl rfl))
    pure ⟨⟩
  else do
    pure ⟨⟩
  if k0_h5 : k0_cond5 v20 = 1#1 then do
    let ⟨v45, v46, v48, v49, v51, v52, v54, v55, v57, v58, v60, v61, v63, v64, v66, v67, v69, v70, v72, v73, v75, v76, v78, v79⟩ : Σ' (v45 : FVec F S256x128 .f32) (v46 : FVec F S256x128 .f32) (v48 : FVec F S256x128 .f32) (v49 : FVec F S256x128 .f32) (v51 : FVec F S256x128 .f32) (v52 : FVec F S256x128 .f32) (v54 : FVec F S256x128 .f32) (v55 : FVec F S256x128 .f32) (v57 : FVec F S256x128 .f32) (v58 : FVec F S256x128 .f32) (v60 : FVec F S256x128 .f32) (v61 : FVec F S256x128 .f32) (v63 : FVec F S256x128 .f32) (v64 : FVec F S256x128 .f32) (v66 : FVec F S256x128 .f32) (v67 : FVec F S256x128 .f32) (v69 : FVec F S256x128 .f32) (v70 : FVec F S256x128 .f32) (v72 : FVec F S256x128 .f32) (v73 : FVec F S256x128 .f32) (v75 : FVec F S256x128 .f32) (v76 : FVec F S256x128 .f32) (v78 : FVec F S256x128 .f32), FVec F S256x128 .f32 ← k0_part5 i arg1 harg1 arg2 harg2 arg3 harg3 arg4 harg4 arg5 harg5 arg6 harg6 arg7 harg7 arg8 harg8 arg9 harg9 arg10 harg10 arg11 harg11 arg12
    let ⟨v108, v125⟩ : Σ' (v108 : FVec F S256x2048 .bf16), FVec F S256x2048 .bf16 ← k0_part6 i arg1 harg1 arg2 harg2 arg3 harg3 arg4 harg4 arg5 harg5 arg6 harg6 arg7 harg7 arg8 harg8 arg9 harg9 arg10 harg10 arg11 harg11 arg12 v1 v20 k0_hw6 k0_h5 v45 v46 v48 v49 v51 v52 v54 v55 v57 v58 v60 v61 v63 v64 v66 v67 v69 v70 v72 v73 v75 v76 v78 v79
    k0_part7 i arg1 harg1 arg2 harg2 arg3 harg3 arg4 harg4 arg5 harg5 arg6 harg6 arg7 harg7 arg8 harg8 arg9 harg9 arg10 harg10 arg11 harg11 arg12 v1 v20 k0_hw6 k0_h5 v108 v125
    let v190 : FVec F S256x1024 .bf16 ← k0_part8 i arg1 harg1 arg2 harg2 arg3 harg3 arg4 harg4 arg5 harg5 arg6 harg6 arg7 harg7 arg8 harg8 arg9 harg9 arg10 harg10 arg11 harg11 arg12 v1 v20 k0_hw6 k0_h5 v108 v125
    let v191 : Vec F S256x1024 .bf16 ← Prog.lift (.load arg10 (Rect.unit (s := S512x1024) ![256, 0] S256x1024.size inb_S512x1024_S256x1024_256_0).toLoadRect (View.loadsAt_vmem h_S256x1024))
    Prog.lift (.store arg10 (Rect.unit (s := S512x1024) ![256, 0] S256x1024.size inb_S512x1024_S256x1024_256_0) v190 Finset.univ (View.stores_vmem h_S256x1024 (harg10.storeExact_slice rfl _ packedbf16_S512x1024_S256x1024_256_0) (fun _ => rfl)) (.inl rfl))
    pure ⟨⟩
  else do
    pure ⟨⟩
  let v31 : BitVec 1 := Scalar.cmpi .sgt v20 256#32
  let v32 : BitVec 1 := Scalar.cmpi .sle v20 384#32
  let v33 : BitVec 1 := Scalar.andi v31 v32
  let v34 : BitVec 32 := Scalar.extui v33
  pure ⟨v1, v20, k0_hw6, v34, 0#32⟩

set_option maxHeartbeats 4000000 in
/-- The computing part of the body: `tail`, then the products over 384 and 512 rows and the zero block. -/
def comp (i : grid0.Coords) (arg1 : Memref sig .tc .smem S96 .i32) (harg1 : arg1.IsWhole) (arg2 : Memref sig .tc .smem S96 .i32) (harg2 : arg2.IsWhole) (arg3 : Memref sig .tc .smem S96 .i32) (harg3 : arg3.IsWhole) (arg4 : Memref sig .tc .smem S96 .i32) (harg4 : arg4.IsWhole) (arg5 : Memref sig .tc .smem S1 .i32) (harg5 : arg5.IsWhole) (arg6 : Memref sig .tc .smem S96 .i32) (harg6 : arg6.IsWhole) (arg7 : Memref sig .tc .vmem S8192x128 .i32) (harg7 : arg7.IsWhole) (arg8 : Memref sig .tc .hbm S32x4096x1024 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S2x4096x1024 .f32) (harg11 : arg11.IsWhole) (arg12 : DmaSems sig S2) (v1' v20' : BitVec 32) (k0_hw6' : k0_chk6 v1' v20') :
    Prog (TpuEff nD τ sig (Elt F) Λ₀ .tc) PUnit := do
  let ⟨v1, v20, k0_hw6, v34, c0_i32_10⟩ : Σ' (v1 : Elt F .i32) (v20 : Elt F .i32) (k0_hw6 : k0_chk6 v1 v20) (v34 : BitVec 32), BitVec 32 ← tail i arg1 harg1 arg2 harg2 arg3 harg3 arg4 harg4 arg5 harg5 arg6 harg6 arg7 harg7 arg8 harg8 arg9 harg9 arg10 harg10 arg11 harg11 arg12 v1' v20' k0_hw6'
  if k0_h6 : k0_cond6 v20 = 1#1 then do
    let ⟨v45, v46, v48, v49, v51, v52, v54, v55, v57, v58, v60, v61, v63, v64, v66, v67, v69, v70, v72, v73, v75, v76, v78, v79⟩ : Σ' (v45 : FVec F S384x128 .f32) (v46 : FVec F S384x128 .f32) (v48 : FVec F S384x128 .f32) (v49 : FVec F S384x128 .f32) (v51 : FVec F S384x128 .f32) (v52 : FVec F S384x128 .f32) (v54 : FVec F S384x128 .f32) (v55 : FVec F S384x128 .f32) (v57 : FVec F S384x128 .f32) (v58 : FVec F S384x128 .f32) (v60 : FVec F S384x128 .f32) (v61 : FVec F S384x128 .f32) (v63 : FVec F S384x128 .f32) (v64 : FVec F S384x128 .f32) (v66 : FVec F S384x128 .f32) (v67 : FVec F S384x128 .f32) (v69 : FVec F S384x128 .f32) (v70 : FVec F S384x128 .f32) (v72 : FVec F S384x128 .f32) (v73 : FVec F S384x128 .f32) (v75 : FVec F S384x128 .f32) (v76 : FVec F S384x128 .f32) (v78 : FVec F S384x128 .f32), FVec F S384x128 .f32 ← k0_part9 i arg1 harg1 arg2 harg2 arg3 harg3 arg4 harg4 arg5 harg5 arg6 harg6 arg7 harg7 arg8 harg8 arg9 harg9 arg10 harg10 arg11 harg11 arg12
    let ⟨v108, v125⟩ : Σ' (v108 : FVec F S384x2048 .bf16), FVec F S384x2048 .bf16 ← k0_part10 i arg1 harg1 arg2 harg2 arg3 harg3 arg4 harg4 arg5 harg5 arg6 harg6 arg7 harg7 arg8 harg8 arg9 harg9 arg10 harg10 arg11 harg11 arg12 v1 v20 k0_hw6 k0_h6 v45 v46 v48 v49 v51 v52 v54 v55 v57 v58 v60 v61 v63 v64 v66 v67 v69 v70 v72 v73 v75 v76 v78 v79
    k0_part11 i arg1 harg1 arg2 harg2 arg3 harg3 arg4 harg4 arg5 harg5 arg6 harg6 arg7 harg7 arg8 harg8 arg9 harg9 arg10 harg10 arg11 harg11 arg12 v1 v20 k0_hw6 k0_h6 v108 v125
    let v190 : FVec F S128x1024 .bf16 ← k0_part12 i arg1 harg1 arg2 harg2 arg3 harg3 arg4 harg4 arg5 harg5 arg6 harg6 arg7 harg7 arg8 harg8 arg9 harg9 arg10 harg10 arg11 harg11 arg12 v1 v20 k0_hw6 k0_h6 v108 v125
    let v191 : Vec F S128x1024 .bf16 ← Prog.lift (.load arg10 (Rect.unit (s := S512x1024) ![384, 0] S128x1024.size inb_S512x1024_S128x1024_384_0).toLoadRect (View.loadsAt_vmem h_S128x1024))
    Prog.lift (.store arg10 (Rect.unit (s := S512x1024) ![384, 0] S128x1024.size inb_S512x1024_S128x1024_384_0) v190 Finset.univ (View.stores_vmem h_S128x1024 (harg10.storeExact_slice rfl _ packedbf16_S512x1024_S128x1024_384_0) (fun _ => rfl)) (.inl rfl))
    pure ⟨⟩
  else do
    pure ⟨⟩
  if k0_h7 : k0_cond7 v20 = 1#1 then do
    let v188 : FVec F S512x256 .bf16 ← k0_part16 i arg1 harg1 arg2 harg2 arg3 harg3 arg4 harg4 arg5 harg5 arg6 harg6 arg7 harg7 arg8 harg8 arg9 harg9 arg10 harg10 arg11 harg11 arg12 v1 v20 k0_hw6 k0_h7
    Prog.lift (.store arg10 (Rect.unit (s := S512x1024) ![0, 768] S512x256.size inb_S512x1024_S512x256_0_768) v188 Finset.univ (View.stores_vmem h_S512x256 (harg10.storeExact_slice rfl _ packedbf16_S512x1024_S512x256_0_768) (fun _ => rfl)) (.inl rfl))
    pure ⟨⟩
  else do
    pure ⟨⟩
  if k0_h8 : k0_cond8 v20 = 1#1 then do
    let v45 : Vec F S512x1024 .bf16 ← Prog.lift (.load arg10 (Rect.unit (s := S512x1024) ![0, 0] S512x1024.size inb_S512x1024_S512x1024_0_0).toLoadRect (View.loadsAt_vmem h_S512x1024))
    Prog.lift (.store arg10 (Rect.unit (s := S512x1024) ![0, 0] S512x1024.size inb_S512x1024_S512x1024_0_0) (k0_pay1 (F := F)) Finset.univ (View.stores_vmem h_S512x1024 (harg10.storeExact_slice rfl _ packedbf16_S512x1024_S512x1024_0_0) (fun _ => rfl)) (.inl rfl))
    pure ⟨⟩
  else do
    pure ⟨⟩
  pure ⟨⟩

set_option maxRecDepth 65536 in
set_option maxHeartbeats 4000000 in
/-- The first part of the body is its conditional copies and its wait, then the part that computes. -/
theorem part17_eq (i : grid0.Coords) (arg1 : Memref sig .tc .smem S96 .i32) (harg1 : arg1.IsWhole) (arg2 : Memref sig .tc .smem S96 .i32) (harg2 : arg2.IsWhole) (arg3 : Memref sig .tc .smem S96 .i32) (harg3 : arg3.IsWhole) (arg4 : Memref sig .tc .smem S96 .i32) (harg4 : arg4.IsWhole) (arg5 : Memref sig .tc .smem S1 .i32) (harg5 : arg5.IsWhole) (arg6 : Memref sig .tc .smem S96 .i32) (harg6 : arg6.IsWhole) (arg7 : Memref sig .tc .vmem S8192x128 .i32) (harg7 : arg7.IsWhole) (arg8 : Memref sig .tc .hbm S32x4096x1024 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S2x4096x1024 .f32) (harg11 : arg11.IsWhole) (arg12 : DmaSems sig S2) :
    k0_part17 (F := F) i arg1 harg1 arg2 harg2 arg3 harg3 arg4 harg4 arg5 harg5 arg6 harg6 arg7 harg7 arg8 harg8 arg9 harg9 arg10 harg10 arg11 harg11 arg12 = (do
      let v1 : Elt F .i32 ← smemLoad arg3 (Rect.unit (s := S96) (k0_off1 i) S1.size (k0_off1_inb i)) numel1_S1 rfl
      if k0_h1 : k0_cond1 i = 1#1 then do
        let v44 : Elt F .i32 ← smemLoad arg1 (Rect.unit (s := S96) ![0] S1.size inb_S96_S1_0) numel1_S1 rfl
        have k0_hw1 : k0_chk1 i v44 := (← Prog.lift (TpuEff.assume (k0_chk1 i v44) (k0_chk1.dec i v44))).down
        let v45 : DmaSems sig S1 := arg12.slice (Rect.unit (s := S2) ![0] S1.size inb_S2_S1_0)
        let v46 : DmaSems sig S_ := v45.squeeze S_ squeezes_S1_S_
        let v47 : Memref sig .tc .vmem S1x4096x1024 .f32 := arg11.slice (Rect.unit (s := S2x4096x1024) ![0, 0, 0] S1x4096x1024.size inb_S2x4096x1024_S1x4096x1024_0_0_0) (fun _ => rfl)
        let v48 : Memref sig .tc .vmem S4096x1024 .f32 := v47.squeeze S4096x1024 squeezes_S1x4096x1024_S4096x1024
        let v49 : Memref sig .tc .hbm S1x4096x1024 .f32 := arg8.slice (Rect.unit (s := S32x4096x1024) (k0_off2 v44) S1x4096x1024.size (k0_off2_inb i v44 k0_hw1 k0_h1)) (fun _ => rfl)
        let v50 : Memref sig .tc .hbm S4096x1024 .f32 := v49.squeeze S4096x1024 squeezes_S1x4096x1024_S4096x1024
        Prog.lift (.enqueueDma v50 (.here v48) (.dma v46.sem) ((View.wordExact_bits rfl).reshape _ _) ((View.wordExact_bits rfl).reshape _ _) ⟨Or.inl rfl, trivial⟩)
        pure ⟨⟩
      else do
        pure ⟨⟩
      let v6 : Elt F .i32 ← smemLoad arg2 (Rect.unit (s := S96) (k0_off1 i) S1.size (k0_off1_inb i)) numel1_S1 rfl
      let v9 : Elt F .i32 ← smemLoad arg4 (Rect.unit (s := S96) (k0_off1 i) S1.size (k0_off1_inb i)) numel1_S1 rfl
      have k0_hw2 : k0_chk2 v1 v6 v9 := (← Prog.lift (TpuEff.assume (k0_chk2 v1 v6 v9) (k0_chk2.dec v1 v6 v9))).down
      if k0_h2 : k0_cond2 v6 v9 = 1#1 then do
        let v45 : Elt F .i32 ← smemLoad arg4 (Rect.unit (s := S96) (k0_off3 i) S1.size (k0_off3_inb i)) numel1_S1 rfl
        have k0_hw3 : k0_chk3 v6 v9 v45 := (← Prog.lift (TpuEff.assume (k0_chk3 v6 v9 v45) (k0_chk3.dec v6 v9 v45))).down
        let v47 : DmaSems sig S1 := arg12.slice (Rect.unit (s := S2) (k0_off4 v1) S1.size (k0_off4_inb v1 v6 v9 k0_hw2 k0_h2))
        let v48 : DmaSems sig S_ := v47.squeeze S_ squeezes_S1_S_
        let v49 : Memref sig .tc .vmem S1x4096x1024 .f32 := arg11.slice (Rect.unit (s := S2x4096x1024) (k0_off5 v1) S1x4096x1024.size (k0_off5_inb v1 v6 v9 k0_hw2 k0_h2)) (fun _ => rfl)
        let v50 : Memref sig .tc .vmem S4096x1024 .f32 := v49.squeeze S4096x1024 squeezes_S1x4096x1024_S4096x1024
        let v51 : Memref sig .tc .hbm S1x4096x1024 .f32 := arg8.slice (Rect.unit (s := S32x4096x1024) (k0_off6 v45) S1x4096x1024.size (k0_off6_inb v6 v9 v45 k0_hw3 k0_h2)) (fun _ => rfl)
        let v52 : Memref sig .tc .hbm S4096x1024 .f32 := v51.squeeze S4096x1024 squeezes_S1x4096x1024_S4096x1024
        Prog.lift (.enqueueDma v52 (.here v50) (.dma v48.sem) ((View.wordExact_bits rfl).reshape _ _) ((View.wordExact_bits rfl).reshape _ _) ⟨Or.inl rfl, trivial⟩)
        pure ⟨⟩
      else do
        pure ⟨⟩
      let v15 : Elt F .i32 ← smemLoad arg2 (Rect.unit (s := S96) (k0_off7 i) S1.size (k0_off7_inb i)) numel1_S1 rfl
      have k0_hw4 : k0_chk4 v1 v15 := (← Prog.lift (TpuEff.assume (k0_chk4 v1 v15) (k0_chk4.dec v1 v15))).down
      if k0_h3 : k0_cond3 v15 = 1#1 then do
        let v45 : Elt F .i32 ← smemLoad arg1 (Rect.unit (s := S96) (k0_off8 i) S1.size (k0_off8_inb i)) numel1_S1 rfl
        have k0_hw5 : k0_chk5 v15 v45 := (← Prog.lift (TpuEff.assume (k0_chk5 v15 v45) (k0_chk5.dec v15 v45))).down
        let v46 : DmaSems sig S1 := arg12.slice (Rect.unit (s := S2) (k0_off9 v1) S1.size (k0_off9_inb v1 v15 k0_hw4 k0_h3))
        let v47 : DmaSems sig S_ := v46.squeeze S_ squeezes_S1_S_
        let v48 : Memref sig .tc .vmem S1x4096x1024 .f32 := arg11.slice (Rect.unit (s := S2x4096x1024) (k0_off10 v1) S1x4096x1024.size (k0_off10_inb v1 v15 k0_hw4 k0_h3)) (fun _ => rfl)
        let v49 : Memref sig .tc .vmem S4096x1024 .f32 := v48.squeeze S4096x1024 squeezes_S1x4096x1024_S4096x1024
        let v50 : Memref sig .tc .hbm S1x4096x1024 .f32 := arg8.slice (Rect.unit (s := S32x4096x1024) (k0_off11 v45) S1x4096x1024.size (k0_off11_inb v15 v45 k0_hw5 k0_h3)) (fun _ => rfl)
        let v51 : Memref sig .tc .hbm S4096x1024 .f32 := v50.squeeze S4096x1024 squeezes_S1x4096x1024_S4096x1024
        Prog.lift (.waitDma2 v47.sem v51 v49 ((View.wordExact_bits rfl).reshape _ _) ((View.wordExact_bits rfl).reshape _ _))
        pure ⟨⟩
      else do
        pure ⟨⟩
      let v20 : Elt F .i32 ← smemLoad arg6 (Rect.unit (s := S96) (k0_off12 i) S1.size (k0_off12_inb i)) numel1_S1 rfl
      have k0_hw6 : k0_chk6 v1 v20 := (← Prog.lift (TpuEff.assume (k0_chk6 v1 v20) (k0_chk6.dec v1 v20))).down
      tail i arg1 harg1 arg2 harg2 arg3 harg3 arg4 harg4 arg5 harg5 arg6 harg6 arg7 harg7 arg8 harg8 arg9 harg9 arg10 harg10 arg11 harg11 arg12 v1 v20 k0_hw6) := rfl

end Cert.Kernel6Ideal.Hand
-- ==== Proof.UpHead.lean ====
module
public import proofs.«01_k».proof.Proof.UpTail

/-!
One grid point of `expert_up` up to its computation: from the slots' state the previous point left, through the
copies and the wait, to slot `s` holding this point's expert and the other slot free or filling.
-/

@[expose] public noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]
local notation "𝕄" => MT nD τ sig Unit (Elt F) ℕ (Pipeline.UD sig nD τ) ℕ

/-! ## The conditions the body computes, as facts of the words -/

/-- The first-point condition. -/
theorem cond1_iff (i : grid0.Coords) : k0_cond1 i = 1#1 ↔ (i 0).val = 0 := by
  have key : ∀ n : Fin 96, Scalar.cmpi .ne (Scalar.extui (Scalar.cmpi .eq (BitVec.ofNat 32 n.val) 0#32) : BitVec 32) 0#32 = 1#1 ↔ n.val = 0 := by decide
  exact key ⟨(i 0).val, (i 0).isLt⟩
/-- The condition of the following expert's copy. -/
theorem cond2_iff (fi x : BitVec 32) (hf : fi = 0#32 ∨ fi = 1#32) (hx : x = 4294967295#32 ∨ x.toNat < 32) :
    k0_cond2 fi x = 1#1 ↔ fi = 1#32 ∧ x.toNat < 32 := by
  have key : ∀ y : Fin 32, (k0_cond2 0#32 (BitVec.ofNat 32 y.val) = 0#1) ∧ (k0_cond2 1#32 (BitVec.ofNat 32 y.val) = 1#1) := by decide
  rcases hx with rfl | hx
  · rcases hf with rfl | rfl <;> decide
  · have e : x = BitVec.ofNat 32 (⟨x.toNat, hx⟩ : Fin 32).val := by simp
    have k := key ⟨x.toNat, hx⟩
    rw [← e] at k
    rcases hf with rfl | rfl
    · rw [k.1]; simp
    · rw [k.2]; simp [hx]
/-- The condition of the wait. -/
theorem cond3_iff (fi : BitVec 32) (hf : fi = 0#32 ∨ fi = 1#32) : k0_cond3 fi = 1#1 ↔ fi = 1#32 := by
  rcases hf with rfl | rfl <;> decide

/-! ## The slots' states around a grid point -/

/-- The other slot: filling with the following expert `x`, if there is one, and free if not. -/
def Nxt (c : Dev nD) (W : WBuf F c) (v : BitVec 32) (hv : v.toNat < 2) (x : BitVec 32) : sProp 𝕄 :=
  if h : x.toNat < 32 then Fly c W v hv x h else Free c W v hv

/-- The slots before the body's second step: on a first block its expert's copy is on its way and the other slot is free. -/
def SA (c : Dev nD) (W : WBuf F c) (s : BitVec 32) (hs : s.toNat < 2) (hs' : (Scalar.subi 1#32 s).toNat < 2) (e : BitVec 32) (he : e.toNat < 32)
    (x fi : BitVec 32) : sProp 𝕄 :=
  if fi = 1#32 then iprop(Fly c W s hs e he ∗ Free c W (Scalar.subi 1#32 s) hs') else iprop(Cur c W s hs e he ∗ Nxt c W (Scalar.subi 1#32 s) hs' x)

/-- The slots before a grid point: both free at the first. -/
def S0 (c : Dev nD) (W : WBuf F c) (i : grid0.Coords) (s : BitVec 32) (hs : s.toNat < 2) (hs' : (Scalar.subi 1#32 s).toNat < 2) (e : BitVec 32)
    (he : e.toNat < 32) (x fi : BitVec 32) : sProp 𝕄 :=
  if (i 0).val = 0 then iprop(Free c W 0#32 (by decide) ∗ Free c W 1#32 (by decide)) else SA c W s hs hs' e he x fi

theorem Free_congr (c : Dev nD) (W : WBuf F c) {v v' : BitVec 32} (h : v = v') (hv : v.toNat < 2) (hv' : v'.toNat < 2) :
    Free c W v hv = Free c W v' hv' := by subst h; rfl
theorem Fly_congr (c : Dev nD) (W : WBuf F c) {v v' e e' : BitVec 32} (h : v = v') (h' : e = e') (hv : v.toNat < 2) (hv' : v'.toNat < 2)
    (he : e.toNat < 32) (he' : e'.toNat < 32) : Fly c W v hv e he = Fly c W v' hv' e' he' := by subst h h'; rfl
theorem Cur_congr (c : Dev nD) (W : WBuf F c) {v v' e e' : BitVec 32} (h : v = v') (h' : e = e') (hv : v.toNat < 2) (hv' : v'.toNat < 2)
    (he : e.toNat < 32) (he' : e'.toNat < 32) : Cur c W v hv e he = Cur c W v' hv' e' he' := by subst h h'; rfl
theorem Nxt_congr (c : Dev nD) (W : WBuf F c) {v v' x x' : BitVec 32} (h : v = v') (h' : x = x') (hv : v.toNat < 2) (hv' : v'.toNat < 2) :
    Nxt c W v hv x = Nxt c W v' hv' x' := by subst h h'; rfl

/-- Word `n` of a table, read as the body reads it, at any offsets naming it. -/
abbrev rd (c : Dev nD) (M : Memref sig .tc .smem S96 .i32) (T : Buf (Elt F) (M.view.loc (c : Thread nD τ))) (off : Fin 1 → ℕ) (h : ∀ a, off a + S1.size a ≤ S96.size a) : BitVec 32 :=
  (M.access (Rect.unit (s := S96) off S1.size h)).read (Elt F) T (Shape.Idx.first (numel1_S1.symm ▸ Nat.one_pos))

/-- The first conditional copy, both ways. -/
theorem wp_if1' {α : Type} (c : Dev nD) (Q : α → sProp 𝕄) (W : WBuf F c) (i : grid0.Coords) (T0 : Buf (Elt F) ((Memref.whole main_arg0).view.loc (c : Thread nD τ)))
    (e fi s x : BitVec 32) (he : e.toNat < 32) (hfi : fi = 0#32 ∨ fi = 1#32) (hs : s.toNat < 2) (hs' : (Scalar.subi 1#32 s).toNat < 2) (h00 : (i 0).val = 0 → s = 0#32 ∧ fi = 1#32)
    (r0 : (i 0).val = 0 → rd c (Memref.whole main_arg0) T0 ![0] inb_S96_S1_0 = e)
    (k : PUnit → Prog (TpuEff nD τ sig (Elt F) Λ₀ .tc) α) :
    iprop(tbPt c (Memref.whole main_arg0) T0 ∗ S0 c W i s hs hs' e he x fi) ⊢
      iprop((iprop(tbPt c (Memref.whole main_arg0) T0 ∗ SA c W s hs hs' e he x fi) -∗ wp frame (wpE (defs₀ (F := F)) Variants.none (c : Thread nD τ) none) Set.univ (k ⟨⟩) Q)
      -∗ wp frame (wpE (defs₀ (F := F)) Variants.none (c : Thread nD τ) none) Set.univ
        (if k0_h1 : k0_cond1 i = 1#1 then do
          let v44 : Elt F .i32 ← smemLoad (Memref.whole main_arg0) (Rect.unit (s := S96) ![0] S1.size inb_S96_S1_0) numel1_S1 rfl
          have k0_hw1 : k0_chk1 i v44 := (← Prog.lift (TpuEff.assume (k0_chk1 i v44) (k0_chk1.dec i v44))).down
          let v45 : DmaSems sig S1 := cc0_scratch1.slice (Rect.unit (s := S2) ![0] S1.size inb_S2_S1_0)
          let v46 : DmaSems sig S_ := v45.squeeze S_ squeezes_S1_S_
          let v47 : Memref sig .tc .vmem S1x4096x1024 .f32 := (Memref.whole cc0_scratch0).slice (Rect.unit (s := S2x4096x1024) ![0, 0, 0] S1x4096x1024.size inb_S2x4096x1024_S1x4096x1024_0_0_0) (fun _ => rfl)
          let v48 : Memref sig .tc .vmem S4096x1024 .f32 := v47.squeeze S4096x1024 squeezes_S1x4096x1024_S4096x1024
          let v49 : Memref sig .tc .hbm S1x4096x1024 .f32 := (Memref.whole main_arg7).slice (Rect.unit (s := S32x4096x1024) (k0_off2 v44) S1x4096x1024.size (k0_off2_inb i v44 k0_hw1 k0_h1)) (fun _ => rfl)
          let v50 : Memref sig .tc .hbm S4096x1024 .f32 := v49.squeeze S4096x1024 squeezes_S1x4096x1024_S4096x1024
          Prog.lift (.enqueueDma v50 (.here v48) (.dma v46.sem) ((View.wordExact_bits rfl).reshape _ _) ((View.wordExact_bits rfl).reshape _ _) ⟨Or.inl rfl, trivial⟩)
          k PUnit.unit
        else k PUnit.unit) Q) := by
  unfold S0
  by_cases h : (i 0).val = 0
  · rw [if_pos h]
    obtain ⟨rfl, rfl⟩ := h00 h
    iintro ⟨H0, HF, HG⟩ Hk
    iapply (wp_if1 c Q W i ((cond1_iff i).2 h) T0 e he (r0 h) k) $$ [H0 HF]
    · isplitl [H0]; · iexact H0
      iexact HF
    iintro ⟨H0, HF⟩
    iapply Hk
    isplitl [H0]; · iexact H0
    unfold SA
    rw [if_pos rfl]
    isplitl [HF]; · iexact HF
    iexact HG
  · rw [if_neg h, dif_neg (fun h' => h ((cond1_iff i).1 h'))]
    iintro H Hk
    iapply Hk
    iexact H

/-- The slots before the wait. -/
def SB (c : Dev nD) (W : WBuf F c) (s : BitVec 32) (hs : s.toNat < 2) (hs' : (Scalar.subi 1#32 s).toNat < 2) (e : BitVec 32) (he : e.toNat < 32)
    (x fi : BitVec 32) : sProp 𝕄 :=
  if fi = 1#32 then iprop(Fly c W s hs e he ∗ Nxt c W (Scalar.subi 1#32 s) hs' x) else iprop(Cur c W s hs e he ∗ Nxt c W (Scalar.subi 1#32 s) hs' x)

/-- The following expert's copy, both ways. -/
theorem wp_if2' {α : Type} (c : Dev nD) (Q : α → sProp 𝕄) (W : WBuf F c) (i : grid0.Coords) (T3 : Buf (Elt F) ((Memref.whole main_arg3).view.loc (c : Thread nD τ)))
    (e fi s x : BitVec 32) (he : e.toNat < 32) (hfi : fi = 0#32 ∨ fi = 1#32) (hs : s.toNat < 2) (hs' : (Scalar.subi 1#32 s).toNat < 2) (hx : x = 4294967295#32 ∨ x.toNat < 32)
    (r3 : rd c (Memref.whole main_arg3) T3 (k0_off3 i) (k0_off3_inb i) = x) {k0_hw2 : k0_chk2 s fi x}
    (k : PUnit → Prog (TpuEff nD τ sig (Elt F) Λ₀ .tc) α) :
    iprop(tbPt c (Memref.whole main_arg3) T3 ∗ SA c W s hs hs' e he x fi) ⊢
      iprop((iprop(tbPt c (Memref.whole main_arg3) T3 ∗ SB c W s hs hs' e he x fi) -∗ wp frame (wpE (defs₀ (F := F)) Variants.none (c : Thread nD τ) none) Set.univ (k ⟨⟩) Q)
      -∗ wp frame (wpE (defs₀ (F := F)) Variants.none (c : Thread nD τ) none) Set.univ
        (if k0_h2 : k0_cond2 fi x = 1#1 then do
          let v45 : Elt F .i32 ← smemLoad (Memref.whole main_arg3) (Rect.unit (s := S96) (k0_off3 i) S1.size (k0_off3_inb i)) numel1_S1 rfl
          have k0_hw3 : k0_chk3 fi x v45 := (← Prog.lift (TpuEff.assume (k0_chk3 fi x v45) (k0_chk3.dec fi x v45))).down
          let v47 : DmaSems sig S1 := cc0_scratch1.slice (Rect.unit (s := S2) (k0_off4 s) S1.size (k0_off4_inb s fi x k0_hw2 k0_h2))
          let v48 : DmaSems sig S_ := v47.squeeze S_ squeezes_S1_S_
          let v49 : Memref sig .tc .vmem S1x4096x1024 .f32 := (Memref.whole cc0_scratch0).slice (Rect.unit (s := S2x4096x1024) (k0_off5 s) S1x4096x1024.size (k0_off5_inb s fi x k0_hw2 k0_h2)) (fun _ => rfl)
          let v50 : Memref sig .tc .vmem S4096x1024 .f32 := v49.squeeze S4096x1024 squeezes_S1x4096x1024_S4096x1024
          let v51 : Memref sig .tc .hbm S1x4096x1024 .f32 := (Memref.whole main_arg7).slice (Rect.unit (s := S32x4096x1024) (k0_off6 v45) S1x4096x1024.size (k0_off6_inb fi x v45 k0_hw3 k0_h2)) (fun _ => rfl)
          let v52 : Memref sig .tc .hbm S4096x1024 .f32 := v51.squeeze S4096x1024 squeezes_S1x4096x1024_S4096x1024
          Prog.lift (.enqueueDma v52 (.here v50) (.dma v48.sem) ((View.wordExact_bits rfl).reshape _ _) ((View.wordExact_bits rfl).reshape _ _) ⟨Or.inl rfl, trivial⟩)
          k PUnit.unit
        else k PUnit.unit) Q) := by
  unfold SA SB
  by_cases h : k0_cond2 fi x = 1#1
  · obtain ⟨rfl, hx'⟩ := (cond2_iff fi x hfi hx).1 h
    rw [if_pos rfl, if_pos rfl]
    iintro ⟨H0, HF, HG⟩ Hk
    iapply (wp_if2 c Q W i s 1#32 x h k0_hw2 hs' T3 x hx' r3 k) $$ [H0 HG]
    · isplitl [H0]; · iexact H0
      iexact HG
    iintro ⟨H0, HG⟩
    iapply Hk
    isplitl [H0]; · iexact H0
    isplitl [HF]; · iexact HF
    unfold Nxt
    rw [dif_pos hx']
    iexact HG
  · rw [dif_neg h]
    by_cases hf : fi = 1#32
    · have hx' : ¬ x.toNat < 32 := fun h' => h ((cond2_iff fi x hfi hx).2 ⟨hf, h'⟩)
      unfold Nxt
      rw [if_pos hf, if_pos hf, dif_neg hx']
      iintro H Hk
      iapply Hk
      iexact H
    · rw [if_neg hf, if_neg hf]
      iintro H Hk
      iapply Hk
      iexact H

/-- The wait, both ways. -/
theorem wp_if3' {α : Type} (c : Dev nD) (Q : α → sProp 𝕄) (W : WBuf F c) (i : grid0.Coords) (T0 : Buf (Elt F) ((Memref.whole main_arg0).view.loc (c : Thread nD τ)))
    (e fi s x : BitVec 32) (he : e.toNat < 32) (hfi : fi = 0#32 ∨ fi = 1#32) (hs : s.toNat < 2) (hs' : (Scalar.subi 1#32 s).toNat < 2) (r0 : rd c (Memref.whole main_arg0) T0 (k0_off8 i) (k0_off8_inb i) = e) (O : Waits sig Unit) {k0_hw4 : k0_chk4 s fi}
    (k : PUnit → Prog (TpuEff nD τ sig (Elt F) Λ₀ .tc) α) :
    iprop(tbPt c (Memref.whole main_arg0) T0 ∗ SB c W s hs hs' e he x fi ∗ owes (c : Thread nD τ) 0 O) ⊢
      iprop((iprop(tbPt c (Memref.whole main_arg0) T0 ∗ Cur c W s hs e he ∗ Nxt c W (Scalar.subi 1#32 s) hs' x ∗ (∃ O', owes (c : Thread nD τ) 0 O')) -∗ wp frame (wpE (defs₀ (F := F)) Variants.none (c : Thread nD τ) none) Set.univ (k ⟨⟩) Q)
      -∗ wp frame (wpE (defs₀ (F := F)) Variants.none (c : Thread nD τ) none) Set.univ
        (if k0_h3 : k0_cond3 fi = 1#1 then do
          let v45 : Elt F .i32 ← smemLoad (Memref.whole main_arg0) (Rect.unit (s := S96) (k0_off8 i) S1.size (k0_off8_inb i)) numel1_S1 rfl
          have k0_hw5 : k0_chk5 fi v45 := (← Prog.lift (TpuEff.assume (k0_chk5 fi v45) (k0_chk5.dec fi v45))).down
          let v46 : DmaSems sig S1 := cc0_scratch1.slice (Rect.unit (s := S2) (k0_off9 s) S1.size (k0_off9_inb s fi k0_hw4 k0_h3))
          let v47 : DmaSems sig S_ := v46.squeeze S_ squeezes_S1_S_
          let v48 : Memref sig .tc .vmem S1x4096x1024 .f32 := (Memref.whole cc0_scratch0).slice (Rect.unit (s := S2x4096x1024) (k0_off10 s) S1x4096x1024.size (k0_off10_inb s fi k0_hw4 k0_h3)) (fun _ => rfl)
          let v49 : Memref sig .tc .vmem S4096x1024 .f32 := v48.squeeze S4096x1024 squeezes_S1x4096x1024_S4096x1024
          let v50 : Memref sig .tc .hbm S1x4096x1024 .f32 := (Memref.whole main_arg7).slice (Rect.unit (s := S32x4096x1024) (k0_off11 v45) S1x4096x1024.size (k0_off11_inb fi v45 k0_hw5 k0_h3)) (fun _ => rfl)
          let v51 : Memref sig .tc .hbm S4096x1024 .f32 := v50.squeeze S4096x1024 squeezes_S1x4096x1024_S4096x1024
          Prog.lift (.waitDma2 v47.sem v51 v49 ((View.wordExact_bits rfl).reshape _ _) ((View.wordExact_bits rfl).reshape _ _))
          k PUnit.unit
        else k PUnit.unit) Q) := by
  unfold SB
  by_cases hf : fi = 1#32
  · rw [if_pos hf]
    iintro ⟨H0, ⟨HF, HG⟩, Ho⟩ Hk
    iapply (wp_if3 c Q W i s fi ((cond3_iff fi hfi).2 hf) k0_hw4 hs T0 e he O r0 k) $$ [H0 HF Ho]
    · isplitl [H0]; · iexact H0
      isplitl [HF]; · iexact HF
      iexact Ho
    iintro ⟨H0, HF, Ho⟩
    iapply Hk
    isplitl [H0]; · iexact H0
    isplitl [HF]; · iexact HF
    isplitl [HG]; · iexact HG
    iexists _
    iexact Ho
  · rw [if_neg hf, dif_neg (fun h => hf ((cond3_iff fi hfi).1 h))]
    iintro ⟨H0, ⟨HF, HG⟩, Ho⟩ Hk
    iapply Hk
    isplitl [H0]; · iexact H0
    isplitl [HF]; · iexact HF
    isplitl [HG]; · iexact HG
    iexists _
    iexact Ho

/-- The body, from the slots' state before the point to its computation. -/
theorem wp_body (c : Dev nD) (Q : PUnit → sProp 𝕄) (W : WBuf F c) (i : grid0.Coords)
    (T0 : Buf (Elt F) ((Memref.whole main_arg0).view.loc (c : Thread nD τ))) (T1 : Buf (Elt F) ((Memref.whole main_arg1).view.loc (c : Thread nD τ)))
    (T2 : Buf (Elt F) ((Memref.whole main_arg2).view.loc (c : Thread nD τ))) (T3 : Buf (Elt F) ((Memref.whole main_arg3).view.loc (c : Thread nD τ)))
    (T5 : Buf (Elt F) ((Memref.whole main_arg5).view.loc (c : Thread nD τ)))
    (e fi s x n : BitVec 32) (he : e.toNat < 32) (hfi : fi = 0#32 ∨ fi = 1#32) (hs : s.toNat < 2) (hs' : (Scalar.subi 1#32 s).toNat < 2) (hx : x = 4294967295#32 ∨ x.toNat < 32)
    (h00 : (i 0).val = 0 → s = 0#32 ∧ fi = 1#32)
    (r0 : (i 0).val = 0 → rd c (Memref.whole main_arg0) T0 ![0] inb_S96_S1_0 = e) (r0' : rd c (Memref.whole main_arg0) T0 (k0_off8 i) (k0_off8_inb i) = e)
    (r1 : rd c (Memref.whole main_arg1) T1 (k0_off1 i) (k0_off1_inb i) = fi) (r1' : rd c (Memref.whole main_arg1) T1 (k0_off7 i) (k0_off7_inb i) = fi)
    (r2 : rd c (Memref.whole main_arg2) T2 (k0_off1 i) (k0_off1_inb i) = s)
    (r3 : rd c (Memref.whole main_arg3) T3 (k0_off1 i) (k0_off1_inb i) = x) (r3' : rd c (Memref.whole main_arg3) T3 (k0_off3 i) (k0_off3_inb i) = x)
    (r5 : rd c (Memref.whole main_arg5) T5 (k0_off12 i) (k0_off12_inb i) = n) (hw6 : k0_chk6 s n)
    (arg7 : Memref sig .tc .vmem S8192x128 .i32) (harg7 : arg7.IsWhole) (arg9 : Memref sig .tc .vmem S512x1024 .bf16) (harg9 : arg9.IsWhole) (arg10 : Memref sig .tc .vmem S512x1024 .bf16) (harg10 : arg10.IsWhole)
    (O : Waits sig Unit) :
    iprop(tbPt c (Memref.whole main_arg0) T0 ∗ tbPt c (Memref.whole main_arg1) T1 ∗ tbPt c (Memref.whole main_arg2) T2 ∗ tbPt c (Memref.whole main_arg3) T3
        ∗ tbPt c (Memref.whole main_arg5) T5 ∗ S0 c W i s hs hs' e he x fi ∗ owes (c : Thread nD τ) 0 O) ⊢
      iprop((iprop(tbPt c (Memref.whole main_arg0) T0 ∗ tbPt c (Memref.whole main_arg1) T1 ∗ tbPt c (Memref.whole main_arg2) T2 ∗ tbPt c (Memref.whole main_arg3) T3
        ∗ tbPt c (Memref.whole main_arg5) T5 ∗ Cur c W s hs e he ∗ Nxt c W (Scalar.subi 1#32 s) hs' x ∗ (∃ O', owes (c : Thread nD τ) 0 O'))
        -∗ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 arg10 harg10 (Memref.whole cc0_scratch0) (Memref.isWhole_whole _) cc0_scratch1 s n hw6) Q)
      -∗ wp frame (wpE (defs₀ (F := F)) Variants.none (c : Thread nD τ) none) Set.univ
          (cc0_expert_up i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 arg10 harg10 (Memref.whole cc0_scratch0) (Memref.isWhole_whole _) cc0_scratch1) Q) := by
  unfold comp
  rw [cc0_expert_up_eq_skeleton]
  unfold cc0_expert_up_skel
  rw [wp_bind, wp_bind, part17_eq]
  generalize hK : (fun a => wp (M := 𝕄) frame (wpE (defs₀ (F := F)) Variants.none (c : Thread nD τ) none) Set.univ _ Q) = K
  clear hK
  iintro ⟨H0, H1, H2, H3, H5, HS, Ho⟩ Hk
  iapply (wp_word c K T2 r2) $$ H2
  iintro H2
  try dsimp (config := { beta := false, proj := false, eta := false, iota := false, zeta := true }) only
  generalize hk1 : (fun _ : PUnit => (_ : Prog (TpuEff nD τ sig (Elt F) Λ₀ .tc) _)) = k1
  iapply (wp_if1' c K W i T0 e fi s x he hfi hs hs' h00 r0 k1) $$ [H0 HS]
  · isplitl [H0]; · iexact H0
    iexact HS
  iintro ⟨H0, HS⟩
  subst hk1
  iapply (wp_word c K T1 r1) $$ H1
  iintro H1
  iapply (wp_word c K T3 r3) $$ H3
  iintro H3
  iapply (wp_assume Variants.none (c : Thread nD τ) none Set.univ (⟨fun _ => sem_inb hs', fun _ => slot_inb hs'⟩ : k0_chk2 s fi x))
  try dsimp (config := { beta := false, proj := false, eta := false, iota := false, zeta := true }) only
  generalize hk2 : (fun _ : PUnit => (_ : Prog (TpuEff nD τ sig (Elt F) Λ₀ .tc) _)) = k2
  iapply (wp_if2' (k0_hw2 := ⟨fun _ => sem_inb hs', fun _ => slot_inb hs'⟩) c K W i T3 e fi s x he hfi hs hs' hx r3' k2) $$ [H3 HS]
  · isplitl [H3]; · iexact H3
    iexact HS
  iintro ⟨H3, HS⟩
  subst hk2
  iapply (wp_word c K T1 r1') $$ H1
  iintro H1
  iapply (wp_assume Variants.none (c : Thread nD τ) none Set.univ (⟨fun _ => sem_inb hs, fun _ => slot_inb hs⟩ : k0_chk4 s fi))
  try dsimp (config := { beta := false, proj := false, eta := false, iota := false, zeta := true }) only
  generalize hk3 : (fun _ : PUnit => (_ : Prog (TpuEff nD τ sig (Elt F) Λ₀ .tc) _)) = k3
  iapply (wp_if3' (k0_hw4 := ⟨fun _ => sem_inb hs, fun _ => slot_inb hs⟩) c K W i T0 e fi s x he hfi hs hs' r0' O k3) $$ [H0 HS Ho]
  · isplitl [H0]; · iexact H0
    isplitl [HS]; · iexact HS
    iexact Ho
  iintro ⟨H0, HC, HN, Ho⟩
  subst hk3
  iapply (wp_word c K T5 r5) $$ H5
  iintro H5
  iapply (wp_assume Variants.none (c : Thread nD τ) none Set.univ hw6)
  iapply Hk
  isplitl [H0]; · iexact H0
  isplitl [H1]; · iexact H1
  isplitl [H2]; · iexact H2
  isplitl [H3]; · iexact H3
  isplitl [H5]; · iexact H5
  isplitl [HC]; · iexact HC
  isplitl [HN]; · iexact HN
  iexact Ho

end Cert.Kernel6Ideal.Hand
-- ==== Proof.UpRun.lean ====
module
public import proofs.«01_k».proof.Proof.UpTail

/-!
The part of `expert_up` that computes, run branch by branch: for every number of rows the body distinguishes, what
it leaves in the output block as a function of the token block `X`, of the gate's block `G` and of the weights `D` in
the slot it reads.
-/

@[expose] public noncomputable section
set_option maxRecDepth 16384

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]
local notation "𝕄" => MT nD τ sig Unit (Elt F) ℕ (Pipeline.UD sig nD τ) ℕ

/-- The words of the token block that one strided load takes. -/
abbrev ldl (X : Vec F S8192x128 .i32) (r : LoadRect S8192x128) : r.shape.Idx → Elt F .i32 := fun q => X (r.idx q)

/-- The low halves of the words of the first 128 rows' tokens, side by side. -/
def lo128 (X : Vec F S8192x128 .i32) : FVec F S128x2048 .bf16 :=
  k0_pay26 (k0_pay2 (ldl X (⟨![0, 0], S128x128.size, ![16, 1], inb_S8192x128_S128x128_0_0_s_16_1⟩ : LoadRect S8192x128))) (k0_pay4 (ldl X (⟨![1, 0], S128x128.size, ![16, 1], inb_S8192x128_S128x128_1_0_s_16_1⟩ : LoadRect S8192x128))) (k0_pay6 (ldl X (⟨![2, 0], S128x128.size, ![16, 1], inb_S8192x128_S128x128_2_0_s_16_1⟩ : LoadRect S8192x128))) (k0_pay8 (ldl X (⟨![3, 0], S128x128.size, ![16, 1], inb_S8192x128_S128x128_3_0_s_16_1⟩ : LoadRect S8192x128))) (k0_pay10 (ldl X (⟨![4, 0], S128x128.size, ![16, 1], inb_S8192x128_S128x128_4_0_s_16_1⟩ : LoadRect S8192x128))) (k0_pay12 (ldl X (⟨![5, 0], S128x128.size, ![16, 1], inb_S8192x128_S128x128_5_0_s_16_1⟩ : LoadRect S8192x128))) (k0_pay14 (ldl X (⟨![6, 0], S128x128.size, ![16, 1], inb_S8192x128_S128x128_6_0_s_16_1⟩ : LoadRect S8192x128))) (k0_pay16 (ldl X (⟨![7, 0], S128x128.size, ![16, 1], inb_S8192x128_S128x128_7_0_s_16_1⟩ : LoadRect S8192x128))) (k0_pay18 (ldl X (⟨![8, 0], S128x128.size, ![16, 1], inb_S8192x128_S128x128_8_0_s_16_1⟩ : LoadRect S8192x128))) (k0_pay20 (ldl X (⟨![9, 0], S128x128.size, ![16, 1], inb_S8192x128_S128x128_9_0_s_16_1⟩ : LoadRect S8192x128))) (k0_pay22 (ldl X (⟨![10, 0], S128x128.size, ![16, 1], inb_S8192x128_S128x128_10_0_s_16_1⟩ : LoadRect S8192x128))) (k0_pay24 (ldl X (⟨![11, 0], S128x128.size, ![16, 1], inb_S8192x128_S128x128_11_0_s_16_1⟩ : LoadRect S8192x128))) (ldl X (⟨![12, 0], S128x128.size, ![16, 1], inb_S8192x128_S128x128_12_0_s_16_1⟩ : LoadRect S8192x128)) (ldl X (⟨![13, 0], S128x128.size, ![16, 1], inb_S8192x128_S128x128_13_0_s_16_1⟩ : LoadRect S8192x128)) (ldl X (⟨![14, 0], S128x128.size, ![16, 1], inb_S8192x128_S128x128_14_0_s_16_1⟩ : LoadRect S8192x128)) (ldl X (⟨![15, 0], S128x128.size, ![16, 1], inb_S8192x128_S128x128_15_0_s_16_1⟩ : LoadRect S8192x128))

/-- The high halves of the words of the first 128 rows' tokens, side by side. -/
def hi128 (X : Vec F S8192x128 .i32) : FVec F S128x2048 .bf16 :=
  k0_pay27 (k0_pay3 (ldl X (⟨![0, 0], S128x128.size, ![16, 1], inb_S8192x128_S128x128_0_0_s_16_1⟩ : LoadRect S8192x128))) (k0_pay5 (ldl X (⟨![1, 0], S128x128.size, ![16, 1], inb_S8192x128_S128x128_1_0_s_16_1⟩ : LoadRect S8192x128))) (k0_pay7 (ldl X (⟨![2, 0], S128x128.size, ![16, 1], inb_S8192x128_S128x128_2_0_s_16_1⟩ : LoadRect S8192x128))) (k0_pay9 (ldl X (⟨![3, 0], S128x128.size, ![16, 1], inb_S8192x128_S128x128_3_0_s_16_1⟩ : LoadRect S8192x128))) (k0_pay11 (ldl X (⟨![4, 0], S128x128.size, ![16, 1], inb_S8192x128_S128x128_4_0_s_16_1⟩ : LoadRect S8192x128))) (k0_pay13 (ldl X (⟨![5, 0], S128x128.size, ![16, 1], inb_S8192x128_S128x128_5_0_s_16_1⟩ : LoadRect S8192x128))) (k0_pay15 (ldl X (⟨![6, 0], S128x128.size, ![16, 1], inb_S8192x128_S128x128_6_0_s_16_1⟩ : LoadRect S8192x128))) (k0_pay17 (ldl X (⟨![7, 0], S128x128.size, ![16, 1], inb_S8192x128_S128x128_7_0_s_16_1⟩ : LoadRect S8192x128))) (k0_pay19 (ldl X (⟨![8, 0], S128x128.size, ![16, 1], inb_S8192x128_S128x128_8_0_s_16_1⟩ : LoadRect S8192x128))) (k0_pay21 (ldl X (⟨![9, 0], S128x128.size, ![16, 1], inb_S8192x128_S128x128_9_0_s_16_1⟩ : LoadRect S8192x128))) (k0_pay23 (ldl X (⟨![10, 0], S128x128.size, ![16, 1], inb_S8192x128_S128x128_10_0_s_16_1⟩ : LoadRect S8192x128))) (k0_pay25 (ldl X (⟨![11, 0], S128x128.size, ![16, 1], inb_S8192x128_S128x128_11_0_s_16_1⟩ : LoadRect S8192x128))) (ldl X (⟨![12, 0], S128x128.size, ![16, 1], inb_S8192x128_S128x128_12_0_s_16_1⟩ : LoadRect S8192x128)) (ldl X (⟨![13, 0], S128x128.size, ![16, 1], inb_S8192x128_S128x128_13_0_s_16_1⟩ : LoadRect S8192x128)) (ldl X (⟨![14, 0], S128x128.size, ![16, 1], inb_S8192x128_S128x128_14_0_s_16_1⟩ : LoadRect S8192x128)) (ldl X (⟨![15, 0], S128x128.size, ![16, 1], inb_S8192x128_S128x128_15_0_s_16_1⟩ : LoadRect S8192x128))

/-- The output block of a block whose tokens fill the first 128 rows: the gated product of those rows, 256 columns
at a time, and zeros below them. -/
def out128 (X : Vec F S8192x128 .i32) (G : Vec F S512x1024 .bf16) (D : Vec F S4096x1024 .f32) : Vec F S512x1024 .bf16 := View.canon [
    ⟨Rect.unit (s := S512x1024) ![128, 0] S384x1024.size inb_S512x1024_S384x1024_128_0, k0_pay32 (F := F)⟩,
    ⟨Rect.unit (s := S512x1024) ![0, 768] S128x256.size inb_S512x1024_S128x256_0_768, k0_pay31 (lo128 X) (hi128 X) (View.ld D (Rect.unit (s := S4096x1024) ![0, 768] S2048x256.size inb_S4096x1024_S2048x256_0_768)) (View.ld D (Rect.unit (s := S4096x1024) ![2048, 768] S2048x256.size inb_S4096x1024_S2048x256_2048_768)) (View.ld G (Rect.unit (s := S512x1024) ![0, 768] S128x256.size inb_S512x1024_S128x256_0_768))⟩,
    ⟨Rect.unit (s := S512x1024) ![0, 512] S128x256.size inb_S512x1024_S128x256_0_512, k0_pay30 (lo128 X) (hi128 X) (View.ld D (Rect.unit (s := S4096x1024) ![0, 512] S2048x256.size inb_S4096x1024_S2048x256_0_512)) (View.ld D (Rect.unit (s := S4096x1024) ![2048, 512] S2048x256.size inb_S4096x1024_S2048x256_2048_512)) (View.ld G (Rect.unit (s := S512x1024) ![0, 512] S128x256.size inb_S512x1024_S128x256_0_512))⟩,
    ⟨Rect.unit (s := S512x1024) ![0, 256] S128x256.size inb_S512x1024_S128x256_0_256, k0_pay29 (lo128 X) (hi128 X) (View.ld D (Rect.unit (s := S4096x1024) ![0, 256] S2048x256.size inb_S4096x1024_S2048x256_0_256)) (View.ld D (Rect.unit (s := S4096x1024) ![2048, 256] S2048x256.size inb_S4096x1024_S2048x256_2048_256)) (View.ld G (Rect.unit (s := S512x1024) ![0, 256] S128x256.size inb_S512x1024_S128x256_0_256))⟩,
    ⟨Rect.unit (s := S512x1024) ![0, 0] S128x256.size inb_S512x1024_S128x256_0_0, k0_pay28 (lo128 X) (hi128 X) (View.ld D (Rect.unit (s := S4096x1024) ![0, 0] S2048x256.size inb_S4096x1024_S2048x256_0_0)) (View.ld D (Rect.unit (s := S4096x1024) ![2048, 0] S2048x256.size inb_S4096x1024_S2048x256_2048_0)) (View.ld G (Rect.unit (s := S512x1024) ![0, 0] S128x256.size inb_S512x1024_S128x256_0_0))⟩]

/-- The pieces written for 128 rows fill the block. -/
theorem cover128 (w0 : (Shape.mk 2 ![384, 1024]).Idx → Elt F .bf16) (w1 : (Shape.mk 2 ![128, 256]).Idx → Elt F .bf16) (w2 : (Shape.mk 2 ![128, 256]).Idx → Elt F .bf16) (w3 : (Shape.mk 2 ![128, 256]).Idx → Elt F .bf16) (w4 : (Shape.mk 2 ![128, 256]).Idx → Elt F .bf16) :
    ∀ y : S512x1024.Idx, ∃ p ∈ ([⟨Rect.unit (s := S512x1024) ![128, 0] S384x1024.size inb_S512x1024_S384x1024_128_0, w0⟩, ⟨Rect.unit (s := S512x1024) ![0, 768] S128x256.size inb_S512x1024_S128x256_0_768, w1⟩, ⟨Rect.unit (s := S512x1024) ![0, 512] S128x256.size inb_S512x1024_S128x256_0_512, w2⟩, ⟨Rect.unit (s := S512x1024) ![0, 256] S128x256.size inb_S512x1024_S128x256_0_256, w3⟩, ⟨Rect.unit (s := S512x1024) ![0, 0] S128x256.size inb_S512x1024_S128x256_0_0, w4⟩] : List (View.Piece (Elt F) S512x1024 .bf16)), y ∈ p.1.set :=
  View.cover_of_tiledBy _ ![128, 256] (by sl_kernel_rfl)

/-- The low halves of the words of the first 256 rows' tokens, side by side. -/
def lo256 (X : Vec F S8192x128 .i32) : FVec F S256x2048 .bf16 :=
  k0_pay57 (k0_pay33 (ldl X (⟨![0, 0], S256x128.size, ![16, 1], inb_S8192x128_S256x128_0_0_s_16_1⟩ : LoadRect S8192x128))) (k0_pay35 (ldl X (⟨![1, 0], S256x128.size, ![16, 1], inb_S8192x128_S256x128_1_0_s_16_1⟩ : LoadRect S8192x128))) (k0_pay37 (ldl X (⟨![2, 0], S256x128.size, ![16, 1], inb_S8192x128_S256x128_2_0_s_16_1⟩ : LoadRect S8192x128))) (k0_pay39 (ldl X (⟨![3, 0], S256x128.size, ![16, 1], inb_S8192x128_S256x128_3_0_s_16_1⟩ : LoadRect S8192x128))) (k0_pay41 (ldl X (⟨![4, 0], S256x128.size, ![16, 1], inb_S8192x128_S256x128_4_0_s_16_1⟩ : LoadRect S8192x128))) (k0_pay43 (ldl X (⟨![5, 0], S256x128.size, ![16, 1], inb_S8192x128_S256x128_5_0_s_16_1⟩ : LoadRect S8192x128))) (k0_pay45 (ldl X (⟨![6, 0], S256x128.size, ![16, 1], inb_S8192x128_S256x128_6_0_s_16_1⟩ : LoadRect S8192x128))) (k0_pay47 (ldl X (⟨![7, 0], S256x128.size, ![16, 1], inb_S8192x128_S256x128_7_0_s_16_1⟩ : LoadRect S8192x128))) (k0_pay49 (ldl X (⟨![8, 0], S256x128.size, ![16, 1], inb_S8192x128_S256x128_8_0_s_16_1⟩ : LoadRect S8192x128))) (k0_pay51 (ldl X (⟨![9, 0], S256x128.size, ![16, 1], inb_S8192x128_S256x128_9_0_s_16_1⟩ : LoadRect S8192x128))) (k0_pay53 (ldl X (⟨![10, 0], S256x128.size, ![16, 1], inb_S8192x128_S256x128_10_0_s_16_1⟩ : LoadRect S8192x128))) (k0_pay55 (ldl X (⟨![11, 0], S256x128.size, ![16, 1], inb_S8192x128_S256x128_11_0_s_16_1⟩ : LoadRect S8192x128))) (ldl X (⟨![12, 0], S256x128.size, ![16, 1], inb_S8192x128_S256x128_12_0_s_16_1⟩ : LoadRect S8192x128)) (ldl X (⟨![13, 0], S256x128.size, ![16, 1], inb_S8192x128_S256x128_13_0_s_16_1⟩ : LoadRect S8192x128)) (ldl X (⟨![14, 0], S256x128.size, ![16, 1], inb_S8192x128_S256x128_14_0_s_16_1⟩ : LoadRect S8192x128)) (ldl X (⟨![15, 0], S256x128.size, ![16, 1], inb_S8192x128_S256x128_15_0_s_16_1⟩ : LoadRect S8192x128))

/-- The high halves of the words of the first 256 rows' tokens, side by side. -/
def hi256 (X : Vec F S8192x128 .i32) : FVec F S256x2048 .bf16 :=
  k0_pay58 (k0_pay34 (ldl X (⟨![0, 0], S256x128.size, ![16, 1], inb_S8192x128_S256x128_0_0_s_16_1⟩ : LoadRect S8192x128))) (k0_pay36 (ldl X (⟨![1, 0], S256x128.size, ![16, 1], inb_S8192x128_S256x128_1_0_s_16_1⟩ : LoadRect S8192x128))) (k0_pay38 (ldl X (⟨![2, 0], S256x128.size, ![16, 1], inb_S8192x128_S256x128_2_0_s_16_1⟩ : LoadRect S8192x128))) (k0_pay40 (ldl X (⟨![3, 0], S256x128.size, ![16, 1], inb_S8192x128_S256x128_3_0_s_16_1⟩ : LoadRect S8192x128))) (k0_pay42 (ldl X (⟨![4, 0], S256x128.size, ![16, 1], inb_S8192x128_S256x128_4_0_s_16_1⟩ : LoadRect S8192x128))) (k0_pay44 (ldl X (⟨![5, 0], S256x128.size, ![16, 1], inb_S8192x128_S256x128_5_0_s_16_1⟩ : LoadRect S8192x128))) (k0_pay46 (ldl X (⟨![6, 0], S256x128.size, ![16, 1], inb_S8192x128_S256x128_6_0_s_16_1⟩ : LoadRect S8192x128))) (k0_pay48 (ldl X (⟨![7, 0], S256x128.size, ![16, 1], inb_S8192x128_S256x128_7_0_s_16_1⟩ : LoadRect S8192x128))) (k0_pay50 (ldl X (⟨![8, 0], S256x128.size, ![16, 1], inb_S8192x128_S256x128_8_0_s_16_1⟩ : LoadRect S8192x128))) (k0_pay52 (ldl X (⟨![9, 0], S256x128.size, ![16, 1], inb_S8192x128_S256x128_9_0_s_16_1⟩ : LoadRect S8192x128))) (k0_pay54 (ldl X (⟨![10, 0], S256x128.size, ![16, 1], inb_S8192x128_S256x128_10_0_s_16_1⟩ : LoadRect S8192x128))) (k0_pay56 (ldl X (⟨![11, 0], S256x128.size, ![16, 1], inb_S8192x128_S256x128_11_0_s_16_1⟩ : LoadRect S8192x128))) (ldl X (⟨![12, 0], S256x128.size, ![16, 1], inb_S8192x128_S256x128_12_0_s_16_1⟩ : LoadRect S8192x128)) (ldl X (⟨![13, 0], S256x128.size, ![16, 1], inb_S8192x128_S256x128_13_0_s_16_1⟩ : LoadRect S8192x128)) (ldl X (⟨![14, 0], S256x128.size, ![16, 1], inb_S8192x128_S256x128_14_0_s_16_1⟩ : LoadRect S8192x128)) (ldl X (⟨![15, 0], S256x128.size, ![16, 1], inb_S8192x128_S256x128_15_0_s_16_1⟩ : LoadRect S8192x128))

/-- The output block of a block whose tokens fill the first 256 rows: the gated product of those rows, 256 columns
at a time, and zeros below them. -/
def out256 (X : Vec F S8192x128 .i32) (G : Vec F S512x1024 .bf16) (D : Vec F S4096x1024 .f32) : Vec F S512x1024 .bf16 := View.canon [
    ⟨Rect.unit (s := S512x1024) ![256, 0] S256x1024.size inb_S512x1024_S256x1024_256_0, k0_pay63 (F := F)⟩,
    ⟨Rect.unit (s := S512x1024) ![0, 768] S256x256.size inb_S512x1024_S256x256_0_768, k0_pay62 (lo256 X) (hi256 X) (View.ld D (Rect.unit (s := S4096x1024) ![0, 768] S2048x256.size inb_S4096x1024_S2048x256_0_768)) (View.ld D (Rect.unit (s := S4096x1024) ![2048, 768] S2048x256.size inb_S4096x1024_S2048x256_2048_768)) (View.ld G (Rect.unit (s := S512x1024) ![0, 768] S256x256.size inb_S512x1024_S256x256_0_768))⟩,
    ⟨Rect.unit (s := S512x1024) ![0, 512] S256x256.size inb_S512x1024_S256x256_0_512, k0_pay61 (lo256 X) (hi256 X) (View.ld D (Rect.unit (s := S4096x1024) ![0, 512] S2048x256.size inb_S4096x1024_S2048x256_0_512)) (View.ld D (Rect.unit (s := S4096x1024) ![2048, 512] S2048x256.size inb_S4096x1024_S2048x256_2048_512)) (View.ld G (Rect.unit (s := S512x1024) ![0, 512] S256x256.size inb_S512x1024_S256x256_0_512))⟩,
    ⟨Rect.unit (s := S512x1024) ![0, 256] S256x256.size inb_S512x1024_S256x256_0_256, k0_pay60 (lo256 X) (hi256 X) (View.ld D (Rect.unit (s := S4096x1024) ![0, 256] S2048x256.size inb_S4096x1024_S2048x256_0_256)) (View.ld D (Rect.unit (s := S4096x1024) ![2048, 256] S2048x256.size inb_S4096x1024_S2048x256_2048_256)) (View.ld G (Rect.unit (s := S512x1024) ![0, 256] S256x256.size inb_S512x1024_S256x256_0_256))⟩,
    ⟨Rect.unit (s := S512x1024) ![0, 0] S256x256.size inb_S512x1024_S256x256_0_0, k0_pay59 (lo256 X) (hi256 X) (View.ld D (Rect.unit (s := S4096x1024) ![0, 0] S2048x256.size inb_S4096x1024_S2048x256_0_0)) (View.ld D (Rect.unit (s := S4096x1024) ![2048, 0] S2048x256.size inb_S4096x1024_S2048x256_2048_0)) (View.ld G (Rect.unit (s := S512x1024) ![0, 0] S256x256.size inb_S512x1024_S256x256_0_0))⟩]

/-- The pieces written for 256 rows fill the block. -/
theorem cover256 (w0 : (Shape.mk 2 ![256, 1024]).Idx → Elt F .bf16) (w1 : (Shape.mk 2 ![256, 256]).Idx → Elt F .bf16) (w2 : (Shape.mk 2 ![256, 256]).Idx → Elt F .bf16) (w3 : (Shape.mk 2 ![256, 256]).Idx → Elt F .bf16) (w4 : (Shape.mk 2 ![256, 256]).Idx → Elt F .bf16) :
    ∀ y : S512x1024.Idx, ∃ p ∈ ([⟨Rect.unit (s := S512x1024) ![256, 0] S256x1024.size inb_S512x1024_S256x1024_256_0, w0⟩, ⟨Rect.unit (s := S512x1024) ![0, 768] S256x256.size inb_S512x1024_S256x256_0_768, w1⟩, ⟨Rect.unit (s := S512x1024) ![0, 512] S256x256.size inb_S512x1024_S256x256_0_512, w2⟩, ⟨Rect.unit (s := S512x1024) ![0, 256] S256x256.size inb_S512x1024_S256x256_0_256, w3⟩, ⟨Rect.unit (s := S512x1024) ![0, 0] S256x256.size inb_S512x1024_S256x256_0_0, w4⟩] : List (View.Piece (Elt F) S512x1024 .bf16)), y ∈ p.1.set :=
  View.cover_of_tiledBy _ ![256, 256] (by sl_kernel_rfl)

/-- The low halves of the words of the first 384 rows' tokens, side by side. -/
def lo384 (X : Vec F S8192x128 .i32) : FVec F S384x2048 .bf16 :=
  k0_pay88 (k0_pay64 (ldl X (⟨![0, 0], S384x128.size, ![16, 1], inb_S8192x128_S384x128_0_0_s_16_1⟩ : LoadRect S8192x128))) (k0_pay66 (ldl X (⟨![1, 0], S384x128.size, ![16, 1], inb_S8192x128_S384x128_1_0_s_16_1⟩ : LoadRect S8192x128))) (k0_pay68 (ldl X (⟨![2, 0], S384x128.size, ![16, 1], inb_S8192x128_S384x128_2_0_s_16_1⟩ : LoadRect S8192x128))) (k0_pay70 (ldl X (⟨![3, 0], S384x128.size, ![16, 1], inb_S8192x128_S384x128_3_0_s_16_1⟩ : LoadRect S8192x128))) (k0_pay72 (ldl X (⟨![4, 0], S384x128.size, ![16, 1], inb_S8192x128_S384x128_4_0_s_16_1⟩ : LoadRect S8192x128))) (k0_pay74 (ldl X (⟨![5, 0], S384x128.size, ![16, 1], inb_S8192x128_S384x128_5_0_s_16_1⟩ : LoadRect S8192x128))) (k0_pay76 (ldl X (⟨![6, 0], S384x128.size, ![16, 1], inb_S8192x128_S384x128_6_0_s_16_1⟩ : LoadRect S8192x128))) (k0_pay78 (ldl X (⟨![7, 0], S384x128.size, ![16, 1], inb_S8192x128_S384x128_7_0_s_16_1⟩ : LoadRect S8192x128))) (k0_pay80 (ldl X (⟨![8, 0], S384x128.size, ![16, 1], inb_S8192x128_S384x128_8_0_s_16_1⟩ : LoadRect S8192x128))) (k0_pay82 (ldl X (⟨![9, 0], S384x128.size, ![16, 1], inb_S8192x128_S384x128_9_0_s_16_1⟩ : LoadRect S8192x128))) (k0_pay84 (ldl X (⟨![10, 0], S384x128.size, ![16, 1], inb_S8192x128_S384x128_10_0_s_16_1⟩ : LoadRect S8192x128))) (k0_pay86 (ldl X (⟨![11, 0], S384x128.size, ![16, 1], inb_S8192x128_S384x128_11_0_s_16_1⟩ : LoadRect S8192x128))) (ldl X (⟨![12, 0], S384x128.size, ![16, 1], inb_S8192x128_S384x128_12_0_s_16_1⟩ : LoadRect S8192x128)) (ldl X (⟨![13, 0], S384x128.size, ![16, 1], inb_S8192x128_S384x128_13_0_s_16_1⟩ : LoadRect S8192x128)) (ldl X (⟨![14, 0], S384x128.size, ![16, 1], inb_S8192x128_S384x128_14_0_s_16_1⟩ : LoadRect S8192x128)) (ldl X (⟨![15, 0], S384x128.size, ![16, 1], inb_S8192x128_S384x128_15_0_s_16_1⟩ : LoadRect S8192x128))

/-- The high halves of the words of the first 384 rows' tokens, side by side. -/
def hi384 (X : Vec F S8192x128 .i32) : FVec F S384x2048 .bf16 :=
  k0_pay89 (k0_pay65 (ldl X (⟨![0, 0], S384x128.size, ![16, 1], inb_S8192x128_S384x128_0_0_s_16_1⟩ : LoadRect S8192x128))) (k0_pay67 (ldl X (⟨![1, 0], S384x128.size, ![16, 1], inb_S8192x128_S384x128_1_0_s_16_1⟩ : LoadRect S8192x128))) (k0_pay69 (ldl X (⟨![2, 0], S384x128.size, ![16, 1], inb_S8192x128_S384x128_2_0_s_16_1⟩ : LoadRect S8192x128))) (k0_pay71 (ldl X (⟨![3, 0], S384x128.size, ![16, 1], inb_S8192x128_S384x128_3_0_s_16_1⟩ : LoadRect S8192x128))) (k0_pay73 (ldl X (⟨![4, 0], S384x128.size, ![16, 1], inb_S8192x128_S384x128_4_0_s_16_1⟩ : LoadRect S8192x128))) (k0_pay75 (ldl X (⟨![5, 0], S384x128.size, ![16, 1], inb_S8192x128_S384x128_5_0_s_16_1⟩ : LoadRect S8192x128))) (k0_pay77 (ldl X (⟨![6, 0], S384x128.size, ![16, 1], inb_S8192x128_S384x128_6_0_s_16_1⟩ : LoadRect S8192x128))) (k0_pay79 (ldl X (⟨![7, 0], S384x128.size, ![16, 1], inb_S8192x128_S384x128_7_0_s_16_1⟩ : LoadRect S8192x128))) (k0_pay81 (ldl X (⟨![8, 0], S384x128.size, ![16, 1], inb_S8192x128_S384x128_8_0_s_16_1⟩ : LoadRect S8192x128))) (k0_pay83 (ldl X (⟨![9, 0], S384x128.size, ![16, 1], inb_S8192x128_S384x128_9_0_s_16_1⟩ : LoadRect S8192x128))) (k0_pay85 (ldl X (⟨![10, 0], S384x128.size, ![16, 1], inb_S8192x128_S384x128_10_0_s_16_1⟩ : LoadRect S8192x128))) (k0_pay87 (ldl X (⟨![11, 0], S384x128.size, ![16, 1], inb_S8192x128_S384x128_11_0_s_16_1⟩ : LoadRect S8192x128))) (ldl X (⟨![12, 0], S384x128.size, ![16, 1], inb_S8192x128_S384x128_12_0_s_16_1⟩ : LoadRect S8192x128)) (ldl X (⟨![13, 0], S384x128.size, ![16, 1], inb_S8192x128_S384x128_13_0_s_16_1⟩ : LoadRect S8192x128)) (ldl X (⟨![14, 0], S384x128.size, ![16, 1], inb_S8192x128_S384x128_14_0_s_16_1⟩ : LoadRect S8192x128)) (ldl X (⟨![15, 0], S384x128.size, ![16, 1], inb_S8192x128_S384x128_15_0_s_16_1⟩ : LoadRect S8192x128))

/-- The output block of a block whose tokens fill the first 384 rows: the gated product of those rows, 256 columns
at a time, and zeros below them. -/
def out384 (X : Vec F S8192x128 .i32) (G : Vec F S512x1024 .bf16) (D : Vec F S4096x1024 .f32) : Vec F S512x1024 .bf16 := View.canon [
    ⟨Rect.unit (s := S512x1024) ![384, 0] S128x1024.size inb_S512x1024_S128x1024_384_0, k0_pay94 (F := F)⟩,
    ⟨Rect.unit (s := S512x1024) ![0, 768] S384x256.size inb_S512x1024_S384x256_0_768, k0_pay93 (lo384 X) (hi384 X) (View.ld D (Rect.unit (s := S4096x1024) ![0, 768] S2048x256.size inb_S4096x1024_S2048x256_0_768)) (View.ld D (Rect.unit (s := S4096x1024) ![2048, 768] S2048x256.size inb_S4096x1024_S2048x256_2048_768)) (View.ld G (Rect.unit (s := S512x1024) ![0, 768] S384x256.size inb_S512x1024_S384x256_0_768))⟩,
    ⟨Rect.unit (s := S512x1024) ![0, 512] S384x256.size inb_S512x1024_S384x256_0_512, k0_pay92 (lo384 X) (hi384 X) (View.ld D (Rect.unit (s := S4096x1024) ![0, 512] S2048x256.size inb_S4096x1024_S2048x256_0_512)) (View.ld D (Rect.unit (s := S4096x1024) ![2048, 512] S2048x256.size inb_S4096x1024_S2048x256_2048_512)) (View.ld G (Rect.unit (s := S512x1024) ![0, 512] S384x256.size inb_S512x1024_S384x256_0_512))⟩,
    ⟨Rect.unit (s := S512x1024) ![0, 256] S384x256.size inb_S512x1024_S384x256_0_256, k0_pay91 (lo384 X) (hi384 X) (View.ld D (Rect.unit (s := S4096x1024) ![0, 256] S2048x256.size inb_S4096x1024_S2048x256_0_256)) (View.ld D (Rect.unit (s := S4096x1024) ![2048, 256] S2048x256.size inb_S4096x1024_S2048x256_2048_256)) (View.ld G (Rect.unit (s := S512x1024) ![0, 256] S384x256.size inb_S512x1024_S384x256_0_256))⟩,
    ⟨Rect.unit (s := S512x1024) ![0, 0] S384x256.size inb_S512x1024_S384x256_0_0, k0_pay90 (lo384 X) (hi384 X) (View.ld D (Rect.unit (s := S4096x1024) ![0, 0] S2048x256.size inb_S4096x1024_S2048x256_0_0)) (View.ld D (Rect.unit (s := S4096x1024) ![2048, 0] S2048x256.size inb_S4096x1024_S2048x256_2048_0)) (View.ld G (Rect.unit (s := S512x1024) ![0, 0] S384x256.size inb_S512x1024_S384x256_0_0))⟩]

/-- The pieces written for 384 rows fill the block. -/
theorem cover384 (w0 : (Shape.mk 2 ![128, 1024]).Idx → Elt F .bf16) (w1 : (Shape.mk 2 ![384, 256]).Idx → Elt F .bf16) (w2 : (Shape.mk 2 ![384, 256]).Idx → Elt F .bf16) (w3 : (Shape.mk 2 ![384, 256]).Idx → Elt F .bf16) (w4 : (Shape.mk 2 ![384, 256]).Idx → Elt F .bf16) :
    ∀ y : S512x1024.Idx, ∃ p ∈ ([⟨Rect.unit (s := S512x1024) ![384, 0] S128x1024.size inb_S512x1024_S128x1024_384_0, w0⟩, ⟨Rect.unit (s := S512x1024) ![0, 768] S384x256.size inb_S512x1024_S384x256_0_768, w1⟩, ⟨Rect.unit (s := S512x1024) ![0, 512] S384x256.size inb_S512x1024_S384x256_0_512, w2⟩, ⟨Rect.unit (s := S512x1024) ![0, 256] S384x256.size inb_S512x1024_S384x256_0_256, w3⟩, ⟨Rect.unit (s := S512x1024) ![0, 0] S384x256.size inb_S512x1024_S384x256_0_0, w4⟩] : List (View.Piece (Elt F) S512x1024 .bf16)), y ∈ p.1.set :=
  View.cover_of_tiledBy _ ![128, 256] (by sl_kernel_rfl)

/-- The low halves of the words of the first 512 rows' tokens, side by side. -/
def lo512 (X : Vec F S8192x128 .i32) : FVec F S512x2048 .bf16 :=
  k0_pay119 (k0_pay95 (ldl X (⟨![0, 0], S512x128.size, ![16, 1], inb_S8192x128_S512x128_0_0_s_16_1⟩ : LoadRect S8192x128))) (k0_pay97 (ldl X (⟨![1, 0], S512x128.size, ![16, 1], inb_S8192x128_S512x128_1_0_s_16_1⟩ : LoadRect S8192x128))) (k0_pay99 (ldl X (⟨![2, 0], S512x128.size, ![16, 1], inb_S8192x128_S512x128_2_0_s_16_1⟩ : LoadRect S8192x128))) (k0_pay101 (ldl X (⟨![3, 0], S512x128.size, ![16, 1], inb_S8192x128_S512x128_3_0_s_16_1⟩ : LoadRect S8192x128))) (k0_pay103 (ldl X (⟨![4, 0], S512x128.size, ![16, 1], inb_S8192x128_S512x128_4_0_s_16_1⟩ : LoadRect S8192x128))) (k0_pay105 (ldl X (⟨![5, 0], S512x128.size, ![16, 1], inb_S8192x128_S512x128_5_0_s_16_1⟩ : LoadRect S8192x128))) (k0_pay107 (ldl X (⟨![6, 0], S512x128.size, ![16, 1], inb_S8192x128_S512x128_6_0_s_16_1⟩ : LoadRect S8192x128))) (k0_pay109 (ldl X (⟨![7, 0], S512x128.size, ![16, 1], inb_S8192x128_S512x128_7_0_s_16_1⟩ : LoadRect S8192x128))) (k0_pay111 (ldl X (⟨![8, 0], S512x128.size, ![16, 1], inb_S8192x128_S512x128_8_0_s_16_1⟩ : LoadRect S8192x128))) (k0_pay113 (ldl X (⟨![9, 0], S512x128.size, ![16, 1], inb_S8192x128_S512x128_9_0_s_16_1⟩ : LoadRect S8192x128))) (k0_pay115 (ldl X (⟨![10, 0], S512x128.size, ![16, 1], inb_S8192x128_S512x128_10_0_s_16_1⟩ : LoadRect S8192x128))) (k0_pay117 (ldl X (⟨![11, 0], S512x128.size, ![16, 1], inb_S8192x128_S512x128_11_0_s_16_1⟩ : LoadRect S8192x128))) (ldl X (⟨![12, 0], S512x128.size, ![16, 1], inb_S8192x128_S512x128_12_0_s_16_1⟩ : LoadRect S8192x128)) (ldl X (⟨![13, 0], S512x128.size, ![16, 1], inb_S8192x128_S512x128_13_0_s_16_1⟩ : LoadRect S8192x128)) (ldl X (⟨![14, 0], S512x128.size, ![16, 1], inb_S8192x128_S512x128_14_0_s_16_1⟩ : LoadRect S8192x128)) (ldl X (⟨![15, 0], S512x128.size, ![16, 1], inb_S8192x128_S512x128_15_0_s_16_1⟩ : LoadRect S8192x128))

/-- The high halves of the words of the first 512 rows' tokens, side by side. -/
def hi512 (X : Vec F S8192x128 .i32) : FVec F S512x2048 .bf16 :=
  k0_pay120 (k0_pay96 (ldl X (⟨![0, 0], S512x128.size, ![16, 1], inb_S8192x128_S512x128_0_0_s_16_1⟩ : LoadRect S8192x128))) (k0_pay98 (ldl X (⟨![1, 0], S512x128.size, ![16, 1], inb_S8192x128_S512x128_1_0_s_16_1⟩ : LoadRect S8192x128))) (k0_pay100 (ldl X (⟨![2, 0], S512x128.size, ![16, 1], inb_S8192x128_S512x128_2_0_s_16_1⟩ : LoadRect S8192x128))) (k0_pay102 (ldl X (⟨![3, 0], S512x128.size, ![16, 1], inb_S8192x128_S512x128_3_0_s_16_1⟩ : LoadRect S8192x128))) (k0_pay104 (ldl X (⟨![4, 0], S512x128.size, ![16, 1], inb_S8192x128_S512x128_4_0_s_16_1⟩ : LoadRect S8192x128))) (k0_pay106 (ldl X (⟨![5, 0], S512x128.size, ![16, 1], inb_S8192x128_S512x128_5_0_s_16_1⟩ : LoadRect S8192x128))) (k0_pay108 (ldl X (⟨![6, 0], S512x128.size, ![16, 1], inb_S8192x128_S512x128_6_0_s_16_1⟩ : LoadRect S8192x128))) (k0_pay110 (ldl X (⟨![7, 0], S512x128.size, ![16, 1], inb_S8192x128_S512x128_7_0_s_16_1⟩ : LoadRect S8192x128))) (k0_pay112 (ldl X (⟨![8, 0], S512x128.size, ![16, 1], inb_S8192x128_S512x128_8_0_s_16_1⟩ : LoadRect S8192x128))) (k0_pay114 (ldl X (⟨![9, 0], S512x128.size, ![16, 1], inb_S8192x128_S512x128_9_0_s_16_1⟩ : LoadRect S8192x128))) (k0_pay116 (ldl X (⟨![10, 0], S512x128.size, ![16, 1], inb_S8192x128_S512x128_10_0_s_16_1⟩ : LoadRect S8192x128))) (k0_pay118 (ldl X (⟨![11, 0], S512x128.size, ![16, 1], inb_S8192x128_S512x128_11_0_s_16_1⟩ : LoadRect S8192x128))) (ldl X (⟨![12, 0], S512x128.size, ![16, 1], inb_S8192x128_S512x128_12_0_s_16_1⟩ : LoadRect S8192x128)) (ldl X (⟨![13, 0], S512x128.size, ![16, 1], inb_S8192x128_S512x128_13_0_s_16_1⟩ : LoadRect S8192x128)) (ldl X (⟨![14, 0], S512x128.size, ![16, 1], inb_S8192x128_S512x128_14_0_s_16_1⟩ : LoadRect S8192x128)) (ldl X (⟨![15, 0], S512x128.size, ![16, 1], inb_S8192x128_S512x128_15_0_s_16_1⟩ : LoadRect S8192x128))

/-- The output block of a block whose tokens fill the first 512 rows: the gated product of those rows, 256 columns
at a time. -/
def out512 (X : Vec F S8192x128 .i32) (G : Vec F S512x1024 .bf16) (D : Vec F S4096x1024 .f32) : Vec F S512x1024 .bf16 := View.canon [
    ⟨Rect.unit (s := S512x1024) ![0, 768] S512x256.size inb_S512x1024_S512x256_0_768, k0_pay124 (lo512 X) (hi512 X) (View.ld D (Rect.unit (s := S4096x1024) ![0, 768] S2048x256.size inb_S4096x1024_S2048x256_0_768)) (View.ld D (Rect.unit (s := S4096x1024) ![2048, 768] S2048x256.size inb_S4096x1024_S2048x256_2048_768)) (View.ld G (Rect.unit (s := S512x1024) ![0, 768] S512x256.size inb_S512x1024_S512x256_0_768))⟩,
    ⟨Rect.unit (s := S512x1024) ![0, 512] S512x256.size inb_S512x1024_S512x256_0_512, k0_pay123 (lo512 X) (hi512 X) (View.ld D (Rect.unit (s := S4096x1024) ![0, 512] S2048x256.size inb_S4096x1024_S2048x256_0_512)) (View.ld D (Rect.unit (s := S4096x1024) ![2048, 512] S2048x256.size inb_S4096x1024_S2048x256_2048_512)) (View.ld G (Rect.unit (s := S512x1024) ![0, 512] S512x256.size inb_S512x1024_S512x256_0_512))⟩,
    ⟨Rect.unit (s := S512x1024) ![0, 256] S512x256.size inb_S512x1024_S512x256_0_256, k0_pay122 (lo512 X) (hi512 X) (View.ld D (Rect.unit (s := S4096x1024) ![0, 256] S2048x256.size inb_S4096x1024_S2048x256_0_256)) (View.ld D (Rect.unit (s := S4096x1024) ![2048, 256] S2048x256.size inb_S4096x1024_S2048x256_2048_256)) (View.ld G (Rect.unit (s := S512x1024) ![0, 256] S512x256.size inb_S512x1024_S512x256_0_256))⟩,
    ⟨Rect.unit (s := S512x1024) ![0, 0] S512x256.size inb_S512x1024_S512x256_0_0, k0_pay121 (lo512 X) (hi512 X) (View.ld D (Rect.unit (s := S4096x1024) ![0, 0] S2048x256.size inb_S4096x1024_S2048x256_0_0)) (View.ld D (Rect.unit (s := S4096x1024) ![2048, 0] S2048x256.size inb_S4096x1024_S2048x256_2048_0)) (View.ld G (Rect.unit (s := S512x1024) ![0, 0] S512x256.size inb_S512x1024_S512x256_0_0))⟩]

/-- The pieces written for 512 rows fill the block. -/
theorem cover512 (w0 : (Shape.mk 2 ![512, 256]).Idx → Elt F .bf16) (w1 : (Shape.mk 2 ![512, 256]).Idx → Elt F .bf16) (w2 : (Shape.mk 2 ![512, 256]).Idx → Elt F .bf16) (w3 : (Shape.mk 2 ![512, 256]).Idx → Elt F .bf16) :
    ∀ y : S512x1024.Idx, ∃ p ∈ ([⟨Rect.unit (s := S512x1024) ![0, 768] S512x256.size inb_S512x1024_S512x256_0_768, w0⟩, ⟨Rect.unit (s := S512x1024) ![0, 512] S512x256.size inb_S512x1024_S512x256_0_512, w1⟩, ⟨Rect.unit (s := S512x1024) ![0, 256] S512x256.size inb_S512x1024_S512x256_0_256, w2⟩, ⟨Rect.unit (s := S512x1024) ![0, 0] S512x256.size inb_S512x1024_S512x256_0_0, w3⟩] : List (View.Piece (Elt F) S512x1024 .bf16)), y ∈ p.1.set :=
  View.cover_of_tiledBy _ ![512, 256] (by sl_kernel_rfl)

/-- The output block of a block without tokens. -/
def out0 : Vec F S512x1024 .bf16 := View.canon [⟨Rect.unit (s := S512x1024) ![0, 0] S512x1024.size inb_S512x1024_S512x1024_0_0, k0_pay1 (F := F)⟩]

/-- The one piece written for no rows fills the block. -/
theorem cover0 (w0 : (Shape.mk 2 ![512, 1024]).Idx → Elt F .bf16) :
    ∀ y : S512x1024.Idx, ∃ p ∈ ([⟨Rect.unit (s := S512x1024) ![0, 0] S512x1024.size inb_S512x1024_S512x1024_0_0, w0⟩] : List (View.Piece (Elt F) S512x1024 .bf16)), y ∈ p.1.set :=
  View.cover_of_tiledBy _ ![512, 1024] (by sl_kernel_rfl)

set_option maxHeartbeats 4000000 in
/-- The branch of blocks with tokens in the first 128 rows. -/
theorem run128 (c : Dev nD) (i : grid0.Coords) (s n : BitVec 32) (hw6 : k0_chk6 s n)
    (h4 : k0_cond4 n = 1#1) (h5 : ¬ k0_cond5 n = 1#1) (h6 : ¬ k0_cond6 n = 1#1) (h7 : ¬ k0_cond7 n = 1#1) (h8 : ¬ k0_cond8 n = 1#1)
    (arg7 : Memref sig .tc .vmem S8192x128 .i32) (harg7 : arg7.IsWhole) (arg9 : Memref sig .tc .vmem S512x1024 .bf16) (harg9 : arg9.IsWhole)
    (arg10 : Memref sig .tc .vmem S512x1024 .bf16) (harg10 : arg10.IsWhole)
    (X : Vec F S8192x128 .i32) (G : Vec F S512x1024 .bf16) (D : Vec F S4096x1024 .f32) (K : PUnit → sProp 𝕄) :
    iprop(owns (c : Thread nD τ) arg7 fullShare X ∗ owns (c : Thread nD τ) (slotM (k0_off13 s) (hw6.1 h4)) fullShare D ∗ owns (c : Thread nD τ) arg9 fullShare G ∗ (∃ d, owns (c : Thread nD τ) arg10 fullShare d)
      ∗ (iprop(owns (c : Thread nD τ) arg7 fullShare X ∗ owns (c : Thread nD τ) (slotM (k0_off13 s) (hw6.1 h4)) fullShare D ∗ owns (c : Thread nD τ) arg9 fullShare G ∗ owns (c : Thread nD τ) arg10 fullShare (out128 X G D)) -∗ K ⟨⟩))
      ⊢ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 arg10 harg10 (Memref.whole cc0_scratch0) (Memref.isWhole_whole _) cc0_scratch1 s n hw6) K := by
  unfold comp tail
  simp only [k0_part1_eq_skeleton, k0_part2_eq_skeleton, k0_part3_eq_skeleton, k0_part4_eq_skeleton]
  unfold owns
  iintro ⟨⟨%f7, %hf7, H7⟩, ⟨%fs, %hfs, Hs⟩, ⟨%f8, %hf8, H8⟩, ⟨%d, %f9, -, H9⟩, Hk⟩
  subst hf7 hfs hf8
  sl_exec
  sl_step
  iapply Hk
  isplitl [H7]
  · iexists f7
    isplitr
    · ipureintro; rfl
    · iexact H7
  isplitl [Hs]
  · iexists fs
    isplitr
    · ipureintro; rfl
    · iexact Hs
  isplitl [H8]
  · iexists f8
    isplitr
    · ipureintro; rfl
    · iexact H8
  iexists _
  isplitr
  swap
  · iexact H9
  ipureintro
  exact View.read_writes_eq_canon _ _ _ (cover128 _ _ _ _ _)

set_option maxHeartbeats 4000000 in
/-- The branch of blocks with tokens in the first 256 rows. -/
theorem run256 (c : Dev nD) (i : grid0.Coords) (s n : BitVec 32) (hw6 : k0_chk6 s n)
    (h4 : ¬ k0_cond4 n = 1#1) (h5 : k0_cond5 n = 1#1) (h6 : ¬ k0_cond6 n = 1#1) (h7 : ¬ k0_cond7 n = 1#1) (h8 : ¬ k0_cond8 n = 1#1)
    (arg7 : Memref sig .tc .vmem S8192x128 .i32) (harg7 : arg7.IsWhole) (arg9 : Memref sig .tc .vmem S512x1024 .bf16) (harg9 : arg9.IsWhole)
    (arg10 : Memref sig .tc .vmem S512x1024 .bf16) (harg10 : arg10.IsWhole)
    (X : Vec F S8192x128 .i32) (G : Vec F S512x1024 .bf16) (D : Vec F S4096x1024 .f32) (K : PUnit → sProp 𝕄) :
    iprop(owns (c : Thread nD τ) arg7 fullShare X ∗ owns (c : Thread nD τ) (slotM (k0_off14 s) (hw6.2.1 h5)) fullShare D ∗ owns (c : Thread nD τ) arg9 fullShare G ∗ (∃ d, owns (c : Thread nD τ) arg10 fullShare d)
      ∗ (iprop(owns (c : Thread nD τ) arg7 fullShare X ∗ owns (c : Thread nD τ) (slotM (k0_off14 s) (hw6.2.1 h5)) fullShare D ∗ owns (c : Thread nD τ) arg9 fullShare G ∗ owns (c : Thread nD τ) arg10 fullShare (out256 X G D)) -∗ K ⟨⟩))
      ⊢ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 arg10 harg10 (Memref.whole cc0_scratch0) (Memref.isWhole_whole _) cc0_scratch1 s n hw6) K := by
  unfold comp tail
  simp only [k0_part5_eq_skeleton, k0_part6_eq_skeleton, k0_part7_eq_skeleton, k0_part8_eq_skeleton]
  unfold owns
  iintro ⟨⟨%f7, %hf7, H7⟩, ⟨%fs, %hfs, Hs⟩, ⟨%f8, %hf8, H8⟩, ⟨%d, %f9, -, H9⟩, Hk⟩
  subst hf7 hfs hf8
  sl_exec
  sl_step
  iapply Hk
  isplitl [H7]
  · iexists f7
    isplitr
    · ipureintro; rfl
    · iexact H7
  isplitl [Hs]
  · iexists fs
    isplitr
    · ipureintro; rfl
    · iexact Hs
  isplitl [H8]
  · iexists f8
    isplitr
    · ipureintro; rfl
    · iexact H8
  iexists _
  isplitr
  swap
  · iexact H9
  ipureintro
  exact View.read_writes_eq_canon _ _ _ (cover256 _ _ _ _ _)

set_option maxHeartbeats 4000000 in
/-- The branch of blocks with tokens in the first 384 rows. -/
theorem run384 (c : Dev nD) (i : grid0.Coords) (s n : BitVec 32) (hw6 : k0_chk6 s n)
    (h4 : ¬ k0_cond4 n = 1#1) (h5 : ¬ k0_cond5 n = 1#1) (h6 : k0_cond6 n = 1#1) (h7 : ¬ k0_cond7 n = 1#1) (h8 : ¬ k0_cond8 n = 1#1)
    (arg7 : Memref sig .tc .vmem S8192x128 .i32) (harg7 : arg7.IsWhole) (arg9 : Memref sig .tc .vmem S512x1024 .bf16) (harg9 : arg9.IsWhole)
    (arg10 : Memref sig .tc .vmem S512x1024 .bf16) (harg10 : arg10.IsWhole)
    (X : Vec F S8192x128 .i32) (G : Vec F S512x1024 .bf16) (D : Vec F S4096x1024 .f32) (K : PUnit → sProp 𝕄) :
    iprop(owns (c : Thread nD τ) arg7 fullShare X ∗ owns (c : Thread nD τ) (slotM (k0_off15 s) (hw6.2.2.1 h6)) fullShare D ∗ owns (c : Thread nD τ) arg9 fullShare G ∗ (∃ d, owns (c : Thread nD τ) arg10 fullShare d)
      ∗ (iprop(owns (c : Thread nD τ) arg7 fullShare X ∗ owns (c : Thread nD τ) (slotM (k0_off15 s) (hw6.2.2.1 h6)) fullShare D ∗ owns (c : Thread nD τ) arg9 fullShare G ∗ owns (c : Thread nD τ) arg10 fullShare (out384 X G D)) -∗ K ⟨⟩))
      ⊢ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 arg10 harg10 (Memref.whole cc0_scratch0) (Memref.isWhole_whole _) cc0_scratch1 s n hw6) K := by
  unfold comp tail
  simp only [k0_part9_eq_skeleton, k0_part10_eq_skeleton, k0_part11_eq_skeleton, k0_part12_eq_skeleton]
  unfold owns
  iintro ⟨⟨%f7, %hf7, H7⟩, ⟨%fs, %hfs, Hs⟩, ⟨%f8, %hf8, H8⟩, ⟨%d, %f9, -, H9⟩, Hk⟩
  subst hf7 hfs hf8
  sl_exec
  sl_step
  iapply Hk
  isplitl [H7]
  · iexists f7
    isplitr
    · ipureintro; rfl
    · iexact H7
  isplitl [Hs]
  · iexists fs
    isplitr
    · ipureintro; rfl
    · iexact Hs
  isplitl [H8]
  · iexists f8
    isplitr
    · ipureintro; rfl
    · iexact H8
  iexists _
  isplitr
  swap
  · iexact H9
  ipureintro
  exact View.read_writes_eq_canon _ _ _ (cover384 _ _ _ _ _)

set_option maxHeartbeats 4000000 in
/-- The branch of blocks with tokens in the first 512 rows. -/
theorem run512 (c : Dev nD) (i : grid0.Coords) (s n : BitVec 32) (hw6 : k0_chk6 s n)
    (h4 : ¬ k0_cond4 n = 1#1) (h5 : ¬ k0_cond5 n = 1#1) (h6 : ¬ k0_cond6 n = 1#1) (h7 : k0_cond7 n = 1#1) (h8 : ¬ k0_cond8 n = 1#1)
    (arg7 : Memref sig .tc .vmem S8192x128 .i32) (harg7 : arg7.IsWhole) (arg9 : Memref sig .tc .vmem S512x1024 .bf16) (harg9 : arg9.IsWhole)
    (arg10 : Memref sig .tc .vmem S512x1024 .bf16) (harg10 : arg10.IsWhole)
    (X : Vec F S8192x128 .i32) (G : Vec F S512x1024 .bf16) (D : Vec F S4096x1024 .f32) (K : PUnit → sProp 𝕄) :
    iprop(owns (c : Thread nD τ) arg7 fullShare X ∗ owns (c : Thread nD τ) (slotM (k0_off16 s) (hw6.2.2.2 h7)) fullShare D ∗ owns (c : Thread nD τ) arg9 fullShare G ∗ (∃ d, owns (c : Thread nD τ) arg10 fullShare d)
      ∗ (iprop(owns (c : Thread nD τ) arg7 fullShare X ∗ owns (c : Thread nD τ) (slotM (k0_off16 s) (hw6.2.2.2 h7)) fullShare D ∗ owns (c : Thread nD τ) arg9 fullShare G ∗ owns (c : Thread nD τ) arg10 fullShare (out512 X G D)) -∗ K ⟨⟩))
      ⊢ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 arg10 harg10 (Memref.whole cc0_scratch0) (Memref.isWhole_whole _) cc0_scratch1 s n hw6) K := by
  unfold comp tail
  simp only [k0_part13_eq_skeleton, k0_part14_eq_skeleton, k0_part15_eq_skeleton, k0_part16_eq_skeleton]
  unfold owns
  iintro ⟨⟨%f7, %hf7, H7⟩, ⟨%fs, %hfs, Hs⟩, ⟨%f8, %hf8, H8⟩, ⟨%d, %f9, -, H9⟩, Hk⟩
  subst hf7 hfs hf8
  sl_exec
  sl_step
  iapply Hk
  isplitl [H7]
  · iexists f7
    isplitr
    · ipureintro; rfl
    · iexact H7
  isplitl [Hs]
  · iexists fs
    isplitr
    · ipureintro; rfl
    · iexact Hs
  isplitl [H8]
  · iexists f8
    isplitr
    · ipureintro; rfl
    · iexact H8
  iexists _
  isplitr
  swap
  · iexact H9
  ipureintro
  exact View.read_writes_eq_canon _ _ _ (cover512 _ _ _ _)

set_option maxHeartbeats 4000000 in
/-- The branch of blocks without tokens. -/
theorem run0 (c : Dev nD) (i : grid0.Coords) (s n : BitVec 32) (hw6 : k0_chk6 s n)
    (h4 : ¬ k0_cond4 n = 1#1) (h5 : ¬ k0_cond5 n = 1#1) (h6 : ¬ k0_cond6 n = 1#1) (h7 : ¬ k0_cond7 n = 1#1) (h8 : k0_cond8 n = 1#1)
    (arg7 : Memref sig .tc .vmem S8192x128 .i32) (harg7 : arg7.IsWhole) (arg9 : Memref sig .tc .vmem S512x1024 .bf16) (harg9 : arg9.IsWhole)
    (arg10 : Memref sig .tc .vmem S512x1024 .bf16) (harg10 : arg10.IsWhole)
    (X : Vec F S8192x128 .i32) (G : Vec F S512x1024 .bf16) (K : PUnit → sProp 𝕄) :
    iprop(owns (c : Thread nD τ) arg7 fullShare X ∗ owns (c : Thread nD τ) arg9 fullShare G ∗ (∃ d, owns (c : Thread nD τ) arg10 fullShare d)
      ∗ (iprop(owns (c : Thread nD τ) arg7 fullShare X ∗ owns (c : Thread nD τ) arg9 fullShare G ∗ owns (c : Thread nD τ) arg10 fullShare (out0)) -∗ K ⟨⟩))
      ⊢ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 arg10 harg10 (Memref.whole cc0_scratch0) (Memref.isWhole_whole _) cc0_scratch1 s n hw6) K := by
  unfold comp tail
  unfold owns
  iintro ⟨⟨%f7, %hf7, H7⟩, ⟨%f8, %hf8, H8⟩, ⟨%d, %f9, -, H9⟩, Hk⟩
  subst hf7 hf8
  sl_exec
  sl_step
  iapply Hk
  isplitl [H7]
  · iexists f7
    isplitr
    · ipureintro; rfl
    · iexact H7
  isplitl [H8]
  · iexists f8
    isplitr
    · ipureintro; rfl
    · iexact H8
  iexists _
  isplitr
  swap
  · iexact H9
  ipureintro
  exact View.read_writes_eq_canon _ _ _ (cover0 _)

end Cert.Kernel6Ideal.Hand
-- ==== Proof.UpPlan.lean ====
module
public import proofs.«01_k».proof.Pre_plan_ok6
public import proofs.«01_k».proof.Proof.Gen.Pre_plan_ok6
public import proofs.«01_k».proof.Proof.GatePlan

/-!
The block plan that `expert_up` takes is the one `expert_gate` takes: its precondition says the same of the tables.
-/

@[expose] public noncomputable section

namespace Cert.GatePlan

open Idealize.ShloMosaic

variable {F : FTy → Type} [FloatOps F]

/-- The precondition of the second projection is that of the first. -/
theorem same_fn (be first slot nxt : IVec Cert.Pre_plan_ok6.S96 32) (nu : IVec Cert.Pre_plan_ok6.S1 32) (nv : IVec Cert.Pre_plan_ok6.S96 32)
    (xs : IVec Cert.Pre_plan_ok6.S786432x128 32) (w : FVec F Cert.Pre_plan_ok6.S32x4096x1024 .f32) (g : FVec F Cert.Pre_plan_ok6.S49152x1024 .bf16) :
    Cert.Pre_plan_ok6.fn (F := F) be first slot nxt nu nv xs w g = Cert.Pre_plan_ok.fn (F := F) be first slot nxt nu nv xs w := rfl

/-- What `plan_ok6` being all ones says of the tables. -/
theorem plan_of6 (be first slot nxt : IVec Cert.Pre_plan_ok6.S96 32) (nu : IVec Cert.Pre_plan_ok6.S1 32) (nv : IVec Cert.Pre_plan_ok6.S96 32)
    (xs : IVec Cert.Pre_plan_ok6.S786432x128 32) (w : FVec F Cert.Pre_plan_ok6.S32x4096x1024 .f32) (g : FVec F Cert.Pre_plan_ok6.S49152x1024 .bf16)
    (h1 : (Cert.Pre_plan_ok6.fn (F := F) be first slot nxt nu nv xs w g).1 = fun _ => 1#1)
    (h2 : (Cert.Pre_plan_ok6.fn (F := F) be first slot nxt nu nv xs w g).2.1 = fun _ => 1#1)
    (h3 : (Cert.Pre_plan_ok6.fn (F := F) be first slot nxt nu nv xs w g).2.2.1 = fun _ => 1#1)
    (h4 : (Cert.Pre_plan_ok6.fn (F := F) be first slot nxt nu nv xs w g).2.2.2.1 = fun _ => 1#1)
    (h5 : (Cert.Pre_plan_ok6.fn (F := F) be first slot nxt nu nv xs w g).2.2.2.2 = fun _ => 1#1) :
    PlanOK (wd be) (wd first) (wd slot) (wd nxt) (wd nv) (nu (Shape.Idx.ofFin (0 : Fin 1))) := by
  rw [same_fn] at h1 h2 h3 h4 h5
  exact plan_of (F := F) be first slot nxt nu nv xs w h1 h2 h3 h4 h5

end Cert.GatePlan
-- ==== Proof.UpState.lean ====
module
public import proofs.«01_k».proof.Proof.UpHead
public import proofs.«01_k».proof.Proof.UpRun
public import proofs.«01_k».proof.Proof.UpPlan

/-!
The state of `expert_up`'s two weight slots between grid points: before the first both are free, after point `t`
the slot of block `t` holds its expert and the other is filling with the following expert, if there is one.
-/

@[expose] public noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen
open Cert.GatePlan (PlanOK wd)

variable {F : FTy → Type} [FloatOps F]
local notation "𝕄" => MT nD τ sig Unit (Elt F) ℕ (Pipeline.UD sig nD τ) ℕ

/-! ## The plan's words at neighbouring points -/

theorem two_cases {v : BitVec 32} (hv : v.toNat < 2) : v = 0#32 ∨ v = 1#32 := by
  have : v.toNat = 0 ∨ v.toNat = 1 := by omega
  exact this.imp (fun h => BitVec.eq_of_toNat_eq h) (fun h => BitVec.eq_of_toNat_eq h)
theorem other_lt {v : BitVec 32} (hv : v.toNat < 2) : (Scalar.subi 1#32 v).toNat < 2 := by
  rcases two_cases hv with rfl | rfl <;> decide
theorem other_other {v : BitVec 32} (hv : v.toNat < 2) : Scalar.subi 1#32 (Scalar.subi 1#32 v) = v := by
  rcases two_cases hv with rfl | rfl <;> decide

variable {B Fi Sl Nx Nv : Fin 96 → BitVec 32} {nu : BitVec 32} (P : PlanOK B Fi Sl Nx Nv nu)

/-- The point before `k` (of 96). -/
def pr (k : ℕ) : Fin 96 := ⟨min (k - 1) 95, by omega⟩
theorem pr_succ (t : Fin 96) : pr (t.val + 1) = t := Fin.ext (by unfold pr; have := t.isLt; simp; omega)

/-- The slots before point `k`. -/
def St (c : Dev nD) (W : WBuf F c) (k : ℕ) : sProp 𝕄 :=
  if k = 0 then iprop(Free c W 0#32 (by decide) ∗ Free c W 1#32 (by decide))
  else iprop(Cur c W (Sl (pr k)) (P.sl _) (B (pr k)) (P.b _) ∗ Nxt c W (Scalar.subi 1#32 (Sl (pr k))) (other_lt (P.sl _)) (Nx (pr k)))

/-- After point `t`. -/
theorem St_succ (c : Dev nD) (W : WBuf F c) (t : Fin 96) :
    St P c W (t.val + 1) = iprop(Cur c W (Sl t) (P.sl t) (B t) (P.b t) ∗ Nxt c W (Scalar.subi 1#32 (Sl t)) (other_lt (P.sl t)) (Nx t)) := by
  unfold St; rw [if_neg (Nat.succ_ne_zero _)]; simp only [pr_succ]

/-- The slots before point `t` are what its body expects. -/
theorem St_S0 (c : Dev nD) (W : WBuf F c) (i : grid0.Coords) (t : Fin 96) (hi : (i 0).val = t.val) :
    St P c W t.val ⊢ S0 c W i (Sl t) (P.sl t) (other_lt (P.sl t)) (B t) (P.b t) (Nx t) (Fi t) := by
  obtain ⟨t, ht⟩ := t
  cases t with
  | zero => unfold St S0; rw [if_pos rfl, if_pos hi]
  | succ k =>
    have hk : pr (k + 1) = ⟨k, by omega⟩ := pr_succ ⟨k, by omega⟩
    unfold St S0 SA
    rw [if_neg (Nat.succ_ne_zero _), if_neg (by rw [hi]; exact Nat.succ_ne_zero _)]
    rcases P.fi ⟨k + 1, ht⟩ with hf | hf
    · obtain ⟨e1, e2, e3⟩ := P.same k ht hf
      rw [if_neg (by rw [hf]; decide)]
      iintro ⟨H1, H2⟩
      isplitl [H1]
      · rw [Cur_congr c W (e2.trans (congrArg Sl hk.symm)) (e1.trans (congrArg B hk.symm)) _ (P.sl _) _ (P.b _)]; iexact H1
      · rw [Nxt_congr c W (congrArg (Scalar.subi 1#32) (e2.trans (congrArg Sl hk.symm))) (e3.trans (congrArg Nx hk.symm)) _ (other_lt (P.sl _))]; iexact H2
    · obtain ⟨e1, e2⟩ := P.first k ht hf
      rw [if_pos hf]
      have hx : (Nx (pr (k + 1))).toNat < 32 := by rw [hk, ← e1]; exact P.b _
      unfold Nxt
      rw [dif_pos hx]
      have e2' : Sl ⟨k + 1, ht⟩ = Scalar.subi 1#32 (Sl (pr (k + 1))) := e2.trans (by rw [hk]; rfl)
      iintro ⟨H1, H2⟩
      isplitl [H2]
      · rw [Fly_congr c W e2' (e1.trans (congrArg Nx hk.symm)) _ (other_lt (P.sl _)) _ hx]; iexact H2
      · ihave H := (Cur_free c W _ _ _ _) $$ H1
        rw [Free_congr c W (show Scalar.subi 1#32 (Sl ⟨k + 1, ht⟩) = Sl (pr (k + 1)) by rw [e2', other_other (P.sl _)]) _ (P.sl _)]
        iexact H

/-- After the last point both slots are free. -/
theorem St_end (c : Dev nD) (W : WBuf F c) :
    St P c W 96 ⊢ iprop(Free c W 0#32 (by decide) ∗ Free c W 1#32 (by decide)) := by
  have h96 : St P c W 96 = _ := St_succ P c W 95
  rw [h96]
  unfold Nxt
  rw [dif_neg (by rw [P.last]; decide)]
  rcases two_cases (P.sl 95) with h | h
  · iintro ⟨H1, H2⟩
    ihave H := (Cur_free c W _ _ _ _) $$ H1
    isplitl [H]
    · rw [Free_congr c W h.symm _ (P.sl 95)]; iexact H
    · rw [Free_congr c W (show (1#32 : BitVec 32) = Scalar.subi 1#32 (Sl 95) by rw [h]; decide) _ (other_lt (P.sl 95))]; iexact H2
  · iintro ⟨H1, H2⟩
    ihave H := (Cur_free c W _ _ _ _) $$ H1
    isplitl [H2]
    · rw [Free_congr c W (show (0#32 : BitVec 32) = Scalar.subi 1#32 (Sl 95) by rw [h]; decide) _ (other_lt (P.sl 95))]; iexact H2
    · rw [Free_congr c W h.symm _ (P.sl 95)]; iexact H

/-! ## The scratch as two slots, the weights' share as two halves -/

theorem slotOff_inb (j : Fin 2) : ∀ a, (![j.val, 0, 0] : Fin 3 → ℕ) a + S1x4096x1024.size a ≤ S2x4096x1024.size a := by
  have := j.isLt; intro a; fin_cases a <;> simp [S1x4096x1024, S2x4096x1024] <;> omega
/-- The scratch's elements in slot `j`. -/
abbrev slotSet (j : Fin 2) : Finset S2x4096x1024.Idx := (Rect.unit (s := S2x4096x1024) ![j.val, 0, 0] S1x4096x1024.size (slotOff_inb j)).set
theorem slotM_set (o : Fin 3 → ℕ) (h : ∀ a, o a + S1x4096x1024.size a ≤ S2x4096x1024.size a) :
    (slotM o h).view.set = (Rect.unit (s := S2x4096x1024) o S1x4096x1024.size h).set := by
  simp only [slotM, Memref.view_squeeze, View.set_reshape]; exact View.set_slice_whole _ _
theorem slots_disjoint (j j' : Fin 2) (hj : j ≠ j') : Disjoint (slotSet j) (slotSet j') :=
  Ring.lead_disjoint (s := S2x4096x1024) (0 : Fin 3) 1 (fun j : Fin 2 => (![j.val, 0, 0] : Fin 3 → Nat)) S1x4096x1024.size slotOff_inb (fun j => by simp) rfl j j' hj
theorem slots_cover : Finset.univ.biUnion slotSet = Finset.univ :=
  Ring.lead_cover (s := S2x4096x1024) (0 : Fin 3) 1 (fun j : Fin 2 => (![j.val, 0, 0] : Fin 3 → Nat)) S1x4096x1024.size slotOff_inb (fun j => by simp)
    (fun j a ha => by fin_cases a <;> first | exact absurd rfl ha | rfl) rfl (fun a ha => by fin_cases a <;> first | exact absurd rfl ha | rfl) rfl

/-- Slot `v` held at contents `f`. -/
abbrev slotP (c : Dev nD) (v : BitVec 32) (hv : v.toNat < 2) (f : Buf (Elt F) ((c : Thread nD τ).loc cc0_scratch0)) : sProp 𝕄 :=
  (slotM (offW v) (slot_inb hv)).view.loc (c : Thread nD τ) ↦[(slotM (offW v) (slot_inb hv)).view.set]{fullShare} f
theorem slotP_eq0 (c : Dev nD) (f) : slotP (F := F) c 0#32 (by decide) f = (((c : Thread nD τ).loc cc0_scratch0) ↦[slotSet 0]{fullShare} f : sProp 𝕄) := by
  unfold slotP; rw [slotM_set]; rfl
theorem slotP_eq1 (c : Dev nD) (f) : slotP (F := F) c 1#32 (by decide) f = (((c : Thread nD τ).loc cc0_scratch0) ↦[slotSet 1]{fullShare} f : sProp 𝕄) := by
  unfold slotP; rw [slotM_set]; rfl
theorem slots_in (c : Dev nD) : iprop(∃ f : Buf (Elt F) ((c : Thread nD τ).loc cc0_scratch0), ((c : Thread nD τ).loc cc0_scratch0) ↦{fullShare} f)
    ⊢ (iprop((∃ f, slotP c 0#32 (by decide) f) ∗ ∃ f, slotP c 1#32 (by decide) f) : sProp 𝕄) :=
  Ring.slots2_split (U := Pipeline.UD sig nD τ) (ℓ := (c : Thread nD τ).loc cc0_scratch0) (q := fullShare) slotSet slots_disjoint slots_cover
    (slotP c 0#32 (by decide)) (slotP c 1#32 (by decide)) (slotP_eq0 c) (slotP_eq1 c)
theorem slots_out (c : Dev nD) : (iprop((∃ f, slotP c 0#32 (by decide) f) ∗ ∃ f, slotP c 1#32 (by decide) f) : sProp 𝕄)
    ⊢ iprop(∃ f : Buf (Elt F) ((c : Thread nD τ).loc cc0_scratch0), ((c : Thread nD τ).loc cc0_scratch0) ↦{fullShare} f) :=
  Ring.slots2_join (U := Pipeline.UD sig nD τ) (ℓ := (c : Thread nD τ).loc cc0_scratch0) (q := fullShare) slotSet slots_disjoint slots_cover
    (slotP c 0#32 (by decide)) (slotP c 1#32 (by decide)) (slotP_eq0 c) (slotP_eq1 c)

theorem sem0 : SemLoc.dma (semS (offS 0#32) (sem_inb (by decide))) = (SemLoc.dma 6 : SemLoc sig) := by decide
theorem sem1 : SemLoc.dma (semS (offS 1#32) (sem_inb (by decide))) = (SemLoc.dma 7 : SemLoc sig) := by decide

/-- The scratch, its two semaphores at zero and the weights: both slots free. -/
theorem free_in (c : Dev nD) (W : WBuf F c) :
    iprop((∃ f : Buf (Elt F) ((c : Thread nD τ).loc cc0_scratch0), ((c : Thread nD τ).loc cc0_scratch0) ↦{fullShare} f)
      ∗ (semVal ((c : Thread nD τ), SemLoc.dma 6) 0 ∗ semVal ((c : Thread nD τ), SemLoc.dma 7) 0) ∗ wLoc c ↦{fullShare} W)
    ⊢ (iprop(Free c W 0#32 (by decide) ∗ Free c W 1#32 (by decide)) : sProp 𝕄) := by
  unfold Free
  rw [sem0, sem1, show shr 0#32 = fullShare.left from rfl, show shr 1#32 = fullShare.right from rfl]
  iintro ⟨Hs, ⟨H4, H5⟩, Hw⟩
  ihave Hs' := (slots_in c) $$ Hs
  icases Hs' with ⟨Hs0, Hs1⟩
  icases Hw with ⟨Hw0, Hw1⟩
  isplitl [Hs0 H4 Hw0]
  · isplitl [Hs0]; · iexact Hs0
    isplitl [H4]; · iexact H4
    iexact Hw0
  isplitl [Hs1]; · iexact Hs1
  isplitl [H5]; · iexact H5
  iexact Hw1

/-- And back. -/
theorem free_out (c : Dev nD) (W : WBuf F c) :
    (iprop(Free c W 0#32 (by decide) ∗ Free c W 1#32 (by decide)) : sProp 𝕄) ⊢
    iprop((∃ f : Buf (Elt F) ((c : Thread nD τ).loc cc0_scratch0), ((c : Thread nD τ).loc cc0_scratch0) ↦{fullShare} f)
      ∗ (semVal ((c : Thread nD τ), SemLoc.dma 6) 0 ∗ semVal ((c : Thread nD τ), SemLoc.dma 7) 0) ∗ wLoc c ↦{fullShare} W) := by
  unfold Free
  rw [sem0, sem1, show shr 0#32 = fullShare.left from rfl, show shr 1#32 = fullShare.right from rfl]
  iintro ⟨⟨Hs0, H4, Hw0⟩, ⟨Hs1, H5, Hw1⟩⟩
  isplitl [Hs0 Hs1]
  · iapply (slots_out c)
    isplitl [Hs0]; · iexact Hs0
    iexact Hs1
  isplitl [H4 H5]
  · isplitl [H4]; · iexact H4
    iexact H5
  icombine Hw0 Hw1 as Hw
  iexact Hw

end Cert.Kernel6Ideal.Hand
-- ==== Proof.UpBody.lean ====
module
public import proofs.«01_k».proof.Proof.UpState
public import Idealize.ShloMosaic.Lib.Claim

/-!
The frame of `expert_up`: under the plan's properties every grid point's body runs, and so does the whole call,
leaving its arguments as they were and in each block of the result what `outv` says.
-/

@[expose] public noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen
open Cert.GatePlan (PlanOK wd)

variable {F : FTy → Type} [FloatOps F]
local notation "𝕄" => MT nD τ sig Unit (Elt F) ℕ (Pipeline.UD sig nD τ) ℕ

/-! ## A block's computation, by its number of valid rows -/

theorem conds (n : BitVec 32) (hn : n.toNat ≤ 512) :
    (k0_cond4 n = 1#1 ↔ 0 < n.toNat ∧ n.toNat ≤ 128) ∧ (k0_cond5 n = 1#1 ↔ 128 < n.toNat ∧ n.toNat ≤ 256)
    ∧ (k0_cond6 n = 1#1 ↔ 256 < n.toNat ∧ n.toNat ≤ 384) ∧ (k0_cond7 n = 1#1 ↔ 384 < n.toNat) ∧ (k0_cond8 n = 1#1 ↔ n.toNat = 0) := by
  obtain ⟨k, hk, rfl⟩ : ∃ k : ℕ, k < 513 ∧ n = BitVec.ofNat 32 k := ⟨n.toNat, by omega, by simp⟩
  have key : ∀ k : Fin 513, (k0_cond4 (BitVec.ofNat 32 k.val) = 1#1 ↔ 0 < k.val ∧ k.val ≤ 128) ∧ (k0_cond5 (BitVec.ofNat 32 k.val) = 1#1 ↔ 128 < k.val ∧ k.val ≤ 256)
    ∧ (k0_cond6 (BitVec.ofNat 32 k.val) = 1#1 ↔ 256 < k.val ∧ k.val ≤ 384) ∧ (k0_cond7 (BitVec.ofNat 32 k.val) = 1#1 ↔ 384 < k.val) ∧ (k0_cond8 (BitVec.ofNat 32 k.val) = 1#1 ↔ k.val = 0) := by
    decide +kernel
  have e : (BitVec.ofNat 32 k).toNat = k := by rw [BitVec.toNat_ofNat]; omega
  rw [e]; exact key ⟨k, hk⟩

/-- What a block of the result holds after its point: `n` valid rows, rounded up to a multiple of 128, computed from the
    block `X` of packed rows, the block `G` of the gate and the expert's weights `D`; zeros after them. -/
def outv (n : BitVec 32) (X : Vec F S8192x128 .i32) (G : Vec F S512x1024 .bf16) (D : Vec F S4096x1024 .f32) : Vec F S512x1024 .bf16 :=
  if n.toNat = 0 then out0 else if n.toNat ≤ 128 then out128 X G D else if n.toNat ≤ 256 then out256 X G D else if n.toNat ≤ 384 then out384 X G D else out512 X G D

theorem chk6 (s n : BitVec 32) (hs : s.toNat < 2) : k0_chk6 s n :=
  ⟨fun _ => slot_inb hs, fun _ => slot_inb hs, fun _ => slot_inb hs, fun _ => slot_inb hs⟩

/-- The computation of a block, for every number of valid rows. -/
theorem run_any (c : Dev nD) (i : grid0.Coords) (s n : BitVec 32) (hs : s.toNat < 2) (hn : n.toNat ≤ 512)
    (arg7 : Memref sig .tc .vmem S8192x128 .i32) (harg7 : arg7.IsWhole) (arg9 : Memref sig .tc .vmem S512x1024 .bf16) (harg9 : arg9.IsWhole) (arg10 : Memref sig .tc .vmem S512x1024 .bf16) (harg10 : arg10.IsWhole)
    (X : Vec F S8192x128 .i32) (G : Vec F S512x1024 .bf16) (D : Vec F S4096x1024 .f32) (K : PUnit → sProp 𝕄) :
    iprop(owns (c : Thread nD τ) arg7 fullShare X ∗ owns (c : Thread nD τ) (slotM (offW s) (slot_inb hs)) fullShare D ∗ owns (c : Thread nD τ) arg9 fullShare G ∗ (∃ d, owns (c : Thread nD τ) arg10 fullShare d)
      ∗ (iprop(owns (c : Thread nD τ) arg7 fullShare X ∗ owns (c : Thread nD τ) (slotM (offW s) (slot_inb hs)) fullShare D ∗ owns (c : Thread nD τ) arg9 fullShare G ∗ owns (c : Thread nD τ) arg10 fullShare (outv n X G D)) -∗ K ⟨⟩))
      ⊢ wp frame (wpE (defs₀ (F := F)) Variants.none (c : Thread nD τ) none) Set.univ
          (comp i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg7 harg7 (Memref.whole main_arg7) (Memref.isWhole_whole _) arg9 harg9 arg10 harg10 (Memref.whole cc0_scratch0) (Memref.isWhole_whole _) cc0_scratch1 s n (chk6 s n hs)) K := by
  obtain ⟨c4, c5, c6, c7, c8⟩ := conds n hn
  unfold outv
  by_cases h8 : n.toNat = 0
  · rw [if_pos h8]
    refine BIBase.Entails.trans ?_ (run0 c i s n (chk6 s n hs) (by rw [c4]; omega) (by rw [c5]; omega) (by rw [c6]; omega) (by rw [c7]; omega) (c8.mpr h8) arg7 harg7 arg9 harg9 arg10 harg10 X G K)
    iintro ⟨HX, HD, HG, HO, Hk⟩
    isplitl [HX]; · iexact HX
    isplitl [HG]; · iexact HG
    isplitl [HO]; · iexact HO
    iintro ⟨HX, HG, HO⟩
    iapply Hk
    isplitl [HX]; · iexact HX
    isplitl [HD]; · iexact HD
    isplitl [HG]; · iexact HG
    iexact HO
  rw [if_neg h8]
  by_cases h4 : n.toNat ≤ 128
  · rw [if_pos h4]
    exact run128 c i s n (chk6 s n hs) (c4.mpr ⟨by omega, h4⟩) (by rw [c5]; omega) (by rw [c6]; omega) (by rw [c7]; omega) (by rw [c8]; omega) arg7 harg7 arg9 harg9 arg10 harg10 X G D K
  rw [if_neg h4]
  by_cases h5 : n.toNat ≤ 256
  · rw [if_pos h5]
    exact run256 c i s n (chk6 s n hs) (by rw [c4]; omega) (c5.mpr ⟨by omega, h5⟩) (by rw [c6]; omega) (by rw [c7]; omega) (by rw [c8]; omega) arg7 harg7 arg9 harg9 arg10 harg10 X G D K
  rw [if_neg h5]
  by_cases h6 : n.toNat ≤ 384
  · rw [if_pos h6]
    exact run384 c i s n (chk6 s n hs) (by rw [c4]; omega) (by rw [c5]; omega) (c6.mpr ⟨by omega, h6⟩) (by rw [c7]; omega) (by rw [c8]; omega) arg7 harg7 arg9 harg9 arg10 harg10 X G D K
  rw [if_neg h6]
  exact run512 c i s n (chk6 s n hs) (by rw [c4]; omega) (by rw [c5]; omega) (by rw [c6]; omega) (c7.mpr (by omega)) (by rw [c8]; omega) arg7 harg7 arg9 harg9 arg10 harg10 X G D K

/-! ## The tables' words as the body reads them -/

theorem first_val (h : 0 < S1.numel) (a : Fin 1) : ((Shape.Idx.first h : S1.Idx) a).val = 0 := by
  obtain rfl : a = 0 := Subsingleton.elim _ _
  have := ((Shape.Idx.first h : S1.Idx) 0).isLt
  have h1 : S1.size 0 = 1 := rfl
  omega
theorem idx96_ext {x y : S96.Idx} (h : (x 0).val = (y 0).val) : x = y := by
  funext a
  obtain rfl : a = 0 := Subsingleton.elim _ _
  exact Fin.ext h

theorem rd0 (c : Dev nD) (T : Buf (Elt F) ((Memref.whole main_arg0).view.loc (c : Thread nD τ))) (off : Fin 1 → ℕ) (h) (t : Fin 96) (ht : off 0 = t.val) :
    rd c (Memref.whole main_arg0) T off h = wd T t := by
  refine congrArg T (idx96_ext ?_)
  show off 0 + 1 * ((Shape.Idx.first _ : S1.Idx) 0).val = t.val
  rw [ht, first_val]; rfl
theorem rd1 (c : Dev nD) (T : Buf (Elt F) ((Memref.whole main_arg1).view.loc (c : Thread nD τ))) (off : Fin 1 → ℕ) (h) (t : Fin 96) (ht : off 0 = t.val) :
    rd c (Memref.whole main_arg1) T off h = wd T t := by
  refine congrArg T (idx96_ext ?_)
  show off 0 + 1 * ((Shape.Idx.first _ : S1.Idx) 0).val = t.val
  rw [ht, first_val]; rfl
theorem rd2 (c : Dev nD) (T : Buf (Elt F) ((Memref.whole main_arg2).view.loc (c : Thread nD τ))) (off : Fin 1 → ℕ) (h) (t : Fin 96) (ht : off 0 = t.val) :
    rd c (Memref.whole main_arg2) T off h = wd T t := by
  refine congrArg T (idx96_ext ?_)
  show off 0 + 1 * ((Shape.Idx.first _ : S1.Idx) 0).val = t.val
  rw [ht, first_val]; rfl
theorem rd3 (c : Dev nD) (T : Buf (Elt F) ((Memref.whole main_arg3).view.loc (c : Thread nD τ))) (off : Fin 1 → ℕ) (h) (t : Fin 96) (ht : off 0 = t.val) :
    rd c (Memref.whole main_arg3) T off h = wd T t := by
  refine congrArg T (idx96_ext ?_)
  show off 0 + 1 * ((Shape.Idx.first _ : S1.Idx) 0).val = t.val
  rw [ht, first_val]; rfl
theorem rd5 (c : Dev nD) (T : Buf (Elt F) ((Memref.whole main_arg5).view.loc (c : Thread nD τ))) (off : Fin 1 → ℕ) (h) (t : Fin 96) (ht : off 0 = t.val) :
    rd c (Memref.whole main_arg5) T off h = wd T t := by
  refine congrArg T (idx96_ext ?_)
  show off 0 + 1 * ((Shape.Idx.first _ : S1.Idx) 0).val = t.val
  rw [ht, first_val]; rfl

theorem coord0 (i : grid0.Coords) : (BitVec.ofNat 32 (i 0).val).toNat = (i 0).val := by
  have h : (i 0).val < 96 := (i 0).isLt
  rw [BitVec.toNat_ofNat]; omega
theorem off1_0 (i : grid0.Coords) : k0_off1 i 0 = (i 0).val := coord0 i
theorem off3_0 (i : grid0.Coords) : k0_off3 i 0 = (i 0).val := coord0 i
theorem off7_0 (i : grid0.Coords) : k0_off7 i 0 = (i 0).val := coord0 i
theorem off8_0 (i : grid0.Coords) : k0_off8 i 0 = (i 0).val := coord0 i
theorem off12_0 (i : grid0.Coords) : k0_off12 i 0 = (i 0).val := coord0 i
theorem coords_val : ∀ t : Fin grid0.N, (grid0.coords t 0).val = t.val := by decide +kernel

end Cert.Kernel6Ideal.Hand
-- ==== Proof.UpFrame.lean ====
module
public import proofs.«01_k».proof.Proof.UpBody

/-!
The launch of `expert_up`: its pipeline's proof data, the body obligation and the run of the whole call, for any
memory whose tables are a plan.
-/

@[expose] public noncomputable section
set_option maxRecDepth 16384

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen
open Cert.GatePlan (PlanOK wd)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The region's entry -/

/-- A buffer as launched: no host operation precedes the call. -/
abbrev V (c : Dev nD) (b : Ref sig .tc) : Buf (Elt F) ((c : Thread nD τ).loc b) := m ((c : Thread nD τ).loc b)
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main main_chain

/-- The tables' contents. -/
def tbl : pre0.Contents (Elt F) := fun j => V m (0 : Dev nD) (pre0.ref j)
theorem V_pre (c : Dev nD) (j : Fin 6) : V m c (pre0.ref j) = tbl m j := by
  obtain rfl : c = 0 := Subsingleton.elim _ _; rfl

/-- The tables in memory are a plan. -/
abbrev Plan (c : Dev nD) : Prop :=
  PlanOK (wd (V m c main_arg0)) (wd (V m c main_arg1)) (wd (V m c main_arg2)) (wd (V m c main_arg3)) (wd (V m c main_arg5)) (V m c main_arg4 (Shape.Idx.ofFin (0 : Fin 1)))

/-- The block of packed rows a point reads: its own, or the last used one's. -/
theorem transform0 (i : grid0.Coords) : cc0_transform_0 inb_S1_S1_0 numel1_S1 (tbl m) i
    = ![(Scalar.minsi (BitVec.ofNat 32 (i 0).val) (Scalar.subi (V m (0 : Dev nD) main_arg4 (Shape.Idx.ofFin (0 : Fin 1))) 1#32)).toNat, 0] := by
  have h : (tbl m).at 4 (Rect.unit (s := S1) ![0] S1.size inb_S1_S1_0) numel1_S1 = V m (0 : Dev nD) main_arg4 (Shape.Idx.ofFin (0 : Fin 1)) := by
    show V m (0 : Dev nD) main_arg4 _ = _
    refine congrArg _ ?_
    funext a
    obtain rfl : a = (0 : Fin 1) := Subsingleton.elim (α := Fin 1) _ _
    apply Fin.ext
    have h1 : S1.size 0 = 1 := rfl
    exact (Nat.lt_one_iff.mp (lt_of_lt_of_eq (Fin.isLt _) h1)).trans rfl
  unfold cc0_transform_0
  rw [h]; rfl

/-- The gate's block a point reads: its own, or the last used one's. -/
theorem transform2 (i : grid0.Coords) : cc0_transform_2 inb_S1_S1_0 numel1_S1 (tbl m) i
    = ![(Scalar.minsi (BitVec.ofNat 32 (i 0).val) (Scalar.subi (V m (0 : Dev nD) main_arg4 (Shape.Idx.ofFin (0 : Fin 1))) 1#32)).toNat, 0] :=
  transform0 m i

theorem min_lt {a n : BitVec 32} (ha : a.toNat < 96) (h1 : 1 ≤ n.toNat) (h2 : n.toNat ≤ 96) :
    (Scalar.minsi a (Scalar.subi n 1#32)).toNat = min a.toNat (n.toNat - 1) := by
  have hs : (Scalar.subi n 1#32).toNat = n.toNat - 1 := by
    show (n - 1#32).toNat = _
    rw [BitVec.toNat_sub]; simp; omega
  have hk : a.slt (Scalar.subi n 1#32) = true ↔ a.toNat < n.toNat - 1 := by
    have := StableHlo.Predicate.slt_bool_iff_toNat (a := a) (b := Scalar.subi n 1#32) (by omega) (by rw [hs]; omega)
    rw [hs] at this
    rw [← this]
    cases a.slt (Scalar.subi n 1#32) <;> decide
  show (if a.slt (Scalar.subi n 1#32) then a else Scalar.subi n 1#32).toNat = _
  by_cases h : a.toNat < n.toNat - 1
  · rw [if_pos (hk.mpr h)]; omega
  · rw [if_neg (fun h' => h (hk.mp h')), hs]; omega

variable (P : ∀ c : Dev nD, Plan m c)
include P

/-- The block a point reads is one of the 96. -/
theorem blk_lt (i : grid0.Coords) :
    (Scalar.minsi (BitVec.ofNat 32 (i 0).val) (Scalar.subi (V m (0 : Dev nD) main_arg4 (Shape.Idx.ofFin (0 : Fin 1))) 1#32)).toNat < 96 := by
  have hi : (i 0).val < 96 := (i 0).isLt
  have h := min_lt (a := BitVec.ofNat 32 (i 0).val) (by rw [coord0]; exact hi) (P 0).nu1 (P 0).nu96
  rw [h, coord0]; omega

/-- Every block of packed rows and of the gate lies inside its array. -/
theorem ok_of_plan : ok0 (F := F) (tbl m) := by
  refine ⟨fun i => ⟨fun a => ?_, Or.inl rfl⟩, fun i => ⟨fun a => ?_, .inr (Affine.block_words_dvd (of_decide_eq_true rfl) (by decide))⟩⟩
  · rw [transform0]
    have key : ∀ x : ℕ, x < 96 → ∀ a : Fin 2, ((![x, 0] : Fin 2 → ℕ) a + 1) * S8192x128.size a ≤ S786432x128.size a := by
      intro x hx a
      obtain rfl | rfl : a = 0 ∨ a = 1 := by omega
      · show (x + 1) * 8192 ≤ 786432
        omega
      · show (0 + 1) * 128 ≤ 128
        omega
    exact key _ (blk_lt m P i) a
  · rw [transform2]
    have key : ∀ x : ℕ, x < 96 → ∀ a : Fin 2, ((![x, 0] : Fin 2 → ℕ) a + 1) * S512x1024.size a ≤ S49152x1024.size a := by
      intro x hx a
      obtain rfl | rfl : a = 0 ∨ a = 1 := by omega
      · show (x + 1) * 512 ≤ 49152
        omega
      · show (0 + 1) * 1024 ≤ 1024
        omega
    exact key _ (blk_lt m P i) a

abbrev adm : (pcfg0 (F := F)).Adm := ⟨tbl m, ok_of_plan m P⟩
abbrev cfgM : Pipeline.Cfg sig Λ₀ := cfg0 (adm m P)

omit P in
theorem PhiT0_eq (c : Dev nD) : (Pipeline.ΦT pre0 (tbl m) c : sProp 𝕄) = iprop(tbPt c (Memref.whole main_arg0) (tbl m 0) ∗ tbPt c (Memref.whole main_arg1) (tbl m 1)
    ∗ tbPt c (Memref.whole main_arg2) (tbl m 2) ∗ tbPt c (Memref.whole main_arg3) (tbl m 3) ∗ tbPt c (Memref.whole main_arg4) (tbl m 4) ∗ tbPt c (Memref.whole main_arg5) (tbl m 5)) := by
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

/-! ## The call's own semaphores and the weights -/

omit P in
theorem ownSemFacts0 : Pipeline.OwnSemFacts spec0 (fun j : Fin 2 => (![SemLoc.dma 6, SemLoc.dma 7] : Fin 2 → SemLoc sig) j) := by decide
abbrev osem0 : Fin 2 → SemLoc sig := fun j => (![SemLoc.dma 6, SemLoc.dma 7] : Fin 2 → SemLoc sig) j
omit P in
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0) := by
  rw [Pipeline.ownSems0_eq_of_list c osem0 [0, 1] (by decide) (by decide)]; rfl
def H0 : Finset (Ref sig .tc) := {main_arg7}
omit P in
theorem H0_sub : H0 ⊆ Pipeline.restRefsP sig pre0 spec0 := by decide
omit P in
theorem hbmPts0_eq (c : Dev nD) :
    (bigSep H0 (fun b => ((c : Thread nD τ).loc b) ↦{fullShare} V m c b) : sProp 𝕄) = iprop(wLoc c ↦{fullShare} V m c main_arg7) := by
  rw [BI.bigSep_eq_bigSepL_of_eq [main_arg7] (by decide) (by decide)]; rfl
omit P in
theorem PhiD0_eq (c : Dev nD) : (Pipeline.ΦD osem0 spec0 H0 (V m) c : sProp 𝕄)
    = iprop((∃ f : Buf (Elt F) ((c : Thread nD τ).loc cc0_scratch0), ((c : Thread nD τ).loc cc0_scratch0) ↦{fullShare} f) ∗ (∃ r, prngReg c r)
      ∗ (semVal ((c : Thread nD τ), SemLoc.dma 6) 0 ∗ semVal ((c : Thread nD τ), SemLoc.dma 7) 0) ∗ wLoc c ↦{fullShare} V m c main_arg7) := by
  rw [Pipeline.ΦD_eq, scopedRest0_eq, ownSems00_eq, hbmPts0_eq]

/-! ## The proof data -/

/-- Window `w`'s block at point `t`. -/
def iblk (c : Dev nD) (w : Fin (cfgM m P).W) (t : Fin (cfgM m P).N) : (((cfgM m P).win w).xblock ((cfgM m P).grid.coords t)).Idx → Elt F ((cfgM m P).win w).elt :=
  (((cfgM m P).win w).blk t).view.read (Elt F) (V m c (Pipeline.arrRef spec0 w))

/-- A point of the grid as a block's number. -/
abbrev pt (t : Fin (cfgM m P).N) : Fin 96 := ⟨t.val, lt_of_lt_of_eq t.isLt N_0⟩

/-- What the result's buffer holds after point `t`. -/
def outAt (c : Dev nD) (t : Fin (cfgM m P).N) : Vec F S512x1024 .bf16 :=
  outv (wd (V m c main_arg5) (pt m P t)) (iblk m P c 0 t) (iblk m P c 1 t) (wdat c (V m c main_arg7) (wd (V m c main_arg0) (pt m P t)) ((P c).b _))

/-- The invariant before point `k`: the slots' state, the tables and the generator register. -/
def Phi (c : Dev nD) (k : ℕ) : sProp 𝕄 :=
  iprop(St (P c) c (V m c main_arg7) k ∗ Pipeline.ΦT pre0 (tbl m) c ∗ (∃ r, prngReg c r))

def dats (_ : Fin 1) (c : Dev nD) : Dat τ (Elt F) Unit ℕ (Pipeline.UD sig nD τ) ℕ (cfgM m P) c where
  A w := V m c (Pipeline.arrRef spec0 w)
  after w t := match w with
    | ⟨0, _⟩ => iblk m P c 0 t
    | ⟨1, _⟩ => iblk m P c 1 t
    | ⟨2, _⟩ => outAt m P c t
  Φ k := Phi m P c k.val
  q _ := fullShare
  owed _ := 0

theorem A_eq (c : Dev nD) (w : Fin (cfgM m P).W) : (dats m P 0 c).A w = V m c (Pipeline.arrRef spec0 w) := by
  dsimp only [dats]
theorem after0_0 (c : Dev nD) (t : Fin (cfgM m P).N) : (dats m P 0 c).after 0 t = iblk m P c 0 t := rfl
theorem after0_1 (c : Dev nD) (t : Fin (cfgM m P).N) : (dats m P 0 c).after 1 t = iblk m P c 1 t := rfl
theorem after0_2 (c : Dev nD) (t : Fin (cfgM m P).N) : (dats m P 0 c).after 2 t = outAt m P c t := rfl
theorem before0_0 (c : Dev nD) (t : Fin (cfgM m P).N) (d) : (dats m P 0 c).before 0 t d = iblk m P c 0 t :=
  ((dats m P 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem before0_1 (c : Dev nD) (t : Fin (cfgM m P).N) (d) : (dats m P 0 c).before 1 t d = iblk m P c 1 t :=
  ((dats m P 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body obligation -/

abbrev st0_0 (t : Fin (cfgM m P).N) := ((cfgM m P).win 0).stage ((cfgM m P).slots t 0)
abbrev st0_1 (t : Fin (cfgM m P).N) := ((cfgM m P).win 1).stage ((cfgM m P).slots t 1)
abbrev st0_2 (t : Fin (cfgM m P).N) := ((cfgM m P).win 2).stage ((cfgM m P).slots t 2)
abbrev bodyAt0 (t : Fin (cfgM m P).N) : Prog (TpuEff nD τ sig (Elt F) Λ₀ .tc) PUnit :=
  cc0_expert_up (grid0.coords t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _)
    (spec0_0.stage ((cfgM m P).slots t 0)) (hstage0_0 (((cfgM m P).slots t 0).cast nbuf0_0)) (Memref.whole main_arg7) (Memref.isWhole_whole _)
    (spec0_1.stage ((cfgM m P).slots t 1)) (hstage0_1 (((cfgM m P).slots t 1).cast nbuf0_1))
    (spec0_2.stage ((cfgM m P).slots t 2)) (hstage0_2 (((cfgM m P).slots t 2).cast nbuf0_2)) (Memref.whole cc0_scratch0) (Memref.isWhole_whole _) cc0_scratch1

def bodyPre (c : Dev nD) (t : Fin (cfgM m P).N) : sProp 𝕄 :=
  iprop((dats m P 0 c).Φ t.castSucc ∗ (dats m P 0 c).owesAt () t.castSucc
    ∗ (∃ d, owns (c : Thread nD τ) (st0_0 m P t) fullShare ((dats m P 0 c).before 0 t d))
    ∗ (∃ d, owns (c : Thread nD τ) (st0_1 m P t) fullShare ((dats m P 0 c).before 1 t d))
    ∗ (∃ d, owns (c : Thread nD τ) (st0_2 m P t) fullShare ((dats m P 0 c).before 2 t d)))
def bodyPost (c : Dev nD) (t : Fin (cfgM m P).N) : sProp 𝕄 :=
  iprop((dats m P 0 c).Φ t.succ ∗ (dats m P 0 c).owesAt () t.succ
    ∗ owns (c : Thread nD τ) (st0_0 m P t) fullShare ((dats m P 0 c).after 0 t)
    ∗ owns (c : Thread nD τ) (st0_1 m P t) fullShare ((dats m P 0 c).after 1 t)
    ∗ owns (c : Thread nD τ) (st0_2 m P t) fullShare ((dats m P 0 c).after 2 t))

theorem sound_body (c : Dev nD) (t : Fin (cfgM m P).N) :
    bodyPre m P c t ⊢ wp frame (wpE (defs₀ (F := F)) Variants.none c none) Set.univ (bodyAt0 m P t) (fun _ => bodyPost m P c t) := by
  obtain rfl : c = 0 := Subsingleton.elim _ _
  have hi : ((grid0.coords t) 0).val = (pt m P t).val := coords_val t
  unfold bodyPre bodyPost bodyAt0
  simp only [before0_0, before0_1]
  rw [show (dats m P 0 0).Φ t.succ = Phi m P 0 (t.val + 1) from rfl, show (dats m P 0 0).Φ t.castSucc = Phi m P 0 (pt m P t).val from rfl, after0_0, after0_1, after0_2]
  unfold Dat.owesAt Pipeline.owesWithin
  rw [show (dats m P 0 0).owed t.castSucc = 0 from rfl, show (dats m P 0 0).owed t.succ = 0 from rfl]
  unfold Phi
  rw [PhiT0_eq, show St (P 0) 0 (V m 0 main_arg7) (t.val + 1) = _ from St_succ (P 0) 0 (V m 0 main_arg7) (pt m P t)]
  unfold outAt
  iintro ⟨⟨HS, ⟨HT0, HT1, HT2, HT3, HT4, HT5⟩, Hg⟩, ⟨%O, -, HO⟩, ⟨%d0, H0⟩, ⟨%d1, H1⟩, ⟨%d2, H2⟩⟩
  ihave HS := (St_S0 (P 0) 0 (V m 0 main_arg7) (grid0.coords t) (pt m P t) hi) $$ HS
  iapply (wp_body (0 : Dev nD) _ (V m 0 main_arg7) (grid0.coords t) (tbl m 0) (tbl m 1) (tbl m 2) (tbl m 3) (tbl m 5)
    (wd (V m 0 main_arg0) (pt m P t)) (wd (V m 0 main_arg1) (pt m P t)) (wd (V m 0 main_arg2) (pt m P t)) (wd (V m 0 main_arg3) (pt m P t)) (wd (V m 0 main_arg5) (pt m P t))
    ((P 0).b _) ((P 0).fi _) ((P 0).sl _) (other_lt ((P 0).sl _)) ((P 0).nx _)
    (fun h => by
      have h0 : pt m P t = 0 := Fin.ext (hi.symm.trans h)
      rw [h0]; exact ⟨(P 0).sl0, (P 0).fi0⟩)
    (fun h => by
      have h0 : pt m P t = 0 := Fin.ext (hi.symm.trans h)
      rw [h0]; exact rd0 0 _ _ _ 0 rfl)
    (rd0 0 _ _ _ _ ((off8_0 _).trans hi)) (rd1 0 _ _ _ _ ((off1_0 _).trans hi)) (rd1 0 _ _ _ _ ((off7_0 _).trans hi)) (rd2 0 _ _ _ _ ((off1_0 _).trans hi))
    (rd3 0 _ _ _ _ ((off1_0 _).trans hi)) (rd3 0 _ _ _ _ ((off3_0 _).trans hi)) (rd5 0 _ _ _ _ ((off12_0 _).trans hi))
    (chk6 _ _ ((P 0).sl _)) _ _ _ _ _ _ O) $$ [HT0 HT1 HT2 HT3 HT5 HS HO]
  · isplitl [HT0]; · iexact HT0
    isplitl [HT1]; · iexact HT1
    isplitl [HT2]; · iexact HT2
    isplitl [HT3]; · iexact HT3
    isplitl [HT5]; · iexact HT5
    isplitl [HS]; · iexact HS
    iexact HO
  iintro ⟨HT0, HT1, HT2, HT3, HT5, HC, HN, ⟨%O', HO⟩⟩
  iapply (run_any (0 : Dev nD) (grid0.coords t) _ _ ((P 0).sl (pt m P t)) ((P 0).nv (pt m P t)) _ _ _ _ _ _ (iblk m P 0 0 t) (iblk m P 0 1 t)
    (wdat (0 : Dev nD) (V m 0 main_arg7) (wd (V m 0 main_arg0) (pt m P t)) ((P 0).b _)) _)
  unfold Cur
  icases HC with ⟨HD, Hq, Hw⟩
  isplitl [H0]; · iexact H0
  isplitl [HD]; · iexact HD
  isplitl [H1]; · iexact H1
  isplitl [H2]; · iexists _; iexact H2
  iintro ⟨H0, HD, H1, H2⟩
  isplitl [HD Hq Hw HN HT0 HT1 HT2 HT3 HT4 HT5 Hg]
  · isplitl [HD Hq Hw HN]
    · isplitl [HD Hq Hw]
      · isplitl [HD]; · iexact HD
        isplitl [Hq]; · iexact Hq
        iexact Hw
      iexact HN
    isplitl [HT0 HT1 HT2 HT3 HT4 HT5]
    · isplitl [HT0]; · iexact HT0
      isplitl [HT1]; · iexact HT1
      isplitl [HT2]; · iexact HT2
      isplitl [HT3]; · iexact HT3
      isplitl [HT4]; · iexact HT4
      iexact HT5
    iexact Hg
  isplitl [HO]
  · iexists O'; isplitr; · ipureintro; exact fun _ _ => Or.inl trivial
    iexact HO
  isplitl [H0]; · iexact H0
  isplitl [H1]; · iexact H1
  iexact H2

theorem defs₀_row (t : Fin (cfgM m P).N) :
    defs₀ (F := F) .tc (cfgM m P).body ((cfgM m P).bodyArgs t ((cfgM m P).slots t)) = bodyAt0 m P t := by
  unfold defs₀; rw [Defs.onTc_tc]

omit P in
theorem idle_of (pf : pre0.Contents (Elt F)) (i : grid0.Coords) (x : BitVec 32) (hx : pf.atD 5 (k0_off12 i) = x) :
    idle0 pf 2 i = (!(k0_cond4 x == 1#1) && !(k0_cond5 x == 1#1) && !(k0_cond6 x == 1#1) && !(k0_cond7 x == 1#1) && !(k0_cond8 x == 1#1)) := by
  subst hx; rfl
/-- The result's block is stored at every point: exactly one of the five cases runs. -/
theorem never_idle (t : Fin (cfgM m P).N) : (cfgM m P).idle 2 ((cfgM m P).grid.coords t) = false := by
  have hc : (k0_off12 (grid0.coords t)) 0 = t.val := (off12_0 (grid0.coords t)).trans (coords_val t)
  have hl : t.val < 96 := lt_of_lt_of_eq t.isLt N_0
  have hin : ∀ a : Fin 1, (k0_off12 (grid0.coords t)) a + 1 ≤ S96.size a := by
    intro a
    obtain rfl : a = 0 := Subsingleton.elim _ _
    rw [hc]; exact hl
  have hw : (tbl m).atD 5 (k0_off12 (grid0.coords t)) = wd (V m (0 : Dev nD) main_arg5) (pt m P t) :=
    (dif_pos hin).trans (congrArg (V m (0 : Dev nD) main_arg5) (idx96_ext hc))
  refine (idle_of (tbl m) (grid0.coords t) _ hw).trans ?_
  obtain ⟨c4, c5, c6, c7, c8⟩ := conds _ ((P 0).nv (pt m P t))
  have : (k0_cond4 (wd (V m (0 : Dev nD) main_arg5) (pt m P t)) = 1#1) ∨ (k0_cond5 (wd (V m (0 : Dev nD) main_arg5) (pt m P t)) = 1#1)
      ∨ (k0_cond6 (wd (V m (0 : Dev nD) main_arg5) (pt m P t)) = 1#1) ∨ (k0_cond7 (wd (V m (0 : Dev nD) main_arg5) (pt m P t)) = 1#1)
      ∨ (k0_cond8 (wd (V m (0 : Dev nD) main_arg5) (pt m P t)) = 1#1) := by
    rw [c4, c5, c6, c7, c8]; omega
  rcases this with h | h | h | h | h <;> simp [h]

theorem body_obligation (c : Dev nD) : BodyObligation (dats (F := F) m P 0 c) (defs₀ (F := F)) Variants.none () Set.univ := fun t => by
  rw [bigSep_W0, bigSep_W0, defs₀_row]
  have hn := never_idle m P t
  exact triple_restated (sound_body m P c t) rfl .rfl fun _ => by
    show _ ⊢ iprop(_ ∗ _ ∗ _ ∗ _ ∗ (match (false : Bool) with
      | true => iprop(∃ X, owns (c : Thread nD τ) (st0_2 m P t) fullShare X)
      | false => match (cfgM m P).idle 2 ((cfgM m P).grid.coords t) with
        | true => _
        | false => _))
    rw [hn]; exact .rfl

/-! ## The run -/

set_option backward.isDefEq.respectTransparency.types false in
set_option maxHeartbeats 800000 in
theorem run_main : θ_run defs (onTc (τ := τ) (main (F := F))) (s₀ m ρ)
    (fun r => Pipeline.FramePost (Pipeline.pin pcfgs (fun _ => adm m P)) (dats m P) 0 (V m) r ∧ r.2.sem = fun _ => 0) :=
  Pipeline.θ_run_frameP_dma (Q' := _) pcfgs (fun _ => adm m P) (dats m P) (0 : Fin 1) launch0 osem0 defs₀ Variants.none ownSemFacts0 H0 H0_sub m ρ main
    (hbody := fun c => (body_obligation m P c).loose) (hshare := fun c => (dats m P 0 c).share_full fun _ => rfl)
    (howed := fun _ _ => rfl) (V := V m) (hmain := hmain m Variants.none) (hA := A_eq m P) (hpf := V_pre m)
    (hin := fun c => by
      change _ ⊢ Phi m P c 0
      rw [PhiD0_eq]; unfold Phi St; rw [if_pos rfl]
      iintro ⟨⟨HS, Hg, Hq, Hw⟩, HT⟩
      isplitl [HS Hq Hw]
      · iapply (free_in c _)
        isplitl [HS]; · iexact HS
        isplitl [Hq]; · iexact Hq
        iexact Hw
      isplitl [HT]; · iexact HT
      iexact Hg)
    (hout := fun c => by
      change Phi m P c 96 ⊢ _
      rw [PhiD0_eq]; unfold Phi
      iintro ⟨HS, HT, Hg⟩
      ihave HS := (St_end (P c) c (V m c main_arg7)) $$ HS
      ihave HS := (free_out c _) $$ HS
      icases HS with ⟨HS, Hq, Hw⟩
      isplitl [HS]; · iexact HS
      isplitl [Hg]; · iexact Hg
      isplitl [Hq]; · iexact Hq
      iexact Hw)

end Cert.Kernel6Ideal.Hand
-- ==== Proof.UpClaim.lean ====
module
public import proofs.«01_k».proof.Defs
public import proofs.«01_k».proof.Proof.UpFrame
public import proofs.«01_k».proof.Proof.Gen.Pre_plan_ok6
public import proofs.«01_k».proof.Proof.Gen.Kernel6

/-!
The frames of `expert_up`: under a plan the call runs to its end, leaves its arguments as they were and its
semaphores at zero. The kernel's text and its ideal's are the same, so the run is written once over any float.
-/

@[expose] public noncomputable section

namespace Cert.Kernel6Ideal.Hand

open Idealize.ShloMosaic Idealize.ShloMosaic.TcCoe
open Idealize.SL Idealize.SL.Sem
open Idealize.ShloMosaic.Pipeline (Dat Cfg Window)
open Cert.Kernel6Ideal Cert.Kernel6Ideal.Gen

variable {F : FTy → Type} [FloatOps F]

/-- Under a plan the call ends with its arguments unchanged and every semaphore at zero. -/
theorem frame_of_plan (m : (ℓ : Loc nD τ sig) → Buf (Elt F) ℓ) (ρ : Dev nD → PrngReg) (P : ∀ c : Dev nD, Plan m c) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨(h.1 c).2 main_arg0 (Pipeline.mem_restRefs_of main_arg0 (by decide) (show ∀ w : Fin 3, (spec0 w).arr.view.ref ≠ main_arg0 from by decide)),
     (h.1 c).2 main_arg1 (Pipeline.mem_restRefs_of main_arg1 (by decide) (show ∀ w : Fin 3, (spec0 w).arr.view.ref ≠ main_arg1 from by decide)),
     (h.1 c).2 main_arg2 (Pipeline.mem_restRefs_of main_arg2 (by decide) (show ∀ w : Fin 3, (spec0 w).arr.view.ref ≠ main_arg2 from by decide)),
     (h.1 c).2 main_arg3 (Pipeline.mem_restRefs_of main_arg3 (by decide) (show ∀ w : Fin 3, (spec0 w).arr.view.ref ≠ main_arg3 from by decide)),
     (h.1 c).2 main_arg4 (Pipeline.mem_restRefs_of main_arg4 (by decide) (show ∀ w : Fin 3, (spec0 w).arr.view.ref ≠ main_arg4 from by decide)),
     (h.1 c).2 main_arg5 (Pipeline.mem_restRefs_of main_arg5 (by decide) (show ∀ w : Fin 3, (spec0 w).arr.view.ref ≠ main_arg5 from by decide)),
     ((h.1 c).1 0).trans (((dats m P 0 c).arrAt_in 0 rfl _).trans (A_eq m P c 0)),
     (h.1 c).2 main_arg7 (Pipeline.mem_restRefs_of main_arg7 (by decide) (show ∀ w : Fin 3, (spec0 w).arr.view.ref ≠ main_arg7 from by decide)),
     ((h.1 c).1 1).trans (((dats m P 0 c).arrAt_in 1 rfl _).trans (A_eq m P c 1))⟩, h.2⟩) (run_main m ρ P)

end Cert.Kernel6Ideal.Hand

namespace Cert.Proof

open Idealize.ShloMosaic Idealize.ShloMosaic.Tactic Idealize.SL.Sem
open Cert.Kernel6Ideal.Hand

/-- The precondition makes the tables a plan. -/
theorem plan_ideal6 (m : (ℓ : Loc Cert.Kernel6Ideal.nD Cert.Kernel6Ideal.τ Cert.Kernel6Ideal.sig) → Buf (Elt Ideal) ℓ)
    (h : Cert.Pre_Kernel6Ideal m) (c : Dev Cert.Kernel6Ideal.nD) : Plan m c :=
  Cert.GatePlan.plan_of6 _ _ _ _ _ _ _ _ _ (h c).1 (h c).2.1 (h c).2.2.1 (h c).2.2.2.1 (h c).2.2.2.2

theorem plan_bits6 (m : (ℓ : Loc Cert.Kernel6.nD Cert.Kernel6.τ Cert.Kernel6.sig) → Buf (Elt Bits) ℓ)
    (h : Cert.Pre_Kernel6 m) (c : Dev Cert.Kernel6.nD) : Plan (F := Bits) m c :=
  Cert.GatePlan.plan_of6 _ _ _ _ _ _ _ _ _ (h c).1 (h c).2.1 (h c).2.2.1 (h c).2.2.2.1 (h c).2.2.2.2

/-- The frame of the ideal kernel. -/
theorem frame_Kernel6Ideal : Cert.quiescent_Kernel6Ideal := fun m ρ h =>
  frame_of_plan m ρ (plan_ideal6 m h)

/-- The kernel and its ideal have the same runs. -/
theorem runs_same6 (m : (ℓ : Loc Cert.Kernel6.nD Cert.Kernel6.τ Cert.Kernel6.sig) → Buf (Elt Bits) ℓ) (ρ : Dev Cert.Kernel6.nD → PrngReg)
    (Q : PUnit × MemSt Cert.Kernel6.nD Cert.Kernel6.τ Cert.Kernel6.sig (Elt Bits) → Prop) :
    θ_run (Cert.Kernel6Ideal.defs (F := Bits)) (onTc (τ := Cert.Kernel6Ideal.τ) (Cert.Kernel6Ideal.main (F := Bits))) ⟨m, fun _ => 0, ρ⟩ Q
      = θ_run (Cert.Kernel6.defs (F := Bits)) (onTc (τ := Cert.Kernel6.τ) (Cert.Kernel6.main (F := Bits))) ⟨m, fun _ => 0, ρ⟩ Q := by
  sl_kernel_rfl

/-- The frame of the kernel as it runs on the machine's floats. -/
theorem frame_Kernel6 : Cert.quiescent_Kernel6 := fun m ρ h =>
  Eq.mp (runs_same6 m ρ _) (frame_of_plan (F := Bits) m ρ (plan_bits6 m h))

end Cert.Proof
-- ==== Proof.UpHalf.lean ====
module
public import proofs.«01_k».proof.Proof.UpBody
public import Idealize.ShloMosaic.Lib.Pointwise

/-!
The tokens' words as numbers. A token's 4096 entries are stored as 2048 words of two 16-bit halves, 16 rows of 128 words a
token; `expert_up` takes the words of one lane of 128 at a time, splits each into its halves and puts the lanes side by
side. Entry `k` of the low (high) halves of row `r` is the low (high) half of word `k % 128` of row `16 r + k / 128`.
-/

@[expose] public noncomputable section
set_option maxRecDepth 16384

namespace Cert.Kernel6Ideal.Hand

open Idealize.ShloMosaic Idealize.ShloMosaic.TcCoe Idealize.ShloMosaic.Tactic
open Cert.Kernel6Ideal Cert.Kernel6Ideal.Gen

/-- The low (`i = 0`) or high (`i = 1`) half of a word, as a number. -/
def half (i : ℕ) (w : BitVec 32) : EReal := FloatOps.ofBits (F := Ideal) .bf16 (w.extractLsb' (i * 16) 16)

/-- A strided load that starts at one of a token's 16 rows of words stays inside the block. -/
theorem lane_inb128 (j : Fin 16) : ∀ a : Fin 2, S128x128.size a = 0 ∨ (![j.val, 0] : Fin 2 → ℕ) a + (![16, 1] : Fin 2 → ℕ) a * (S128x128.size a - 1) < S8192x128.size a := by
  intro a; right; fin_cases a <;> simp [S128x128, S8192x128] <;> omega

/-- The halves of one lane of the first 128 tokens' words. -/
def lane128 (i : ℕ) (X : Vec Ideal S8192x128 .i32) (j : Fin 16) : S128x128.Idx → EReal :=
  fun q => half i (X ((⟨![j.val, 0], S128x128.size, ![16, 1], lane_inb128 j⟩ : LoadRect S8192x128).idx q))

theorem lo128_eq (X : Vec Ideal S8192x128 .i32) :
    lo128 X = concatenate S128x2048 1 (List.ofFn fun j : Fin 16 => (⟨S128x128, lane128 0 X j⟩ : (s : Shape) × (s.Idx → EReal)))
      concatenates_S128x128_S128x128_S128x128_S128x128_S128x128_S128x128_S128x128_S128x128_S128x128_S128x128_S128x128_S128x128_S128x128_S128x128_S128x128_S128x128_S128x2048_d1 := by sl_kernel_rfl

theorem lo128_apply (X : Vec Ideal S8192x128 .i32) (r : Fin 128) (k : Fin 2048) :
    lo128 X (ix2 r k) = half 0 (X (ix2 (⟨16 * r.val + k.val / 128, by omega⟩ : Fin 8192) (⟨k.val % 128, by omega⟩ : Fin 128))) := by
  rw [lo128_eq]
  refine (concatenate_ofFn_apply (t := S128x2048) (s₁ := S128x128) 1 (fun j : Fin 16 => lane128 0 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 0 (X z)) (funext fun a => Fin.ext ?_)
    match a with
    | ⟨0, _⟩ => show k.val / 128 + 16 * r.val = 16 * r.val + k.val / 128; omega
    | ⟨1, _⟩ => show 0 + 1 * (k.val % 128) = k.val % 128; omega

theorem hi128_eq (X : Vec Ideal S8192x128 .i32) :
    hi128 X = concatenate S128x2048 1 (List.ofFn fun j : Fin 16 => (⟨S128x128, lane128 1 X j⟩ : (s : Shape) × (s.Idx → EReal)))
      concatenates_S128x128_S128x128_S128x128_S128x128_S128x128_S128x128_S128x128_S128x128_S128x128_S128x128_S128x128_S128x128_S128x128_S128x128_S128x128_S128x128_S128x2048_d1 := by sl_kernel_rfl

theorem hi128_apply (X : Vec Ideal S8192x128 .i32) (r : Fin 128) (k : Fin 2048) :
    hi128 X (ix2 r k) = half 1 (X (ix2 (⟨16 * r.val + k.val / 128, by omega⟩ : Fin 8192) (⟨k.val % 128, by omega⟩ : Fin 128))) := by
  rw [hi128_eq]
  refine (concatenate_ofFn_apply (t := S128x2048) (s₁ := S128x128) 1 (fun j : Fin 16 => lane128 1 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 1 (X z)) (funext fun a => Fin.ext ?_)
    match a with
    | ⟨0, _⟩ => show k.val / 128 + 16 * r.val = 16 * r.val + k.val / 128; omega
    | ⟨1, _⟩ => show 0 + 1 * (k.val % 128) = k.val % 128; omega

/-- A strided load that starts at one of a token's 16 rows of words stays inside the block. -/
theorem lane_inb256 (j : Fin 16) : ∀ a : Fin 2, S256x128.size a = 0 ∨ (![j.val, 0] : Fin 2 → ℕ) a + (![16, 1] : Fin 2 → ℕ) a * (S256x128.size a - 1) < S8192x128.size a := by
  intro a; right; fin_cases a <;> simp [S256x128, S8192x128] <;> omega

/-- The halves of one lane of the first 256 tokens' words. -/
def lane256 (i : ℕ) (X : Vec Ideal S8192x128 .i32) (j : Fin 16) : S256x128.Idx → EReal :=
  fun q => half i (X ((⟨![j.val, 0], S256x128.size, ![16, 1], lane_inb256 j⟩ : LoadRect S8192x128).idx q))

theorem lo256_eq (X : Vec Ideal S8192x128 .i32) :
    lo256 X = concatenate S256x2048 1 (List.ofFn fun j : Fin 16 => (⟨S256x128, lane256 0 X j⟩ : (s : Shape) × (s.Idx → EReal)))
      concatenates_S256x128_S256x128_S256x128_S256x128_S256x128_S256x128_S256x128_S256x128_S256x128_S256x128_S256x128_S256x128_S256x128_S256x128_S256x128_S256x128_S256x2048_d1 := by sl_kernel_rfl

theorem lo256_apply (X : Vec Ideal S8192x128 .i32) (r : Fin 256) (k : Fin 2048) :
    lo256 X (ix2 r k) = half 0 (X (ix2 (⟨16 * r.val + k.val / 128, by omega⟩ : Fin 8192) (⟨k.val % 128, by omega⟩ : Fin 128))) := by
  rw [lo256_eq]
  refine (concatenate_ofFn_apply (t := S256x2048) (s₁ := S256x128) 1 (fun j : Fin 16 => lane256 0 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 0 (X z)) (funext fun a => Fin.ext ?_)
    match a with
    | ⟨0, _⟩ => show k.val / 128 + 16 * r.val = 16 * r.val + k.val / 128; omega
    | ⟨1, _⟩ => show 0 + 1 * (k.val % 128) = k.val % 128; omega

theorem hi256_eq (X : Vec Ideal S8192x128 .i32) :
    hi256 X = concatenate S256x2048 1 (List.ofFn fun j : Fin 16 => (⟨S256x128, lane256 1 X j⟩ : (s : Shape) × (s.Idx → EReal)))
      concatenates_S256x128_S256x128_S256x128_S256x128_S256x128_S256x128_S256x128_S256x128_S256x128_S256x128_S256x128_S256x128_S256x128_S256x128_S256x128_S256x128_S256x2048_d1 := by sl_kernel_rfl

theorem hi256_apply (X : Vec Ideal S8192x128 .i32) (r : Fin 256) (k : Fin 2048) :
    hi256 X (ix2 r k) = half 1 (X (ix2 (⟨16 * r.val + k.val / 128, by omega⟩ : Fin 8192) (⟨k.val % 128, by omega⟩ : Fin 128))) := by
  rw [hi256_eq]
  refine (concatenate_ofFn_apply (t := S256x2048) (s₁ := S256x128) 1 (fun j : Fin 16 => lane256 1 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 1 (X z)) (funext fun a => Fin.ext ?_)
    match a with
    | ⟨0, _⟩ => show k.val / 128 + 16 * r.val = 16 * r.val + k.val / 128; omega
    | ⟨1, _⟩ => show 0 + 1 * (k.val % 128) = k.val % 128; omega

/-- A strided load that starts at one of a token's 16 rows of words stays inside the block. -/
theorem lane_inb384 (j : Fin 16) : ∀ a : Fin 2, S384x128.size a = 0 ∨ (![j.val, 0] : Fin 2 → ℕ) a + (![16, 1] : Fin 2 → ℕ) a * (S384x128.size a - 1) < S8192x128.size a := by
  intro a; right; fin_cases a <;> simp [S384x128, S8192x128] <;> omega

/-- The halves of one lane of the first 384 tokens' words. -/
def lane384 (i : ℕ) (X : Vec Ideal S8192x128 .i32) (j : Fin 16) : S384x128.Idx → EReal :=
  fun q => half i (X ((⟨![j.val, 0], S384x128.size, ![16, 1], lane_inb384 j⟩ : LoadRect S8192x128).idx q))

theorem lo384_eq (X : Vec Ideal S8192x128 .i32) :
    lo384 X = concatenate S384x2048 1 (List.ofFn fun j : Fin 16 => (⟨S384x128, lane384 0 X j⟩ : (s : Shape) × (s.Idx → EReal)))
      concatenates_S384x128_S384x128_S384x128_S384x128_S384x128_S384x128_S384x128_S384x128_S384x128_S384x128_S384x128_S384x128_S384x128_S384x128_S384x128_S384x128_S384x2048_d1 := by sl_kernel_rfl

theorem lo384_apply (X : Vec Ideal S8192x128 .i32) (r : Fin 384) (k : Fin 2048) :
    lo384 X (ix2 r k) = half 0 (X (ix2 (⟨16 * r.val + k.val / 128, by omega⟩ : Fin 8192) (⟨k.val % 128, by omega⟩ : Fin 128))) := by
  rw [lo384_eq]
  refine (concatenate_ofFn_apply (t := S384x2048) (s₁ := S384x128) 1 (fun j : Fin 16 => lane384 0 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 0 (X z)) (funext fun a => Fin.ext ?_)
    match a with
    | ⟨0, _⟩ => show k.val / 128 + 16 * r.val = 16 * r.val + k.val / 128; omega
    | ⟨1, _⟩ => show 0 + 1 * (k.val % 128) = k.val % 128; omega

theorem hi384_eq (X : Vec Ideal S8192x128 .i32) :
    hi384 X = concatenate S384x2048 1 (List.ofFn fun j : Fin 16 => (⟨S384x128, lane384 1 X j⟩ : (s : Shape) × (s.Idx → EReal)))
      concatenates_S384x128_S384x128_S384x128_S384x128_S384x128_S384x128_S384x128_S384x128_S384x128_S384x128_S384x128_S384x128_S384x128_S384x128_S384x128_S384x128_S384x2048_d1 := by sl_kernel_rfl

theorem hi384_apply (X : Vec Ideal S8192x128 .i32) (r : Fin 384) (k : Fin 2048) :
    hi384 X (ix2 r k) = half 1 (X (ix2 (⟨16 * r.val + k.val / 128, by omega⟩ : Fin 8192) (⟨k.val % 128, by omega⟩ : Fin 128))) := by
  rw [hi384_eq]
  refine (concatenate_ofFn_apply (t := S384x2048) (s₁ := S384x128) 1 (fun j : Fin 16 => lane384 1 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 1 (X z)) (funext fun a => Fin.ext ?_)
    match a with
    | ⟨0, _⟩ => show k.val / 128 + 16 * r.val = 16 * r.val + k.val / 128; omega
    | ⟨1, _⟩ => show 0 + 1 * (k.val % 128) = k.val % 128; omega

/-- A strided load that starts at one of a token's 16 rows of words stays inside the block. -/
theorem lane_inb512 (j : Fin 16) : ∀ a : Fin 2, S512x128.size a = 0 ∨ (![j.val, 0] : Fin 2 → ℕ) a + (![16, 1] : Fin 2 → ℕ) a * (S512x128.size a - 1) < S8192x128.size a := by
  intro a; right; fin_cases a <;> simp [S512x128, S8192x128] <;> omega

/-- The halves of one lane of the first 512 tokens' words. -/
def lane512 (i : ℕ) (X : Vec Ideal S8192x128 .i32) (j : Fin 16) : S512x128.Idx → EReal :=
  fun q => half i (X ((⟨![j.val, 0], S512x128.size, ![16, 1], lane_inb512 j⟩ : LoadRect S8192x128).idx q))

theorem lo512_eq (X : Vec Ideal S8192x128 .i32) :
    lo512 X = concatenate S512x2048 1 (List.ofFn fun j : Fin 16 => (⟨S512x128, lane512 0 X j⟩ : (s : Shape) × (s.Idx → EReal)))
      concatenates_S512x128_S512x128_S512x128_S512x128_S512x128_S512x128_S512x128_S512x128_S512x128_S512x128_S512x128_S512x128_S512x128_S512x128_S512x128_S512x128_S512x2048_d1 := by sl_kernel_rfl

theorem lo512_apply (X : Vec Ideal S8192x128 .i32) (r : Fin 512) (k : Fin 2048) :
    lo512 X (ix2 r k) = half 0 (X (ix2 (⟨16 * r.val + k.val / 128, by omega⟩ : Fin 8192) (⟨k.val % 128, by omega⟩ : Fin 128))) := by
  rw [lo512_eq]
  refine (concatenate_ofFn_apply (t := S512x2048) (s₁ := S512x128) 1 (fun j : Fin 16 => lane512 0 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 0 (X z)) (funext fun a => Fin.ext ?_)
    match a with
    | ⟨0, _⟩ => show k.val / 128 + 16 * r.val = 16 * r.val + k.val / 128; omega
    | ⟨1, _⟩ => show 0 + 1 * (k.val % 128) = k.val % 128; omega

theorem hi512_eq (X : Vec Ideal S8192x128 .i32) :
    hi512 X = concatenate S512x2048 1 (List.ofFn fun j : Fin 16 => (⟨S512x128, lane512 1 X j⟩ : (s : Shape) × (s.Idx → EReal)))
      concatenates_S512x128_S512x128_S512x128_S512x128_S512x128_S512x128_S512x128_S512x128_S512x128_S512x128_S512x128_S512x128_S512x128_S512x128_S512x128_S512x128_S512x2048_d1 := by sl_kernel_rfl

theorem hi512_apply (X : Vec Ideal S8192x128 .i32) (r : Fin 512) (k : Fin 2048) :
    hi512 X (ix2 r k) = half 1 (X (ix2 (⟨16 * r.val + k.val / 128, by omega⟩ : Fin 8192) (⟨k.val % 128, by omega⟩ : Fin 128))) := by
  rw [hi512_eq]
  refine (concatenate_ofFn_apply (t := S512x2048) (s₁ := S512x128) 1 (fun j : Fin 16 => lane512 1 X j) _ rfl 128 rfl (ix2 r k) ⟨k.val / 128, by omega⟩ rfl (ix2 r (⟨k.val % 128, by omega⟩ : Fin 128)) rfl ?_).trans ?_
  · intro b hb
    match b with
    | ⟨0, _⟩ => rfl
    | ⟨1, _⟩ => exact absurd rfl hb
  · refine congrArg (fun z => half 1 (X z)) (funext fun a => Fin.ext ?_)
    match a with
    | ⟨0, _⟩ => show k.val / 128 + 16 * r.val = 16 * r.val + k.val / 128; omega
    | ⟨1, _⟩ => show 0 + 1 * (k.val % 128) = k.val % 128; omega

end Cert.Kernel6Ideal.Hand

end
-- ==== Proof.UpTile.lean ====
module
public import proofs.«01_k».proof.Proof.UpHalf

/-!
What `expert_up`'s body leaves in the output block, entry by entry: in a row below the number of rows the branch
computes, the product of the row's 4096 entries with a column of the expert's weights, times the gate's entry there. The
kernel takes the product in two halves, the low halves of the words with the first 2048 rows of the weights and the high
halves with the last 2048.
-/

@[expose] public noncomputable section
set_option maxRecDepth 16384

namespace Cert.Kernel6Ideal.Hand

open Idealize.ShloMosaic Idealize.ShloMosaic.TcCoe Idealize.ShloMosaic.Tactic
open Cert.Kernel6Ideal Cert.Kernel6Ideal.Gen
open scoped BigOperators

/-- A number times the gate's. -/
def gated (g y : EReal) : EReal := g * y

/-- The gated product of row `r` at column `q`, from the block of words, the gate's block and the expert's weights. -/
def upAt (X : Vec Ideal S8192x128 .i32) (G : Vec Ideal S512x1024 .bf16) (D : Vec Ideal S4096x1024 .f32) (r : Fin 512) (q : Fin 1024) : EReal :=
  gated (G (ix2 r q)) ((∑ k : Fin 2048, half 0 (X (ix2 (⟨16 * r.val + k.val / 128, by omega⟩ : Fin 8192) (⟨k.val % 128, by omega⟩ : Fin 128))) * D (ix2 (⟨k.val, by omega⟩ : Fin 4096) q))
    + ∑ k : Fin 2048, half 1 (X (ix2 (⟨16 * r.val + k.val / 128, by omega⟩ : Fin 8192) (⟨k.val % 128, by omega⟩ : Fin 128))) * D (ix2 (⟨2048 + k.val, by omega⟩ : Fin 4096) q))

/-- The gated product in the first `R` rows, zero below them. -/
def upTo (R : ℕ) (X : Vec Ideal S8192x128 .i32) (G : Vec Ideal S512x1024 .bf16) (D : Vec Ideal S4096x1024 .f32) : Vec Ideal S512x1024 .bf16 :=
  fun y => if (y 0).val < R then upAt X G D (y 0) (y 1) else (0 : EReal)

theorem tile128_0 (lo hi : FVec Ideal S128x2048 .bf16) (A B : Vec Ideal S2048x256 .f32) (g : Vec Ideal S128x256 .bf16) (r : Fin 128) (q : Fin 256) :
    (k0_pay28 lo hi A B g) (ix2 r q) = gated (g (ix2 r q)) ((∑ k : Fin 2048, lo (ix2 r k) * A (ix2 k q)) + ∑ k : Fin 2048, hi (ix2 r k) * B (ix2 k q)) := by
  unfold gated
  pointwise [k0_pay28]

theorem tile128_1 (lo hi : FVec Ideal S128x2048 .bf16) (A B : Vec Ideal S2048x256 .f32) (g : Vec Ideal S128x256 .bf16) (r : Fin 128) (q : Fin 256) :
    (k0_pay29 lo hi A B g) (ix2 r q) = gated (g (ix2 r q)) ((∑ k : Fin 2048, lo (ix2 r k) * A (ix2 k q)) + ∑ k : Fin 2048, hi (ix2 r k) * B (ix2 k q)) := by
  unfold gated
  pointwise [k0_pay29]

theorem tile128_2 (lo hi : FVec Ideal S128x2048 .bf16) (A B : Vec Ideal S2048x256 .f32) (g : Vec Ideal S128x256 .bf16) (r : Fin 128) (q : Fin 256) :
    (k0_pay30 lo hi A B g) (ix2 r q) = gated (g (ix2 r q)) ((∑ k : Fin 2048, lo (ix2 r k) * A (ix2 k q)) + ∑ k : Fin 2048, hi (ix2 r k) * B (ix2 k q)) := by
  unfold gated
  pointwise [k0_pay30]

theorem tile128_3 (lo hi : FVec Ideal S128x2048 .bf16) (A B : Vec Ideal S2048x256 .f32) (g : Vec Ideal S128x256 .bf16) (r : Fin 128) (q : Fin 256) :
    (k0_pay31 lo hi A B g) (ix2 r q) = gated (g (ix2 r q)) ((∑ k : Fin 2048, lo (ix2 r k) * A (ix2 k q)) + ∑ k : Fin 2048, hi (ix2 r k) * B (ix2 k q)) := by
  unfold gated
  pointwise [k0_pay31]

theorem zero128 (j : S384x1024.Idx) : k0_pay32 (F := Ideal) j = (0 : EReal) := by
  pointwise [k0_pay32]

theorem piece128_0 (X : Vec Ideal S8192x128 .i32) (G : Vec Ideal S512x1024 .bf16) (D : Vec Ideal S4096x1024 .f32) (j : S128x256.Idx) :
    (k0_pay28 (lo128 X) (hi128 X) (View.ld D (Rect.unit (s := S4096x1024) ![0, 0] S2048x256.size inb_S4096x1024_S2048x256_0_0)) (View.ld D (Rect.unit (s := S4096x1024) ![2048, 0] S2048x256.size inb_S4096x1024_S2048x256_2048_0)) (View.ld G (Rect.unit (s := S512x1024) ![0, 0] S128x256.size inb_S512x1024_S128x256_0_0))) j
      = upTo 128 X G D ((Rect.unit (s := S512x1024) ![0, 0] S128x256.size inb_S512x1024_S128x256_0_0).emb j) := by
  obtain ⟨r, q, rfl⟩ : ∃ (r : Fin 128) (q : Fin 256), j = ix2 r q := ⟨j 0, j 1, ValueIdx.eq_ix2 j⟩
  have e : (Rect.unit (s := S512x1024) ![0, 0] S128x256.size inb_S512x1024_S128x256_0_0).emb (ix2 r q) = ix2 (⟨r.val, by omega⟩ : Fin 512) (⟨0 + q.val, by omega⟩ : Fin 1024) := by
    funext a; apply Fin.ext
    match a with
    | ⟨0, _⟩ => show 0 + 1 * r.val = r.val; omega
    | ⟨1, _⟩ => show 0 + 1 * q.val = 0 + q.val; omega
  rw [e, tile128_0]
  refine Eq.trans ?_ (if_pos (show r.val < 128 from r.isLt)).symm
  unfold upAt
  refine congrArg₂ gated ?_ (congrArg₂ (· + ·) (Finset.sum_congr rfl fun k _ => congrArg₂ (· * ·) (lo128_apply X r k) ?_) (Finset.sum_congr rfl fun k _ => congrArg₂ (· * ·) (hi128_apply X r k) ?_))
  · refine congrArg G (funext fun a => Fin.ext ?_)
    match a with
    | ⟨0, _⟩ => show 0 + 1 * r.val = r.val; omega
    | ⟨1, _⟩ => show 0 + 1 * q.val = 0 + q.val; omega
  · refine congrArg D (funext fun a => Fin.ext ?_)
    match a with
    | ⟨0, _⟩ => show 0 + 1 * k.val = k.val; omega
    | ⟨1, _⟩ => show 0 + 1 * q.val = 0 + q.val; omega
  · refine congrArg D (funext fun a => Fin.ext ?_)
    match a with
    | ⟨0, _⟩ => show 2048 + 1 * k.val = 2048 + k.val; omega
    | ⟨1, _⟩ => show 0 + 1 * q.val = 0 + q.val; omega

theorem piece128_1 (X : Vec Ideal S8192x128 .i32) (G : Vec Ideal S512x1024 .bf16) (D : Vec Ideal S4096x1024 .f32) (j : S128x256.Idx) :
    (k0_pay29 (lo128 X) (hi128 X) (View.ld D (Rect.unit (s := S4096x1024) ![0, 256] S2048x256.size inb_S4096x1024_S2048x256_0_256)) (View.ld D (Rect.unit (s := S4096x1024) ![2048, 256] S2048x256.size inb_S4096x1024_S2048x256_2048_256)) (View.ld G (Rect.unit (s := S512x1024) ![0, 256] S128x256.size inb_S512x1024_S128x256_0_256))) j
      = upTo 128 X G D ((Rect.unit (s := S512x1024) ![0, 256] S128x256.size inb_S512x1024_S128x256_0_256).emb j) := by
  obtain ⟨r, q, rfl⟩ : ∃ (r : Fin 128) (q : Fin 256), j = ix2 r q := ⟨j 0, j 1, ValueIdx.eq_ix2 j⟩
  have e : (Rect.unit (s := S512x1024) ![0, 256] S128x256.size inb_S512x1024_S128x256_0_256).emb (ix2 r q) = ix2 (⟨r.val, by omega⟩ : Fin 512) (⟨256 + q.val, by omega⟩ : Fin 1024) := by
    funext a; apply Fin.ext
    match a with
    | ⟨0, _⟩ => show 0 + 1 * r.val = r.val; omega
    | ⟨1, _⟩ => show 256 + 1 * q.val = 256 + q.val; omega
  rw [e, tile128_1]
  refine Eq.trans ?_ (if_pos (show r.val < 128 from r.isLt)).symm
  unfold upAt
  refine congrArg₂ gated ?_ (congrArg₂ (· + ·) (Finset.sum_congr rfl fun k _ => congrArg₂ (· * ·) (lo128_apply X r k) ?_) (Finset.sum_congr rfl fun k _ => congrArg₂ (· * ·) (hi128_apply X r k) ?_))
  · refine congrArg G (funext fun a => Fin.ext ?_)
    match a with
    | ⟨0, _⟩ => show 0 + 1 * r.val = r.val; omega
    | ⟨1, _⟩ => show 256 + 1 * q.val = 256 + q.val; omega
  · refine congrArg D (funext fun a => Fin.ext ?_)
    match a with
    | ⟨0, _⟩ => show 0 + 1 * k.val = k.val; omega
    | ⟨1, _⟩ => show 256 + 1 * q.val = 256 + q.val; omega
  · refine congrArg D (funext fun a => Fin.ext ?_)
    match a with
    | ⟨0, _⟩ => show 2048 + 1 * k.val = 2048 + k.val; omega
    | ⟨1, _⟩ => show 256 + 1 * q.val = 256 + q.val; omega

theorem piece128_2 (X : Vec Ideal S8192x128 .i32) (G : Vec Ideal S512x1024 .bf16) (D : Vec Ideal S4096x1024 .f32) (j : S128x256.Idx) :
    (k0_pay30 (lo128 X) (hi128 X) (View.ld D (Rect.unit (s := S4096x1024) ![0, 512] S2048x256.size inb_S4096x1024_S2048x256_0_512)) (View.ld D (Rect.unit (s := S4096x1024) ![2048, 512] S2048x256.size inb_S4096x1024_S2048x256_2048_512)) (View.ld G (Rect.unit (s := S512x1024) ![0, 512] S128x256.size inb_S512x1024_S128x256_0_512))) j
      = upTo 128 X G D ((Rect.unit (s := S512x1024) ![0, 512] S128x256.size inb_S512x1024_S128x256_0_512).emb j) := by
  obtain ⟨r, q, rfl⟩ : ∃ (r : Fin 128) (q : Fin 256), j = ix2 r q := ⟨j 0, j 1, ValueIdx.eq_ix2 j⟩
  have e : (Rect.unit (s := S512x1024) ![0, 512] S128x256.size inb_S512x1024_S128x256_0_512).emb (ix2 r q) = ix2 (⟨r.val, by omega⟩ : Fin 512) (⟨512 + q.val, by omega⟩ : Fin 1024) := by
    funext a; apply Fin.ext
    match a with
    | ⟨0, _⟩ => show 0 + 1 * r.val = r.val; omega
    | ⟨1, _⟩ => show 512 + 1 * q.val = 512 + q.val; omega
  rw [e, tile128_2]
  refine Eq.trans ?_ (if_pos (show r.val < 128 from r.isLt)).symm
  unfold upAt
  refine congrArg₂ gated ?_ (congrArg₂ (· + ·) (Finset.sum_congr rfl fun k _ => congrArg₂ (· * ·) (lo128_apply X r k) ?_) (Finset.sum_congr rfl fun k _ => congrArg₂ (· * ·) (hi128_apply X r k) ?_))
  · refine congrArg G (funext fun a => Fin.ext ?_)
    match a with
    | ⟨0, _⟩ => show 0 + 1 * r.val = r.val; omega
    | ⟨1, _⟩ => show 512 + 1 * q.val = 512 + q.val; omega
  · refine congrArg D (funext fun a => Fin.ext ?_)
    match a with
    | ⟨0, _⟩ => show 0 + 1 * k.val = k.val; omega
    | ⟨1, _⟩ => show 512 + 1 * q.val = 512 + q.val; omega
  · refine congrArg D (funext fun a => Fin.ext ?_)
    match a with
    | ⟨0, _⟩ => show 2048 + 1 * k.val = 2048 + k.val; omega
    | ⟨1, _⟩ => show 512 + 1 * q.val = 512 + q.val; omega

theorem piece128_3 (X : Vec Ideal S8192x128 .i32) (G : Vec Ideal S512x1024 .bf16) (D : Vec Ideal S4096x1024 .f32) (j : S128x256.Idx) :
    (k0_pay31 (lo128 X) (hi128 X) (View.ld D (Rect.unit (s := S4096x1024) ![0, 768] S2048x256.size inb_S4096x1024_S2048x256_0_768)) (View.ld D (Rect.unit (s := S4096x1024) ![2048, 768] S2048x256.size inb_S4096x1024_S2048x256_2048_768)) (View.ld G (Rect.unit (s := S512x1024) ![0, 768] S128x256.size inb_S512x1024_S128x256_0_768))) j
      = upTo 128 X G D ((Rect.unit (s := S512x1024) ![0, 768] S128x256.size inb_S512x1024_S128x256_0_768).emb j) := by
  obtain ⟨r, q, rfl⟩ : ∃ (r : Fin 128) (q : Fin 256), j = ix2 r q := ⟨j 0, j 1, ValueIdx.eq_ix2 j⟩
  have e : (Rect.unit (s := S512x1024) ![0, 768] S128x256.size inb_S512x1024_S128x256_0_768).emb (ix2 r q) = ix2 (⟨r.val, by omega⟩ : Fin 512) (⟨768 + q.val, by omega⟩ : Fin 1024) := by
    funext a; apply Fin.ext
    match a with
    | ⟨0, _⟩ => show 0 + 1 * r.val = r.val; omega
    | ⟨1, _⟩ => show 768 + 1 * q.val = 768 + q.val; omega
  rw [e, tile128_3]
  refine Eq.trans ?_ (if_pos (show r.val < 128 from r.isLt)).symm
  unfold upAt
  refine congrArg₂ gated ?_ (congrArg₂ (· + ·) (Finset.sum_congr rfl fun k _ => congrArg₂ (· * ·) (lo128_apply X r k) ?_) (Finset.sum_congr rfl fun k _ => congrArg₂ (· * ·) (hi128_apply X r k) ?_))
  · refine congrArg G (funext fun a => Fin.ext ?_)
    match a with
    | ⟨0, _⟩ => show 0 + 1 * r.val = r.val; omega
    | ⟨1, _⟩ => show 768 + 1 * q.val = 768 + q.val; omega
  · refine congrArg D (funext fun a => Fin.ext ?_)
    match a with
    | ⟨0, _⟩ => show 0 + 1 * k.val = k.val; omega
    | ⟨1, _⟩ => show 768 + 1 * q.val = 768 + q.val; omega
  · refine congrArg D (funext fun a => Fin.ext ?_)
    match a with
    | ⟨0, _⟩ => show 2048 + 1 * k.val = 2048 + k.val; omega
    | ⟨1, _⟩ => show 768 + 1 * q.val = 768 + q.val; omega

/-- What the branch for 128 rows leaves in the output block. -/
theorem out128_eq (X : Vec Ideal S8192x128 .i32) (G : Vec Ideal S512x1024 .bf16) (D : Vec Ideal S4096x1024 .f32) : out128 X G D = upTo 128 X G D := by
  funext y
  refine View.canon_apply_of_pieces (Val := Elt Ideal) (e := .bf16) (upTo 128 X G D) _ ?_ y (cover128 _ _ _ _ _ y)
  intro p hp
  rcases List.mem_cons.1 hp with rfl | hp
  · intro j
    refine (zero128 j).trans (if_neg ?_).symm
    show ¬ (128 + 1 * (j 0).val < 128); omega
  rcases List.mem_cons.1 hp with rfl | hp
  · exact piece128_3 X G D
  rcases List.mem_cons.1 hp with rfl | hp
  · exact piece128_2 X G D
  rcases List.mem_cons.1 hp with rfl | hp
  · exact piece128_1 X G D
  obtain rfl := List.mem_singleton.1 hp
  exact piece128_0 X G D

theorem tile256_0 (lo hi : FVec Ideal S256x2048 .bf16) (A B : Vec Ideal S2048x256 .f32) (g : Vec Ideal S256x256 .bf16) (r : Fin 256) (q : Fin 256) :
    (k0_pay59 lo hi A B g) (ix2 r q) = gated (g (ix2 r q)) ((∑ k : Fin 2048, lo (ix2 r k) * A (ix2 k q)) + ∑ k : Fin 2048, hi (ix2 r k) * B (ix2 k q)) := by
  unfold gated
  pointwise [k0_pay59]

theorem tile256_1 (lo hi : FVec Ideal S256x2048 .bf16) (A B : Vec Ideal S2048x256 .f32) (g : Vec Ideal S256x256 .bf16) (r : Fin 256) (q : Fin 256) :
    (k0_pay60 lo hi A B g) (ix2 r q) = gated (g (ix2 r q)) ((∑ k : Fin 2048, lo (ix2 r k) * A (ix2 k q)) + ∑ k : Fin 2048, hi (ix2 r k) * B (ix2 k q)) := by
  unfold gated
  pointwise [k0_pay60]

theorem tile256_2 (lo hi : FVec Ideal S256x2048 .bf16) (A B : Vec Ideal S2048x256 .f32) (g : Vec Ideal S256x256 .bf16) (r : Fin 256) (q : Fin 256) :
    (k0_pay61 lo hi A B g) (ix2 r q) = gated (g (ix2 r q)) ((∑ k : Fin 2048, lo (ix2 r k) * A (ix2 k q)) + ∑ k : Fin 2048, hi (ix2 r k) * B (ix2 k q)) := by
  unfold gated
  pointwise [k0_pay61]

theorem tile256_3 (lo hi : FVec Ideal S256x2048 .bf16) (A B : Vec Ideal S2048x256 .f32) (g : Vec Ideal S256x256 .bf16) (r : Fin 256) (q : Fin 256) :
    (k0_pay62 lo hi A B g) (ix2 r q) = gated (g (ix2 r q)) ((∑ k : Fin 2048, lo (ix2 r k) * A (ix2 k q)) + ∑ k : Fin 2048, hi (ix2 r k) * B (ix2 k q)) := by
  unfold gated
  pointwise [k0_pay62]

theorem zero256 (j : S256x1024.Idx) : k0_pay63 (F := Ideal) j = (0 : EReal) := by
  pointwise [k0_pay63]

theorem piece256_0 (X : Vec Ideal S8192x128 .i32) (G : Vec Ideal S512x1024 .bf16) (D : Vec Ideal S4096x1024 .f32) (j : S256x256.Idx) :
    (k0_pay59 (lo256 X) (hi256 X) (View.ld D (Rect.unit (s := S4096x1024) ![0, 0] S2048x256.size inb_S4096x1024_S2048x256_0_0)) (View.ld D (Rect.unit (s := S4096x1024) ![2048, 0] S2048x256.size inb_S4096x1024_S2048x256_2048_0)) (View.ld G (Rect.unit (s := S512x1024) ![0, 0] S256x256.size inb_S512x1024_S256x256_0_0))) j
      = upTo 256 X G D ((Rect.unit (s := S512x1024) ![0, 0] S256x256.size inb_S512x1024_S256x256_0_0).emb j) := by
  obtain ⟨r, q, rfl⟩ : ∃ (r : Fin 256) (q : Fin 256), j = ix2 r q := ⟨j 0, j 1, ValueIdx.eq_ix2 j⟩
  have e : (Rect.unit (s := S512x1024) ![0, 0] S256x256.size inb_S512x1024_S256x256_0_0).emb (ix2 r q) = ix2 (⟨r.val, by omega⟩ : Fin 512) (⟨0 + q.val, by omega⟩ : Fin 1024) := by
    funext a; apply Fin.ext
    match a with
    | ⟨0, _⟩ => show 0 + 1 * r.val = r.val; omega
    | ⟨1, _⟩ => show 0 + 1 * q.val = 0 + q.val; omega
  rw [e, tile256_0]
  refine Eq.trans ?_ (if_pos (show r.val < 256 from r.isLt)).symm
  unfold upAt
  refine congrArg₂ gated ?_ (congrArg₂ (· + ·) (Finset.sum_congr rfl fun k _ => congrArg₂ (· * ·) (lo256_apply X r k) ?_) (Finset.sum_congr rfl fun k _ => congrArg₂ (· * ·) (hi256_apply X r k) ?_))
  · refine congrArg G (funext fun a => Fin.ext ?_)
    match a with
    | ⟨0, _⟩ => show 0 + 1 * r.val = r.val; omega
    | ⟨1, _⟩ => show 0 + 1 * q.val = 0 + q.val; omega
  · refine congrArg D (funext fun a => Fin.ext ?_)
    match a with
    | ⟨0, _⟩ => show 0 + 1 * k.val = k.val; omega
    | ⟨1, _⟩ => show 0 + 1 * q.val = 0 + q.val; omega
  · refine congrArg D (funext fun a => Fin.ext ?_)
    match a with
    | ⟨0, _⟩ => show 2048 + 1 * k.val = 2048 + k.val; omega
    | ⟨1, _⟩ => show 0 + 1 * q.val = 0 + q.val; omega

theorem piece256_1 (X : Vec Ideal S8192x128 .i32) (G : Vec Ideal S512x1024 .bf16) (D : Vec Ideal S4096x1024 .f32) (j : S256x256.Idx) :
    (k0_pay60 (lo256 X) (hi256 X) (View.ld D (Rect.unit (s := S4096x1024) ![0, 256] S2048x256.size inb_S4096x1024_S2048x256_0_256)) (View.ld D (Rect.unit (s := S4096x1024) ![2048, 256] S2048x256.size inb_S4096x1024_S2048x256_2048_256)) (View.ld G (Rect.unit (s := S512x1024) ![0, 256] S256x256.size inb_S512x1024_S256x256_0_256))) j
      = upTo 256 X G D ((Rect.unit (s := S512x1024) ![0, 256] S256x256.size inb_S512x1024_S256x256_0_256).emb j) := by
  obtain ⟨r, q, rfl⟩ : ∃ (r : Fin 256) (q : Fin 256), j = ix2 r q := ⟨j 0, j 1, ValueIdx.eq_ix2 j⟩
  have e : (Rect.unit (s := S512x1024) ![0, 256] S256x256.size inb_S512x1024_S256x256_0_256).emb (ix2 r q) = ix2 (⟨r.val, by omega⟩ : Fin 512) (⟨256 + q.val, by omega⟩ : Fin 1024) := by
    funext a; apply Fin.ext
    match a with
    | ⟨0, _⟩ => show 0 + 1 * r.val = r.val; omega
    | ⟨1, _⟩ => show 256 + 1 * q.val = 256 + q.val; omega
  rw [e, tile256_1]
  refine Eq.trans ?_ (if_pos (show r.val < 256 from r.isLt)).symm
  unfold upAt
  refine congrArg₂ gated ?_ (congrArg₂ (· + ·) (Finset.sum_congr rfl fun k _ => congrArg₂ (· * ·) (lo256_apply X r k) ?_) (Finset.sum_congr rfl fun k _ => congrArg₂ (· * ·) (hi256_apply X r k) ?_))
  · refine congrArg G (funext fun a => Fin.ext ?_)
    match a with
    | ⟨0, _⟩ => show 0 + 1 * r.val = r.val; omega
    | ⟨1, _⟩ => show 256 + 1 * q.val = 256 + q.val; omega
  · refine congrArg D (funext fun a => Fin.ext ?_)
    match a with
    | ⟨0, _⟩ => show 0 + 1 * k.val = k.val; omega
    | ⟨1, _⟩ => show 256 + 1 * q.val = 256 + q.val; omega
  · refine congrArg D (funext fun a => Fin.ext ?_)
    match a with
    | ⟨0, _⟩ => show 2048 + 1 * k.val = 2048 + k.val; omega
    | ⟨1, _⟩ => show 256 + 1 * q.val = 256 + q.val; omega

theorem piece256_2 (X : Vec Ideal S8192x128 .i32) (G : Vec Ideal S512x1024 .bf16) (D : Vec Ideal S4096x1024 .f32) (j : S256x256.Idx) :
    (k0_pay61 (lo256 X) (hi256 X) (View.ld D (Rect.unit (s := S4096x1024) ![0, 512] S2048x256.size inb_S4096x1024_S2048x256_0_512)) (View.ld D (Rect.unit (s := S4096x1024) ![2048, 512] S2048x256.size inb_S4096x1024_S2048x256_2048_512)) (View.ld G (Rect.unit (s := S512x1024) ![0, 512] S256x256.size inb_S512x1024_S256x256_0_512))) j
      = upTo 256 X G D ((Rect.unit (s := S512x1024) ![0, 512] S256x256.size inb_S512x1024_S256x256_0_512).emb j) := by
  obtain ⟨r, q, rfl⟩ : ∃ (r : Fin 256) (q : Fin 256), j = ix2 r q := ⟨j 0, j 1, ValueIdx.eq_ix2 j⟩
  have e : (Rect.unit (s := S512x1024) ![0, 512] S256x256.size inb_S512x1024_S256x256_0_512).emb (ix2 r q) = ix2 (⟨r.val, by omega⟩ : Fin 512) (⟨512 + q.val, by omega⟩ : Fin 1024) := by
    funext a; apply Fin.ext
    match a with
    | ⟨0, _⟩ => show 0 + 1 * r.val = r.val; omega
    | ⟨1, _⟩ => show 512 + 1 * q.val = 512 + q.val; omega
  rw [e, tile256_2]
  refine Eq.trans ?_ (if_pos (show r.val < 256 from r.isLt)).symm
  unfold upAt
  refine congrArg₂ gated ?_ (congrArg₂ (· + ·) (Finset.sum_congr rfl fun k _ => congrArg₂ (· * ·) (lo256_apply X r k) ?_) (Finset.sum_congr rfl fun k _ => congrArg₂ (· * ·) (hi256_apply X r k) ?_))
  · refine congrArg G (funext fun a => Fin.ext ?_)
    match a with
    | ⟨0, _⟩ => show 0 + 1 * r.val = r.val; omega
    | ⟨1, _⟩ => show 512 + 1 * q.val = 512 + q.val; omega
  · refine congrArg D (funext fun a => Fin.ext ?_)
    match a with
    | ⟨0, _⟩ => show 0 + 1 * k.val = k.val; omega
    | ⟨1, _⟩ => show 512 + 1 * q.val = 512 + q.val; omega
  · refine congrArg D (funext fun a => Fin.ext ?_)
    match a with
    | ⟨0, _⟩ => show 2048 + 1 * k.val = 2048 + k.val; omega
    | ⟨1, _⟩ => show 512 + 1 * q.val = 512 + q.val; omega

theorem piece256_3 (X : Vec Ideal S8192x128 .i32) (G : Vec Ideal S512x1024 .bf16) (D : Vec Ideal S4096x1024 .f32) (j : S256x256.Idx) :
    (k0_pay62 (lo256 X) (hi256 X) (View.ld D (Rect.unit (s := S4096x1024) ![0, 768] S2048x256.size inb_S4096x1024_S2048x256_0_768)) (View.ld D (Rect.unit (s := S4096x1024) ![2048, 768] S2048x256.size inb_S4096x1024_S2048x256_2048_768)) (View.ld G (Rect.unit (s := S512x1024) ![0, 768] S256x256.size inb_S512x1024_S256x256_0_768))) j
      = upTo 256 X G D ((Rect.unit (s := S512x1024) ![0, 768] S256x256.size inb_S512x1024_S256x256_0_768).emb j) := by
  obtain ⟨r, q, rfl⟩ : ∃ (r : Fin 256) (q : Fin 256), j = ix2 r q := ⟨j 0, j 1, ValueIdx.eq_ix2 j⟩
  have e : (Rect.unit (s := S512x1024) ![0, 768] S256x256.size inb_S512x1024_S256x256_0_768).emb (ix2 r q) = ix2 (⟨r.val, by omega⟩ : Fin 512) (⟨768 + q.val, by omega⟩ : Fin 1024) := by
    funext a; apply Fin.ext
    match a with
    | ⟨0, _⟩ => show 0 + 1 * r.val = r.val; omega
    | ⟨1, _⟩ => show 768 + 1 * q.val = 768 + q.val; omega
  rw [e, tile256_3]
  refine Eq.trans ?_ (if_pos (show r.val < 256 from r.isLt)).symm
  unfold upAt
  refine congrArg₂ gated ?_ (congrArg₂ (· + ·) (Finset.sum_congr rfl fun k _ => congrArg₂ (· * ·) (lo256_apply X r k) ?_) (Finset.sum_congr rfl fun k _ => congrArg₂ (· * ·) (hi256_apply X r k) ?_))
  · refine congrArg G (funext fun a => Fin.ext ?_)
    match a with
    | ⟨0, _⟩ => show 0 + 1 * r.val = r.val; omega
    | ⟨1, _⟩ => show 768 + 1 * q.val = 768 + q.val; omega
  · refine congrArg D (funext fun a => Fin.ext ?_)
    match a with
    | ⟨0, _⟩ => show 0 + 1 * k.val = k.val; omega
    | ⟨1, _⟩ => show 768 + 1 * q.val = 768 + q.val; omega
  · refine congrArg D (funext fun a => Fin.ext ?_)
    match a with
    | ⟨0, _⟩ => show 2048 + 1 * k.val = 2048 + k.val; omega
    | ⟨1, _⟩ => show 768 + 1 * q.val = 768 + q.val; omega

/-- What the branch for 256 rows leaves in the output block. -/
theorem out256_eq (X : Vec Ideal S8192x128 .i32) (G : Vec Ideal S512x1024 .bf16) (D : Vec Ideal S4096x1024 .f32) : out256 X G D = upTo 256 X G D := by
  funext y
  refine View.canon_apply_of_pieces (Val := Elt Ideal) (e := .bf16) (upTo 256 X G D) _ ?_ y (cover256 _ _ _ _ _ y)
  intro p hp
  rcases List.mem_cons.1 hp with rfl | hp
  · intro j
    refine (zero256 j).trans (if_neg ?_).symm
    show ¬ (256 + 1 * (j 0).val < 256); omega
  rcases List.mem_cons.1 hp with rfl | hp
  · exact piece256_3 X G D
  rcases List.mem_cons.1 hp with rfl | hp
  · exact piece256_2 X G D
  rcases List.mem_cons.1 hp with rfl | hp
  · exact piece256_1 X G D
  obtain rfl := List.mem_singleton.1 hp
  exact piece256_0 X G D

theorem tile384_0 (lo hi : FVec Ideal S384x2048 .bf16) (A B : Vec Ideal S2048x256 .f32) (g : Vec Ideal S384x256 .bf16) (r : Fin 384) (q : Fin 256) :
    (k0_pay90 lo hi A B g) (ix2 r q) = gated (g (ix2 r q)) ((∑ k : Fin 2048, lo (ix2 r k) * A (ix2 k q)) + ∑ k : Fin 2048, hi (ix2 r k) * B (ix2 k q)) := by
  unfold gated
  pointwise [k0_pay90]

theorem tile384_1 (lo hi : FVec Ideal S384x2048 .bf16) (A B : Vec Ideal S2048x256 .f32) (g : Vec Ideal S384x256 .bf16) (r : Fin 384) (q : Fin 256) :
    (k0_pay91 lo hi A B g) (ix2 r q) = gated (g (ix2 r q)) ((∑ k : Fin 2048, lo (ix2 r k) * A (ix2 k q)) + ∑ k : Fin 2048, hi (ix2 r k) * B (ix2 k q)) := by
  unfold gated
  pointwise [k0_pay91]

theorem tile384_2 (lo hi : FVec Ideal S384x2048 .bf16) (A B : Vec Ideal S2048x256 .f32) (g : Vec Ideal S384x256 .bf16) (r : Fin 384) (q : Fin 256) :
    (k0_pay92 lo hi A B g) (ix2 r q) = gated (g (ix2 r q)) ((∑ k : Fin 2048, lo (ix2 r k) * A (ix2 k q)) + ∑ k : Fin 2048, hi (ix2 r k) * B (ix2 k q)) := by
  unfold gated
  pointwise [k0_pay92]

theorem tile384_3 (lo hi : FVec Ideal S384x2048 .bf16) (A B : Vec Ideal S2048x256 .f32) (g : Vec Ideal S384x256 .bf16) (r : Fin 384) (q : Fin 256) :
    (k0_pay93 lo hi A B g) (ix2 r q) = gated (g (ix2 r q)) ((∑ k : Fin 2048, lo (ix2 r k) * A (ix2 k q)) + ∑ k : Fin 2048, hi (ix2 r k) * B (ix2 k q)) := by
  unfold gated
  pointwise [k0_pay93]

theorem zero384 (j : S128x1024.Idx) : k0_pay94 (F := Ideal) j = (0 : EReal) := by
  pointwise [k0_pay94]

theorem piece384_0 (X : Vec Ideal S8192x128 .i32) (G : Vec Ideal S512x1024 .bf16) (D : Vec Ideal S4096x1024 .f32) (j : S384x256.Idx) :
    (k0_pay90 (lo384 X) (hi384 X) (View.ld D (Rect.unit (s := S4096x1024) ![0, 0] S2048x256.size inb_S4096x1024_S2048x256_0_0)) (View.ld D (Rect.unit (s := S4096x1024) ![2048, 0] S2048x256.size inb_S4096x1024_S2048x256_2048_0)) (View.ld G (Rect.unit (s := S512x1024) ![0, 0] S384x256.size inb_S512x1024_S384x256_0_0))) j
      = upTo 384 X G D ((Rect.unit (s := S512x1024) ![0, 0] S384x256.size inb_S512x1024_S384x256_0_0).emb j) := by
  obtain ⟨r, q, rfl⟩ : ∃ (r : Fin 384) (q : Fin 256), j = ix2 r q := ⟨j 0, j 1, ValueIdx.eq_ix2 j⟩
  have e : (Rect.unit (s := S512x1024) ![0, 0] S384x256.size inb_S512x1024_S384x256_0_0).emb (ix2 r q) = ix2 (⟨r.val, by omega⟩ : Fin 512) (⟨0 + q.val, by omega⟩ : Fin 1024) := by
    funext a; apply Fin.ext
    match a with
    | ⟨0, _⟩ => show 0 + 1 * r.val = r.val; omega
    | ⟨1, _⟩ => show 0 + 1 * q.val = 0 + q.val; omega
  rw [e, tile384_0]
  refine Eq.trans ?_ (if_pos (show r.val < 384 from r.isLt)).symm
  unfold upAt
  refine congrArg₂ gated ?_ (congrArg₂ (· + ·) (Finset.sum_congr rfl fun k _ => congrArg₂ (· * ·) (lo384_apply X r k) ?_) (Finset.sum_congr rfl fun k _ => congrArg₂ (· * ·) (hi384_apply X r k) ?_))
  · refine congrArg G (funext fun a => Fin.ext ?_)
    match a with
    | ⟨0, _⟩ => show 0 + 1 * r.val = r.val; omega
    | ⟨1, _⟩ => show 0 + 1 * q.val = 0 + q.val; omega
  · refine congrArg D (funext fun a => Fin.ext ?_)
    match a with
    | ⟨0, _⟩ => show 0 + 1 * k.val = k.val; omega
    | ⟨1, _⟩ => show 0 + 1 * q.val = 0 + q.val; omega
  · refine congrArg D (funext fun a => Fin.ext ?_)
    match a with
    | ⟨0, _⟩ => show 2048 + 1 * k.val = 2048 + k.val; omega
    | ⟨1, _⟩ => show 0 + 1 * q.val = 0 + q.val; omega

theorem piece384_1 (X : Vec Ideal S8192x128 .i32) (G : Vec Ideal S512x1024 .bf16) (D : Vec Ideal S4096x1024 .f32) (j : S384x256.Idx) :
    (k0_pay91 (lo384 X) (hi384 X) (View.ld D (Rect.unit (s := S4096x1024) ![0, 256] S2048x256.size inb_S4096x1024_S2048x256_0_256)) (View.ld D (Rect.unit (s := S4096x1024) ![2048, 256] S2048x256.size inb_S4096x1024_S2048x256_2048_256)) (View.ld G (Rect.unit (s := S512x1024) ![0, 256] S384x256.size inb_S512x1024_S384x256_0_256))) j
      = upTo 384 X G D ((Rect.unit (s := S512x1024) ![0, 256] S384x256.size inb_S512x1024_S384x256_0_256).emb j) := by
  obtain ⟨r, q, rfl⟩ : ∃ (r : Fin 384) (q : Fin 256), j = ix2 r q := ⟨j 0, j 1, ValueIdx.eq_ix2 j⟩
  have e : (Rect.unit (s := S512x1024) ![0, 256] S384x256.size inb_S512x1024_S384x256_0_256).emb (ix2 r q) = ix2 (⟨r.val, by omega⟩ : Fin 512) (⟨256 + q.val, by omega⟩ : Fin 1024) := by
    funext a; apply Fin.ext
    match a with
    | ⟨0, _⟩ => show 0 + 1 * r.val = r.val; omega
    | ⟨1, _⟩ => show 256 + 1 * q.val = 256 + q.val; omega
  rw [e, tile384_1]
  refine Eq.trans ?_ (if_pos (show r.val < 384 from r.isLt)).symm
  unfold upAt
  refine congrArg₂ gated ?_ (congrArg₂ (· + ·) (Finset.sum_congr rfl fun k _ => congrArg₂ (· * ·) (lo384_apply X r k) ?_) (Finset.sum_congr rfl fun k _ => congrArg₂ (· * ·) (hi384_apply X r k) ?_))
  · refine congrArg G (funext fun a => Fin.ext ?_)
    match a with
    | ⟨0, _⟩ => show 0 + 1 * r.val = r.val; omega
    | ⟨1, _⟩ => show 256 + 1 * q.val = 256 + q.val; omega
  · refine congrArg D (funext fun a => Fin.ext ?_)
    match a with
    | ⟨0, _⟩ => show 0 + 1 * k.val = k.val; omega
    | ⟨1, _⟩ => show 256 + 1 * q.val = 256 + q.val; omega
  · refine congrArg D (funext fun a => Fin.ext ?_)
    match a with
    | ⟨0, _⟩ => show 2048 + 1 * k.val = 2048 + k.val; omega
    | ⟨1, _⟩ => show 256 + 1 * q.val = 256 + q.val; omega

theorem piece384_2 (X : Vec Ideal S8192x128 .i32) (G : Vec Ideal S512x1024 .bf16) (D : Vec Ideal S4096x1024 .f32) (j : S384x256.Idx) :
    (k0_pay92 (lo384 X) (hi384 X) (View.ld D (Rect.unit (s := S4096x1024) ![0, 512] S2048x256.size inb_S4096x1024_S2048x256_0_512)) (View.ld D (Rect.unit (s := S4096x1024) ![2048, 512] S2048x256.size inb_S4096x1024_S2048x256_2048_512)) (View.ld G (Rect.unit (s := S512x1024) ![0, 512] S384x256.size inb_S512x1024_S384x256_0_512))) j
      = upTo 384 X G D ((Rect.unit (s := S512x1024) ![0, 512] S384x256.size inb_S512x1024_S384x256_0_512).emb j) := by
  obtain ⟨r, q, rfl⟩ : ∃ (r : Fin 384) (q : Fin 256), j = ix2 r q := ⟨j 0, j 1, ValueIdx.eq_ix2 j⟩
  have e : (Rect.unit (s := S512x1024) ![0, 512] S384x256.size inb_S512x1024_S384x256_0_512).emb (ix2 r q) = ix2 (⟨r.val, by omega⟩ : Fin 512) (⟨512 + q.val, by omega⟩ : Fin 1024) := by
    funext a; apply Fin.ext
    match a with
    | ⟨0, _⟩ => show 0 + 1 * r.val = r.val; omega
    | ⟨1, _⟩ => show 512 + 1 * q.val = 512 + q.val; omega
  rw [e, tile384_2]
  refine Eq.trans ?_ (if_pos (show r.val < 384 from r.isLt)).symm
  unfold upAt
  refine congrArg₂ gated ?_ (congrArg₂ (· + ·) (Finset.sum_congr rfl fun k _ => congrArg₂ (· * ·) (lo384_apply X r k) ?_) (Finset.sum_congr rfl fun k _ => congrArg₂ (· * ·) (hi384_apply X r k) ?_))
  · refine congrArg G (funext fun a => Fin.ext ?_)
    match a with
    | ⟨0, _⟩ => show 0 + 1 * r.val = r.val; omega
    | ⟨1, _⟩ => show 512 + 1 * q.val = 512 + q.val; omega
  · refine congrArg D (funext fun a => Fin.ext ?_)
    match a with
    | ⟨0, _⟩ => show 0 + 1 * k.val = k.val; omega
    | ⟨1, _⟩ => show 512 + 1 * q.val = 512 + q.val; omega
  · refine congrArg D (funext fun a => Fin.ext ?_)
    match a with
    | ⟨0, _⟩ => show 2048 + 1 * k.val = 2048 + k.val; omega
    | ⟨1, _⟩ => show 512 + 1 * q.val = 512 + q.val; omega

theorem piece384_3 (X : Vec Ideal S8192x128 .i32) (G : Vec Ideal S512x1024 .bf16) (D : Vec Ideal S4096x1024 .f32) (j : S384x256.Idx) :
    (k0_pay93 (lo384 X) (hi384 X) (View.ld D (Rect.unit (s := S4096x1024) ![0, 768] S2048x256.size inb_S4096x1024_S2048x256_0_768)) (View.ld D (Rect.unit (s := S4096x1024) ![2048, 768] S2048x256.size inb_S4096x1024_S2048x256_2048_768)) (View.ld G (Rect.unit (s := S512x1024) ![0, 768] S384x256.size inb_S512x1024_S384x256_0_768))) j
      = upTo 384 X G D ((Rect.unit (s := S512x1024) ![0, 768] S384x256.size inb_S512x1024_S384x256_0_768).emb j) := by
  obtain ⟨r, q, rfl⟩ : ∃ (r : Fin 384) (q : Fin 256), j = ix2 r q := ⟨j 0, j 1, ValueIdx.eq_ix2 j⟩
  have e : (Rect.unit (s := S512x1024) ![0, 768] S384x256.size inb_S512x1024_S384x256_0_768).emb (ix2 r q) = ix2 (⟨r.val, by omega⟩ : Fin 512) (⟨768 + q.val, by omega⟩ : Fin 1024) := by
    funext a; apply Fin.ext
    match a with
    | ⟨0, _⟩ => show 0 + 1 * r.val = r.val; omega
    | ⟨1, _⟩ => show 768 + 1 * q.val = 768 + q.val; omega
  rw [e, tile384_3]
  refine Eq.trans ?_ (if_pos (show r.val < 384 from r.isLt)).symm
  unfold upAt
  refine congrArg₂ gated ?_ (congrArg₂ (· + ·) (Finset.sum_congr rfl fun k _ => congrArg₂ (· * ·) (lo384_apply X r k) ?_) (Finset.sum_congr rfl fun k _ => congrArg₂ (· * ·) (hi384_apply X r k) ?_))
  · refine congrArg G (funext fun a => Fin.ext ?_)
    match a with
    | ⟨0, _⟩ => show 0 + 1 * r.val = r.val; omega
    | ⟨1, _⟩ => show 768 + 1 * q.val = 768 + q.val; omega
  · refine congrArg D (funext fun a => Fin.ext ?_)
    match a with
    | ⟨0, _⟩ => show 0 + 1 * k.val = k.val; omega
    | ⟨1, _⟩ => show 768 + 1 * q.val = 768 + q.val; omega
  · refine congrArg D (funext fun a => Fin.ext ?_)
    match a with
    | ⟨0, _⟩ => show 2048 + 1 * k.val = 2048 + k.val; omega
    | ⟨1, _⟩ => show 768 + 1 * q.val = 768 + q.val; omega

/-- What the branch for 384 rows leaves in the output block. -/
theorem out384_eq (X : Vec Ideal S8192x128 .i32) (G : Vec Ideal S512x1024 .bf16) (D : Vec Ideal S4096x1024 .f32) : out384 X G D = upTo 384 X G D := by
  funext y
  refine View.canon_apply_of_pieces (Val := Elt Ideal) (e := .bf16) (upTo 384 X G D) _ ?_ y (cover384 _ _ _ _ _ y)
  intro p hp
  rcases List.mem_cons.1 hp with rfl | hp
  · intro j
    refine (zero384 j).trans (if_neg ?_).symm
    show ¬ (384 + 1 * (j 0).val < 384); omega
  rcases List.mem_cons.1 hp with rfl | hp
  · exact piece384_3 X G D
  rcases List.mem_cons.1 hp with rfl | hp
  · exact piece384_2 X G D
  rcases List.mem_cons.1 hp with rfl | hp
  · exact piece384_1 X G D
  obtain rfl := List.mem_singleton.1 hp
  exact piece384_0 X G D

theorem tile512_0 (lo hi : FVec Ideal S512x2048 .bf16) (A B : Vec Ideal S2048x256 .f32) (g : Vec Ideal S512x256 .bf16) (r : Fin 512) (q : Fin 256) :
    (k0_pay121 lo hi A B g) (ix2 r q) = gated (g (ix2 r q)) ((∑ k : Fin 2048, lo (ix2 r k) * A (ix2 k q)) + ∑ k : Fin 2048, hi (ix2 r k) * B (ix2 k q)) := by
  unfold gated
  pointwise [k0_pay121]

theorem tile512_1 (lo hi : FVec Ideal S512x2048 .bf16) (A B : Vec Ideal S2048x256 .f32) (g : Vec Ideal S512x256 .bf16) (r : Fin 512) (q : Fin 256) :
    (k0_pay122 lo hi A B g) (ix2 r q) = gated (g (ix2 r q)) ((∑ k : Fin 2048, lo (ix2 r k) * A (ix2 k q)) + ∑ k : Fin 2048, hi (ix2 r k) * B (ix2 k q)) := by
  unfold gated
  pointwise [k0_pay122]

theorem tile512_2 (lo hi : FVec Ideal S512x2048 .bf16) (A B : Vec Ideal S2048x256 .f32) (g : Vec Ideal S512x256 .bf16) (r : Fin 512) (q : Fin 256) :
    (k0_pay123 lo hi A B g) (ix2 r q) = gated (g (ix2 r q)) ((∑ k : Fin 2048, lo (ix2 r k) * A (ix2 k q)) + ∑ k : Fin 2048, hi (ix2 r k) * B (ix2 k q)) := by
  unfold gated
  pointwise [k0_pay123]

theorem tile512_3 (lo hi : FVec Ideal S512x2048 .bf16) (A B : Vec Ideal S2048x256 .f32) (g : Vec Ideal S512x256 .bf16) (r : Fin 512) (q : Fin 256) :
    (k0_pay124 lo hi A B g) (ix2 r q) = gated (g (ix2 r q)) ((∑ k : Fin 2048, lo (ix2 r k) * A (ix2 k q)) + ∑ k : Fin 2048, hi (ix2 r k) * B (ix2 k q)) := by
  unfold gated
  pointwise [k0_pay124]

theorem piece512_0 (X : Vec Ideal S8192x128 .i32) (G : Vec Ideal S512x1024 .bf16) (D : Vec Ideal S4096x1024 .f32) (j : S512x256.Idx) :
    (k0_pay121 (lo512 X) (hi512 X) (View.ld D (Rect.unit (s := S4096x1024) ![0, 0] S2048x256.size inb_S4096x1024_S2048x256_0_0)) (View.ld D (Rect.unit (s := S4096x1024) ![2048, 0] S2048x256.size inb_S4096x1024_S2048x256_2048_0)) (View.ld G (Rect.unit (s := S512x1024) ![0, 0] S512x256.size inb_S512x1024_S512x256_0_0))) j
      = upTo 512 X G D ((Rect.unit (s := S512x1024) ![0, 0] S512x256.size inb_S512x1024_S512x256_0_0).emb j) := by
  obtain ⟨r, q, rfl⟩ : ∃ (r : Fin 512) (q : Fin 256), j = ix2 r q := ⟨j 0, j 1, ValueIdx.eq_ix2 j⟩
  have e : (Rect.unit (s := S512x1024) ![0, 0] S512x256.size inb_S512x1024_S512x256_0_0).emb (ix2 r q) = ix2 (⟨r.val, by omega⟩ : Fin 512) (⟨0 + q.val, by omega⟩ : Fin 1024) := by
    funext a; apply Fin.ext
    match a with
    | ⟨0, _⟩ => show 0 + 1 * r.val = r.val; omega
    | ⟨1, _⟩ => show 0 + 1 * q.val = 0 + q.val; omega
  rw [e, tile512_0]
  refine Eq.trans ?_ (if_pos (show r.val < 512 from r.isLt)).symm
  unfold upAt
  refine congrArg₂ gated ?_ (congrArg₂ (· + ·) (Finset.sum_congr rfl fun k _ => congrArg₂ (· * ·) (lo512_apply X r k) ?_) (Finset.sum_congr rfl fun k _ => congrArg₂ (· * ·) (hi512_apply X r k) ?_))
  · refine congrArg G (funext fun a => Fin.ext ?_)
    match a with
    | ⟨0, _⟩ => show 0 + 1 * r.val = r.val; omega
    | ⟨1, _⟩ => show 0 + 1 * q.val = 0 + q.val; omega
  · refine congrArg D (funext fun a => Fin.ext ?_)
    match a with
    | ⟨0, _⟩ => show 0 + 1 * k.val = k.val; omega
    | ⟨1, _⟩ => show 0 + 1 * q.val = 0 + q.val; omega
  · refine congrArg D (funext fun a => Fin.ext ?_)
    match a with
    | ⟨0, _⟩ => show 2048 + 1 * k.val = 2048 + k.val; omega
    | ⟨1, _⟩ => show 0 + 1 * q.val = 0 + q.val; omega

theorem piece512_1 (X : Vec Ideal S8192x128 .i32) (G : Vec Ideal S512x1024 .bf16) (D : Vec Ideal S4096x1024 .f32) (j : S512x256.Idx) :
    (k0_pay122 (lo512 X) (hi512 X) (View.ld D (Rect.unit (s := S4096x1024) ![0, 256] S2048x256.size inb_S4096x1024_S2048x256_0_256)) (View.ld D (Rect.unit (s := S4096x1024) ![2048, 256] S2048x256.size inb_S4096x1024_S2048x256_2048_256)) (View.ld G (Rect.unit (s := S512x1024) ![0, 256] S512x256.size inb_S512x1024_S512x256_0_256))) j
      = upTo 512 X G D ((Rect.unit (s := S512x1024) ![0, 256] S512x256.size inb_S512x1024_S512x256_0_256).emb j) := by
  obtain ⟨r, q, rfl⟩ : ∃ (r : Fin 512) (q : Fin 256), j = ix2 r q := ⟨j 0, j 1, ValueIdx.eq_ix2 j⟩
  have e : (Rect.unit (s := S512x1024) ![0, 256] S512x256.size inb_S512x1024_S512x256_0_256).emb (ix2 r q) = ix2 (⟨r.val, by omega⟩ : Fin 512) (⟨256 + q.val, by omega⟩ : Fin 1024) := by
    funext a; apply Fin.ext
    match a with
    | ⟨0, _⟩ => show 0 + 1 * r.val = r.val; omega
    | ⟨1, _⟩ => show 256 + 1 * q.val = 256 + q.val; omega
  rw [e, tile512_1]
  refine Eq.trans ?_ (if_pos (show r.val < 512 from r.isLt)).symm
  unfold upAt
  refine congrArg₂ gated ?_ (congrArg₂ (· + ·) (Finset.sum_congr rfl fun k _ => congrArg₂ (· * ·) (lo512_apply X r k) ?_) (Finset.sum_congr rfl fun k _ => congrArg₂ (· * ·) (hi512_apply X r k) ?_))
  · refine congrArg G (funext fun a => Fin.ext ?_)
    match a with
    | ⟨0, _⟩ => show 0 + 1 * r.val = r.val; omega
    | ⟨1, _⟩ => show 256 + 1 * q.val = 256 + q.val; omega
  · refine congrArg D (funext fun a => Fin.ext ?_)
    match a with
    | ⟨0, _⟩ => show 0 + 1 * k.val = k.val; omega
    | ⟨1, _⟩ => show 256 + 1 * q.val = 256 + q.val; omega
  · refine congrArg D (funext fun a => Fin.ext ?_)
    match a with
    | ⟨0, _⟩ => show 2048 + 1 * k.val = 2048 + k.val; omega
    | ⟨1, _⟩ => show 256 + 1 * q.val = 256 + q.val; omega

theorem piece512_2 (X : Vec Ideal S8192x128 .i32) (G : Vec Ideal S512x1024 .bf16) (D : Vec Ideal S4096x1024 .f32) (j : S512x256.Idx) :
    (k0_pay123 (lo512 X) (hi512 X) (View.ld D (Rect.unit (s := S4096x1024) ![0, 512] S2048x256.size inb_S4096x1024_S2048x256_0_512)) (View.ld D (Rect.unit (s := S4096x1024) ![2048, 512] S2048x256.size inb_S4096x1024_S2048x256_2048_512)) (View.ld G (Rect.unit (s := S512x1024) ![0, 512] S512x256.size inb_S512x1024_S512x256_0_512))) j
      = upTo 512 X G D ((Rect.unit (s := S512x1024) ![0, 512] S512x256.size inb_S512x1024_S512x256_0_512).emb j) := by
  obtain ⟨r, q, rfl⟩ : ∃ (r : Fin 512) (q : Fin 256), j = ix2 r q := ⟨j 0, j 1, ValueIdx.eq_ix2 j⟩
  have e : (Rect.unit (s := S512x1024) ![0, 512] S512x256.size inb_S512x1024_S512x256_0_512).emb (ix2 r q) = ix2 (⟨r.val, by omega⟩ : Fin 512) (⟨512 + q.val, by omega⟩ : Fin 1024) := by
    funext a; apply Fin.ext
    match a with
    | ⟨0, _⟩ => show 0 + 1 * r.val = r.val; omega
    | ⟨1, _⟩ => show 512 + 1 * q.val = 512 + q.val; omega
  rw [e, tile512_2]
  refine Eq.trans ?_ (if_pos (show r.val < 512 from r.isLt)).symm
  unfold upAt
  refine congrArg₂ gated ?_ (congrArg₂ (· + ·) (Finset.sum_congr rfl fun k _ => congrArg₂ (· * ·) (lo512_apply X r k) ?_) (Finset.sum_congr rfl fun k _ => congrArg₂ (· * ·) (hi512_apply X r k) ?_))
  · refine congrArg G (funext fun a => Fin.ext ?_)
    match a with
    | ⟨0, _⟩ => show 0 + 1 * r.val = r.val; omega
    | ⟨1, _⟩ => show 512 + 1 * q.val = 512 + q.val; omega
  · refine congrArg D (funext fun a => Fin.ext ?_)
    match a with
    | ⟨0, _⟩ => show 0 + 1 * k.val = k.val; omega
    | ⟨1, _⟩ => show 512 + 1 * q.val = 512 + q.val; omega
  · refine congrArg D (funext fun a => Fin.ext ?_)
    match a with
    | ⟨0, _⟩ => show 2048 + 1 * k.val = 2048 + k.val; omega
    | ⟨1, _⟩ => show 512 + 1 * q.val = 512 + q.val; omega

theorem piece512_3 (X : Vec Ideal S8192x128 .i32) (G : Vec Ideal S512x1024 .bf16) (D : Vec Ideal S4096x1024 .f32) (j : S512x256.Idx) :
    (k0_pay124 (lo512 X) (hi512 X) (View.ld D (Rect.unit (s := S4096x1024) ![0, 768] S2048x256.size inb_S4096x1024_S2048x256_0_768)) (View.ld D (Rect.unit (s := S4096x1024) ![2048, 768] S2048x256.size inb_S4096x1024_S2048x256_2048_768)) (View.ld G (Rect.unit (s := S512x1024) ![0, 768] S512x256.size inb_S512x1024_S512x256_0_768))) j
      = upTo 512 X G D ((Rect.unit (s := S512x1024) ![0, 768] S512x256.size inb_S512x1024_S512x256_0_768).emb j) := by
  obtain ⟨r, q, rfl⟩ : ∃ (r : Fin 512) (q : Fin 256), j = ix2 r q := ⟨j 0, j 1, ValueIdx.eq_ix2 j⟩
  have e : (Rect.unit (s := S512x1024) ![0, 768] S512x256.size inb_S512x1024_S512x256_0_768).emb (ix2 r q) = ix2 (⟨r.val, by omega⟩ : Fin 512) (⟨768 + q.val, by omega⟩ : Fin 1024) := by
    funext a; apply Fin.ext
    match a with
    | ⟨0, _⟩ => show 0 + 1 * r.val = r.val; omega
    | ⟨1, _⟩ => show 768 + 1 * q.val = 768 + q.val; omega
  rw [e, tile512_3]
  refine Eq.trans ?_ (if_pos (show r.val < 512 from r.isLt)).symm
  unfold upAt
  refine congrArg₂ gated ?_ (congrArg₂ (· + ·) (Finset.sum_congr rfl fun k _ => congrArg₂ (· * ·) (lo512_apply X r k) ?_) (Finset.sum_congr rfl fun k _ => congrArg₂ (· * ·) (hi512_apply X r k) ?_))
  · refine congrArg G (funext fun a => Fin.ext ?_)
    match a with
    | ⟨0, _⟩ => show 0 + 1 * r.val = r.val; omega
    | ⟨1, _⟩ => show 768 + 1 * q.val = 768 + q.val; omega
  · refine congrArg D (funext fun a => Fin.ext ?_)
    match a with
    | ⟨0, _⟩ => show 0 + 1 * k.val = k.val; omega
    | ⟨1, _⟩ => show 768 + 1 * q.val = 768 + q.val; omega
  · refine congrArg D (funext fun a => Fin.ext ?_)
    match a with
    | ⟨0, _⟩ => show 2048 + 1 * k.val = 2048 + k.val; omega
    | ⟨1, _⟩ => show 768 + 1 * q.val = 768 + q.val; omega

/-- What the branch for 512 rows leaves in the output block. -/
theorem out512_eq (X : Vec Ideal S8192x128 .i32) (G : Vec Ideal S512x1024 .bf16) (D : Vec Ideal S4096x1024 .f32) : out512 X G D = upTo 512 X G D := by
  funext y
  refine View.canon_apply_of_pieces (Val := Elt Ideal) (e := .bf16) (upTo 512 X G D) _ ?_ y (cover512 _ _ _ _ y)
  intro p hp
  rcases List.mem_cons.1 hp with rfl | hp
  · exact piece512_3 X G D
  rcases List.mem_cons.1 hp with rfl | hp
  · exact piece512_2 X G D
  rcases List.mem_cons.1 hp with rfl | hp
  · exact piece512_1 X G D
  obtain rfl := List.mem_singleton.1 hp
  exact piece512_0 X G D

/-- The output block in the rows that hold a token, whatever their number. -/
theorem outv_eq (n : BitVec 32) (X : Vec Ideal S8192x128 .i32) (G : Vec Ideal S512x1024 .bf16) (D : Vec Ideal S4096x1024 .f32) (r : Fin 512) (q : Fin 1024) (h : r.val < n.toNat) :
    outv n X G D (ix2 r q) = upAt X G D r q := by
  unfold outv
  rw [if_neg (by omega)]
  split_ifs
  · rw [out128_eq]; exact if_pos (show r.val < 128 by omega)
  · rw [out256_eq]; exact if_pos (show r.val < 256 by omega)
  · rw [out384_eq]; exact if_pos (show r.val < 384 by omega)
  · rw [out512_eq]; exact if_pos r.isLt

end Cert.Kernel6Ideal.Hand

end
-- ==== Proof.UpValue.lean ====
module
public import proofs.«01_k».proof.Proof.UpTile
public import proofs.«01_k».proof.Proof.UpClaim

/-!
What `expert_up` leaves in its result: every row of a block that holds a token is the gate of that row times its product with
the weights of the block's expert.
-/

@[expose] public noncomputable section
set_option maxRecDepth 16384

namespace Cert.Kernel6Ideal.Hand

open Idealize.ShloMosaic Idealize.ShloMosaic.TcCoe Idealize.ShloMosaic.Tactic
open Idealize.SL Idealize.SL.Sem
open Idealize.ShloMosaic.Pipeline (Dat Cfg Window)
open Cert.Kernel6Ideal Cert.Kernel6Ideal.Gen Cert.Proof Cert.GatePlan
open scoped BigOperators

/-- The gate of row `R` at column `q` times the row's product with expert `e`'s weights, from the words of all rows, all
    experts' weights and the gate of all rows. -/
def upRow (xs : Vec Ideal S786432x128 .i32) (w : Vec Ideal S32x4096x1024 .f32) (g : Vec Ideal S49152x1024 .bf16) (e : Fin 32) (R : Fin 49152) (q : Fin 1024) : EReal :=
  gated (g (ix2 R q)) ((∑ k : Fin 2048, half 0 (xs (ix2 (⟨16 * R.val + k.val / 128, by omega⟩ : Fin 786432) (⟨k.val % 128, by omega⟩ : Fin 128))) * w (ix3 e (⟨k.val, by omega⟩ : Fin 4096) q))
    + ∑ k : Fin 2048, half 1 (xs (ix2 (⟨16 * R.val + k.val / 128, by omega⟩ : Fin 786432) (⟨k.val % 128, by omega⟩ : Fin 128))) * w (ix3 e (⟨2048 + k.val, by omega⟩ : Fin 4096) q))

variable (m : (ℓ : Loc nD τ sig) → Buf (Elt Ideal) ℓ) (P : ∀ c : Dev nD, Plan m c)

/-- The result's blocks follow one another down the rows. -/
theorem index2 (t : Fin (cfgM m P).N) : ((cfgM m P).win 2).index t = ![t.val, 0] := by
  have h : (BitVec.ofNat 32 (grid0.coords t 0).val).toNat = t.val := (coord0 _).trans (coords_val t)
  show (![(BitVec.ofNat 32 (grid0.coords t 0).val).toNat, 0] : Fin 2 → ℕ) = _
  rw [h]

/-- A block of words is the one of its point, or the last that holds a token. -/
theorem index0 (t : Fin (cfgM m P).N) : ((cfgM m P).win 0).index t = ![min t.val ((V m (0 : Dev nD) main_arg4 (Shape.Idx.ofFin (0 : Fin 1))).toNat - 1), 0] := by
  have hl : t.val < 96 := lt_of_lt_of_eq t.isLt N_0
  have h : (BitVec.ofNat 32 (grid0.coords t 0).val).toNat = t.val := (coord0 _).trans (coords_val t)
  refine (transform0 m (grid0.coords t)).trans ?_
  rw [min_lt (by rw [h]; exact hl) (P 0).nu1 (P 0).nu96, h]

/-- A block of the gate is the one of its point, or the last that holds a token. -/
theorem index1 (t : Fin (cfgM m P).N) : ((cfgM m P).win 1).index t = ![min t.val ((V m (0 : Dev nD) main_arg4 (Shape.Idx.ofFin (0 : Fin 1))).toNat - 1), 0] := by
  have hl : t.val < 96 := lt_of_lt_of_eq t.isLt N_0
  have h : (BitVec.ofNat 32 (grid0.coords t 0).val).toNat = t.val := (coord0 _).trans (coords_val t)
  refine (transform2 m (grid0.coords t)).trans ?_
  rw [min_lt (by rw [h]; exact hl) (P 0).nu1 (P 0).nu96, h]

/-- Every point writes its block back. -/
theorem flush2 (t : Fin (cfgM m P).N) : ((cfgM m P).win 2).flush t = true :=
  (by decide +kernel : ∀ t : Fin grid0.N, Window.flushOf grid0 true cc0_transform_3 t = true) t

/-- The block of a row. -/
def blockOf (i : S49152x1024.Idx) : Fin (cfgM m P).N := ⟨(i 0).val / 512, by
  have h : (i 0).val < 49152 := (i 0).isLt
  have : (cfgM m P).N = 96 := N_0
  omega⟩

/-- The result, block by block. -/
def blocks (c : Dev nD) : Vec Ideal S49152x1024 .bf16 :=
  fun i => outAt m P c (blockOf m P i) (ix2 (⟨(i 0).val % 512, by omega⟩ : Fin 512) (i 1))

theorem flushed_eq (c : Dev nD) (t : Fin (cfgM m P).N) :
    (dats m P 0 c).flushed 2 t = (((cfgM m P).win 2).blk t).view.read (Elt Ideal) (blocks m P c) := by
  have i0 : ((cfgM m P).win 2).index t (0 : Fin 2) = t.val := congrFun (index2 m P t) (0 : Fin 2)
  have i1 : ((cfgM m P).win 2).index t (1 : Fin 2) = 0 := congrFun (index2 m P t) (1 : Fin 2)
  funext j
  show outAt m P c t j = blocks m P c ((((cfgM m P).win 2).blk t).view.emb j)
  obtain ⟨r, q, rfl⟩ : ∃ (r : Fin 512) (q : Fin 1024), j = ix2 r q := ⟨j (0 : Fin 2), j (1 : Fin 2), ValueIdx.eq_ix2 j⟩
  have e : (((cfgM m P).win 2).blk t).view.emb (ix2 r q) = ix2 (⟨512 * t.val + r.val, by have := lt_of_lt_of_eq t.isLt N_0; omega⟩ : Fin 49152) q := by
    funext a; apply Fin.ext
    match a with
    | ⟨0, _⟩ => show ((cfgM m P).win 2).index t (0 : Fin 2) * 512 + 1 * r.val = 512 * t.val + r.val; rw [i0]; omega
    | ⟨1, _⟩ => show ((cfgM m P).win 2).index t (1 : Fin 2) * 1024 + 1 * q.val = q.val; rw [i1]; omega
  rw [e]
  have hb : blockOf m P (ix2 (⟨512 * t.val + r.val, by have := lt_of_lt_of_eq t.isLt N_0; omega⟩ : Fin 49152) q) = t :=
    Fin.ext (by show (512 * t.val + r.val) / 512 = t.val; omega)
  have hr : (⟨(512 * t.val + r.val) % 512, by omega⟩ : Fin 512) = r := Fin.ext (by show (512 * t.val + r.val) % 512 = r.val; omega)
  show _ = outAt m P c (blockOf m P (ix2 (⟨512 * t.val + r.val, _⟩ : Fin 49152) q)) (ix2 (⟨(512 * t.val + r.val) % 512, _⟩ : Fin 512) q)
  rw [hb, hr]

theorem covered (i : S49152x1024.Idx) : ∃ t : Fin (cfgM m P).N, ((cfgM m P).win 2).flush t = true ∧ i ∈ (((cfgM m P).win 2).blk t).view.set := by
  obtain ⟨r, q, rfl⟩ : ∃ (r : Fin 49152) (q : Fin 1024), i = ix2 r q := ⟨i 0, i 1, ValueIdx.eq_ix2 i⟩
  refine ⟨blockOf m P (ix2 r q), flush2 m P _, ?_⟩
  have i0 : ((cfgM m P).win 2).index (blockOf m P (ix2 r q)) (0 : Fin 2) = r.val / 512 := congrFun (index2 m P _) (0 : Fin 2)
  have i1 : ((cfgM m P).win 2).index (blockOf m P (ix2 r q)) (1 : Fin 2) = 0 := congrFun (index2 m P _) (1 : Fin 2)
  have h := (((cfgM m P).win 2).blk (blockOf m P (ix2 r q))).view.emb_mem_set (ix2 (⟨r.val % 512, by omega⟩ : Fin 512) q)
  have e : (((cfgM m P).win 2).blk (blockOf m P (ix2 r q))).view.emb (ix2 (⟨r.val % 512, by omega⟩ : Fin 512) q) = ix2 r q := by
    funext a; apply Fin.ext
    match a with
    | ⟨0, _⟩ => show ((cfgM m P).win 2).index _ (0 : Fin 2) * 512 + 1 * (r.val % 512) = r.val; rw [i0]; omega
    | ⟨1, _⟩ => show ((cfgM m P).win 2).index _ (1 : Fin 2) * 1024 + 1 * q.val = q.val; rw [i1]; omega
  rwa [e] at h

/-- The result after the run. -/
theorem final (c : Dev nD) : (dats m P 0 c).arrAt 2 (cfgM m P).N = blocks m P c :=
  (dats m P 0 c).arrAt_eq_of_cover 2 (blocks m P c) (fun t _ => flushed_eq m P c t) (covered m P)

/-- An expert's weights are its slice of all experts' weights. -/
theorem wdat_apply (c : Dev nD) (W : WBuf Ideal c) (e : BitVec 32) (he : e.toNat < 32) (k : Fin 4096) (q : Fin 1024) :
    wdat c W e he (ix2 k q) = (W : Vec Ideal S32x4096x1024 .f32) (ix3 ⟨e.toNat, he⟩ k q) := by
  have h1 : wdat c W e he (ix2 k q)
      = (W : Vec Ideal S32x4096x1024 .f32) ((Rect.unit (s := S32x4096x1024) (offW e) S1x4096x1024.size (expert_inb he)).emb
        (Shape.reshapeEquiv squeezes_S1x4096x1024_S4096x1024.numel_eq (ix2 k q))) := rfl
  have h2 : Shape.reshapeEquiv squeezes_S1x4096x1024_S4096x1024.numel_eq (ix2 k q) = (ix3 (0 : Fin 1) k q : S1x4096x1024.Idx) :=
    (Shape.reshapeEquiv_cons_one (n := 2) (d := ![4096, 1024]) squeezes_S1x4096x1024_S4096x1024.numel_eq (ix2 k q)).trans
      (funext fun a => by match a with | ⟨0, _⟩ => rfl | ⟨1, _⟩ => rfl | ⟨2, _⟩ => rfl)
  rw [h1, h2]
  refine congrArg (W : Vec Ideal S32x4096x1024 .f32) (funext fun a => Fin.ext ?_)
  match a with
  | ⟨0, _⟩ => show e.toNat + 1 * 0 = e.toNat; omega
  | ⟨1, _⟩ => show 0 + 1 * k.val = k.val; omega
  | ⟨2, _⟩ => show 0 + 1 * q.val = q.val; omega

/-- A row that holds a token ends as its gate times its product. -/
theorem blocks_apply (c : Dev nD) (R : Fin 49152) (q : Fin 1024)
    (h : R.val % 512 < (wd (V m c main_arg5) ⟨R.val / 512, by omega⟩).toNat) :
    blocks m P c (ix2 R q) = upRow (V m c main_arg6) (V m c main_arg7) (V m c main_arg8) ⟨(wd (V m c main_arg0) ⟨R.val / 512, by omega⟩).toNat, (P c).b _⟩ R q := by
  obtain rfl : c = 0 := Subsingleton.elim _ _
  have hu : R.val / 512 < (V m (0 : Dev nD) main_arg4 (Shape.Idx.ofFin (0 : Fin 1))).toNat := by
    rcases (P 0).used ⟨R.val / 512, by omega⟩ with hu | hu
    · exact hu
    · rw [hu] at h; exact absurd h (Nat.not_lt_zero _)
  have i0 : ((cfgM m P).win 0).index (blockOf m P (ix2 R q)) (0 : Fin 2) = R.val / 512 :=
    (congrFun (index0 m P _) (0 : Fin 2)).trans (show min (R.val / 512) _ = _ by omega)
  have i1 : ((cfgM m P).win 0).index (blockOf m P (ix2 R q)) (1 : Fin 2) = 0 := congrFun (index0 m P _) (1 : Fin 2)
  have g0 : ((cfgM m P).win 1).index (blockOf m P (ix2 R q)) (0 : Fin 2) = R.val / 512 :=
    (congrFun (index1 m P _) (0 : Fin 2)).trans (show min (R.val / 512) _ = _ by omega)
  have g1 : ((cfgM m P).win 1).index (blockOf m P (ix2 R q)) (1 : Fin 2) = 0 := congrFun (index1 m P _) (1 : Fin 2)
  refine (outv_eq _ _ _ _ _ _ h).trans ?_
  unfold upAt upRow
  refine congrArg₂ gated ?_ (congrArg₂ (· + ·) (Finset.sum_congr rfl fun k _ => congrArg₂ (· * ·) (congrArg (half 0) ?_) ?_) (Finset.sum_congr rfl fun k _ => congrArg₂ (· * ·) (congrArg (half 1) ?_) ?_))
  · refine congrArg (V m (0 : Dev nD) main_arg8) (funext fun a => Fin.ext ?_)
    match a with
    | ⟨0, _⟩ => show ((cfgM m P).win 1).index _ (0 : Fin 2) * 512 + 1 * (R.val % 512) = R.val; rw [g0]; omega
    | ⟨1, _⟩ => show ((cfgM m P).win 1).index _ (1 : Fin 2) * 1024 + 1 * q.val = q.val; rw [g1]; omega
  · refine congrArg (V m (0 : Dev nD) main_arg6) (funext fun a => Fin.ext ?_)
    match a with
    | ⟨0, _⟩ => show ((cfgM m P).win 0).index _ (0 : Fin 2) * 8192 + 1 * (16 * (R.val % 512) + k.val / 128) = 16 * R.val + k.val / 128; rw [i0]; omega
    | ⟨1, _⟩ => show ((cfgM m P).win 0).index _ (1 : Fin 2) * 128 + 1 * (k.val % 128) = k.val % 128; rw [i1]; omega
  · exact wdat_apply _ _ _ _ _ _
  · refine congrArg (V m (0 : Dev nD) main_arg6) (funext fun a => Fin.ext ?_)
    match a with
    | ⟨0, _⟩ => show ((cfgM m P).win 0).index _ (0 : Fin 2) * 8192 + 1 * (16 * (R.val % 512) + k.val / 128) = 16 * R.val + k.val / 128; rw [i0]; omega
    | ⟨1, _⟩ => show ((cfgM m P).win 0).index _ (1 : Fin 2) * 128 + 1 * (k.val % 128) = k.val % 128; rw [i1]; omega
  · exact wdat_apply _ _ _ _ _ _

end Cert.Kernel6Ideal.Hand

end
-- ==== Proof.UpRef.lean ====
module
public import proofs.«01_k».proof.Proof.UpValue
public import proofs.«01_k».proof.Proof.Gen.Reference6Ideal.Run

/-!
The reference's `expert_up`, entry by entry: it is the gate of every row times its product with the weights of the block's
expert.
-/

@[expose] public noncomputable section
set_option maxRecDepth 16384

namespace Cert.Reference6Ideal.Up

open Cert.Reference6Ideal Cert.Reference6Ideal.Gen Cert.Reference6Ideal.Facts Idealize.ShloMosaic
open Cert.Kernel6Ideal.Hand (half upRow gated)
open scoped BigOperators

/-- The low halves of the words. -/
theorem low (xs : IVec S786432x128 32) (b : Fin 96) (r : Fin 512) (k : Fin 2048) :
    (shapeCast S96x512x2048 (extractStridedSlice S96x512x2048x1 ![0, 0, 0, 0] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_0) shapeCasts_S96x512x2048x1_S96x512x2048) (ix3 b r k)
      = half 0 (xs (ix2 (⟨16 * (512 * b.val + r.val) + k.val / 128, by omega⟩ : Fin 786432) (⟨k.val % 128, by omega⟩ : Fin 128))) := by
  pointwise
  refine congrArg (half 0) (congrArg xs (funext fun a => Fin.ext ?_))
  match a with
  | ⟨0, _⟩ => show b.val * 8192 + r.val * 16 + k.val / 128 = 16 * (512 * b.val + r.val) + k.val / 128; omega
  | ⟨1, _⟩ => rfl

/-- The high halves of the words. -/
theorem high (xs : IVec S786432x128 32) (b : Fin 96) (r : Fin 512) (k : Fin 2048) :
    (shapeCast S96x512x2048 (extractStridedSlice S96x512x2048x1 ![0, 0, 0, 1] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_1) shapeCasts_S96x512x2048x1_S96x512x2048) (ix3 b r k)
      = half 1 (xs (ix2 (⟨16 * (512 * b.val + r.val) + k.val / 128, by omega⟩ : Fin 786432) (⟨k.val % 128, by omega⟩ : Fin 128))) := by
  pointwise
  refine congrArg (half 1) (congrArg xs (funext fun a => Fin.ext ?_))
  match a with
  | ⟨0, _⟩ => show b.val * 8192 + r.val * 16 + k.val / 128 = 16 * (512 * b.val + r.val) + k.val / 128; omega
  | ⟨1, _⟩ => rfl

/-- The weights of every block's expert. -/
theorem weights (w : FVec Ideal S32x4096x1024 .f32) (idx : IVec S96x1 32) (b : Fin 96) (k : Fin 4096) (q : Fin 1024) :
    Host.gather gather_S32x4096x1024_S96x1_S96x4096x1024_12_0_n_n_0_1_140961024 w idx (ix3 b k q)
      = w (ix3 ⟨min (idx (ix2 b (0 : Fin 1))).toInt.toNat 31, by omega⟩ k q) := by
  unfold Host.gather
  refine congrArg w (funext fun a => Fin.ext ?_)
  show (gather_S32x4096x1024_S96x1_S96x4096x1024_12_0_n_n_0_1_140961024).start (ix3 b k q) idx a + (gather_S32x4096x1024_S96x1_S96x4096x1024_12_0_n_n_0_1_140961024).batchCoord (ix3 b k q) a
    + (gather_S32x4096x1024_S96x1_S96x4096x1024_12_0_n_n_0_1_140961024).offCoord (ix3 b k q) a = _
  rw [GatherDims.batchCoord_eq_zero _ _ _ List.not_mem_nil]
  obtain rfl | rfl | rfl : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather_S32x4096x1024_S96x1_S96x4096x1024_12_0_n_n_0_1_140961024).startIndexMap from List.mem_singleton.mpr rfl)]
    refine congrArg (fun z => min (idx z).toInt.toNat 31) (funext fun c => Fin.ext ?_)
    match c with
    | ⟨0, _⟩ => rfl
    | ⟨1, _⟩ => rfl
  · unfold GatherDims.start GatherDims.offCoord
    rw [dif_neg (by decide), dif_pos (by decide)]
    show 0 + 0 + k.val = k.val; omega
  · unfold GatherDims.start GatherDims.offCoord
    rw [dif_neg (by decide), dif_pos (by decide)]
    show 0 + 0 + q.val = q.val; omega

/-- The rounded gate of every row, times the row's product with the weights of its block's expert. -/
theorem result (g : FVec Ideal S49152x1024 .bf16) (A : FVec Ideal S96x512x4096 .f32) (B : FVec Ideal S96x4096x1024 .f32) (R : Fin 49152) (q : Fin 1024) :
    (truncf .bf16 (mulf (extf .f32 g bitsLt_bf16_f32) (shapeCast S49152x1024 (Host.dotGeneral dot_S96x512x4096_S96x4096x1024_S96x512x1024_2_1_1_2_0_0 none A B) shapeCasts_S96x512x1024_S49152x1024)) bitsLt_bf16_f32 : FVec Ideal S49152x1024 .bf16) (ix2 R q)
      = gated (g (ix2 R q)) (∑ k : Fin 4096, A (ix3 (⟨R.val / 512, by omega⟩ : Fin 96) (⟨R.val % 512, by omega⟩ : Fin 512) k) * B (ix3 (⟨R.val / 512, by omega⟩ : Fin 96) k q)) := by
  unfold gated
  pointwise

/-- Every token's row: the low halves, then the high halves. -/
theorem row_low (xs : IVec S786432x128 32) (b : Fin 96) (r : Fin 512) (k : Fin 2048) :
    (concatenate S96x512x4096 2 [⟨S96x512x2048, (shapeCast S96x512x2048 (extractStridedSlice S96x512x2048x1 ![0, 0, 0, 0] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_0) shapeCasts_S96x512x2048x1_S96x512x2048)⟩, ⟨S96x512x2048, (shapeCast S96x512x2048 (extractStridedSlice S96x512x2048x1 ![0, 0, 0, 1] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_1) shapeCasts_S96x512x2048x1_S96x512x2048)⟩] concatenates_S96x512x2048_S96x512x2048_S96x512x4096_d2) (ix3 b r (⟨k.val, by omega⟩ : Fin 4096))
      = half 0 (xs (ix2 (⟨16 * (512 * b.val + r.val) + k.val / 128, by omega⟩ : Fin 786432) (⟨k.val % 128, by omega⟩ : Fin 128))) := by
  refine (concatenate_pair_apply_left (t := S96x512x4096) (s₁ := S96x512x2048) (s₂ := S96x512x2048) 2 _ _ _ _ rfl (ix3 b r k) fun a => ?_).trans (low xs b r k)
  match a with
  | ⟨0, _⟩ => rfl
  | ⟨1, _⟩ => rfl
  | ⟨2, _⟩ => rfl

theorem row_high (xs : IVec S786432x128 32) (b : Fin 96) (r : Fin 512) (k : Fin 2048) :
    (concatenate S96x512x4096 2 [⟨S96x512x2048, (shapeCast S96x512x2048 (extractStridedSlice S96x512x2048x1 ![0, 0, 0, 0] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_0) shapeCasts_S96x512x2048x1_S96x512x2048)⟩, ⟨S96x512x2048, (shapeCast S96x512x2048 (extractStridedSlice S96x512x2048x1 ![0, 0, 0, 1] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_1) shapeCasts_S96x512x2048x1_S96x512x2048)⟩] concatenates_S96x512x2048_S96x512x2048_S96x512x4096_d2) (ix3 b r (⟨2048 + k.val, by omega⟩ : Fin 4096))
      = half 1 (xs (ix2 (⟨16 * (512 * b.val + r.val) + k.val / 128, by omega⟩ : Fin 786432) (⟨k.val % 128, by omega⟩ : Fin 128))) := by
  refine (concatenate_pair_apply_right (t := S96x512x4096) (s₁ := S96x512x2048) (s₂ := S96x512x2048) 2 _ _ _ _ rfl rfl (ix3 b r k) (fun a ha => ?_) ?_).trans (high xs b r k)
  · match a with
    | ⟨0, _⟩ => rfl
    | ⟨1, _⟩ => rfl
    | ⟨2, _⟩ => exact absurd rfl ha
  · exact Nat.add_comm k.val 2048

/-- The expert a block's weights are taken from: a number below 32 is not wrapped. -/
theorem expert (be : IVec S96 32) (b : Fin 96) (h : (be (Shape.Idx.ofFin b)).toNat < 32) :
    min ((broadcastInDim S96x1 ![0] bcast_S96_S96x1_0 (select (cmpi .slt be (broadcastInDim S96 ![] bcast_S_S96 (constantI S_ 32 0#32))) (addi be (broadcastInDim S96 ![] bcast_S_S96 (constantI S_ 32 32#32))) be)) (ix2 b (0 : Fin 1))).toInt.toNat 31 = (be (Shape.Idx.ofFin b)).toNat := by
  have e : (broadcastInDim S96x1 ![0] bcast_S96_S96x1_0 (select (cmpi .slt be (broadcastInDim S96 ![] bcast_S_S96 (constantI S_ 32 0#32))) (addi be (broadcastInDim S96 ![] bcast_S_S96 (constantI S_ 32 32#32))) be)) (ix2 b (0 : Fin 1)) = be (Shape.Idx.ofFin b) := by
    refine (broadcastInDim_apply _ _ _ _ (Shape.Idx.ofFin b) fun a => ?_).trans ?_
    · obtain rfl : a = (0 : Fin 1) := Subsingleton.elim (α := Fin 1) _ _
      rfl
    · show Scalar.select (IntOp.cmpi .slt (be (Shape.Idx.ofFin b)) 0#32) (be (Shape.Idx.ofFin b) + 32#32) (be (Shape.Idx.ofFin b)) = _
      have hn : IntOp.cmpi .slt (be (Shape.Idx.ofFin b)) 0#32 = 0#1 := by
        have h' : ¬ IntOp.cmpi .slt (be (Shape.Idx.ofFin b)) 0#32 = 1#1 := by
          rw [Cert.GatePlan.slt1, StableHlo.Predicate.toInt_eq_toNat_of_lt (by omega)]
          simp
        generalize IntOp.cmpi .slt (be (Shape.Idx.ofFin b)) 0#32 = z at h'
        revert z; decide
      rw [hn]; rfl
  rw [e, StableHlo.Predicate.toInt_eq_toNat_of_lt (by omega)]
  simp; omega

/-- The reference's value, at a row whose block's expert is one of the 32: the row's gate times its product. -/
theorem ref_eq (be : IVec S96 32) (xs : IVec S786432x128 32) (w : FVec Ideal S32x4096x1024 .f32) (g : FVec Ideal S49152x1024 .bf16) (R : Fin 49152) (q : Fin 1024)
    (h : (be (Shape.Idx.ofFin (⟨R.val / 512, by omega⟩ : Fin 96))).toNat < 32) :
    (truncf .bf16 (mulf (extf .f32 g bitsLt_bf16_f32) (shapeCast S49152x1024 (Host.dotGeneral dot_S96x512x4096_S96x4096x1024_S96x512x1024_2_1_1_2_0_0 none (concatenate S96x512x4096 2 [⟨S96x512x2048, (shapeCast S96x512x2048 (extractStridedSlice S96x512x2048x1 ![0, 0, 0, 0] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_0) shapeCasts_S96x512x2048x1_S96x512x2048)⟩, ⟨S96x512x2048, (shapeCast S96x512x2048 (extractStridedSlice S96x512x2048x1 ![0, 0, 0, 1] (extf .f32 (shapeCast S96x512x2048x2 (bitcastToFloat (F := Ideal) .bf16 (Host.bitcastConvertNarrow S786432x128x2 16 xs splits_S786432x128_w32_S786432x128x2_w16)) shapeCasts_S786432x128x2_S96x512x2048x2) bitsLt_bf16_f32) slices_S96x512x2048x2_S96x512x2048x1_0_0_0_1) shapeCasts_S96x512x2048x1_S96x512x2048)⟩] concatenates_S96x512x2048_S96x512x2048_S96x512x4096_d2) (Host.gather gather_S32x4096x1024_S96x1_S96x4096x1024_12_0_n_n_0_1_140961024 w (broadcastInDim S96x1 ![0] bcast_S96_S96x1_0 (select (cmpi .slt be (broadcastInDim S96 ![] bcast_S_S96 (constantI S_ 32 0#32))) (addi be (broadcastInDim S96 ![] bcast_S_S96 (constantI S_ 32 32#32))) be)))) shapeCasts_S96x512x1024_S49152x1024)) bitsLt_bf16_f32 : FVec Ideal S49152x1024 .bf16) (ix2 R q)
      = upRow xs w g ⟨(be (Shape.Idx.ofFin (⟨R.val / 512, by omega⟩ : Fin 96))).toNat, h⟩ R q := by
  refine (result g _ _ R q).trans ?_
  unfold upRow
  refine congrArg (gated (g (ix2 R q))) ?_
  refine (Fin.sum_univ_add (a := 2048) (b := 2048) _).trans ?_
  have e : 512 * (R.val / 512) + R.val % 512 = R.val := by omega
  refine congrArg₂ (· + ·) (Finset.sum_congr rfl fun k _ => congrArg₂ (· * ·) ?_ ?_) (Finset.sum_congr rfl fun k _ => congrArg₂ (· * ·) ?_ ?_)
  · refine (row_low xs _ _ k).trans ?_
    simp only [e]
  · refine (weights w _ _ _ q).trans ?_
    simp only [expert be _ h]
    rfl
  · refine (row_high xs _ _ k).trans ?_
    simp only [e]
  · refine (weights w _ _ _ q).trans ?_
    simp only [expert be _ h]
    rfl

end Cert.Reference6Ideal.Up

end
-- ==== Proof.UpAgree.lean ====
module
public import proofs.«01_k».proof.Proof.UpRef
public import proofs.«01_k».proof.Proof.Gen.On_rows_with_a_token6
public import proofs.«01_k».proof.Defs

/-!
The kernel's `expert_up` and the reference agree, at the ideal instance, in every row that holds a token.
-/

@[expose] public noncomputable section
set_option maxRecDepth 16384

namespace Cert.Proof

open Idealize.ShloMosaic Idealize.ShloMosaic.TcCoe Idealize.SL.Sem
open Cert.Kernel6Ideal.Hand

/-- A row is marked when its place in its block is below the block's number of tokens. -/
theorem marked6 (be fi sl nx : IVec Cert.On_rows_with_a_token6.S96 32) (nu : IVec Cert.On_rows_with_a_token6.S1 32) (nv : IVec Cert.On_rows_with_a_token6.S96 32)
    (xs : IVec Cert.On_rows_with_a_token6.S786432x128 32) (w : FVec Ideal Cert.On_rows_with_a_token6.S32x4096x1024 .f32) (g : FVec Ideal Cert.On_rows_with_a_token6.S49152x1024 .bf16) (R : Fin 49152) (q : Fin 1024)
    (hv : (nv (Shape.Idx.ofFin (⟨R.val / 512, by omega⟩ : Fin 96))).toNat ≤ 512)
    (h : Cert.On_rows_with_a_token6.fn (F := Ideal) be fi sl nx nu nv xs w g (ix2 R q) = 1#1) :
    R.val % 512 < (nv (Shape.Idx.ofFin (⟨R.val / 512, by omega⟩ : Fin 96))).toNat := by
  have e : Cert.On_rows_with_a_token6.fn (F := Ideal) be fi sl nx nu nv xs w g (ix2 R q)
      = IntOp.cmpi .slt (BitVec.ofNat 32 (R.val % 512)) (nv (Shape.Idx.ofFin (⟨R.val / 512, by omega⟩ : Fin 96))) := by
    pointwise [Cert.On_rows_with_a_token6.fn]
    refine congrArg (fun z => IntOp.cmpi .slt (BitVec.ofNat 32 (R.val % 512)) (nv z)) (funext fun a => ?_)
    obtain rfl : a = (0 : Fin 1) := Subsingleton.elim (α := Fin 1) _ _
    rfl
  rw [e, Cert.GatePlan.slt1] at h
  have h2 : (BitVec.ofNat 32 (R.val % 512)).toNat = R.val % 512 := by rw [BitVec.toNat_ofNat]; omega
  rw [StableHlo.Predicate.toInt_eq_toNat_of_lt (by rw [h2]; omega), StableHlo.Predicate.toInt_eq_toNat_of_lt (by omega), h2] at h
  exact_mod_cast h

/-- From equal arguments that are a plan the kernel and the reference leave the same numbers in every row that holds a token. -/
theorem algebraic6 : Cert.algebraic_Kernel6Ideal_Reference6Ideal_on_rows_with_a_token6 (hKernel6Ideal := Cert.Kernel6Ideal.Gen.facts)
    (hReference6Ideal := Cert.Reference6Ideal.Gen.facts) (hPre_plan_ok6 := Cert.Pre_plan_ok6.Gen.facts) (hOn_rows_with_a_token6 := Cert.On_rows_with_a_token6.Gen.facts) := by
  intro m g m' g' hp e
  have P := plan_ideal6 m hp
  refine ⟨fun c => blocks m P c, ?_, ?_⟩
  · exact (θ_run Cert.Kernel6Ideal.defs _ _).mono (fun r h c => ⟨fun i _ => congrFun (((h.1.1 c).1 2).trans (final m P c)) i, h.2.1 c⟩)
      (θ_run_and (run_main m g P) (frame_of_plan m g P))
  · refine (θ_run Cert.Reference6Ideal.defs _ _).mono (fun r h c => ⟨fun i hi => (congrFun (h c).1 i).trans ?_, (h c).2⟩) (Cert.Reference6Ideal.Value.run m' g')
    obtain ⟨e0, e1, e2, e3, e4, e5, e6, e7, e8⟩ := e c
    obtain ⟨R, q, rfl⟩ : ∃ (R : Fin 49152) (q : Fin 1024), i = ix2 R q := ⟨i 0, i 1, ValueIdx.eq_ix2 i⟩
    rw [e0, e6, e7, e8]
    refine (Cert.Reference6Ideal.Up.ref_eq _ _ _ _ R q ((P c).b _)).trans ?_
    exact (blocks_apply m P c R q (marked6 _ _ _ _ _ _ _ _ _ R q ((P c).nv _) hi)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_plan_ok
public import proofs.«01_k».proof.Proof.Gen.On_rows_with_a_token
public import proofs.«01_k».proof.Proof.Gen.Kernel6
public import proofs.«01_k».proof.Proof.Gen.Kernel6.Skeleton
public import proofs.«01_k».proof.Proof.Gen.Kernel6.Launch
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Reference6Ideal
public import proofs.«01_k».proof.Proof.Gen.Reference6Ideal.Run
public import proofs.«01_k».proof.Proof.Gen.Pre_plan_ok6
public import proofs.«01_k».proof.Proof.Gen.On_rows_with_a_token6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.GateClaim
public import proofs.«01_k».proof.Proof.Merge
public import proofs.«01_k».proof.Proof.OutProj
public import proofs.«01_k».proof.Proof.Glu
public import proofs.«01_k».proof.Proof.GateAgree
public import proofs.«01_k».proof.Proof.QueryRef
public import proofs.«01_k».proof.Proof.KeysRef
public import proofs.«01_k».proof.Proof.CtxKeys
public import proofs.«01_k».proof.Proof.NormMod
public import proofs.«01_k».proof.Proof.UpClaim
public import proofs.«01_k».proof.Proof.UpAgree
public import Idealize.ShloMosaic.Adequacy
public import Idealize.ShloMosaic.Init

@[expose] public section

noncomputable section

namespace Cert.Proof

open Idealize.ShloMosaic Idealize.SL.Sem

/-- The frame of the reference of the experts' first projection: it has no semaphore and writes no argument. -/
theorem frame_ReferenceIdeal : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- The frame of the reference of the experts' second projection, for the same reason. -/
theorem frame_Reference6Ideal : Cert.quiescent_Reference6Ideal := fun m g _ =>
  (θ_run Cert.Reference6Ideal.defs _ _).mono (fun r h => ⟨fun c => (h c).2, sem_eq_zero_of_no_sems (by decide) r.2⟩) (Cert.Reference6Ideal.Value.run m g)

/-- Everything claimed, from the modules that prove it. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts, Cert.Kernel9Ideal.Gen.facts,
    Cert.Reference9Ideal.Gen.facts,
    Cert.Pre_plan_ok.Gen.facts, Cert.Pre_plan_ok6.Gen.facts, Cert.On_rows_with_a_token.Gen.facts, Cert.On_rows_with_a_token6.Gen.facts,
    frame_Kernel, frame_KernelIdeal, frame_ReferenceIdeal, fun m g _ => Cert.Kernel2.Gen.frame m g, fun m g _ => Cert.Kernel2Ideal.Gen.frame m g,
    frame_Reference2Ideal, fun m g _ => Cert.Kernel3.Gen.frame m g, fun m g _ => Cert.Kernel3Ideal.Gen.frame m g, frame_Reference3Ideal,
    fun m g _ => Cert.Kernel4.Gen.frame m g, fun m g _ => Cert.Kernel4Ideal.Gen.frame m g, frame_Reference4Ideal,
    fun m g _ => Cert.Kernel5.Gen.frame m g, fun m g _ => Cert.Kernel5Ideal.Gen.frame m g, frame_Reference5Ideal, frame_Kernel6, frame_Kernel6Ideal,
    frame_Reference6Ideal, fun m g _ => Cert.Kernel7.Gen.frame m g, fun m g _ => Cert.Kernel7Ideal.Gen.frame m g, frame_Reference7Ideal,
    fun m g _ => Cert.Kernel8.Gen.frame m g, fun m g _ => Cert.Kernel8Ideal.Gen.frame m g, frame_Reference8Ideal,
    fun m g _ => Cert.Kernel9.Gen.frame m g, fun m g _ => Cert.Kernel9Ideal.Gen.frame m g, frame_Reference9Ideal, trivial, algebraic1, trivial,
    algebraic2, trivial, algebraic3, trivial, algebraic4, trivial, algebraic5, trivial, algebraic6, trivial, algebraic7, trivial, algebraic8, trivial,
    algebraic9⟩

end Cert.Proof

end
